-- ==== Defs.lean ====
def Pre_FfnHidden (m : (ℓ : Loc Cert.FfnHidden.nD Cert.FfnHidden.τ Cert.FfnHidden.sig) → Buf (Elt Bits) ℓ) : Prop :=
  True

def Pre_FfnHiddenIdeal (m : (ℓ : Loc Cert.FfnHiddenIdeal.nD Cert.FfnHiddenIdeal.τ Cert.FfnHiddenIdeal.sig) → Buf (Elt Ideal) ℓ) : Prop :=
  True

def Pre_FfnHiddenIdeal_finite_ffn_hidden [hPre_finite_ffn_hidden : Cert.Pre_finite_ffn_hidden.Facts] (m : (ℓ : Loc Cert.FfnHiddenIdeal.nD Cert.FfnHiddenIdeal.τ Cert.FfnHiddenIdeal.sig) → Buf (Elt Ideal) ℓ) : Prop :=
  ∀ c : Dev Cert.FfnHiddenIdeal.nD,
    (Cert.Pre_finite_ffn_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3))).1 = (fun _ => 1#1)
    ∧ (Cert.Pre_finite_ffn_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3))).2.1 = (fun _ => 1#1)
    ∧ (Cert.Pre_finite_ffn_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3))).2.2 = (fun _ => 1#1)

def Pre_FfnHiddenVjpIdeal (m : (ℓ : Loc Cert.FfnHiddenVjpIdeal.nD Cert.FfnHiddenVjpIdeal.τ Cert.FfnHiddenVjpIdeal.sig) → Buf (Elt Ideal) ℓ) : Prop :=
  True

def Pre_FfnHiddenVjpIdeal_finite_ffn_hidden [hPre_finite_ffn_hidden : Cert.Pre_finite_ffn_hidden.Facts] (m : (ℓ : Loc Cert.FfnHiddenVjpIdeal.nD Cert.FfnHiddenVjpIdeal.τ Cert.FfnHiddenVjpIdeal.sig) → Buf (Elt Ideal) ℓ) : Prop :=
  ∀ c : Dev Cert.FfnHiddenVjpIdeal.nD,
    (Cert.Pre_finite_ffn_hidden.fn (F := Ideal) (m ((c.tc : Thread Cert.FfnHiddenVjpIdeal.nD Cert.FfnHiddenVjpIdeal.τ).loc Cert.FfnHiddenVjpIdeal.main_arg0)) (m ((c.tc : Thread Cert.FfnHiddenVjpIdeal.nD Cert.FfnHiddenVjpIdeal.τ).loc Cert.FfnHiddenVjpIdeal.main_arg1)) (m ((c.tc : Thread Cert.FfnHiddenVjpIdeal.nD Cert.FfnHiddenVjpIdeal.τ).loc Cert.FfnHiddenVjpIdeal.main_arg2)) (m ((c.tc : Thread Cert.FfnHiddenVjpIdeal.nD Cert.FfnHiddenVjpIdeal.τ).loc Cert.FfnHiddenVjpIdeal.main_arg3))).1 = (fun _ => 1#1)
    ∧ (Cert.Pre_finite_ffn_hidden.fn (F := Ideal) (m ((c.tc : Thread Cert.FfnHiddenVjpIdeal.nD Cert.FfnHiddenVjpIdeal.τ).loc Cert.FfnHiddenVjpIdeal.main_arg0)) (m ((c.tc : Thread Cert.FfnHiddenVjpIdeal.nD Cert.FfnHiddenVjpIdeal.τ).loc Cert.FfnHiddenVjpIdeal.main_arg1)) (m ((c.tc : Thread Cert.FfnHiddenVjpIdeal.nD Cert.FfnHiddenVjpIdeal.τ).loc Cert.FfnHiddenVjpIdeal.main_arg2)) (m ((c.tc : Thread Cert.FfnHiddenVjpIdeal.nD Cert.FfnHiddenVjpIdeal.τ).loc Cert.FfnHiddenVjpIdeal.main_arg3))).2.1 = (fun _ => 1#1)
    ∧ (Cert.Pre_finite_ffn_hidden.fn (F := Ideal) (m ((c.tc : Thread Cert.FfnHiddenVjpIdeal.nD Cert.FfnHiddenVjpIdeal.τ).loc Cert.FfnHiddenVjpIdeal.main_arg0)) (m ((c.tc : Thread Cert.FfnHiddenVjpIdeal.nD Cert.FfnHiddenVjpIdeal.τ).loc Cert.FfnHiddenVjpIdeal.main_arg1)) (m ((c.tc : Thread Cert.FfnHiddenVjpIdeal.nD Cert.FfnHiddenVjpIdeal.τ).loc Cert.FfnHiddenVjpIdeal.main_arg2)) (m ((c.tc : Thread Cert.FfnHiddenVjpIdeal.nD Cert.FfnHiddenVjpIdeal.τ).loc Cert.FfnHiddenVjpIdeal.main_arg3))).2.2 = (fun _ => 1#1)

def Pre_BwdAttn (m : (ℓ : Loc Cert.BwdAttn.nD Cert.BwdAttn.τ Cert.BwdAttn.sig) → Buf (Elt Bits) ℓ) : Prop :=
  True

def Pre_BwdAttnIdeal (m : (ℓ : Loc Cert.BwdAttnIdeal.nD Cert.BwdAttnIdeal.τ Cert.BwdAttnIdeal.sig) → Buf (Elt Ideal) ℓ) : Prop :=
  True

def Pre_BwdAttnIdeal_finite_bwd_attn [hPre_finite_bwd_attn : Cert.Pre_finite_bwd_attn.Facts] (m : (ℓ : Loc Cert.BwdAttnIdeal.nD Cert.BwdAttnIdeal.τ Cert.BwdAttnIdeal.sig) → Buf (Elt Ideal) ℓ) : Prop :=
  ∀ c : Dev Cert.BwdAttnIdeal.nD,
    (Cert.Pre_finite_bwd_attn.fn (F := Ideal) (m ((c.tc : Thread Cert.BwdAttnIdeal.nD Cert.BwdAttnIdeal.τ).loc Cert.BwdAttnIdeal.main_arg0)) (m ((c.tc : Thread Cert.BwdAttnIdeal.nD Cert.BwdAttnIdeal.τ).loc Cert.BwdAttnIdeal.main_arg1)) (m ((c.tc : Thread Cert.BwdAttnIdeal.nD Cert.BwdAttnIdeal.τ).loc Cert.BwdAttnIdeal.main_arg2)) (m ((c.tc : Thread Cert.BwdAttnIdeal.nD Cert.BwdAttnIdeal.τ).loc Cert.BwdAttnIdeal.main_arg3)) (m ((c.tc : Thread Cert.BwdAttnIdeal.nD Cert.BwdAttnIdeal.τ).loc Cert.BwdAttnIdeal.main_arg4))).1 = (fun _ => 1#1)
    ∧ (Cert.Pre_finite_bwd_attn.fn (F := Ideal) (m ((c.tc : Thread Cert.BwdAttnIdeal.nD Cert.BwdAttnIdeal.τ).loc Cert.BwdAttnIdeal.main_arg0)) (m ((c.tc : Thread Cert.BwdAttnIdeal.nD Cert.BwdAttnIdeal.τ).loc Cert.BwdAttnIdeal.main_arg1)) (m ((c.tc : Thread Cert.BwdAttnIdeal.nD Cert.BwdAttnIdeal.τ).loc Cert.BwdAttnIdeal.main_arg2)) (m ((c.tc : Thread Cert.BwdAttnIdeal.nD Cert.BwdAttnIdeal.τ).loc Cert.BwdAttnIdeal.main_arg3)) (m ((c.tc : Thread Cert.BwdAttnIdeal.nD Cert.BwdAttnIdeal.τ).loc Cert.BwdAttnIdeal.main_arg4))).2.1 = (fun _ => 1#1)
    ∧ (Cert.Pre_finite_bwd_attn.fn (F := Ideal) (m ((c.tc : Thread Cert.BwdAttnIdeal.nD Cert.BwdAttnIdeal.τ).loc Cert.BwdAttnIdeal.main_arg0)) (m ((c.tc : Thread Cert.BwdAttnIdeal.nD Cert.BwdAttnIdeal.τ).loc Cert.BwdAttnIdeal.main_arg1)) (m ((c.tc : Thread Cert.BwdAttnIdeal.nD Cert.BwdAttnIdeal.τ).loc Cert.BwdAttnIdeal.main_arg2)) (m ((c.tc : Thread Cert.BwdAttnIdeal.nD Cert.BwdAttnIdeal.τ).loc Cert.BwdAttnIdeal.main_arg3)) (m ((c.tc : Thread Cert.BwdAttnIdeal.nD Cert.BwdAttnIdeal.τ).loc Cert.BwdAttnIdeal.main_arg4))).2.2.1 = (fun _ => 1#1)
    ∧ (Cert.Pre_finite_bwd_attn.fn (F := Ideal) (m ((c.tc : Thread Cert.BwdAttnIdeal.nD Cert.BwdAttnIdeal.τ).loc Cert.BwdAttnIdeal.main_arg0)) (m ((c.tc : Thread Cert.BwdAttnIdeal.nD Cert.BwdAttnIdeal.τ).loc Cert.BwdAttnIdeal.main_arg1)) (m ((c.tc : Thread Cert.BwdAttnIdeal.nD Cert.BwdAttnIdeal.τ).loc Cert.BwdAttnIdeal.main_arg2)) (m ((c.tc : Thread Cert.BwdAttnIdeal.nD Cert.BwdAttnIdeal.τ).loc Cert.BwdAttnIdeal.main_arg3)) (m ((c.tc : Thread Cert.BwdAttnIdeal.nD Cert.BwdAttnIdeal.τ).loc Cert.BwdAttnIdeal.main_arg4))).2.2.2 = (fun _ => 1#1)

def Pre_AttnVjpIdeal (m : (ℓ : Loc Cert.AttnVjpIdeal.nD Cert.AttnVjpIdeal.τ Cert.AttnVjpIdeal.sig) → Buf (Elt Ideal) ℓ) : Prop :=
  True

def Pre_AttnVjpIdeal_finite_bwd_attn [hPre_finite_bwd_attn : Cert.Pre_finite_bwd_attn.Facts] (m : (ℓ : Loc Cert.AttnVjpIdeal.nD Cert.AttnVjpIdeal.τ Cert.AttnVjpIdeal.sig) → Buf (Elt Ideal) ℓ) : Prop :=
  ∀ c : Dev Cert.AttnVjpIdeal.nD,
    (Cert.Pre_finite_bwd_attn.fn (F := Ideal) (m ((c.tc : Thread Cert.AttnVjpIdeal.nD Cert.AttnVjpIdeal.τ).loc Cert.AttnVjpIdeal.main_arg0)) (m ((c.tc : Thread Cert.AttnVjpIdeal.nD Cert.AttnVjpIdeal.τ).loc Cert.AttnVjpIdeal.main_arg1)) (m ((c.tc : Thread Cert.AttnVjpIdeal.nD Cert.AttnVjpIdeal.τ).loc Cert.AttnVjpIdeal.main_arg2)) (m ((c.tc : Thread Cert.AttnVjpIdeal.nD Cert.AttnVjpIdeal.τ).loc Cert.AttnVjpIdeal.main_arg3)) (m ((c.tc : Thread Cert.AttnVjpIdeal.nD Cert.AttnVjpIdeal.τ).loc Cert.AttnVjpIdeal.main_arg4))).1 = (fun _ => 1#1)
    ∧ (Cert.Pre_finite_bwd_attn.fn (F := Ideal) (m ((c.tc : Thread Cert.AttnVjpIdeal.nD Cert.AttnVjpIdeal.τ).loc Cert.AttnVjpIdeal.main_arg0)) (m ((c.tc : Thread Cert.AttnVjpIdeal.nD Cert.AttnVjpIdeal.τ).loc Cert.AttnVjpIdeal.main_arg1)) (m ((c.tc : Thread Cert.AttnVjpIdeal.nD Cert.AttnVjpIdeal.τ).loc Cert.AttnVjpIdeal.main_arg2)) (m ((c.tc : Thread Cert.AttnVjpIdeal.nD Cert.AttnVjpIdeal.τ).loc Cert.AttnVjpIdeal.main_arg3)) (m ((c.tc : Thread Cert.AttnVjpIdeal.nD Cert.AttnVjpIdeal.τ).loc Cert.AttnVjpIdeal.main_arg4))).2.1 = (fun _ => 1#1)
    ∧ (Cert.Pre_finite_bwd_attn.fn (F := Ideal) (m ((c.tc : Thread Cert.AttnVjpIdeal.nD Cert.AttnVjpIdeal.τ).loc Cert.AttnVjpIdeal.main_arg0)) (m ((c.tc : Thread Cert.AttnVjpIdeal.nD Cert.AttnVjpIdeal.τ).loc Cert.AttnVjpIdeal.main_arg1)) (m ((c.tc : Thread Cert.AttnVjpIdeal.nD Cert.AttnVjpIdeal.τ).loc Cert.AttnVjpIdeal.main_arg2)) (m ((c.tc : Thread Cert.AttnVjpIdeal.nD Cert.AttnVjpIdeal.τ).loc Cert.AttnVjpIdeal.main_arg3)) (m ((c.tc : Thread Cert.AttnVjpIdeal.nD Cert.AttnVjpIdeal.τ).loc Cert.AttnVjpIdeal.main_arg4))).2.2.1 = (fun _ => 1#1)
    ∧ (Cert.Pre_finite_bwd_attn.fn (F := Ideal) (m ((c.tc : Thread Cert.AttnVjpIdeal.nD Cert.AttnVjpIdeal.τ).loc Cert.AttnVjpIdeal.main_arg0)) (m ((c.tc : Thread Cert.AttnVjpIdeal.nD Cert.AttnVjpIdeal.τ).loc Cert.AttnVjpIdeal.main_arg1)) (m ((c.tc : Thread Cert.AttnVjpIdeal.nD Cert.AttnVjpIdeal.τ).loc Cert.AttnVjpIdeal.main_arg2)) (m ((c.tc : Thread Cert.AttnVjpIdeal.nD Cert.AttnVjpIdeal.τ).loc Cert.AttnVjpIdeal.main_arg3)) (m ((c.tc : Thread Cert.AttnVjpIdeal.nD Cert.AttnVjpIdeal.τ).loc Cert.AttnVjpIdeal.main_arg4))).2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffn_in [hPre_finite_ffn_in : Cert.Pre_finite_ffn_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2.2 = (fun _ => 1#1)

def Pre_FfnInVjpIdeal (m : (ℓ : Loc Cert.FfnInVjpIdeal.nD Cert.FfnInVjpIdeal.τ Cert.FfnInVjpIdeal.sig) → Buf (Elt Ideal) ℓ) : Prop :=
  True

def Pre_FfnInVjpIdeal_finite_ffn_in [hPre_finite_ffn_in : Cert.Pre_finite_ffn_in.Facts] (m : (ℓ : Loc Cert.FfnInVjpIdeal.nD Cert.FfnInVjpIdeal.τ Cert.FfnInVjpIdeal.sig) → Buf (Elt Ideal) ℓ) : Prop :=
  ∀ c : Dev Cert.FfnInVjpIdeal.nD,
    (Cert.Pre_finite_ffn_in.fn (F := Ideal) (m ((c.tc : Thread Cert.FfnInVjpIdeal.nD Cert.FfnInVjpIdeal.τ).loc Cert.FfnInVjpIdeal.main_arg0)) (m ((c.tc : Thread Cert.FfnInVjpIdeal.nD Cert.FfnInVjpIdeal.τ).loc Cert.FfnInVjpIdeal.main_arg1)) (m ((c.tc : Thread Cert.FfnInVjpIdeal.nD Cert.FfnInVjpIdeal.τ).loc Cert.FfnInVjpIdeal.main_arg2)) (m ((c.tc : Thread Cert.FfnInVjpIdeal.nD Cert.FfnInVjpIdeal.τ).loc Cert.FfnInVjpIdeal.main_arg3)) (m ((c.tc : Thread Cert.FfnInVjpIdeal.nD Cert.FfnInVjpIdeal.τ).loc Cert.FfnInVjpIdeal.main_arg4)) (m ((c.tc : Thread Cert.FfnInVjpIdeal.nD Cert.FfnInVjpIdeal.τ).loc Cert.FfnInVjpIdeal.main_arg5)) (m ((c.tc : Thread Cert.FfnInVjpIdeal.nD Cert.FfnInVjpIdeal.τ).loc Cert.FfnInVjpIdeal.main_arg6))).1 = (fun _ => 1#1)
    ∧ (Cert.Pre_finite_ffn_in.fn (F := Ideal) (m ((c.tc : Thread Cert.FfnInVjpIdeal.nD Cert.FfnInVjpIdeal.τ).loc Cert.FfnInVjpIdeal.main_arg0)) (m ((c.tc : Thread Cert.FfnInVjpIdeal.nD Cert.FfnInVjpIdeal.τ).loc Cert.FfnInVjpIdeal.main_arg1)) (m ((c.tc : Thread Cert.FfnInVjpIdeal.nD Cert.FfnInVjpIdeal.τ).loc Cert.FfnInVjpIdeal.main_arg2)) (m ((c.tc : Thread Cert.FfnInVjpIdeal.nD Cert.FfnInVjpIdeal.τ).loc Cert.FfnInVjpIdeal.main_arg3)) (m ((c.tc : Thread Cert.FfnInVjpIdeal.nD Cert.FfnInVjpIdeal.τ).loc Cert.FfnInVjpIdeal.main_arg4)) (m ((c.tc : Thread Cert.FfnInVjpIdeal.nD Cert.FfnInVjpIdeal.τ).loc Cert.FfnInVjpIdeal.main_arg5)) (m ((c.tc : Thread Cert.FfnInVjpIdeal.nD Cert.FfnInVjpIdeal.τ).loc Cert.FfnInVjpIdeal.main_arg6))).2.1 = (fun _ => 1#1)
    ∧ (Cert.Pre_finite_ffn_in.fn (F := Ideal) (m ((c.tc : Thread Cert.FfnInVjpIdeal.nD Cert.FfnInVjpIdeal.τ).loc Cert.FfnInVjpIdeal.main_arg0)) (m ((c.tc : Thread Cert.FfnInVjpIdeal.nD Cert.FfnInVjpIdeal.τ).loc Cert.FfnInVjpIdeal.main_arg1)) (m ((c.tc : Thread Cert.FfnInVjpIdeal.nD Cert.FfnInVjpIdeal.τ).loc Cert.FfnInVjpIdeal.main_arg2)) (m ((c.tc : Thread Cert.FfnInVjpIdeal.nD Cert.FfnInVjpIdeal.τ).loc Cert.FfnInVjpIdeal.main_arg3)) (m ((c.tc : Thread Cert.FfnInVjpIdeal.nD Cert.FfnInVjpIdeal.τ).loc Cert.FfnInVjpIdeal.main_arg4)) (m ((c.tc : Thread Cert.FfnInVjpIdeal.nD Cert.FfnInVjpIdeal.τ).loc Cert.FfnInVjpIdeal.main_arg5)) (m ((c.tc : Thread Cert.FfnInVjpIdeal.nD Cert.FfnInVjpIdeal.τ).loc Cert.FfnInVjpIdeal.main_arg6))).2.2.1 = (fun _ => 1#1)
    ∧ (Cert.Pre_finite_ffn_in.fn (F := Ideal) (m ((c.tc : Thread Cert.FfnInVjpIdeal.nD Cert.FfnInVjpIdeal.τ).loc Cert.FfnInVjpIdeal.main_arg0)) (m ((c.tc : Thread Cert.FfnInVjpIdeal.nD Cert.FfnInVjpIdeal.τ).loc Cert.FfnInVjpIdeal.main_arg1)) (m ((c.tc : Thread Cert.FfnInVjpIdeal.nD Cert.FfnInVjpIdeal.τ).loc Cert.FfnInVjpIdeal.main_arg2)) (m ((c.tc : Thread Cert.FfnInVjpIdeal.nD Cert.FfnInVjpIdeal.τ).loc Cert.FfnInVjpIdeal.main_arg3)) (m ((c.tc : Thread Cert.FfnInVjpIdeal.nD Cert.FfnInVjpIdeal.τ).loc Cert.FfnInVjpIdeal.main_arg4)) (m ((c.tc : Thread Cert.FfnInVjpIdeal.nD Cert.FfnInVjpIdeal.τ).loc Cert.FfnInVjpIdeal.main_arg5)) (m ((c.tc : Thread Cert.FfnInVjpIdeal.nD Cert.FfnInVjpIdeal.τ).loc Cert.FfnInVjpIdeal.main_arg6))).2.2.2.1 = (fun _ => 1#1)
    ∧ (Cert.Pre_finite_ffn_in.fn (F := Ideal) (m ((c.tc : Thread Cert.FfnInVjpIdeal.nD Cert.FfnInVjpIdeal.τ).loc Cert.FfnInVjpIdeal.main_arg0)) (m ((c.tc : Thread Cert.FfnInVjpIdeal.nD Cert.FfnInVjpIdeal.τ).loc Cert.FfnInVjpIdeal.main_arg1)) (m ((c.tc : Thread Cert.FfnInVjpIdeal.nD Cert.FfnInVjpIdeal.τ).loc Cert.FfnInVjpIdeal.main_arg2)) (m ((c.tc : Thread Cert.FfnInVjpIdeal.nD Cert.FfnInVjpIdeal.τ).loc Cert.FfnInVjpIdeal.main_arg3)) (m ((c.tc : Thread Cert.FfnInVjpIdeal.nD Cert.FfnInVjpIdeal.τ).loc Cert.FfnInVjpIdeal.main_arg4)) (m ((c.tc : Thread Cert.FfnInVjpIdeal.nD Cert.FfnInVjpIdeal.τ).loc Cert.FfnInVjpIdeal.main_arg5)) (m ((c.tc : Thread Cert.FfnInVjpIdeal.nD Cert.FfnInVjpIdeal.τ).loc Cert.FfnInVjpIdeal.main_arg6))).2.2.2.2.1 = (fun _ => 1#1)
    ∧ (Cert.Pre_finite_ffn_in.fn (F := Ideal) (m ((c.tc : Thread Cert.FfnInVjpIdeal.nD Cert.FfnInVjpIdeal.τ).loc Cert.FfnInVjpIdeal.main_arg0)) (m ((c.tc : Thread Cert.FfnInVjpIdeal.nD Cert.FfnInVjpIdeal.τ).loc Cert.FfnInVjpIdeal.main_arg1)) (m ((c.tc : Thread Cert.FfnInVjpIdeal.nD Cert.FfnInVjpIdeal.τ).loc Cert.FfnInVjpIdeal.main_arg2)) (m ((c.tc : Thread Cert.FfnInVjpIdeal.nD Cert.FfnInVjpIdeal.τ).loc Cert.FfnInVjpIdeal.main_arg3)) (m ((c.tc : Thread Cert.FfnInVjpIdeal.nD Cert.FfnInVjpIdeal.τ).loc Cert.FfnInVjpIdeal.main_arg4)) (m ((c.tc : Thread Cert.FfnInVjpIdeal.nD Cert.FfnInVjpIdeal.τ).loc Cert.FfnInVjpIdeal.main_arg5)) (m ((c.tc : Thread Cert.FfnInVjpIdeal.nD Cert.FfnInVjpIdeal.τ).loc Cert.FfnInVjpIdeal.main_arg6))).2.2.2.2.2.1 = (fun _ => 1#1)
    ∧ (Cert.Pre_finite_ffn_in.fn (F := Ideal) (m ((c.tc : Thread Cert.FfnInVjpIdeal.nD Cert.FfnInVjpIdeal.τ).loc Cert.FfnInVjpIdeal.main_arg0)) (m ((c.tc : Thread Cert.FfnInVjpIdeal.nD Cert.FfnInVjpIdeal.τ).loc Cert.FfnInVjpIdeal.main_arg1)) (m ((c.tc : Thread Cert.FfnInVjpIdeal.nD Cert.FfnInVjpIdeal.τ).loc Cert.FfnInVjpIdeal.main_arg2)) (m ((c.tc : Thread Cert.FfnInVjpIdeal.nD Cert.FfnInVjpIdeal.τ).loc Cert.FfnInVjpIdeal.main_arg3)) (m ((c.tc : Thread Cert.FfnInVjpIdeal.nD Cert.FfnInVjpIdeal.τ).loc Cert.FfnInVjpIdeal.main_arg4)) (m ((c.tc : Thread Cert.FfnInVjpIdeal.nD Cert.FfnInVjpIdeal.τ).loc Cert.FfnInVjpIdeal.main_arg5)) (m ((c.tc : Thread Cert.FfnInVjpIdeal.nD Cert.FfnInVjpIdeal.τ).loc Cert.FfnInVjpIdeal.main_arg6))).2.2.2.2.2.2 = (fun _ => 1#1)

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleLossIdeal_finite_ple_loss [hPre_finite_ple_loss : Cert.Pre_finite_ple_loss.Facts] (m : (ℓ : Loc Cert.PleLossIdeal.nD Cert.PleLossIdeal.τ Cert.PleLossIdeal.sig) → Buf (Elt Ideal) ℓ) : Prop :=
  ∀ c : Dev Cert.PleLossIdeal.nD,
    (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5))).1 = (fun _ => 1#1)
    ∧ (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5))).2.1 = (fun _ => 1#1)
    ∧ (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5))).2.2.1 = (fun _ => 1#1)
    ∧ (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5))).2.2.2.1 = (fun _ => 1#1)
    ∧ (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5))).2.2.2.2.1 = (fun _ => 1#1)
    ∧ (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5))).2.2.2.2.2 = (fun _ => 1#1)

def Pre_PleLossVjpIdeal (m : (ℓ : Loc Cert.PleLossVjpIdeal.nD Cert.PleLossVjpIdeal.τ Cert.PleLossVjpIdeal.sig) → Buf (Elt Ideal) ℓ) : Prop :=
  True

def Pre_PleLossVjpIdeal_finite_ple_loss [hPre_finite_ple_loss : Cert.Pre_finite_ple_loss.Facts] (m : (ℓ : Loc Cert.PleLossVjpIdeal.nD Cert.PleLossVjpIdeal.τ Cert.PleLossVjpIdeal.sig) → Buf (Elt Ideal) ℓ) : Prop :=
  ∀ c : Dev Cert.PleLossVjpIdeal.nD,
    (Cert.Pre_finite_ple_loss.fn (F := Ideal) (m ((c.tc : Thread Cert.PleLossVjpIdeal.nD Cert.PleLossVjpIdeal.τ).loc Cert.PleLossVjpIdeal.main_arg0)) (m ((c.tc : Thread Cert.PleLossVjpIdeal.nD Cert.PleLossVjpIdeal.τ).loc Cert.PleLossVjpIdeal.main_arg1)) (m ((c.tc : Thread Cert.PleLossVjpIdeal.nD Cert.PleLossVjpIdeal.τ).loc Cert.PleLossVjpIdeal.main_arg2)) (m ((c.tc : Thread Cert.PleLossVjpIdeal.nD Cert.PleLossVjpIdeal.τ).loc Cert.PleLossVjpIdeal.main_arg3)) (m ((c.tc : Thread Cert.PleLossVjpIdeal.nD Cert.PleLossVjpIdeal.τ).loc Cert.PleLossVjpIdeal.main_arg4)) (m ((c.tc : Thread Cert.PleLossVjpIdeal.nD Cert.PleLossVjpIdeal.τ).loc Cert.PleLossVjpIdeal.main_arg5))).1 = (fun _ => 1#1)
    ∧ (Cert.Pre_finite_ple_loss.fn (F := Ideal) (m ((c.tc : Thread Cert.PleLossVjpIdeal.nD Cert.PleLossVjpIdeal.τ).loc Cert.PleLossVjpIdeal.main_arg0)) (m ((c.tc : Thread Cert.PleLossVjpIdeal.nD Cert.PleLossVjpIdeal.τ).loc Cert.PleLossVjpIdeal.main_arg1)) (m ((c.tc : Thread Cert.PleLossVjpIdeal.nD Cert.PleLossVjpIdeal.τ).loc Cert.PleLossVjpIdeal.main_arg2)) (m ((c.tc : Thread Cert.PleLossVjpIdeal.nD Cert.PleLossVjpIdeal.τ).loc Cert.PleLossVjpIdeal.main_arg3)) (m ((c.tc : Thread Cert.PleLossVjpIdeal.nD Cert.PleLossVjpIdeal.τ).loc Cert.PleLossVjpIdeal.main_arg4)) (m ((c.tc : Thread Cert.PleLossVjpIdeal.nD Cert.PleLossVjpIdeal.τ).loc Cert.PleLossVjpIdeal.main_arg5))).2.1 = (fun _ => 1#1)
    ∧ (Cert.Pre_finite_ple_loss.fn (F := Ideal) (m ((c.tc : Thread Cert.PleLossVjpIdeal.nD Cert.PleLossVjpIdeal.τ).loc Cert.PleLossVjpIdeal.main_arg0)) (m ((c.tc : Thread Cert.PleLossVjpIdeal.nD Cert.PleLossVjpIdeal.τ).loc Cert.PleLossVjpIdeal.main_arg1)) (m ((c.tc : Thread Cert.PleLossVjpIdeal.nD Cert.PleLossVjpIdeal.τ).loc Cert.PleLossVjpIdeal.main_arg2)) (m ((c.tc : Thread Cert.PleLossVjpIdeal.nD Cert.PleLossVjpIdeal.τ).loc Cert.PleLossVjpIdeal.main_arg3)) (m ((c.tc : Thread Cert.PleLossVjpIdeal.nD Cert.PleLossVjpIdeal.τ).loc Cert.PleLossVjpIdeal.main_arg4)) (m ((c.tc : Thread Cert.PleLossVjpIdeal.nD Cert.PleLossVjpIdeal.τ).loc Cert.PleLossVjpIdeal.main_arg5))).2.2.1 = (fun _ => 1#1)
    ∧ (Cert.Pre_finite_ple_loss.fn (F := Ideal) (m ((c.tc : Thread Cert.PleLossVjpIdeal.nD Cert.PleLossVjpIdeal.τ).loc Cert.PleLossVjpIdeal.main_arg0)) (m ((c.tc : Thread Cert.PleLossVjpIdeal.nD Cert.PleLossVjpIdeal.τ).loc Cert.PleLossVjpIdeal.main_arg1)) (m ((c.tc : Thread Cert.PleLossVjpIdeal.nD Cert.PleLossVjpIdeal.τ).loc Cert.PleLossVjpIdeal.main_arg2)) (m ((c.tc : Thread Cert.PleLossVjpIdeal.nD Cert.PleLossVjpIdeal.τ).loc Cert.PleLossVjpIdeal.main_arg3)) (m ((c.tc : Thread Cert.PleLossVjpIdeal.nD Cert.PleLossVjpIdeal.τ).loc Cert.PleLossVjpIdeal.main_arg4)) (m ((c.tc : Thread Cert.PleLossVjpIdeal.nD Cert.PleLossVjpIdeal.τ).loc Cert.PleLossVjpIdeal.main_arg5))).2.2.2.1 = (fun _ => 1#1)
    ∧ (Cert.Pre_finite_ple_loss.fn (F := Ideal) (m ((c.tc : Thread Cert.PleLossVjpIdeal.nD Cert.PleLossVjpIdeal.τ).loc Cert.PleLossVjpIdeal.main_arg0)) (m ((c.tc : Thread Cert.PleLossVjpIdeal.nD Cert.PleLossVjpIdeal.τ).loc Cert.PleLossVjpIdeal.main_arg1)) (m ((c.tc : Thread Cert.PleLossVjpIdeal.nD Cert.PleLossVjpIdeal.τ).loc Cert.PleLossVjpIdeal.main_arg2)) (m ((c.tc : Thread Cert.PleLossVjpIdeal.nD Cert.PleLossVjpIdeal.τ).loc Cert.PleLossVjpIdeal.main_arg3)) (m ((c.tc : Thread Cert.PleLossVjpIdeal.nD Cert.PleLossVjpIdeal.τ).loc Cert.PleLossVjpIdeal.main_arg4)) (m ((c.tc : Thread Cert.PleLossVjpIdeal.nD Cert.PleLossVjpIdeal.τ).loc Cert.PleLossVjpIdeal.main_arg5))).2.2.2.2.1 = (fun _ => 1#1)
    ∧ (Cert.Pre_finite_ple_loss.fn (F := Ideal) (m ((c.tc : Thread Cert.PleLossVjpIdeal.nD Cert.PleLossVjpIdeal.τ).loc Cert.PleLossVjpIdeal.main_arg0)) (m ((c.tc : Thread Cert.PleLossVjpIdeal.nD Cert.PleLossVjpIdeal.τ).loc Cert.PleLossVjpIdeal.main_arg1)) (m ((c.tc : Thread Cert.PleLossVjpIdeal.nD Cert.PleLossVjpIdeal.τ).loc Cert.PleLossVjpIdeal.main_arg2)) (m ((c.tc : Thread Cert.PleLossVjpIdeal.nD Cert.PleLossVjpIdeal.τ).loc Cert.PleLossVjpIdeal.main_arg3)) (m ((c.tc : Thread Cert.PleLossVjpIdeal.nD Cert.PleLossVjpIdeal.τ).loc Cert.PleLossVjpIdeal.main_arg4)) (m ((c.tc : Thread Cert.PleLossVjpIdeal.nD Cert.PleLossVjpIdeal.τ).loc Cert.PleLossVjpIdeal.main_arg5))).2.2.2.2.2 = (fun _ => 1#1)

def Pre_BwdMix (m : (ℓ : Loc Cert.BwdMix.nD Cert.BwdMix.τ Cert.BwdMix.sig) → Buf (Elt Bits) ℓ) : Prop :=
  True

def Pre_BwdMixIdeal (m : (ℓ : Loc Cert.BwdMixIdeal.nD Cert.BwdMixIdeal.τ Cert.BwdMixIdeal.sig) → Buf (Elt Ideal) ℓ) : Prop :=
  True

def Pre_BwdMixIdeal_finite_bwd_mix [hPre_finite_bwd_mix : Cert.Pre_finite_bwd_mix.Facts] (m : (ℓ : Loc Cert.BwdMixIdeal.nD Cert.BwdMixIdeal.τ Cert.BwdMixIdeal.sig) → Buf (Elt Ideal) ℓ) : Prop :=
  ∀ c : Dev Cert.BwdMixIdeal.nD,
    (Cert.Pre_finite_bwd_mix.fn (F := Ideal) (m ((c.tc : Thread Cert.BwdMixIdeal.nD Cert.BwdMixIdeal.τ).loc Cert.BwdMixIdeal.main_arg0)) (m ((c.tc : Thread Cert.BwdMixIdeal.nD Cert.BwdMixIdeal.τ).loc Cert.BwdMixIdeal.main_arg1)) (m ((c.tc : Thread Cert.BwdMixIdeal.nD Cert.BwdMixIdeal.τ).loc Cert.BwdMixIdeal.main_arg2)) (m ((c.tc : Thread Cert.BwdMixIdeal.nD Cert.BwdMixIdeal.τ).loc Cert.BwdMixIdeal.main_arg3)) (m ((c.tc : Thread Cert.BwdMixIdeal.nD Cert.BwdMixIdeal.τ).loc Cert.BwdMixIdeal.main_arg4)) (m ((c.tc : Thread Cert.BwdMixIdeal.nD Cert.BwdMixIdeal.τ).loc Cert.BwdMixIdeal.main_arg5))).1 = (fun _ => 1#1)
    ∧ (Cert.Pre_finite_bwd_mix.fn (F := Ideal) (m ((c.tc : Thread Cert.BwdMixIdeal.nD Cert.BwdMixIdeal.τ).loc Cert.BwdMixIdeal.main_arg0)) (m ((c.tc : Thread Cert.BwdMixIdeal.nD Cert.BwdMixIdeal.τ).loc Cert.BwdMixIdeal.main_arg1)) (m ((c.tc : Thread Cert.BwdMixIdeal.nD Cert.BwdMixIdeal.τ).loc Cert.BwdMixIdeal.main_arg2)) (m ((c.tc : Thread Cert.BwdMixIdeal.nD Cert.BwdMixIdeal.τ).loc Cert.BwdMixIdeal.main_arg3)) (m ((c.tc : Thread Cert.BwdMixIdeal.nD Cert.BwdMixIdeal.τ).loc Cert.BwdMixIdeal.main_arg4)) (m ((c.tc : Thread Cert.BwdMixIdeal.nD Cert.BwdMixIdeal.τ).loc Cert.BwdMixIdeal.main_arg5))).2.1 = (fun _ => 1#1)
    ∧ (Cert.Pre_finite_bwd_mix.fn (F := Ideal) (m ((c.tc : Thread Cert.BwdMixIdeal.nD Cert.BwdMixIdeal.τ).loc Cert.BwdMixIdeal.main_arg0)) (m ((c.tc : Thread Cert.BwdMixIdeal.nD Cert.BwdMixIdeal.τ).loc Cert.BwdMixIdeal.main_arg1)) (m ((c.tc : Thread Cert.BwdMixIdeal.nD Cert.BwdMixIdeal.τ).loc Cert.BwdMixIdeal.main_arg2)) (m ((c.tc : Thread Cert.BwdMixIdeal.nD Cert.BwdMixIdeal.τ).loc Cert.BwdMixIdeal.main_arg3)) (m ((c.tc : Thread Cert.BwdMixIdeal.nD Cert.BwdMixIdeal.τ).loc Cert.BwdMixIdeal.main_arg4)) (m ((c.tc : Thread Cert.BwdMixIdeal.nD Cert.BwdMixIdeal.τ).loc Cert.BwdMixIdeal.main_arg5))).2.2.1 = (fun _ => 1#1)
    ∧ (Cert.Pre_finite_bwd_mix.fn (F := Ideal) (m ((c.tc : Thread Cert.BwdMixIdeal.nD Cert.BwdMixIdeal.τ).loc Cert.BwdMixIdeal.main_arg0)) (m ((c.tc : Thread Cert.BwdMixIdeal.nD Cert.BwdMixIdeal.τ).loc Cert.BwdMixIdeal.main_arg1)) (m ((c.tc : Thread Cert.BwdMixIdeal.nD Cert.BwdMixIdeal.τ).loc Cert.BwdMixIdeal.main_arg2)) (m ((c.tc : Thread Cert.BwdMixIdeal.nD Cert.BwdMixIdeal.τ).loc Cert.BwdMixIdeal.main_arg3)) (m ((c.tc : Thread Cert.BwdMixIdeal.nD Cert.BwdMixIdeal.τ).loc Cert.BwdMixIdeal.main_arg4)) (m ((c.tc : Thread Cert.BwdMixIdeal.nD Cert.BwdMixIdeal.τ).loc Cert.BwdMixIdeal.main_arg5))).2.2.2.1 = (fun _ => 1#1)
    ∧ (Cert.Pre_finite_bwd_mix.fn (F := Ideal) (m ((c.tc : Thread Cert.BwdMixIdeal.nD Cert.BwdMixIdeal.τ).loc Cert.BwdMixIdeal.main_arg0)) (m ((c.tc : Thread Cert.BwdMixIdeal.nD Cert.BwdMixIdeal.τ).loc Cert.BwdMixIdeal.main_arg1)) (m ((c.tc : Thread Cert.BwdMixIdeal.nD Cert.BwdMixIdeal.τ).loc Cert.BwdMixIdeal.main_arg2)) (m ((c.tc : Thread Cert.BwdMixIdeal.nD Cert.BwdMixIdeal.τ).loc Cert.BwdMixIdeal.main_arg3)) (m ((c.tc : Thread Cert.BwdMixIdeal.nD Cert.BwdMixIdeal.τ).loc Cert.BwdMixIdeal.main_arg4)) (m ((c.tc : Thread Cert.BwdMixIdeal.nD Cert.BwdMixIdeal.τ).loc Cert.BwdMixIdeal.main_arg5))).2.2.2.2 = (fun _ => 1#1)

def Pre_MixVjpIdeal (m : (ℓ : Loc Cert.MixVjpIdeal.nD Cert.MixVjpIdeal.τ Cert.MixVjpIdeal.sig) → Buf (Elt Ideal) ℓ) : Prop :=
  True

def Pre_MixVjpIdeal_finite_bwd_mix [hPre_finite_bwd_mix : Cert.Pre_finite_bwd_mix.Facts] (m : (ℓ : Loc Cert.MixVjpIdeal.nD Cert.MixVjpIdeal.τ Cert.MixVjpIdeal.sig) → Buf (Elt Ideal) ℓ) : Prop :=
  ∀ c : Dev Cert.MixVjpIdeal.nD,
    (Cert.Pre_finite_bwd_mix.fn (F := Ideal) (m ((c.tc : Thread Cert.MixVjpIdeal.nD Cert.MixVjpIdeal.τ).loc Cert.MixVjpIdeal.main_arg0)) (m ((c.tc : Thread Cert.MixVjpIdeal.nD Cert.MixVjpIdeal.τ).loc Cert.MixVjpIdeal.main_arg1)) (m ((c.tc : Thread Cert.MixVjpIdeal.nD Cert.MixVjpIdeal.τ).loc Cert.MixVjpIdeal.main_arg2)) (m ((c.tc : Thread Cert.MixVjpIdeal.nD Cert.MixVjpIdeal.τ).loc Cert.MixVjpIdeal.main_arg3)) (m ((c.tc : Thread Cert.MixVjpIdeal.nD Cert.MixVjpIdeal.τ).loc Cert.MixVjpIdeal.main_arg4)) (m ((c.tc : Thread Cert.MixVjpIdeal.nD Cert.MixVjpIdeal.τ).loc Cert.MixVjpIdeal.main_arg5))).1 = (fun _ => 1#1)
    ∧ (Cert.Pre_finite_bwd_mix.fn (F := Ideal) (m ((c.tc : Thread Cert.MixVjpIdeal.nD Cert.MixVjpIdeal.τ).loc Cert.MixVjpIdeal.main_arg0)) (m ((c.tc : Thread Cert.MixVjpIdeal.nD Cert.MixVjpIdeal.τ).loc Cert.MixVjpIdeal.main_arg1)) (m ((c.tc : Thread Cert.MixVjpIdeal.nD Cert.MixVjpIdeal.τ).loc Cert.MixVjpIdeal.main_arg2)) (m ((c.tc : Thread Cert.MixVjpIdeal.nD Cert.MixVjpIdeal.τ).loc Cert.MixVjpIdeal.main_arg3)) (m ((c.tc : Thread Cert.MixVjpIdeal.nD Cert.MixVjpIdeal.τ).loc Cert.MixVjpIdeal.main_arg4)) (m ((c.tc : Thread Cert.MixVjpIdeal.nD Cert.MixVjpIdeal.τ).loc Cert.MixVjpIdeal.main_arg5))).2.1 = (fun _ => 1#1)
    ∧ (Cert.Pre_finite_bwd_mix.fn (F := Ideal) (m ((c.tc : Thread Cert.MixVjpIdeal.nD Cert.MixVjpIdeal.τ).loc Cert.MixVjpIdeal.main_arg0)) (m ((c.tc : Thread Cert.MixVjpIdeal.nD Cert.MixVjpIdeal.τ).loc Cert.MixVjpIdeal.main_arg1)) (m ((c.tc : Thread Cert.MixVjpIdeal.nD Cert.MixVjpIdeal.τ).loc Cert.MixVjpIdeal.main_arg2)) (m ((c.tc : Thread Cert.MixVjpIdeal.nD Cert.MixVjpIdeal.τ).loc Cert.MixVjpIdeal.main_arg3)) (m ((c.tc : Thread Cert.MixVjpIdeal.nD Cert.MixVjpIdeal.τ).loc Cert.MixVjpIdeal.main_arg4)) (m ((c.tc : Thread Cert.MixVjpIdeal.nD Cert.MixVjpIdeal.τ).loc Cert.MixVjpIdeal.main_arg5))).2.2.1 = (fun _ => 1#1)
    ∧ (Cert.Pre_finite_bwd_mix.fn (F := Ideal) (m ((c.tc : Thread Cert.MixVjpIdeal.nD Cert.MixVjpIdeal.τ).loc Cert.MixVjpIdeal.main_arg0)) (m ((c.tc : Thread Cert.MixVjpIdeal.nD Cert.MixVjpIdeal.τ).loc Cert.MixVjpIdeal.main_arg1)) (m ((c.tc : Thread Cert.MixVjpIdeal.nD Cert.MixVjpIdeal.τ).loc Cert.MixVjpIdeal.main_arg2)) (m ((c.tc : Thread Cert.MixVjpIdeal.nD Cert.MixVjpIdeal.τ).loc Cert.MixVjpIdeal.main_arg3)) (m ((c.tc : Thread Cert.MixVjpIdeal.nD Cert.MixVjpIdeal.τ).loc Cert.MixVjpIdeal.main_arg4)) (m ((c.tc : Thread Cert.MixVjpIdeal.nD Cert.MixVjpIdeal.τ).loc Cert.MixVjpIdeal.main_arg5))).2.2.2.1 = (fun _ => 1#1)
    ∧ (Cert.Pre_finite_bwd_mix.fn (F := Ideal) (m ((c.tc : Thread Cert.MixVjpIdeal.nD Cert.MixVjpIdeal.τ).loc Cert.MixVjpIdeal.main_arg0)) (m ((c.tc : Thread Cert.MixVjpIdeal.nD Cert.MixVjpIdeal.τ).loc Cert.MixVjpIdeal.main_arg1)) (m ((c.tc : Thread Cert.MixVjpIdeal.nD Cert.MixVjpIdeal.τ).loc Cert.MixVjpIdeal.main_arg2)) (m ((c.tc : Thread Cert.MixVjpIdeal.nD Cert.MixVjpIdeal.τ).loc Cert.MixVjpIdeal.main_arg3)) (m ((c.tc : Thread Cert.MixVjpIdeal.nD Cert.MixVjpIdeal.τ).loc Cert.MixVjpIdeal.main_arg4)) (m ((c.tc : Thread Cert.MixVjpIdeal.nD Cert.MixVjpIdeal.τ).loc Cert.MixVjpIdeal.main_arg5))).2.2.2.2 = (fun _ => 1#1)

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite_bwd_in [hPre_finite_bwd_in : Cert.Pre_finite_bwd_in.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).1 = (fun _ => 1#1)
    ∧ (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).2.1 = (fun _ => 1#1)
    ∧ (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).2.2.1 = (fun _ => 1#1)
    ∧ (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).2.2.2.1 = (fun _ => 1#1)
    ∧ (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).2.2.2.2 = (fun _ => 1#1)

def Pre_InVjpIdeal (m : (ℓ : Loc Cert.InVjpIdeal.nD Cert.InVjpIdeal.τ Cert.InVjpIdeal.sig) → Buf (Elt Ideal) ℓ) : Prop :=
  True

def Pre_InVjpIdeal_finite_bwd_in [hPre_finite_bwd_in : Cert.Pre_finite_bwd_in.Facts] (m : (ℓ : Loc Cert.InVjpIdeal.nD Cert.InVjpIdeal.τ Cert.InVjpIdeal.sig) → Buf (Elt Ideal) ℓ) : Prop :=
  ∀ c : Dev Cert.InVjpIdeal.nD,
    (Cert.Pre_finite_bwd_in.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4))).1 = (fun _ => 1#1)
    ∧ (Cert.Pre_finite_bwd_in.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4))).2.1 = (fun _ => 1#1)
    ∧ (Cert.Pre_finite_bwd_in.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4))).2.2.1 = (fun _ => 1#1)
    ∧ (Cert.Pre_finite_bwd_in.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4))).2.2.2.1 = (fun _ => 1#1)
    ∧ (Cert.Pre_finite_bwd_in.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4))).2.2.2.2 = (fun _ => 1#1)

def Pre_FwdAttn (m : (ℓ : Loc Cert.FwdAttn.nD Cert.FwdAttn.τ Cert.FwdAttn.sig) → Buf (Elt Bits) ℓ) : Prop :=
  True

def Pre_FwdAttnIdeal (m : (ℓ : Loc Cert.FwdAttnIdeal.nD Cert.FwdAttnIdeal.τ Cert.FwdAttnIdeal.sig) → Buf (Elt Ideal) ℓ) : Prop :=
  True

def Pre_FwdAttnIdeal_finite_fwd_attn [hPre_finite_fwd_attn : Cert.Pre_finite_fwd_attn.Facts] (m : (ℓ : Loc Cert.FwdAttnIdeal.nD Cert.FwdAttnIdeal.τ Cert.FwdAttnIdeal.sig) → Buf (Elt Ideal) ℓ) : Prop :=
  ∀ c : Dev Cert.FwdAttnIdeal.nD,
    (Cert.Pre_finite_fwd_attn.fn (F := Ideal) (m ((c.tc : Thread Cert.FwdAttnIdeal.nD Cert.FwdAttnIdeal.τ).loc Cert.FwdAttnIdeal.main_arg0)) (m ((c.tc : Thread Cert.FwdAttnIdeal.nD Cert.FwdAttnIdeal.τ).loc Cert.FwdAttnIdeal.main_arg1)) (m ((c.tc : Thread Cert.FwdAttnIdeal.nD Cert.FwdAttnIdeal.τ).loc Cert.FwdAttnIdeal.main_arg2)) (m ((c.tc : Thread Cert.FwdAttnIdeal.nD Cert.FwdAttnIdeal.τ).loc Cert.FwdAttnIdeal.main_arg3))).1 = (fun _ => 1#1)
    ∧ (Cert.Pre_finite_fwd_attn.fn (F := Ideal) (m ((c.tc : Thread Cert.FwdAttnIdeal.nD Cert.FwdAttnIdeal.τ).loc Cert.FwdAttnIdeal.main_arg0)) (m ((c.tc : Thread Cert.FwdAttnIdeal.nD Cert.FwdAttnIdeal.τ).loc Cert.FwdAttnIdeal.main_arg1)) (m ((c.tc : Thread Cert.FwdAttnIdeal.nD Cert.FwdAttnIdeal.τ).loc Cert.FwdAttnIdeal.main_arg2)) (m ((c.tc : Thread Cert.FwdAttnIdeal.nD Cert.FwdAttnIdeal.τ).loc Cert.FwdAttnIdeal.main_arg3))).2.1 = (fun _ => 1#1)
    ∧ (Cert.Pre_finite_fwd_attn.fn (F := Ideal) (m ((c.tc : Thread Cert.FwdAttnIdeal.nD Cert.FwdAttnIdeal.τ).loc Cert.FwdAttnIdeal.main_arg0)) (m ((c.tc : Thread Cert.FwdAttnIdeal.nD Cert.FwdAttnIdeal.τ).loc Cert.FwdAttnIdeal.main_arg1)) (m ((c.tc : Thread Cert.FwdAttnIdeal.nD Cert.FwdAttnIdeal.τ).loc Cert.FwdAttnIdeal.main_arg2)) (m ((c.tc : Thread Cert.FwdAttnIdeal.nD Cert.FwdAttnIdeal.τ).loc Cert.FwdAttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_fwd_attn [hPre_finite_fwd_attn : Cert.Pre_finite_fwd_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_fwd_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_fwd_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_fwd_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_BwdMla (m : (ℓ : Loc Cert.BwdMla.nD Cert.BwdMla.τ Cert.BwdMla.sig) → Buf (Elt Bits) ℓ) : Prop :=
  True

def Pre_BwdMlaIdeal (m : (ℓ : Loc Cert.BwdMlaIdeal.nD Cert.BwdMlaIdeal.τ Cert.BwdMlaIdeal.sig) → Buf (Elt Ideal) ℓ) : Prop :=
  True

def Pre_BwdMlaIdeal_finite_bwd_mla [hPre_finite_bwd_mla : Cert.Pre_finite_bwd_mla.Facts] (m : (ℓ : Loc Cert.BwdMlaIdeal.nD Cert.BwdMlaIdeal.τ Cert.BwdMlaIdeal.sig) → Buf (Elt Ideal) ℓ) : Prop :=
  ∀ c : Dev Cert.BwdMlaIdeal.nD,
    (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.2.2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.2.2.2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.2.2.2.2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.2.2.2.2.2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.2.2.2.2.2.2.1 = (fun _ => 1#1)
    ∧ (Cert.Pre_finite_bwd_mla.fn (F := Ideal) (m ((c.tc : Thread Cert.BwdMlaIdeal.nD Cert.BwdMlaIdeal.τ).loc Cert.BwdMlaIdeal.main_arg0)) (m ((c.tc : Thread Cert.BwdMlaIdeal.nD Cert.BwdMlaIdeal.τ).loc Cert.BwdMlaIdeal.main_arg1)) (m ((c.tc : Thread Cert.BwdMlaIdeal.nD Cert.BwdMlaIdeal.τ).loc Cert.BwdMlaIdeal.main_arg2)) (m ((c.tc : Thread Cert.BwdMlaIdeal.nD Cert.BwdMlaIdeal.τ).loc Cert.BwdMlaIdeal.main_arg3)) (m ((c.tc : Thread Cert.BwdMlaIdeal.nD Cert.BwdMlaIdeal.τ).loc Cert.BwdMlaIdeal.main_arg4)) (m ((c.tc : Thread Cert.BwdMlaIdeal.nD Cert.BwdMlaIdeal.τ).loc Cert.BwdMlaIdeal.main_arg5)) (m ((c.tc : Thread Cert.BwdMlaIdeal.nD Cert.BwdMlaIdeal.τ).loc Cert.BwdMlaIdeal.main_arg6)) (m ((c.tc : Thread Cert.BwdMlaIdeal.nD Cert.BwdMlaIdeal.τ).loc Cert.BwdMlaIdeal.main_arg7)) (m ((c.tc : Thread Cert.BwdMlaIdeal.nD Cert.BwdMlaIdeal.τ).loc Cert.BwdMlaIdeal.main_arg8)) (m ((c.tc : Thread Cert.BwdMlaIdeal.nD Cert.BwdMlaIdeal.τ).loc Cert.BwdMlaIdeal.main_arg9)) (m ((c.tc : Thread Cert.BwdMlaIdeal.nD Cert.BwdMlaIdeal.τ).loc Cert.BwdMlaIdeal.main_arg10))).2.2.2.2.2.2.2.2.2 = (fun _ => 1#1)

def Pre_MlaVjpIdeal (m : (ℓ : Loc Cert.MlaVjpIdeal.nD Cert.MlaVjpIdeal.τ Cert.MlaVjpIdeal.sig) → Buf (Elt Ideal) ℓ) : Prop :=
  True

def Pre_MlaVjpIdeal_finite_bwd_mla [hPre_finite_bwd_mla : Cert.Pre_finite_bwd_mla.Facts] (m : (ℓ : Loc Cert.MlaVjpIdeal.nD Cert.MlaVjpIdeal.τ Cert.MlaVjpIdeal.sig) → Buf (Elt Ideal) ℓ) : Prop :=
  ∀ c : Dev Cert.MlaVjpIdeal.nD,
    (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.2.2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.2.2.2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.2.2.2.2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.2.2.2.2.2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.2.2.2.2.2.2.1 = (fun _ => 1#1)
    ∧ (Cert.Pre_finite_bwd_mla.fn (F := Ideal) (m ((c.tc : Thread Cert.MlaVjpIdeal.nD Cert.MlaVjpIdeal.τ).loc Cert.MlaVjpIdeal.main_arg0)) (m ((c.tc : Thread Cert.MlaVjpIdeal.nD Cert.MlaVjpIdeal.τ).loc Cert.MlaVjpIdeal.main_arg1)) (m ((c.tc : Thread Cert.MlaVjpIdeal.nD Cert.MlaVjpIdeal.τ).loc Cert.MlaVjpIdeal.main_arg2)) (m ((c.tc : Thread Cert.MlaVjpIdeal.nD Cert.MlaVjpIdeal.τ).loc Cert.MlaVjpIdeal.main_arg3)) (m ((c.tc : Thread Cert.MlaVjpIdeal.nD Cert.MlaVjpIdeal.τ).loc Cert.MlaVjpIdeal.main_arg4)) (m ((c.tc : Thread Cert.MlaVjpIdeal.nD Cert.MlaVjpIdeal.τ).loc Cert.MlaVjpIdeal.main_arg5)) (m ((c.tc : Thread Cert.MlaVjpIdeal.nD Cert.MlaVjpIdeal.τ).loc Cert.MlaVjpIdeal.main_arg6)) (m ((c.tc : Thread Cert.MlaVjpIdeal.nD Cert.MlaVjpIdeal.τ).loc Cert.MlaVjpIdeal.main_arg7)) (m ((c.tc : Thread Cert.MlaVjpIdeal.nD Cert.MlaVjpIdeal.τ).loc Cert.MlaVjpIdeal.main_arg8)) (m ((c.tc : Thread Cert.MlaVjpIdeal.nD Cert.MlaVjpIdeal.τ).loc Cert.MlaVjpIdeal.main_arg9)) (m ((c.tc : Thread Cert.MlaVjpIdeal.nD Cert.MlaVjpIdeal.τ).loc Cert.MlaVjpIdeal.main_arg10))).2.2.2.2.2.2.2.2.2 = (fun _ => 1#1)

def Pre_BwdGla (m : (ℓ : Loc Cert.BwdGla.nD Cert.BwdGla.τ Cert.BwdGla.sig) → Buf (Elt Bits) ℓ) : Prop :=
  True

def Pre_BwdGlaIdeal (m : (ℓ : Loc Cert.BwdGlaIdeal.nD Cert.BwdGlaIdeal.τ Cert.BwdGlaIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_FwdMla (m : (ℓ : Loc Cert.FwdMla.nD Cert.FwdMla.τ Cert.FwdMla.sig) → Buf (Elt Bits) ℓ) : Prop :=
  True

def Pre_FwdMlaIdeal (m : (ℓ : Loc Cert.FwdMlaIdeal.nD Cert.FwdMlaIdeal.τ Cert.FwdMlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def quiescent_FfnHidden [hFfnHidden : Cert.FfnHidden.Facts] : Prop :=
  ∀ (m : (ℓ : Loc Cert.FfnHidden.nD Cert.FfnHidden.τ Cert.FfnHidden.sig) → Buf (Elt Bits) ℓ) (g : Dev Cert.FfnHidden.nD → PrngReg), Pre_FfnHidden m →
    θ_run (Cert.FfnHidden.defs (F := Bits)) (onTc (τ := Cert.FfnHidden.τ) (Cert.FfnHidden.main (F := Bits))) ⟨m, fun _ => 0, g⟩ (fun r => (∀ c : Dev Cert.FfnHidden.nD,
      r.2.mem ((c.tc : Thread Cert.FfnHidden.nD Cert.FfnHidden.τ).loc Cert.FfnHidden.main_arg0) = m ((c.tc : Thread Cert.FfnHidden.nD Cert.FfnHidden.τ).loc Cert.FfnHidden.main_arg0)
      ∧ r.2.mem ((c.tc : Thread Cert.FfnHidden.nD Cert.FfnHidden.τ).loc Cert.FfnHidden.main_arg1) = m ((c.tc : Thread Cert.FfnHidden.nD Cert.FfnHidden.τ).loc Cert.FfnHidden.main_arg1)
      ∧ r.2.mem ((c.tc : Thread Cert.FfnHidden.nD Cert.FfnHidden.τ).loc Cert.FfnHidden.main_arg2) = m ((c.tc : Thread Cert.FfnHidden.nD Cert.FfnHidden.τ).loc Cert.FfnHidden.main_arg2)
      ∧ r.2.mem ((c.tc : Thread Cert.FfnHidden.nD Cert.FfnHidden.τ).loc Cert.FfnHidden.main_arg3) = m ((c.tc : Thread Cert.FfnHidden.nD Cert.FfnHidden.τ).loc Cert.FfnHidden.main_arg3))
      ∧ r.2.sem = fun _ => 0)

def quiescent_FfnHiddenIdeal [hFfnHiddenIdeal : Cert.FfnHiddenIdeal.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
      ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3))
      ∧ r.2.sem = fun _ => 0)

def quiescent_FfnHiddenIdeal_pre_finite_ffn_hidden [hFfnHiddenIdeal : Cert.FfnHiddenIdeal.Facts] [hPre_finite_ffn_hidden : Cert.Pre_finite_ffn_hidden.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal_finite_ffn_hidden m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
      ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3))
      ∧ r.2.sem = fun _ => 0)

def quiescent_FfnHiddenVjpIdeal [hFfnHiddenVjpIdeal : Cert.FfnHiddenVjpIdeal.Facts] : Prop :=
  ∀ (m : (ℓ : Loc Cert.FfnHiddenVjpIdeal.nD Cert.FfnHiddenVjpIdeal.τ Cert.FfnHiddenVjpIdeal.sig) → Buf (Elt Ideal) ℓ) (g : Dev Cert.FfnHiddenVjpIdeal.nD → PrngReg), Pre_FfnHiddenVjpIdeal m →
    θ_run (Cert.FfnHiddenVjpIdeal.defs (F := Ideal)) (onTc (τ := Cert.FfnHiddenVjpIdeal.τ) (Cert.FfnHiddenVjpIdeal.main (F := Ideal))) ⟨m, fun _ => 0, g⟩ (fun r => (∀ c : Dev Cert.FfnHiddenVjpIdeal.nD,
      r.2.mem ((c.tc : Thread Cert.FfnHiddenVjpIdeal.nD Cert.FfnHiddenVjpIdeal.τ).loc Cert.FfnHiddenVjpIdeal.main_arg0) = m ((c.tc : Thread Cert.FfnHiddenVjpIdeal.nD Cert.FfnHiddenVjpIdeal.τ).loc Cert.FfnHiddenVjpIdeal.main_arg0)
      ∧ r.2.mem ((c.tc : Thread Cert.FfnHiddenVjpIdeal.nD Cert.FfnHiddenVjpIdeal.τ).loc Cert.FfnHiddenVjpIdeal.main_arg1) = m ((c.tc : Thread Cert.FfnHiddenVjpIdeal.nD Cert.FfnHiddenVjpIdeal.τ).loc Cert.FfnHiddenVjpIdeal.main_arg1)
      ∧ r.2.mem ((c.tc : Thread Cert.FfnHiddenVjpIdeal.nD Cert.FfnHiddenVjpIdeal.τ).loc Cert.FfnHiddenVjpIdeal.main_arg2) = m ((c.tc : Thread Cert.FfnHiddenVjpIdeal.nD Cert.FfnHiddenVjpIdeal.τ).loc Cert.FfnHiddenVjpIdeal.main_arg2)
      ∧ r.2.mem ((c.tc : Thread Cert.FfnHiddenVjpIdeal.nD Cert.FfnHiddenVjpIdeal.τ).loc Cert.FfnHiddenVjpIdeal.main_arg3) = m ((c.tc : Thread Cert.FfnHiddenVjpIdeal.nD Cert.FfnHiddenVjpIdeal.τ).loc Cert.FfnHiddenVjpIdeal.main_arg3))
      ∧ r.2.sem = fun _ => 0)

def quiescent_FfnHiddenVjpIdeal_pre_finite_ffn_hidden [hFfnHiddenVjpIdeal : Cert.FfnHiddenVjpIdeal.Facts] [hPre_finite_ffn_hidden : Cert.Pre_finite_ffn_hidden.Facts] : Prop :=
  ∀ (m : (ℓ : Loc Cert.FfnHiddenVjpIdeal.nD Cert.FfnHiddenVjpIdeal.τ Cert.FfnHiddenVjpIdeal.sig) → Buf (Elt Ideal) ℓ) (g : Dev Cert.FfnHiddenVjpIdeal.nD → PrngReg), Pre_FfnHiddenVjpIdeal_finite_ffn_hidden m →
    θ_run (Cert.FfnHiddenVjpIdeal.defs (F := Ideal)) (onTc (τ := Cert.FfnHiddenVjpIdeal.τ) (Cert.FfnHiddenVjpIdeal.main (F := Ideal))) ⟨m, fun _ => 0, g⟩ (fun r => (∀ c : Dev Cert.FfnHiddenVjpIdeal.nD,
      r.2.mem ((c.tc : Thread Cert.FfnHiddenVjpIdeal.nD Cert.FfnHiddenVjpIdeal.τ).loc Cert.FfnHiddenVjpIdeal.main_arg0) = m ((c.tc : Thread Cert.FfnHiddenVjpIdeal.nD Cert.FfnHiddenVjpIdeal.τ).loc Cert.FfnHiddenVjpIdeal.main_arg0)
      ∧ r.2.mem ((c.tc : Thread Cert.FfnHiddenVjpIdeal.nD Cert.FfnHiddenVjpIdeal.τ).loc Cert.FfnHiddenVjpIdeal.main_arg1) = m ((c.tc : Thread Cert.FfnHiddenVjpIdeal.nD Cert.FfnHiddenVjpIdeal.τ).loc Cert.FfnHiddenVjpIdeal.main_arg1)
      ∧ r.2.mem ((c.tc : Thread Cert.FfnHiddenVjpIdeal.nD Cert.FfnHiddenVjpIdeal.τ).loc Cert.FfnHiddenVjpIdeal.main_arg2) = m ((c.tc : Thread Cert.FfnHiddenVjpIdeal.nD Cert.FfnHiddenVjpIdeal.τ).loc Cert.FfnHiddenVjpIdeal.main_arg2)
      ∧ r.2.mem ((c.tc : Thread Cert.FfnHiddenVjpIdeal.nD Cert.FfnHiddenVjpIdeal.τ).loc Cert.FfnHiddenVjpIdeal.main_arg3) = m ((c.tc : Thread Cert.FfnHiddenVjpIdeal.nD Cert.FfnHiddenVjpIdeal.τ).loc Cert.FfnHiddenVjpIdeal.main_arg3))
      ∧ r.2.sem = fun _ => 0)

def quiescent_BwdAttn [hBwdAttn : Cert.BwdAttn.Facts] : Prop :=
  ∀ (m : (ℓ : Loc Cert.BwdAttn.nD Cert.BwdAttn.τ Cert.BwdAttn.sig) → Buf (Elt Bits) ℓ) (g : Dev Cert.BwdAttn.nD → PrngReg), Pre_BwdAttn m →
    θ_run (Cert.BwdAttn.defs (F := Bits)) (onTc (τ := Cert.BwdAttn.τ) (Cert.BwdAttn.main (F := Bits))) ⟨m, fun _ => 0, g⟩ (fun r => (∀ c : Dev Cert.BwdAttn.nD,
      r.2.mem ((c.tc : Thread Cert.BwdAttn.nD Cert.BwdAttn.τ).loc Cert.BwdAttn.main_arg0) = m ((c.tc : Thread Cert.BwdAttn.nD Cert.BwdAttn.τ).loc Cert.BwdAttn.main_arg0)
      ∧ r.2.mem ((c.tc : Thread Cert.BwdAttn.nD Cert.BwdAttn.τ).loc Cert.BwdAttn.main_arg1) = m ((c.tc : Thread Cert.BwdAttn.nD Cert.BwdAttn.τ).loc Cert.BwdAttn.main_arg1)
      ∧ r.2.mem ((c.tc : Thread Cert.BwdAttn.nD Cert.BwdAttn.τ).loc Cert.BwdAttn.main_arg2) = m ((c.tc : Thread Cert.BwdAttn.nD Cert.BwdAttn.τ).loc Cert.BwdAttn.main_arg2)
      ∧ r.2.mem ((c.tc : Thread Cert.BwdAttn.nD Cert.BwdAttn.τ).loc Cert.BwdAttn.main_arg3) = m ((c.tc : Thread Cert.BwdAttn.nD Cert.BwdAttn.τ).loc Cert.BwdAttn.main_arg3)
      ∧ r.2.mem ((c.tc : Thread Cert.BwdAttn.nD Cert.BwdAttn.τ).loc Cert.BwdAttn.main_arg4) = m ((c.tc : Thread Cert.BwdAttn.nD Cert.BwdAttn.τ).loc Cert.BwdAttn.main_arg4))
      ∧ r.2.sem = fun _ => 0)

def quiescent_BwdAttnIdeal [hBwdAttnIdeal : Cert.BwdAttnIdeal.Facts] : Prop :=
  ∀ (m : (ℓ : Loc Cert.BwdAttnIdeal.nD Cert.BwdAttnIdeal.τ Cert.BwdAttnIdeal.sig) → Buf (Elt Ideal) ℓ) (g : Dev Cert.BwdAttnIdeal.nD → PrngReg), Pre_BwdAttnIdeal m →
    θ_run (Cert.BwdAttnIdeal.defs (F := Ideal)) (onTc (τ := Cert.BwdAttnIdeal.τ) (Cert.BwdAttnIdeal.main (F := Ideal))) ⟨m, fun _ => 0, g⟩ (fun r => (∀ c : Dev Cert.BwdAttnIdeal.nD,
      r.2.mem ((c.tc : Thread Cert.BwdAttnIdeal.nD Cert.BwdAttnIdeal.τ).loc Cert.BwdAttnIdeal.main_arg0) = m ((c.tc : Thread Cert.BwdAttnIdeal.nD Cert.BwdAttnIdeal.τ).loc Cert.BwdAttnIdeal.main_arg0)
      ∧ r.2.mem ((c.tc : Thread Cert.BwdAttnIdeal.nD Cert.BwdAttnIdeal.τ).loc Cert.BwdAttnIdeal.main_arg1) = m ((c.tc : Thread Cert.BwdAttnIdeal.nD Cert.BwdAttnIdeal.τ).loc Cert.BwdAttnIdeal.main_arg1)
      ∧ r.2.mem ((c.tc : Thread Cert.BwdAttnIdeal.nD Cert.BwdAttnIdeal.τ).loc Cert.BwdAttnIdeal.main_arg2) = m ((c.tc : Thread Cert.BwdAttnIdeal.nD Cert.BwdAttnIdeal.τ).loc Cert.BwdAttnIdeal.main_arg2)
      ∧ r.2.mem ((c.tc : Thread Cert.BwdAttnIdeal.nD Cert.BwdAttnIdeal.τ).loc Cert.BwdAttnIdeal.main_arg3) = m ((c.tc : Thread Cert.BwdAttnIdeal.nD Cert.BwdAttnIdeal.τ).loc Cert.BwdAttnIdeal.main_arg3)
      ∧ r.2.mem ((c.tc : Thread Cert.BwdAttnIdeal.nD Cert.BwdAttnIdeal.τ).loc Cert.BwdAttnIdeal.main_arg4) = m ((c.tc : Thread Cert.BwdAttnIdeal.nD Cert.BwdAttnIdeal.τ).loc Cert.BwdAttnIdeal.main_arg4))
      ∧ r.2.sem = fun _ => 0)

def quiescent_BwdAttnIdeal_pre_finite_bwd_attn [hBwdAttnIdeal : Cert.BwdAttnIdeal.Facts] [hPre_finite_bwd_attn : Cert.Pre_finite_bwd_attn.Facts] : Prop :=
  ∀ (m : (ℓ : Loc Cert.BwdAttnIdeal.nD Cert.BwdAttnIdeal.τ Cert.BwdAttnIdeal.sig) → Buf (Elt Ideal) ℓ) (g : Dev Cert.BwdAttnIdeal.nD → PrngReg), Pre_BwdAttnIdeal_finite_bwd_attn m →
    θ_run (Cert.BwdAttnIdeal.defs (F := Ideal)) (onTc (τ := Cert.BwdAttnIdeal.τ) (Cert.BwdAttnIdeal.main (F := Ideal))) ⟨m, fun _ => 0, g⟩ (fun r => (∀ c : Dev Cert.BwdAttnIdeal.nD,
      r.2.mem ((c.tc : Thread Cert.BwdAttnIdeal.nD Cert.BwdAttnIdeal.τ).loc Cert.BwdAttnIdeal.main_arg0) = m ((c.tc : Thread Cert.BwdAttnIdeal.nD Cert.BwdAttnIdeal.τ).loc Cert.BwdAttnIdeal.main_arg0)
      ∧ r.2.mem ((c.tc : Thread Cert.BwdAttnIdeal.nD Cert.BwdAttnIdeal.τ).loc Cert.BwdAttnIdeal.main_arg1) = m ((c.tc : Thread Cert.BwdAttnIdeal.nD Cert.BwdAttnIdeal.τ).loc Cert.BwdAttnIdeal.main_arg1)
      ∧ r.2.mem ((c.tc : Thread Cert.BwdAttnIdeal.nD Cert.BwdAttnIdeal.τ).loc Cert.BwdAttnIdeal.main_arg2) = m ((c.tc : Thread Cert.BwdAttnIdeal.nD Cert.BwdAttnIdeal.τ).loc Cert.BwdAttnIdeal.main_arg2)
      ∧ r.2.mem ((c.tc : Thread Cert.BwdAttnIdeal.nD Cert.BwdAttnIdeal.τ).loc Cert.BwdAttnIdeal.main_arg3) = m ((c.tc : Thread Cert.BwdAttnIdeal.nD Cert.BwdAttnIdeal.τ).loc Cert.BwdAttnIdeal.main_arg3)
      ∧ r.2.mem ((c.tc : Thread Cert.BwdAttnIdeal.nD Cert.BwdAttnIdeal.τ).loc Cert.BwdAttnIdeal.main_arg4) = m ((c.tc : Thread Cert.BwdAttnIdeal.nD Cert.BwdAttnIdeal.τ).loc Cert.BwdAttnIdeal.main_arg4))
      ∧ r.2.sem = fun _ => 0)

def quiescent_AttnVjpIdeal [hAttnVjpIdeal : Cert.AttnVjpIdeal.Facts] : Prop :=
  ∀ (m : (ℓ : Loc Cert.AttnVjpIdeal.nD Cert.AttnVjpIdeal.τ Cert.AttnVjpIdeal.sig) → Buf (Elt Ideal) ℓ) (g : Dev Cert.AttnVjpIdeal.nD → PrngReg), Pre_AttnVjpIdeal m →
    θ_run (Cert.AttnVjpIdeal.defs (F := Ideal)) (onTc (τ := Cert.AttnVjpIdeal.τ) (Cert.AttnVjpIdeal.main (F := Ideal))) ⟨m, fun _ => 0, g⟩ (fun r => (∀ c : Dev Cert.AttnVjpIdeal.nD,
      r.2.mem ((c.tc : Thread Cert.AttnVjpIdeal.nD Cert.AttnVjpIdeal.τ).loc Cert.AttnVjpIdeal.main_arg0) = m ((c.tc : Thread Cert.AttnVjpIdeal.nD Cert.AttnVjpIdeal.τ).loc Cert.AttnVjpIdeal.main_arg0)
      ∧ r.2.mem ((c.tc : Thread Cert.AttnVjpIdeal.nD Cert.AttnVjpIdeal.τ).loc Cert.AttnVjpIdeal.main_arg1) = m ((c.tc : Thread Cert.AttnVjpIdeal.nD Cert.AttnVjpIdeal.τ).loc Cert.AttnVjpIdeal.main_arg1)
      ∧ r.2.mem ((c.tc : Thread Cert.AttnVjpIdeal.nD Cert.AttnVjpIdeal.τ).loc Cert.AttnVjpIdeal.main_arg2) = m ((c.tc : Thread Cert.AttnVjpIdeal.nD Cert.AttnVjpIdeal.τ).loc Cert.AttnVjpIdeal.main_arg2)
      ∧ r.2.mem ((c.tc : Thread Cert.AttnVjpIdeal.nD Cert.AttnVjpIdeal.τ).loc Cert.AttnVjpIdeal.main_arg3) = m ((c.tc : Thread Cert.AttnVjpIdeal.nD Cert.AttnVjpIdeal.τ).loc Cert.AttnVjpIdeal.main_arg3)
      ∧ r.2.mem ((c.tc : Thread Cert.AttnVjpIdeal.nD Cert.AttnVjpIdeal.τ).loc Cert.AttnVjpIdeal.main_arg4) = m ((c.tc : Thread Cert.AttnVjpIdeal.nD Cert.AttnVjpIdeal.τ).loc Cert.AttnVjpIdeal.main_arg4))
      ∧ r.2.sem = fun _ => 0)

def quiescent_AttnVjpIdeal_pre_finite_bwd_attn [hAttnVjpIdeal : Cert.AttnVjpIdeal.Facts] [hPre_finite_bwd_attn : Cert.Pre_finite_bwd_attn.Facts] : Prop :=
  ∀ (m : (ℓ : Loc Cert.AttnVjpIdeal.nD Cert.AttnVjpIdeal.τ Cert.AttnVjpIdeal.sig) → Buf (Elt Ideal) ℓ) (g : Dev Cert.AttnVjpIdeal.nD → PrngReg), Pre_AttnVjpIdeal_finite_bwd_attn m →
    θ_run (Cert.AttnVjpIdeal.defs (F := Ideal)) (onTc (τ := Cert.AttnVjpIdeal.τ) (Cert.AttnVjpIdeal.main (F := Ideal))) ⟨m, fun _ => 0, g⟩ (fun r => (∀ c : Dev Cert.AttnVjpIdeal.nD,
      r.2.mem ((c.tc : Thread Cert.AttnVjpIdeal.nD Cert.AttnVjpIdeal.τ).loc Cert.AttnVjpIdeal.main_arg0) = m ((c.tc : Thread Cert.AttnVjpIdeal.nD Cert.AttnVjpIdeal.τ).loc Cert.AttnVjpIdeal.main_arg0)
      ∧ r.2.mem ((c.tc : Thread Cert.AttnVjpIdeal.nD Cert.AttnVjpIdeal.τ).loc Cert.AttnVjpIdeal.main_arg1) = m ((c.tc : Thread Cert.AttnVjpIdeal.nD Cert.AttnVjpIdeal.τ).loc Cert.AttnVjpIdeal.main_arg1)
      ∧ r.2.mem ((c.tc : Thread Cert.AttnVjpIdeal.nD Cert.AttnVjpIdeal.τ).loc Cert.AttnVjpIdeal.main_arg2) = m ((c.tc : Thread Cert.AttnVjpIdeal.nD Cert.AttnVjpIdeal.τ).loc Cert.AttnVjpIdeal.main_arg2)
      ∧ r.2.mem ((c.tc : Thread Cert.AttnVjpIdeal.nD Cert.AttnVjpIdeal.τ).loc Cert.AttnVjpIdeal.main_arg3) = m ((c.tc : Thread Cert.AttnVjpIdeal.nD Cert.AttnVjpIdeal.τ).loc Cert.AttnVjpIdeal.main_arg3)
      ∧ r.2.mem ((c.tc : Thread Cert.AttnVjpIdeal.nD Cert.AttnVjpIdeal.τ).loc Cert.AttnVjpIdeal.main_arg4) = m ((c.tc : Thread Cert.AttnVjpIdeal.nD Cert.AttnVjpIdeal.τ).loc Cert.AttnVjpIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_finite_ffn_in [hFfnInIdeal : Cert.FfnInIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffn_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInVjpIdeal [hFfnInVjpIdeal : Cert.FfnInVjpIdeal.Facts] : Prop :=
  ∀ (m : (ℓ : Loc Cert.FfnInVjpIdeal.nD Cert.FfnInVjpIdeal.τ Cert.FfnInVjpIdeal.sig) → Buf (Elt Ideal) ℓ) (g : Dev Cert.FfnInVjpIdeal.nD → PrngReg), Pre_FfnInVjpIdeal m →
    θ_run (Cert.FfnInVjpIdeal.defs (F := Ideal)) (onTc (τ := Cert.FfnInVjpIdeal.τ) (Cert.FfnInVjpIdeal.main (F := Ideal))) ⟨m, fun _ => 0, g⟩ (fun r => (∀ c : Dev Cert.FfnInVjpIdeal.nD,
      r.2.mem ((c.tc : Thread Cert.FfnInVjpIdeal.nD Cert.FfnInVjpIdeal.τ).loc Cert.FfnInVjpIdeal.main_arg0) = m ((c.tc : Thread Cert.FfnInVjpIdeal.nD Cert.FfnInVjpIdeal.τ).loc Cert.FfnInVjpIdeal.main_arg0)
      ∧ r.2.mem ((c.tc : Thread Cert.FfnInVjpIdeal.nD Cert.FfnInVjpIdeal.τ).loc Cert.FfnInVjpIdeal.main_arg1) = m ((c.tc : Thread Cert.FfnInVjpIdeal.nD Cert.FfnInVjpIdeal.τ).loc Cert.FfnInVjpIdeal.main_arg1)
      ∧ r.2.mem ((c.tc : Thread Cert.FfnInVjpIdeal.nD Cert.FfnInVjpIdeal.τ).loc Cert.FfnInVjpIdeal.main_arg2) = m ((c.tc : Thread Cert.FfnInVjpIdeal.nD Cert.FfnInVjpIdeal.τ).loc Cert.FfnInVjpIdeal.main_arg2)
      ∧ r.2.mem ((c.tc : Thread Cert.FfnInVjpIdeal.nD Cert.FfnInVjpIdeal.τ).loc Cert.FfnInVjpIdeal.main_arg3) = m ((c.tc : Thread Cert.FfnInVjpIdeal.nD Cert.FfnInVjpIdeal.τ).loc Cert.FfnInVjpIdeal.main_arg3)
      ∧ r.2.mem ((c.tc : Thread Cert.FfnInVjpIdeal.nD Cert.FfnInVjpIdeal.τ).loc Cert.FfnInVjpIdeal.main_arg4) = m ((c.tc : Thread Cert.FfnInVjpIdeal.nD Cert.FfnInVjpIdeal.τ).loc Cert.FfnInVjpIdeal.main_arg4)
      ∧ r.2.mem ((c.tc : Thread Cert.FfnInVjpIdeal.nD Cert.FfnInVjpIdeal.τ).loc Cert.FfnInVjpIdeal.main_arg5) = m ((c.tc : Thread Cert.FfnInVjpIdeal.nD Cert.FfnInVjpIdeal.τ).loc Cert.FfnInVjpIdeal.main_arg5)
      ∧ r.2.mem ((c.tc : Thread Cert.FfnInVjpIdeal.nD Cert.FfnInVjpIdeal.τ).loc Cert.FfnInVjpIdeal.main_arg6) = m ((c.tc : Thread Cert.FfnInVjpIdeal.nD Cert.FfnInVjpIdeal.τ).loc Cert.FfnInVjpIdeal.main_arg6))
      ∧ r.2.sem = fun _ => 0)

def quiescent_FfnInVjpIdeal_pre_finite_ffn_in [hFfnInVjpIdeal : Cert.FfnInVjpIdeal.Facts] [hPre_finite_ffn_in : Cert.Pre_finite_ffn_in.Facts] : Prop :=
  ∀ (m : (ℓ : Loc Cert.FfnInVjpIdeal.nD Cert.FfnInVjpIdeal.τ Cert.FfnInVjpIdeal.sig) → Buf (Elt Ideal) ℓ) (g : Dev Cert.FfnInVjpIdeal.nD → PrngReg), Pre_FfnInVjpIdeal_finite_ffn_in m →
    θ_run (Cert.FfnInVjpIdeal.defs (F := Ideal)) (onTc (τ := Cert.FfnInVjpIdeal.τ) (Cert.FfnInVjpIdeal.main (F := Ideal))) ⟨m, fun _ => 0, g⟩ (fun r => (∀ c : Dev Cert.FfnInVjpIdeal.nD,
      r.2.mem ((c.tc : Thread Cert.FfnInVjpIdeal.nD Cert.FfnInVjpIdeal.τ).loc Cert.FfnInVjpIdeal.main_arg0) = m ((c.tc : Thread Cert.FfnInVjpIdeal.nD Cert.FfnInVjpIdeal.τ).loc Cert.FfnInVjpIdeal.main_arg0)
      ∧ r.2.mem ((c.tc : Thread Cert.FfnInVjpIdeal.nD Cert.FfnInVjpIdeal.τ).loc Cert.FfnInVjpIdeal.main_arg1) = m ((c.tc : Thread Cert.FfnInVjpIdeal.nD Cert.FfnInVjpIdeal.τ).loc Cert.FfnInVjpIdeal.main_arg1)
      ∧ r.2.mem ((c.tc : Thread Cert.FfnInVjpIdeal.nD Cert.FfnInVjpIdeal.τ).loc Cert.FfnInVjpIdeal.main_arg2) = m ((c.tc : Thread Cert.FfnInVjpIdeal.nD Cert.FfnInVjpIdeal.τ).loc Cert.FfnInVjpIdeal.main_arg2)
      ∧ r.2.mem ((c.tc : Thread Cert.FfnInVjpIdeal.nD Cert.FfnInVjpIdeal.τ).loc Cert.FfnInVjpIdeal.main_arg3) = m ((c.tc : Thread Cert.FfnInVjpIdeal.nD Cert.FfnInVjpIdeal.τ).loc Cert.FfnInVjpIdeal.main_arg3)
      ∧ r.2.mem ((c.tc : Thread Cert.FfnInVjpIdeal.nD Cert.FfnInVjpIdeal.τ).loc Cert.FfnInVjpIdeal.main_arg4) = m ((c.tc : Thread Cert.FfnInVjpIdeal.nD Cert.FfnInVjpIdeal.τ).loc Cert.FfnInVjpIdeal.main_arg4)
      ∧ r.2.mem ((c.tc : Thread Cert.FfnInVjpIdeal.nD Cert.FfnInVjpIdeal.τ).loc Cert.FfnInVjpIdeal.main_arg5) = m ((c.tc : Thread Cert.FfnInVjpIdeal.nD Cert.FfnInVjpIdeal.τ).loc Cert.FfnInVjpIdeal.main_arg5)
      ∧ r.2.mem ((c.tc : Thread Cert.FfnInVjpIdeal.nD Cert.FfnInVjpIdeal.τ).loc Cert.FfnInVjpIdeal.main_arg6) = m ((c.tc : Thread Cert.FfnInVjpIdeal.nD Cert.FfnInVjpIdeal.τ).loc Cert.FfnInVjpIdeal.main_arg6))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4)
      ∧ r.2.mem ((c.tc : Thread Cert.PleLoss.nD Cert.PleLoss.τ).loc Cert.PleLoss.main_arg5) = m ((c.tc : Thread Cert.PleLoss.nD Cert.PleLoss.τ).loc Cert.PleLoss.main_arg5))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ r.2.sem = fun _ => 0)

def quiescent_PleLossIdeal_pre_finite_ple_loss [hPleLossIdeal : Cert.PleLossIdeal.Facts] [hPre_finite_ple_loss : Cert.Pre_finite_ple_loss.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal_finite_ple_loss m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ r.2.sem = fun _ => 0)

def quiescent_PleLossVjpIdeal [hPleLossVjpIdeal : Cert.PleLossVjpIdeal.Facts] : Prop :=
  ∀ (m : (ℓ : Loc Cert.PleLossVjpIdeal.nD Cert.PleLossVjpIdeal.τ Cert.PleLossVjpIdeal.sig) → Buf (Elt Ideal) ℓ) (g : Dev Cert.PleLossVjpIdeal.nD → PrngReg), Pre_PleLossVjpIdeal m →
    θ_run (Cert.PleLossVjpIdeal.defs (F := Ideal)) (onTc (τ := Cert.PleLossVjpIdeal.τ) (Cert.PleLossVjpIdeal.main (F := Ideal))) ⟨m, fun _ => 0, g⟩ (fun r => (∀ c : Dev Cert.PleLossVjpIdeal.nD,
      r.2.mem ((c.tc : Thread Cert.PleLossVjpIdeal.nD Cert.PleLossVjpIdeal.τ).loc Cert.PleLossVjpIdeal.main_arg0) = m ((c.tc : Thread Cert.PleLossVjpIdeal.nD Cert.PleLossVjpIdeal.τ).loc Cert.PleLossVjpIdeal.main_arg0)
      ∧ r.2.mem ((c.tc : Thread Cert.PleLossVjpIdeal.nD Cert.PleLossVjpIdeal.τ).loc Cert.PleLossVjpIdeal.main_arg1) = m ((c.tc : Thread Cert.PleLossVjpIdeal.nD Cert.PleLossVjpIdeal.τ).loc Cert.PleLossVjpIdeal.main_arg1)
      ∧ r.2.mem ((c.tc : Thread Cert.PleLossVjpIdeal.nD Cert.PleLossVjpIdeal.τ).loc Cert.PleLossVjpIdeal.main_arg2) = m ((c.tc : Thread Cert.PleLossVjpIdeal.nD Cert.PleLossVjpIdeal.τ).loc Cert.PleLossVjpIdeal.main_arg2)
      ∧ r.2.mem ((c.tc : Thread Cert.PleLossVjpIdeal.nD Cert.PleLossVjpIdeal.τ).loc Cert.PleLossVjpIdeal.main_arg3) = m ((c.tc : Thread Cert.PleLossVjpIdeal.nD Cert.PleLossVjpIdeal.τ).loc Cert.PleLossVjpIdeal.main_arg3)
      ∧ r.2.mem ((c.tc : Thread Cert.PleLossVjpIdeal.nD Cert.PleLossVjpIdeal.τ).loc Cert.PleLossVjpIdeal.main_arg4) = m ((c.tc : Thread Cert.PleLossVjpIdeal.nD Cert.PleLossVjpIdeal.τ).loc Cert.PleLossVjpIdeal.main_arg4)
      ∧ r.2.mem ((c.tc : Thread Cert.PleLossVjpIdeal.nD Cert.PleLossVjpIdeal.τ).loc Cert.PleLossVjpIdeal.main_arg5) = m ((c.tc : Thread Cert.PleLossVjpIdeal.nD Cert.PleLossVjpIdeal.τ).loc Cert.PleLossVjpIdeal.main_arg5))
      ∧ r.2.sem = fun _ => 0)

def quiescent_PleLossVjpIdeal_pre_finite_ple_loss [hPleLossVjpIdeal : Cert.PleLossVjpIdeal.Facts] [hPre_finite_ple_loss : Cert.Pre_finite_ple_loss.Facts] : Prop :=
  ∀ (m : (ℓ : Loc Cert.PleLossVjpIdeal.nD Cert.PleLossVjpIdeal.τ Cert.PleLossVjpIdeal.sig) → Buf (Elt Ideal) ℓ) (g : Dev Cert.PleLossVjpIdeal.nD → PrngReg), Pre_PleLossVjpIdeal_finite_ple_loss m →
    θ_run (Cert.PleLossVjpIdeal.defs (F := Ideal)) (onTc (τ := Cert.PleLossVjpIdeal.τ) (Cert.PleLossVjpIdeal.main (F := Ideal))) ⟨m, fun _ => 0, g⟩ (fun r => (∀ c : Dev Cert.PleLossVjpIdeal.nD,
      r.2.mem ((c.tc : Thread Cert.PleLossVjpIdeal.nD Cert.PleLossVjpIdeal.τ).loc Cert.PleLossVjpIdeal.main_arg0) = m ((c.tc : Thread Cert.PleLossVjpIdeal.nD Cert.PleLossVjpIdeal.τ).loc Cert.PleLossVjpIdeal.main_arg0)
      ∧ r.2.mem ((c.tc : Thread Cert.PleLossVjpIdeal.nD Cert.PleLossVjpIdeal.τ).loc Cert.PleLossVjpIdeal.main_arg1) = m ((c.tc : Thread Cert.PleLossVjpIdeal.nD Cert.PleLossVjpIdeal.τ).loc Cert.PleLossVjpIdeal.main_arg1)
      ∧ r.2.mem ((c.tc : Thread Cert.PleLossVjpIdeal.nD Cert.PleLossVjpIdeal.τ).loc Cert.PleLossVjpIdeal.main_arg2) = m ((c.tc : Thread Cert.PleLossVjpIdeal.nD Cert.PleLossVjpIdeal.τ).loc Cert.PleLossVjpIdeal.main_arg2)
      ∧ r.2.mem ((c.tc : Thread Cert.PleLossVjpIdeal.nD Cert.PleLossVjpIdeal.τ).loc Cert.PleLossVjpIdeal.main_arg3) = m ((c.tc : Thread Cert.PleLossVjpIdeal.nD Cert.PleLossVjpIdeal.τ).loc Cert.PleLossVjpIdeal.main_arg3)
      ∧ r.2.mem ((c.tc : Thread Cert.PleLossVjpIdeal.nD Cert.PleLossVjpIdeal.τ).loc Cert.PleLossVjpIdeal.main_arg4) = m ((c.tc : Thread Cert.PleLossVjpIdeal.nD Cert.PleLossVjpIdeal.τ).loc Cert.PleLossVjpIdeal.main_arg4)
      ∧ r.2.mem ((c.tc : Thread Cert.PleLossVjpIdeal.nD Cert.PleLossVjpIdeal.τ).loc Cert.PleLossVjpIdeal.main_arg5) = m ((c.tc : Thread Cert.PleLossVjpIdeal.nD Cert.PleLossVjpIdeal.τ).loc Cert.PleLossVjpIdeal.main_arg5))
      ∧ r.2.sem = fun _ => 0)

def quiescent_BwdMix [hBwdMix : Cert.BwdMix.Facts] : Prop :=
  ∀ (m : (ℓ : Loc Cert.BwdMix.nD Cert.BwdMix.τ Cert.BwdMix.sig) → Buf (Elt Bits) ℓ) (g : Dev Cert.BwdMix.nD → PrngReg), Pre_BwdMix m →
    θ_run (Cert.BwdMix.defs (F := Bits)) (onTc (τ := Cert.BwdMix.τ) (Cert.BwdMix.main (F := Bits))) ⟨m, fun _ => 0, g⟩ (fun r => (∀ c : Dev Cert.BwdMix.nD,
      r.2.mem ((c.tc : Thread Cert.BwdMix.nD Cert.BwdMix.τ).loc Cert.BwdMix.main_arg0) = m ((c.tc : Thread Cert.BwdMix.nD Cert.BwdMix.τ).loc Cert.BwdMix.main_arg0)
      ∧ r.2.mem ((c.tc : Thread Cert.BwdMix.nD Cert.BwdMix.τ).loc Cert.BwdMix.main_arg1) = m ((c.tc : Thread Cert.BwdMix.nD Cert.BwdMix.τ).loc Cert.BwdMix.main_arg1)
      ∧ r.2.mem ((c.tc : Thread Cert.BwdMix.nD Cert.BwdMix.τ).loc Cert.BwdMix.main_arg2) = m ((c.tc : Thread Cert.BwdMix.nD Cert.BwdMix.τ).loc Cert.BwdMix.main_arg2)
      ∧ r.2.mem ((c.tc : Thread Cert.BwdMix.nD Cert.BwdMix.τ).loc Cert.BwdMix.main_arg3) = m ((c.tc : Thread Cert.BwdMix.nD Cert.BwdMix.τ).loc Cert.BwdMix.main_arg3)
      ∧ r.2.mem ((c.tc : Thread Cert.BwdMix.nD Cert.BwdMix.τ).loc Cert.BwdMix.main_arg4) = m ((c.tc : Thread Cert.BwdMix.nD Cert.BwdMix.τ).loc Cert.BwdMix.main_arg4)
      ∧ r.2.mem ((c.tc : Thread Cert.BwdMix.nD Cert.BwdMix.τ).loc Cert.BwdMix.main_arg5) = m ((c.tc : Thread Cert.BwdMix.nD Cert.BwdMix.τ).loc Cert.BwdMix.main_arg5))
      ∧ r.2.sem = fun _ => 0)

def quiescent_BwdMixIdeal [hBwdMixIdeal : Cert.BwdMixIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg), Pre_BwdMixIdeal m →
    θ_run (Cert.BwdMixIdeal.defs (F := Ideal)) (onTc (τ := Cert.BwdMixIdeal.τ) (Cert.BwdMixIdeal.main (F := Ideal))) ⟨m, fun _ => 0, g⟩ (fun r => (∀ c : Dev Cert.BwdMixIdeal.nD,
      r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
      ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
      ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
      ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
      ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
      ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5))
      ∧ r.2.sem = fun _ => 0)

def quiescent_BwdMixIdeal_pre_finite_bwd_mix [hBwdMixIdeal : Cert.BwdMixIdeal.Facts] [hPre_finite_bwd_mix : Cert.Pre_finite_bwd_mix.Facts] : Prop :=
  ∀ (m : (ℓ : Loc Cert.BwdMixIdeal.nD Cert.BwdMixIdeal.τ Cert.BwdMixIdeal.sig) → Buf (Elt Ideal) ℓ) (g : Dev Cert.BwdMixIdeal.nD → PrngReg), Pre_BwdMixIdeal_finite_bwd_mix m →
    θ_run (Cert.BwdMixIdeal.defs (F := Ideal)) (onTc (τ := Cert.BwdMixIdeal.τ) (Cert.BwdMixIdeal.main (F := Ideal))) ⟨m, fun _ => 0, g⟩ (fun r => (∀ c : Dev Cert.BwdMixIdeal.nD,
      r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
      ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
      ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
      ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
      ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
      ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5))
      ∧ r.2.sem = fun _ => 0)

def quiescent_MixVjpIdeal [hMixVjpIdeal : Cert.MixVjpIdeal.Facts] : Prop :=
  ∀ (m : (ℓ : Loc Cert.MixVjpIdeal.nD Cert.MixVjpIdeal.τ Cert.MixVjpIdeal.sig) → Buf (Elt Ideal) ℓ) (g : Dev Cert.MixVjpIdeal.nD → PrngReg), Pre_MixVjpIdeal m →
    θ_run (Cert.MixVjpIdeal.defs (F := Ideal)) (onTc (τ := Cert.MixVjpIdeal.τ) (Cert.MixVjpIdeal.main (F := Ideal))) ⟨m, fun _ => 0, g⟩ (fun r => (∀ c : Dev Cert.MixVjpIdeal.nD,
      r.2.mem ((c.tc : Thread Cert.MixVjpIdeal.nD Cert.MixVjpIdeal.τ).loc Cert.MixVjpIdeal.main_arg0) = m ((c.tc : Thread Cert.MixVjpIdeal.nD Cert.MixVjpIdeal.τ).loc Cert.MixVjpIdeal.main_arg0)
      ∧ r.2.mem ((c.tc : Thread Cert.MixVjpIdeal.nD Cert.MixVjpIdeal.τ).loc Cert.MixVjpIdeal.main_arg1) = m ((c.tc : Thread Cert.MixVjpIdeal.nD Cert.MixVjpIdeal.τ).loc Cert.MixVjpIdeal.main_arg1)
      ∧ r.2.mem ((c.tc : Thread Cert.MixVjpIdeal.nD Cert.MixVjpIdeal.τ).loc Cert.MixVjpIdeal.main_arg2) = m ((c.tc : Thread Cert.MixVjpIdeal.nD Cert.MixVjpIdeal.τ).loc Cert.MixVjpIdeal.main_arg2)
      ∧ r.2.mem ((c.tc : Thread Cert.MixVjpIdeal.nD Cert.MixVjpIdeal.τ).loc Cert.MixVjpIdeal.main_arg3) = m ((c.tc : Thread Cert.MixVjpIdeal.nD Cert.MixVjpIdeal.τ).loc Cert.MixVjpIdeal.main_arg3)
      ∧ r.2.mem ((c.tc : Thread Cert.MixVjpIdeal.nD Cert.MixVjpIdeal.τ).loc Cert.MixVjpIdeal.main_arg4) = m ((c.tc : Thread Cert.MixVjpIdeal.nD Cert.MixVjpIdeal.τ).loc Cert.MixVjpIdeal.main_arg4)
      ∧ r.2.mem ((c.tc : Thread Cert.MixVjpIdeal.nD Cert.MixVjpIdeal.τ).loc Cert.MixVjpIdeal.main_arg5) = m ((c.tc : Thread Cert.MixVjpIdeal.nD Cert.MixVjpIdeal.τ).loc Cert.MixVjpIdeal.main_arg5))
      ∧ r.2.sem = fun _ => 0)

def quiescent_MixVjpIdeal_pre_finite_bwd_mix [hMixVjpIdeal : Cert.MixVjpIdeal.Facts] [hPre_finite_bwd_mix : Cert.Pre_finite_bwd_mix.Facts] : Prop :=
  ∀ (m : (ℓ : Loc Cert.MixVjpIdeal.nD Cert.MixVjpIdeal.τ Cert.MixVjpIdeal.sig) → Buf (Elt Ideal) ℓ) (g : Dev Cert.MixVjpIdeal.nD → PrngReg), Pre_MixVjpIdeal_finite_bwd_mix m →
    θ_run (Cert.MixVjpIdeal.defs (F := Ideal)) (onTc (τ := Cert.MixVjpIdeal.τ) (Cert.MixVjpIdeal.main (F := Ideal))) ⟨m, fun _ => 0, g⟩ (fun r => (∀ c : Dev Cert.MixVjpIdeal.nD,
      r.2.mem ((c.tc : Thread Cert.MixVjpIdeal.nD Cert.MixVjpIdeal.τ).loc Cert.MixVjpIdeal.main_arg0) = m ((c.tc : Thread Cert.MixVjpIdeal.nD Cert.MixVjpIdeal.τ).loc Cert.MixVjpIdeal.main_arg0)
      ∧ r.2.mem ((c.tc : Thread Cert.MixVjpIdeal.nD Cert.MixVjpIdeal.τ).loc Cert.MixVjpIdeal.main_arg1) = m ((c.tc : Thread Cert.MixVjpIdeal.nD Cert.MixVjpIdeal.τ).loc Cert.MixVjpIdeal.main_arg1)
      ∧ r.2.mem ((c.tc : Thread Cert.MixVjpIdeal.nD Cert.MixVjpIdeal.τ).loc Cert.MixVjpIdeal.main_arg2) = m ((c.tc : Thread Cert.MixVjpIdeal.nD Cert.MixVjpIdeal.τ).loc Cert.MixVjpIdeal.main_arg2)
      ∧ r.2.mem ((c.tc : Thread Cert.MixVjpIdeal.nD Cert.MixVjpIdeal.τ).loc Cert.MixVjpIdeal.main_arg3) = m ((c.tc : Thread Cert.MixVjpIdeal.nD Cert.MixVjpIdeal.τ).loc Cert.MixVjpIdeal.main_arg3)
      ∧ r.2.mem ((c.tc : Thread Cert.MixVjpIdeal.nD Cert.MixVjpIdeal.τ).loc Cert.MixVjpIdeal.main_arg4) = m ((c.tc : Thread Cert.MixVjpIdeal.nD Cert.MixVjpIdeal.τ).loc Cert.MixVjpIdeal.main_arg4)
      ∧ r.2.mem ((c.tc : Thread Cert.MixVjpIdeal.nD Cert.MixVjpIdeal.τ).loc Cert.MixVjpIdeal.main_arg5) = m ((c.tc : Thread Cert.MixVjpIdeal.nD Cert.MixVjpIdeal.τ).loc Cert.MixVjpIdeal.main_arg5))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInIdeal_pre_finite_bwd_in [hBwdInIdeal : Cert.BwdInIdeal.Facts] [hPre_finite_bwd_in : Cert.Pre_finite_bwd_in.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite_bwd_in m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_InVjpIdeal [hInVjpIdeal : Cert.InVjpIdeal.Facts] : Prop :=
  ∀ (m : (ℓ : Loc Cert.InVjpIdeal.nD Cert.InVjpIdeal.τ Cert.InVjpIdeal.sig) → Buf (Elt Ideal) ℓ) (g : Dev Cert.InVjpIdeal.nD → PrngReg), Pre_InVjpIdeal m →
    θ_run (Cert.InVjpIdeal.defs (F := Ideal)) (onTc (τ := Cert.InVjpIdeal.τ) (Cert.InVjpIdeal.main (F := Ideal))) ⟨m, fun _ => 0, g⟩ (fun r => (∀ c : Dev Cert.InVjpIdeal.nD,
      r.2.mem ((c.tc : Thread Cert.InVjpIdeal.nD Cert.InVjpIdeal.τ).loc Cert.InVjpIdeal.main_arg0) = m ((c.tc : Thread Cert.InVjpIdeal.nD Cert.InVjpIdeal.τ).loc Cert.InVjpIdeal.main_arg0)
      ∧ r.2.mem ((c.tc : Thread Cert.InVjpIdeal.nD Cert.InVjpIdeal.τ).loc Cert.InVjpIdeal.main_arg1) = m ((c.tc : Thread Cert.InVjpIdeal.nD Cert.InVjpIdeal.τ).loc Cert.InVjpIdeal.main_arg1)
      ∧ r.2.mem ((c.tc : Thread Cert.InVjpIdeal.nD Cert.InVjpIdeal.τ).loc Cert.InVjpIdeal.main_arg2) = m ((c.tc : Thread Cert.InVjpIdeal.nD Cert.InVjpIdeal.τ).loc Cert.InVjpIdeal.main_arg2)
      ∧ r.2.mem ((c.tc : Thread Cert.InVjpIdeal.nD Cert.InVjpIdeal.τ).loc Cert.InVjpIdeal.main_arg3) = m ((c.tc : Thread Cert.InVjpIdeal.nD Cert.InVjpIdeal.τ).loc Cert.InVjpIdeal.main_arg3)
      ∧ r.2.mem ((c.tc : Thread Cert.InVjpIdeal.nD Cert.InVjpIdeal.τ).loc Cert.InVjpIdeal.main_arg4) = m ((c.tc : Thread Cert.InVjpIdeal.nD Cert.InVjpIdeal.τ).loc Cert.InVjpIdeal.main_arg4))
      ∧ r.2.sem = fun _ => 0)

def quiescent_InVjpIdeal_pre_finite_bwd_in [hInVjpIdeal : Cert.InVjpIdeal.Facts] [hPre_finite_bwd_in : Cert.Pre_finite_bwd_in.Facts] : Prop :=
  ∀ (m : (ℓ : Loc Cert.InVjpIdeal.nD Cert.InVjpIdeal.τ Cert.InVjpIdeal.sig) → Buf (Elt Ideal) ℓ) (g : Dev Cert.InVjpIdeal.nD → PrngReg), Pre_InVjpIdeal_finite_bwd_in m →
    θ_run (Cert.InVjpIdeal.defs (F := Ideal)) (onTc (τ := Cert.InVjpIdeal.τ) (Cert.InVjpIdeal.main (F := Ideal))) ⟨m, fun _ => 0, g⟩ (fun r => (∀ c : Dev Cert.InVjpIdeal.nD,
      r.2.mem ((c.tc : Thread Cert.InVjpIdeal.nD Cert.InVjpIdeal.τ).loc Cert.InVjpIdeal.main_arg0) = m ((c.tc : Thread Cert.InVjpIdeal.nD Cert.InVjpIdeal.τ).loc Cert.InVjpIdeal.main_arg0)
      ∧ r.2.mem ((c.tc : Thread Cert.InVjpIdeal.nD Cert.InVjpIdeal.τ).loc Cert.InVjpIdeal.main_arg1) = m ((c.tc : Thread Cert.InVjpIdeal.nD Cert.InVjpIdeal.τ).loc Cert.InVjpIdeal.main_arg1)
      ∧ r.2.mem ((c.tc : Thread Cert.InVjpIdeal.nD Cert.InVjpIdeal.τ).loc Cert.InVjpIdeal.main_arg2) = m ((c.tc : Thread Cert.InVjpIdeal.nD Cert.InVjpIdeal.τ).loc Cert.InVjpIdeal.main_arg2)
      ∧ r.2.mem ((c.tc : Thread Cert.InVjpIdeal.nD Cert.InVjpIdeal.τ).loc Cert.InVjpIdeal.main_arg3) = m ((c.tc : Thread Cert.InVjpIdeal.nD Cert.InVjpIdeal.τ).loc Cert.InVjpIdeal.main_arg3)
      ∧ r.2.mem ((c.tc : Thread Cert.InVjpIdeal.nD Cert.InVjpIdeal.τ).loc Cert.InVjpIdeal.main_arg4) = m ((c.tc : Thread Cert.InVjpIdeal.nD Cert.InVjpIdeal.τ).loc Cert.InVjpIdeal.main_arg4))
      ∧ r.2.sem = fun _ => 0)

def quiescent_FwdAttn [hFwdAttn : Cert.FwdAttn.Facts] : Prop :=
  ∀ (m : (ℓ : Loc Cert.FwdAttn.nD Cert.FwdAttn.τ Cert.FwdAttn.sig) → Buf (Elt Bits) ℓ) (g : Dev Cert.FwdAttn.nD → PrngReg), Pre_FwdAttn m →
    θ_run (Cert.FwdAttn.defs (F := Bits)) (onTc (τ := Cert.FwdAttn.τ) (Cert.FwdAttn.main (F := Bits))) ⟨m, fun _ => 0, g⟩ (fun r => (∀ c : Dev Cert.FwdAttn.nD,
      r.2.mem ((c.tc : Thread Cert.FwdAttn.nD Cert.FwdAttn.τ).loc Cert.FwdAttn.main_arg0) = m ((c.tc : Thread Cert.FwdAttn.nD Cert.FwdAttn.τ).loc Cert.FwdAttn.main_arg0)
      ∧ r.2.mem ((c.tc : Thread Cert.FwdAttn.nD Cert.FwdAttn.τ).loc Cert.FwdAttn.main_arg1) = m ((c.tc : Thread Cert.FwdAttn.nD Cert.FwdAttn.τ).loc Cert.FwdAttn.main_arg1)
      ∧ r.2.mem ((c.tc : Thread Cert.FwdAttn.nD Cert.FwdAttn.τ).loc Cert.FwdAttn.main_arg2) = m ((c.tc : Thread Cert.FwdAttn.nD Cert.FwdAttn.τ).loc Cert.FwdAttn.main_arg2)
      ∧ r.2.mem ((c.tc : Thread Cert.FwdAttn.nD Cert.FwdAttn.τ).loc Cert.FwdAttn.main_arg3) = m ((c.tc : Thread Cert.FwdAttn.nD Cert.FwdAttn.τ).loc Cert.FwdAttn.main_arg3))
      ∧ r.2.sem = fun _ => 0)

def quiescent_FwdAttnIdeal [hFwdAttnIdeal : Cert.FwdAttnIdeal.Facts] : Prop :=
  ∀ (m : (ℓ : Loc Cert.FwdAttnIdeal.nD Cert.FwdAttnIdeal.τ Cert.FwdAttnIdeal.sig) → Buf (Elt Ideal) ℓ) (g : Dev Cert.FwdAttnIdeal.nD → PrngReg), Pre_FwdAttnIdeal m →
    θ_run (Cert.FwdAttnIdeal.defs (F := Ideal)) (onTc (τ := Cert.FwdAttnIdeal.τ) (Cert.FwdAttnIdeal.main (F := Ideal))) ⟨m, fun _ => 0, g⟩ (fun r => (∀ c : Dev Cert.FwdAttnIdeal.nD,
      r.2.mem ((c.tc : Thread Cert.FwdAttnIdeal.nD Cert.FwdAttnIdeal.τ).loc Cert.FwdAttnIdeal.main_arg0) = m ((c.tc : Thread Cert.FwdAttnIdeal.nD Cert.FwdAttnIdeal.τ).loc Cert.FwdAttnIdeal.main_arg0)
      ∧ r.2.mem ((c.tc : Thread Cert.FwdAttnIdeal.nD Cert.FwdAttnIdeal.τ).loc Cert.FwdAttnIdeal.main_arg1) = m ((c.tc : Thread Cert.FwdAttnIdeal.nD Cert.FwdAttnIdeal.τ).loc Cert.FwdAttnIdeal.main_arg1)
      ∧ r.2.mem ((c.tc : Thread Cert.FwdAttnIdeal.nD Cert.FwdAttnIdeal.τ).loc Cert.FwdAttnIdeal.main_arg2) = m ((c.tc : Thread Cert.FwdAttnIdeal.nD Cert.FwdAttnIdeal.τ).loc Cert.FwdAttnIdeal.main_arg2)
      ∧ r.2.mem ((c.tc : Thread Cert.FwdAttnIdeal.nD Cert.FwdAttnIdeal.τ).loc Cert.FwdAttnIdeal.main_arg3) = m ((c.tc : Thread Cert.FwdAttnIdeal.nD Cert.FwdAttnIdeal.τ).loc Cert.FwdAttnIdeal.main_arg3))
      ∧ r.2.sem = fun _ => 0)

def quiescent_FwdAttnIdeal_pre_finite_fwd_attn [hFwdAttnIdeal : Cert.FwdAttnIdeal.Facts] [hPre_finite_fwd_attn : Cert.Pre_finite_fwd_attn.Facts] : Prop :=
  ∀ (m : (ℓ : Loc Cert.FwdAttnIdeal.nD Cert.FwdAttnIdeal.τ Cert.FwdAttnIdeal.sig) → Buf (Elt Ideal) ℓ) (g : Dev Cert.FwdAttnIdeal.nD → PrngReg), Pre_FwdAttnIdeal_finite_fwd_attn m →
    θ_run (Cert.FwdAttnIdeal.defs (F := Ideal)) (onTc (τ := Cert.FwdAttnIdeal.τ) (Cert.FwdAttnIdeal.main (F := Ideal))) ⟨m, fun _ => 0, g⟩ (fun r => (∀ c : Dev Cert.FwdAttnIdeal.nD,
      r.2.mem ((c.tc : Thread Cert.FwdAttnIdeal.nD Cert.FwdAttnIdeal.τ).loc Cert.FwdAttnIdeal.main_arg0) = m ((c.tc : Thread Cert.FwdAttnIdeal.nD Cert.FwdAttnIdeal.τ).loc Cert.FwdAttnIdeal.main_arg0)
      ∧ r.2.mem ((c.tc : Thread Cert.FwdAttnIdeal.nD Cert.FwdAttnIdeal.τ).loc Cert.FwdAttnIdeal.main_arg1) = m ((c.tc : Thread Cert.FwdAttnIdeal.nD Cert.FwdAttnIdeal.τ).loc Cert.FwdAttnIdeal.main_arg1)
      ∧ r.2.mem ((c.tc : Thread Cert.FwdAttnIdeal.nD Cert.FwdAttnIdeal.τ).loc Cert.FwdAttnIdeal.main_arg2) = m ((c.tc : Thread Cert.FwdAttnIdeal.nD Cert.FwdAttnIdeal.τ).loc Cert.FwdAttnIdeal.main_arg2)
      ∧ r.2.mem ((c.tc : Thread Cert.FwdAttnIdeal.nD Cert.FwdAttnIdeal.τ).loc Cert.FwdAttnIdeal.main_arg3) = m ((c.tc : Thread Cert.FwdAttnIdeal.nD Cert.FwdAttnIdeal.τ).loc Cert.FwdAttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_fwd_attn [hAttnRefIdeal : Cert.AttnRefIdeal.Facts] [hPre_finite_fwd_attn : Cert.Pre_finite_fwd_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_fwd_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_BwdMla [hBwdMla : Cert.BwdMla.Facts] : Prop :=
  ∀ (m : (ℓ : Loc Cert.BwdMla.nD Cert.BwdMla.τ Cert.BwdMla.sig) → Buf (Elt Bits) ℓ) (g : Dev Cert.BwdMla.nD → PrngReg), Pre_BwdMla m →
    θ_run (Cert.BwdMla.defs (F := Bits)) (onTc (τ := Cert.BwdMla.τ) (Cert.BwdMla.main (F := Bits))) ⟨m, fun _ => 0, g⟩ (fun r => (∀ c : Dev Cert.BwdMla.nD,
      r.2.mem ((c.tc : Thread Cert.BwdMla.nD Cert.BwdMla.τ).loc Cert.BwdMla.main_arg0) = m ((c.tc : Thread Cert.BwdMla.nD Cert.BwdMla.τ).loc Cert.BwdMla.main_arg0)
      ∧ r.2.mem ((c.tc : Thread Cert.BwdMla.nD Cert.BwdMla.τ).loc Cert.BwdMla.main_arg1) = m ((c.tc : Thread Cert.BwdMla.nD Cert.BwdMla.τ).loc Cert.BwdMla.main_arg1)
      ∧ r.2.mem ((c.tc : Thread Cert.BwdMla.nD Cert.BwdMla.τ).loc Cert.BwdMla.main_arg2) = m ((c.tc : Thread Cert.BwdMla.nD Cert.BwdMla.τ).loc Cert.BwdMla.main_arg2)
      ∧ r.2.mem ((c.tc : Thread Cert.BwdMla.nD Cert.BwdMla.τ).loc Cert.BwdMla.main_arg3) = m ((c.tc : Thread Cert.BwdMla.nD Cert.BwdMla.τ).loc Cert.BwdMla.main_arg3)
      ∧ r.2.mem ((c.tc : Thread Cert.BwdMla.nD Cert.BwdMla.τ).loc Cert.BwdMla.main_arg4) = m ((c.tc : Thread Cert.BwdMla.nD Cert.BwdMla.τ).loc Cert.BwdMla.main_arg4)
      ∧ r.2.mem ((c.tc : Thread Cert.BwdMla.nD Cert.BwdMla.τ).loc Cert.BwdMla.main_arg5) = m ((c.tc : Thread Cert.BwdMla.nD Cert.BwdMla.τ).loc Cert.BwdMla.main_arg5)
      ∧ r.2.mem ((c.tc : Thread Cert.BwdMla.nD Cert.BwdMla.τ).loc Cert.BwdMla.main_arg6) = m ((c.tc : Thread Cert.BwdMla.nD Cert.BwdMla.τ).loc Cert.BwdMla.main_arg6)
      ∧ r.2.mem ((c.tc : Thread Cert.BwdMla.nD Cert.BwdMla.τ).loc Cert.BwdMla.main_arg7) = m ((c.tc : Thread Cert.BwdMla.nD Cert.BwdMla.τ).loc Cert.BwdMla.main_arg7)
      ∧ r.2.mem ((c.tc : Thread Cert.BwdMla.nD Cert.BwdMla.τ).loc Cert.BwdMla.main_arg8) = m ((c.tc : Thread Cert.BwdMla.nD Cert.BwdMla.τ).loc Cert.BwdMla.main_arg8)
      ∧ r.2.mem ((c.tc : Thread Cert.BwdMla.nD Cert.BwdMla.τ).loc Cert.BwdMla.main_arg9) = m ((c.tc : Thread Cert.BwdMla.nD Cert.BwdMla.τ).loc Cert.BwdMla.main_arg9)
      ∧ r.2.mem ((c.tc : Thread Cert.BwdMla.nD Cert.BwdMla.τ).loc Cert.BwdMla.main_arg10) = m ((c.tc : Thread Cert.BwdMla.nD Cert.BwdMla.τ).loc Cert.BwdMla.main_arg10))
      ∧ r.2.sem = fun _ => 0)

def quiescent_BwdMlaIdeal [hBwdMlaIdeal : Cert.BwdMlaIdeal.Facts] : Prop :=
  ∀ (m : (ℓ : Loc Cert.BwdMlaIdeal.nD Cert.BwdMlaIdeal.τ Cert.BwdMlaIdeal.sig) → Buf (Elt Ideal) ℓ) (g : Dev Cert.BwdMlaIdeal.nD → PrngReg), Pre_BwdMlaIdeal m →
    θ_run (Cert.BwdMlaIdeal.defs (F := Ideal)) (onTc (τ := Cert.BwdMlaIdeal.τ) (Cert.BwdMlaIdeal.main (F := Ideal))) ⟨m, fun _ => 0, g⟩ (fun r => (∀ c : Dev Cert.BwdMlaIdeal.nD,
      r.2.mem ((c.tc : Thread Cert.BwdMlaIdeal.nD Cert.BwdMlaIdeal.τ).loc Cert.BwdMlaIdeal.main_arg0) = m ((c.tc : Thread Cert.BwdMlaIdeal.nD Cert.BwdMlaIdeal.τ).loc Cert.BwdMlaIdeal.main_arg0)
      ∧ r.2.mem ((c.tc : Thread Cert.BwdMlaIdeal.nD Cert.BwdMlaIdeal.τ).loc Cert.BwdMlaIdeal.main_arg1) = m ((c.tc : Thread Cert.BwdMlaIdeal.nD Cert.BwdMlaIdeal.τ).loc Cert.BwdMlaIdeal.main_arg1)
      ∧ r.2.mem ((c.tc : Thread Cert.BwdMlaIdeal.nD Cert.BwdMlaIdeal.τ).loc Cert.BwdMlaIdeal.main_arg2) = m ((c.tc : Thread Cert.BwdMlaIdeal.nD Cert.BwdMlaIdeal.τ).loc Cert.BwdMlaIdeal.main_arg2)
      ∧ r.2.mem ((c.tc : Thread Cert.BwdMlaIdeal.nD Cert.BwdMlaIdeal.τ).loc Cert.BwdMlaIdeal.main_arg3) = m ((c.tc : Thread Cert.BwdMlaIdeal.nD Cert.BwdMlaIdeal.τ).loc Cert.BwdMlaIdeal.main_arg3)
      ∧ r.2.mem ((c.tc : Thread Cert.BwdMlaIdeal.nD Cert.BwdMlaIdeal.τ).loc Cert.BwdMlaIdeal.main_arg4) = m ((c.tc : Thread Cert.BwdMlaIdeal.nD Cert.BwdMlaIdeal.τ).loc Cert.BwdMlaIdeal.main_arg4)
      ∧ r.2.mem ((c.tc : Thread Cert.BwdMlaIdeal.nD Cert.BwdMlaIdeal.τ).loc Cert.BwdMlaIdeal.main_arg5) = m ((c.tc : Thread Cert.BwdMlaIdeal.nD Cert.BwdMlaIdeal.τ).loc Cert.BwdMlaIdeal.main_arg5)
      ∧ r.2.mem ((c.tc : Thread Cert.BwdMlaIdeal.nD Cert.BwdMlaIdeal.τ).loc Cert.BwdMlaIdeal.main_arg6) = m ((c.tc : Thread Cert.BwdMlaIdeal.nD Cert.BwdMlaIdeal.τ).loc Cert.BwdMlaIdeal.main_arg6)
      ∧ r.2.mem ((c.tc : Thread Cert.BwdMlaIdeal.nD Cert.BwdMlaIdeal.τ).loc Cert.BwdMlaIdeal.main_arg7) = m ((c.tc : Thread Cert.BwdMlaIdeal.nD Cert.BwdMlaIdeal.τ).loc Cert.BwdMlaIdeal.main_arg7)
      ∧ r.2.mem ((c.tc : Thread Cert.BwdMlaIdeal.nD Cert.BwdMlaIdeal.τ).loc Cert.BwdMlaIdeal.main_arg8) = m ((c.tc : Thread Cert.BwdMlaIdeal.nD Cert.BwdMlaIdeal.τ).loc Cert.BwdMlaIdeal.main_arg8)
      ∧ r.2.mem ((c.tc : Thread Cert.BwdMlaIdeal.nD Cert.BwdMlaIdeal.τ).loc Cert.BwdMlaIdeal.main_arg9) = m ((c.tc : Thread Cert.BwdMlaIdeal.nD Cert.BwdMlaIdeal.τ).loc Cert.BwdMlaIdeal.main_arg9)
      ∧ r.2.mem ((c.tc : Thread Cert.BwdMlaIdeal.nD Cert.BwdMlaIdeal.τ).loc Cert.BwdMlaIdeal.main_arg10) = m ((c.tc : Thread Cert.BwdMlaIdeal.nD Cert.BwdMlaIdeal.τ).loc Cert.BwdMlaIdeal.main_arg10))
      ∧ r.2.sem = fun _ => 0)

def quiescent_BwdMlaIdeal_pre_finite_bwd_mla [hBwdMlaIdeal : Cert.BwdMlaIdeal.Facts] [hPre_finite_bwd_mla : Cert.Pre_finite_bwd_mla.Facts] : Prop :=
  ∀ (m : (ℓ : Loc Cert.BwdMlaIdeal.nD Cert.BwdMlaIdeal.τ Cert.BwdMlaIdeal.sig) → Buf (Elt Ideal) ℓ) (g : Dev Cert.BwdMlaIdeal.nD → PrngReg), Pre_BwdMlaIdeal_finite_bwd_mla m →
    θ_run (Cert.BwdMlaIdeal.defs (F := Ideal)) (onTc (τ := Cert.BwdMlaIdeal.τ) (Cert.BwdMlaIdeal.main (F := Ideal))) ⟨m, fun _ => 0, g⟩ (fun r => (∀ c : Dev Cert.BwdMlaIdeal.nD,
      r.2.mem ((c.tc : Thread Cert.BwdMlaIdeal.nD Cert.BwdMlaIdeal.τ).loc Cert.BwdMlaIdeal.main_arg0) = m ((c.tc : Thread Cert.BwdMlaIdeal.nD Cert.BwdMlaIdeal.τ).loc Cert.BwdMlaIdeal.main_arg0)
      ∧ r.2.mem ((c.tc : Thread Cert.BwdMlaIdeal.nD Cert.BwdMlaIdeal.τ).loc Cert.BwdMlaIdeal.main_arg1) = m ((c.tc : Thread Cert.BwdMlaIdeal.nD Cert.BwdMlaIdeal.τ).loc Cert.BwdMlaIdeal.main_arg1)
      ∧ r.2.mem ((c.tc : Thread Cert.BwdMlaIdeal.nD Cert.BwdMlaIdeal.τ).loc Cert.BwdMlaIdeal.main_arg2) = m ((c.tc : Thread Cert.BwdMlaIdeal.nD Cert.BwdMlaIdeal.τ).loc Cert.BwdMlaIdeal.main_arg2)
      ∧ r.2.mem ((c.tc : Thread Cert.BwdMlaIdeal.nD Cert.BwdMlaIdeal.τ).loc Cert.BwdMlaIdeal.main_arg3) = m ((c.tc : Thread Cert.BwdMlaIdeal.nD Cert.BwdMlaIdeal.τ).loc Cert.BwdMlaIdeal.main_arg3)
      ∧ r.2.mem ((c.tc : Thread Cert.BwdMlaIdeal.nD Cert.BwdMlaIdeal.τ).loc Cert.BwdMlaIdeal.main_arg4) = m ((c.tc : Thread Cert.BwdMlaIdeal.nD Cert.BwdMlaIdeal.τ).loc Cert.BwdMlaIdeal.main_arg4)
      ∧ r.2.mem ((c.tc : Thread Cert.BwdMlaIdeal.nD Cert.BwdMlaIdeal.τ).loc Cert.BwdMlaIdeal.main_arg5) = m ((c.tc : Thread Cert.BwdMlaIdeal.nD Cert.BwdMlaIdeal.τ).loc Cert.BwdMlaIdeal.main_arg5)
      ∧ r.2.mem ((c.tc : Thread Cert.BwdMlaIdeal.nD Cert.BwdMlaIdeal.τ).loc Cert.BwdMlaIdeal.main_arg6) = m ((c.tc : Thread Cert.BwdMlaIdeal.nD Cert.BwdMlaIdeal.τ).loc Cert.BwdMlaIdeal.main_arg6)
      ∧ r.2.mem ((c.tc : Thread Cert.BwdMlaIdeal.nD Cert.BwdMlaIdeal.τ).loc Cert.BwdMlaIdeal.main_arg7) = m ((c.tc : Thread Cert.BwdMlaIdeal.nD Cert.BwdMlaIdeal.τ).loc Cert.BwdMlaIdeal.main_arg7)
      ∧ r.2.mem ((c.tc : Thread Cert.BwdMlaIdeal.nD Cert.BwdMlaIdeal.τ).loc Cert.BwdMlaIdeal.main_arg8) = m ((c.tc : Thread Cert.BwdMlaIdeal.nD Cert.BwdMlaIdeal.τ).loc Cert.BwdMlaIdeal.main_arg8)
      ∧ r.2.mem ((c.tc : Thread Cert.BwdMlaIdeal.nD Cert.BwdMlaIdeal.τ).loc Cert.BwdMlaIdeal.main_arg9) = m ((c.tc : Thread Cert.BwdMlaIdeal.nD Cert.BwdMlaIdeal.τ).loc Cert.BwdMlaIdeal.main_arg9)
      ∧ r.2.mem ((c.tc : Thread Cert.BwdMlaIdeal.nD Cert.BwdMlaIdeal.τ).loc Cert.BwdMlaIdeal.main_arg10) = m ((c.tc : Thread Cert.BwdMlaIdeal.nD Cert.BwdMlaIdeal.τ).loc Cert.BwdMlaIdeal.main_arg10))
      ∧ r.2.sem = fun _ => 0)

def quiescent_MlaVjpIdeal [hMlaVjpIdeal : Cert.MlaVjpIdeal.Facts] : Prop :=
  ∀ (m : (ℓ : Loc Cert.MlaVjpIdeal.nD Cert.MlaVjpIdeal.τ Cert.MlaVjpIdeal.sig) → Buf (Elt Ideal) ℓ) (g : Dev Cert.MlaVjpIdeal.nD → PrngReg), Pre_MlaVjpIdeal m →
    θ_run (Cert.MlaVjpIdeal.defs (F := Ideal)) (onTc (τ := Cert.MlaVjpIdeal.τ) (Cert.MlaVjpIdeal.main (F := Ideal))) ⟨m, fun _ => 0, g⟩ (fun r => (∀ c : Dev Cert.MlaVjpIdeal.nD,
      r.2.mem ((c.tc : Thread Cert.MlaVjpIdeal.nD Cert.MlaVjpIdeal.τ).loc Cert.MlaVjpIdeal.main_arg0) = m ((c.tc : Thread Cert.MlaVjpIdeal.nD Cert.MlaVjpIdeal.τ).loc Cert.MlaVjpIdeal.main_arg0)
      ∧ r.2.mem ((c.tc : Thread Cert.MlaVjpIdeal.nD Cert.MlaVjpIdeal.τ).loc Cert.MlaVjpIdeal.main_arg1) = m ((c.tc : Thread Cert.MlaVjpIdeal.nD Cert.MlaVjpIdeal.τ).loc Cert.MlaVjpIdeal.main_arg1)
      ∧ r.2.mem ((c.tc : Thread Cert.MlaVjpIdeal.nD Cert.MlaVjpIdeal.τ).loc Cert.MlaVjpIdeal.main_arg2) = m ((c.tc : Thread Cert.MlaVjpIdeal.nD Cert.MlaVjpIdeal.τ).loc Cert.MlaVjpIdeal.main_arg2)
      ∧ r.2.mem ((c.tc : Thread Cert.MlaVjpIdeal.nD Cert.MlaVjpIdeal.τ).loc Cert.MlaVjpIdeal.main_arg3) = m ((c.tc : Thread Cert.MlaVjpIdeal.nD Cert.MlaVjpIdeal.τ).loc Cert.MlaVjpIdeal.main_arg3)
      ∧ r.2.mem ((c.tc : Thread Cert.MlaVjpIdeal.nD Cert.MlaVjpIdeal.τ).loc Cert.MlaVjpIdeal.main_arg4) = m ((c.tc : Thread Cert.MlaVjpIdeal.nD Cert.MlaVjpIdeal.τ).loc Cert.MlaVjpIdeal.main_arg4)
      ∧ r.2.mem ((c.tc : Thread Cert.MlaVjpIdeal.nD Cert.MlaVjpIdeal.τ).loc Cert.MlaVjpIdeal.main_arg5) = m ((c.tc : Thread Cert.MlaVjpIdeal.nD Cert.MlaVjpIdeal.τ).loc Cert.MlaVjpIdeal.main_arg5)
      ∧ r.2.mem ((c.tc : Thread Cert.MlaVjpIdeal.nD Cert.MlaVjpIdeal.τ).loc Cert.MlaVjpIdeal.main_arg6) = m ((c.tc : Thread Cert.MlaVjpIdeal.nD Cert.MlaVjpIdeal.τ).loc Cert.MlaVjpIdeal.main_arg6)
      ∧ r.2.mem ((c.tc : Thread Cert.MlaVjpIdeal.nD Cert.MlaVjpIdeal.τ).loc Cert.MlaVjpIdeal.main_arg7) = m ((c.tc : Thread Cert.MlaVjpIdeal.nD Cert.MlaVjpIdeal.τ).loc Cert.MlaVjpIdeal.main_arg7)
      ∧ r.2.mem ((c.tc : Thread Cert.MlaVjpIdeal.nD Cert.MlaVjpIdeal.τ).loc Cert.MlaVjpIdeal.main_arg8) = m ((c.tc : Thread Cert.MlaVjpIdeal.nD Cert.MlaVjpIdeal.τ).loc Cert.MlaVjpIdeal.main_arg8)
      ∧ r.2.mem ((c.tc : Thread Cert.MlaVjpIdeal.nD Cert.MlaVjpIdeal.τ).loc Cert.MlaVjpIdeal.main_arg9) = m ((c.tc : Thread Cert.MlaVjpIdeal.nD Cert.MlaVjpIdeal.τ).loc Cert.MlaVjpIdeal.main_arg9)
      ∧ r.2.mem ((c.tc : Thread Cert.MlaVjpIdeal.nD Cert.MlaVjpIdeal.τ).loc Cert.MlaVjpIdeal.main_arg10) = m ((c.tc : Thread Cert.MlaVjpIdeal.nD Cert.MlaVjpIdeal.τ).loc Cert.MlaVjpIdeal.main_arg10))
      ∧ r.2.sem = fun _ => 0)

def quiescent_MlaVjpIdeal_pre_finite_bwd_mla [hMlaVjpIdeal : Cert.MlaVjpIdeal.Facts] [hPre_finite_bwd_mla : Cert.Pre_finite_bwd_mla.Facts] : Prop :=
  ∀ (m : (ℓ : Loc Cert.MlaVjpIdeal.nD Cert.MlaVjpIdeal.τ Cert.MlaVjpIdeal.sig) → Buf (Elt Ideal) ℓ) (g : Dev Cert.MlaVjpIdeal.nD → PrngReg), Pre_MlaVjpIdeal_finite_bwd_mla m →
    θ_run (Cert.MlaVjpIdeal.defs (F := Ideal)) (onTc (τ := Cert.MlaVjpIdeal.τ) (Cert.MlaVjpIdeal.main (F := Ideal))) ⟨m, fun _ => 0, g⟩ (fun r => (∀ c : Dev Cert.MlaVjpIdeal.nD,
      r.2.mem ((c.tc : Thread Cert.MlaVjpIdeal.nD Cert.MlaVjpIdeal.τ).loc Cert.MlaVjpIdeal.main_arg0) = m ((c.tc : Thread Cert.MlaVjpIdeal.nD Cert.MlaVjpIdeal.τ).loc Cert.MlaVjpIdeal.main_arg0)
      ∧ r.2.mem ((c.tc : Thread Cert.MlaVjpIdeal.nD Cert.MlaVjpIdeal.τ).loc Cert.MlaVjpIdeal.main_arg1) = m ((c.tc : Thread Cert.MlaVjpIdeal.nD Cert.MlaVjpIdeal.τ).loc Cert.MlaVjpIdeal.main_arg1)
      ∧ r.2.mem ((c.tc : Thread Cert.MlaVjpIdeal.nD Cert.MlaVjpIdeal.τ).loc Cert.MlaVjpIdeal.main_arg2) = m ((c.tc : Thread Cert.MlaVjpIdeal.nD Cert.MlaVjpIdeal.τ).loc Cert.MlaVjpIdeal.main_arg2)
      ∧ r.2.mem ((c.tc : Thread Cert.MlaVjpIdeal.nD Cert.MlaVjpIdeal.τ).loc Cert.MlaVjpIdeal.main_arg3) = m ((c.tc : Thread Cert.MlaVjpIdeal.nD Cert.MlaVjpIdeal.τ).loc Cert.MlaVjpIdeal.main_arg3)
      ∧ r.2.mem ((c.tc : Thread Cert.MlaVjpIdeal.nD Cert.MlaVjpIdeal.τ).loc Cert.MlaVjpIdeal.main_arg4) = m ((c.tc : Thread Cert.MlaVjpIdeal.nD Cert.MlaVjpIdeal.τ).loc Cert.MlaVjpIdeal.main_arg4)
      ∧ r.2.mem ((c.tc : Thread Cert.MlaVjpIdeal.nD Cert.MlaVjpIdeal.τ).loc Cert.MlaVjpIdeal.main_arg5) = m ((c.tc : Thread Cert.MlaVjpIdeal.nD Cert.MlaVjpIdeal.τ).loc Cert.MlaVjpIdeal.main_arg5)
      ∧ r.2.mem ((c.tc : Thread Cert.MlaVjpIdeal.nD Cert.MlaVjpIdeal.τ).loc Cert.MlaVjpIdeal.main_arg6) = m ((c.tc : Thread Cert.MlaVjpIdeal.nD Cert.MlaVjpIdeal.τ).loc Cert.MlaVjpIdeal.main_arg6)
      ∧ r.2.mem ((c.tc : Thread Cert.MlaVjpIdeal.nD Cert.MlaVjpIdeal.τ).loc Cert.MlaVjpIdeal.main_arg7) = m ((c.tc : Thread Cert.MlaVjpIdeal.nD Cert.MlaVjpIdeal.τ).loc Cert.MlaVjpIdeal.main_arg7)
      ∧ r.2.mem ((c.tc : Thread Cert.MlaVjpIdeal.nD Cert.MlaVjpIdeal.τ).loc Cert.MlaVjpIdeal.main_arg8) = m ((c.tc : Thread Cert.MlaVjpIdeal.nD Cert.MlaVjpIdeal.τ).loc Cert.MlaVjpIdeal.main_arg8)
      ∧ r.2.mem ((c.tc : Thread Cert.MlaVjpIdeal.nD Cert.MlaVjpIdeal.τ).loc Cert.MlaVjpIdeal.main_arg9) = m ((c.tc : Thread Cert.MlaVjpIdeal.nD Cert.MlaVjpIdeal.τ).loc Cert.MlaVjpIdeal.main_arg9)
      ∧ r.2.mem ((c.tc : Thread Cert.MlaVjpIdeal.nD Cert.MlaVjpIdeal.τ).loc Cert.MlaVjpIdeal.main_arg10) = m ((c.tc : Thread Cert.MlaVjpIdeal.nD Cert.MlaVjpIdeal.τ).loc Cert.MlaVjpIdeal.main_arg10))
      ∧ r.2.sem = fun _ => 0)

def quiescent_BwdGla [hBwdGla : Cert.BwdGla.Facts] : Prop :=
  ∀ (m : (ℓ : Loc Cert.BwdGla.nD Cert.BwdGla.τ Cert.BwdGla.sig) → Buf (Elt Bits) ℓ) (g : Dev Cert.BwdGla.nD → PrngReg), Pre_BwdGla m →
    θ_run (Cert.BwdGla.defs (F := Bits)) (onTc (τ := Cert.BwdGla.τ) (Cert.BwdGla.main (F := Bits))) ⟨m, fun _ => 0, g⟩ (fun r => (∀ c : Dev Cert.BwdGla.nD,
      r.2.mem ((c.tc : Thread Cert.BwdGla.nD Cert.BwdGla.τ).loc Cert.BwdGla.main_arg0) = m ((c.tc : Thread Cert.BwdGla.nD Cert.BwdGla.τ).loc Cert.BwdGla.main_arg0)
      ∧ r.2.mem ((c.tc : Thread Cert.BwdGla.nD Cert.BwdGla.τ).loc Cert.BwdGla.main_arg1) = m ((c.tc : Thread Cert.BwdGla.nD Cert.BwdGla.τ).loc Cert.BwdGla.main_arg1)
      ∧ r.2.mem ((c.tc : Thread Cert.BwdGla.nD Cert.BwdGla.τ).loc Cert.BwdGla.main_arg2) = m ((c.tc : Thread Cert.BwdGla.nD Cert.BwdGla.τ).loc Cert.BwdGla.main_arg2))
      ∧ r.2.sem = fun _ => 0)

def quiescent_BwdGlaIdeal [hBwdGlaIdeal : Cert.BwdGlaIdeal.Facts] : Prop :=
  ∀ (m : (ℓ : Loc Cert.BwdGlaIdeal.nD Cert.BwdGlaIdeal.τ Cert.BwdGlaIdeal.sig) → Buf (Elt Ideal) ℓ) (g : Dev Cert.BwdGlaIdeal.nD → PrngReg), Pre_BwdGlaIdeal m →
    θ_run (Cert.BwdGlaIdeal.defs (F := Ideal)) (onTc (τ := Cert.BwdGlaIdeal.τ) (Cert.BwdGlaIdeal.main (F := Ideal))) ⟨m, fun _ => 0, g⟩ (fun r => (∀ c : Dev Cert.BwdGlaIdeal.nD,
      r.2.mem ((c.tc : Thread Cert.BwdGlaIdeal.nD Cert.BwdGlaIdeal.τ).loc Cert.BwdGlaIdeal.main_arg0) = m ((c.tc : Thread Cert.BwdGlaIdeal.nD Cert.BwdGlaIdeal.τ).loc Cert.BwdGlaIdeal.main_arg0)
      ∧ r.2.mem ((c.tc : Thread Cert.BwdGlaIdeal.nD Cert.BwdGlaIdeal.τ).loc Cert.BwdGlaIdeal.main_arg1) = m ((c.tc : Thread Cert.BwdGlaIdeal.nD Cert.BwdGlaIdeal.τ).loc Cert.BwdGlaIdeal.main_arg1)
      ∧ r.2.mem ((c.tc : Thread Cert.BwdGlaIdeal.nD Cert.BwdGlaIdeal.τ).loc Cert.BwdGlaIdeal.main_arg2) = m ((c.tc : Thread Cert.BwdGlaIdeal.nD Cert.BwdGlaIdeal.τ).loc Cert.BwdGlaIdeal.main_arg2))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5)
      ∧ r.2.mem ((c.tc : Thread Cert.FwdMix.nD Cert.FwdMix.τ).loc Cert.FwdMix.main_arg6) = m ((c.tc : Thread Cert.FwdMix.nD Cert.FwdMix.τ).loc Cert.FwdMix.main_arg6)
      ∧ r.2.mem ((c.tc : Thread Cert.FwdMix.nD Cert.FwdMix.τ).loc Cert.FwdMix.main_arg7) = m ((c.tc : Thread Cert.FwdMix.nD Cert.FwdMix.τ).loc Cert.FwdMix.main_arg7)
      ∧ r.2.mem ((c.tc : Thread Cert.FwdMix.nD Cert.FwdMix.τ).loc Cert.FwdMix.main_arg8) = m ((c.tc : Thread Cert.FwdMix.nD Cert.FwdMix.τ).loc Cert.FwdMix.main_arg8)
      ∧ r.2.mem ((c.tc : Thread Cert.FwdMix.nD Cert.FwdMix.τ).loc Cert.FwdMix.main_arg9) = m ((c.tc : Thread Cert.FwdMix.nD Cert.FwdMix.τ).loc Cert.FwdMix.main_arg9))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
      ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8)
      ∧ r.2.mem ((c.tc : Thread Cert.FwdMixIdeal.nD Cert.FwdMixIdeal.τ).loc Cert.FwdMixIdeal.main_arg9) = m ((c.tc : Thread Cert.FwdMixIdeal.nD Cert.FwdMixIdeal.τ).loc Cert.FwdMixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_FwdMla [hFwdMla : Cert.FwdMla.Facts] : Prop :=
  ∀ (m : (ℓ : Loc Cert.FwdMla.nD Cert.FwdMla.τ Cert.FwdMla.sig) → Buf (Elt Bits) ℓ) (g : Dev Cert.FwdMla.nD → PrngReg), Pre_FwdMla m →
    θ_run (Cert.FwdMla.defs (F := Bits)) (onTc (τ := Cert.FwdMla.τ) (Cert.FwdMla.main (F := Bits))) ⟨m, fun _ => 0, g⟩ (fun r => (∀ c : Dev Cert.FwdMla.nD,
      r.2.mem ((c.tc : Thread Cert.FwdMla.nD Cert.FwdMla.τ).loc Cert.FwdMla.main_arg0) = m ((c.tc : Thread Cert.FwdMla.nD Cert.FwdMla.τ).loc Cert.FwdMla.main_arg0)
      ∧ r.2.mem ((c.tc : Thread Cert.FwdMla.nD Cert.FwdMla.τ).loc Cert.FwdMla.main_arg1) = m ((c.tc : Thread Cert.FwdMla.nD Cert.FwdMla.τ).loc Cert.FwdMla.main_arg1)
      ∧ r.2.mem ((c.tc : Thread Cert.FwdMla.nD Cert.FwdMla.τ).loc Cert.FwdMla.main_arg2) = m ((c.tc : Thread Cert.FwdMla.nD Cert.FwdMla.τ).loc Cert.FwdMla.main_arg2)
      ∧ r.2.mem ((c.tc : Thread Cert.FwdMla.nD Cert.FwdMla.τ).loc Cert.FwdMla.main_arg3) = m ((c.tc : Thread Cert.FwdMla.nD Cert.FwdMla.τ).loc Cert.FwdMla.main_arg3)
      ∧ r.2.mem ((c.tc : Thread Cert.FwdMla.nD Cert.FwdMla.τ).loc Cert.FwdMla.main_arg4) = m ((c.tc : Thread Cert.FwdMla.nD Cert.FwdMla.τ).loc Cert.FwdMla.main_arg4)
      ∧ r.2.mem ((c.tc : Thread Cert.FwdMla.nD Cert.FwdMla.τ).loc Cert.FwdMla.main_arg5) = m ((c.tc : Thread Cert.FwdMla.nD Cert.FwdMla.τ).loc Cert.FwdMla.main_arg5)
      ∧ r.2.mem ((c.tc : Thread Cert.FwdMla.nD Cert.FwdMla.τ).loc Cert.FwdMla.main_arg6) = m ((c.tc : Thread Cert.FwdMla.nD Cert.FwdMla.τ).loc Cert.FwdMla.main_arg6)
      ∧ r.2.mem ((c.tc : Thread Cert.FwdMla.nD Cert.FwdMla.τ).loc Cert.FwdMla.main_arg7) = m ((c.tc : Thread Cert.FwdMla.nD Cert.FwdMla.τ).loc Cert.FwdMla.main_arg7))
      ∧ r.2.sem = fun _ => 0)

def quiescent_FwdMlaIdeal [hFwdMlaIdeal : Cert.FwdMlaIdeal.Facts] : Prop :=
  ∀ (m : (ℓ : Loc Cert.FwdMlaIdeal.nD Cert.FwdMlaIdeal.τ Cert.FwdMlaIdeal.sig) → Buf (Elt Ideal) ℓ) (g : Dev Cert.FwdMlaIdeal.nD → PrngReg), Pre_FwdMlaIdeal m →
    θ_run (Cert.FwdMlaIdeal.defs (F := Ideal)) (onTc (τ := Cert.FwdMlaIdeal.τ) (Cert.FwdMlaIdeal.main (F := Ideal))) ⟨m, fun _ => 0, g⟩ (fun r => (∀ c : Dev Cert.FwdMlaIdeal.nD,
      r.2.mem ((c.tc : Thread Cert.FwdMlaIdeal.nD Cert.FwdMlaIdeal.τ).loc Cert.FwdMlaIdeal.main_arg0) = m ((c.tc : Thread Cert.FwdMlaIdeal.nD Cert.FwdMlaIdeal.τ).loc Cert.FwdMlaIdeal.main_arg0)
      ∧ r.2.mem ((c.tc : Thread Cert.FwdMlaIdeal.nD Cert.FwdMlaIdeal.τ).loc Cert.FwdMlaIdeal.main_arg1) = m ((c.tc : Thread Cert.FwdMlaIdeal.nD Cert.FwdMlaIdeal.τ).loc Cert.FwdMlaIdeal.main_arg1)
      ∧ r.2.mem ((c.tc : Thread Cert.FwdMlaIdeal.nD Cert.FwdMlaIdeal.τ).loc Cert.FwdMlaIdeal.main_arg2) = m ((c.tc : Thread Cert.FwdMlaIdeal.nD Cert.FwdMlaIdeal.τ).loc Cert.FwdMlaIdeal.main_arg2)
      ∧ r.2.mem ((c.tc : Thread Cert.FwdMlaIdeal.nD Cert.FwdMlaIdeal.τ).loc Cert.FwdMlaIdeal.main_arg3) = m ((c.tc : Thread Cert.FwdMlaIdeal.nD Cert.FwdMlaIdeal.τ).loc Cert.FwdMlaIdeal.main_arg3)
      ∧ r.2.mem ((c.tc : Thread Cert.FwdMlaIdeal.nD Cert.FwdMlaIdeal.τ).loc Cert.FwdMlaIdeal.main_arg4) = m ((c.tc : Thread Cert.FwdMlaIdeal.nD Cert.FwdMlaIdeal.τ).loc Cert.FwdMlaIdeal.main_arg4)
      ∧ r.2.mem ((c.tc : Thread Cert.FwdMlaIdeal.nD Cert.FwdMlaIdeal.τ).loc Cert.FwdMlaIdeal.main_arg5) = m ((c.tc : Thread Cert.FwdMlaIdeal.nD Cert.FwdMlaIdeal.τ).loc Cert.FwdMlaIdeal.main_arg5)
      ∧ r.2.mem ((c.tc : Thread Cert.FwdMlaIdeal.nD Cert.FwdMlaIdeal.τ).loc Cert.FwdMlaIdeal.main_arg6) = m ((c.tc : Thread Cert.FwdMlaIdeal.nD Cert.FwdMlaIdeal.τ).loc Cert.FwdMlaIdeal.main_arg6)
      ∧ r.2.mem ((c.tc : Thread Cert.FwdMlaIdeal.nD Cert.FwdMlaIdeal.τ).loc Cert.FwdMlaIdeal.main_arg7) = m ((c.tc : Thread Cert.FwdMlaIdeal.nD Cert.FwdMlaIdeal.τ).loc Cert.FwdMlaIdeal.main_arg7))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7))
      ∧ r.2.sem = fun _ => 0)

def preserves_FfnHidden_FfnHiddenIdeal : Prop :=
  True

def algebraic_FfnHiddenIdeal_FfnHiddenVjpIdeal_pre_finite_ffn_hidden [hFfnHiddenIdeal : Cert.FfnHiddenIdeal.Facts] [hFfnHiddenVjpIdeal : Cert.FfnHiddenVjpIdeal.Facts] [hPre_finite_ffn_hidden : Cert.Pre_finite_ffn_hidden.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg)
    (m' : (ℓ : Loc Cert.FfnHiddenVjpIdeal.nD Cert.FfnHiddenVjpIdeal.τ Cert.FfnHiddenVjpIdeal.sig) → Buf (Elt Ideal) ℓ) (g' : Dev Cert.FfnHiddenVjpIdeal.nD → PrngReg), Pre_FfnHiddenIdeal_finite_ffn_hidden m →
    (∀ c : Dev Cert.FfnHiddenIdeal.nD,
      m' ((c.tc : Thread Cert.FfnHiddenVjpIdeal.nD Cert.FfnHiddenVjpIdeal.τ).loc Cert.FfnHiddenVjpIdeal.main_arg0) = m ((c.tc : Thread Cert.FfnHiddenIdeal.nD Cert.FfnHiddenIdeal.τ).loc Cert.FfnHiddenIdeal.main_arg0)
      ∧ m' ((c.tc : Thread Cert.FfnHiddenVjpIdeal.nD Cert.FfnHiddenVjpIdeal.τ).loc Cert.FfnHiddenVjpIdeal.main_arg1) = m ((c.tc : Thread Cert.FfnHiddenIdeal.nD Cert.FfnHiddenIdeal.τ).loc Cert.FfnHiddenIdeal.main_arg1)
      ∧ m' ((c.tc : Thread Cert.FfnHiddenVjpIdeal.nD Cert.FfnHiddenVjpIdeal.τ).loc Cert.FfnHiddenVjpIdeal.main_arg2) = m ((c.tc : Thread Cert.FfnHiddenIdeal.nD Cert.FfnHiddenIdeal.τ).loc Cert.FfnHiddenIdeal.main_arg2)
      ∧ m' ((c.tc : Thread Cert.FfnHiddenVjpIdeal.nD Cert.FfnHiddenVjpIdeal.τ).loc Cert.FfnHiddenVjpIdeal.main_arg3) = m ((c.tc : Thread Cert.FfnHiddenIdeal.nD Cert.FfnHiddenIdeal.τ).loc Cert.FfnHiddenIdeal.main_arg3)) →
    ∃ (v0 : (c : Dev Cert.FfnHiddenIdeal.nD) → Buf (Elt Ideal) ((c.tc : Thread Cert.FfnHiddenIdeal.nD Cert.FfnHiddenIdeal.τ).loc Cert.FfnHiddenIdeal.main_v0_0)) (v1 : (c : Dev Cert.FfnHiddenIdeal.nD) → Buf (Elt Ideal) ((c.tc : Thread Cert.FfnHiddenIdeal.nD Cert.FfnHiddenIdeal.τ).loc Cert.FfnHiddenIdeal.main_v0_1)) (v2 : (c : Dev Cert.FfnHiddenIdeal.nD) → Buf (Elt Ideal) ((c.tc : Thread Cert.FfnHiddenIdeal.nD Cert.FfnHiddenIdeal.τ).loc Cert.FfnHiddenIdeal.main_v0_2)),
      θ_run (Cert.FfnHiddenIdeal.defs (F := Ideal)) (onTc (τ := Cert.FfnHiddenIdeal.τ) (Cert.FfnHiddenIdeal.main (F := Ideal))) ⟨m, fun _ => 0, g⟩ (fun r => ∀ c : Dev Cert.FfnHiddenIdeal.nD,
          r.2.mem ((c.tc : Thread Cert.FfnHiddenIdeal.nD Cert.FfnHiddenIdeal.τ).loc Cert.FfnHiddenIdeal.main_v0_0) = v0 c
          ∧ r.2.mem ((c.tc : Thread Cert.FfnHiddenIdeal.nD Cert.FfnHiddenIdeal.τ).loc Cert.FfnHiddenIdeal.main_v0_1) = v1 c
          ∧ r.2.mem ((c.tc : Thread Cert.FfnHiddenIdeal.nD Cert.FfnHiddenIdeal.τ).loc Cert.FfnHiddenIdeal.main_v0_2) = v2 c
          ∧ r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
          ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
          ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
          ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3))
      ∧ θ_run (Cert.FfnHiddenVjpIdeal.defs (F := Ideal)) (onTc (τ := Cert.FfnHiddenVjpIdeal.τ) (Cert.FfnHiddenVjpIdeal.main (F := Ideal))) ⟨m', fun _ => 0, g'⟩ (fun r => ∀ c : Dev Cert.FfnHiddenVjpIdeal.nD,
          r.2.mem ((c.tc : Thread Cert.FfnHiddenVjpIdeal.nD Cert.FfnHiddenVjpIdeal.τ).loc Cert.FfnHiddenVjpIdeal.main_v12) = v0 c
          ∧ r.2.mem ((c.tc : Thread Cert.FfnHiddenVjpIdeal.nD Cert.FfnHiddenVjpIdeal.τ).loc Cert.FfnHiddenVjpIdeal.main_v13) = v1 c
          ∧ r.2.mem ((c.tc : Thread Cert.FfnHiddenVjpIdeal.nD Cert.FfnHiddenVjpIdeal.τ).loc Cert.FfnHiddenVjpIdeal.main_v14) = v2 c
          ∧ r.2.mem ((c.tc : Thread Cert.FfnHiddenVjpIdeal.nD Cert.FfnHiddenVjpIdeal.τ).loc Cert.FfnHiddenVjpIdeal.main_arg0) = m' ((c.tc : Thread Cert.FfnHiddenVjpIdeal.nD Cert.FfnHiddenVjpIdeal.τ).loc Cert.FfnHiddenVjpIdeal.main_arg0)
          ∧ r.2.mem ((c.tc : Thread Cert.FfnHiddenVjpIdeal.nD Cert.FfnHiddenVjpIdeal.τ).loc Cert.FfnHiddenVjpIdeal.main_arg1) = m' ((c.tc : Thread Cert.FfnHiddenVjpIdeal.nD Cert.FfnHiddenVjpIdeal.τ).loc Cert.FfnHiddenVjpIdeal.main_arg1)
          ∧ r.2.mem ((c.tc : Thread Cert.FfnHiddenVjpIdeal.nD Cert.FfnHiddenVjpIdeal.τ).loc Cert.FfnHiddenVjpIdeal.main_arg2) = m' ((c.tc : Thread Cert.FfnHiddenVjpIdeal.nD Cert.FfnHiddenVjpIdeal.τ).loc Cert.FfnHiddenVjpIdeal.main_arg2)
          ∧ r.2.mem ((c.tc : Thread Cert.FfnHiddenVjpIdeal.nD Cert.FfnHiddenVjpIdeal.τ).loc Cert.FfnHiddenVjpIdeal.main_arg3) = m' ((c.tc : Thread Cert.FfnHiddenVjpIdeal.nD Cert.FfnHiddenVjpIdeal.τ).loc Cert.FfnHiddenVjpIdeal.main_arg3))

def preserves_BwdAttn_BwdAttnIdeal : Prop :=
  IdealRules.named_const.Statement Cert.BwdAttnIdeal.κ "scale_log2_e" .f32 0x3DD53B95#32 (((Real.sqrt 192)⁻¹ * (Real.log 2)⁻¹ : ℝ) : EReal)
  ∧ IdealRules.named_const.Statement Cert.BwdAttnIdeal.κ "scale" .f32 0x3D93CD3A#32 (((Real.sqrt 192)⁻¹ : ℝ) : EReal)

def algebraic_BwdAttnIdeal_AttnVjpIdeal_pre_finite_bwd_attn [hBwdAttnIdeal : Cert.BwdAttnIdeal.Facts] [hAttnVjpIdeal : Cert.AttnVjpIdeal.Facts] [hPre_finite_bwd_attn : Cert.Pre_finite_bwd_attn.Facts] : Prop :=
  ∀ (m : (ℓ : Loc Cert.BwdAttnIdeal.nD Cert.BwdAttnIdeal.τ Cert.BwdAttnIdeal.sig) → Buf (Elt Ideal) ℓ) (g : Dev Cert.BwdAttnIdeal.nD → PrngReg)
    (m' : (ℓ : Loc Cert.AttnVjpIdeal.nD Cert.AttnVjpIdeal.τ Cert.AttnVjpIdeal.sig) → Buf (Elt Ideal) ℓ) (g' : Dev Cert.AttnVjpIdeal.nD → PrngReg), Pre_BwdAttnIdeal_finite_bwd_attn m →
    (∀ c : Dev Cert.BwdAttnIdeal.nD,
      m' ((c.tc : Thread Cert.AttnVjpIdeal.nD Cert.AttnVjpIdeal.τ).loc Cert.AttnVjpIdeal.main_arg0) = m ((c.tc : Thread Cert.BwdAttnIdeal.nD Cert.BwdAttnIdeal.τ).loc Cert.BwdAttnIdeal.main_arg0)
      ∧ m' ((c.tc : Thread Cert.AttnVjpIdeal.nD Cert.AttnVjpIdeal.τ).loc Cert.AttnVjpIdeal.main_arg1) = m ((c.tc : Thread Cert.BwdAttnIdeal.nD Cert.BwdAttnIdeal.τ).loc Cert.BwdAttnIdeal.main_arg1)
      ∧ m' ((c.tc : Thread Cert.AttnVjpIdeal.nD Cert.AttnVjpIdeal.τ).loc Cert.AttnVjpIdeal.main_arg2) = m ((c.tc : Thread Cert.BwdAttnIdeal.nD Cert.BwdAttnIdeal.τ).loc Cert.BwdAttnIdeal.main_arg2)
      ∧ m' ((c.tc : Thread Cert.AttnVjpIdeal.nD Cert.AttnVjpIdeal.τ).loc Cert.AttnVjpIdeal.main_arg3) = m ((c.tc : Thread Cert.BwdAttnIdeal.nD Cert.BwdAttnIdeal.τ).loc Cert.BwdAttnIdeal.main_arg3)
      ∧ m' ((c.tc : Thread Cert.AttnVjpIdeal.nD Cert.AttnVjpIdeal.τ).loc Cert.AttnVjpIdeal.main_arg4) = m ((c.tc : Thread Cert.BwdAttnIdeal.nD Cert.BwdAttnIdeal.τ).loc Cert.BwdAttnIdeal.main_arg4)) →
    ∃ (v0 : (c : Dev Cert.BwdAttnIdeal.nD) → Buf (Elt Ideal) ((c.tc : Thread Cert.BwdAttnIdeal.nD Cert.BwdAttnIdeal.τ).loc Cert.BwdAttnIdeal.main_v30_0)) (v1 : (c : Dev Cert.BwdAttnIdeal.nD) → Buf (Elt Ideal) ((c.tc : Thread Cert.BwdAttnIdeal.nD Cert.BwdAttnIdeal.τ).loc Cert.BwdAttnIdeal.main_v30_1)) (v2 : (c : Dev Cert.BwdAttnIdeal.nD) → Buf (Elt Ideal) ((c.tc : Thread Cert.BwdAttnIdeal.nD Cert.BwdAttnIdeal.τ).loc Cert.BwdAttnIdeal.main_v30_2)),
      θ_run (Cert.BwdAttnIdeal.defs (F := Ideal)) (onTc (τ := Cert.BwdAttnIdeal.τ) (Cert.BwdAttnIdeal.main (F := Ideal))) ⟨m, fun _ => 0, g⟩ (fun r => ∀ c : Dev Cert.BwdAttnIdeal.nD,
          r.2.mem ((c.tc : Thread Cert.BwdAttnIdeal.nD Cert.BwdAttnIdeal.τ).loc Cert.BwdAttnIdeal.main_v30_0) = v0 c
          ∧ r.2.mem ((c.tc : Thread Cert.BwdAttnIdeal.nD Cert.BwdAttnIdeal.τ).loc Cert.BwdAttnIdeal.main_v30_1) = v1 c
          ∧ r.2.mem ((c.tc : Thread Cert.BwdAttnIdeal.nD Cert.BwdAttnIdeal.τ).loc Cert.BwdAttnIdeal.main_v30_2) = v2 c
          ∧ r.2.mem ((c.tc : Thread Cert.BwdAttnIdeal.nD Cert.BwdAttnIdeal.τ).loc Cert.BwdAttnIdeal.main_arg0) = m ((c.tc : Thread Cert.BwdAttnIdeal.nD Cert.BwdAttnIdeal.τ).loc Cert.BwdAttnIdeal.main_arg0)
          ∧ r.2.mem ((c.tc : Thread Cert.BwdAttnIdeal.nD Cert.BwdAttnIdeal.τ).loc Cert.BwdAttnIdeal.main_arg1) = m ((c.tc : Thread Cert.BwdAttnIdeal.nD Cert.BwdAttnIdeal.τ).loc Cert.BwdAttnIdeal.main_arg1)
          ∧ r.2.mem ((c.tc : Thread Cert.BwdAttnIdeal.nD Cert.BwdAttnIdeal.τ).loc Cert.BwdAttnIdeal.main_arg2) = m ((c.tc : Thread Cert.BwdAttnIdeal.nD Cert.BwdAttnIdeal.τ).loc Cert.BwdAttnIdeal.main_arg2)
          ∧ r.2.mem ((c.tc : Thread Cert.BwdAttnIdeal.nD Cert.BwdAttnIdeal.τ).loc Cert.BwdAttnIdeal.main_arg3) = m ((c.tc : Thread Cert.BwdAttnIdeal.nD Cert.BwdAttnIdeal.τ).loc Cert.BwdAttnIdeal.main_arg3)
          ∧ r.2.mem ((c.tc : Thread Cert.BwdAttnIdeal.nD Cert.BwdAttnIdeal.τ).loc Cert.BwdAttnIdeal.main_arg4) = m ((c.tc : Thread Cert.BwdAttnIdeal.nD Cert.BwdAttnIdeal.τ).loc Cert.BwdAttnIdeal.main_arg4))
      ∧ θ_run (Cert.AttnVjpIdeal.defs (F := Ideal)) (onTc (τ := Cert.AttnVjpIdeal.τ) (Cert.AttnVjpIdeal.main (F := Ideal))) ⟨m', fun _ => 0, g'⟩ (fun r => ∀ c : Dev Cert.AttnVjpIdeal.nD,
          r.2.mem ((c.tc : Thread Cert.AttnVjpIdeal.nD Cert.AttnVjpIdeal.τ).loc Cert.AttnVjpIdeal.main_v62) = v0 c
          ∧ r.2.mem ((c.tc : Thread Cert.AttnVjpIdeal.nD Cert.AttnVjpIdeal.τ).loc Cert.AttnVjpIdeal.main_v64) = v1 c
          ∧ r.2.mem ((c.tc : Thread Cert.AttnVjpIdeal.nD Cert.AttnVjpIdeal.τ).loc Cert.AttnVjpIdeal.main_v65) = v2 c
          ∧ r.2.mem ((c.tc : Thread Cert.AttnVjpIdeal.nD Cert.AttnVjpIdeal.τ).loc Cert.AttnVjpIdeal.main_arg0) = m' ((c.tc : Thread Cert.AttnVjpIdeal.nD Cert.AttnVjpIdeal.τ).loc Cert.AttnVjpIdeal.main_arg0)
          ∧ r.2.mem ((c.tc : Thread Cert.AttnVjpIdeal.nD Cert.AttnVjpIdeal.τ).loc Cert.AttnVjpIdeal.main_arg1) = m' ((c.tc : Thread Cert.AttnVjpIdeal.nD Cert.AttnVjpIdeal.τ).loc Cert.AttnVjpIdeal.main_arg1)
          ∧ r.2.mem ((c.tc : Thread Cert.AttnVjpIdeal.nD Cert.AttnVjpIdeal.τ).loc Cert.AttnVjpIdeal.main_arg2) = m' ((c.tc : Thread Cert.AttnVjpIdeal.nD Cert.AttnVjpIdeal.τ).loc Cert.AttnVjpIdeal.main_arg2)
          ∧ r.2.mem ((c.tc : Thread Cert.AttnVjpIdeal.nD Cert.AttnVjpIdeal.τ).loc Cert.AttnVjpIdeal.main_arg3) = m' ((c.tc : Thread Cert.AttnVjpIdeal.nD Cert.AttnVjpIdeal.τ).loc Cert.AttnVjpIdeal.main_arg3)
          ∧ r.2.mem ((c.tc : Thread Cert.AttnVjpIdeal.nD Cert.AttnVjpIdeal.τ).loc Cert.AttnVjpIdeal.main_arg4) = m' ((c.tc : Thread Cert.AttnVjpIdeal.nD Cert.AttnVjpIdeal.τ).loc Cert.AttnVjpIdeal.main_arg4))

def preserves_FfnIn_FfnInIdeal : Prop :=
  True

def algebraic_FfnInIdeal_FfnInVjpIdeal_pre_finite_ffn_in [hFfnInIdeal : Cert.FfnInIdeal.Facts] [hFfnInVjpIdeal : Cert.FfnInVjpIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInVjpIdeal.nD Cert.FfnInVjpIdeal.τ Cert.FfnInVjpIdeal.sig) → Buf (Elt Ideal) ℓ) (g' : Dev Cert.FfnInVjpIdeal.nD → PrngReg), Pre_FfnInIdeal_finite_ffn_in m →
    (∀ c : Dev Cert.FfnInIdeal.nD,
      m' ((c.tc : Thread Cert.FfnInVjpIdeal.nD Cert.FfnInVjpIdeal.τ).loc Cert.FfnInVjpIdeal.main_arg0) = m ((c.tc : Thread Cert.FfnInIdeal.nD Cert.FfnInIdeal.τ).loc Cert.FfnInIdeal.main_arg0)
      ∧ m' ((c.tc : Thread Cert.FfnInVjpIdeal.nD Cert.FfnInVjpIdeal.τ).loc Cert.FfnInVjpIdeal.main_arg1) = m ((c.tc : Thread Cert.FfnInIdeal.nD Cert.FfnInIdeal.τ).loc Cert.FfnInIdeal.main_arg1)
      ∧ m' ((c.tc : Thread Cert.FfnInVjpIdeal.nD Cert.FfnInVjpIdeal.τ).loc Cert.FfnInVjpIdeal.main_arg2) = m ((c.tc : Thread Cert.FfnInIdeal.nD Cert.FfnInIdeal.τ).loc Cert.FfnInIdeal.main_arg2)
      ∧ m' ((c.tc : Thread Cert.FfnInVjpIdeal.nD Cert.FfnInVjpIdeal.τ).loc Cert.FfnInVjpIdeal.main_arg3) = m ((c.tc : Thread Cert.FfnInIdeal.nD Cert.FfnInIdeal.τ).loc Cert.FfnInIdeal.main_arg3)
      ∧ m' ((c.tc : Thread Cert.FfnInVjpIdeal.nD Cert.FfnInVjpIdeal.τ).loc Cert.FfnInVjpIdeal.main_arg4) = m ((c.tc : Thread Cert.FfnInIdeal.nD Cert.FfnInIdeal.τ).loc Cert.FfnInIdeal.main_arg4)
      ∧ m' ((c.tc : Thread Cert.FfnInVjpIdeal.nD Cert.FfnInVjpIdeal.τ).loc Cert.FfnInVjpIdeal.main_arg5) = m ((c.tc : Thread Cert.FfnInIdeal.nD Cert.FfnInIdeal.τ).loc Cert.FfnInIdeal.main_arg5)
      ∧ m' ((c.tc : Thread Cert.FfnInVjpIdeal.nD Cert.FfnInVjpIdeal.τ).loc Cert.FfnInVjpIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v2_0)) (v1 : (c : Dev Cert.FfnInIdeal.nD) → Buf (Elt Ideal) ((c.tc : Thread Cert.FfnInIdeal.nD Cert.FfnInIdeal.τ).loc Cert.FfnInIdeal.main_v2_1)) (v2 : (c : Dev Cert.FfnInIdeal.nD) → Buf (Elt Ideal) ((c.tc : Thread Cert.FfnInIdeal.nD Cert.FfnInIdeal.τ).loc Cert.FfnInIdeal.main_v2_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2_0) = v0 c
          ∧ r.2.mem ((c.tc : Thread Cert.FfnInIdeal.nD Cert.FfnInIdeal.τ).loc Cert.FfnInIdeal.main_v2_1) = v1 c
          ∧ r.2.mem ((c.tc : Thread Cert.FfnInIdeal.nD Cert.FfnInIdeal.τ).loc Cert.FfnInIdeal.main_v2_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInVjpIdeal.defs (F := Ideal)) (onTc (τ := Cert.FfnInVjpIdeal.τ) (Cert.FfnInVjpIdeal.main (F := Ideal))) ⟨m', fun _ => 0, g'⟩ (fun r => ∀ c : Dev Cert.FfnInVjpIdeal.nD,
          r.2.mem ((c.tc : Thread Cert.FfnInVjpIdeal.nD Cert.FfnInVjpIdeal.τ).loc Cert.FfnInVjpIdeal.main_v43) = v0 c
          ∧ r.2.mem ((c.tc : Thread Cert.FfnInVjpIdeal.nD Cert.FfnInVjpIdeal.τ).loc Cert.FfnInVjpIdeal.main_v56) = v1 c
          ∧ r.2.mem ((c.tc : Thread Cert.FfnInVjpIdeal.nD Cert.FfnInVjpIdeal.τ).loc Cert.FfnInVjpIdeal.main_v26) = v2 c
          ∧ r.2.mem ((c.tc : Thread Cert.FfnInVjpIdeal.nD Cert.FfnInVjpIdeal.τ).loc Cert.FfnInVjpIdeal.main_arg0) = m' ((c.tc : Thread Cert.FfnInVjpIdeal.nD Cert.FfnInVjpIdeal.τ).loc Cert.FfnInVjpIdeal.main_arg0)
          ∧ r.2.mem ((c.tc : Thread Cert.FfnInVjpIdeal.nD Cert.FfnInVjpIdeal.τ).loc Cert.FfnInVjpIdeal.main_arg1) = m' ((c.tc : Thread Cert.FfnInVjpIdeal.nD Cert.FfnInVjpIdeal.τ).loc Cert.FfnInVjpIdeal.main_arg1)
          ∧ r.2.mem ((c.tc : Thread Cert.FfnInVjpIdeal.nD Cert.FfnInVjpIdeal.τ).loc Cert.FfnInVjpIdeal.main_arg2) = m' ((c.tc : Thread Cert.FfnInVjpIdeal.nD Cert.FfnInVjpIdeal.τ).loc Cert.FfnInVjpIdeal.main_arg2)
          ∧ r.2.mem ((c.tc : Thread Cert.FfnInVjpIdeal.nD Cert.FfnInVjpIdeal.τ).loc Cert.FfnInVjpIdeal.main_arg3) = m' ((c.tc : Thread Cert.FfnInVjpIdeal.nD Cert.FfnInVjpIdeal.τ).loc Cert.FfnInVjpIdeal.main_arg3)
          ∧ r.2.mem ((c.tc : Thread Cert.FfnInVjpIdeal.nD Cert.FfnInVjpIdeal.τ).loc Cert.FfnInVjpIdeal.main_arg4) = m' ((c.tc : Thread Cert.FfnInVjpIdeal.nD Cert.FfnInVjpIdeal.τ).loc Cert.FfnInVjpIdeal.main_arg4)
          ∧ r.2.mem ((c.tc : Thread Cert.FfnInVjpIdeal.nD Cert.FfnInVjpIdeal.τ).loc Cert.FfnInVjpIdeal.main_arg5) = m' ((c.tc : Thread Cert.FfnInVjpIdeal.nD Cert.FfnInVjpIdeal.τ).loc Cert.FfnInVjpIdeal.main_arg5)
          ∧ r.2.mem ((c.tc : Thread Cert.FfnInVjpIdeal.nD Cert.FfnInVjpIdeal.τ).loc Cert.FfnInVjpIdeal.main_arg6) = m' ((c.tc : Thread Cert.FfnInVjpIdeal.nD Cert.FfnInVjpIdeal.τ).loc Cert.FfnInVjpIdeal.main_arg6))

def preserves_PleLoss_PleLossIdeal : Prop :=
  True

def algebraic_PleLossIdeal_PleLossVjpIdeal_pre_finite_ple_loss [hPleLossIdeal : Cert.PleLossIdeal.Facts] [hPleLossVjpIdeal : Cert.PleLossVjpIdeal.Facts] [hPre_finite_ple_loss : Cert.Pre_finite_ple_loss.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleLossVjpIdeal.nD Cert.PleLossVjpIdeal.τ Cert.PleLossVjpIdeal.sig) → Buf (Elt Ideal) ℓ) (g' : Dev Cert.PleLossVjpIdeal.nD → PrngReg), Pre_PleLossIdeal_finite_ple_loss m →
    (∀ c : Dev Cert.PleLossIdeal.nD,
      m' ((c.tc : Thread Cert.PleLossVjpIdeal.nD Cert.PleLossVjpIdeal.τ).loc Cert.PleLossVjpIdeal.main_arg0) = m ((c.tc : Thread Cert.PleLossIdeal.nD Cert.PleLossIdeal.τ).loc Cert.PleLossIdeal.main_arg0)
      ∧ m' ((c.tc : Thread Cert.PleLossVjpIdeal.nD Cert.PleLossVjpIdeal.τ).loc Cert.PleLossVjpIdeal.main_arg1) = m ((c.tc : Thread Cert.PleLossIdeal.nD Cert.PleLossIdeal.τ).loc Cert.PleLossIdeal.main_arg1)
      ∧ m' ((c.tc : Thread Cert.PleLossVjpIdeal.nD Cert.PleLossVjpIdeal.τ).loc Cert.PleLossVjpIdeal.main_arg2) = m ((c.tc : Thread Cert.PleLossIdeal.nD Cert.PleLossIdeal.τ).loc Cert.PleLossIdeal.main_arg2)
      ∧ m' ((c.tc : Thread Cert.PleLossVjpIdeal.nD Cert.PleLossVjpIdeal.τ).loc Cert.PleLossVjpIdeal.main_arg3) = m ((c.tc : Thread Cert.PleLossIdeal.nD Cert.PleLossIdeal.τ).loc Cert.PleLossIdeal.main_arg3)
      ∧ m' ((c.tc : Thread Cert.PleLossVjpIdeal.nD Cert.PleLossVjpIdeal.τ).loc Cert.PleLossVjpIdeal.main_arg4) = m ((c.tc : Thread Cert.PleLossIdeal.nD Cert.PleLossIdeal.τ).loc Cert.PleLossIdeal.main_arg4)
      ∧ m' ((c.tc : Thread Cert.PleLossVjpIdeal.nD Cert.PleLossVjpIdeal.τ).loc Cert.PleLossVjpIdeal.main_arg5) = m ((c.tc : Thread Cert.PleLossIdeal.nD Cert.PleLossIdeal.τ).loc Cert.PleLossIdeal.main_arg5)) →
    ∃ (v0 : (c : Dev Cert.PleLossIdeal.nD) → Buf (Elt Ideal) ((c.tc : Thread Cert.PleLossIdeal.nD Cert.PleLossIdeal.τ).loc Cert.PleLossIdeal.main_v2_0)) (v1 : (c : Dev Cert.PleLossIdeal.nD) → Buf (Elt Ideal) ((c.tc : Thread Cert.PleLossIdeal.nD Cert.PleLossIdeal.τ).loc Cert.PleLossIdeal.main_v2_1)) (v2 : (c : Dev Cert.PleLossIdeal.nD) → Buf (Elt Ideal) ((c.tc : Thread Cert.PleLossIdeal.nD Cert.PleLossIdeal.τ).loc Cert.PleLossIdeal.main_v2_2)) (v3 : (c : Dev Cert.PleLossIdeal.nD) → Buf (Elt Ideal) ((c.tc : Thread Cert.PleLossIdeal.nD Cert.PleLossIdeal.τ).loc Cert.PleLossIdeal.main_v2_3)) (v4 : (c : Dev Cert.PleLossIdeal.nD) → Buf (Elt Ideal) ((c.tc : Thread Cert.PleLossIdeal.nD Cert.PleLossIdeal.τ).loc Cert.PleLossIdeal.main_v2_4)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v2_0) = v0 c
          ∧ r.2.mem ((c.tc : Thread Cert.PleLossIdeal.nD Cert.PleLossIdeal.τ).loc Cert.PleLossIdeal.main_v2_1) = v1 c
          ∧ r.2.mem ((c.tc : Thread Cert.PleLossIdeal.nD Cert.PleLossIdeal.τ).loc Cert.PleLossIdeal.main_v2_2) = v2 c
          ∧ r.2.mem ((c.tc : Thread Cert.PleLossIdeal.nD Cert.PleLossIdeal.τ).loc Cert.PleLossIdeal.main_v2_3) = v3 c
          ∧ r.2.mem ((c.tc : Thread Cert.PleLossIdeal.nD Cert.PleLossIdeal.τ).loc Cert.PleLossIdeal.main_v2_4) = v4 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
          ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ θ_run (Cert.PleLossVjpIdeal.defs (F := Ideal)) (onTc (τ := Cert.PleLossVjpIdeal.τ) (Cert.PleLossVjpIdeal.main (F := Ideal))) ⟨m', fun _ => 0, g'⟩ (fun r => ∀ c : Dev Cert.PleLossVjpIdeal.nD,
          r.2.mem ((c.tc : Thread Cert.PleLossVjpIdeal.nD Cert.PleLossVjpIdeal.τ).loc Cert.PleLossVjpIdeal.main_v72) = v0 c
          ∧ r.2.mem ((c.tc : Thread Cert.PleLossVjpIdeal.nD Cert.PleLossVjpIdeal.τ).loc Cert.PleLossVjpIdeal.main_v73) = v1 c
          ∧ r.2.mem ((c.tc : Thread Cert.PleLossVjpIdeal.nD Cert.PleLossVjpIdeal.τ).loc Cert.PleLossVjpIdeal.main_v76) = v2 c
          ∧ r.2.mem ((c.tc : Thread Cert.PleLossVjpIdeal.nD Cert.PleLossVjpIdeal.τ).loc Cert.PleLossVjpIdeal.main_v55) = v3 c
          ∧ r.2.mem ((c.tc : Thread Cert.PleLossVjpIdeal.nD Cert.PleLossVjpIdeal.τ).loc Cert.PleLossVjpIdeal.main_v77) = v4 c
          ∧ r.2.mem ((c.tc : Thread Cert.PleLossVjpIdeal.nD Cert.PleLossVjpIdeal.τ).loc Cert.PleLossVjpIdeal.main_arg0) = m' ((c.tc : Thread Cert.PleLossVjpIdeal.nD Cert.PleLossVjpIdeal.τ).loc Cert.PleLossVjpIdeal.main_arg0)
          ∧ r.2.mem ((c.tc : Thread Cert.PleLossVjpIdeal.nD Cert.PleLossVjpIdeal.τ).loc Cert.PleLossVjpIdeal.main_arg1) = m' ((c.tc : Thread Cert.PleLossVjpIdeal.nD Cert.PleLossVjpIdeal.τ).loc Cert.PleLossVjpIdeal.main_arg1)
          ∧ r.2.mem ((c.tc : Thread Cert.PleLossVjpIdeal.nD Cert.PleLossVjpIdeal.τ).loc Cert.PleLossVjpIdeal.main_arg2) = m' ((c.tc : Thread Cert.PleLossVjpIdeal.nD Cert.PleLossVjpIdeal.τ).loc Cert.PleLossVjpIdeal.main_arg2)
          ∧ r.2.mem ((c.tc : Thread Cert.PleLossVjpIdeal.nD Cert.PleLossVjpIdeal.τ).loc Cert.PleLossVjpIdeal.main_arg3) = m' ((c.tc : Thread Cert.PleLossVjpIdeal.nD Cert.PleLossVjpIdeal.τ).loc Cert.PleLossVjpIdeal.main_arg3)
          ∧ r.2.mem ((c.tc : Thread Cert.PleLossVjpIdeal.nD Cert.PleLossVjpIdeal.τ).loc Cert.PleLossVjpIdeal.main_arg4) = m' ((c.tc : Thread Cert.PleLossVjpIdeal.nD Cert.PleLossVjpIdeal.τ).loc Cert.PleLossVjpIdeal.main_arg4)
          ∧ r.2.mem ((c.tc : Thread Cert.PleLossVjpIdeal.nD Cert.PleLossVjpIdeal.τ).loc Cert.PleLossVjpIdeal.main_arg5) = m' ((c.tc : Thread Cert.PleLossVjpIdeal.nD Cert.PleLossVjpIdeal.τ).loc Cert.PleLossVjpIdeal.main_arg5))

def preserves_BwdMix_BwdMixIdeal : Prop :=
  True

def algebraic_BwdMixIdeal_MixVjpIdeal_pre_finite_bwd_mix [hBwdMixIdeal : Cert.BwdMixIdeal.Facts] [hMixVjpIdeal : Cert.MixVjpIdeal.Facts] [hPre_finite_bwd_mix : Cert.Pre_finite_bwd_mix.Facts] : Prop :=
  ∀ (m : (ℓ : Loc Cert.BwdMixIdeal.nD Cert.BwdMixIdeal.τ Cert.BwdMixIdeal.sig) → Buf (Elt Ideal) ℓ) (g : Dev Cert.BwdMixIdeal.nD → PrngReg)
    (m' : (ℓ : Loc Cert.MixVjpIdeal.nD Cert.MixVjpIdeal.τ Cert.MixVjpIdeal.sig) → Buf (Elt Ideal) ℓ) (g' : Dev Cert.MixVjpIdeal.nD → PrngReg), Pre_BwdMixIdeal_finite_bwd_mix m →
    (∀ c : Dev Cert.BwdMixIdeal.nD,
      m' ((c.tc : Thread Cert.MixVjpIdeal.nD Cert.MixVjpIdeal.τ).loc Cert.MixVjpIdeal.main_arg0) = m ((c.tc : Thread Cert.BwdMixIdeal.nD Cert.BwdMixIdeal.τ).loc Cert.BwdMixIdeal.main_arg0)
      ∧ m' ((c.tc : Thread Cert.MixVjpIdeal.nD Cert.MixVjpIdeal.τ).loc Cert.MixVjpIdeal.main_arg1) = m ((c.tc : Thread Cert.BwdMixIdeal.nD Cert.BwdMixIdeal.τ).loc Cert.BwdMixIdeal.main_arg1)
      ∧ m' ((c.tc : Thread Cert.MixVjpIdeal.nD Cert.MixVjpIdeal.τ).loc Cert.MixVjpIdeal.main_arg2) = m ((c.tc : Thread Cert.BwdMixIdeal.nD Cert.BwdMixIdeal.τ).loc Cert.BwdMixIdeal.main_arg2)
      ∧ m' ((c.tc : Thread Cert.MixVjpIdeal.nD Cert.MixVjpIdeal.τ).loc Cert.MixVjpIdeal.main_arg3) = m ((c.tc : Thread Cert.BwdMixIdeal.nD Cert.BwdMixIdeal.τ).loc Cert.BwdMixIdeal.main_arg3)
      ∧ m' ((c.tc : Thread Cert.MixVjpIdeal.nD Cert.MixVjpIdeal.τ).loc Cert.MixVjpIdeal.main_arg4) = m ((c.tc : Thread Cert.BwdMixIdeal.nD Cert.BwdMixIdeal.τ).loc Cert.BwdMixIdeal.main_arg4)
      ∧ m' ((c.tc : Thread Cert.MixVjpIdeal.nD Cert.MixVjpIdeal.τ).loc Cert.MixVjpIdeal.main_arg5) = m ((c.tc : Thread Cert.BwdMixIdeal.nD Cert.BwdMixIdeal.τ).loc Cert.BwdMixIdeal.main_arg5)) →
    ∃ (v0 : (c : Dev Cert.BwdMixIdeal.nD) → Buf (Elt Ideal) ((c.tc : Thread Cert.BwdMixIdeal.nD Cert.BwdMixIdeal.τ).loc Cert.BwdMixIdeal.main_v26_0)) (v1 : (c : Dev Cert.BwdMixIdeal.nD) → Buf (Elt Ideal) ((c.tc : Thread Cert.BwdMixIdeal.nD Cert.BwdMixIdeal.τ).loc Cert.BwdMixIdeal.main_v26_1)) (v2 : (c : Dev Cert.BwdMixIdeal.nD) → Buf (Elt Ideal) ((c.tc : Thread Cert.BwdMixIdeal.nD Cert.BwdMixIdeal.τ).loc Cert.BwdMixIdeal.main_v26_2)) (v3 : (c : Dev Cert.BwdMixIdeal.nD) → Buf (Elt Ideal) ((c.tc : Thread Cert.BwdMixIdeal.nD Cert.BwdMixIdeal.τ).loc Cert.BwdMixIdeal.main_v26_3)) (v4 : (c : Dev Cert.BwdMixIdeal.nD) → Buf (Elt Ideal) ((c.tc : Thread Cert.BwdMixIdeal.nD Cert.BwdMixIdeal.τ).loc Cert.BwdMixIdeal.main_v26_4)),
      θ_run (Cert.BwdMixIdeal.defs (F := Ideal)) (onTc (τ := Cert.BwdMixIdeal.τ) (Cert.BwdMixIdeal.main (F := Ideal))) ⟨m, fun _ => 0, g⟩ (fun r => ∀ c : Dev Cert.BwdMixIdeal.nD,
          r.2.mem ((c.tc : Thread Cert.BwdMixIdeal.nD Cert.BwdMixIdeal.τ).loc Cert.BwdMixIdeal.main_v26_0) = v0 c
          ∧ r.2.mem ((c.tc : Thread Cert.BwdMixIdeal.nD Cert.BwdMixIdeal.τ).loc Cert.BwdMixIdeal.main_v26_1) = v1 c
          ∧ r.2.mem ((c.tc : Thread Cert.BwdMixIdeal.nD Cert.BwdMixIdeal.τ).loc Cert.BwdMixIdeal.main_v26_2) = v2 c
          ∧ r.2.mem ((c.tc : Thread Cert.BwdMixIdeal.nD Cert.BwdMixIdeal.τ).loc Cert.BwdMixIdeal.main_v26_3) = v3 c
          ∧ r.2.mem ((c.tc : Thread Cert.BwdMixIdeal.nD Cert.BwdMixIdeal.τ).loc Cert.BwdMixIdeal.main_v26_4) = v4 c
          ∧ r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
          ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
          ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
          ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
          ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
          ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5))
      ∧ θ_run (Cert.MixVjpIdeal.defs (F := Ideal)) (onTc (τ := Cert.MixVjpIdeal.τ) (Cert.MixVjpIdeal.main (F := Ideal))) ⟨m', fun _ => 0, g'⟩ (fun r => ∀ c : Dev Cert.MixVjpIdeal.nD,
          r.2.mem ((c.tc : Thread Cert.MixVjpIdeal.nD Cert.MixVjpIdeal.τ).loc Cert.MixVjpIdeal.main_v57) = v0 c
          ∧ r.2.mem ((c.tc : Thread Cert.MixVjpIdeal.nD Cert.MixVjpIdeal.τ).loc Cert.MixVjpIdeal.main_v56) = v1 c
          ∧ r.2.mem ((c.tc : Thread Cert.MixVjpIdeal.nD Cert.MixVjpIdeal.τ).loc Cert.MixVjpIdeal.main_v58) = v2 c
          ∧ r.2.mem ((c.tc : Thread Cert.MixVjpIdeal.nD Cert.MixVjpIdeal.τ).loc Cert.MixVjpIdeal.main_v55) = v3 c
          ∧ r.2.mem ((c.tc : Thread Cert.MixVjpIdeal.nD Cert.MixVjpIdeal.τ).loc Cert.MixVjpIdeal.main_v59) = v4 c
          ∧ r.2.mem ((c.tc : Thread Cert.MixVjpIdeal.nD Cert.MixVjpIdeal.τ).loc Cert.MixVjpIdeal.main_arg0) = m' ((c.tc : Thread Cert.MixVjpIdeal.nD Cert.MixVjpIdeal.τ).loc Cert.MixVjpIdeal.main_arg0)
          ∧ r.2.mem ((c.tc : Thread Cert.MixVjpIdeal.nD Cert.MixVjpIdeal.τ).loc Cert.MixVjpIdeal.main_arg1) = m' ((c.tc : Thread Cert.MixVjpIdeal.nD Cert.MixVjpIdeal.τ).loc Cert.MixVjpIdeal.main_arg1)
          ∧ r.2.mem ((c.tc : Thread Cert.MixVjpIdeal.nD Cert.MixVjpIdeal.τ).loc Cert.MixVjpIdeal.main_arg2) = m' ((c.tc : Thread Cert.MixVjpIdeal.nD Cert.MixVjpIdeal.τ).loc Cert.MixVjpIdeal.main_arg2)
          ∧ r.2.mem ((c.tc : Thread Cert.MixVjpIdeal.nD Cert.MixVjpIdeal.τ).loc Cert.MixVjpIdeal.main_arg3) = m' ((c.tc : Thread Cert.MixVjpIdeal.nD Cert.MixVjpIdeal.τ).loc Cert.MixVjpIdeal.main_arg3)
          ∧ r.2.mem ((c.tc : Thread Cert.MixVjpIdeal.nD Cert.MixVjpIdeal.τ).loc Cert.MixVjpIdeal.main_arg4) = m' ((c.tc : Thread Cert.MixVjpIdeal.nD Cert.MixVjpIdeal.τ).loc Cert.MixVjpIdeal.main_arg4)
          ∧ r.2.mem ((c.tc : Thread Cert.MixVjpIdeal.nD Cert.MixVjpIdeal.τ).loc Cert.MixVjpIdeal.main_arg5) = m' ((c.tc : Thread Cert.MixVjpIdeal.nD Cert.MixVjpIdeal.τ).loc Cert.MixVjpIdeal.main_arg5))

def preserves_BwdIn_BwdInIdeal : Prop :=
  True

def algebraic_BwdInIdeal_InVjpIdeal_pre_finite_bwd_in [hBwdInIdeal : Cert.BwdInIdeal.Facts] [hInVjpIdeal : Cert.InVjpIdeal.Facts] [hPre_finite_bwd_in : Cert.Pre_finite_bwd_in.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.InVjpIdeal.nD Cert.InVjpIdeal.τ Cert.InVjpIdeal.sig) → Buf (Elt Ideal) ℓ) (g' : Dev Cert.InVjpIdeal.nD → PrngReg), Pre_BwdInIdeal_finite_bwd_in m →
    (∀ c : Dev Cert.BwdInIdeal.nD,
      m' ((c.tc : Thread Cert.InVjpIdeal.nD Cert.InVjpIdeal.τ).loc Cert.InVjpIdeal.main_arg0) = m ((c.tc : Thread Cert.BwdInIdeal.nD Cert.BwdInIdeal.τ).loc Cert.BwdInIdeal.main_arg0)
      ∧ m' ((c.tc : Thread Cert.InVjpIdeal.nD Cert.InVjpIdeal.τ).loc Cert.InVjpIdeal.main_arg1) = m ((c.tc : Thread Cert.BwdInIdeal.nD Cert.BwdInIdeal.τ).loc Cert.BwdInIdeal.main_arg1)
      ∧ m' ((c.tc : Thread Cert.InVjpIdeal.nD Cert.InVjpIdeal.τ).loc Cert.InVjpIdeal.main_arg2) = m ((c.tc : Thread Cert.BwdInIdeal.nD Cert.BwdInIdeal.τ).loc Cert.BwdInIdeal.main_arg2)
      ∧ m' ((c.tc : Thread Cert.InVjpIdeal.nD Cert.InVjpIdeal.τ).loc Cert.InVjpIdeal.main_arg3) = m ((c.tc : Thread Cert.BwdInIdeal.nD Cert.BwdInIdeal.τ).loc Cert.BwdInIdeal.main_arg3)
      ∧ m' ((c.tc : Thread Cert.InVjpIdeal.nD Cert.InVjpIdeal.τ).loc Cert.InVjpIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v15_0)) (v1 : (c : Dev Cert.BwdInIdeal.nD) → Buf (Elt Ideal) ((c.tc : Thread Cert.BwdInIdeal.nD Cert.BwdInIdeal.τ).loc Cert.BwdInIdeal.main_v15_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v15_0) = v0 c
          ∧ r.2.mem ((c.tc : Thread Cert.BwdInIdeal.nD Cert.BwdInIdeal.τ).loc Cert.BwdInIdeal.main_v15_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.InVjpIdeal.defs (F := Ideal)) (onTc (τ := Cert.InVjpIdeal.τ) (Cert.InVjpIdeal.main (F := Ideal))) ⟨m', fun _ => 0, g'⟩ (fun r => ∀ c : Dev Cert.InVjpIdeal.nD,
          r.2.mem ((c.tc : Thread Cert.InVjpIdeal.nD Cert.InVjpIdeal.τ).loc Cert.InVjpIdeal.main_v38) = v0 c
          ∧ r.2.mem ((c.tc : Thread Cert.InVjpIdeal.nD Cert.InVjpIdeal.τ).loc Cert.InVjpIdeal.main_v21) = v1 c
          ∧ r.2.mem ((c.tc : Thread Cert.InVjpIdeal.nD Cert.InVjpIdeal.τ).loc Cert.InVjpIdeal.main_arg0) = m' ((c.tc : Thread Cert.InVjpIdeal.nD Cert.InVjpIdeal.τ).loc Cert.InVjpIdeal.main_arg0)
          ∧ r.2.mem ((c.tc : Thread Cert.InVjpIdeal.nD Cert.InVjpIdeal.τ).loc Cert.InVjpIdeal.main_arg1) = m' ((c.tc : Thread Cert.InVjpIdeal.nD Cert.InVjpIdeal.τ).loc Cert.InVjpIdeal.main_arg1)
          ∧ r.2.mem ((c.tc : Thread Cert.InVjpIdeal.nD Cert.InVjpIdeal.τ).loc Cert.InVjpIdeal.main_arg2) = m' ((c.tc : Thread Cert.InVjpIdeal.nD Cert.InVjpIdeal.τ).loc Cert.InVjpIdeal.main_arg2)
          ∧ r.2.mem ((c.tc : Thread Cert.InVjpIdeal.nD Cert.InVjpIdeal.τ).loc Cert.InVjpIdeal.main_arg3) = m' ((c.tc : Thread Cert.InVjpIdeal.nD Cert.InVjpIdeal.τ).loc Cert.InVjpIdeal.main_arg3)
          ∧ r.2.mem ((c.tc : Thread Cert.InVjpIdeal.nD Cert.InVjpIdeal.τ).loc Cert.InVjpIdeal.main_arg4) = m' ((c.tc : Thread Cert.InVjpIdeal.nD Cert.InVjpIdeal.τ).loc Cert.InVjpIdeal.main_arg4))

def preserves_FwdAttn_FwdAttnIdeal : Prop :=
  IdealRules.named_const.Statement Cert.FwdAttnIdeal.κ "scale_log2_e" .f32 0x3DD53B95#32 (((Real.sqrt 192)⁻¹ * (Real.log 2)⁻¹ : ℝ) : EReal)

def algebraic_FwdAttnIdeal_AttnRefIdeal_pre_finite_fwd_attn [hFwdAttnIdeal : Cert.FwdAttnIdeal.Facts] [hAttnRefIdeal : Cert.AttnRefIdeal.Facts] [hPre_finite_fwd_attn : Cert.Pre_finite_fwd_attn.Facts] : Prop :=
  ∀ (m : (ℓ : Loc Cert.FwdAttnIdeal.nD Cert.FwdAttnIdeal.τ Cert.FwdAttnIdeal.sig) → Buf (Elt Ideal) ℓ) (g : Dev Cert.FwdAttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_FwdAttnIdeal_finite_fwd_attn m →
    (∀ c : Dev Cert.FwdAttnIdeal.nD,
      m' ((c.tc : Thread Cert.AttnRefIdeal.nD Cert.AttnRefIdeal.τ).loc Cert.AttnRefIdeal.main_arg0) = m ((c.tc : Thread Cert.FwdAttnIdeal.nD Cert.FwdAttnIdeal.τ).loc Cert.FwdAttnIdeal.main_arg0)
      ∧ m' ((c.tc : Thread Cert.AttnRefIdeal.nD Cert.AttnRefIdeal.τ).loc Cert.AttnRefIdeal.main_arg1) = m ((c.tc : Thread Cert.FwdAttnIdeal.nD Cert.FwdAttnIdeal.τ).loc Cert.FwdAttnIdeal.main_arg1)
      ∧ m' ((c.tc : Thread Cert.AttnRefIdeal.nD Cert.AttnRefIdeal.τ).loc Cert.AttnRefIdeal.main_arg2) = m ((c.tc : Thread Cert.FwdAttnIdeal.nD Cert.FwdAttnIdeal.τ).loc Cert.FwdAttnIdeal.main_arg2)
      ∧ m' ((c.tc : Thread Cert.AttnRefIdeal.nD Cert.AttnRefIdeal.τ).loc Cert.AttnRefIdeal.main_arg3) = m ((c.tc : Thread Cert.FwdAttnIdeal.nD Cert.FwdAttnIdeal.τ).loc Cert.FwdAttnIdeal.main_arg3)) →
    ∃ (v0 : (c : Dev Cert.FwdAttnIdeal.nD) → Buf (Elt Ideal) ((c.tc : Thread Cert.FwdAttnIdeal.nD Cert.FwdAttnIdeal.τ).loc Cert.FwdAttnIdeal.main_v9_0)) (v1 : (c : Dev Cert.FwdAttnIdeal.nD) → Buf (Elt Ideal) ((c.tc : Thread Cert.FwdAttnIdeal.nD Cert.FwdAttnIdeal.τ).loc Cert.FwdAttnIdeal.main_v9_1)),
      θ_run (Cert.FwdAttnIdeal.defs (F := Ideal)) (onTc (τ := Cert.FwdAttnIdeal.τ) (Cert.FwdAttnIdeal.main (F := Ideal))) ⟨m, fun _ => 0, g⟩ (fun r => ∀ c : Dev Cert.FwdAttnIdeal.nD,
          r.2.mem ((c.tc : Thread Cert.FwdAttnIdeal.nD Cert.FwdAttnIdeal.τ).loc Cert.FwdAttnIdeal.main_v9_0) = v0 c
          ∧ r.2.mem ((c.tc : Thread Cert.FwdAttnIdeal.nD Cert.FwdAttnIdeal.τ).loc Cert.FwdAttnIdeal.main_v9_1) = v1 c
          ∧ r.2.mem ((c.tc : Thread Cert.FwdAttnIdeal.nD Cert.FwdAttnIdeal.τ).loc Cert.FwdAttnIdeal.main_arg0) = m ((c.tc : Thread Cert.FwdAttnIdeal.nD Cert.FwdAttnIdeal.τ).loc Cert.FwdAttnIdeal.main_arg0)
          ∧ r.2.mem ((c.tc : Thread Cert.FwdAttnIdeal.nD Cert.FwdAttnIdeal.τ).loc Cert.FwdAttnIdeal.main_arg1) = m ((c.tc : Thread Cert.FwdAttnIdeal.nD Cert.FwdAttnIdeal.τ).loc Cert.FwdAttnIdeal.main_arg1)
          ∧ r.2.mem ((c.tc : Thread Cert.FwdAttnIdeal.nD Cert.FwdAttnIdeal.τ).loc Cert.FwdAttnIdeal.main_arg2) = m ((c.tc : Thread Cert.FwdAttnIdeal.nD Cert.FwdAttnIdeal.τ).loc Cert.FwdAttnIdeal.main_arg2)
          ∧ r.2.mem ((c.tc : Thread Cert.FwdAttnIdeal.nD Cert.FwdAttnIdeal.τ).loc Cert.FwdAttnIdeal.main_arg3) = m ((c.tc : Thread Cert.FwdAttnIdeal.nD Cert.FwdAttnIdeal.τ).loc Cert.FwdAttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_v20) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_BwdMla_BwdMlaIdeal : Prop :=
  IdealRules.named_const.Statement Cert.BwdMlaIdeal.κ "over_qk_head" .f32 0x3BAAAAAB#32 ((192⁻¹ : ℝ) : EReal)

def algebraic_BwdMlaIdeal_MlaVjpIdeal_pre_finite_bwd_mla [hBwdMlaIdeal : Cert.BwdMlaIdeal.Facts] [hMlaVjpIdeal : Cert.MlaVjpIdeal.Facts] [hPre_finite_bwd_mla : Cert.Pre_finite_bwd_mla.Facts] : Prop :=
  ∀ (m : (ℓ : Loc Cert.BwdMlaIdeal.nD Cert.BwdMlaIdeal.τ Cert.BwdMlaIdeal.sig) → Buf (Elt Ideal) ℓ) (g : Dev Cert.BwdMlaIdeal.nD → PrngReg)
    (m' : (ℓ : Loc Cert.MlaVjpIdeal.nD Cert.MlaVjpIdeal.τ Cert.MlaVjpIdeal.sig) → Buf (Elt Ideal) ℓ) (g' : Dev Cert.MlaVjpIdeal.nD → PrngReg), Pre_BwdMlaIdeal_finite_bwd_mla m →
    (∀ c : Dev Cert.BwdMlaIdeal.nD,
      m' ((c.tc : Thread Cert.MlaVjpIdeal.nD Cert.MlaVjpIdeal.τ).loc Cert.MlaVjpIdeal.main_arg0) = m ((c.tc : Thread Cert.BwdMlaIdeal.nD Cert.BwdMlaIdeal.τ).loc Cert.BwdMlaIdeal.main_arg0)
      ∧ m' ((c.tc : Thread Cert.MlaVjpIdeal.nD Cert.MlaVjpIdeal.τ).loc Cert.MlaVjpIdeal.main_arg1) = m ((c.tc : Thread Cert.BwdMlaIdeal.nD Cert.BwdMlaIdeal.τ).loc Cert.BwdMlaIdeal.main_arg1)
      ∧ m' ((c.tc : Thread Cert.MlaVjpIdeal.nD Cert.MlaVjpIdeal.τ).loc Cert.MlaVjpIdeal.main_arg2) = m ((c.tc : Thread Cert.BwdMlaIdeal.nD Cert.BwdMlaIdeal.τ).loc Cert.BwdMlaIdeal.main_arg2)
      ∧ m' ((c.tc : Thread Cert.MlaVjpIdeal.nD Cert.MlaVjpIdeal.τ).loc Cert.MlaVjpIdeal.main_arg3) = m ((c.tc : Thread Cert.BwdMlaIdeal.nD Cert.BwdMlaIdeal.τ).loc Cert.BwdMlaIdeal.main_arg3)
      ∧ m' ((c.tc : Thread Cert.MlaVjpIdeal.nD Cert.MlaVjpIdeal.τ).loc Cert.MlaVjpIdeal.main_arg4) = m ((c.tc : Thread Cert.BwdMlaIdeal.nD Cert.BwdMlaIdeal.τ).loc Cert.BwdMlaIdeal.main_arg4)
      ∧ m' ((c.tc : Thread Cert.MlaVjpIdeal.nD Cert.MlaVjpIdeal.τ).loc Cert.MlaVjpIdeal.main_arg5) = m ((c.tc : Thread Cert.BwdMlaIdeal.nD Cert.BwdMlaIdeal.τ).loc Cert.BwdMlaIdeal.main_arg5)
      ∧ m' ((c.tc : Thread Cert.MlaVjpIdeal.nD Cert.MlaVjpIdeal.τ).loc Cert.MlaVjpIdeal.main_arg6) = m ((c.tc : Thread Cert.BwdMlaIdeal.nD Cert.BwdMlaIdeal.τ).loc Cert.BwdMlaIdeal.main_arg6)
      ∧ m' ((c.tc : Thread Cert.MlaVjpIdeal.nD Cert.MlaVjpIdeal.τ).loc Cert.MlaVjpIdeal.main_arg7) = m ((c.tc : Thread Cert.BwdMlaIdeal.nD Cert.BwdMlaIdeal.τ).loc Cert.BwdMlaIdeal.main_arg7)
      ∧ m' ((c.tc : Thread Cert.MlaVjpIdeal.nD Cert.MlaVjpIdeal.τ).loc Cert.MlaVjpIdeal.main_arg8) = m ((c.tc : Thread Cert.BwdMlaIdeal.nD Cert.BwdMlaIdeal.τ).loc Cert.BwdMlaIdeal.main_arg8)
      ∧ m' ((c.tc : Thread Cert.MlaVjpIdeal.nD Cert.MlaVjpIdeal.τ).loc Cert.MlaVjpIdeal.main_arg9) = m ((c.tc : Thread Cert.BwdMlaIdeal.nD Cert.BwdMlaIdeal.τ).loc Cert.BwdMlaIdeal.main_arg9)
      ∧ m' ((c.tc : Thread Cert.MlaVjpIdeal.nD Cert.MlaVjpIdeal.τ).loc Cert.MlaVjpIdeal.main_arg10) = m ((c.tc : Thread Cert.BwdMlaIdeal.nD Cert.BwdMlaIdeal.τ).loc Cert.BwdMlaIdeal.main_arg10)) →
    ∃ (v0 : (c : Dev Cert.BwdMlaIdeal.nD) → Buf (Elt Ideal) ((c.tc : Thread Cert.BwdMlaIdeal.nD Cert.BwdMlaIdeal.τ).loc Cert.BwdMlaIdeal.main_v37_0)) (v1 : (c : Dev Cert.BwdMlaIdeal.nD) → Buf (Elt Ideal) ((c.tc : Thread Cert.BwdMlaIdeal.nD Cert.BwdMlaIdeal.τ).loc Cert.BwdMlaIdeal.main_v37_1)) (v2 : (c : Dev Cert.BwdMlaIdeal.nD) → Buf (Elt Ideal) ((c.tc : Thread Cert.BwdMlaIdeal.nD Cert.BwdMlaIdeal.τ).loc Cert.BwdMlaIdeal.main_v37_2)) (v3 : (c : Dev Cert.BwdMlaIdeal.nD) → Buf (Elt Ideal) ((c.tc : Thread Cert.BwdMlaIdeal.nD Cert.BwdMlaIdeal.τ).loc Cert.BwdMlaIdeal.main_v37_3)) (v4 : (c : Dev Cert.BwdMlaIdeal.nD) → Buf (Elt Ideal) ((c.tc : Thread Cert.BwdMlaIdeal.nD Cert.BwdMlaIdeal.τ).loc Cert.BwdMlaIdeal.main_v37_4)) (v5 : (c : Dev Cert.BwdMlaIdeal.nD) → Buf (Elt Ideal) ((c.tc : Thread Cert.BwdMlaIdeal.nD Cert.BwdMlaIdeal.τ).loc Cert.BwdMlaIdeal.main_v37_5)) (v6 : (c : Dev Cert.BwdMlaIdeal.nD) → Buf (Elt Ideal) ((c.tc : Thread Cert.BwdMlaIdeal.nD Cert.BwdMlaIdeal.τ).loc Cert.BwdMlaIdeal.main_v37_6)),
      θ_run (Cert.BwdMlaIdeal.defs (F := Ideal)) (onTc (τ := Cert.BwdMlaIdeal.τ) (Cert.BwdMlaIdeal.main (F := Ideal))) ⟨m, fun _ => 0, g⟩ (fun r => ∀ c : Dev Cert.BwdMlaIdeal.nD,
          r.2.mem ((c.tc : Thread Cert.BwdMlaIdeal.nD Cert.BwdMlaIdeal.τ).loc Cert.BwdMlaIdeal.main_v37_0) = v0 c
          ∧ r.2.mem ((c.tc : Thread Cert.BwdMlaIdeal.nD Cert.BwdMlaIdeal.τ).loc Cert.BwdMlaIdeal.main_v37_1) = v1 c
          ∧ r.2.mem ((c.tc : Thread Cert.BwdMlaIdeal.nD Cert.BwdMlaIdeal.τ).loc Cert.BwdMlaIdeal.main_v37_2) = v2 c
          ∧ r.2.mem ((c.tc : Thread Cert.BwdMlaIdeal.nD Cert.BwdMlaIdeal.τ).loc Cert.BwdMlaIdeal.main_v37_3) = v3 c
          ∧ r.2.mem ((c.tc : Thread Cert.BwdMlaIdeal.nD Cert.BwdMlaIdeal.τ).loc Cert.BwdMlaIdeal.main_v37_4) = v4 c
          ∧ r.2.mem ((c.tc : Thread Cert.BwdMlaIdeal.nD Cert.BwdMlaIdeal.τ).loc Cert.BwdMlaIdeal.main_v37_5) = v5 c
          ∧ r.2.mem ((c.tc : Thread Cert.BwdMlaIdeal.nD Cert.BwdMlaIdeal.τ).loc Cert.BwdMlaIdeal.main_v37_6) = v6 c
          ∧ r.2.mem ((c.tc : Thread Cert.BwdMlaIdeal.nD Cert.BwdMlaIdeal.τ).loc Cert.BwdMlaIdeal.main_arg0) = m ((c.tc : Thread Cert.BwdMlaIdeal.nD Cert.BwdMlaIdeal.τ).loc Cert.BwdMlaIdeal.main_arg0)
          ∧ r.2.mem ((c.tc : Thread Cert.BwdMlaIdeal.nD Cert.BwdMlaIdeal.τ).loc Cert.BwdMlaIdeal.main_arg1) = m ((c.tc : Thread Cert.BwdMlaIdeal.nD Cert.BwdMlaIdeal.τ).loc Cert.BwdMlaIdeal.main_arg1)
          ∧ r.2.mem ((c.tc : Thread Cert.BwdMlaIdeal.nD Cert.BwdMlaIdeal.τ).loc Cert.BwdMlaIdeal.main_arg2) = m ((c.tc : Thread Cert.BwdMlaIdeal.nD Cert.BwdMlaIdeal.τ).loc Cert.BwdMlaIdeal.main_arg2)
          ∧ r.2.mem ((c.tc : Thread Cert.BwdMlaIdeal.nD Cert.BwdMlaIdeal.τ).loc Cert.BwdMlaIdeal.main_arg3) = m ((c.tc : Thread Cert.BwdMlaIdeal.nD Cert.BwdMlaIdeal.τ).loc Cert.BwdMlaIdeal.main_arg3)
          ∧ r.2.mem ((c.tc : Thread Cert.BwdMlaIdeal.nD Cert.BwdMlaIdeal.τ).loc Cert.BwdMlaIdeal.main_arg4) = m ((c.tc : Thread Cert.BwdMlaIdeal.nD Cert.BwdMlaIdeal.τ).loc Cert.BwdMlaIdeal.main_arg4)
          ∧ r.2.mem ((c.tc : Thread Cert.BwdMlaIdeal.nD Cert.BwdMlaIdeal.τ).loc Cert.BwdMlaIdeal.main_arg5) = m ((c.tc : Thread Cert.BwdMlaIdeal.nD Cert.BwdMlaIdeal.τ).loc Cert.BwdMlaIdeal.main_arg5)
          ∧ r.2.mem ((c.tc : Thread Cert.BwdMlaIdeal.nD Cert.BwdMlaIdeal.τ).loc Cert.BwdMlaIdeal.main_arg6) = m ((c.tc : Thread Cert.BwdMlaIdeal.nD Cert.BwdMlaIdeal.τ).loc Cert.BwdMlaIdeal.main_arg6)
          ∧ r.2.mem ((c.tc : Thread Cert.BwdMlaIdeal.nD Cert.BwdMlaIdeal.τ).loc Cert.BwdMlaIdeal.main_arg7) = m ((c.tc : Thread Cert.BwdMlaIdeal.nD Cert.BwdMlaIdeal.τ).loc Cert.BwdMlaIdeal.main_arg7)
          ∧ r.2.mem ((c.tc : Thread Cert.BwdMlaIdeal.nD Cert.BwdMlaIdeal.τ).loc Cert.BwdMlaIdeal.main_arg8) = m ((c.tc : Thread Cert.BwdMlaIdeal.nD Cert.BwdMlaIdeal.τ).loc Cert.BwdMlaIdeal.main_arg8)
          ∧ r.2.mem ((c.tc : Thread Cert.BwdMlaIdeal.nD Cert.BwdMlaIdeal.τ).loc Cert.BwdMlaIdeal.main_arg9) = m ((c.tc : Thread Cert.BwdMlaIdeal.nD Cert.BwdMlaIdeal.τ).loc Cert.BwdMlaIdeal.main_arg9)
          ∧ r.2.mem ((c.tc : Thread Cert.BwdMlaIdeal.nD Cert.BwdMlaIdeal.τ).loc Cert.BwdMlaIdeal.main_arg10) = m ((c.tc : Thread Cert.BwdMlaIdeal.nD Cert.BwdMlaIdeal.τ).loc Cert.BwdMlaIdeal.main_arg10))
      ∧ θ_run (Cert.MlaVjpIdeal.defs (F := Ideal)) (onTc (τ := Cert.MlaVjpIdeal.τ) (Cert.MlaVjpIdeal.main (F := Ideal))) ⟨m', fun _ => 0, g'⟩ (fun r => ∀ c : Dev Cert.MlaVjpIdeal.nD,
          r.2.mem ((c.tc : Thread Cert.MlaVjpIdeal.nD Cert.MlaVjpIdeal.τ).loc Cert.MlaVjpIdeal.main_v264) = v0 c
          ∧ r.2.mem ((c.tc : Thread Cert.MlaVjpIdeal.nD Cert.MlaVjpIdeal.τ).loc Cert.MlaVjpIdeal.main_v267) = v1 c
          ∧ r.2.mem ((c.tc : Thread Cert.MlaVjpIdeal.nD Cert.MlaVjpIdeal.τ).loc Cert.MlaVjpIdeal.main_v218) = v2 c
          ∧ r.2.mem ((c.tc : Thread Cert.MlaVjpIdeal.nD Cert.MlaVjpIdeal.τ).loc Cert.MlaVjpIdeal.main_v245) = v3 c
          ∧ r.2.mem ((c.tc : Thread Cert.MlaVjpIdeal.nD Cert.MlaVjpIdeal.τ).loc Cert.MlaVjpIdeal.main_v222) = v4 c
          ∧ r.2.mem ((c.tc : Thread Cert.MlaVjpIdeal.nD Cert.MlaVjpIdeal.τ).loc Cert.MlaVjpIdeal.main_v268) = v5 c
          ∧ r.2.mem ((c.tc : Thread Cert.MlaVjpIdeal.nD Cert.MlaVjpIdeal.τ).loc Cert.MlaVjpIdeal.main_v269) = v6 c
          ∧ r.2.mem ((c.tc : Thread Cert.MlaVjpIdeal.nD Cert.MlaVjpIdeal.τ).loc Cert.MlaVjpIdeal.main_arg0) = m' ((c.tc : Thread Cert.MlaVjpIdeal.nD Cert.MlaVjpIdeal.τ).loc Cert.MlaVjpIdeal.main_arg0)
          ∧ r.2.mem ((c.tc : Thread Cert.MlaVjpIdeal.nD Cert.MlaVjpIdeal.τ).loc Cert.MlaVjpIdeal.main_arg1) = m' ((c.tc : Thread Cert.MlaVjpIdeal.nD Cert.MlaVjpIdeal.τ).loc Cert.MlaVjpIdeal.main_arg1)
          ∧ r.2.mem ((c.tc : Thread Cert.MlaVjpIdeal.nD Cert.MlaVjpIdeal.τ).loc Cert.MlaVjpIdeal.main_arg2) = m' ((c.tc : Thread Cert.MlaVjpIdeal.nD Cert.MlaVjpIdeal.τ).loc Cert.MlaVjpIdeal.main_arg2)
          ∧ r.2.mem ((c.tc : Thread Cert.MlaVjpIdeal.nD Cert.MlaVjpIdeal.τ).loc Cert.MlaVjpIdeal.main_arg3) = m' ((c.tc : Thread Cert.MlaVjpIdeal.nD Cert.MlaVjpIdeal.τ).loc Cert.MlaVjpIdeal.main_arg3)
          ∧ r.2.mem ((c.tc : Thread Cert.MlaVjpIdeal.nD Cert.MlaVjpIdeal.τ).loc Cert.MlaVjpIdeal.main_arg4) = m' ((c.tc : Thread Cert.MlaVjpIdeal.nD Cert.MlaVjpIdeal.τ).loc Cert.MlaVjpIdeal.main_arg4)
          ∧ r.2.mem ((c.tc : Thread Cert.MlaVjpIdeal.nD Cert.MlaVjpIdeal.τ).loc Cert.MlaVjpIdeal.main_arg5) = m' ((c.tc : Thread Cert.MlaVjpIdeal.nD Cert.MlaVjpIdeal.τ).loc Cert.MlaVjpIdeal.main_arg5)
          ∧ r.2.mem ((c.tc : Thread Cert.MlaVjpIdeal.nD Cert.MlaVjpIdeal.τ).loc Cert.MlaVjpIdeal.main_arg6) = m' ((c.tc : Thread Cert.MlaVjpIdeal.nD Cert.MlaVjpIdeal.τ).loc Cert.MlaVjpIdeal.main_arg6)
          ∧ r.2.mem ((c.tc : Thread Cert.MlaVjpIdeal.nD Cert.MlaVjpIdeal.τ).loc Cert.MlaVjpIdeal.main_arg7) = m' ((c.tc : Thread Cert.MlaVjpIdeal.nD Cert.MlaVjpIdeal.τ).loc Cert.MlaVjpIdeal.main_arg7)
          ∧ r.2.mem ((c.tc : Thread Cert.MlaVjpIdeal.nD Cert.MlaVjpIdeal.τ).loc Cert.MlaVjpIdeal.main_arg8) = m' ((c.tc : Thread Cert.MlaVjpIdeal.nD Cert.MlaVjpIdeal.τ).loc Cert.MlaVjpIdeal.main_arg8)
          ∧ r.2.mem ((c.tc : Thread Cert.MlaVjpIdeal.nD Cert.MlaVjpIdeal.τ).loc Cert.MlaVjpIdeal.main_arg9) = m' ((c.tc : Thread Cert.MlaVjpIdeal.nD Cert.MlaVjpIdeal.τ).loc Cert.MlaVjpIdeal.main_arg9)
          ∧ r.2.mem ((c.tc : Thread Cert.MlaVjpIdeal.nD Cert.MlaVjpIdeal.τ).loc Cert.MlaVjpIdeal.main_arg10) = m' ((c.tc : Thread Cert.MlaVjpIdeal.nD Cert.MlaVjpIdeal.τ).loc Cert.MlaVjpIdeal.main_arg10))

def preserves_BwdGla_BwdGlaIdeal : Prop :=
  True

def preserves_FwdIn_FwdInIdeal : Prop :=
  True

def algebraic_FwdInIdeal_InRefIdeal [hFwdInIdeal : Cert.FwdInIdeal.Facts] [hInRefIdeal : Cert.InRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.InRefIdeal.nD Cert.InRefIdeal.τ Cert.InRefIdeal.sig) → Buf (Elt Ideal) ℓ) (g' : Dev Cert.InRefIdeal.nD → PrngReg), Pre_FwdInIdeal m →
    (∀ c : Dev Cert.FwdInIdeal.nD,
      m' ((c.tc : Thread Cert.InRefIdeal.nD Cert.InRefIdeal.τ).loc Cert.InRefIdeal.main_arg0) = m ((c.tc : Thread Cert.FwdInIdeal.nD Cert.FwdInIdeal.τ).loc Cert.FwdInIdeal.main_arg0)
      ∧ m' ((c.tc : Thread Cert.InRefIdeal.nD Cert.InRefIdeal.τ).loc Cert.InRefIdeal.main_arg1) = m ((c.tc : Thread Cert.FwdInIdeal.nD Cert.FwdInIdeal.τ).loc Cert.FwdInIdeal.main_arg1)
      ∧ m' ((c.tc : Thread Cert.InRefIdeal.nD Cert.InRefIdeal.τ).loc Cert.InRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v5_0)) (v1 : (c : Dev Cert.FwdInIdeal.nD) → Buf (Elt Ideal) ((c.tc : Thread Cert.FwdInIdeal.nD Cert.FwdInIdeal.τ).loc Cert.FwdInIdeal.main_v5_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v5_0) = v0 c
          ∧ r.2.mem ((c.tc : Thread Cert.FwdInIdeal.nD Cert.FwdInIdeal.τ).loc Cert.FwdInIdeal.main_v5_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v16) = v0 c
          ∧ r.2.mem ((c.tc : Thread Cert.InRefIdeal.nD Cert.InRefIdeal.τ).loc Cert.InRefIdeal.main_v18) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_FwdMix_FwdMixIdeal : Prop :=
  True

def algebraic_FwdMixIdeal_MixRefIdeal [hFwdMixIdeal : Cert.FwdMixIdeal.Facts] [hMixRefIdeal : Cert.MixRefIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_FwdMixIdeal m →
    (∀ c : Dev Cert.FwdMixIdeal.nD,
      m' ((c.tc : Thread Cert.MixRefIdeal.nD Cert.MixRefIdeal.τ).loc Cert.MixRefIdeal.main_arg0) = m ((c.tc : Thread Cert.FwdMixIdeal.nD Cert.FwdMixIdeal.τ).loc Cert.FwdMixIdeal.main_arg0)
      ∧ m' ((c.tc : Thread Cert.MixRefIdeal.nD Cert.MixRefIdeal.τ).loc Cert.MixRefIdeal.main_arg1) = m ((c.tc : Thread Cert.FwdMixIdeal.nD Cert.FwdMixIdeal.τ).loc Cert.FwdMixIdeal.main_arg1)
      ∧ m' ((c.tc : Thread Cert.MixRefIdeal.nD Cert.MixRefIdeal.τ).loc Cert.MixRefIdeal.main_arg2) = m ((c.tc : Thread Cert.FwdMixIdeal.nD Cert.FwdMixIdeal.τ).loc Cert.FwdMixIdeal.main_arg2)
      ∧ m' ((c.tc : Thread Cert.MixRefIdeal.nD Cert.MixRefIdeal.τ).loc Cert.MixRefIdeal.main_arg3) = m ((c.tc : Thread Cert.FwdMixIdeal.nD Cert.FwdMixIdeal.τ).loc Cert.FwdMixIdeal.main_arg3)
      ∧ m' ((c.tc : Thread Cert.MixRefIdeal.nD Cert.MixRefIdeal.τ).loc Cert.MixRefIdeal.main_arg4) = m ((c.tc : Thread Cert.FwdMixIdeal.nD Cert.FwdMixIdeal.τ).loc Cert.FwdMixIdeal.main_arg4)
      ∧ m' ((c.tc : Thread Cert.MixRefIdeal.nD Cert.MixRefIdeal.τ).loc Cert.MixRefIdeal.main_arg5) = m ((c.tc : Thread Cert.FwdMixIdeal.nD Cert.FwdMixIdeal.τ).loc Cert.FwdMixIdeal.main_arg5)
      ∧ m' ((c.tc : Thread Cert.MixRefIdeal.nD Cert.MixRefIdeal.τ).loc Cert.MixRefIdeal.main_arg6) = m ((c.tc : Thread Cert.FwdMixIdeal.nD Cert.FwdMixIdeal.τ).loc Cert.FwdMixIdeal.main_arg6)
      ∧ m' ((c.tc : Thread Cert.MixRefIdeal.nD Cert.MixRefIdeal.τ).loc Cert.MixRefIdeal.main_arg7) = m ((c.tc : Thread Cert.FwdMixIdeal.nD Cert.FwdMixIdeal.τ).loc Cert.FwdMixIdeal.main_arg7)
      ∧ m' ((c.tc : Thread Cert.MixRefIdeal.nD Cert.MixRefIdeal.τ).loc Cert.MixRefIdeal.main_arg8) = m ((c.tc : Thread Cert.FwdMixIdeal.nD Cert.FwdMixIdeal.τ).loc Cert.FwdMixIdeal.main_arg8)
      ∧ m' ((c.tc : Thread Cert.MixRefIdeal.nD Cert.MixRefIdeal.τ).loc Cert.MixRefIdeal.main_arg9) = m ((c.tc : Thread Cert.FwdMixIdeal.nD Cert.FwdMixIdeal.τ).loc Cert.FwdMixIdeal.main_arg9)) →
    ∃ (v0 : (c : Dev Cert.FwdMixIdeal.nD) → Buf (Elt Ideal) ((c.tc : Thread Cert.FwdMixIdeal.nD Cert.FwdMixIdeal.τ).loc Cert.FwdMixIdeal.main_v6_0)) (v1 : (c : Dev Cert.FwdMixIdeal.nD) → Buf (Elt Ideal) ((c.tc : Thread Cert.FwdMixIdeal.nD Cert.FwdMixIdeal.τ).loc Cert.FwdMixIdeal.main_v6_1)) (v2 : (c : Dev Cert.FwdMixIdeal.nD) → Buf (Elt Ideal) ((c.tc : Thread Cert.FwdMixIdeal.nD Cert.FwdMixIdeal.τ).loc Cert.FwdMixIdeal.main_v6_2)) (v3 : (c : Dev Cert.FwdMixIdeal.nD) → Buf (Elt Ideal) ((c.tc : Thread Cert.FwdMixIdeal.nD Cert.FwdMixIdeal.τ).loc Cert.FwdMixIdeal.main_v6_3)) (v4 : (c : Dev Cert.FwdMixIdeal.nD) → Buf (Elt Ideal) ((c.tc : Thread Cert.FwdMixIdeal.nD Cert.FwdMixIdeal.τ).loc Cert.FwdMixIdeal.main_v6_4)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v6_0) = v0 c
          ∧ r.2.mem ((c.tc : Thread Cert.FwdMixIdeal.nD Cert.FwdMixIdeal.τ).loc Cert.FwdMixIdeal.main_v6_1) = v1 c
          ∧ r.2.mem ((c.tc : Thread Cert.FwdMixIdeal.nD Cert.FwdMixIdeal.τ).loc Cert.FwdMixIdeal.main_v6_2) = v2 c
          ∧ r.2.mem ((c.tc : Thread Cert.FwdMixIdeal.nD Cert.FwdMixIdeal.τ).loc Cert.FwdMixIdeal.main_v6_3) = v3 c
          ∧ r.2.mem ((c.tc : Thread Cert.FwdMixIdeal.nD Cert.FwdMixIdeal.τ).loc Cert.FwdMixIdeal.main_v6_4) = v4 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
          ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
          ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
          ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8)
          ∧ r.2.mem ((c.tc : Thread Cert.FwdMixIdeal.nD Cert.FwdMixIdeal.τ).loc Cert.FwdMixIdeal.main_arg9) = m ((c.tc : Thread Cert.FwdMixIdeal.nD Cert.FwdMixIdeal.τ).loc Cert.FwdMixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v23) = v0 c
          ∧ r.2.mem ((c.tc : Thread Cert.MixRefIdeal.nD Cert.MixRefIdeal.τ).loc Cert.MixRefIdeal.main_v45) = v1 c
          ∧ r.2.mem ((c.tc : Thread Cert.MixRefIdeal.nD Cert.MixRefIdeal.τ).loc Cert.MixRefIdeal.main_v44) = v2 c
          ∧ r.2.mem ((c.tc : Thread Cert.MixRefIdeal.nD Cert.MixRefIdeal.τ).loc Cert.MixRefIdeal.main_v46) = v3 c
          ∧ r.2.mem ((c.tc : Thread Cert.MixRefIdeal.nD Cert.MixRefIdeal.τ).loc Cert.MixRefIdeal.main_v47) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_FwdMla_FwdMlaIdeal : Prop :=
  IdealRules.named_const.Statement Cert.FwdMlaIdeal.κ "over_qk_head" .f32 0x3BAAAAAB#32 ((192⁻¹ : ℝ) : EReal)

def algebraic_FwdMlaIdeal_MlaRefIdeal [hFwdMlaIdeal : Cert.FwdMlaIdeal.Facts] [hMlaRefIdeal : Cert.MlaRefIdeal.Facts] : Prop :=
  ∀ (m : (ℓ : Loc Cert.FwdMlaIdeal.nD Cert.FwdMlaIdeal.τ Cert.FwdMlaIdeal.sig) → Buf (Elt Ideal) ℓ) (g : Dev Cert.FwdMlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_FwdMlaIdeal m →
    (∀ c : Dev Cert.FwdMlaIdeal.nD,
      m' ((c.tc : Thread Cert.MlaRefIdeal.nD Cert.MlaRefIdeal.τ).loc Cert.MlaRefIdeal.main_arg0) = m ((c.tc : Thread Cert.FwdMlaIdeal.nD Cert.FwdMlaIdeal.τ).loc Cert.FwdMlaIdeal.main_arg0)
      ∧ m' ((c.tc : Thread Cert.MlaRefIdeal.nD Cert.MlaRefIdeal.τ).loc Cert.MlaRefIdeal.main_arg1) = m ((c.tc : Thread Cert.FwdMlaIdeal.nD Cert.FwdMlaIdeal.τ).loc Cert.FwdMlaIdeal.main_arg1)
      ∧ m' ((c.tc : Thread Cert.MlaRefIdeal.nD Cert.MlaRefIdeal.τ).loc Cert.MlaRefIdeal.main_arg2) = m ((c.tc : Thread Cert.FwdMlaIdeal.nD Cert.FwdMlaIdeal.τ).loc Cert.FwdMlaIdeal.main_arg2)
      ∧ m' ((c.tc : Thread Cert.MlaRefIdeal.nD Cert.MlaRefIdeal.τ).loc Cert.MlaRefIdeal.main_arg3) = m ((c.tc : Thread Cert.FwdMlaIdeal.nD Cert.FwdMlaIdeal.τ).loc Cert.FwdMlaIdeal.main_arg3)
      ∧ m' ((c.tc : Thread Cert.MlaRefIdeal.nD Cert.MlaRefIdeal.τ).loc Cert.MlaRefIdeal.main_arg4) = m ((c.tc : Thread Cert.FwdMlaIdeal.nD Cert.FwdMlaIdeal.τ).loc Cert.FwdMlaIdeal.main_arg4)
      ∧ m' ((c.tc : Thread Cert.MlaRefIdeal.nD Cert.MlaRefIdeal.τ).loc Cert.MlaRefIdeal.main_arg5) = m ((c.tc : Thread Cert.FwdMlaIdeal.nD Cert.FwdMlaIdeal.τ).loc Cert.FwdMlaIdeal.main_arg5)
      ∧ m' ((c.tc : Thread Cert.MlaRefIdeal.nD Cert.MlaRefIdeal.τ).loc Cert.MlaRefIdeal.main_arg6) = m ((c.tc : Thread Cert.FwdMlaIdeal.nD Cert.FwdMlaIdeal.τ).loc Cert.FwdMlaIdeal.main_arg6)
      ∧ m' ((c.tc : Thread Cert.MlaRefIdeal.nD Cert.MlaRefIdeal.τ).loc Cert.MlaRefIdeal.main_arg7) = m ((c.tc : Thread Cert.FwdMlaIdeal.nD Cert.FwdMlaIdeal.τ).loc Cert.FwdMlaIdeal.main_arg7)) →
    ∃ (v0 : (c : Dev Cert.FwdMlaIdeal.nD) → Buf (Elt Ideal) ((c.tc : Thread Cert.FwdMlaIdeal.nD Cert.FwdMlaIdeal.τ).loc Cert.FwdMlaIdeal.main_v32_0)) (v1 : (c : Dev Cert.FwdMlaIdeal.nD) → Buf (Elt Ideal) ((c.tc : Thread Cert.FwdMlaIdeal.nD Cert.FwdMlaIdeal.τ).loc Cert.FwdMlaIdeal.main_v32_1)) (v2 : (c : Dev Cert.FwdMlaIdeal.nD) → Buf (Elt Ideal) ((c.tc : Thread Cert.FwdMlaIdeal.nD Cert.FwdMlaIdeal.τ).loc Cert.FwdMlaIdeal.main_v32_2)),
      θ_run (Cert.FwdMlaIdeal.defs (F := Ideal)) (onTc (τ := Cert.FwdMlaIdeal.τ) (Cert.FwdMlaIdeal.main (F := Ideal))) ⟨m, fun _ => 0, g⟩ (fun r => ∀ c : Dev Cert.FwdMlaIdeal.nD,
          r.2.mem ((c.tc : Thread Cert.FwdMlaIdeal.nD Cert.FwdMlaIdeal.τ).loc Cert.FwdMlaIdeal.main_v32_0) = v0 c
          ∧ r.2.mem ((c.tc : Thread Cert.FwdMlaIdeal.nD Cert.FwdMlaIdeal.τ).loc Cert.FwdMlaIdeal.main_v32_1) = v1 c
          ∧ r.2.mem ((c.tc : Thread Cert.FwdMlaIdeal.nD Cert.FwdMlaIdeal.τ).loc Cert.FwdMlaIdeal.main_v32_2) = v2 c
          ∧ r.2.mem ((c.tc : Thread Cert.FwdMlaIdeal.nD Cert.FwdMlaIdeal.τ).loc Cert.FwdMlaIdeal.main_arg0) = m ((c.tc : Thread Cert.FwdMlaIdeal.nD Cert.FwdMlaIdeal.τ).loc Cert.FwdMlaIdeal.main_arg0)
          ∧ r.2.mem ((c.tc : Thread Cert.FwdMlaIdeal.nD Cert.FwdMlaIdeal.τ).loc Cert.FwdMlaIdeal.main_arg1) = m ((c.tc : Thread Cert.FwdMlaIdeal.nD Cert.FwdMlaIdeal.τ).loc Cert.FwdMlaIdeal.main_arg1)
          ∧ r.2.mem ((c.tc : Thread Cert.FwdMlaIdeal.nD Cert.FwdMlaIdeal.τ).loc Cert.FwdMlaIdeal.main_arg2) = m ((c.tc : Thread Cert.FwdMlaIdeal.nD Cert.FwdMlaIdeal.τ).loc Cert.FwdMlaIdeal.main_arg2)
          ∧ r.2.mem ((c.tc : Thread Cert.FwdMlaIdeal.nD Cert.FwdMlaIdeal.τ).loc Cert.FwdMlaIdeal.main_arg3) = m ((c.tc : Thread Cert.FwdMlaIdeal.nD Cert.FwdMlaIdeal.τ).loc Cert.FwdMlaIdeal.main_arg3)
          ∧ r.2.mem ((c.tc : Thread Cert.FwdMlaIdeal.nD Cert.FwdMlaIdeal.τ).loc Cert.FwdMlaIdeal.main_arg4) = m ((c.tc : Thread Cert.FwdMlaIdeal.nD Cert.FwdMlaIdeal.τ).loc Cert.FwdMlaIdeal.main_arg4)
          ∧ r.2.mem ((c.tc : Thread Cert.FwdMlaIdeal.nD Cert.FwdMlaIdeal.τ).loc Cert.FwdMlaIdeal.main_arg5) = m ((c.tc : Thread Cert.FwdMlaIdeal.nD Cert.FwdMlaIdeal.τ).loc Cert.FwdMlaIdeal.main_arg5)
          ∧ r.2.mem ((c.tc : Thread Cert.FwdMlaIdeal.nD Cert.FwdMlaIdeal.τ).loc Cert.FwdMlaIdeal.main_arg6) = m ((c.tc : Thread Cert.FwdMlaIdeal.nD Cert.FwdMlaIdeal.τ).loc Cert.FwdMlaIdeal.main_arg6)
          ∧ r.2.mem ((c.tc : Thread Cert.FwdMlaIdeal.nD Cert.FwdMlaIdeal.τ).loc Cert.FwdMlaIdeal.main_arg7) = m ((c.tc : Thread Cert.FwdMlaIdeal.nD Cert.FwdMlaIdeal.τ).loc Cert.FwdMlaIdeal.main_arg7))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v118) = v0 c
          ∧ r.2.mem ((c.tc : Thread Cert.MlaRefIdeal.nD Cert.MlaRefIdeal.τ).loc Cert.MlaRefIdeal.main_v121) = v1 c
          ∧ r.2.mem ((c.tc : Thread Cert.MlaRefIdeal.nD Cert.MlaRefIdeal.τ).loc Cert.MlaRefIdeal.main_v123) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7))

def Claim : Prop :=
  ∃ (hFfnHidden : Cert.FfnHidden.Facts) (hFfnHiddenIdeal : Cert.FfnHiddenIdeal.Facts) (hFfnHiddenVjpIdeal : Cert.FfnHiddenVjpIdeal.Facts) (hBwdAttn : Cert.BwdAttn.Facts) (hBwdAttnIdeal : Cert.BwdAttnIdeal.Facts) (hAttnVjpIdeal : Cert.AttnVjpIdeal.Facts) (hFfnIn : Cert.FfnIn.Facts) (hFfnInIdeal : Cert.FfnInIdeal.Facts) (hFfnInVjpIdeal : Cert.FfnInVjpIdeal.Facts) (hPleLoss : Cert.PleLoss.Facts) (hPleLossIdeal : Cert.PleLossIdeal.Facts) (hPleLossVjpIdeal : Cert.PleLossVjpIdeal.Facts) (hBwdMix : Cert.BwdMix.Facts) (hBwdMixIdeal : Cert.BwdMixIdeal.Facts) (hMixVjpIdeal : Cert.MixVjpIdeal.Facts) (hBwdIn : Cert.BwdIn.Facts) (hBwdInIdeal : Cert.BwdInIdeal.Facts) (hInVjpIdeal : Cert.InVjpIdeal.Facts) (hFwdAttn : Cert.FwdAttn.Facts) (hFwdAttnIdeal : Cert.FwdAttnIdeal.Facts) (hAttnRefIdeal : Cert.AttnRefIdeal.Facts) (hBwdMla : Cert.BwdMla.Facts) (hBwdMlaIdeal : Cert.BwdMlaIdeal.Facts) (hMlaVjpIdeal : Cert.MlaVjpIdeal.Facts) (hBwdGla : Cert.BwdGla.Facts) (hBwdGlaIdeal : Cert.BwdGlaIdeal.Facts) (hFwdIn : Cert.FwdIn.Facts) (hFwdInIdeal : Cert.FwdInIdeal.Facts) (hInRefIdeal : Cert.InRefIdeal.Facts) (hFwdMix : Cert.FwdMix.Facts) (hFwdMixIdeal : Cert.FwdMixIdeal.Facts) (hMixRefIdeal : Cert.MixRefIdeal.Facts) (hFwdMla : Cert.FwdMla.Facts) (hFwdMlaIdeal : Cert.FwdMlaIdeal.Facts) (hMlaRefIdeal : Cert.MlaRefIdeal.Facts) (hPre_finite_ffn_hidden : Cert.Pre_finite_ffn_hidden.Facts) (hPre_finite_bwd_attn : Cert.Pre_finite_bwd_attn.Facts) (hPre_finite_ffn_in : Cert.Pre_finite_ffn_in.Facts) (hPre_finite_ple_loss : Cert.Pre_finite_ple_loss.Facts) (hPre_finite_bwd_mix : Cert.Pre_finite_bwd_mix.Facts) (hPre_finite_bwd_in : Cert.Pre_finite_bwd_in.Facts) (hPre_finite_fwd_attn : Cert.Pre_finite_fwd_attn.Facts) (hPre_finite_bwd_mla : Cert.Pre_finite_bwd_mla.Facts),
    quiescent_FfnHidden (hFfnHidden := hFfnHidden)
    ∧ quiescent_FfnHiddenIdeal (hFfnHiddenIdeal := hFfnHiddenIdeal)
    ∧ quiescent_FfnHiddenIdeal_pre_finite_ffn_hidden (hFfnHiddenIdeal := hFfnHiddenIdeal) (hPre_finite_ffn_hidden := hPre_finite_ffn_hidden)
    ∧ quiescent_FfnHiddenVjpIdeal (hFfnHiddenVjpIdeal := hFfnHiddenVjpIdeal)
    ∧ quiescent_FfnHiddenVjpIdeal_pre_finite_ffn_hidden (hFfnHiddenVjpIdeal := hFfnHiddenVjpIdeal) (hPre_finite_ffn_hidden := hPre_finite_ffn_hidden)
    ∧ quiescent_BwdAttn (hBwdAttn := hBwdAttn)
    ∧ quiescent_BwdAttnIdeal (hBwdAttnIdeal := hBwdAttnIdeal)
    ∧ quiescent_BwdAttnIdeal_pre_finite_bwd_attn (hBwdAttnIdeal := hBwdAttnIdeal) (hPre_finite_bwd_attn := hPre_finite_bwd_attn)
    ∧ quiescent_AttnVjpIdeal (hAttnVjpIdeal := hAttnVjpIdeal)
    ∧ quiescent_AttnVjpIdeal_pre_finite_bwd_attn (hAttnVjpIdeal := hAttnVjpIdeal) (hPre_finite_bwd_attn := hPre_finite_bwd_attn)
    ∧ quiescent_FfnIn (hFfnIn := hFfnIn)
    ∧ quiescent_FfnInIdeal (hFfnInIdeal := hFfnInIdeal)
    ∧ quiescent_FfnInIdeal_pre_finite_ffn_in (hFfnInIdeal := hFfnInIdeal) (hPre_finite_ffn_in := hPre_finite_ffn_in)
    ∧ quiescent_FfnInVjpIdeal (hFfnInVjpIdeal := hFfnInVjpIdeal)
    ∧ quiescent_FfnInVjpIdeal_pre_finite_ffn_in (hFfnInVjpIdeal := hFfnInVjpIdeal) (hPre_finite_ffn_in := hPre_finite_ffn_in)
    ∧ quiescent_PleLoss (hPleLoss := hPleLoss)
    ∧ quiescent_PleLossIdeal (hPleLossIdeal := hPleLossIdeal)
    ∧ quiescent_PleLossIdeal_pre_finite_ple_loss (hPleLossIdeal := hPleLossIdeal) (hPre_finite_ple_loss := hPre_finite_ple_loss)
    ∧ quiescent_PleLossVjpIdeal (hPleLossVjpIdeal := hPleLossVjpIdeal)
    ∧ quiescent_PleLossVjpIdeal_pre_finite_ple_loss (hPleLossVjpIdeal := hPleLossVjpIdeal) (hPre_finite_ple_loss := hPre_finite_ple_loss)
    ∧ quiescent_BwdMix (hBwdMix := hBwdMix)
    ∧ quiescent_BwdMixIdeal (hBwdMixIdeal := hBwdMixIdeal)
    ∧ quiescent_BwdMixIdeal_pre_finite_bwd_mix (hBwdMixIdeal := hBwdMixIdeal) (hPre_finite_bwd_mix := hPre_finite_bwd_mix)
    ∧ quiescent_MixVjpIdeal (hMixVjpIdeal := hMixVjpIdeal)
    ∧ quiescent_MixVjpIdeal_pre_finite_bwd_mix (hMixVjpIdeal := hMixVjpIdeal) (hPre_finite_bwd_mix := hPre_finite_bwd_mix)
    ∧ quiescent_BwdIn (hBwdIn := hBwdIn)
    ∧ quiescent_BwdInIdeal (hBwdInIdeal := hBwdInIdeal)
    ∧ quiescent_BwdInIdeal_pre_finite_bwd_in (hBwdInIdeal := hBwdInIdeal) (hPre_finite_bwd_in := hPre_finite_bwd_in)
    ∧ quiescent_InVjpIdeal (hInVjpIdeal := hInVjpIdeal)
    ∧ quiescent_InVjpIdeal_pre_finite_bwd_in (hInVjpIdeal := hInVjpIdeal) (hPre_finite_bwd_in := hPre_finite_bwd_in)
    ∧ quiescent_FwdAttn (hFwdAttn := hFwdAttn)
    ∧ quiescent_FwdAttnIdeal (hFwdAttnIdeal := hFwdAttnIdeal)
    ∧ quiescent_FwdAttnIdeal_pre_finite_fwd_attn (hFwdAttnIdeal := hFwdAttnIdeal) (hPre_finite_fwd_attn := hPre_finite_fwd_attn)
    ∧ quiescent_AttnRefIdeal (hAttnRefIdeal := hAttnRefIdeal)
    ∧ quiescent_AttnRefIdeal_pre_finite_fwd_attn (hAttnRefIdeal := hAttnRefIdeal) (hPre_finite_fwd_attn := hPre_finite_fwd_attn)
    ∧ quiescent_BwdMla (hBwdMla := hBwdMla)
    ∧ quiescent_BwdMlaIdeal (hBwdMlaIdeal := hBwdMlaIdeal)
    ∧ quiescent_BwdMlaIdeal_pre_finite_bwd_mla (hBwdMlaIdeal := hBwdMlaIdeal) (hPre_finite_bwd_mla := hPre_finite_bwd_mla)
    ∧ quiescent_MlaVjpIdeal (hMlaVjpIdeal := hMlaVjpIdeal)
    ∧ quiescent_MlaVjpIdeal_pre_finite_bwd_mla (hMlaVjpIdeal := hMlaVjpIdeal) (hPre_finite_bwd_mla := hPre_finite_bwd_mla)
    ∧ quiescent_BwdGla (hBwdGla := hBwdGla)
    ∧ quiescent_BwdGlaIdeal (hBwdGlaIdeal := hBwdGlaIdeal)
    ∧ quiescent_FwdIn (hFwdIn := hFwdIn)
    ∧ quiescent_FwdInIdeal (hFwdInIdeal := hFwdInIdeal)
    ∧ quiescent_InRefIdeal (hInRefIdeal := hInRefIdeal)
    ∧ quiescent_FwdMix (hFwdMix := hFwdMix)
    ∧ quiescent_FwdMixIdeal (hFwdMixIdeal := hFwdMixIdeal)
    ∧ quiescent_MixRefIdeal (hMixRefIdeal := hMixRefIdeal)
    ∧ quiescent_FwdMla (hFwdMla := hFwdMla)
    ∧ quiescent_FwdMlaIdeal (hFwdMlaIdeal := hFwdMlaIdeal)
    ∧ quiescent_MlaRefIdeal (hMlaRefIdeal := hMlaRefIdeal)
    ∧ preserves_FfnHidden_FfnHiddenIdeal
    ∧ algebraic_FfnHiddenIdeal_FfnHiddenVjpIdeal_pre_finite_ffn_hidden (hFfnHiddenIdeal := hFfnHiddenIdeal) (hFfnHiddenVjpIdeal := hFfnHiddenVjpIdeal) (hPre_finite_ffn_hidden := hPre_finite_ffn_hidden)
    ∧ preserves_BwdAttn_BwdAttnIdeal
    ∧ algebraic_BwdAttnIdeal_AttnVjpIdeal_pre_finite_bwd_attn (hBwdAttnIdeal := hBwdAttnIdeal) (hAttnVjpIdeal := hAttnVjpIdeal) (hPre_finite_bwd_attn := hPre_finite_bwd_attn)
    ∧ preserves_FfnIn_FfnInIdeal
    ∧ algebraic_FfnInIdeal_FfnInVjpIdeal_pre_finite_ffn_in (hFfnInIdeal := hFfnInIdeal) (hFfnInVjpIdeal := hFfnInVjpIdeal) (hPre_finite_ffn_in := hPre_finite_ffn_in)
    ∧ preserves_PleLoss_PleLossIdeal
    ∧ algebraic_PleLossIdeal_PleLossVjpIdeal_pre_finite_ple_loss (hPleLossIdeal := hPleLossIdeal) (hPleLossVjpIdeal := hPleLossVjpIdeal) (hPre_finite_ple_loss := hPre_finite_ple_loss)
    ∧ preserves_BwdMix_BwdMixIdeal
    ∧ algebraic_BwdMixIdeal_MixVjpIdeal_pre_finite_bwd_mix (hBwdMixIdeal := hBwdMixIdeal) (hMixVjpIdeal := hMixVjpIdeal) (hPre_finite_bwd_mix := hPre_finite_bwd_mix)
    ∧ preserves_BwdIn_BwdInIdeal
    ∧ algebraic_BwdInIdeal_InVjpIdeal_pre_finite_bwd_in (hBwdInIdeal := hBwdInIdeal) (hInVjpIdeal := hInVjpIdeal) (hPre_finite_bwd_in := hPre_finite_bwd_in)
    ∧ preserves_FwdAttn_FwdAttnIdeal
    ∧ algebraic_FwdAttnIdeal_AttnRefIdeal_pre_finite_fwd_attn (hFwdAttnIdeal := hFwdAttnIdeal) (hAttnRefIdeal := hAttnRefIdeal) (hPre_finite_fwd_attn := hPre_finite_fwd_attn)
    ∧ preserves_BwdMla_BwdMlaIdeal
    ∧ algebraic_BwdMlaIdeal_MlaVjpIdeal_pre_finite_bwd_mla (hBwdMlaIdeal := hBwdMlaIdeal) (hMlaVjpIdeal := hMlaVjpIdeal) (hPre_finite_bwd_mla := hPre_finite_bwd_mla)
    ∧ preserves_BwdGla_BwdGlaIdeal
    ∧ preserves_FwdIn_FwdInIdeal
    ∧ algebraic_FwdInIdeal_InRefIdeal (hFwdInIdeal := hFwdInIdeal) (hInRefIdeal := hInRefIdeal)
    ∧ preserves_FwdMix_FwdMixIdeal
    ∧ algebraic_FwdMixIdeal_MixRefIdeal (hFwdMixIdeal := hFwdMixIdeal) (hMixRefIdeal := hMixRefIdeal)
    ∧ preserves_FwdMla_FwdMlaIdeal
    ∧ algebraic_FwdMlaIdeal_MlaRefIdeal (hFwdMlaIdeal := hFwdMlaIdeal) (hMlaRefIdeal := hMlaRefIdeal)
-- ==== Pre_finite_bwd_attn.lean ====
abbrev S4096x4x192 : Shape := ⟨3, ![4096, 4, 192]⟩
abbrev S4096x4x128 : Shape := ⟨3, ![4096, 4, 128]⟩
abbrev S4096x512 : Shape := ⟨2, ![4096, 512]⟩
abbrev S8x128 : Shape := ⟨2, ![8, 128]⟩
abbrev S_ : Shape := ⟨0, ![]⟩

class Facts : Prop where
  bitsLt_bf16_f32 : FTy.bits .bf16 < FTy.bits .f32
  bcast_S_S4096x4x192 : S_.BroadcastsInDim S4096x4x192 (![] : Fin 0 → Fin S4096x4x192.rank)
  bcast_S_S4096x4x128 : S_.BroadcastsInDim S4096x4x128 (![] : Fin 0 → Fin S4096x4x128.rank)
  bcast_S_S4096x512 : S_.BroadcastsInDim S4096x512 (![] : Fin 0 → Fin S4096x512.rank)

variable [Facts]

def fn {F : FTy → Type} [FloatOps F] (main_arg0 : FVec F S4096x4x192 .bf16) (main_arg1 : FVec F S4096x4x192 .bf16) (main_arg2 : FVec F S4096x4x128 .bf16) (main_arg3 : FVec F S4096x512 .bf16) (main_arg4 : FVec F S8x128 .f32) : IVec S4096x4x192 1 × IVec S4096x4x192 1 × IVec S4096x4x128 1 × IVec S4096x512 1 :=
  let main_v0 : FVec F S4096x4x192 .f32 := (extf .f32 · bitsLt_bf16_f32) main_arg0
  let main_v1 : FVec F S4096x4x192 .f32 := Host.absf main_v0
  let main_cst : FVec F S_ .f32 := constant S_ .f32 0x7F800000#32
  let main_v2 : FVec F S4096x4x192 .f32 := broadcastInDim S4096x4x192 ![] bcast_S_S4096x4x192 main_cst
  let main_v3 : IVec S4096x4x192 1 := cmpf .olt main_v1 main_v2
  let main_v4 : FVec F S4096x4x192 .f32 := (extf .f32 · bitsLt_bf16_f32) main_arg1
  let main_v5 : FVec F S4096x4x192 .f32 := Host.absf main_v4
  let main_cst_0 : FVec F S_ .f32 := constant S_ .f32 0x7F800000#32
  let main_v6 : FVec F S4096x4x192 .f32 := broadcastInDim S4096x4x192 ![] bcast_S_S4096x4x192 main_cst_0
  let main_v7 : IVec S4096x4x192 1 := cmpf .olt main_v5 main_v6
  let main_v8 : FVec F S4096x4x128 .f32 := (extf .f32 · bitsLt_bf16_f32) main_arg2
  let main_v9 : FVec F S4096x4x128 .f32 := Host.absf main_v8
  let main_cst_1 : FVec F S_ .f32 := constant S_ .f32 0x7F800000#32
  let main_v10 : FVec F S4096x4x128 .f32 := broadcastInDim S4096x4x128 ![] bcast_S_S4096x4x128 main_cst_1
  let main_v11 : IVec S4096x4x128 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  (main_v3, main_v7, main_v11, main_v15)
-- ==== Pre_finite_bwd_in.lean ====
abbrev S4096x3136 : Shape := ⟨2, ![4096, 3136]⟩
abbrev S1024x3136 : Shape := ⟨2, ![1024, 3136]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x3136 : S_.BroadcastsInDim S4096x3136 (![] : Fin 0 → Fin S4096x3136.rank)
  bcast_S_S1024x3136 : S_.BroadcastsInDim S1024x3136 (![] : Fin 0 → Fin S1024x3136.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x3136 .bf16) (main_arg1 : FVec F S1024x3136 .bf16) (main_arg2 : FVec F S4096x1024 .f32) (main_arg3 : FVec F S1x1024 .f32) (main_arg4 : FVec F S4096x1024 .f32) : IVec S4096x3136 1 × IVec S1024x3136 1 × IVec S4096x1024 1 × IVec S1x1024 1 × IVec S4096x1024 1 :=
  let main_v0 : FVec F S4096x3136 .f32 := (extf .f32 · bitsLt_bf16_f32) main_arg0
  let main_v1 : FVec F S4096x3136 .f32 := Host.absf main_v0
  let main_cst : FVec F S_ .f32 := constant S_ .f32 0x7F800000#32
  let main_v2 : FVec F S4096x3136 .f32 := broadcastInDim S4096x3136 ![] bcast_S_S4096x3136 main_cst
  let main_v3 : IVec S4096x3136 1 := cmpf .olt main_v1 main_v2
  let main_v4 : FVec F S1024x3136 .f32 := (extf .f32 · bitsLt_bf16_f32) main_arg1
  let main_v5 : FVec F S1024x3136 .f32 := Host.absf main_v4
  let main_cst_0 : FVec F S_ .f32 := constant S_ .f32 0x7F800000#32
  let main_v6 : FVec F S1024x3136 .f32 := broadcastInDim S1024x3136 ![] bcast_S_S1024x3136 main_cst_0
  let main_v7 : IVec S1024x3136 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_finite_bwd_mix.lean ====
abbrev S4096x1024 : Shape := ⟨2, ![4096, 1024]⟩
abbrev S1024x1024 : Shape := ⟨2, ![1024, 1024]⟩
abbrev S4096x512 : Shape := ⟨2, ![4096, 512]⟩
abbrev S4096x3136 : Shape := ⟨2, ![4096, 3136]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S1024x1024 : S_.BroadcastsInDim S1024x1024 (![] : Fin 0 → Fin S1024x1024.rank)
  bcast_S_S4096x512 : S_.BroadcastsInDim S4096x512 (![] : Fin 0 → Fin S4096x512.rank)
  bcast_S_S4096x3136 : S_.BroadcastsInDim S4096x3136 (![] : Fin 0 → Fin S4096x3136.rank)
  bcast_S_S1x512 : S_.BroadcastsInDim S1x512 (![] : Fin 0 → Fin S1x512.rank)

variable [Facts]

def fn {F : FTy → Type} [FloatOps F] (main_arg0 : FVec F S4096x1024 .f32) (main_arg1 : FVec F S1024x1024 .bf16) (main_arg2 : FVec F S4096x512 .bf16) (main_arg3 : FVec F S4096x512 .f32) (main_arg4 : FVec F S4096x3136 .f32) (main_arg5 : FVec F S1x512 .f32) : IVec S4096x1024 1 × IVec S1024x1024 1 × IVec S4096x512 1 × IVec S4096x3136 1 × IVec S1x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := (extf .f32 · bitsLt_bf16_f32) main_arg1
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S4096x512 .f32 := Host.absf main_arg3
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : FVec F S4096x3136 .f32 := Host.absf main_arg4
  let main_cst_2 : FVec F S_ .f32 := constant S_ .f32 0x7F800000#32
  let main_v11 : FVec F S4096x3136 .f32 := broadcastInDim S4096x3136 ![] bcast_S_S4096x3136 main_cst_2
  let main_v12 : IVec S4096x3136 1 := cmpf .olt main_v10 main_v11
  let main_v13 : FVec F S1x512 .f32 := Host.absf main_arg5
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  (main_v2, main_v6, main_v9, main_v12, main_v15)
-- ==== Pre_finite_bwd_mla.lean ====
abbrev S4096x3136 : Shape := ⟨2, ![4096, 3136]⟩
abbrev S4096x4x192 : Shape := ⟨3, ![4096, 4, 192]⟩
abbrev S4096x4x128 : Shape := ⟨3, ![4096, 4, 128]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S_ : Shape := ⟨0, ![]⟩

class Facts : Prop where
  bcast_S_S4096x3136 : S_.BroadcastsInDim S4096x3136 (![] : Fin 0 → Fin S4096x3136.rank)
  bcast_S_S4096x4x192 : S_.BroadcastsInDim S4096x4x192 (![] : Fin 0 → Fin S4096x4x192.rank)
  bcast_S_S4096x4x128 : S_.BroadcastsInDim S4096x4x128 (![] : Fin 0 → Fin S4096x4x128.rank)
  bcast_S_S1x256 : S_.BroadcastsInDim S1x256 (![] : Fin 0 → Fin S1x256.rank)
  bitsLt_bf16_f32 : FTy.bits .bf16 < FTy.bits .f32
  bcast_S_S256x768 : S_.BroadcastsInDim S256x768 (![] : Fin 0 → Fin S256x768.rank)
  bcast_S_S256x1024 : S_.BroadcastsInDim S256x1024 (![] : Fin 0 → Fin S256x1024.rank)
  bcast_S_S1x192 : S_.BroadcastsInDim S1x192 (![] : Fin 0 → Fin S1x192.rank)

variable [Facts]

def fn_part1 {F : FTy → Type} [FloatOps F] (main_arg7 : FVec F S256x768 .bf16) (main_arg8 : FVec F S256x1024 .bf16) (main_arg9 : FVec F S1x192 .f32) (main_arg10 : FVec F S1x192 .f32) (main_v2 : IVec S4096x3136 1) (main_v5 : IVec S4096x4x192 1) (main_v8 : IVec S4096x4x192 1) (main_v11 : IVec S4096x4x128 1) (main_v14 : IVec S1x256 1) (main_v17 : IVec S1x256 1) : IVec S4096x3136 1 × IVec S4096x4x192 1 × IVec S4096x4x192 1 × IVec S4096x4x128 1 × IVec S1x256 1 × IVec S1x256 1 × IVec S256x768 1 × IVec S256x1024 1 × IVec S1x192 1 × IVec S1x192 1 :=
  let main_v18 : FVec F S256x768 .f32 := (extf .f32 · bitsLt_bf16_f32) main_arg7
  let main_v19 : FVec F S256x768 .f32 := Host.absf main_v18
  let main_cst_5 : FVec F S_ .f32 := constant S_ .f32 0x7F800000#32
  let main_v20 : FVec F S256x768 .f32 := broadcastInDim S256x768 ![] bcast_S_S256x768 main_cst_5
  let main_v21 : IVec S256x768 1 := cmpf .olt main_v19 main_v20
  let main_v22 : FVec F S256x1024 .f32 := (extf .f32 · bitsLt_bf16_f32) main_arg8
  let main_v23 : FVec F S256x1024 .f32 := Host.absf main_v22
  let main_cst_6 : FVec F S_ .f32 := constant S_ .f32 0x7F800000#32
  let main_v24 : FVec F S256x1024 .f32 := broadcastInDim S256x1024 ![] bcast_S_S256x1024 main_cst_6
  let main_v25 : IVec S256x1024 1 := cmpf .olt main_v23 main_v24
  let main_v26 : FVec F S1x192 .f32 := Host.absf main_arg9
  let main_cst_7 : FVec F S_ .f32 := constant S_ .f32 0x7F800000#32
  let main_v27 : FVec F S1x192 .f32 := broadcastInDim S1x192 ![] bcast_S_S1x192 main_cst_7
  let main_v28 : IVec S1x192 1 := cmpf .olt main_v26 main_v27
  let main_v29 : FVec F S1x192 .f32 := Host.absf main_arg10
  let main_cst_8 : FVec F S_ .f32 := constant S_ .f32 0x7F800000#32
  let main_v30 : FVec F S1x192 .f32 := broadcastInDim S1x192 ![] bcast_S_S1x192 main_cst_8
  let main_v31 : IVec S1x192 1 := cmpf .olt main_v29 main_v30
  (main_v2, main_v5, main_v8, main_v11, main_v14, main_v17, main_v21, main_v25, main_v28, main_v31)

def fn {F : FTy → Type} [FloatOps F] (main_arg0 : FVec F S4096x3136 .f32) (main_arg1 : FVec F S4096x4x192 .f32) (main_arg2 : FVec F S4096x4x192 .f32) (main_arg3 : FVec F S4096x4x128 .f32) (main_arg4 : IVec S4096 32) (main_arg5 : FVec F S1x256 .f32) (main_arg6 : FVec F S1x256 .f32) (main_arg7 : FVec F S256x768 .bf16) (main_arg8 : FVec F S256x1024 .bf16) (main_arg9 : FVec F S1x192 .f32) (main_arg10 : FVec F S1x192 .f32) : IVec S4096x3136 1 × IVec S4096x4x192 1 × IVec S4096x4x192 1 × IVec S4096x4x128 1 × IVec S1x256 1 × IVec S1x256 1 × IVec S256x768 1 × IVec S256x1024 1 × IVec S1x192 1 × IVec S1x192 1 :=
  let main_v0 : FVec F S4096x3136 .f32 := Host.absf main_arg0
  let main_cst : FVec F S_ .f32 := constant S_ .f32 0x7F800000#32
  let main_v1 : FVec F S4096x3136 .f32 := broadcastInDim S4096x3136 ![] bcast_S_S4096x3136 main_cst
  let main_v2 : IVec S4096x3136 1 := cmpf .olt main_v0 main_v1
  let main_v3 : FVec F S4096x4x192 .f32 := Host.absf main_arg1
  let main_cst_0 : FVec F S_ .f32 := constant S_ .f32 0x7F800000#32
  let main_v4 : FVec F S4096x4x192 .f32 := broadcastInDim S4096x4x192 ![] bcast_S_S4096x4x192 main_cst_0
  let main_v5 : IVec S4096x4x192 1 := cmpf .olt main_v3 main_v4
  let main_v6 : FVec F S4096x4x192 .f32 := Host.absf main_arg2
  let main_cst_1 : FVec F S_ .f32 := constant S_ .f32 0x7F800000#32
  let main_v7 : FVec F S4096x4x192 .f32 := broadcastInDim S4096x4x192 ![] bcast_S_S4096x4x192 main_cst_1
  let main_v8 : IVec S4096x4x192 1 := cmpf .olt main_v6 main_v7
  let main_v9 : FVec F S4096x4x128 .f32 := Host.absf main_arg3
  let main_cst_2 : FVec F S_ .f32 := constant S_ .f32 0x7F800000#32
  let main_v10 : FVec F S4096x4x128 .f32 := broadcastInDim S4096x4x128 ![] bcast_S_S4096x4x128 main_cst_2
  let main_v11 : IVec S4096x4x128 1 := cmpf .olt main_v9 main_v10
  let main_v12 : FVec F S1x256 .f32 := Host.absf main_arg5
  let main_cst_3 : FVec F S_ .f32 := constant S_ .f32 0x7F800000#32
  let main_v13 : FVec F S1x256 .f32 := broadcastInDim S1x256 ![] bcast_S_S1x256 main_cst_3
  let main_v14 : IVec S1x256 1 := cmpf .olt main_v12 main_v13
  let main_v15 : FVec F S1x256 .f32 := Host.absf main_arg6
  let main_cst_4 : FVec F S_ .f32 := constant S_ .f32 0x7F800000#32
  let main_v16 : FVec F S1x256 .f32 := broadcastInDim S1x256 ![] bcast_S_S1x256 main_cst_4
  let main_v17 : IVec S1x256 1 := cmpf .olt main_v15 main_v16
  fn_part1 (F := F) main_arg7 main_arg8 main_arg9 main_arg10 main_v2 main_v5 main_v8 main_v11 main_v14 main_v17
-- ==== Pre_finite_ffn_hidden.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x2816 .bf16) (main_arg2 : FVec F S4096x2816 .bf16) (main_arg3 : FVec F S2816x1024 .bf16) : IVec S4096x1024 1 × IVec S4096x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := (extf .f32 · bitsLt_bf16_f32) main_arg2
  let main_v4 : FVec F S4096x2816 .f32 := Host.absf main_v3
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_v7 : FVec F S2816x1024 .f32 := (extf .f32 · bitsLt_bf16_f32) main_arg3
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  (main_v2, main_v6, main_v10)
-- ==== Pre_finite_ffn_in.lean ====
abbrev S4096x1024 : Shape := ⟨2, ![4096, 1024]⟩
abbrev S4096x2816 : Shape := ⟨2, ![4096, 2816]⟩
abbrev S1x1024 : Shape := ⟨2, ![1, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x2816 : S_.BroadcastsInDim S4096x2816 (![] : Fin 0 → Fin S4096x2816.rank)
  bcast_S_S1x1024 : S_.BroadcastsInDim S1x1024 (![] : Fin 0 → Fin S1x1024.rank)
  bcast_S_S1024x2816 : S_.BroadcastsInDim S1024x2816 (![] : Fin 0 → Fin S1024x2816.rank)

variable [Facts]

def fn_part1 {F : FTy → Type} [FloatOps F] (main_arg6 : FVec F S1024x2816 .bf16) (main_v2 : IVec S4096x1024 1) (main_v5 : IVec S4096x1024 1) (main_v9 : IVec S4096x2816 1) (main_v13 : IVec S4096x2816 1) (main_v16 : IVec S1x1024 1) (main_v18 : FVec F S1024x2816 .f32) : IVec S4096x1024 1 × IVec S4096x1024 1 × IVec S4096x2816 1 × IVec S4096x2816 1 × IVec S1x1024 1 × IVec S1024x2816 1 × IVec S1024x2816 1 :=
  let main_cst_4 : FVec F S_ .f32 := constant S_ .f32 0x7F800000#32
  let main_v19 : FVec F S1024x2816 .f32 := broadcastInDim S1024x2816 ![] bcast_S_S1024x2816 main_cst_4
  let main_v20 : IVec S1024x2816 1 := cmpf .olt main_v18 main_v19
  let main_v21 : FVec F S1024x2816 .f32 := (extf .f32 · bitsLt_bf16_f32) main_arg6
  let main_v22 : FVec F S1024x2816 .f32 := Host.absf main_v21
  let main_cst_5 : FVec F S_ .f32 := constant S_ .f32 0x7F800000#32
  let main_v23 : FVec F S1024x2816 .f32 := broadcastInDim S1024x2816 ![] bcast_S_S1024x2816 main_cst_5
  let main_v24 : IVec S1024x2816 1 := cmpf .olt main_v22 main_v23
  (main_v2, main_v5, main_v9, main_v13, main_v16, main_v20, main_v24)

def fn {F : FTy → Type} [FloatOps F] (main_arg0 : FVec F S4096x1024 .f32) (main_arg1 : FVec F S4096x1024 .f32) (main_arg2 : FVec F S4096x2816 .bf16) (main_arg3 : FVec F S4096x2816 .bf16) (main_arg4 : FVec F S1x1024 .f32) (main_arg5 : FVec F S1024x2816 .bf16) (main_arg6 : FVec F S1024x2816 .bf16) : IVec S4096x1024 1 × IVec S4096x1024 1 × IVec S4096x2816 1 × IVec S4096x2816 1 × IVec S1x1024 1 × IVec S1024x2816 1 × IVec S1024x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x2816 .f32 := (extf .f32 · bitsLt_bf16_f32) main_arg2
  let main_v7 : FVec F S4096x2816 .f32 := Host.absf main_v6
  let main_cst_1 : FVec F S_ .f32 := constant S_ .f32 0x7F800000#32
  let main_v8 : FVec F S4096x2816 .f32 := broadcastInDim S4096x2816 ![] bcast_S_S4096x2816 main_cst_1
  let main_v9 : IVec S4096x2816 1 := cmpf .olt main_v7 main_v8
  let main_v10 : FVec F S4096x2816 .f32 := (extf .f32 · bitsLt_bf16_f32) main_arg3
  let main_v11 : FVec F S4096x2816 .f32 := Host.absf main_v10
  let main_cst_2 : FVec F S_ .f32 := constant S_ .f32 0x7F800000#32
  let main_v12 : FVec F S4096x2816 .f32 := broadcastInDim S4096x2816 ![] bcast_S_S4096x2816 main_cst_2
  let main_v13 : IVec S4096x2816 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1024x2816 .f32 := (extf .f32 · bitsLt_bf16_f32) main_arg5
  let main_v18 : FVec F S1024x2816 .f32 := Host.absf main_v17
  fn_part1 (F := F) main_arg6 main_v2 main_v5 main_v9 main_v13 main_v16 main_v18
-- ==== Pre_finite_fwd_attn.lean ====
abbrev S4096x4x192 : Shape := ⟨3, ![4096, 4, 192]⟩
abbrev S4096x4x128 : Shape := ⟨3, ![4096, 4, 128]⟩
abbrev S4096x512 : Shape := ⟨2, ![4096, 512]⟩
abbrev S_ : Shape := ⟨0, ![]⟩

class Facts : Prop where
  bitsLt_bf16_f32 : FTy.bits .bf16 < FTy.bits .f32
  bcast_S_S4096x4x192 : S_.BroadcastsInDim S4096x4x192 (![] : Fin 0 → Fin S4096x4x192.rank)
  bcast_S_S4096x4x128 : S_.BroadcastsInDim S4096x4x128 (![] : Fin 0 → Fin S4096x4x128.rank)

variable [Facts]

def fn {F : FTy → Type} [FloatOps F] (main_arg0 : FVec F S4096x4x192 .bf16) (main_arg1 : FVec F S4096x4x192 .bf16) (main_arg2 : FVec F S4096x4x128 .bf16) (main_arg3 : FVec F S4096x512 .f32) : IVec S4096x4x192 1 × IVec S4096x4x192 1 × IVec S4096x4x128 1 :=
  let main_v0 : FVec F S4096x4x192 .f32 := (extf .f32 · bitsLt_bf16_f32) main_arg0
  let main_v1 : FVec F S4096x4x192 .f32 := Host.absf main_v0
  let main_cst : FVec F S_ .f32 := constant S_ .f32 0x7F800000#32
  let main_v2 : FVec F S4096x4x192 .f32 := broadcastInDim S4096x4x192 ![] bcast_S_S4096x4x192 main_cst
  let main_v3 : IVec S4096x4x192 1 := cmpf .olt main_v1 main_v2
  let main_v4 : FVec F S4096x4x192 .f32 := (extf .f32 · bitsLt_bf16_f32) main_arg1
  let main_v5 : FVec F S4096x4x192 .f32 := Host.absf main_v4
  let main_cst_0 : FVec F S_ .f32 := constant S_ .f32 0x7F800000#32
  let main_v6 : FVec F S4096x4x192 .f32 := broadcastInDim S4096x4x192 ![] bcast_S_S4096x4x192 main_cst_0
  let main_v7 : IVec S4096x4x192 1 := cmpf .olt main_v5 main_v6
  let main_v8 : FVec F S4096x4x128 .f32 := (extf .f32 · bitsLt_bf16_f32) main_arg2
  let main_v9 : FVec F S4096x4x128 .f32 := Host.absf main_v8
  let main_cst_1 : FVec F S_ .f32 := constant S_ .f32 0x7F800000#32
  let main_v10 : FVec F S4096x4x128 .f32 := broadcastInDim S4096x4x128 ![] bcast_S_S4096x4x128 main_cst_1
  let main_v11 : IVec S4096x4x128 1 := cmpf .olt main_v9 main_v10
  (main_v3, main_v7, main_v11)
-- ==== Pre_finite_ple_loss.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)
  bcast_S_S4096x256 : S_.BroadcastsInDim S4096x256 (![] : Fin 0 → Fin S4096x256.rank)
  bcast_S_S256x1024 : S_.BroadcastsInDim S256x1024 (![] : Fin 0 → Fin S256x1024.rank)

variable [Facts]

def fn_part1 {F : FTy → Type} [FloatOps F] (main_v2 : IVec S4096x1024 1) (main_v5 : IVec S1x1024 1) (main_v9 : IVec S1024x1024 1) (main_v12 : IVec S4096x256 1) (main_v16 : IVec S256x1024 1) (main_v17 : FVec F S4096x1024 .f32) (main_cst_4 : FVec F S_ .f32) : IVec S4096x1024 1 × IVec S1x1024 1 × IVec S1024x1024 1 × IVec S4096x256 1 × IVec S256x1024 1 × IVec S4096x1024 1 :=
  let main_v18 : FVec F S4096x1024 .f32 := broadcastInDim S4096x1024 ![] bcast_S_S4096x1024 main_cst_4
  let main_v19 : IVec S4096x1024 1 := cmpf .olt main_v17 main_v18
  (main_v2, main_v5, main_v9, main_v12, main_v16, main_v19)

def fn {F : FTy → Type} [FloatOps F] (main_arg0 : FVec F S4096x1024 .f32) (main_arg1 : FVec F S1x1024 .f32) (main_arg2 : FVec F S1024x1024 .bf16) (main_arg3 : FVec F S4096x256 .f32) (main_arg4 : FVec F S256x1024 .bf16) (main_arg5 : FVec F S4096x1024 .f32) : IVec S4096x1024 1 × IVec S1x1024 1 × IVec S1024x1024 1 × IVec S4096x256 1 × IVec S256x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x1024 .f32 := (extf .f32 · bitsLt_bf16_f32) main_arg2
  let main_v7 : FVec F S1024x1024 .f32 := Host.absf main_v6
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S4096x256 .f32 := Host.absf main_arg3
  let main_cst_2 : FVec F S_ .f32 := constant S_ .f32 0x7F800000#32
  let main_v11 : FVec F S4096x256 .f32 := broadcastInDim S4096x256 ![] bcast_S_S4096x256 main_cst_2
  let main_v12 : IVec S4096x256 1 := cmpf .olt main_v10 main_v11
  let main_v13 : FVec F S256x1024 .f32 := (extf .f32 · bitsLt_bf16_f32) main_arg4
  let main_v14 : FVec F S256x1024 .f32 := Host.absf main_v13
  let main_cst_3 : FVec F S_ .f32 := constant S_ .f32 0x7F800000#32
  let main_v15 : FVec F S256x1024 .f32 := broadcastInDim S256x1024 ![] bcast_S_S256x1024 main_cst_3
  let main_v16 : IVec S256x1024 1 := cmpf .olt main_v14 main_v15
  let main_v17 : FVec F S4096x1024 .f32 := Host.absf main_arg5
  let main_cst_4 : FVec F S_ .f32 := constant S_ .f32 0x7F800000#32
  fn_part1 (F := F) main_v2 main_v5 main_v9 main_v12 main_v16 main_v17 main_cst_4
-- ==== FfnHidden.lean ====
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .bf16⟩
  | .hbm, ⟨5, _⟩ => ⟨S4096x2816, .bf16⟩
  | .hbm, ⟨6, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnHiddenVjpIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S1024x2816 : Shape := ⟨2, ![1024, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .bf16⟩
  | .hbm, ⟨32, _⟩ => ⟨S4096x2816, .bf16⟩
  | .hbm, ⟨33, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== BwdAttn.lean ====
abbrev S4096x4x192 : Shape := ⟨3, ![4096, 4, 192]⟩
abbrev S4096x4x128 : Shape := ⟨3, ![4096, 4, 128]⟩
abbrev S4096x512 : Shape := ⟨2, ![4096, 512]⟩
abbrev S8x128 : Shape := ⟨2, ![8, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x4096x192 : Shape := ⟨3, ![4, 4096, 192]⟩
abbrev S4x4096x256 : Shape := ⟨3, ![4, 4096, 256]⟩
abbrev S4x4096x128 : Shape := ⟨3, ![4, 4096, 128]⟩
abbrev S1x1024x256 : Shape := ⟨3, ![1, 1024, 256]⟩
abbrev S1x4096x256 : Shape := ⟨3, ![1, 4096, 256]⟩
abbrev S1x4096x128 : Shape := ⟨3, ![1, 4096, 128]⟩
abbrev S1024x128 : Shape := ⟨2, ![1024, 128]⟩
abbrev S1024x4096 : Shape := ⟨2, ![1024, 4096]⟩
abbrev S256x4096 : Shape := ⟨2, ![256, 4096]⟩
abbrev S128x4096 : Shape := ⟨2, ![128, 4096]⟩
abbrev S4096x256 : Shape := ⟨2, ![4096, 256]⟩
abbrev S4096x128 : Shape := ⟨2, ![4096, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S1024x256 : Shape := ⟨2, ![1024, 256]⟩

abbrev nBuf : Space → Nat
  | .hbm => 46
  | .vmem => 21
  | .smem => 0
  | _ => 0

abbrev bufTy : (tb : Table) → Fin (tcTables nBuf tb) → BufTy
  | .hbm, ⟨0, _⟩ => ⟨S4096x4x192, .bf16⟩
  | .hbm, ⟨1, _⟩ => ⟨S4096x4x192, .bf16⟩
  | .hbm, ⟨2, _⟩ => ⟨S4096x4x128, .bf16⟩
  | .hbm, ⟨3, _⟩ => ⟨S4096x512, .bf16⟩
  | .hbm, ⟨4, _⟩ => ⟨S8x128, .f32⟩
  | .hbm, ⟨5, _⟩ => ⟨S4096x4x192, .f32⟩
  | .hbm, ⟨6, _⟩ => ⟨S4096x4x192, .f32⟩
  | .hbm, ⟨7, _⟩ => ⟨S4096x4x128, .f32⟩
  | .hbm, ⟨8, _⟩ => ⟨S4x4096x4096, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x128x4096, .f32⟩
  | .hbm, ⟨28, _⟩ => ⟨S4096x4x128, .f32⟩
  | .hbm, ⟨29, _⟩ => ⟨S4096x512, .f32⟩
  | .hbm, ⟨30, _⟩ => ⟨S4096x4x192, .f32⟩
  | .hbm, ⟨31, _⟩ => ⟨S4x4096x192, .f32⟩
  | .hbm, ⟨32, _⟩ => ⟨S_, .i32⟩
  | .hbm, ⟨33, _⟩ => ⟨S_, .f32⟩
  | .hbm, ⟨34, _⟩ => ⟨S4x4096x256, .f32⟩
  | .hbm, ⟨35, _⟩ => ⟨S4x4096x256, .bf16⟩
  | .hbm, ⟨36, _⟩ => ⟨S4096x4x192, .f32⟩
  | .hbm, ⟨37, _⟩ => ⟨S4x4096x192, .f32⟩
  | .hbm, ⟨38, _⟩ => ⟨S_, .i32⟩
  | .hbm, ⟨39, _⟩ => ⟨S_, .f32⟩
  | .hbm, ⟨40, _⟩ => ⟨S4x4096x256, .f32⟩
  | .hbm, ⟨41, _⟩ => ⟨S4x4096x256, .bf16⟩
  | .hbm, ⟨42, _⟩ => ⟨S4x4096x128, .bf16⟩
  | .hbm, ⟨43, _⟩ => ⟨S4x4096x256, .f32⟩
  | .hbm, ⟨44, _⟩ => ⟨S4x4096x256, .f32⟩
  | .hbm, ⟨45, _⟩ => ⟨S4x4096x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1x1024x256, .f32⟩
  | .local _ .vmem, ⟨11, _⟩ => ⟨S1x1024x256, .f32⟩
  | .local _ .vmem, ⟨12, _⟩ => ⟨S1x4096x256, .f32⟩
  | .local _ .vmem, ⟨13, _⟩ => ⟨S1x4096x256, .f32⟩
  | .local _ .vmem, ⟨14, _⟩ => ⟨S1x4096x128, .f32⟩
  | .local _ .vmem, ⟨15, _⟩ => ⟨S1x4096x128, .f32⟩
  | .local _ .vmem, ⟨16, _⟩ => ⟨S1024x4096, .bf16⟩
  | .local _ .vmem, ⟨17, _⟩ => ⟨S1024x4096, .bf16⟩
  | .local _ .vmem, ⟨18, _⟩ => ⟨S1024x128, .bf16⟩
  | .local _ .vmem, ⟨19, _⟩ => ⟨S256x4096, .f32⟩
  | .local _ .vmem, ⟨20, _⟩ => ⟨S128x4096, .f32⟩
  | _, _ => ⟨S4096x4x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_call1_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v220 : BitVec 1 := Scalar.cmpi .eq arg1 c3_i32
  let v221 : BitVec 32 := Scalar.extui v220
  let c0_i32_137 : BitVec 32 := 0#32
  let v222 : BitVec 1 := Scalar.cmpi .ne v221 c0_i32_137
  v222

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== BwdAttnIdeal.lean ====
variable {F : FTy → Type} [FloatOps F] [Named F]
def κ : String → Option EReal := fun
  | "scale" => some (((Real.sqrt 192)⁻¹ : ℝ) : EReal)
  | "scale_log2_e" => some (((Real.sqrt 192)⁻¹ * (Real.log 2)⁻¹ : ℝ) : EReal)
  | _ => none
-- ==== AttnVjpIdeal.lean ====
abbrev S4096x4x192 : Shape := ⟨3, ![4096, 4, 192]⟩
abbrev S4096x4x128 : Shape := ⟨3, ![4096, 4, 128]⟩
abbrev S4096x512 : Shape := ⟨2, ![4096, 512]⟩
abbrev S8x128 : Shape := ⟨2, ![8, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x4096x192 : Shape := ⟨3, ![4, 4096, 192]⟩
abbrev S4x4096x256 : Shape := ⟨3, ![4, 4096, 256]⟩
abbrev S4x4096x128 : Shape := ⟨3, ![4, 4096, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x4x192, .bf16⟩
  | .hbm, ⟨1, _⟩ => ⟨S4096x4x192, .bf16⟩
  | .hbm, ⟨2, _⟩ => ⟨S4096x4x128, .bf16⟩
  | .hbm, ⟨3, _⟩ => ⟨S4096x512, .bf16⟩
  | .hbm, ⟨4, _⟩ => ⟨S8x128, .f32⟩
  | .hbm, ⟨5, _⟩ => ⟨S4096x4x192, .f32⟩
  | .hbm, ⟨6, _⟩ => ⟨S4096x4x192, .f32⟩
  | .hbm, ⟨7, _⟩ => ⟨S4096x4x128, .f32⟩
  | .hbm, ⟨8, _⟩ => ⟨S4x4096x4096, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .i1⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x128x4096, .f32⟩
  | .hbm, ⟨52, _⟩ => ⟨S4096x4x128, .f32⟩
  | .hbm, ⟨53, _⟩ => ⟨S4096x512, .f32⟩
  | .hbm, ⟨54, _⟩ => ⟨S4096x4x128, .f32⟩
  | .hbm, ⟨55, _⟩ => ⟨S4x128x4096, .f32⟩
  | .hbm, ⟨56, _⟩ => ⟨S4x4096x4096, .f32⟩
  | .hbm, ⟨57, _⟩ => ⟨S4x128x4096, .f32⟩
  | .hbm, ⟨58, _⟩ => ⟨S4096x4x128, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x1, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x4096, .f32⟩
  | .hbm, ⟨71, _⟩ => ⟨S4x4096x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S4x4096x192, .f32⟩
  | .hbm, ⟨76, _⟩ => ⟨S4096x4x192, .f32⟩
  | .hbm, ⟨77, _⟩ => ⟨S4x4096x192, .f32⟩
  | .hbm, ⟨78, _⟩ => ⟨S4096x4x192, .f32⟩
  | .hbm, ⟨79, _⟩ => ⟨S4x4096x192, .f32⟩
  | .hbm, ⟨80, _⟩ => ⟨S_, .i32⟩
  | .hbm, ⟨81, _⟩ => ⟨S_, .f32⟩
  | .hbm, ⟨82, _⟩ => ⟨S4x4096x256, .f32⟩
  | .hbm, ⟨83, _⟩ => ⟨S4x4096x192, .f32⟩
  | .hbm, ⟨84, _⟩ => ⟨S_, .i32⟩
  | .hbm, ⟨85, _⟩ => ⟨S_, .f32⟩
  | .hbm, ⟨86, _⟩ => ⟨S4x4096x256, .f32⟩
  | .hbm, ⟨87, _⟩ => ⟨S4x4096x128, .f32⟩
  | _, _ => ⟨S4096x4x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c : Ref sig .tc := ⟨.hbm, 80, rfl⟩
abbrev main_call0_v0 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_call1_v0 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== FfnIn.lean ====
abbrev S4096x1024 : Shape := ⟨2, ![4096, 1024]⟩
abbrev S4096x2816 : Shape := ⟨2, ![4096, 2816]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .bf16⟩
  | .hbm, ⟨3, _⟩ => ⟨S4096x2816, .bf16⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnInVjpIdeal.lean ====
abbrev S4096x1024 : Shape := ⟨2, ![4096, 1024]⟩
abbrev S4096x2816 : Shape := ⟨2, ![4096, 2816]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .bf16⟩
  | .hbm, ⟨3, _⟩ => ⟨S4096x2816, .bf16⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x2816, .f32⟩
  | .hbm, ⟨27, _⟩ => ⟨S4096x2816, .f32⟩
  | .hbm, ⟨28, _⟩ => ⟨S1024x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== PleLoss.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S256x8x128 : Shape := ⟨3, ![256, 8, 128]⟩
abbrev S8x256x128 : Shape := ⟨3, ![8, 256, 128]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S512x128 : Shape := ⟨2, ![512, 128]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x256, .f32⟩
  | .hbm, ⟨4, _⟩ => ⟨S256x1024, .bf16⟩
  | .hbm, ⟨5, _⟩ => ⟨S4096x1024, .f32⟩
  | .hbm, ⟨6, _⟩ => ⟨S256x8x128, .bf16⟩
  | .hbm, ⟨7, _⟩ => ⟨S8x256x128, .bf16⟩
  | .hbm, ⟨8, _⟩ => ⟨S4096x1024, .f32⟩
  | .hbm, ⟨9, _⟩ => ⟨S1024x1024, .bf16⟩
  | .hbm, ⟨10, _⟩ => ⟨S8x256x128, .bf16⟩
  | .hbm, ⟨11, _⟩ => ⟨S1x1024, .f32⟩
  | .hbm, ⟨12, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S8x256x128, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S8x256x128, .bf16⟩
  | .local _ .vmem, ⟨13, _⟩ => ⟨S1x1024, .f32⟩
  | .local _ .vmem, ⟨14, _⟩ => ⟨S8x128, .f32⟩
  | .local _ .vmem, ⟨15, _⟩ => ⟨S1024x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v115 : BitVec 1 := Scalar.cmpi .eq arg0 c7_i32
  let v116 : BitVec 32 := Scalar.extui v115
  let c0_i32_69 : BitVec 32 := 0#32
  let v117 : BitVec 1 := Scalar.cmpi .ne v116 c0_i32_69
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleLossVjpIdeal.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S1024 : Shape := ⟨1, ![1024]⟩
abbrev S256x8x128 : Shape := ⟨3, ![256, 8, 128]⟩
abbrev S8x256x128 : Shape := ⟨3, ![8, 256, 128]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x256, .f32⟩
  | .hbm, ⟨4, _⟩ => ⟨S256x1024, .bf16⟩
  | .hbm, ⟨5, _⟩ => ⟨S4096x1024, .f32⟩
  | .hbm, ⟨6, _⟩ => ⟨S1024x1024, .f32⟩
  | .hbm, ⟨7, _⟩ => ⟨S256x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1024x256, .f32⟩
  | .hbm, ⟨69, _⟩ => ⟨S256x1024, .f32⟩
  | .hbm, ⟨70, _⟩ => ⟨S4096x1024, .f32⟩
  | .hbm, ⟨71, _⟩ => ⟨S1024x1024, .f32⟩
  | .hbm, ⟨72, _⟩ => ⟨S1024x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S1024x1024, .bf16⟩
  | .hbm, ⟨99, _⟩ => ⟨S256x8x128, .f32⟩
  | .hbm, ⟨100, _⟩ => ⟨S8x256x128, .f32⟩
  | .hbm, ⟨101, _⟩ => ⟨S8x256x128, .bf16⟩
  | .hbm, ⟨102, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== BwdMix.lean ====
abbrev S4096x1024 : Shape := ⟨2, ![4096, 1024]⟩
abbrev S1024x1024 : Shape := ⟨2, ![1024, 1024]⟩
abbrev S4096x512 : Shape := ⟨2, ![4096, 512]⟩
abbrev S4096x3136 : Shape := ⟨2, ![4096, 3136]⟩
abbrev S1x512 : Shape := ⟨2, ![1, 512]⟩
abbrev S4096x4x128 : Shape := ⟨3, ![4096, 4, 128]⟩
abbrev S4x128 : Shape := ⟨2, ![4, 128]⟩
abbrev S_ : Shape := ⟨0, ![]⟩
abbrev S4096x4 : Shape := ⟨2, ![4096, 4]⟩
abbrev S4096x4x1 : Shape := ⟨3, ![4096, 4, 1]⟩
abbrev S1x4x128 : Shape := ⟨3, ![1, 4, 128]⟩
abbrev S4096x2560 : Shape := ⟨2, ![4096, 2560]⟩
abbrev S4096x576 : Shape := ⟨2, ![4096, 576]⟩
abbrev S4096x64 : Shape := ⟨2, ![4096, 64]⟩
abbrev S4096x3200 : Shape := ⟨2, ![4096, 3200]⟩
abbrev S512x1024 : Shape := ⟨2, ![512, 1024]⟩
abbrev S512x512 : Shape := ⟨2, ![512, 512]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S128 : Shape := ⟨1, ![128]⟩

abbrev nBuf : Space → Nat
  | .hbm => 49
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x512, .bf16⟩
  | .hbm, ⟨3, _⟩ => ⟨S4096x512, .f32⟩
  | .hbm, ⟨4, _⟩ => ⟨S4096x3136, .f32⟩
  | .hbm, ⟨5, _⟩ => ⟨S1x512, .f32⟩
  | .hbm, ⟨6, _⟩ => ⟨S4096x512, .f32⟩
  | .hbm, ⟨7, _⟩ => ⟨S4096x512, .f32⟩
  | .hbm, ⟨8, _⟩ => ⟨S4096x4x128, .f32⟩
  | .hbm, ⟨9, _⟩ => ⟨S4x128, .f32⟩
  | .hbm, ⟨10, _⟩ => ⟨S4096x4x128, .f32⟩
  | .hbm, ⟨11, _⟩ => ⟨S_, .f32⟩
  | .hbm, ⟨12, _⟩ => ⟨S4096x4, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S4096x4x128, .f32⟩
  | .hbm, ⟨22, _⟩ => ⟨S4096x4x128, .f32⟩
  | .hbm, ⟨23, _⟩ => ⟨S1x4x128, .f32⟩
  | .hbm, ⟨24, _⟩ => ⟨S4096x4x128, .f32⟩
  | .hbm, ⟨25, _⟩ => ⟨S4096x4x128, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S4096x1024, .bf16⟩
  | .hbm, ⟨39, _⟩ => ⟨S4096x2560, .f32⟩
  | .hbm, ⟨40, _⟩ => ⟨S4096x576, .f32⟩
  | .hbm, ⟨41, _⟩ => ⟨S_, .f32⟩
  | .hbm, ⟨42, _⟩ => ⟨S4096x64, .f32⟩
  | .hbm, ⟨43, _⟩ => ⟨S4096x3200, .f32⟩
  | .hbm, ⟨44, _⟩ => ⟨S4096x512, .bf16⟩
  | .hbm, ⟨45, _⟩ => ⟨S4096x512, .f32⟩
  | .hbm, ⟨46, _⟩ => ⟨S4096x512, .bf16⟩
  | .hbm, ⟨47, _⟩ => ⟨S1x512, .f32⟩
  | .hbm, ⟨48, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S1024x1024, .bf16⟩
  | .local _ .vmem, ⟨18, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev main_v26_3 : Ref sig .tc := ⟨.hbm, 47, rfl⟩
abbrev main_v26_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixVjpIdeal.lean ====
abbrev S4096x1024 : Shape := ⟨2, ![4096, 1024]⟩
abbrev S1024x1024 : Shape := ⟨2, ![1024, 1024]⟩
abbrev S4096x512 : Shape := ⟨2, ![4096, 512]⟩
abbrev S4096x3136 : Shape := ⟨2, ![4096, 3136]⟩
abbrev S1x512 : Shape := ⟨2, ![1, 512]⟩
abbrev S4096x4x128 : Shape := ⟨3, ![4096, 4, 128]⟩
abbrev S4x128 : Shape := ⟨2, ![4, 128]⟩
abbrev S_ : Shape := ⟨0, ![]⟩
abbrev S4096x4 : Shape := ⟨2, ![4096, 4]⟩
abbrev S4096x4x1 : Shape := ⟨3, ![4096, 4, 1]⟩
abbrev S1x4x128 : Shape := ⟨3, ![1, 4, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x512, .bf16⟩
  | .hbm, ⟨3, _⟩ => ⟨S4096x512, .f32⟩
  | .hbm, ⟨4, _⟩ => ⟨S4096x3136, .f32⟩
  | .hbm, ⟨5, _⟩ => ⟨S1x512, .f32⟩
  | .hbm, ⟨6, _⟩ => ⟨S4096x512, .f32⟩
  | .hbm, ⟨7, _⟩ => ⟨S4096x512, .f32⟩
  | .hbm, ⟨8, _⟩ => ⟨S1024x1024, .f32⟩
  | .hbm, ⟨9, _⟩ => ⟨S4096x4x128, .f32⟩
  | .hbm, ⟨10, _⟩ => ⟨S4x128, .f32⟩
  | .hbm, ⟨11, _⟩ => ⟨S4096x4x128, .f32⟩
  | .hbm, ⟨12, _⟩ => ⟨S_, .f32⟩
  | .hbm, ⟨13, _⟩ => ⟨S4096x4, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x1, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S4096x4x128, .f32⟩
  | .hbm, ⟨27, _⟩ => ⟨S4096x4x128, .f32⟩
  | .hbm, ⟨28, _⟩ => ⟨S1x4x128, .f32⟩
  | .hbm, ⟨29, _⟩ => ⟨S4096x4x128, .f32⟩
  | .hbm, ⟨30, _⟩ => ⟨S4096x4x128, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S1024x1024, .f32⟩
  | .hbm, ⟨49, _⟩ => ⟨S1024x1024, .f32⟩
  | .hbm, ⟨50, _⟩ => ⟨S4096x1024, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x4x128, .f32⟩
  | .hbm, ⟨60, _⟩ => ⟨S4096x4x128, .f32⟩
  | .hbm, ⟨61, _⟩ => ⟨S_, .f32⟩
  | .hbm, ⟨62, _⟩ => ⟨S4x128, .f32⟩
  | .hbm, ⟨63, _⟩ => ⟨S1x4x128, .f32⟩
  | .hbm, ⟨64, _⟩ => ⟨S4096x4x128, .f32⟩
  | .hbm, ⟨65, _⟩ => ⟨S4096x4x128, .f32⟩
  | .hbm, ⟨66, _⟩ => ⟨S_, .f32⟩
  | .hbm, ⟨67, _⟩ => ⟨S4x128, .f32⟩
  | .hbm, ⟨68, _⟩ => ⟨S4096x4x128, .f32⟩
  | .hbm, ⟨69, _⟩ => ⟨S_, .f32⟩
  | .hbm, ⟨70, _⟩ => ⟨S4096x4, .f32⟩
  | .hbm, ⟨71, _⟩ => ⟨S4096x4x1, .f32⟩
  | .hbm, ⟨72, _⟩ => ⟨S4096x4x128, .f32⟩
  | .hbm, ⟨73, _⟩ => ⟨S4096x4x128, .f32⟩
  | .hbm, ⟨74, _⟩ => ⟨S4096x4x1, .f32⟩
  | .hbm, ⟨75, _⟩ => ⟨S_, .f32⟩
  | .hbm, ⟨76, _⟩ => ⟨S4096x4x1, .f32⟩
  | .hbm, ⟨77, _⟩ => ⟨S4096x4x1, .f32⟩
  | .hbm, ⟨78, _⟩ => ⟨S_, .f32⟩
  | .hbm, ⟨79, _⟩ => ⟨S4096x4, .f32⟩
  | .hbm, ⟨80, _⟩ => ⟨S4096x4x128, .f32⟩
  | .hbm, ⟨81, _⟩ => ⟨S4096x4x128, .f32⟩
  | .hbm, ⟨82, _⟩ => ⟨S4096x4x128, .f32⟩
  | .hbm, ⟨83, _⟩ => ⟨S4096x4x128, .f32⟩
  | .hbm, ⟨84, _⟩ => ⟨S4096x4x128, .f32⟩
  | .hbm, ⟨85, _⟩ => ⟨S1x512, .f32⟩
  | .hbm, ⟨86, _⟩ => ⟨S4096x512, .f32⟩
  | .hbm, ⟨87, _⟩ => ⟨S4096x512, .bf16⟩
  | .hbm, ⟨88, _⟩ => ⟨S4096x512, .bf16⟩
  | .hbm, ⟨89, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v22_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v22_1 : Ref sig .tc := ⟨.hbm, 43, rfl⟩
abbrev main_v22_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== BwdIn.lean ====
abbrev S4096x3136 : Shape := ⟨2, ![4096, 3136]⟩
abbrev S1024x3136 : Shape := ⟨2, ![1024, 3136]⟩
abbrev S4096x1024 : Shape := ⟨2, ![4096, 1024]⟩
abbrev S1x1024 : Shape := ⟨2, ![1, 1024]⟩
abbrev S4096x2560 : Shape := ⟨2, ![4096, 2560]⟩
abbrev S4096x576 : Shape := ⟨2, ![4096, 576]⟩
abbrev S_ : Shape := ⟨0, ![]⟩
abbrev S4096x64 : Shape := ⟨2, ![4096, 64]⟩
abbrev S4096x3200 : Shape := ⟨2, ![4096, 3200]⟩
abbrev S4096x512 : Shape := ⟨2, ![4096, 512]⟩
abbrev S4096x640 : Shape := ⟨2, ![4096, 640]⟩
abbrev S1024x2560 : Shape := ⟨2, ![1024, 2560]⟩
abbrev S1024x576 : Shape := ⟨2, ![1024, 576]⟩
abbrev S1024x64 : Shape := ⟨2, ![1024, 64]⟩
abbrev S1024x3200 : Shape := ⟨2, ![1024, 3200]⟩
abbrev S3200x1024 : Shape := ⟨2, ![3200, 1024]⟩
abbrev S512x512 : Shape := ⟨2, ![512, 512]⟩
abbrev S512x640 : Shape := ⟨2, ![512, 640]⟩
abbrev S512x1024 : Shape := ⟨2, ![512, 1024]⟩
abbrev S640x1024 : Shape := ⟨2, ![640, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 26
  | .smem => 0
  | _ => 0

abbrev bufTy : (tb : Table) → Fin (tcTables nBuf tb) → BufTy
  | .hbm, ⟨0, _⟩ => ⟨S4096x3136, .bf16⟩
  | .hbm, ⟨1, _⟩ => ⟨S1024x3136, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2560, .bf16⟩
  | .hbm, ⟨6, _⟩ => ⟨S4096x576, .bf16⟩
  | .hbm, ⟨7, _⟩ => ⟨S_, .bf16⟩
  | .hbm, ⟨8, _⟩ => ⟨S4096x64, .bf16⟩
  | .hbm, ⟨9, _⟩ => ⟨S4096x3200, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x640, .bf16⟩
  | .hbm, ⟨16, _⟩ => ⟨S1024x2560, .bf16⟩
  | .hbm, ⟨17, _⟩ => ⟨S1024x576, .bf16⟩
  | .hbm, ⟨18, _⟩ => ⟨S_, .bf16⟩
  | .hbm, ⟨19, _⟩ => ⟨S1024x64, .bf16⟩
  | .hbm, ⟨20, _⟩ => ⟨S1024x3200, .bf16⟩
  | .hbm, ⟨21, _⟩ => ⟨S3200x1024, .bf16⟩
  | .hbm, ⟨22, _⟩ => ⟨S4096x1024, .f32⟩
  | .hbm, ⟨23, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x640, .bf16⟩
  | .local _ .vmem, ⟨11, _⟩ => ⟨S512x640, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S640x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | _, _ => ⟨S4096x3136, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_9 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_10 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_11 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S640x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InVjpIdeal.lean ====
abbrev S4096x3136 : Shape := ⟨2, ![4096, 3136]⟩
abbrev S1024x3136 : Shape := ⟨2, ![1024, 3136]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x3136, .bf16⟩
  | .hbm, ⟨1, _⟩ => ⟨S1024x3136, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x3136, .f32⟩
  | .hbm, ⟨25, _⟩ => ⟨S4096x3136, .f32⟩
  | .hbm, ⟨26, _⟩ => ⟨S4096x3136, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x3136, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FwdAttn.lean ====
abbrev S4096x4x192 : Shape := ⟨3, ![4096, 4, 192]⟩
abbrev S4096x4x128 : Shape := ⟨3, ![4096, 4, 128]⟩
abbrev S4096x512 : Shape := ⟨2, ![4096, 512]⟩
abbrev S4x4096x192 : Shape := ⟨3, ![4, 4096, 192]⟩
abbrev S_ : Shape := ⟨0, ![]⟩
abbrev S4x4096x256 : Shape := ⟨3, ![4, 4096, 256]⟩
abbrev S4x4096x128 : Shape := ⟨3, ![4, 4096, 128]⟩
abbrev S1x2048x256 : Shape := ⟨3, ![1, 2048, 256]⟩
abbrev S1x4096x256 : Shape := ⟨3, ![1, 4096, 256]⟩
abbrev S1x4096x128 : Shape := ⟨3, ![1, 4096, 128]⟩
abbrev S2048x128 : Shape := ⟨2, ![2048, 128]⟩
abbrev S1x256x256 : Shape := ⟨3, ![1, 256, 256]⟩
abbrev S256x256 : Shape := ⟨2, ![256, 256]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩
abbrev S4096x128 : Shape := ⟨2, ![4096, 128]⟩
abbrev S256x128 : Shape := ⟨2, ![256, 128]⟩

abbrev nBuf : Space → Nat
  | .hbm => 19
  | .vmem => 10
  | .smem => 0
  | _ => 0

abbrev bufTy : (tb : Table) → Fin (tcTables nBuf tb) → BufTy
  | .hbm, ⟨0, _⟩ => ⟨S4096x4x192, .bf16⟩
  | .hbm, ⟨1, _⟩ => ⟨S4096x4x192, .bf16⟩
  | .hbm, ⟨2, _⟩ => ⟨S4096x4x128, .bf16⟩
  | .hbm, ⟨3, _⟩ => ⟨S4096x512, .f32⟩
  | .hbm, ⟨4, _⟩ => ⟨S4096x4x192, .f32⟩
  | .hbm, ⟨5, _⟩ => ⟨S4x4096x192, .f32⟩
  | .hbm, ⟨6, _⟩ => ⟨S_, .i32⟩
  | .hbm, ⟨7, _⟩ => ⟨S_, .f32⟩
  | .hbm, ⟨8, _⟩ => ⟨S4x4096x256, .f32⟩
  | .hbm, ⟨9, _⟩ => ⟨S4x4096x256, .bf16⟩
  | .hbm, ⟨10, _⟩ => ⟨S4096x4x192, .f32⟩
  | .hbm, ⟨11, _⟩ => ⟨S4x4096x192, .f32⟩
  | .hbm, ⟨12, _⟩ => ⟨S_, .i32⟩
  | .hbm, ⟨13, _⟩ => ⟨S_, .f32⟩
  | .hbm, ⟨14, _⟩ => ⟨S4x4096x256, .f32⟩
  | .hbm, ⟨15, _⟩ => ⟨S4x4096x256, .bf16⟩
  | .hbm, ⟨16, _⟩ => ⟨S4x4096x128, .bf16⟩
  | .hbm, ⟨17, _⟩ => ⟨S4096x512, .bf16⟩
  | .hbm, ⟨18, _⟩ => ⟨S4096x512, .f32⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | _, _ => ⟨S4096x4x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdAttnIdeal.lean ====
variable {F : FTy → Type} [FloatOps F] [Named F]
def κ : String → Option EReal := fun
  | "scale_log2_e" => some (((Real.sqrt 192)⁻¹ * (Real.log 2)⁻¹ : ℝ) : EReal)
  | _ => none
-- ==== AttnRefIdeal.lean ====
abbrev S4096x4x192 : Shape := ⟨3, ![4096, 4, 192]⟩
abbrev S4096x4x128 : Shape := ⟨3, ![4096, 4, 128]⟩
abbrev S4096x512 : Shape := ⟨2, ![4096, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x4x192, .bf16⟩
  | .hbm, ⟨1, _⟩ => ⟨S4096x4x192, .bf16⟩
  | .hbm, ⟨2, _⟩ => ⟨S4096x4x128, .bf16⟩
  | .hbm, ⟨3, _⟩ => ⟨S4096x512, .f32⟩
  | .hbm, ⟨4, _⟩ => ⟨S4096x4x192, .f32⟩
  | .hbm, ⟨5, _⟩ => ⟨S4096x4x192, .f32⟩
  | .hbm, ⟨6, _⟩ => ⟨S4096x4x128, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x128x4096, .f32⟩
  | .hbm, ⟨27, _⟩ => ⟨S4096x4x128, .f32⟩
  | .hbm, ⟨28, _⟩ => ⟨S4096x512, .f32⟩
  | .hbm, ⟨29, _⟩ => ⟨S4096x512, .bf16⟩
  | _, _ => ⟨S4096x4x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== BwdMla.lean ====
abbrev S4096x3136 : Shape := ⟨2, ![4096, 3136]⟩
abbrev S4096x4x192 : Shape := ⟨3, ![4096, 4, 192]⟩
abbrev S4096x4x128 : Shape := ⟨3, ![4096, 4, 128]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S256x4x192 : Shape := ⟨3, ![256, 4, 192]⟩
abbrev S256x4x256 : Shape := ⟨3, ![256, 4, 256]⟩
abbrev S4096x2560 : Shape := ⟨2, ![4096, 2560]⟩
abbrev S4096x576 : Shape := ⟨2, ![4096, 576]⟩
abbrev S4096x64 : Shape := ⟨2, ![4096, 64]⟩
abbrev S4096x3200 : Shape := ⟨2, ![4096, 3200]⟩
abbrev S4096x4x256 : Shape := ⟨3, ![4096, 4, 256]⟩
abbrev S4x4096x256 : Shape := ⟨3, ![4, 4096, 256]⟩
abbrev S4x4096x128 : Shape := ⟨3, ![4, 4096, 128]⟩
abbrev S4096x640 : Shape := ⟨2, ![4096, 640]⟩
abbrev S512x256 : Shape := ⟨2, ![512, 256]⟩
abbrev S512x128 : Shape := ⟨2, ![512, 128]⟩
abbrev S4x512x256 : Shape := ⟨3, ![4, 512, 256]⟩
abbrev S4x512x128 : Shape := ⟨3, ![4, 512, 128]⟩
abbrev S512x640 : Shape := ⟨2, ![512, 640]⟩
abbrev S512x1024 : Shape := ⟨2, ![512, 1024]⟩
abbrev S512 : Shape := ⟨1, ![512]⟩
abbrev S512x1 : Shape := ⟨2, ![512, 1]⟩
abbrev S1x512x256 : Shape := ⟨3, ![1, 512, 256]⟩
abbrev S256 : Shape := ⟨1, ![256]⟩
abbrev S1x512x128 : Shape := ⟨3, ![1, 512, 128]⟩

abbrev nBuf : Space → Nat
  | .hbm => 71
  | .vmem => 34
  | .smem => 0
  | _ => 0

abbrev bufTy : (tb : Table) → Fin (tcTables nBuf tb) → BufTy
  | .hbm, ⟨0, _⟩ => ⟨S4096x3136, .f32⟩
  | .hbm, ⟨1, _⟩ => ⟨S4096x4x192, .f32⟩
  | .hbm, ⟨2, _⟩ => ⟨S4096x4x192, .f32⟩
  | .hbm, ⟨3, _⟩ => ⟨S4096x4x128, .f32⟩
  | .hbm, ⟨4, _⟩ => ⟨S4096, .i32⟩
  | .hbm, ⟨5, _⟩ => ⟨S1x256, .f32⟩
  | .hbm, ⟨6, _⟩ => ⟨S1x256, .f32⟩
  | .hbm, ⟨7, _⟩ => ⟨S256x768, .bf16⟩
  | .hbm, ⟨8, _⟩ => ⟨S256x1024, .bf16⟩
  | .hbm, ⟨9, _⟩ => ⟨S1x192, .f32⟩
  | .hbm, ⟨10, _⟩ => ⟨S1x192, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S_, .f32⟩
  | .hbm, ⟨34, _⟩ => ⟨S4096x32, .f32⟩
  | .hbm, ⟨35, _⟩ => ⟨S4096x128, .f32⟩
  | .hbm, ⟨36, _⟩ => ⟨S4096x128, .f32⟩
  | .hbm, ⟨37, _⟩ => ⟨S4096x32, .f32⟩
  | .hbm, ⟨38, _⟩ => ⟨S4096x128, .f32⟩
  | .hbm, ⟨39, _⟩ => ⟨S256x4x192, .bf16⟩
  | .hbm, ⟨40, _⟩ => ⟨S_, .i32⟩
  | .hbm, ⟨41, _⟩ => ⟨S_, .bf16⟩
  | .hbm, ⟨42, _⟩ => ⟨S256x4x256, .bf16⟩
  | .hbm, ⟨43, _⟩ => ⟨S256x1024, .bf16⟩
  | .hbm, ⟨44, _⟩ => ⟨S4096x2560, .f32⟩
  | .hbm, ⟨45, _⟩ => ⟨S4096x576, .f32⟩
  | .hbm, ⟨46, _⟩ => ⟨S_, .f32⟩
  | .hbm, ⟨47, _⟩ => ⟨S4096x64, .f32⟩
  | .hbm, ⟨48, _⟩ => ⟨S4096x3200, .f32⟩
  | .hbm, ⟨49, _⟩ => ⟨S_, .i32⟩
  | .hbm, ⟨50, _⟩ => ⟨S_, .f32⟩
  | .hbm, ⟨51, _⟩ => ⟨S4096x4x256, .f32⟩
  | .hbm, ⟨52, _⟩ => ⟨S4x4096x256, .f32⟩
  | .hbm, ⟨53, _⟩ => ⟨S_, .i32⟩
  | .hbm, ⟨54, _⟩ => ⟨S_, .f32⟩
  | .hbm, ⟨55, _⟩ => ⟨S4096x4x256, .f32⟩
  | .hbm, ⟨56, _⟩ => ⟨S4x4096x256, .f32⟩
  | .hbm, ⟨57, _⟩ => ⟨S4x4096x128, .f32⟩
  | .hbm, ⟨58, _⟩ => ⟨S_, .i32⟩
  | .hbm, ⟨59, _⟩ => ⟨S_, .f32⟩
  | .hbm, ⟨60, _⟩ => ⟨S1x256, .f32⟩
  | .hbm, ⟨61, _⟩ => ⟨S_, .i32⟩
  | .hbm, ⟨62, _⟩ => ⟨S_, .f32⟩
  | .hbm, ⟨63, _⟩ => ⟨S1x256, .f32⟩
  | .hbm, ⟨64, _⟩ => ⟨S4096x640, .bf16⟩
  | .hbm, ⟨65, _⟩ => ⟨S256x1024, .f32⟩
  | .hbm, ⟨66, _⟩ => ⟨S256x1024, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S4x512x256, .f32⟩
  | .local _ .vmem, ⟨7, _⟩ => ⟨S4x512x256, .f32⟩
  | .local _ .vmem, ⟨8, _⟩ => ⟨S4x512x256, .f32⟩
  | .local _ .vmem, ⟨9, _⟩ => ⟨S4x512x256, .f32⟩
  | .local _ .vmem, ⟨10, _⟩ => ⟨S4x512x128, .f32⟩
  | .local _ .vmem, ⟨11, _⟩ => ⟨S4x512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x256, .f32⟩
  | .local _ .vmem, ⟨19, _⟩ => ⟨S1x256, .f32⟩
  | .local _ .vmem, ⟨20, _⟩ => ⟨S256x1024, .bf16⟩
  | .local _ .vmem, ⟨21, _⟩ => ⟨S256x1024, .bf16⟩
  | .local _ .vmem, ⟨22, _⟩ => ⟨S1x256, .f32⟩
  | .local _ .vmem, ⟨23, _⟩ => ⟨S1x256, .f32⟩
  | .local _ .vmem, ⟨24, _⟩ => ⟨S512x640, .bf16⟩
  | .local _ .vmem, ⟨25, _⟩ => ⟨S512x640, .bf16⟩
  | .local _ .vmem, ⟨26, _⟩ => ⟨S256x1024, .f32⟩
  | .local _ .vmem, ⟨27, _⟩ => ⟨S256x1024, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S512x1024, .bf16⟩
  | .local _ .vmem, ⟨33, _⟩ => ⟨S512x1024, .bf16⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_call2_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_call3_v0 : Ref sig .tc := ⟨.hbm, 59, rfl⟩
abbrev main_v35 : Ref sig .tc := ⟨.hbm, 60, rfl⟩
abbrev main_c_8 : Ref sig .tc := ⟨.hbm, 61, rfl⟩
abbrev main_call4_v0 : Ref sig .tc := ⟨.hbm, 62, rfl⟩
abbrev main_v36 : Ref sig .tc := ⟨.hbm, 63, rfl⟩
abbrev main_v37_0 : Ref sig .tc := ⟨.hbm, 64, rfl⟩
abbrev main_v37_1 : Ref sig .tc := ⟨.hbm, 65, rfl⟩
abbrev main_v37_2 : Ref sig .tc := ⟨.hbm, 66, rfl⟩
abbrev main_v37_3 : Ref sig .tc := ⟨.hbm, 67, rfl⟩
abbrev main_v37_4 : Ref sig .tc := ⟨.hbm, 68, rfl⟩
abbrev main_v37_5 : Ref sig .tc := ⟨.hbm, 69, rfl⟩
abbrev main_v37_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x640 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== BwdMlaIdeal.lean ====
variable {F : FTy → Type} [FloatOps F] [Named F]
def κ : String → Option EReal := fun
  | "over_qk_head" => some ((192⁻¹ : ℝ) : EReal)
  | _ => none
-- ==== MlaVjpIdeal.lean ====
abbrev S4096x3136 : Shape := ⟨2, ![4096, 3136]⟩
abbrev S4096x4x192 : Shape := ⟨3, ![4096, 4, 192]⟩
abbrev S4096x4x128 : Shape := ⟨3, ![4096, 4, 128]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x256 : Shape := ⟨2, ![4096, 256]⟩
abbrev S4096x64 : Shape := ⟨2, ![4096, 64]⟩
abbrev S4096x768 : Shape := ⟨2, ![4096, 768]⟩
abbrev S4096x1024 : Shape := ⟨2, ![4096, 1024]⟩
abbrev S4096x4x256 : Shape := ⟨3, ![4096, 4, 256]⟩
abbrev S4096x1x64 : Shape := ⟨3, ![4096, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S1x1x192 : Shape := ⟨3, ![1, 1, 192]⟩
abbrev S4096x4x32 : Shape := ⟨3, ![4096, 4, 32]⟩
abbrev S192 : Shape := ⟨1, ![192]⟩
abbrev S1024x256 : Shape := ⟨2, ![1024, 256]⟩
abbrev S256 : Shape := ⟨1, ![256]⟩
abbrev S768x256 : Shape := ⟨2, ![768, 256]⟩
abbrev S4096x640 : Shape := ⟨2, ![4096, 640]⟩
abbrev S256x4x192 : Shape := ⟨3, ![256, 4, 192]⟩
abbrev S256x4x256 : Shape := ⟨3, ![256, 4, 256]⟩

abbrev nBuf : Space → Nat
  | .hbm => 334
  | .vmem => 0
  | .smem => 0
  | _ => 0

abbrev hbmTy0_0 (i : Nat) : BufTy := match i % 128 with
  | 0 => ⟨S4096x3136, .f32⟩
  | 1 => ⟨S4096x4x192, .f32⟩
  | 2 => ⟨S4096x4x192, .f32⟩
  | 3 => ⟨S4096x4x128, .f32⟩
  | 4 => ⟨S4096, .i32⟩
  | 5 => ⟨S1x256, .f32⟩
  | 6 => ⟨S1x256, .f32⟩
  | 7 => ⟨S256x768, .bf16⟩
  | 8 => ⟨S256x1024, .bf16⟩
  | 9 => ⟨S1x192, .f32⟩
  | 10 => ⟨S1x192, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x32, .f32⟩
  | 32 => ⟨S4096x32, .f32⟩
  | 33 => ⟨S4096x1x32, .f32⟩
  | 34 => ⟨S4096x1x32, .f32⟩
  | 35 => ⟨S4096x256, .f32⟩
  | 36 => ⟨S4096x256, .f32⟩
  | 37 => ⟨S4096x64, .f32⟩
  | 38 => ⟨S256x768, .f32⟩
  | 39 => ⟨S256x1024, .f32⟩
  | 40 => ⟨S4096x256, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x256, .f32⟩
  | 56 => ⟨S4096x256, .f32⟩
  | 57 => ⟨S4096x256, .f32⟩
  | 58 => ⟨S4096x256, .f32⟩
  | 59 => ⟨S4096x768, .f32⟩
  | 60 => ⟨S4096x4x192, .f32⟩
  | 61 => ⟨S4096x256, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x256, .f32⟩
  | 77 => ⟨S4096x256, .f32⟩
  | 78 => ⟨S4096x256, .f32⟩
  | 79 => ⟨S4096x256, .f32⟩
  | 80 => ⟨S4096x1024, .f32⟩
  | 81 => ⟨S4096x4x256, .f32⟩
  | 82 => ⟨S4096x4x128, .f32⟩
  | 83 => ⟨S4096x4x128, .f32⟩
  | 84 => ⟨S4096x1x64, .f32⟩
  | 85 => ⟨S4096x4x64, .f32⟩
  | 86 => ⟨S4096x4x192, .f32⟩
  | 87 => ⟨S4096x4x192, .f32⟩
  | 88 => ⟨S_, .f32⟩
  | 89 => ⟨S4096x4, .f32⟩
  | 90 => ⟨S4096x4x1, .f32⟩
  | 91 => ⟨S_, .f32⟩
  | 92 => ⟨S4096x4x1, .f32⟩
  | 93 => ⟨S4096x4x1, .f32⟩
  | 94 => ⟨S_, .f32⟩
  | 95 => ⟨S4096x4x1, .f32⟩
  | 96 => ⟨S4096x4x1, .f32⟩
  | 97 => ⟨S4096x4x1, .f32⟩
  | 98 => ⟨S4096x4x1, .f32⟩
  | 99 => ⟨S_, .f32⟩
  | 100 => ⟨S4096x4x1, .f32⟩
  | 101 => ⟨S4096x4x1, .f32⟩
  | 102 => ⟨S4096x4x192, .f32⟩
  | 103 => ⟨S4096x4x192, .f32⟩
  | 104 => ⟨S1x1x192, .f32⟩
  | 105 => ⟨S4096x4x192, .f32⟩
  | 106 => ⟨S4096x4x192, .f32⟩
  | 107 => ⟨S4096x4x192, .f32⟩
  | 108 => ⟨S_, .f32⟩
  | 109 => ⟨S4096x4, .f32⟩
  | 110 => ⟨S4096x4x1, .f32⟩
  | 111 => ⟨S_, .f32⟩
  | 112 => ⟨S4096x4x1, .f32⟩
  | 113 => ⟨S4096x4x1, .f32⟩
  | 114 => ⟨S_, .f32⟩
  | 115 => ⟨S4096x4x1, .f32⟩
  | 116 => ⟨S4096x4x1, .f32⟩
  | 117 => ⟨S4096x4x1, .f32⟩
  | 118 => ⟨S4096x4x1, .f32⟩
  | 119 => ⟨S_, .f32⟩
  | 120 => ⟨S4096x4x1, .f32⟩
  | 121 => ⟨S4096x4x1, .f32⟩
  | 122 => ⟨S4096x4x192, .f32⟩
  | 123 => ⟨S4096x4x192, .f32⟩
  | 124 => ⟨S1x1x192, .f32⟩
  | 125 => ⟨S4096x4x192, .f32⟩
  | 126 => ⟨S4096x4x192, .f32⟩
  | 127 => ⟨S4096x4x128, .f32⟩
  | _ => ⟨S4096x3136, .f32⟩

abbrev hbmTy0_1 (i : Nat) : BufTy := match i % 128 with
  | 0 => ⟨S4096x4x64, .f32⟩
  | 1 => ⟨S4096x4x32, .f32⟩
  | 2 => ⟨S4096x4x32, .f32⟩
  | 3 => ⟨S4096x4x32, .f32⟩
  | 4 => ⟨S4096x4x32, .f32⟩
  | 5 => ⟨S4096x4x32, .f32⟩
  | 6 => ⟨S4096x4x32, .f32⟩
  | 7 => ⟨S4096x4x32, .f32⟩
  | 8 => ⟨S4096x4x32, .f32⟩
  | 9 => ⟨S4096x4x32, .f32⟩
  | 10 => ⟨S4096x4x32, .f32⟩
  | 11 => ⟨S4096x4x32, .f32⟩
  | 12 => ⟨S4096x4x32, .f32⟩
  | 13 => ⟨S4096x4x64, .f32⟩
  | 14 => ⟨S4096x4x192, .f32⟩
  | 15 => ⟨S4096x4x128, .f32⟩
  | 16 => ⟨S4096x4x64, .f32⟩
  | 17 => ⟨S4096x4x32, .f32⟩
  | 18 => ⟨S4096x4x32, .f32⟩
  | 19 => ⟨S4096x4x32, .f32⟩
  | 20 => ⟨S4096x4x32, .f32⟩
  | 21 => ⟨S4096x4x32, .f32⟩
  | 22 => ⟨S4096x4x32, .f32⟩
  | 23 => ⟨S4096x4x32, .f32⟩
  | 24 => ⟨S4096x4x32, .f32⟩
  | 25 => ⟨S4096x4x32, .f32⟩
  | 26 => ⟨S4096x4x32, .f32⟩
  | 27 => ⟨S4096x4x32, .f32⟩
  | 28 => ⟨S4096x4x32, .f32⟩
  | 29 => ⟨S4096x4x64, .f32⟩
  | 30 => ⟨S4096x4x192, .f32⟩
  | 31 => ⟨S4096x4x128, .f32⟩
  | 32 => ⟨S4096x4x64, .f32⟩
  | 33 => ⟨S4096x4x32, .f32⟩
  | 34 => ⟨S4096x4x32, .f32⟩
  | 35 => ⟨S4096x4x32, .f32⟩
  | 36 => ⟨S4096x4x32, .f32⟩
  | 37 => ⟨S4096x4x32, .f32⟩
  | 38 => ⟨S4096x4x32, .f32⟩
  | 39 => ⟨S4096x4x32, .f32⟩
  | 40 => ⟨S4096x4x32, .f32⟩
  | 41 => ⟨S4096x4x32, .f32⟩
  | 42 => ⟨S4096x4x32, .f32⟩
  | 43 => ⟨S4096x4x32, .f32⟩
  | 44 => ⟨S4096x4x32, .f32⟩
  | 45 => ⟨S4096x4x32, .f32⟩
  | 46 => ⟨S4096x4x64, .f32⟩
  | 47 => ⟨S_, .f32⟩
  | 48 => ⟨S4096x4x192, .f32⟩
  | 49 => ⟨S_, .f32⟩
  | 50 => ⟨S4096x4x192, .f32⟩
  | 51 => ⟨S4096x4x192, .f32⟩
  | 52 => ⟨S4096x4x128, .f32⟩
  | 53 => ⟨S4096x4x64, .f32⟩
  | 54 => ⟨S4096x4x32, .f32⟩
  | 55 => ⟨S4096x4x32, .f32⟩
  | 56 => ⟨S4096x4x32, .f32⟩
  | 57 => ⟨S4096x4x32, .f32⟩
  | 58 => ⟨S4096x4x32, .f32⟩
  | 59 => ⟨S4096x4x32, .f32⟩
  | 60 => ⟨S4096x4x32, .f32⟩
  | 61 => ⟨S4096x4x32, .f32⟩
  | 62 => ⟨S4096x4x32, .f32⟩
  | 63 => ⟨S4096x4x32, .f32⟩
  | 64 => ⟨S4096x4x32, .f32⟩
  | 65 => ⟨S4096x4x32, .f32⟩
  | 66 => ⟨S4096x4x32, .f32⟩
  | 67 => ⟨S4096x4x64, .f32⟩
  | 68 => ⟨S_, .f32⟩
  | 69 => ⟨S4096x4x192, .f32⟩
  | 70 => ⟨S_, .f32⟩
  | 71 => ⟨S4096x4x192, .f32⟩
  | 72 => ⟨S4096x4x192, .f32⟩
  | 73 => ⟨S4096x4x192, .f32⟩
  | 74 => ⟨S_, .f32⟩
  | 75 => ⟨S192, .f32⟩
  | 76 => ⟨S1x1x192, .f32⟩
  | 77 => ⟨S4096x4x192, .f32⟩
  | 78 => ⟨S4096x4x192, .f32⟩
  | 79 => ⟨S_, .f32⟩
  | 80 => ⟨S192, .f32⟩
  | 81 => ⟨S1x192, .f32⟩
  | 82 => ⟨S4096x4x192, .f32⟩
  | 83 => ⟨S_, .f32⟩
  | 84 => ⟨S4096x4, .f32⟩
  | 85 => ⟨S4096x4x1, .f32⟩
  | 86 => ⟨S4096x4x192, .f32⟩
  | 87 => ⟨S4096x4x192, .f32⟩
  | 88 => ⟨S4096x4x1, .f32⟩
  | 89 => ⟨S_, .f32⟩
  | 90 => ⟨S4096x4x1, .f32⟩
  | 91 => ⟨S4096x4x1, .f32⟩
  | 92 => ⟨S_, .f32⟩
  | 93 => ⟨S4096x4, .f32⟩
  | 94 => ⟨S4096x4x192, .f32⟩
  | 95 => ⟨S4096x4x192, .f32⟩
  | 96 => ⟨S4096x4x192, .f32⟩
  | 97 => ⟨S4096x4x192, .f32⟩
  | 98 => ⟨S4096x4x192, .f32⟩
  | 99 => ⟨S4096x4x192, .f32⟩
  | 100 => ⟨S_, .f32⟩
  | 101 => ⟨S192, .f32⟩
  | 102 => ⟨S1x1x192, .f32⟩
  | 103 => ⟨S4096x4x192, .f32⟩
  | 104 => ⟨S4096x4x192, .f32⟩
  | 105 => ⟨S_, .f32⟩
  | 106 => ⟨S192, .f32⟩
  | 107 => ⟨S1x192, .f32⟩
  | 108 => ⟨S4096x4x192, .f32⟩
  | 109 => ⟨S_, .f32⟩
  | 110 => ⟨S4096x4, .f32⟩
  | 111 => ⟨S4096x4x1, .f32⟩
  | 112 => ⟨S4096x4x192, .f32⟩
  | 113 => ⟨S4096x4x192, .f32⟩
  | 114 => ⟨S4096x4x1, .f32⟩
  | 115 => ⟨S_, .f32⟩
  | 116 => ⟨S4096x4x1, .f32⟩
  | 117 => ⟨S4096x4x1, .f32⟩
  | 118 => ⟨S_, .f32⟩
  | 119 => ⟨S4096x4, .f32⟩
  | 120 => ⟨S4096x4x192, .f32⟩
  | 121 => ⟨S4096x4x192, .f32⟩
  | 122 => ⟨S4096x4x192, .f32⟩
  | 123 => ⟨S4096x4x192, .f32⟩
  | 124 => ⟨S4096x4x192, .f32⟩
  | 125 => ⟨S4096x4x128, .f32⟩
  | 126 => ⟨S4096x4x64, .f32⟩
  | 127 => ⟨S_, .f32⟩
  | _ => ⟨S4096x3136, .f32⟩

abbrev hbmTy0_2 (i : Nat) : BufTy := match i % 128 with
  | 0 => ⟨S4096x64, .f32⟩
  | 1 => ⟨S4096x1x64, .f32⟩
  | 2 => ⟨S_, .f32⟩
  | 3 => ⟨S4096x64, .f32⟩
  | 4 => ⟨S_, .f32⟩
  | 5 => ⟨S4096x4x256, .f32⟩
  | 6 => ⟨S_, .f32⟩
  | 7 => ⟨S4096x4x256, .f32⟩
  | 8 => ⟨S4096x4x256, .f32⟩
  | 9 => ⟨S4096x1024, .f32⟩
  | 10 => ⟨S1024x256, .f32⟩
  | 11 => ⟨S256x1024, .f32⟩
  | 12 => ⟨S4096x256, .f32⟩
  | 13 => ⟨S4096x256, .f32⟩
  | 14 => ⟨S_, .f32⟩
  | 15 => ⟨S256, .f32⟩
  | 16 => ⟨S1x256, .f32⟩
  | 17 => ⟨S4096x256, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S4096x256, .f32⟩
  | 24 => ⟨S4096x256, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096, .f32⟩
  | 31 => ⟨S4096x256, .f32⟩
  | 32 => ⟨S4096x256, .f32⟩
  | 33 => ⟨S4096x256, .f32⟩
  | 34 => ⟨S4096x256, .f32⟩
  | 35 => ⟨S4096x256, .f32⟩
  | 36 => ⟨S4096x768, .f32⟩
  | 37 => ⟨S768x256, .f32⟩
  | 38 => ⟨S256x768, .f32⟩
  | 39 => ⟨S4096x256, .f32⟩
  | 40 => ⟨S4096x256, .f32⟩
  | 41 => ⟨S_, .f32⟩
  | 42 => ⟨S256, .f32⟩
  | 43 => ⟨S1x256, .f32⟩
  | 44 => ⟨S4096x256, .f32⟩
  | 45 => ⟨S4096x256, .f32⟩
  | 46 => ⟨S4096x256, .f32⟩
  | 47 => ⟨S_, .f32⟩
  | 48 => ⟨S4096, .f32⟩
  | 49 => ⟨S4096x1, .f32⟩
  | 50 => ⟨S4096x256, .f32⟩
  | 51 => ⟨S4096x256, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096, .f32⟩
  | 58 => ⟨S4096x256, .f32⟩
  | 59 => ⟨S4096x256, .f32⟩
  | 60 => ⟨S4096x256, .f32⟩
  | 61 => ⟨S4096x256, .f32⟩
  | 62 => ⟨S4096x256, .f32⟩
  | 63 => ⟨S_, .f32⟩
  | 64 => ⟨S4096x64, .f32⟩
  | 65 => ⟨S4096x640, .f32⟩
  | 66 => ⟨S4096x640, .bf16⟩
  | 67 => ⟨S256x4x192, .f32⟩
  | 68 => ⟨S_, .i32⟩
  | 69 => ⟨S_, .f32⟩
  | 70 => ⟨S256x4x256, .f32⟩
  | 71 => ⟨S256x1024, .f32⟩
  | 72 => ⟨S_, .i32⟩
  | 73 => ⟨S_, .f32⟩
  | 74 => ⟨S1x256, .f32⟩
  | 75 => ⟨S_, .i32⟩
  | 76 => ⟨S_, .f32⟩
  | 77 => ⟨S1x256, .f32⟩
  | _ => ⟨S4096x3136, .f32⟩

abbrev hbmTy (i : Nat) : BufTy := match i / 128 with
  | 0 => hbmTy0_0 i
  | 1 => hbmTy0_1 i
  | 2 => hbmTy0_2 i
  | _ => ⟨S4096x3136, .f32⟩

abbrev bufTy : (tb : Table) → Fin (tcTables nBuf tb) → BufTy
  | .hbm, ⟨i, _⟩ => hbmTy i
  | _, _ => ⟨S4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_19 : Ref sig .tc := ⟨.hbm, 175, rfl⟩
abbrev main_v144 : Ref sig .tc := ⟨.hbm, 176, rfl⟩
abbrev main_cst_20 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_21 : Ref sig .tc := ⟨.hbm, 196, rfl⟩
abbrev main_v163 : Ref sig .tc := ⟨.hbm, 197, rfl⟩
abbrev main_cst_22 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_23 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_24 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_cst_25 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_cst_26 : Ref sig .tc := ⟨.hbm, 217, rfl⟩
abbrev main_v179 : Ref sig .tc := ⟨.hbm, 218, rfl⟩
abbrev main_v180 : Ref sig .tc := ⟨.hbm, 219, rfl⟩
abbrev main_cst_27 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_cst_28 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_29 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_30 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_cst_31 : Ref sig .tc := ⟨.hbm, 243, rfl⟩
abbrev main_v200 : Ref sig .tc := ⟨.hbm, 244, rfl⟩
abbrev main_v201 : Ref sig .tc := ⟨.hbm, 245, rfl⟩
abbrev main_cst_32 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_cst_33 : Ref sig .tc := ⟨.hbm, 255, rfl⟩
abbrev main_v210 : Ref sig .tc := ⟨.hbm, 256, rfl⟩
abbrev main_v211 : Ref sig .tc := ⟨.hbm, 257, rfl⟩
abbrev main_cst_34 : Ref sig .tc := ⟨.hbm, 258, rfl⟩
abbrev main_v212 : Ref sig .tc := ⟨.hbm, 259, rfl⟩
abbrev main_cst_35 : Ref sig .tc := ⟨.hbm, 260, rfl⟩
abbrev main_v213 : Ref sig .tc := ⟨.hbm, 261, rfl⟩
abbrev main_cst_36 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_cst_37 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_cst_38 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_cst_39 : Ref sig .tc := ⟨.hbm, 282, rfl⟩
abbrev main_v231 : Ref sig .tc := ⟨.hbm, 283, rfl⟩
abbrev main_v232 : Ref sig .tc := ⟨.hbm, 284, rfl⟩
abbrev main_cst_40 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_cst_41 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_cst_42 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_cst_43 : Ref sig .tc := ⟨.hbm, 309, rfl⟩
abbrev main_v254 : Ref sig .tc := ⟨.hbm, 310, rfl⟩
abbrev main_v255 : Ref sig .tc := ⟨.hbm, 311, rfl⟩
abbrev main_cst_44 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_cst_45 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_c : Ref sig .tc := ⟨.hbm, 324, rfl⟩
abbrev main_call0_v0 : Ref sig .tc := ⟨.hbm, 325, rfl⟩
abbrev main_v266 : Ref sig .tc := ⟨.hbm, 326, rfl⟩
abbrev main_v267 : Ref sig .tc := ⟨.hbm, 327, rfl⟩
abbrev main_c_46 : Ref sig .tc := ⟨.hbm, 328, rfl⟩
abbrev main_call1_v0 : Ref sig .tc := ⟨.hbm, 329, rfl⟩
abbrev main_v268 : Ref sig .tc := ⟨.hbm, 330, rfl⟩
abbrev main_c_47 : Ref sig .tc := ⟨.hbm, 331, rfl⟩
abbrev main_call2_v0 : Ref sig .tc := ⟨.hbm, 332, rfl⟩
abbrev main_v269 : Ref sig .tc := ⟨.hbm, 333, rfl⟩

abbrev nD : Nat := 1
abbrev τ : Topo := Topo.v7x

variable {F : FTy → Type} [FloatOps F]
-- ==== BwdGla.lean ====
abbrev S4096x3136 : Shape := ⟨2, ![4096, 3136]⟩
abbrev S2x2x512 : Shape := ⟨3, ![2, 2, 512]⟩
abbrev S4096x512 : Shape := ⟨2, ![4096, 512]⟩
abbrev S_ : Shape := ⟨0, ![]⟩
abbrev S2x512 : Shape := ⟨2, ![2, 512]⟩
abbrev S1x2x512 : Shape := ⟨3, ![1, 2, 512]⟩
abbrev S4096x2560 : Shape := ⟨2, ![4096, 2560]⟩
abbrev S4096x576 : Shape := ⟨2, ![4096, 576]⟩
abbrev S4096x64 : Shape := ⟨2, ![4096, 64]⟩
abbrev S4096x3200 : Shape := ⟨2, ![4096, 3200]⟩
abbrev S4096x4x128 : Shape := ⟨3, ![4096, 4, 128]⟩
abbrev S4x4096x128 : Shape := ⟨3, ![4, 4096, 128]⟩
abbrev S1x512 : Shape := ⟨2, ![1, 512]⟩
abbrev S512 : Shape := ⟨1, ![512]⟩
abbrev S8x4096x128 : Shape := ⟨3, ![8, 4096, 128]⟩
abbrev S8x64x64x128 : Shape := ⟨4, ![8, 64, 64, 128]⟩
abbrev S8x64x1x128 : Shape := ⟨4, ![8, 64, 1, 128]⟩
abbrev S8x64x128x128 : Shape := ⟨4, ![8, 64, 128, 128]⟩
abbrev S8x64x128 : Shape := ⟨3, ![8, 64, 128]⟩
abbrev S8x128x128 : Shape := ⟨3, ![8, 128, 128]⟩
abbrev S64x8x128 : Shape := ⟨3, ![64, 8, 128]⟩
abbrev S64x8x128x128 : Shape := ⟨4, ![64, 8, 128, 128]⟩
abbrev S0x8x128 : Shape := ⟨3, ![0, 8, 128]⟩
abbrev S0x8x128x128 : Shape := ⟨4, ![0, 8, 128, 128]⟩
abbrev S1x8x128 : Shape := ⟨3, ![1, 8, 128]⟩
abbrev S8x128 : Shape := ⟨2, ![8, 128]⟩
abbrev S1x8x128x128 : Shape := ⟨4, ![1, 8, 128, 128]⟩
abbrev S8x128x1 : Shape := ⟨3, ![8, 128, 1]⟩
abbrev S16x8x128x128 : Shape := ⟨4, ![16, 8, 128, 128]⟩
abbrev S1x4x4096x128 : Shape := ⟨4, ![1, 4, 4096, 128]⟩
abbrev S2x4x4096x128 : Shape := ⟨4, ![2, 4, 4096, 128]⟩
abbrev S2x4096x4x128 : Shape := ⟨4, ![2, 4096, 4, 128]⟩
abbrev S2x4096x512 : Shape := ⟨3, ![2, 4096, 512]⟩
abbrev S4x64x128x128 : Shape := ⟨4, ![4, 64, 128, 128]⟩
abbrev S4x1x64x128x128 : Shape := ⟨5, ![4, 1, 64, 128, 128]⟩
abbrev S4x2x64x128x128 : Shape := ⟨5, ![4, 2, 64, 128, 128]⟩
abbrev S4x512 : Shape := ⟨2, ![4, 512]⟩
abbrev S4096x128 : Shape := ⟨2, ![4096, 128]⟩
abbrev S4x128 : Shape := ⟨2, ![4, 128]⟩
abbrev S2x4096x128 : Shape := ⟨3, ![2, 4096, 128]⟩
abbrev S1x2x64x128x128 : Shape := ⟨5, ![1, 2, 64, 128, 128]⟩
abbrev S2x128x128 : Shape := ⟨3, ![2, 128, 128]⟩
abbrev S2x128 : Shape := ⟨2, ![2, 128]⟩
abbrev S256x256 : Shape := ⟨2, ![256, 256]⟩
abbrev S256x1 : Shape := ⟨2, ![256, 1]⟩
abbrev S1x128 : Shape := ⟨2, ![1, 128]⟩
abbrev S256x128 : Shape := ⟨2, ![256, 128]⟩
abbrev S1x256x128 : Shape := ⟨3, ![1, 256, 128]⟩
abbrev S4x64x128 : Shape := ⟨3, ![4, 64, 128]⟩
abbrev S4x1x128 : Shape := ⟨3, ![4, 1, 128]⟩
abbrev S256x512 : Shape := ⟨2, ![256, 512]⟩
abbrev S128x512 : Shape := ⟨2, ![128, 512]⟩
abbrev S1x128x128 : Shape := ⟨3, ![1, 128, 128]⟩
abbrev S128x128 : Shape := ⟨2, ![128, 128]⟩
abbrev S1x1x1x128x128 : Shape := ⟨5, ![1, 1, 1, 128, 128]⟩
abbrev S128 : Shape := ⟨1, ![128]⟩
abbrev S1x1x128 : Shape := ⟨3, ![1, 1, 128]⟩
abbrev S512x128 : Shape := ⟨2, ![512, 128]⟩
abbrev S64x128 : Shape := ⟨2, ![64, 128]⟩
abbrev S256x384 : Shape := ⟨2, ![256, 384]⟩

abbrev nBuf : Space → Nat
  | .hbm => 718
  | .vmem => 29
  | .smem => 0
  | _ => 0

abbrev hbmTy0_0 (i : Nat) : BufTy := match i % 128 with
  | 0 => ⟨S4096x3136, .f32⟩
  | 1 => ⟨S2x2x512, .f32⟩
  | 2 => ⟨S4096x512, .f32⟩
  | 3 => ⟨S_, .f32⟩
  | 4 => ⟨S2x512, .f32⟩
  | 5 => ⟨S_, .f32⟩
  | 6 => ⟨S2x512, .f32⟩
  | 7 => ⟨S2x512, .f32⟩
  | 8 => ⟨S1x2x512, .f32⟩
  | 9 => ⟨S2x2x512, .f32⟩
  | 10 => ⟨S2x2x512, .f32⟩
  | 11 => ⟨S2x2x512, .f32⟩
  | 12 => ⟨S_, .f32⟩
  | 13 => ⟨S2x512, .f32⟩
  | 14 => ⟨S1x2x512, .f32⟩
  | 15 => ⟨S2x2x512, .f32⟩
  | 16 => ⟨S2x2x512, .f32⟩
  | 17 => ⟨S1x2x512, .f32⟩
  | 18 => ⟨S2x512, .f32⟩
  | 19 => ⟨S4096x2560, .f32⟩
  | 20 => ⟨S4096x576, .f32⟩
  | 21 => ⟨S_, .f32⟩
  | 22 => ⟨S4096x64, .f32⟩
  | 23 => ⟨S4096x3200, .f32⟩
  | 24 => ⟨S4096x512, .f32⟩
  | 25 => ⟨S4096x512, .f32⟩
  | 26 => ⟨S4096x512, .f32⟩
  | 27 => ⟨S4096x4x128, .f32⟩
  | 28 => ⟨S4x4096x128, .f32⟩
  | 29 => ⟨S1x512, .f32⟩
  | 30 => ⟨S512, .f32⟩
  | 31 => ⟨S_, .f32⟩
  | 32 => ⟨S512, .f32⟩
  | 33 => ⟨S512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S1x512, .f32⟩
  | 43 => ⟨S4096x512, .f32⟩
  | 44 => ⟨S4096x512, .f32⟩
  | 45 => ⟨S1x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x4x128, .f32⟩
  | 52 => ⟨S4x4096x128, .f32⟩
  | 53 => ⟨S4096x512, .f32⟩
  | 54 => ⟨S4096x4x128, .f32⟩
  | 55 => ⟨S4x4096x128, .f32⟩
  | 56 => ⟨S1x512, .f32⟩
  | 57 => ⟨S512, .f32⟩
  | 58 => ⟨S_, .f32⟩
  | 59 => ⟨S512, .f32⟩
  | 60 => ⟨S512, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S1x512, .f32⟩
  | 70 => ⟨S4096x512, .f32⟩
  | 71 => ⟨S4096x512, .f32⟩
  | 72 => ⟨S1x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x4x128, .f32⟩
  | 79 => ⟨S4x4096x128, .f32⟩
  | 80 => ⟨S4096x512, .f32⟩
  | 81 => ⟨S4096x4x128, .f32⟩
  | 82 => ⟨S4x4096x128, .f32⟩
  | 83 => ⟨S4x4096x128, .f32⟩
  | 84 => ⟨S8x4096x128, .f32⟩
  | 85 => ⟨S4x4096x128, .f32⟩
  | 86 => ⟨S8x4096x128, .f32⟩
  | 87 => ⟨S4x4096x128, .f32⟩
  | 88 => ⟨S8x4096x128, .f32⟩
  | 89 => ⟨S8x64x64x128, .f32⟩
  | 90 => ⟨S8x64x64x128, .f32⟩
  | 91 => ⟨S8x64x64x128, .f32⟩
  | 92 => ⟨S_, .f32⟩
  | 93 => ⟨S_, .f32⟩
  | 94 => ⟨S8x64x64x128, .f32⟩
  | 95 => ⟨S8x64x1x128, .f32⟩
  | 96 => ⟨S8x64x64x128, .f32⟩
  | 97 => ⟨S8x64x64x128, .f32⟩
  | 98 => ⟨S8x64x64x128, .f32⟩
  | 99 => ⟨S8x64x64x128, .f32⟩
  | 100 => ⟨S8x64x128x128, .f32⟩
  | 101 => ⟨S8x64x128, .f32⟩
  | 102 => ⟨S8x64x128, .f32⟩
  | 103 => ⟨S_, .f32⟩
  | 104 => ⟨S8x128x128, .f32⟩
  | 105 => ⟨S64x8x128, .f32⟩
  | 106 => ⟨S64x8x128x128, .f32⟩
  | 107 => ⟨S0x8x128, .f32⟩
  | 108 => ⟨S64x8x128, .f32⟩
  | 109 => ⟨S0x8x128x128, .f32⟩
  | 110 => ⟨S64x8x128x128, .f32⟩
  | 111 => ⟨S_, .f32⟩
  | 112 => ⟨S0x8x128x128, .f32⟩
  | 113 => ⟨S1x8x128, .f32⟩
  | 114 => ⟨S8x128, .f32⟩
  | 115 => ⟨S1x8x128x128, .f32⟩
  | 116 => ⟨S8x128x128, .f32⟩
  | 117 => ⟨S8x128x1, .f32⟩
  | 118 => ⟨S8x128x128, .f32⟩
  | 119 => ⟨S8x128x128, .f32⟩
  | 120 => ⟨S8x128x128, .f32⟩
  | 121 => ⟨S1x8x128, .f32⟩
  | 122 => ⟨S8x128, .f32⟩
  | 123 => ⟨S1x8x128x128, .f32⟩
  | 124 => ⟨S8x128x128, .f32⟩
  | 125 => ⟨S8x128x1, .f32⟩
  | 126 => ⟨S8x128x128, .f32⟩
  | 127 => ⟨S8x128x128, .f32⟩
  | _ => ⟨S4096x3136, .f32⟩

abbrev hbmTy0_1 (i : Nat) : BufTy := match i % 128 with
  | 0 => ⟨S8x128x128, .f32⟩
  | 1 => ⟨S1x8x128, .f32⟩
  | 2 => ⟨S8x128, .f32⟩
  | 3 => ⟨S1x8x128x128, .f32⟩
  | 4 => ⟨S8x128x128, .f32⟩
  | 5 => ⟨S8x128x1, .f32⟩
  | 6 => ⟨S8x128x128, .f32⟩
  | 7 => ⟨S8x128x128, .f32⟩
  | 8 => ⟨S8x128x128, .f32⟩
  | 9 => ⟨S1x8x128, .f32⟩
  | 10 => ⟨S8x128, .f32⟩
  | 11 => ⟨S1x8x128x128, .f32⟩
  | 12 => ⟨S8x128x128, .f32⟩
  | 13 => ⟨S8x128x1, .f32⟩
  | 14 => ⟨S8x128x128, .f32⟩
  | 15 => ⟨S8x128x128, .f32⟩
  | 16 => ⟨S8x128x128, .f32⟩
  | 17 => ⟨S1x8x128, .f32⟩
  | 18 => ⟨S8x128, .f32⟩
  | 19 => ⟨S1x8x128x128, .f32⟩
  | 20 => ⟨S8x128x128, .f32⟩
  | 21 => ⟨S8x128x1, .f32⟩
  | 22 => ⟨S8x128x128, .f32⟩
  | 23 => ⟨S8x128x128, .f32⟩
  | 24 => ⟨S8x128x128, .f32⟩
  | 25 => ⟨S1x8x128, .f32⟩
  | 26 => ⟨S8x128, .f32⟩
  | 27 => ⟨S1x8x128x128, .f32⟩
  | 28 => ⟨S8x128x128, .f32⟩
  | 29 => ⟨S8x128x1, .f32⟩
  | 30 => ⟨S8x128x128, .f32⟩
  | 31 => ⟨S8x128x128, .f32⟩
  | 32 => ⟨S8x128x128, .f32⟩
  | 33 => ⟨S1x8x128, .f32⟩
  | 34 => ⟨S8x128, .f32⟩
  | 35 => ⟨S1x8x128x128, .f32⟩
  | 36 => ⟨S8x128x128, .f32⟩
  | 37 => ⟨S8x128x1, .f32⟩
  | 38 => ⟨S8x128x128, .f32⟩
  | 39 => ⟨S8x128x128, .f32⟩
  | 40 => ⟨S8x128x128, .f32⟩
  | 41 => ⟨S1x8x128, .f32⟩
  | 42 => ⟨S8x128, .f32⟩
  | 43 => ⟨S1x8x128x128, .f32⟩
  | 44 => ⟨S8x128x128, .f32⟩
  | 45 => ⟨S8x128x1, .f32⟩
  | 46 => ⟨S8x128x128, .f32⟩
  | 47 => ⟨S8x128x128, .f32⟩
  | 48 => ⟨S8x128x128, .f32⟩
  | 49 => ⟨S1x8x128, .f32⟩
  | 50 => ⟨S8x128, .f32⟩
  | 51 => ⟨S1x8x128x128, .f32⟩
  | 52 => ⟨S8x128x128, .f32⟩
  | 53 => ⟨S8x128x1, .f32⟩
  | 54 => ⟨S8x128x128, .f32⟩
  | 55 => ⟨S8x128x128, .f32⟩
  | 56 => ⟨S8x128x128, .f32⟩
  | 57 => ⟨S1x8x128, .f32⟩
  | 58 => ⟨S8x128, .f32⟩
  | 59 => ⟨S1x8x128x128, .f32⟩
  | 60 => ⟨S8x128x128, .f32⟩
  | 61 => ⟨S8x128x1, .f32⟩
  | 62 => ⟨S8x128x128, .f32⟩
  | 63 => ⟨S8x128x128, .f32⟩
  | 64 => ⟨S8x128x128, .f32⟩
  | 65 => ⟨S1x8x128, .f32⟩
  | 66 => ⟨S8x128, .f32⟩
  | 67 => ⟨S1x8x128x128, .f32⟩
  | 68 => ⟨S8x128x128, .f32⟩
  | 69 => ⟨S8x128x1, .f32⟩
  | 70 => ⟨S8x128x128, .f32⟩
  | 71 => ⟨S8x128x128, .f32⟩
  | 72 => ⟨S8x128x128, .f32⟩
  | 73 => ⟨S1x8x128, .f32⟩
  | 74 => ⟨S8x128, .f32⟩
  | 75 => ⟨S1x8x128x128, .f32⟩
  | 76 => ⟨S8x128x128, .f32⟩
  | 77 => ⟨S8x128x1, .f32⟩
  | 78 => ⟨S8x128x128, .f32⟩
  | 79 => ⟨S8x128x128, .f32⟩
  | 80 => ⟨S8x128x128, .f32⟩
  | 81 => ⟨S1x8x128, .f32⟩
  | 82 => ⟨S8x128, .f32⟩
  | 83 => ⟨S1x8x128x128, .f32⟩
  | 84 => ⟨S8x128x128, .f32⟩
  | 85 => ⟨S8x128x1, .f32⟩
  | 86 => ⟨S8x128x128, .f32⟩
  | 87 => ⟨S8x128x128, .f32⟩
  | 88 => ⟨S8x128x128, .f32⟩
  | 89 => ⟨S1x8x128, .f32⟩
  | 90 => ⟨S8x128, .f32⟩
  | 91 => ⟨S1x8x128x128, .f32⟩
  | 92 => ⟨S8x128x128, .f32⟩
  | 93 => ⟨S8x128x1, .f32⟩
  | 94 => ⟨S8x128x128, .f32⟩
  | 95 => ⟨S8x128x128, .f32⟩
  | 96 => ⟨S8x128x128, .f32⟩
  | 97 => ⟨S1x8x128, .f32⟩
  | 98 => ⟨S8x128, .f32⟩
  | 99 => ⟨S1x8x128x128, .f32⟩
  | 100 => ⟨S8x128x128, .f32⟩
  | 101 => ⟨S8x128x1, .f32⟩
  | 102 => ⟨S8x128x128, .f32⟩
  | 103 => ⟨S8x128x128, .f32⟩
  | 104 => ⟨S8x128x128, .f32⟩
  | 105 => ⟨S1x8x128, .f32⟩
  | 106 => ⟨S8x128, .f32⟩
  | 107 => ⟨S1x8x128x128, .f32⟩
  | 108 => ⟨S8x128x128, .f32⟩
  | 109 => ⟨S8x128x1, .f32⟩
  | 110 => ⟨S8x128x128, .f32⟩
  | 111 => ⟨S8x128x128, .f32⟩
  | 112 => ⟨S8x128x128, .f32⟩
  | 113 => ⟨S1x8x128, .f32⟩
  | 114 => ⟨S8x128, .f32⟩
  | 115 => ⟨S1x8x128x128, .f32⟩
  | 116 => ⟨S8x128x128, .f32⟩
  | 117 => ⟨S8x128x1, .f32⟩
  | 118 => ⟨S8x128x128, .f32⟩
  | 119 => ⟨S8x128x128, .f32⟩
  | 120 => ⟨S8x128x128, .f32⟩
  | 121 => ⟨S1x8x128, .f32⟩
  | 122 => ⟨S8x128, .f32⟩
  | 123 => ⟨S1x8x128x128, .f32⟩
  | 124 => ⟨S8x128x128, .f32⟩
  | 125 => ⟨S8x128x1, .f32⟩
  | 126 => ⟨S8x128x128, .f32⟩
  | 127 => ⟨S8x128x128, .f32⟩
  | _ => ⟨S4096x3136, .f32⟩

abbrev hbmTy0_2 (i : Nat) : BufTy := match i % 128 with
  | 0 => ⟨S8x128x128, .f32⟩
  | 1 => ⟨S1x8x128, .f32⟩
  | 2 => ⟨S8x128, .f32⟩
  | 3 => ⟨S1x8x128x128, .f32⟩
  | 4 => ⟨S8x128x128, .f32⟩
  | 5 => ⟨S8x128x1, .f32⟩
  | 6 => ⟨S8x128x128, .f32⟩
  | 7 => ⟨S8x128x128, .f32⟩
  | 8 => ⟨S8x128x128, .f32⟩
  | 9 => ⟨S1x8x128, .f32⟩
  | 10 => ⟨S8x128, .f32⟩
  | 11 => ⟨S1x8x128x128, .f32⟩
  | 12 => ⟨S8x128x128, .f32⟩
  | 13 => ⟨S8x128x1, .f32⟩
  | 14 => ⟨S8x128x128, .f32⟩
  | 15 => ⟨S8x128x128, .f32⟩
  | 16 => ⟨S8x128x128, .f32⟩
  | 17 => ⟨S1x8x128, .f32⟩
  | 18 => ⟨S8x128, .f32⟩
  | 19 => ⟨S1x8x128x128, .f32⟩
  | 20 => ⟨S8x128x128, .f32⟩
  | 21 => ⟨S8x128x1, .f32⟩
  | 22 => ⟨S8x128x128, .f32⟩
  | 23 => ⟨S8x128x128, .f32⟩
  | 24 => ⟨S8x128x128, .f32⟩
  | 25 => ⟨S1x8x128, .f32⟩
  | 26 => ⟨S8x128, .f32⟩
  | 27 => ⟨S1x8x128x128, .f32⟩
  | 28 => ⟨S8x128x128, .f32⟩
  | 29 => ⟨S8x128x1, .f32⟩
  | 30 => ⟨S8x128x128, .f32⟩
  | 31 => ⟨S8x128x128, .f32⟩
  | 32 => ⟨S8x128x128, .f32⟩
  | 33 => ⟨S1x8x128, .f32⟩
  | 34 => ⟨S8x128, .f32⟩
  | 35 => ⟨S1x8x128x128, .f32⟩
  | 36 => ⟨S8x128x128, .f32⟩
  | 37 => ⟨S8x128x1, .f32⟩
  | 38 => ⟨S8x128x128, .f32⟩
  | 39 => ⟨S8x128x128, .f32⟩
  | 40 => ⟨S8x128x128, .f32⟩
  | 41 => ⟨S1x8x128, .f32⟩
  | 42 => ⟨S8x128, .f32⟩
  | 43 => ⟨S1x8x128x128, .f32⟩
  | 44 => ⟨S8x128x128, .f32⟩
  | 45 => ⟨S8x128x1, .f32⟩
  | 46 => ⟨S8x128x128, .f32⟩
  | 47 => ⟨S8x128x128, .f32⟩
  | 48 => ⟨S8x128x128, .f32⟩
  | 49 => ⟨S1x8x128, .f32⟩
  | 50 => ⟨S8x128, .f32⟩
  | 51 => ⟨S1x8x128x128, .f32⟩
  | 52 => ⟨S8x128x128, .f32⟩
  | 53 => ⟨S8x128x1, .f32⟩
  | 54 => ⟨S8x128x128, .f32⟩
  | 55 => ⟨S8x128x128, .f32⟩
  | 56 => ⟨S8x128x128, .f32⟩
  | 57 => ⟨S1x8x128, .f32⟩
  | 58 => ⟨S8x128, .f32⟩
  | 59 => ⟨S1x8x128x128, .f32⟩
  | 60 => ⟨S8x128x128, .f32⟩
  | 61 => ⟨S8x128x1, .f32⟩
  | 62 => ⟨S8x128x128, .f32⟩
  | 63 => ⟨S8x128x128, .f32⟩
  | 64 => ⟨S8x128x128, .f32⟩
  | 65 => ⟨S1x8x128, .f32⟩
  | 66 => ⟨S8x128, .f32⟩
  | 67 => ⟨S1x8x128x128, .f32⟩
  | 68 => ⟨S8x128x128, .f32⟩
  | 69 => ⟨S8x128x1, .f32⟩
  | 70 => ⟨S8x128x128, .f32⟩
  | 71 => ⟨S8x128x128, .f32⟩
  | 72 => ⟨S8x128x128, .f32⟩
  | 73 => ⟨S1x8x128, .f32⟩
  | 74 => ⟨S8x128, .f32⟩
  | 75 => ⟨S1x8x128x128, .f32⟩
  | 76 => ⟨S8x128x128, .f32⟩
  | 77 => ⟨S8x128x1, .f32⟩
  | 78 => ⟨S8x128x128, .f32⟩
  | 79 => ⟨S8x128x128, .f32⟩
  | 80 => ⟨S8x128x128, .f32⟩
  | 81 => ⟨S1x8x128, .f32⟩
  | 82 => ⟨S8x128, .f32⟩
  | 83 => ⟨S1x8x128x128, .f32⟩
  | 84 => ⟨S8x128x128, .f32⟩
  | 85 => ⟨S8x128x1, .f32⟩
  | 86 => ⟨S8x128x128, .f32⟩
  | 87 => ⟨S8x128x128, .f32⟩
  | 88 => ⟨S8x128x128, .f32⟩
  | 89 => ⟨S1x8x128, .f32⟩
  | 90 => ⟨S8x128, .f32⟩
  | 91 => ⟨S1x8x128x128, .f32⟩
  | 92 => ⟨S8x128x128, .f32⟩
  | 93 => ⟨S8x128x1, .f32⟩
  | 94 => ⟨S8x128x128, .f32⟩
  | 95 => ⟨S8x128x128, .f32⟩
  | 96 => ⟨S8x128x128, .f32⟩
  | 97 => ⟨S1x8x128, .f32⟩
  | 98 => ⟨S8x128, .f32⟩
  | 99 => ⟨S1x8x128x128, .f32⟩
  | 100 => ⟨S8x128x128, .f32⟩
  | 101 => ⟨S8x128x1, .f32⟩
  | 102 => ⟨S8x128x128, .f32⟩
  | 103 => ⟨S8x128x128, .f32⟩
  | 104 => ⟨S8x128x128, .f32⟩
  | 105 => ⟨S1x8x128, .f32⟩
  | 106 => ⟨S8x128, .f32⟩
  | 107 => ⟨S1x8x128x128, .f32⟩
  | 108 => ⟨S8x128x128, .f32⟩
  | 109 => ⟨S8x128x1, .f32⟩
  | 110 => ⟨S8x128x128, .f32⟩
  | 111 => ⟨S8x128x128, .f32⟩
  | 112 => ⟨S8x128x128, .f32⟩
  | 113 => ⟨S1x8x128, .f32⟩
  | 114 => ⟨S8x128, .f32⟩
  | 115 => ⟨S1x8x128x128, .f32⟩
  | 116 => ⟨S8x128x128, .f32⟩
  | 117 => ⟨S8x128x1, .f32⟩
  | 118 => ⟨S8x128x128, .f32⟩
  | 119 => ⟨S8x128x128, .f32⟩
  | 120 => ⟨S8x128x128, .f32⟩
  | 121 => ⟨S1x8x128, .f32⟩
  | 122 => ⟨S8x128, .f32⟩
  | 123 => ⟨S1x8x128x128, .f32⟩
  | 124 => ⟨S8x128x128, .f32⟩
  | 125 => ⟨S8x128x1, .f32⟩
  | 126 => ⟨S8x128x128, .f32⟩
  | 127 => ⟨S8x128x128, .f32⟩
  | _ => ⟨S4096x3136, .f32⟩

abbrev hbmTy0_3 (i : Nat) : BufTy := match i % 128 with
  | 0 => ⟨S8x128x128, .f32⟩
  | 1 => ⟨S1x8x128, .f32⟩
  | 2 => ⟨S8x128, .f32⟩
  | 3 => ⟨S1x8x128x128, .f32⟩
  | 4 => ⟨S8x128x128, .f32⟩
  | 5 => ⟨S8x128x1, .f32⟩
  | 6 => ⟨S8x128x128, .f32⟩
  | 7 => ⟨S8x128x128, .f32⟩
  | 8 => ⟨S8x128x128, .f32⟩
  | 9 => ⟨S1x8x128, .f32⟩
  | 10 => ⟨S8x128, .f32⟩
  | 11 => ⟨S1x8x128x128, .f32⟩
  | 12 => ⟨S8x128x128, .f32⟩
  | 13 => ⟨S8x128x1, .f32⟩
  | 14 => ⟨S8x128x128, .f32⟩
  | 15 => ⟨S8x128x128, .f32⟩
  | 16 => ⟨S8x128x128, .f32⟩
  | 17 => ⟨S1x8x128, .f32⟩
  | 18 => ⟨S8x128, .f32⟩
  | 19 => ⟨S1x8x128x128, .f32⟩
  | 20 => ⟨S8x128x128, .f32⟩
  | 21 => ⟨S8x128x1, .f32⟩
  | 22 => ⟨S8x128x128, .f32⟩
  | 23 => ⟨S8x128x128, .f32⟩
  | 24 => ⟨S8x128x128, .f32⟩
  | 25 => ⟨S1x8x128, .f32⟩
  | 26 => ⟨S8x128, .f32⟩
  | 27 => ⟨S1x8x128x128, .f32⟩
  | 28 => ⟨S8x128x128, .f32⟩
  | 29 => ⟨S8x128x1, .f32⟩
  | 30 => ⟨S8x128x128, .f32⟩
  | 31 => ⟨S8x128x128, .f32⟩
  | 32 => ⟨S8x128x128, .f32⟩
  | 33 => ⟨S1x8x128, .f32⟩
  | 34 => ⟨S8x128, .f32⟩
  | 35 => ⟨S1x8x128x128, .f32⟩
  | 36 => ⟨S8x128x128, .f32⟩
  | 37 => ⟨S8x128x1, .f32⟩
  | 38 => ⟨S8x128x128, .f32⟩
  | 39 => ⟨S8x128x128, .f32⟩
  | 40 => ⟨S8x128x128, .f32⟩
  | 41 => ⟨S1x8x128, .f32⟩
  | 42 => ⟨S8x128, .f32⟩
  | 43 => ⟨S1x8x128x128, .f32⟩
  | 44 => ⟨S8x128x128, .f32⟩
  | 45 => ⟨S8x128x1, .f32⟩
  | 46 => ⟨S8x128x128, .f32⟩
  | 47 => ⟨S8x128x128, .f32⟩
  | 48 => ⟨S8x128x128, .f32⟩
  | 49 => ⟨S1x8x128, .f32⟩
  | 50 => ⟨S8x128, .f32⟩
  | 51 => ⟨S1x8x128x128, .f32⟩
  | 52 => ⟨S8x128x128, .f32⟩
  | 53 => ⟨S8x128x1, .f32⟩
  | 54 => ⟨S8x128x128, .f32⟩
  | 55 => ⟨S8x128x128, .f32⟩
  | 56 => ⟨S8x128x128, .f32⟩
  | 57 => ⟨S1x8x128, .f32⟩
  | 58 => ⟨S8x128, .f32⟩
  | 59 => ⟨S1x8x128x128, .f32⟩
  | 60 => ⟨S8x128x128, .f32⟩
  | 61 => ⟨S8x128x1, .f32⟩
  | 62 => ⟨S8x128x128, .f32⟩
  | 63 => ⟨S8x128x128, .f32⟩
  | 64 => ⟨S8x128x128, .f32⟩
  | 65 => ⟨S1x8x128, .f32⟩
  | 66 => ⟨S8x128, .f32⟩
  | 67 => ⟨S1x8x128x128, .f32⟩
  | 68 => ⟨S8x128x128, .f32⟩
  | 69 => ⟨S8x128x1, .f32⟩
  | 70 => ⟨S8x128x128, .f32⟩
  | 71 => ⟨S8x128x128, .f32⟩
  | 72 => ⟨S8x128x128, .f32⟩
  | 73 => ⟨S1x8x128, .f32⟩
  | 74 => ⟨S8x128, .f32⟩
  | 75 => ⟨S1x8x128x128, .f32⟩
  | 76 => ⟨S8x128x128, .f32⟩
  | 77 => ⟨S8x128x1, .f32⟩
  | 78 => ⟨S8x128x128, .f32⟩
  | 79 => ⟨S8x128x128, .f32⟩
  | 80 => ⟨S8x128x128, .f32⟩
  | 81 => ⟨S1x8x128, .f32⟩
  | 82 => ⟨S8x128, .f32⟩
  | 83 => ⟨S1x8x128x128, .f32⟩
  | 84 => ⟨S8x128x128, .f32⟩
  | 85 => ⟨S8x128x1, .f32⟩
  | 86 => ⟨S8x128x128, .f32⟩
  | 87 => ⟨S8x128x128, .f32⟩
  | 88 => ⟨S8x128x128, .f32⟩
  | 89 => ⟨S1x8x128, .f32⟩
  | 90 => ⟨S8x128, .f32⟩
  | 91 => ⟨S1x8x128x128, .f32⟩
  | 92 => ⟨S8x128x128, .f32⟩
  | 93 => ⟨S8x128x1, .f32⟩
  | 94 => ⟨S8x128x128, .f32⟩
  | 95 => ⟨S8x128x128, .f32⟩
  | 96 => ⟨S8x128x128, .f32⟩
  | 97 => ⟨S1x8x128, .f32⟩
  | 98 => ⟨S8x128, .f32⟩
  | 99 => ⟨S1x8x128x128, .f32⟩
  | 100 => ⟨S8x128x128, .f32⟩
  | 101 => ⟨S8x128x1, .f32⟩
  | 102 => ⟨S8x128x128, .f32⟩
  | 103 => ⟨S8x128x128, .f32⟩
  | 104 => ⟨S8x128x128, .f32⟩
  | 105 => ⟨S1x8x128, .f32⟩
  | 106 => ⟨S8x128, .f32⟩
  | 107 => ⟨S1x8x128x128, .f32⟩
  | 108 => ⟨S8x128x128, .f32⟩
  | 109 => ⟨S8x128x1, .f32⟩
  | 110 => ⟨S8x128x128, .f32⟩
  | 111 => ⟨S8x128x128, .f32⟩
  | 112 => ⟨S8x128x128, .f32⟩
  | 113 => ⟨S1x8x128, .f32⟩
  | 114 => ⟨S8x128, .f32⟩
  | 115 => ⟨S1x8x128x128, .f32⟩
  | 116 => ⟨S8x128x128, .f32⟩
  | 117 => ⟨S8x128x1, .f32⟩
  | 118 => ⟨S8x128x128, .f32⟩
  | 119 => ⟨S8x128x128, .f32⟩
  | 120 => ⟨S8x128x128, .f32⟩
  | 121 => ⟨S1x8x128, .f32⟩
  | 122 => ⟨S8x128, .f32⟩
  | 123 => ⟨S1x8x128x128, .f32⟩
  | 124 => ⟨S8x128x128, .f32⟩
  | 125 => ⟨S8x128x1, .f32⟩
  | 126 => ⟨S8x128x128, .f32⟩
  | 127 => ⟨S8x128x128, .f32⟩
  | _ => ⟨S4096x3136, .f32⟩

abbrev hbmTy0_4 (i : Nat) : BufTy := match i % 128 with
  | 0 => ⟨S8x128x128, .f32⟩
  | 1 => ⟨S1x8x128, .f32⟩
  | 2 => ⟨S8x128, .f32⟩
  | 3 => ⟨S1x8x128x128, .f32⟩
  | 4 => ⟨S8x128x128, .f32⟩
  | 5 => ⟨S8x128x1, .f32⟩
  | 6 => ⟨S8x128x128, .f32⟩
  | 7 => ⟨S8x128x128, .f32⟩
  | 8 => ⟨S8x128x128, .f32⟩
  | 9 => ⟨S1x8x128, .f32⟩
  | 10 => ⟨S8x128, .f32⟩
  | 11 => ⟨S1x8x128x128, .f32⟩
  | 12 => ⟨S8x128x128, .f32⟩
  | 13 => ⟨S8x128x1, .f32⟩
  | 14 => ⟨S8x128x128, .f32⟩
  | 15 => ⟨S8x128x128, .f32⟩
  | 16 => ⟨S8x128x128, .f32⟩
  | 17 => ⟨S1x8x128, .f32⟩
  | 18 => ⟨S8x128, .f32⟩
  | 19 => ⟨S1x8x128x128, .f32⟩
  | 20 => ⟨S8x128x128, .f32⟩
  | 21 => ⟨S8x128x1, .f32⟩
  | 22 => ⟨S8x128x128, .f32⟩
  | 23 => ⟨S8x128x128, .f32⟩
  | 24 => ⟨S8x128x128, .f32⟩
  | 25 => ⟨S1x8x128, .f32⟩
  | 26 => ⟨S8x128, .f32⟩
  | 27 => ⟨S1x8x128x128, .f32⟩
  | 28 => ⟨S8x128x128, .f32⟩
  | 29 => ⟨S8x128x1, .f32⟩
  | 30 => ⟨S8x128x128, .f32⟩
  | 31 => ⟨S8x128x128, .f32⟩
  | 32 => ⟨S8x128x128, .f32⟩
  | 33 => ⟨S1x8x128, .f32⟩
  | 34 => ⟨S8x128, .f32⟩
  | 35 => ⟨S1x8x128x128, .f32⟩
  | 36 => ⟨S8x128x128, .f32⟩
  | 37 => ⟨S8x128x1, .f32⟩
  | 38 => ⟨S8x128x128, .f32⟩
  | 39 => ⟨S8x128x128, .f32⟩
  | 40 => ⟨S8x128x128, .f32⟩
  | 41 => ⟨S1x8x128, .f32⟩
  | 42 => ⟨S8x128, .f32⟩
  | 43 => ⟨S1x8x128x128, .f32⟩
  | 44 => ⟨S8x128x128, .f32⟩
  | 45 => ⟨S8x128x1, .f32⟩
  | 46 => ⟨S8x128x128, .f32⟩
  | 47 => ⟨S8x128x128, .f32⟩
  | 48 => ⟨S8x128x128, .f32⟩
  | 49 => ⟨S1x8x128, .f32⟩
  | 50 => ⟨S8x128, .f32⟩
  | 51 => ⟨S1x8x128x128, .f32⟩
  | 52 => ⟨S8x128x128, .f32⟩
  | 53 => ⟨S8x128x1, .f32⟩
  | 54 => ⟨S8x128x128, .f32⟩
  | 55 => ⟨S8x128x128, .f32⟩
  | 56 => ⟨S8x128x128, .f32⟩
  | 57 => ⟨S1x8x128, .f32⟩
  | 58 => ⟨S8x128, .f32⟩
  | 59 => ⟨S1x8x128x128, .f32⟩
  | 60 => ⟨S8x128x128, .f32⟩
  | 61 => ⟨S8x128x1, .f32⟩
  | 62 => ⟨S8x128x128, .f32⟩
  | 63 => ⟨S8x128x128, .f32⟩
  | 64 => ⟨S8x128x128, .f32⟩
  | 65 => ⟨S1x8x128, .f32⟩
  | 66 => ⟨S8x128, .f32⟩
  | 67 => ⟨S1x8x128x128, .f32⟩
  | 68 => ⟨S8x128x128, .f32⟩
  | 69 => ⟨S8x128x1, .f32⟩
  | 70 => ⟨S8x128x128, .f32⟩
  | 71 => ⟨S8x128x128, .f32⟩
  | 72 => ⟨S8x128x128, .f32⟩
  | 73 => ⟨S1x8x128, .f32⟩
  | 74 => ⟨S8x128, .f32⟩
  | 75 => ⟨S1x8x128x128, .f32⟩
  | 76 => ⟨S8x128x128, .f32⟩
  | 77 => ⟨S8x128x1, .f32⟩
  | 78 => ⟨S8x128x128, .f32⟩
  | 79 => ⟨S8x128x128, .f32⟩
  | 80 => ⟨S8x128x128, .f32⟩
  | 81 => ⟨S1x8x128, .f32⟩
  | 82 => ⟨S8x128, .f32⟩
  | 83 => ⟨S1x8x128x128, .f32⟩
  | 84 => ⟨S8x128x128, .f32⟩
  | 85 => ⟨S8x128x1, .f32⟩
  | 86 => ⟨S8x128x128, .f32⟩
  | 87 => ⟨S8x128x128, .f32⟩
  | 88 => ⟨S8x128x128, .f32⟩
  | 89 => ⟨S1x8x128, .f32⟩
  | 90 => ⟨S8x128, .f32⟩
  | 91 => ⟨S1x8x128x128, .f32⟩
  | 92 => ⟨S8x128x128, .f32⟩
  | 93 => ⟨S8x128x1, .f32⟩
  | 94 => ⟨S8x128x128, .f32⟩
  | 95 => ⟨S8x128x128, .f32⟩
  | 96 => ⟨S8x128x128, .f32⟩
  | 97 => ⟨S1x8x128, .f32⟩
  | 98 => ⟨S8x128, .f32⟩
  | 99 => ⟨S1x8x128x128, .f32⟩
  | 100 => ⟨S8x128x128, .f32⟩
  | 101 => ⟨S8x128x1, .f32⟩
  | 102 => ⟨S8x128x128, .f32⟩
  | 103 => ⟨S8x128x128, .f32⟩
  | 104 => ⟨S8x128x128, .f32⟩
  | 105 => ⟨S1x8x128, .f32⟩
  | 106 => ⟨S8x128, .f32⟩
  | 107 => ⟨S1x8x128x128, .f32⟩
  | 108 => ⟨S8x128x128, .f32⟩
  | 109 => ⟨S8x128x1, .f32⟩
  | 110 => ⟨S8x128x128, .f32⟩
  | 111 => ⟨S8x128x128, .f32⟩
  | 112 => ⟨S8x128x128, .f32⟩
  | 113 => ⟨S1x8x128x128, .f32⟩
  | 114 => ⟨S1x8x128x128, .f32⟩
  | 115 => ⟨S1x8x128x128, .f32⟩
  | 116 => ⟨S1x8x128x128, .f32⟩
  | 117 => ⟨S1x8x128x128, .f32⟩
  | 118 => ⟨S1x8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x3136, .f32⟩

abbrev hbmTy0_5 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S1x8x128x128, .f32⟩
  | 35 => ⟨S1x8x128x128, .f32⟩
  | 36 => ⟨S1x8x128x128, .f32⟩
  | 37 => ⟨S1x8x128x128, .f32⟩
  | 38 => ⟨S1x8x128x128, .f32⟩
  | 39 => ⟨S1x8x128x128, .f32⟩
  | 40 => ⟨S1x8x128x128, .f32⟩
  | 41 => ⟨S1x8x128x128, .f32⟩
  | 42 => ⟨S1x8x128x128, .f32⟩
  | 43 => ⟨S1x8x128x128, .f32⟩
  | 44 => ⟨S1x8x128x128, .f32⟩
  | 45 => ⟨S1x8x128x128, .f32⟩
  | 46 => ⟨S1x8x128x128, .f32⟩
  | 47 => ⟨S1x8x128x128, .f32⟩
  | 48 => ⟨S1x8x128x128, .f32⟩
  | 49 => ⟨S16x8x128x128, .f32⟩
  | 50 => ⟨S16x8x128x128, .f32⟩
  | 51 => ⟨S16x8x128x128, .f32⟩
  | 52 => ⟨S16x8x128x128, .f32⟩
  | 53 => ⟨S64x8x128x128, .f32⟩
  | 54 => ⟨S64x8x128x128, .f32⟩
  | 55 => ⟨S8x64x128x128, .f32⟩
  | 56 => ⟨S8x4096x128, .f32⟩
  | 57 => ⟨S4x4096x128, .f32⟩
  | 58 => ⟨S4x4096x128, .f32⟩
  | 59 => ⟨S4x4096x128, .f32⟩
  | 60 => ⟨S1x4x4096x128, .f32⟩
  | 61 => ⟨S1x4x4096x128, .f32⟩
  | 62 => ⟨S2x4x4096x128, .f32⟩
  | 63 => ⟨S2x4096x4x128, .f32⟩
  | 64 => ⟨S2x4096x512, .f32⟩
  | 65 => ⟨S4x64x128x128, .f32⟩
  | 66 => ⟨S4x64x128x128, .f32⟩
  | 67 => ⟨S4x64x128x128, .f32⟩
  | 68 => ⟨S4x1x64x128x128, .f32⟩
  | 69 => ⟨S4x1x64x128x128, .f32⟩
  | 70 => ⟨S4x2x64x128x128, .f32⟩
  | 71 => ⟨S4x2x64x128x128, .f32⟩
  | 72 => ⟨S4x512, .f32⟩
  | 73 => ⟨S4096x512, .bf16⟩
  | 74 => ⟨S4096x512, .bf16⟩
  | 75 => ⟨S4096x512, .bf16⟩
  | 76 => ⟨S4096x512, .bf16⟩
  | 77 => ⟨S4x512, .f32⟩
  | _ => ⟨S4096x3136, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x3136, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4x128, .f32⟩
  | .local _ .vmem, ⟨9, _⟩ => ⟨S4x128, .f32⟩
  | .local _ .vmem, ⟨10, _⟩ => ⟨S4096x128, .f32⟩
  | .local _ .vmem, ⟨11, _⟩ => ⟨S4096x128, .f32⟩
  | .local _ .vmem, ⟨12, _⟩ => ⟨S2x4096x128, .f32⟩
  | .local _ .vmem, ⟨13, _⟩ => ⟨S2x4096x128, .f32⟩
  | .local _ .vmem, ⟨14, _⟩ => ⟨S1x2x64x128x128, .f32⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S4096x128, .bf16⟩
  | .local _ .vmem, ⟨23, _⟩ => ⟨S4x128, .f32⟩
  | .local _ .vmem, ⟨24, _⟩ => ⟨S4x128, .f32⟩
  | .local _ .vmem, ⟨25, _⟩ => ⟨S2x128x128, .f32⟩
  | .local _ .vmem, ⟨26, _⟩ => ⟨S4096x128, .f32⟩
  | .local _ .vmem, ⟨27, _⟩ => ⟨S4096x128, .f32⟩
  | .local _ .vmem, ⟨28, _⟩ => ⟨S2x128, .f32⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_call0_call0_cst : Ref sig .tc := ⟨.hbm, 92, rfl⟩
abbrev main_call0_call0_v0 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_11 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_12 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_v297 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_v301 : Ref sig .tc := ⟨.hbm, 320, rfl⟩
abbrev main_v302 : Ref sig .tc := ⟨.hbm, 321, rfl⟩
abbrev main_v303 : Ref sig .tc := ⟨.hbm, 322, rfl⟩
abbrev main_v304 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_v309 : Ref sig .tc := ⟨.hbm, 328, rfl⟩
abbrev main_v310 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_v314 : Ref sig .tc := ⟨.hbm, 333, rfl⟩
abbrev main_v315 : Ref sig .tc := ⟨.hbm, 334, rfl⟩
abbrev main_v316 : Ref sig .tc := ⟨.hbm, 335, rfl⟩
abbrev main_v317 : Ref sig .tc := ⟨.hbm, 336, rfl⟩
abbrev main_v318 : Ref sig .tc := ⟨.hbm, 337, rfl⟩
abbrev main_v319 : Ref sig .tc := ⟨.hbm, 338, rfl⟩
abbrev main_v320 : Ref sig .tc := ⟨.hbm, 339, rfl⟩
abbrev main_v321 : Ref sig .tc := ⟨.hbm, 340, rfl⟩
abbrev main_v322 : Ref sig .tc := ⟨.hbm, 341, rfl⟩
abbrev main_v323 : Ref sig .tc := ⟨.hbm, 342, rfl⟩
abbrev main_v324 : Ref sig .tc := ⟨.hbm, 343, rfl⟩
abbrev main_v325 : Ref sig .tc := ⟨.hbm, 344, rfl⟩
abbrev main_v326 : Ref sig .tc := ⟨.hbm, 345, rfl⟩
abbrev main_v327 : Ref sig .tc := ⟨.hbm, 346, rfl⟩
abbrev main_v328 : Ref sig .tc := ⟨.hbm, 347, rfl⟩
abbrev main_v329 : Ref sig .tc := ⟨.hbm, 348, rfl⟩
abbrev main_v330 : Ref sig .tc := ⟨.hbm, 349, rfl⟩
abbrev main_v331 : Ref sig .tc := ⟨.hbm, 350, rfl⟩
abbrev main_v332 : Ref sig .tc := ⟨.hbm, 351, rfl⟩
abbrev main_v333 : Ref sig .tc := ⟨.hbm, 352, rfl⟩
abbrev main_v334 : Ref sig .tc := ⟨.hbm, 353, rfl⟩
abbrev main_v335 : Ref sig .tc := ⟨.hbm, 354, rfl⟩
abbrev main_v336 : Ref sig .tc := ⟨.hbm, 355, rfl⟩
abbrev main_v337 : Ref sig .tc := ⟨.hbm, 356, rfl⟩
abbrev main_v338 : Ref sig .tc := ⟨.hbm, 357, rfl⟩
abbrev main_v339 : Ref sig .tc := ⟨.hbm, 358, rfl⟩
abbrev main_v340 : Ref sig .tc := ⟨.hbm, 359, rfl⟩
abbrev main_v341 : Ref sig .tc := ⟨.hbm, 360, rfl⟩
abbrev main_v342 : Ref sig .tc := ⟨.hbm, 361, rfl⟩
abbrev main_v343 : Ref sig .tc := ⟨.hbm, 362, rfl⟩
abbrev main_v344 : Ref sig .tc := ⟨.hbm, 363, rfl⟩
abbrev main_v345 : Ref sig .tc := ⟨.hbm, 364, rfl⟩
abbrev main_v346 : Ref sig .tc := ⟨.hbm, 365, rfl⟩
abbrev main_v347 : Ref sig .tc := ⟨.hbm, 366, rfl⟩
abbrev main_v348 : Ref sig .tc := ⟨.hbm, 367, rfl⟩
abbrev main_v349 : Ref sig .tc := ⟨.hbm, 368, rfl⟩
abbrev main_v350 : Ref sig .tc := ⟨.hbm, 369, rfl⟩
abbrev main_v351 : Ref sig .tc := ⟨.hbm, 370, rfl⟩
abbrev main_v352 : Ref sig .tc := ⟨.hbm, 371, rfl⟩
abbrev main_v353 : Ref sig .tc := ⟨.hbm, 372, rfl⟩
abbrev main_v354 : Ref sig .tc := ⟨.hbm, 373, rfl⟩
abbrev main_v355 : Ref sig .tc := ⟨.hbm, 374, rfl⟩
abbrev main_v356 : Ref sig .tc := ⟨.hbm, 375, rfl⟩
abbrev main_v357 : Ref sig .tc := ⟨.hbm, 376, rfl⟩
abbrev main_v358 : Ref sig .tc := ⟨.hbm, 377, rfl⟩
abbrev main_v359 : Ref sig .tc := ⟨.hbm, 378, rfl⟩
abbrev main_v360 : Ref sig .tc := ⟨.hbm, 379, rfl⟩
abbrev main_v361 : Ref sig .tc := ⟨.hbm, 380, rfl⟩
abbrev main_v362 : Ref sig .tc := ⟨.hbm, 381, rfl⟩
abbrev main_v363 : Ref sig .tc := ⟨.hbm, 382, rfl⟩
abbrev main_v364 : Ref sig .tc := ⟨.hbm, 383, rfl⟩
abbrev main_v365 : Ref sig .tc := ⟨.hbm, 384, rfl⟩
abbrev main_v366 : Ref sig .tc := ⟨.hbm, 385, rfl⟩
abbrev main_v367 : Ref sig .tc := ⟨.hbm, 386, rfl⟩
abbrev main_v368 : Ref sig .tc := ⟨.hbm, 387, rfl⟩
abbrev main_v369 : Ref sig .tc := ⟨.hbm, 388, rfl⟩
abbrev main_v370 : Ref sig .tc := ⟨.hbm, 389, rfl⟩
abbrev main_v371 : Ref sig .tc := ⟨.hbm, 390, rfl⟩
abbrev main_v372 : Ref sig .tc := ⟨.hbm, 391, rfl⟩
abbrev main_v373 : Ref sig .tc := ⟨.hbm, 392, rfl⟩
abbrev main_v374 : Ref sig .tc := ⟨.hbm, 393, rfl⟩
abbrev main_v375 : Ref sig .tc := ⟨.hbm, 394, rfl⟩
abbrev main_v376 : Ref sig .tc := ⟨.hbm, 395, rfl⟩
abbrev main_v377 : Ref sig .tc := ⟨.hbm, 396, rfl⟩
abbrev main_v378 : Ref sig .tc := ⟨.hbm, 397, rfl⟩
abbrev main_v379 : Ref sig .tc := ⟨.hbm, 398, rfl⟩
abbrev main_v380 : Ref sig .tc := ⟨.hbm, 399, rfl⟩
abbrev main_v381 : Ref sig .tc := ⟨.hbm, 400, rfl⟩
abbrev main_v382 : Ref sig .tc := ⟨.hbm, 401, rfl⟩
abbrev main_v383 : Ref sig .tc := ⟨.hbm, 402, rfl⟩
abbrev main_v384 : Ref sig .tc := ⟨.hbm, 403, rfl⟩
abbrev main_v385 : Ref sig .tc := ⟨.hbm, 404, rfl⟩
abbrev main_v386 : Ref sig .tc := ⟨.hbm, 405, rfl⟩
abbrev main_v387 : Ref sig .tc := ⟨.hbm, 406, rfl⟩
abbrev main_v388 : Ref sig .tc := ⟨.hbm, 407, rfl⟩
abbrev main_v389 : Ref sig .tc := ⟨.hbm, 408, rfl⟩
abbrev main_v390 : Ref sig .tc := ⟨.hbm, 409, rfl⟩
abbrev main_v391 : Ref sig .tc := ⟨.hbm, 410, rfl⟩
abbrev main_v392 : Ref sig .tc := ⟨.hbm, 411, rfl⟩
abbrev main_v393 : Ref sig .tc := ⟨.hbm, 412, rfl⟩
abbrev main_v394 : Ref sig .tc := ⟨.hbm, 413, rfl⟩
abbrev main_v395 : Ref sig .tc := ⟨.hbm, 414, rfl⟩
abbrev main_v396 : Ref sig .tc := ⟨.hbm, 415, rfl⟩
abbrev main_v397 : Ref sig .tc := ⟨.hbm, 416, rfl⟩
abbrev main_v398 : Ref sig .tc := ⟨.hbm, 417, rfl⟩
abbrev main_v399 : Ref sig .tc := ⟨.hbm, 418, rfl⟩
abbrev main_v400 : Ref sig .tc := ⟨.hbm, 419, rfl⟩
abbrev main_v401 : Ref sig .tc := ⟨.hbm, 420, rfl⟩
abbrev main_v402 : Ref sig .tc := ⟨.hbm, 421, rfl⟩
abbrev main_v403 : Ref sig .tc := ⟨.hbm, 422, rfl⟩
abbrev main_v404 : Ref sig .tc := ⟨.hbm, 423, rfl⟩
abbrev main_v405 : Ref sig .tc := ⟨.hbm, 424, rfl⟩
abbrev main_v406 : Ref sig .tc := ⟨.hbm, 425, rfl⟩
abbrev main_v407 : Ref sig .tc := ⟨.hbm, 426, rfl⟩
abbrev main_v408 : Ref sig .tc := ⟨.hbm, 427, rfl⟩
abbrev main_v409 : Ref sig .tc := ⟨.hbm, 428, rfl⟩
abbrev main_v410 : Ref sig .tc := ⟨.hbm, 429, rfl⟩
abbrev main_v411 : Ref sig .tc := ⟨.hbm, 430, rfl⟩
abbrev main_v412 : Ref sig .tc := ⟨.hbm, 431, rfl⟩
abbrev main_v413 : Ref sig .tc := ⟨.hbm, 432, rfl⟩
abbrev main_v414 : Ref sig .tc := ⟨.hbm, 433, rfl⟩
abbrev main_v415 : Ref sig .tc := ⟨.hbm, 434, rfl⟩
abbrev main_v416 : Ref sig .tc := ⟨.hbm, 435, rfl⟩
abbrev main_v417 : Ref sig .tc := ⟨.hbm, 436, rfl⟩
abbrev main_v418 : Ref sig .tc := ⟨.hbm, 437, rfl⟩
abbrev main_v419 : Ref sig .tc := ⟨.hbm, 438, rfl⟩
abbrev main_v420 : Ref sig .tc := ⟨.hbm, 439, rfl⟩
abbrev main_v421 : Ref sig .tc := ⟨.hbm, 440, rfl⟩
abbrev main_v422 : Ref sig .tc := ⟨.hbm, 441, rfl⟩
abbrev main_v423 : Ref sig .tc := ⟨.hbm, 442, rfl⟩
abbrev main_v424 : Ref sig .tc := ⟨.hbm, 443, rfl⟩
abbrev main_v425 : Ref sig .tc := ⟨.hbm, 444, rfl⟩
abbrev main_v426 : Ref sig .tc := ⟨.hbm, 445, rfl⟩
abbrev main_v427 : Ref sig .tc := ⟨.hbm, 446, rfl⟩
abbrev main_v428 : Ref sig .tc := ⟨.hbm, 447, rfl⟩
abbrev main_v429 : Ref sig .tc := ⟨.hbm, 448, rfl⟩
abbrev main_v430 : Ref sig .tc := ⟨.hbm, 449, rfl⟩
abbrev main_v431 : Ref sig .tc := ⟨.hbm, 450, rfl⟩
abbrev main_v432 : Ref sig .tc := ⟨.hbm, 451, rfl⟩
abbrev main_v433 : Ref sig .tc := ⟨.hbm, 452, rfl⟩
abbrev main_v434 : Ref sig .tc := ⟨.hbm, 453, rfl⟩
abbrev main_v435 : Ref sig .tc := ⟨.hbm, 454, rfl⟩
abbrev main_v436 : Ref sig .tc := ⟨.hbm, 455, rfl⟩
abbrev main_v437 : Ref sig .tc := ⟨.hbm, 456, rfl⟩
abbrev main_v438 : Ref sig .tc := ⟨.hbm, 457, rfl⟩
abbrev main_v439 : Ref sig .tc := ⟨.hbm, 458, rfl⟩
abbrev main_v440 : Ref sig .tc := ⟨.hbm, 459, rfl⟩
abbrev main_v441 : Ref sig .tc := ⟨.hbm, 460, rfl⟩
abbrev main_v442 : Ref sig .tc := ⟨.hbm, 461, rfl⟩
abbrev main_v443 : Ref sig .tc := ⟨.hbm, 462, rfl⟩
abbrev main_v444 : Ref sig .tc := ⟨.hbm, 463, rfl⟩
abbrev main_v445 : Ref sig .tc := ⟨.hbm, 464, rfl⟩
abbrev main_v446 : Ref sig .tc := ⟨.hbm, 465, rfl⟩
abbrev main_v447 : Ref sig .tc := ⟨.hbm, 466, rfl⟩
abbrev main_v448 : Ref sig .tc := ⟨.hbm, 467, rfl⟩
abbrev main_v449 : Ref sig .tc := ⟨.hbm, 468, rfl⟩
abbrev main_v450 : Ref sig .tc := ⟨.hbm, 469, rfl⟩
abbrev main_v451 : Ref sig .tc := ⟨.hbm, 470, rfl⟩
abbrev main_v452 : Ref sig .tc := ⟨.hbm, 471, rfl⟩
abbrev main_v453 : Ref sig .tc := ⟨.hbm, 472, rfl⟩
abbrev main_v454 : Ref sig .tc := ⟨.hbm, 473, rfl⟩
abbrev main_v455 : Ref sig .tc := ⟨.hbm, 474, rfl⟩
abbrev main_v456 : Ref sig .tc := ⟨.hbm, 475, rfl⟩
abbrev main_v457 : Ref sig .tc := ⟨.hbm, 476, rfl⟩
abbrev main_v458 : Ref sig .tc := ⟨.hbm, 477, rfl⟩
abbrev main_v459 : Ref sig .tc := ⟨.hbm, 478, rfl⟩
abbrev main_v460 : Ref sig .tc := ⟨.hbm, 479, rfl⟩
abbrev main_v461 : Ref sig .tc := ⟨.hbm, 480, rfl⟩
abbrev main_v462 : Ref sig .tc := ⟨.hbm, 481, rfl⟩
abbrev main_v463 : Ref sig .tc := ⟨.hbm, 482, rfl⟩
abbrev main_v464 : Ref sig .tc := ⟨.hbm, 483, rfl⟩
abbrev main_v465 : Ref sig .tc := ⟨.hbm, 484, rfl⟩
abbrev main_v466 : Ref sig .tc := ⟨.hbm, 485, rfl⟩
abbrev main_v467 : Ref sig .tc := ⟨.hbm, 486, rfl⟩
abbrev main_v468 : Ref sig .tc := ⟨.hbm, 487, rfl⟩
abbrev main_v469 : Ref sig .tc := ⟨.hbm, 488, rfl⟩
abbrev main_v470 : Ref sig .tc := ⟨.hbm, 489, rfl⟩
abbrev main_v471 : Ref sig .tc := ⟨.hbm, 490, rfl⟩
abbrev main_v472 : Ref sig .tc := ⟨.hbm, 491, rfl⟩
abbrev main_v473 : Ref sig .tc := ⟨.hbm, 492, rfl⟩
abbrev main_v474 : Ref sig .tc := ⟨.hbm, 493, rfl⟩
abbrev main_v475 : Ref sig .tc := ⟨.hbm, 494, rfl⟩
abbrev main_v476 : Ref sig .tc := ⟨.hbm, 495, rfl⟩
abbrev main_v477 : Ref sig .tc := ⟨.hbm, 496, rfl⟩
abbrev main_v478 : Ref sig .tc := ⟨.hbm, 497, rfl⟩
abbrev main_v479 : Ref sig .tc := ⟨.hbm, 498, rfl⟩
abbrev main_v480 : Ref sig .tc := ⟨.hbm, 499, rfl⟩
abbrev main_v481 : Ref sig .tc := ⟨.hbm, 500, rfl⟩
abbrev main_v482 : Ref sig .tc := ⟨.hbm, 501, rfl⟩
abbrev main_v483 : Ref sig .tc := ⟨.hbm, 502, rfl⟩
abbrev main_v484 : Ref sig .tc := ⟨.hbm, 503, rfl⟩
abbrev main_v485 : Ref sig .tc := ⟨.hbm, 504, rfl⟩
abbrev main_v486 : Ref sig .tc := ⟨.hbm, 505, rfl⟩
abbrev main_v487 : Ref sig .tc := ⟨.hbm, 506, rfl⟩
abbrev main_v488 : Ref sig .tc := ⟨.hbm, 507, rfl⟩
abbrev main_v489 : Ref sig .tc := ⟨.hbm, 508, rfl⟩
abbrev main_v490 : Ref sig .tc := ⟨.hbm, 509, rfl⟩
abbrev main_v491 : Ref sig .tc := ⟨.hbm, 510, rfl⟩
abbrev main_v492 : Ref sig .tc := ⟨.hbm, 511, rfl⟩
abbrev main_v493 : Ref sig .tc := ⟨.hbm, 512, rfl⟩
abbrev main_v494 : Ref sig .tc := ⟨.hbm, 513, rfl⟩
abbrev main_v495 : Ref sig .tc := ⟨.hbm, 514, rfl⟩
abbrev main_v496 : Ref sig .tc := ⟨.hbm, 515, rfl⟩
abbrev main_v497 : Ref sig .tc := ⟨.hbm, 516, rfl⟩
abbrev main_v498 : Ref sig .tc := ⟨.hbm, 517, rfl⟩
abbrev main_v499 : Ref sig .tc := ⟨.hbm, 518, rfl⟩
abbrev main_v500 : Ref sig .tc := ⟨.hbm, 519, rfl⟩
abbrev main_v501 : Ref sig .tc := ⟨.hbm, 520, rfl⟩
abbrev main_v502 : Ref sig .tc := ⟨.hbm, 521, rfl⟩
abbrev main_v503 : Ref sig .tc := ⟨.hbm, 522, rfl⟩
abbrev main_v504 : Ref sig .tc := ⟨.hbm, 523, rfl⟩
abbrev main_v505 : Ref sig .tc := ⟨.hbm, 524, rfl⟩
abbrev main_v506 : Ref sig .tc := ⟨.hbm, 525, rfl⟩
abbrev main_v507 : Ref sig .tc := ⟨.hbm, 526, rfl⟩
abbrev main_v508 : Ref sig .tc := ⟨.hbm, 527, rfl⟩
abbrev main_v509 : Ref sig .tc := ⟨.hbm, 528, rfl⟩
abbrev main_v510 : Ref sig .tc := ⟨.hbm, 529, rfl⟩
abbrev main_v511 : Ref sig .tc := ⟨.hbm, 530, rfl⟩
abbrev main_v512 : Ref sig .tc := ⟨.hbm, 531, rfl⟩
abbrev main_v513 : Ref sig .tc := ⟨.hbm, 532, rfl⟩
abbrev main_v514 : Ref sig .tc := ⟨.hbm, 533, rfl⟩
abbrev main_v515 : Ref sig .tc := ⟨.hbm, 534, rfl⟩
abbrev main_v516 : Ref sig .tc := ⟨.hbm, 535, rfl⟩
abbrev main_v517 : Ref sig .tc := ⟨.hbm, 536, rfl⟩
abbrev main_v518 : Ref sig .tc := ⟨.hbm, 537, rfl⟩
abbrev main_v519 : Ref sig .tc := ⟨.hbm, 538, rfl⟩
abbrev main_v520 : Ref sig .tc := ⟨.hbm, 539, rfl⟩
abbrev main_v521 : Ref sig .tc := ⟨.hbm, 540, rfl⟩
abbrev main_v522 : Ref sig .tc := ⟨.hbm, 541, rfl⟩
abbrev main_v523 : Ref sig .tc := ⟨.hbm, 542, rfl⟩
abbrev main_v524 : Ref sig .tc := ⟨.hbm, 543, rfl⟩
abbrev main_v525 : Ref sig .tc := ⟨.hbm, 544, rfl⟩
abbrev main_v526 : Ref sig .tc := ⟨.hbm, 545, rfl⟩
abbrev main_v527 : Ref sig .tc := ⟨.hbm, 546, rfl⟩
abbrev main_v528 : Ref sig .tc := ⟨.hbm, 547, rfl⟩
abbrev main_v529 : Ref sig .tc := ⟨.hbm, 548, rfl⟩
abbrev main_v530 : Ref sig .tc := ⟨.hbm, 549, rfl⟩
abbrev main_v531 : Ref sig .tc := ⟨.hbm, 550, rfl⟩
abbrev main_v532 : Ref sig .tc := ⟨.hbm, 551, rfl⟩
abbrev main_v533 : Ref sig .tc := ⟨.hbm, 552, rfl⟩
abbrev main_v534 : Ref sig .tc := ⟨.hbm, 553, rfl⟩
abbrev main_v535 : Ref sig .tc := ⟨.hbm, 554, rfl⟩
abbrev main_v536 : Ref sig .tc := ⟨.hbm, 555, rfl⟩
abbrev main_v537 : Ref sig .tc := ⟨.hbm, 556, rfl⟩
abbrev main_v538 : Ref sig .tc := ⟨.hbm, 557, rfl⟩
abbrev main_v539 : Ref sig .tc := ⟨.hbm, 558, rfl⟩
abbrev main_v540 : Ref sig .tc := ⟨.hbm, 559, rfl⟩
abbrev main_v541 : Ref sig .tc := ⟨.hbm, 560, rfl⟩
abbrev main_v542 : Ref sig .tc := ⟨.hbm, 561, rfl⟩
abbrev main_v543 : Ref sig .tc := ⟨.hbm, 562, rfl⟩
abbrev main_v544 : Ref sig .tc := ⟨.hbm, 563, rfl⟩
abbrev main_v545 : Ref sig .tc := ⟨.hbm, 564, rfl⟩
abbrev main_v546 : Ref sig .tc := ⟨.hbm, 565, rfl⟩
abbrev main_v547 : Ref sig .tc := ⟨.hbm, 566, rfl⟩
abbrev main_v548 : Ref sig .tc := ⟨.hbm, 567, rfl⟩
abbrev main_v549 : Ref sig .tc := ⟨.hbm, 568, rfl⟩
abbrev main_v550 : Ref sig .tc := ⟨.hbm, 569, rfl⟩
abbrev main_v551 : Ref sig .tc := ⟨.hbm, 570, rfl⟩
abbrev main_v552 : Ref sig .tc := ⟨.hbm, 571, rfl⟩
abbrev main_v553 : Ref sig .tc := ⟨.hbm, 572, rfl⟩
abbrev main_v554 : Ref sig .tc := ⟨.hbm, 573, rfl⟩
abbrev main_v555 : Ref sig .tc := ⟨.hbm, 574, rfl⟩
abbrev main_v556 : Ref sig .tc := ⟨.hbm, 575, rfl⟩
abbrev main_v557 : Ref sig .tc := ⟨.hbm, 576, rfl⟩
abbrev main_v558 : Ref sig .tc := ⟨.hbm, 577, rfl⟩
abbrev main_v559 : Ref sig .tc := ⟨.hbm, 578, rfl⟩
abbrev main_v560 : Ref sig .tc := ⟨.hbm, 579, rfl⟩
abbrev main_v561 : Ref sig .tc := ⟨.hbm, 580, rfl⟩
abbrev main_v562 : Ref sig .tc := ⟨.hbm, 581, rfl⟩
abbrev main_v563 : Ref sig .tc := ⟨.hbm, 582, rfl⟩
abbrev main_v564 : Ref sig .tc := ⟨.hbm, 583, rfl⟩
abbrev main_v565 : Ref sig .tc := ⟨.hbm, 584, rfl⟩
abbrev main_v566 : Ref sig .tc := ⟨.hbm, 585, rfl⟩
abbrev main_v567 : Ref sig .tc := ⟨.hbm, 586, rfl⟩
abbrev main_v568 : Ref sig .tc := ⟨.hbm, 587, rfl⟩
abbrev main_v569 : Ref sig .tc := ⟨.hbm, 588, rfl⟩
abbrev main_v570 : Ref sig .tc := ⟨.hbm, 589, rfl⟩
abbrev main_v571 : Ref sig .tc := ⟨.hbm, 590, rfl⟩
abbrev main_v572 : Ref sig .tc := ⟨.hbm, 591, rfl⟩
abbrev main_v573 : Ref sig .tc := ⟨.hbm, 592, rfl⟩
abbrev main_v574 : Ref sig .tc := ⟨.hbm, 593, rfl⟩
abbrev main_v575 : Ref sig .tc := ⟨.hbm, 594, rfl⟩
abbrev main_v576 : Ref sig .tc := ⟨.hbm, 595, rfl⟩
abbrev main_v577 : Ref sig .tc := ⟨.hbm, 596, rfl⟩
abbrev main_v578 : Ref sig .tc := ⟨.hbm, 597, rfl⟩
abbrev main_v579 : Ref sig .tc := ⟨.hbm, 598, rfl⟩
abbrev main_v580 : Ref sig .tc := ⟨.hbm, 599, rfl⟩
abbrev main_v581 : Ref sig .tc := ⟨.hbm, 600, rfl⟩
abbrev main_v582 : Ref sig .tc := ⟨.hbm, 601, rfl⟩
abbrev main_v583 : Ref sig .tc := ⟨.hbm, 602, rfl⟩
abbrev main_v584 : Ref sig .tc := ⟨.hbm, 603, rfl⟩
abbrev main_v585 : Ref sig .tc := ⟨.hbm, 604, rfl⟩
abbrev main_v586 : Ref sig .tc := ⟨.hbm, 605, rfl⟩
abbrev main_v587 : Ref sig .tc := ⟨.hbm, 606, rfl⟩
abbrev main_v588 : Ref sig .tc := ⟨.hbm, 607, rfl⟩
abbrev main_v589 : Ref sig .tc := ⟨.hbm, 608, rfl⟩
abbrev main_v590 : Ref sig .tc := ⟨.hbm, 609, rfl⟩
abbrev main_v591 : Ref sig .tc := ⟨.hbm, 610, rfl⟩
abbrev main_v592 : Ref sig .tc := ⟨.hbm, 611, rfl⟩
abbrev main_v593 : Ref sig .tc := ⟨.hbm, 612, rfl⟩
abbrev main_v594 : Ref sig .tc := ⟨.hbm, 613, rfl⟩
abbrev main_v595 : Ref sig .tc := ⟨.hbm, 614, rfl⟩
abbrev main_v596 : Ref sig .tc := ⟨.hbm, 615, rfl⟩
abbrev main_v597 : Ref sig .tc := ⟨.hbm, 616, rfl⟩
abbrev main_v598 : Ref sig .tc := ⟨.hbm, 617, rfl⟩
abbrev main_v599 : Ref sig .tc := ⟨.hbm, 618, rfl⟩
abbrev main_v600 : Ref sig .tc := ⟨.hbm, 619, rfl⟩
abbrev main_v601 : Ref sig .tc := ⟨.hbm, 620, rfl⟩
abbrev main_v602 : Ref sig .tc := ⟨.hbm, 621, rfl⟩
abbrev main_v603 : Ref sig .tc := ⟨.hbm, 622, rfl⟩
abbrev main_v604 : Ref sig .tc := ⟨.hbm, 623, rfl⟩
abbrev main_v605 : Ref sig .tc := ⟨.hbm, 624, rfl⟩
abbrev main_v606 : Ref sig .tc := ⟨.hbm, 625, rfl⟩
abbrev main_v607 : Ref sig .tc := ⟨.hbm, 626, rfl⟩
abbrev main_v608 : Ref sig .tc := ⟨.hbm, 627, rfl⟩
abbrev main_v609 : Ref sig .tc := ⟨.hbm, 628, rfl⟩
abbrev main_v610 : Ref sig .tc := ⟨.hbm, 629, rfl⟩
abbrev main_v611 : Ref sig .tc := ⟨.hbm, 630, rfl⟩
abbrev main_v612 : Ref sig .tc := ⟨.hbm, 631, rfl⟩
abbrev main_v613 : Ref sig .tc := ⟨.hbm, 632, rfl⟩
abbrev main_v614 : Ref sig .tc := ⟨.hbm, 633, rfl⟩
abbrev main_v615 : Ref sig .tc := ⟨.hbm, 634, rfl⟩
abbrev main_v616 : Ref sig .tc := ⟨.hbm, 635, rfl⟩
abbrev main_v617 : Ref sig .tc := ⟨.hbm, 636, rfl⟩
abbrev main_v618 : Ref sig .tc := ⟨.hbm, 637, rfl⟩
abbrev main_v619 : Ref sig .tc := ⟨.hbm, 638, rfl⟩
abbrev main_v620 : Ref sig .tc := ⟨.hbm, 639, rfl⟩
abbrev main_v621 : Ref sig .tc := ⟨.hbm, 640, rfl⟩
abbrev main_v622 : Ref sig .tc := ⟨.hbm, 641, rfl⟩
abbrev main_v623 : Ref sig .tc := ⟨.hbm, 642, rfl⟩
abbrev main_v624 : Ref sig .tc := ⟨.hbm, 643, rfl⟩
abbrev main_v625 : Ref sig .tc := ⟨.hbm, 644, rfl⟩
abbrev main_v626 : Ref sig .tc := ⟨.hbm, 645, rfl⟩
abbrev main_v627 : Ref sig .tc := ⟨.hbm, 646, rfl⟩
abbrev main_v628 : Ref sig .tc := ⟨.hbm, 647, rfl⟩
abbrev main_v629 : Ref sig .tc := ⟨.hbm, 648, rfl⟩
abbrev main_v630 : Ref sig .tc := ⟨.hbm, 649, rfl⟩
abbrev main_v631 : Ref sig .tc := ⟨.hbm, 650, rfl⟩
abbrev main_v632 : Ref sig .tc := ⟨.hbm, 651, rfl⟩
abbrev main_v633 : Ref sig .tc := ⟨.hbm, 652, rfl⟩
abbrev main_v634 : Ref sig .tc := ⟨.hbm, 653, rfl⟩
abbrev main_v635 : Ref sig .tc := ⟨.hbm, 654, rfl⟩
abbrev main_v636 : Ref sig .tc := ⟨.hbm, 655, rfl⟩
abbrev main_v637 : Ref sig .tc := ⟨.hbm, 656, rfl⟩
abbrev main_v638 : Ref sig .tc := ⟨.hbm, 657, rfl⟩
abbrev main_v639 : Ref sig .tc := ⟨.hbm, 658, rfl⟩
abbrev main_v640 : Ref sig .tc := ⟨.hbm, 659, rfl⟩
abbrev main_v641 : Ref sig .tc := ⟨.hbm, 660, rfl⟩
abbrev main_v642 : Ref sig .tc := ⟨.hbm, 661, rfl⟩
abbrev main_v643 : Ref sig .tc := ⟨.hbm, 662, rfl⟩
abbrev main_v644 : Ref sig .tc := ⟨.hbm, 663, rfl⟩
abbrev main_v645 : Ref sig .tc := ⟨.hbm, 664, rfl⟩
abbrev main_v646 : Ref sig .tc := ⟨.hbm, 665, rfl⟩
abbrev main_v647 : Ref sig .tc := ⟨.hbm, 666, rfl⟩
abbrev main_v648 : Ref sig .tc := ⟨.hbm, 667, rfl⟩
abbrev main_v649 : Ref sig .tc := ⟨.hbm, 668, rfl⟩
abbrev main_v650 : Ref sig .tc := ⟨.hbm, 669, rfl⟩
abbrev main_v651 : Ref sig .tc := ⟨.hbm, 670, rfl⟩
abbrev main_v652 : Ref sig .tc := ⟨.hbm, 671, rfl⟩
abbrev main_v653 : Ref sig .tc := ⟨.hbm, 672, rfl⟩
abbrev main_v654 : Ref sig .tc := ⟨.hbm, 673, rfl⟩
abbrev main_v655 : Ref sig .tc := ⟨.hbm, 674, rfl⟩
abbrev main_v656 : Ref sig .tc := ⟨.hbm, 675, rfl⟩
abbrev main_v657 : Ref sig .tc := ⟨.hbm, 676, rfl⟩
abbrev main_v658 : Ref sig .tc := ⟨.hbm, 677, rfl⟩
abbrev main_v659 : Ref sig .tc := ⟨.hbm, 678, rfl⟩
abbrev main_v660 : Ref sig .tc := ⟨.hbm, 679, rfl⟩
abbrev main_v661 : Ref sig .tc := ⟨.hbm, 680, rfl⟩
abbrev main_v662 : Ref sig .tc := ⟨.hbm, 681, rfl⟩
abbrev main_v663 : Ref sig .tc := ⟨.hbm, 682, rfl⟩
abbrev main_v664 : Ref sig .tc := ⟨.hbm, 683, rfl⟩
abbrev main_v665 : Ref sig .tc := ⟨.hbm, 684, rfl⟩
abbrev main_v666 : Ref sig .tc := ⟨.hbm, 685, rfl⟩
abbrev main_v667 : Ref sig .tc := ⟨.hbm, 686, rfl⟩
abbrev main_v668 : Ref sig .tc := ⟨.hbm, 687, rfl⟩
abbrev main_v669 : Ref sig .tc := ⟨.hbm, 688, rfl⟩
abbrev main_v670 : Ref sig .tc := ⟨.hbm, 689, rfl⟩
abbrev main_v671 : Ref sig .tc := ⟨.hbm, 690, rfl⟩
abbrev main_v672 : Ref sig .tc := ⟨.hbm, 691, rfl⟩
abbrev main_v673 : Ref sig .tc := ⟨.hbm, 692, rfl⟩
abbrev main_v674 : Ref sig .tc := ⟨.hbm, 693, rfl⟩
abbrev main_v675 : Ref sig .tc := ⟨.hbm, 694, rfl⟩
abbrev main_v676 : Ref sig .tc := ⟨.hbm, 695, rfl⟩
abbrev main_v677 : Ref sig .tc := ⟨.hbm, 696, rfl⟩
abbrev main_v678 : Ref sig .tc := ⟨.hbm, 697, rfl⟩
abbrev main_v679 : Ref sig .tc := ⟨.hbm, 698, rfl⟩
abbrev main_v680 : Ref sig .tc := ⟨.hbm, 699, rfl⟩
abbrev main_v681 : Ref sig .tc := ⟨.hbm, 700, rfl⟩
abbrev main_v682 : Ref sig .tc := ⟨.hbm, 701, rfl⟩
abbrev main_v683 : Ref sig .tc := ⟨.hbm, 702, rfl⟩
abbrev main_v684 : Ref sig .tc := ⟨.hbm, 703, rfl⟩
abbrev main_v685 : Ref sig .tc := ⟨.hbm, 704, rfl⟩
abbrev main_v686 : Ref sig .tc := ⟨.hbm, 705, rfl⟩
abbrev main_v687 : Ref sig .tc := ⟨.hbm, 706, rfl⟩
abbrev main_v688 : Ref sig .tc := ⟨.hbm, 707, rfl⟩
abbrev main_v689 : Ref sig .tc := ⟨.hbm, 708, rfl⟩
abbrev main_v690 : Ref sig .tc := ⟨.hbm, 709, rfl⟩
abbrev main_v691 : Ref sig .tc := ⟨.hbm, 710, rfl⟩
abbrev main_v692 : Ref sig .tc := ⟨.hbm, 711, rfl⟩
abbrev main_v693 : Ref sig .tc := ⟨.hbm, 712, rfl⟩
abbrev main_v694_0 : Ref sig .tc := ⟨.hbm, 713, rfl⟩
abbrev main_v694_1 : Ref sig .tc := ⟨.hbm, 714, rfl⟩
abbrev main_v694_2 : Ref sig .tc := ⟨.hbm, 715, rfl⟩
abbrev main_v694_3 : Ref sig .tc := ⟨.hbm, 716, rfl⟩
abbrev main_v694_4 : Ref sig .tc := ⟨.hbm, 717, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_19 : BitVec 32 := 0#32
  let c8_i32 : BitVec 32 := 8#32
  let v94 : BitVec 32 := Scalar.addi c0_i32_19 c8_i32
  let c1_i32_20 : BitVec 32 := 1#32
  ⟨c0_i32_19, v94, c1_i32_20⟩
def k0_mult1 (k0_t1 : Fin k0_t1_loop.trips) : BitVec 32 :=
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let c256_i32 : BitVec 32 := 256#32
  let v115 : BitVec 32 := Scalar.muli v114 c256_i32
  v115
def k0_off1 (k0_t1 : Fin k0_t1_loop.trips) : Fin 2 → Nat :=
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let c256_i32 : BitVec 32 := 256#32
  let v115 : BitVec 32 := Scalar.muli v114 c256_i32
  let v116 : BitVec 32 := v115
  let v118 : Index := Scalar.indexCast v116
  let c0_42 : Index := 0#32
  ![v118.toNat, 0]
def k0_off2 (k0_t1 : Fin k0_t1_loop.trips) : Fin 3 → Nat :=
  let c0_48 : Index := 0#32
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let c256_i32 : BitVec 32 := 256#32
  let v115 : BitVec 32 := Scalar.muli v114 c256_i32
  let v116 : BitVec 32 := v115
  let v140 : Index := Scalar.indexCast v116
  let c0_49 : Index := 0#32
  ![0, v140.toNat, 0]
def k0_off3 (k0_t1 : Fin k0_t1_loop.trips) (c3_i32_58 : BitVec 32) : Fin 5 → Nat :=
  let c0_59 : Index := 0#32
  let c0_60 : Index := 0#32
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let c4_i32 : BitVec 32 := 4#32
  let v117 : BitVec 32 := Scalar.muli v114 c4_i32
  let v193 : BitVec 32 := Scalar.addi v117 c3_i32_58
  let v194 : Index := Scalar.indexCast v193
  let c0_61 : Index := 0#32
  let c0_62 : Index := 0#32
  ![0, 0, v194.toNat, 0, 0]
def k0_mult2 (k0_t1 : Fin k0_t1_loop.trips) : BitVec 32 :=
  let c15_i32_104 : BitVec 32 := 15#32
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let v360 : BitVec 32 := Scalar.subi c15_i32_104 v114
  let c256_i32_105 : BitVec 32 := 256#32
  let v361 : BitVec 32 := Scalar.muli v360 c256_i32_105
  v361
def k0_off4 (k0_t1 : Fin k0_t1_loop.trips) : Fin 2 → Nat :=
  let c15_i32_104 : BitVec 32 := 15#32
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let v360 : BitVec 32 := Scalar.subi c15_i32_104 v114
  let c256_i32_105 : BitVec 32 := 256#32
  let v361 : BitVec 32 := Scalar.muli v360 c256_i32_105
  let v362 : BitVec 32 := v361
  let v364 : Index := Scalar.indexCast v362
  let c0_107 : Index := 0#32
  ![v364.toNat, 0]
def k0_off5 (k0_t1 : Fin k0_t1_loop.trips) : Fin 3 → Nat :=
  let c1_113 : Index := 1#32
  let c15_i32_104 : BitVec 32 := 15#32
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let v360 : BitVec 32 := Scalar.subi c15_i32_104 v114
  let c256_i32_105 : BitVec 32 := 256#32
  let v361 : BitVec 32 := Scalar.muli v360 c256_i32_105
  let v362 : BitVec 32 := v361
  let v386 : Index := Scalar.indexCast v362
  let c0_114 : Index := 0#32
  ![1, v386.toNat, 0]
def k0_off6 (k0_t1 : Fin k0_t1_loop.trips) (c0_i32_123 : BitVec 32) : Fin 5 → Nat :=
  let c0_124 : Index := 0#32
  let c1_125 : Index := 1#32
  let c15_i32_104 : BitVec 32 := 15#32
  let c15_i32 : BitVec 32 := 15#32
  let c0_i32_19 : BitVec 32 := 0#32
  let c1_i32_20 : BitVec 32 := 1#32
  let arg18 : BitVec 32 := Scf.iv c0_i32_19 c1_i32_20 k0_t1
  let v114 : BitVec 32 := Scalar.subi c15_i32 arg18
  let v360 : BitVec 32 := Scalar.subi c15_i32_104 v114
  let c4_i32_106 : BitVec 32 := 4#32
  let v363 : BitVec 32 := Scalar.muli v360 c4_i32_106
  let v439 : BitVec 32 := Scalar.addi v363 c0_i32_123
  let v440 : Index := Scalar.indexCast v439
  let c0_126 : Index := 0#32
  let c0_127 : Index := 0#32
  ![0, 1, v440.toNat, 0, 0]
@[reducible] def k0_t2_loop : Scf.Loop 32 :=
  let c8_i32_22 : BitVec 32 := 8#32
  let c8_i32_23 : BitVec 32 := 8#32
  let v95 : BitVec 32 := Scalar.addi c8_i32_22 c8_i32_23
  let c1_i32_24 : BitVec 32 := 1#32
  ⟨c8_i32_22, v95, c1_i32_24⟩
def k0_mult3 (k0_t2 : Fin k0_t2_loop.trips) : BitVec 32 :=
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let c256_i32 : BitVec 32 := 256#32
  let v115 : BitVec 32 := Scalar.muli v114 c256_i32
  v115
def k0_off7 (k0_t2 : Fin k0_t2_loop.trips) : Fin 2 → Nat :=
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let c256_i32 : BitVec 32 := 256#32
  let v115 : BitVec 32 := Scalar.muli v114 c256_i32
  let v116 : BitVec 32 := v115
  let v118 : Index := Scalar.indexCast v116
  let c0_42 : Index := 0#32
  ![v118.toNat, 0]
def k0_off8 (k0_t2 : Fin k0_t2_loop.trips) : Fin 3 → Nat :=
  let c0_48 : Index := 0#32
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let c256_i32 : BitVec 32 := 256#32
  let v115 : BitVec 32 := Scalar.muli v114 c256_i32
  let v116 : BitVec 32 := v115
  let v140 : Index := Scalar.indexCast v116
  let c0_49 : Index := 0#32
  ![0, v140.toNat, 0]
def k0_off9 (k0_t2 : Fin k0_t2_loop.trips) (c3_i32_58 : BitVec 32) : Fin 5 → Nat :=
  let c0_59 : Index := 0#32
  let c0_60 : Index := 0#32
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let c4_i32 : BitVec 32 := 4#32
  let v117 : BitVec 32 := Scalar.muli v114 c4_i32
  let v193 : BitVec 32 := Scalar.addi v117 c3_i32_58
  let v194 : Index := Scalar.indexCast v193
  let c0_61 : Index := 0#32
  let c0_62 : Index := 0#32
  ![0, 0, v194.toNat, 0, 0]
def k0_mult4 (k0_t2 : Fin k0_t2_loop.trips) : BitVec 32 :=
  let c15_i32_106 : BitVec 32 := 15#32
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let v364 : BitVec 32 := Scalar.subi c15_i32_106 v114
  let c256_i32_107 : BitVec 32 := 256#32
  let v365 : BitVec 32 := Scalar.muli v364 c256_i32_107
  v365
def k0_off10 (k0_t2 : Fin k0_t2_loop.trips) : Fin 2 → Nat :=
  let c15_i32_106 : BitVec 32 := 15#32
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let v364 : BitVec 32 := Scalar.subi c15_i32_106 v114
  let c256_i32_107 : BitVec 32 := 256#32
  let v365 : BitVec 32 := Scalar.muli v364 c256_i32_107
  let v366 : BitVec 32 := v365
  let v368 : Index := Scalar.indexCast v366
  let c0_109 : Index := 0#32
  ![v368.toNat, 0]
def k0_off11 (k0_t2 : Fin k0_t2_loop.trips) : Fin 3 → Nat :=
  let c1_115 : Index := 1#32
  let c15_i32_106 : BitVec 32 := 15#32
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let v364 : BitVec 32 := Scalar.subi c15_i32_106 v114
  let c256_i32_107 : BitVec 32 := 256#32
  let v365 : BitVec 32 := Scalar.muli v364 c256_i32_107
  let v366 : BitVec 32 := v365
  let v390 : Index := Scalar.indexCast v366
  let c0_116 : Index := 0#32
  ![1, v390.toNat, 0]
def k0_off12 (k0_t2 : Fin k0_t2_loop.trips) (c0_i32_125 : BitVec 32) : Fin 5 → Nat :=
  let c0_126 : Index := 0#32
  let c1_127 : Index := 1#32
  let c15_i32_106 : BitVec 32 := 15#32
  let c15_i32 : BitVec 32 := 15#32
  let c8_i32_22 : BitVec 32 := 8#32
  let c1_i32_24 : BitVec 32 := 1#32
  let arg18 : BitVec 32 := Scf.iv c8_i32_22 c1_i32_24 k0_t2
  let v114 : BitVec 32 := Scalar.subi c15_i32 arg18
  let v364 : BitVec 32 := Scalar.subi c15_i32_106 v114
  let c4_i32_108 : BitVec 32 := 4#32
  let v367 : BitVec 32 := Scalar.muli v364 c4_i32_108
  let v443 : BitVec 32 := Scalar.addi v367 c0_i32_125
  let v444 : Index := Scalar.indexCast v443
  let c0_128 : Index := 0#32
  let c0_129 : Index := 0#32
  ![0, 1, v444.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2x64x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FwdIn.lean ====
abbrev S4096x1024 : Shape := ⟨2, ![4096, 1024]⟩
abbrev S1x1024 : Shape := ⟨2, ![1, 1024]⟩
abbrev S1024x3136 : Shape := ⟨2, ![1024, 3136]⟩
abbrev S1024x2560 : Shape := ⟨2, ![1024, 2560]⟩
abbrev S1024x576 : Shape := ⟨2, ![1024, 576]⟩
abbrev S_ : Shape := ⟨0, ![]⟩
abbrev S1024x64 : Shape := ⟨2, ![1024, 64]⟩
abbrev S1024x3200 : Shape := ⟨2, ![1024, 3200]⟩
abbrev S3200x1024 : Shape := ⟨2, ![3200, 1024]⟩
abbrev S4096x3200 : Shape := ⟨2, ![4096, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3136, .bf16⟩
  | .hbm, ⟨3, _⟩ => ⟨S1024x2560, .bf16⟩
  | .hbm, ⟨4, _⟩ => ⟨S1024x576, .bf16⟩
  | .hbm, ⟨5, _⟩ => ⟨S_, .bf16⟩
  | .hbm, ⟨6, _⟩ => ⟨S1024x64, .bf16⟩
  | .hbm, ⟨7, _⟩ => ⟨S1024x3200, .bf16⟩
  | .hbm, ⟨8, _⟩ => ⟨S3200x1024, .bf16⟩
  | .hbm, ⟨9, _⟩ => ⟨S4096x1024, .bf16⟩
  | .hbm, ⟨10, _⟩ => ⟨S4096x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3200x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3200, .f32⟩
  | .local _ .vmem, ⟨7, _⟩ => ⟨S512x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRefIdeal.lean ====
abbrev S4096x1024 : Shape := ⟨2, ![4096, 1024]⟩
abbrev S1x1024 : Shape := ⟨2, ![1, 1024]⟩
abbrev S1024x3136 : Shape := ⟨2, ![1024, 3136]⟩
abbrev S_ : Shape := ⟨0, ![]⟩
abbrev S4096 : Shape := ⟨1, ![4096]⟩
abbrev S4096x1 : Shape := ⟨2, ![4096, 1]⟩
abbrev S4096x3136 : Shape := ⟨2, ![4096, 3136]⟩
abbrev S4096x576 : Shape := ⟨2, ![4096, 576]⟩
abbrev S4096x2560 : Shape := ⟨2, ![4096, 2560]⟩
abbrev S4096x3200 : Shape := ⟨2, ![4096, 3200]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3136, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3136, .f32⟩
  | .hbm, ⟨19, _⟩ => ⟨S4096x3136, .f32⟩
  | .hbm, ⟨20, _⟩ => ⟨S4096x576, .f32⟩
  | .hbm, ⟨21, _⟩ => ⟨S4096x2560, .f32⟩
  | .hbm, ⟨22, _⟩ => ⟨S4096x1024, .bf16⟩
  | .hbm, ⟨23, _⟩ => ⟨S4096x3136, .f32⟩
  | .hbm, ⟨24, _⟩ => ⟨S_, .i32⟩
  | .hbm, ⟨25, _⟩ => ⟨S_, .f32⟩
  | .hbm, ⟨26, _⟩ => ⟨S4096x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FwdMix.lean ====
abbrev S4096x512 : Shape := ⟨2, ![4096, 512]⟩
abbrev S4096x3136 : Shape := ⟨2, ![4096, 3136]⟩
abbrev S1x512 : Shape := ⟨2, ![1, 512]⟩
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S4096x2560 : Shape := ⟨2, ![4096, 2560]⟩
abbrev S4096x576 : Shape := ⟨2, ![4096, 576]⟩
abbrev S_ : Shape := ⟨0, ![]⟩
abbrev S4096x64 : Shape := ⟨2, ![4096, 64]⟩
abbrev S4096x3200 : Shape := ⟨2, ![4096, 3200]⟩
abbrev S4096x2816 : Shape := ⟨2, ![4096, 2816]⟩
abbrev S512x512 : Shape := ⟨2, ![512, 512]⟩
abbrev S512x1024 : Shape := ⟨2, ![512, 1024]⟩
abbrev S512x2816 : Shape := ⟨2, ![512, 2816]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 22
  | .vmem => 24
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x3136, .f32⟩
  | .hbm, ⟨3, _⟩ => ⟨S1x512, .f32⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S4096x2560, .f32⟩
  | .hbm, ⟨11, _⟩ => ⟨S4096x576, .f32⟩
  | .hbm, ⟨12, _⟩ => ⟨S_, .f32⟩
  | .hbm, ⟨13, _⟩ => ⟨S4096x64, .f32⟩
  | .hbm, ⟨14, _⟩ => ⟨S4096x3200, .f32⟩
  | .hbm, ⟨15, _⟩ => ⟨S2816x1024, .bf16⟩
  | .hbm, ⟨16, _⟩ => ⟨S2816x1024, .bf16⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x2816, .bf16⟩
  | .hbm, ⟨21, _⟩ => ⟨S4096x2816, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1x1024, .f32⟩
  | .local _ .vmem, ⟨11, _⟩ => ⟨S2816x1024, .bf16⟩
  | .local _ .vmem, ⟨12, _⟩ => ⟨S2816x1024, .bf16⟩
  | .local _ .vmem, ⟨13, _⟩ => ⟨S2816x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixRefIdeal.lean ====
abbrev S4096x512 : Shape := ⟨2, ![4096, 512]⟩
abbrev S4096x3136 : Shape := ⟨2, ![4096, 3136]⟩
abbrev S1x512 : Shape := ⟨2, ![1, 512]⟩
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S4096x4x128 : Shape := ⟨3, ![4096, 4, 128]⟩
abbrev S4x128 : Shape := ⟨2, ![4, 128]⟩
abbrev S_ : Shape := ⟨0, ![]⟩
abbrev S4096x4 : Shape := ⟨2, ![4096, 4]⟩
abbrev S4096x4x1 : Shape := ⟨3, ![4096, 4, 1]⟩
abbrev S1x4x128 : Shape := ⟨3, ![1, 4, 128]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x3136, .f32⟩
  | .hbm, ⟨3, _⟩ => ⟨S1x512, .f32⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S4096x512, .f32⟩
  | .hbm, ⟨11, _⟩ => ⟨S4096x512, .f32⟩
  | .hbm, ⟨12, _⟩ => ⟨S4096x4x128, .f32⟩
  | .hbm, ⟨13, _⟩ => ⟨S4x128, .f32⟩
  | .hbm, ⟨14, _⟩ => ⟨S4096x4x128, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S4096x4x128, .f32⟩
  | .hbm, ⟨26, _⟩ => ⟨S4096x4x128, .f32⟩
  | .hbm, ⟨27, _⟩ => ⟨S1x4x128, .f32⟩
  | .hbm, ⟨28, _⟩ => ⟨S4096x4x128, .f32⟩
  | .hbm, ⟨29, _⟩ => ⟨S4096x4x128, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x1024, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1024x2816, .f32⟩
  | .hbm, ⟨61, _⟩ => ⟨S4096x2816, .f32⟩
  | .hbm, ⟨62, _⟩ => ⟨S1024x2816, .f32⟩
  | .hbm, ⟨63, _⟩ => ⟨S4096x2816, .f32⟩
  | .hbm, ⟨64, _⟩ => ⟨S2816x1024, .f32⟩
  | .hbm, ⟨65, _⟩ => ⟨S4096x2816, .f32⟩
  | .hbm, ⟨66, _⟩ => ⟨S4096x2816, .f32⟩
  | .hbm, ⟨67, _⟩ => ⟨S_, .f32⟩
  | .hbm, ⟨68, _⟩ => ⟨S4096x2816, .f32⟩
  | .hbm, ⟨69, _⟩ => ⟨S4096x2816, .f32⟩
  | .hbm, ⟨70, _⟩ => ⟨S_, .f32⟩
  | .hbm, ⟨71, _⟩ => ⟨S4096x2816, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S4096x2816, .bf16⟩
  | .hbm, ⟨79, _⟩ => ⟨S4096x2816, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]
-- ==== FwdMla.lean ====
abbrev S4096x3136 : Shape := ⟨2, ![4096, 3136]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S256x4x192 : Shape := ⟨3, ![256, 4, 192]⟩
abbrev S256x4x256 : Shape := ⟨3, ![256, 4, 256]⟩
abbrev S4096x2560 : Shape := ⟨2, ![4096, 2560]⟩
abbrev S4096x576 : Shape := ⟨2, ![4096, 576]⟩
abbrev S4096x64 : Shape := ⟨2, ![4096, 64]⟩
abbrev S4096x3200 : Shape := ⟨2, ![4096, 3200]⟩
abbrev S4x4096x256 : Shape := ⟨3, ![4, 4096, 256]⟩
abbrev S4x4096x128 : Shape := ⟨3, ![4, 4096, 128]⟩
abbrev S512x256 : Shape := ⟨2, ![512, 256]⟩
abbrev S512x128 : Shape := ⟨2, ![512, 128]⟩
abbrev S4x512x256 : Shape := ⟨3, ![4, 512, 256]⟩
abbrev S4x512x128 : Shape := ⟨3, ![4, 512, 128]⟩
abbrev S512 : Shape := ⟨1, ![512]⟩
abbrev S512x1 : Shape := ⟨2, ![512, 1]⟩
abbrev S512x1024 : Shape := ⟨2, ![512, 1024]⟩
abbrev S1x512x128 : Shape := ⟨3, ![1, 512, 128]⟩
abbrev S1x128 : Shape := ⟨2, ![1, 128]⟩

abbrev nBuf : Space → Nat
  | .hbm => 55
  | .vmem => 24
  | .smem => 0
  | _ => 0

abbrev bufTy : (tb : Table) → Fin (tcTables nBuf tb) → BufTy
  | .hbm, ⟨0, _⟩ => ⟨S4096x3136, .f32⟩
  | .hbm, ⟨1, _⟩ => ⟨S4096, .i32⟩
  | .hbm, ⟨2, _⟩ => ⟨S1x256, .f32⟩
  | .hbm, ⟨3, _⟩ => ⟨S1x256, .f32⟩
  | .hbm, ⟨4, _⟩ => ⟨S256x768, .bf16⟩
  | .hbm, ⟨5, _⟩ => ⟨S256x1024, .bf16⟩
  | .hbm, ⟨6, _⟩ => ⟨S1x192, .f32⟩
  | .hbm, ⟨7, _⟩ => ⟨S1x192, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S_, .f32⟩
  | .hbm, ⟨31, _⟩ => ⟨S4096x32, .f32⟩
  | .hbm, ⟨32, _⟩ => ⟨S4096x128, .f32⟩
  | .hbm, ⟨33, _⟩ => ⟨S4096x128, .f32⟩
  | .hbm, ⟨34, _⟩ => ⟨S4096x32, .f32⟩
  | .hbm, ⟨35, _⟩ => ⟨S4096x128, .f32⟩
  | .hbm, ⟨36, _⟩ => ⟨S256x4x192, .bf16⟩
  | .hbm, ⟨37, _⟩ => ⟨S_, .i32⟩
  | .hbm, ⟨38, _⟩ => ⟨S_, .bf16⟩
  | .hbm, ⟨39, _⟩ => ⟨S256x4x256, .bf16⟩
  | .hbm, ⟨40, _⟩ => ⟨S256x1024, .bf16⟩
  | .hbm, ⟨41, _⟩ => ⟨S4096x2560, .f32⟩
  | .hbm, ⟨42, _⟩ => ⟨S4096x576, .f32⟩
  | .hbm, ⟨43, _⟩ => ⟨S_, .f32⟩
  | .hbm, ⟨44, _⟩ => ⟨S4096x64, .f32⟩
  | .hbm, ⟨45, _⟩ => ⟨S4096x3200, .f32⟩
  | .hbm, ⟨46, _⟩ => ⟨S_, .i32⟩
  | .hbm, ⟨47, _⟩ => ⟨S_, .f32⟩
  | .hbm, ⟨48, _⟩ => ⟨S1x256, .f32⟩
  | .hbm, ⟨49, _⟩ => ⟨S_, .i32⟩
  | .hbm, ⟨50, _⟩ => ⟨S_, .f32⟩
  | .hbm, ⟨51, _⟩ => ⟨S1x256, .f32⟩
  | .hbm, ⟨52, _⟩ => ⟨S4x4096x256, .bf16⟩
  | .hbm, ⟨53, _⟩ => ⟨S4x4096x256, .bf16⟩
  | .hbm, ⟨54, _⟩ => ⟨S4x4096x128, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x256, .f32⟩
  | .local _ .vmem, ⟨13, _⟩ => ⟨S1x256, .f32⟩
  | .local _ .vmem, ⟨14, _⟩ => ⟨S256x1024, .bf16⟩
  | .local _ .vmem, ⟨15, _⟩ => ⟨S256x1024, .bf16⟩
  | .local _ .vmem, ⟨16, _⟩ => ⟨S1x256, .f32⟩
  | .local _ .vmem, ⟨17, _⟩ => ⟨S1x256, .f32⟩
  | .local _ .vmem, ⟨18, _⟩ => ⟨S4x512x256, .bf16⟩
  | .local _ .vmem, ⟨19, _⟩ => ⟨S4x512x256, .bf16⟩
  | .local _ .vmem, ⟨20, _⟩ => ⟨S4x512x256, .bf16⟩
  | .local _ .vmem, ⟨21, _⟩ => ⟨S4x512x256, .bf16⟩
  | .local _ .vmem, ⟨22, _⟩ => ⟨S4x512x128, .bf16⟩
  | .local _ .vmem, ⟨23, _⟩ => ⟨S4x512x128, .bf16⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_call1_v0 : Ref sig .tc := ⟨.hbm, 47, rfl⟩
abbrev main_v30 : Ref sig .tc := ⟨.hbm, 48, rfl⟩
abbrev main_c_6 : Ref sig .tc := ⟨.hbm, 49, rfl⟩
abbrev main_call2_v0 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v32_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FwdMlaIdeal.lean ====
variable {F : FTy → Type} [FloatOps F] [Named F]
def κ : String → Option EReal := fun
  | "over_qk_head" => some ((192⁻¹ : ℝ) : EReal)
  | _ => none
-- ==== MlaRefIdeal.lean ====
abbrev S4096x3136 : Shape := ⟨2, ![4096, 3136]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x256 : Shape := ⟨2, ![4096, 256]⟩
abbrev S4096x64 : Shape := ⟨2, ![4096, 64]⟩
abbrev S4096x768 : Shape := ⟨2, ![4096, 768]⟩
abbrev S4096x4x192 : Shape := ⟨3, ![4096, 4, 192]⟩
abbrev S4096x1024 : Shape := ⟨2, ![4096, 1024]⟩
abbrev S4096x4x256 : Shape := ⟨3, ![4096, 4, 256]⟩
abbrev S4096x4x128 : Shape := ⟨3, ![4096, 4, 128]⟩
abbrev S4096x1x64 : Shape := ⟨3, ![4096, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S1x1x192 : Shape := ⟨3, ![1, 1, 192]⟩
abbrev S4096x4x32 : Shape := ⟨3, ![4096, 4, 32]⟩
abbrev S4x4096x256 : Shape := ⟨3, ![4, 4096, 256]⟩
abbrev S4x4096x128 : Shape := ⟨3, ![4, 4096, 128]⟩

abbrev nBuf : Space → Nat
  | .hbm => 152
  | .vmem => 0
  | .smem => 0
  | _ => 0

abbrev hbmTy0_0 (i : Nat) : BufTy := match i % 128 with
  | 0 => ⟨S4096x3136, .f32⟩
  | 1 => ⟨S4096, .i32⟩
  | 2 => ⟨S1x256, .f32⟩
  | 3 => ⟨S1x256, .f32⟩
  | 4 => ⟨S256x768, .bf16⟩
  | 5 => ⟨S256x1024, .bf16⟩
  | 6 => ⟨S1x192, .f32⟩
  | 7 => ⟨S1x192, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096x32, .f32⟩
  | 29 => ⟨S4096x32, .f32⟩
  | 30 => ⟨S4096x1x32, .f32⟩
  | 31 => ⟨S4096x1x32, .f32⟩
  | 32 => ⟨S4096x256, .f32⟩
  | 33 => ⟨S4096x256, .f32⟩
  | 34 => ⟨S4096x64, .f32⟩
  | 35 => ⟨S256x768, .f32⟩
  | 36 => ⟨S256x1024, .f32⟩
  | 37 => ⟨S4096x256, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1, .f32⟩
  | 48 => ⟨S4096x256, .f32⟩
  | 49 => ⟨S4096x256, .f32⟩
  | 50 => ⟨S4096x256, .f32⟩
  | 51 => ⟨S4096x256, .f32⟩
  | 52 => ⟨S4096x768, .f32⟩
  | 53 => ⟨S4096x4x192, .f32⟩
  | 54 => ⟨S4096x256, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x256, .f32⟩
  | 66 => ⟨S4096x256, .f32⟩
  | 67 => ⟨S4096x256, .f32⟩
  | 68 => ⟨S4096x256, .f32⟩
  | 69 => ⟨S4096x1024, .f32⟩
  | 70 => ⟨S4096x4x256, .f32⟩
  | 71 => ⟨S4096x4x128, .f32⟩
  | 72 => ⟨S4096x4x128, .f32⟩
  | 73 => ⟨S4096x1x64, .f32⟩
  | 74 => ⟨S4096x4x64, .f32⟩
  | 75 => ⟨S4096x4x192, .f32⟩
  | 76 => ⟨S4096x4x192, .f32⟩
  | 77 => ⟨S_, .f32⟩
  | 78 => ⟨S4096x4, .f32⟩
  | 79 => ⟨S4096x4x1, .f32⟩
  | 80 => ⟨S_, .f32⟩
  | 81 => ⟨S4096x4x1, .f32⟩
  | 82 => ⟨S4096x4x1, .f32⟩
  | 83 => ⟨S_, .f32⟩
  | 84 => ⟨S4096x4x1, .f32⟩
  | 85 => ⟨S4096x4x1, .f32⟩
  | 86 => ⟨S4096x4x1, .f32⟩
  | 87 => ⟨S4096x4x192, .f32⟩
  | 88 => ⟨S4096x4x192, .f32⟩
  | 89 => ⟨S1x1x192, .f32⟩
  | 90 => ⟨S4096x4x192, .f32⟩
  | 91 => ⟨S4096x4x192, .f32⟩
  | 92 => ⟨S4096x4x192, .f32⟩
  | 93 => ⟨S_, .f32⟩
  | 94 => ⟨S4096x4, .f32⟩
  | 95 => ⟨S4096x4x1, .f32⟩
  | 96 => ⟨S_, .f32⟩
  | 97 => ⟨S4096x4x1, .f32⟩
  | 98 => ⟨S4096x4x1, .f32⟩
  | 99 => ⟨S_, .f32⟩
  | 100 => ⟨S4096x4x1, .f32⟩
  | 101 => ⟨S4096x4x1, .f32⟩
  | 102 => ⟨S4096x4x1, .f32⟩
  | 103 => ⟨S4096x4x192, .f32⟩
  | 104 => ⟨S4096x4x192, .f32⟩
  | 105 => ⟨S1x1x192, .f32⟩
  | 106 => ⟨S4096x4x192, .f32⟩
  | 107 => ⟨S4096x4x192, .f32⟩
  | 108 => ⟨S4096x4x128, .f32⟩
  | 109 => ⟨S4096x4x64, .f32⟩
  | 110 => ⟨S4096x4x32, .f32⟩
  | 111 => ⟨S4096x4x32, .f32⟩
  | 112 => ⟨S4096x4x32, .f32⟩
  | 113 => ⟨S4096x4x32, .f32⟩
  | 114 => ⟨S4096x4x32, .f32⟩
  | 115 => ⟨S4096x4x32, .f32⟩
  | 116 => ⟨S4096x4x32, .f32⟩
  | 117 => ⟨S4096x4x32, .f32⟩
  | 118 => ⟨S4096x4x32, .f32⟩
  | 119 => ⟨S4096x4x32, .f32⟩
  | 120 => ⟨S4096x4x32, .f32⟩
  | 121 => ⟨S4096x4x32, .f32⟩
  | 122 => ⟨S4096x4x64, .f32⟩
  | 123 => ⟨S4096x4x192, .f32⟩
  | 124 => ⟨S4096x4x128, .f32⟩
  | 125 => ⟨S4096x4x64, .f32⟩
  | 126 => ⟨S4096x4x32, .f32⟩
  | 127 => ⟨S4096x4x32, .f32⟩
  | _ => ⟨S4096x3136, .f32⟩

abbrev hbmTy0_1 (i : Nat) : BufTy := match i % 128 with
  | 0 => ⟨S4096x4x32, .f32⟩
  | 1 => ⟨S4096x4x32, .f32⟩
  | 2 => ⟨S4096x4x32, .f32⟩
  | 3 => ⟨S4096x4x32, .f32⟩
  | 4 => ⟨S4096x4x32, .f32⟩
  | 5 => ⟨S4096x4x32, .f32⟩
  | 6 => ⟨S4096x4x32, .f32⟩
  | 7 => ⟨S4096x4x32, .f32⟩
  | 8 => ⟨S4096x4x32, .f32⟩
  | 9 => ⟨S4096x4x32, .f32⟩
  | 10 => ⟨S4096x4x64, .f32⟩
  | 11 => ⟨S4096x4x192, .f32⟩
  | 12 => ⟨S_, .i32⟩
  | 13 => ⟨S_, .f32⟩
  | 14 => ⟨S4096x4x256, .f32⟩
  | 15 => ⟨S4x4096x256, .f32⟩
  | 16 => ⟨S4x4096x256, .bf16⟩
  | 17 => ⟨S_, .i32⟩
  | 18 => ⟨S_, .f32⟩
  | 19 => ⟨S4096x4x256, .f32⟩
  | 20 => ⟨S4x4096x256, .f32⟩
  | 21 => ⟨S4x4096x256, .bf16⟩
  | 22 => ⟨S4x4096x128, .f32⟩
  | 23 => ⟨S4x4096x128, .bf16⟩
  | _ => ⟨S4096x3136, .f32⟩

abbrev hbmTy (i : Nat) : BufTy := match i / 128 with
  | 0 => hbmTy0_0 i
  | 1 => hbmTy0_1 i
  | _ => ⟨S4096x3136, .f32⟩

abbrev bufTy : (tb : Table) → Fin (tcTables nBuf tb) → BufTy
  | .hbm, ⟨i, _⟩ => hbmTy i
  | _, _ => ⟨S4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_c : Ref sig .tc := ⟨.hbm, 140, rfl⟩
abbrev main_call0_v0 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_c_15 : Ref sig .tc := ⟨.hbm, 145, rfl⟩
abbrev main_call1_v0 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩

abbrev nD : Nat := 1
abbrev τ : Topo := Topo.v7x

variable {F : FTy → Type} [FloatOps F]
-- ==== Proof.Whole.lean ====
/- Reads and writes of a whole block, at the ranks the calls use: a load through the full rectangle is the block, a store
   through it leaves its payload, a load of what such a store left is the payload. -/
module

public import Idealize.ShloMosaic.Lib.Pipeline.Value
public import Idealize.ShloMosaic.Lib.Pipeline.ReadBack

@[expose] public section

noncomputable section

open Idealize.ShloMosaic

namespace Cert.Whole

variable {Val : EltTy → Type} {e : EltTy}

/-- Zero offsets of rank two. -/
theorem hz2 : (![0, 0] : Fin 2 → Nat) = fun _ => 0 := funext fun a => by fin_cases a <;> rfl

/-- Zero offsets of rank three. -/
theorem hz3 : (![0, 0, 0] : Fin 3 → Nat) = fun _ => 0 := funext fun a => by fin_cases a <;> rfl

/-- A load of a whole rank-two block is the block. -/
theorem ld2 {a b : Nat} (inb : ∀ i, (![0, 0] : Fin 2 → Nat) i + (![a, b] : Fin 2 → Nat) i ≤ (⟨2, ![a, b]⟩ : Shape).size i)
    (X : (⟨2, ![a, b]⟩ : Shape).Idx → Val e) :
    View.ld X (Rect.unit (s := ⟨2, ![a, b]⟩) ![0, 0] ![a, b] inb) = X :=
  View.ld_unit_zero (S := ⟨2, ![a, b]⟩) hz2 inb X

/-- A load of a whole rank-three block is the block. -/
theorem ld3 {a b d : Nat} (inb : ∀ i, (![0, 0, 0] : Fin 3 → Nat) i + (![a, b, d] : Fin 3 → Nat) i ≤ (⟨3, ![a, b, d]⟩ : Shape).size i)
    (X : (⟨3, ![a, b, d]⟩ : Shape).Idx → Val e) :
    View.ld X (Rect.unit (s := ⟨3, ![a, b, d]⟩) ![0, 0, 0] ![a, b, d] inb) = X :=
  View.ld_unit_zero (S := ⟨3, ![a, b, d]⟩) hz3 inb X

/-- A last store over a whole rank-two block leaves its payload. -/
theorem canon2 [∀ e, Nonempty (Val e)] {a b : Nat}
    (inb : ∀ i, (![0, 0] : Fin 2 → Nat) i + (![a, b] : Fin 2 → Nat) i ≤ (⟨2, ![a, b]⟩ : Shape).size i)
    (w : (⟨2, ![a, b]⟩ : Shape).Idx → Val e) (L : List (View.Piece Val ⟨2, ![a, b]⟩ e)) :
    View.canon ((⟨Rect.unit (s := ⟨2, ![a, b]⟩) ![0, 0] ![a, b] inb, w⟩ : View.Piece Val ⟨2, ![a, b]⟩ e) :: L) = w :=
  View.canon_cons_unit_zero (S := ⟨2, ![a, b]⟩) hz2 inb w L

/-- A last store over a whole rank-three block leaves its payload. -/
theorem canon3 [∀ e, Nonempty (Val e)] {a b d : Nat}
    (inb : ∀ i, (![0, 0, 0] : Fin 3 → Nat) i + (![a, b, d] : Fin 3 → Nat) i ≤ (⟨3, ![a, b, d]⟩ : Shape).size i)
    (w : (⟨3, ![a, b, d]⟩ : Shape).Idx → Val e) (L : List (View.Piece Val ⟨3, ![a, b, d]⟩ e)) :
    View.canon ((⟨Rect.unit (s := ⟨3, ![a, b, d]⟩) ![0, 0, 0] ![a, b, d] inb, w⟩ : View.Piece Val ⟨3, ![a, b, d]⟩ e) :: L) = w :=
  View.canon_cons_unit_zero (S := ⟨3, ![a, b, d]⟩) hz3 inb w L

/-- A load of a whole rank-two block after a store of it reads the payload. -/
theorem cov2 [∀ e, Nonempty (Val e)] {sig : RefSig} {κ : Kind} {sp : Space} {a b : Nat} (v : View sig κ sp ⟨2, ![a, b]⟩ e)
    (inb : ∀ i, (![0, 0] : Fin 2 → Nat) i + (![a, b] : Fin 2 → Nat) i ≤ (⟨2, ![a, b]⟩ : Shape).size i)
    (w : (⟨2, ![a, b]⟩ : Shape).Idx → Val e) (L : List (View.Piece Val ⟨2, ![a, b]⟩ e)) :
    v.readCov ((⟨Rect.unit (s := ⟨2, ![a, b]⟩) ![0, 0] ![a, b] inb, w⟩ : View.Piece Val ⟨2, ![a, b]⟩ e) :: L)
      (Rect.unit (s := ⟨2, ![a, b]⟩) ![0, 0] ![a, b] inb).toLoadRect = w := by
  rw [View.readCov_eq_canon_ld _ _ _ (fun y => ⟨_, List.mem_cons_self .., by
    show y ∈ (Rect.unit (s := (⟨2, ![a, b]⟩ : Shape)) ![0, 0] (⟨2, ![a, b]⟩ : Shape).size inb).set
    rw [Rect.mem_set_unit]
    intro i
    have h := (y i).isLt
    rw [hz2]
    exact ⟨Nat.zero_le _, by simpa using h⟩⟩), canon2, ld2]

/-- A load of a whole rank-three block after a store of it reads the payload. -/
theorem cov3 [∀ e, Nonempty (Val e)] {sig : RefSig} {κ : Kind} {sp : Space} {a b d : Nat} (v : View sig κ sp ⟨3, ![a, b, d]⟩ e)
    (inb : ∀ i, (![0, 0, 0] : Fin 3 → Nat) i + (![a, b, d] : Fin 3 → Nat) i ≤ (⟨3, ![a, b, d]⟩ : Shape).size i)
    (w : (⟨3, ![a, b, d]⟩ : Shape).Idx → Val e) (L : List (View.Piece Val ⟨3, ![a, b, d]⟩ e)) :
    v.readCov ((⟨Rect.unit (s := ⟨3, ![a, b, d]⟩) ![0, 0, 0] ![a, b, d] inb, w⟩ : View.Piece Val ⟨3, ![a, b, d]⟩ e) :: L)
      (Rect.unit (s := ⟨3, ![a, b, d]⟩) ![0, 0, 0] ![a, b, d] inb).toLoadRect = w := by
  rw [View.readCov_eq_canon_ld _ _ _ (fun y => ⟨_, List.mem_cons_self .., by
    show y ∈ (Rect.unit (s := (⟨3, ![a, b, d]⟩ : Shape)) ![0, 0, 0] (⟨3, ![a, b, d]⟩ : Shape).size inb).set
    rw [Rect.mem_set_unit]
    intro i
    have h := (y i).isLt
    rw [hz3]
    exact ⟨Nat.zero_le _, by simpa using h⟩⟩), canon3, ld3]

end Cert.Whole

end
-- ==== Proof.FfnHidden.Block.lean ====
/- What one grid point of the hidden-layer backward call leaves in its outputs and in its accumulator, as the named
   payloads of the blocks it read. -/
module

public import proofs.«01_k».proof.Proof.Gen.FfnHiddenIdeal.Value
public import proofs.«01_k».proof.Proof.Whole
public import Idealize.ShloMosaic.Lib.Tactic

@[expose] public section

set_option maxRecDepth 16384

noncomputable section

open Idealize.ShloMosaic Idealize.ShloMosaic.TcCoe Idealize.SL.Sem

namespace Cert.FfnHiddenIdeal.Block

open Cert.FfnHiddenIdeal Cert.FfnHiddenIdeal.Gen Cert.FfnHiddenIdeal.Value Cert.Whole

variable {F : FTy → Type} [FloatOps F]
variable (m : (ℓ : Loc nD τ sig) → Buf (Elt F) ℓ) (c : Dev nD)

/-- The gate gradient's block after a point. -/
theorem st4 (t : Fin cfg0.N) (acc : Vec F S512x1408 .bf16 × Vec F S512x1408 .bf16 × Vec F S1408x1024 .bf16 × Vec F S1408x1024 .f32) :
    (stAt0 m c t.val t.isLt acc).1 = k0_pay10 (iblk m c 1 t) (iblk m c 2 t) (iblk m c 0 t) (iblk m c 3 t) := by
  by_cases h0 : t.val % 8 = 0
  · have h1 : ¬t.val % 8 = 7 := by omega
    rw [stAt0_A m c t acc h0 h1]
    dsimp only
    unfold out0_A_4
    rw [View.read_writes_eq_canon (h := fun y => cover0_A_4 ..)]
    unfold kernelRun0_A
    dsimp only
    sl_unfold_words
    simp only [canon2, cov2, View.readAt_eq_ld, ld2, Memref.IsWhole.read_unread, read_unread_whole]
  by_cases h1 : t.val % 8 = 7
  · rw [stAt0_C m c t acc h0 h1]
    dsimp only
    unfold out0_C_4
    rw [View.read_writes_eq_canon (h := fun y => cover0_C_4 ..)]
    unfold kernelRun0_C
    dsimp only
    sl_unfold_words
    simp only [canon2, cov2, View.readAt_eq_ld, ld2, Memref.IsWhole.read_unread, read_unread_whole]
  · rw [stAt0_B m c t acc h0 h1]
    dsimp only
    unfold out0_B_4
    rw [View.read_writes_eq_canon (h := fun y => cover0_B_4 ..)]
    unfold kernelRun0_B
    dsimp only
    sl_unfold_words
    simp only [canon2, cov2, View.readAt_eq_ld, ld2, Memref.IsWhole.read_unread, read_unread_whole]

/-- The up gradient's block after a point. -/
theorem st5 (t : Fin cfg0.N) (acc : Vec F S512x1408 .bf16 × Vec F S512x1408 .bf16 × Vec F S1408x1024 .bf16 × Vec F S1408x1024 .f32) :
    (stAt0 m c t.val t.isLt acc).2.1 = k0_pay11 (iblk m c 1 t) (iblk m c 0 t) (iblk m c 3 t) := by
  by_cases h0 : t.val % 8 = 0
  · have h1 : ¬t.val % 8 = 7 := by omega
    rw [stAt0_A m c t acc h0 h1]
    dsimp only
    unfold out0_A_5
    rw [View.read_writes_eq_canon (h := fun y => cover0_A_5 ..)]
    unfold kernelRun0_A
    dsimp only
    sl_unfold_words
    simp only [canon2, cov2, View.readAt_eq_ld, ld2, Memref.IsWhole.read_unread, read_unread_whole]
  by_cases h1 : t.val % 8 = 7
  · rw [stAt0_C m c t acc h0 h1]
    dsimp only
    unfold out0_C_5
    rw [View.read_writes_eq_canon (h := fun y => cover0_C_5 ..)]
    unfold kernelRun0_C
    dsimp only
    sl_unfold_words
    simp only [canon2, cov2, View.readAt_eq_ld, ld2, Memref.IsWhole.read_unread, read_unread_whole]
  · rw [stAt0_B m c t acc h0 h1]
    dsimp only
    unfold out0_B_5
    rw [View.read_writes_eq_canon (h := fun y => cover0_B_5 ..)]
    unfold kernelRun0_B
    dsimp only
    sl_unfold_words
    simp only [canon2, cov2, View.readAt_eq_ld, ld2, Memref.IsWhole.read_unread, read_unread_whole]

/-- The accumulator after a point: the point's product added to what it held, to zero at the first point of a run. -/
theorem st7 (t : Fin cfg0.N) (acc : Vec F S512x1408 .bf16 × Vec F S512x1408 .bf16 × Vec F S1408x1024 .bf16 × Vec F S1408x1024 .f32) :
    (stAt0 m c t.val t.isLt acc).2.2.2 = k0_pay8 (iblk m c 1 t) (iblk m c 2 t) (iblk m c 0 t) (if t.val % 8 = 0 then k0_pay2 else acc.2.2.2) := by
  by_cases h0 : t.val % 8 = 0
  · have h1 : ¬t.val % 8 = 7 := by omega
    rw [stAt0_A m c t acc h0 h1, if_pos h0]
    dsimp only
    unfold sout0_A_0
    rw [View.read_writes_eq_canon (h := fun y => scover0_A_0 ..)]
    unfold kernelRun0_A
    dsimp only
    sl_unfold_words
    simp only [canon2, cov2, View.readAt_eq_ld, ld2, Memref.IsWhole.read_unread, read_unread_whole]
  by_cases h1 : t.val % 8 = 7
  · rw [stAt0_C m c t acc h0 h1, if_neg h0]
    dsimp only
    unfold sout0_C_0
    rw [View.read_writes_eq_canon (h := fun y => scover0_C_0 ..)]
    unfold kernelRun0_C
    dsimp only
    sl_unfold_words
    simp only [canon2, cov2, View.readAt_eq_ld, ld2, Memref.IsWhole.read_unread, read_unread_whole]
  · rw [stAt0_B m c t acc h0 h1, if_neg h0]
    dsimp only
    unfold sout0_B_0
    rw [View.read_writes_eq_canon (h := fun y => scover0_B_0 ..)]
    unfold kernelRun0_B
    dsimp only
    sl_unfold_words
    simp only [canon2, cov2, View.readAt_eq_ld, ld2, Memref.IsWhole.read_unread, read_unread_whole]

/-- The weight gradient's block at the last point of a run: the accumulator, narrowed. -/
theorem st6 (t : Fin cfg0.N) (acc : Vec F S512x1408 .bf16 × Vec F S512x1408 .bf16 × Vec F S1408x1024 .bf16 × Vec F S1408x1024 .f32)
    (h1 : t.val % 8 = 7) :
    (stAt0 m c t.val t.isLt acc).2.2.1 = k0_pay1 (stAt0 m c t.val t.isLt acc).2.2.2 := by
  have h0 : ¬t.val % 8 = 0 := by omega
  rw [st7, if_neg h0, stAt0_C m c t acc h0 h1]
  dsimp only
  unfold out0_C_6
  rw [View.read_writes_eq_canon (h := fun y => cover0_C_6 ..)]
  unfold kernelRun0_C
  dsimp only
  sl_unfold_words
  simp only [canon2, cov2, View.readAt_eq_ld, ld2, Memref.IsWhole.read_unread, read_unread_whole]

end Cert.FfnHiddenIdeal.Block

end
-- ==== Proof.Sums.lean ====
/- Facts shared by the value proofs: what a carried accumulator holds after a run of points, extended-real sums and
   products of finite numbers, and how the stated precondition gives finite arguments. -/
module

public import Idealize.ShloMosaic.Lib.Pointwise
public import Idealize.ShloMosaic.Lib.Pipeline.Value
public import Mathlib.Data.EReal.Operations
public import Mathlib.Tactic.Ring
public import Mathlib.Tactic.NormNum
public import Mathlib.Tactic.FieldSimp

@[expose] public section

noncomputable section

open Idealize.ShloMosaic

namespace Cert.Sums

/-- A fold over the points is the last point's step over some state. -/
theorem accAt_step {N : ℕ} {α : Type} (g : (n : ℕ) → n < N → α → α) (z : α) (j : ℕ) (h : 0 + j < N) :
    ∃ acc, Pipeline.accAt (fun n h => g n h z) g 0 j h = g j (by omega) acc := by
  cases j with
  | zero => exact ⟨z, rfl⟩
  | succ j =>
    refine ⟨Pipeline.accAt (fun n h => g n h z) g 0 j (by omega), ?_⟩
    rw [Pipeline.accAt_succ]
    congr 1
    omega

/-- A number that each point adds to, and that the first point of each run of `K` clears, is after point `j` the sum over
    the run up to `j`. -/
theorem accAt_run {N K : ℕ} (hK : 0 < K) {α β : Type} [AddCommMonoid β] (g : (n : ℕ) → n < N → α → α) (z : α) (pr : α → β)
    (step : ℕ → β) (hg : ∀ (n : ℕ) (hn : n < N) (acc : α), pr (g n hn acc) = (if n % K = 0 then 0 else pr acc) + step n) :
    ∀ (j : ℕ) (h : 0 + j < N), pr (Pipeline.accAt (fun n h => g n h z) g 0 j h)
      = ∑ i ∈ Finset.range (j % K + 1), step (j / K * K + i) := by
  intro j
  induction j with
  | zero =>
    intro h
    rw [Pipeline.accAt_zero, hg, Nat.zero_mod, if_pos rfl, Nat.zero_div]
    simp
  | succ j ih =>
    intro h
    have hstep : Pipeline.accAt (fun n h => g n h z) g 0 (j + 1) h
        = g (0 + (j + 1)) h (Pipeline.accAt (fun n h => g n h z) g 0 j (by omega)) := Pipeline.accAt_succ ..
    rw [hstep, hg, ih, Nat.zero_add]
    by_cases h0 : (j + 1) % K = 0
    · rw [if_pos h0, h0, zero_add, Nat.zero_add, Finset.sum_range_one, Nat.add_zero, Nat.div_mul_cancel (Nat.dvd_of_mod_eq_zero h0)]
    · rw [if_neg h0]
      have hlt := Nat.mod_lt (j + 1) hK
      have hjm : (j + 1) % K = j % K + 1 := by
        rcases Nat.lt_or_ge (j % K + 1) K with h1 | h1
        · rw [Nat.add_mod_eq_ite]; have := Nat.mod_lt j hK
          rcases Nat.lt_or_ge 1 K with h2 | h2
          · rw [Nat.mod_eq_of_lt h2, if_neg (by omega)]
          · omega
        · have h2 := Nat.mod_lt j hK
          exact absurd (by
            have e : j + 1 = K * (j / K) + (j % K + 1) := by have := Nat.div_add_mod j K; omega
            rw [e, show j % K + 1 = K by omega, Nat.mul_add_mod]; exact Nat.mod_self K) h0
      have hjd : (j + 1) / K = j / K := by
        have e1 := Nat.div_add_mod (j + 1) K
        have e2 := Nat.div_add_mod j K
        have e3 : K * ((j + 1) / K) = K * (j / K) := by omega
        exact Nat.eq_of_mul_eq_mul_left hK e3
      rw [hjm, hjd, Finset.sum_range_succ _ (j % K + 1)]
      congr 2
      have := Nat.div_add_mod j K
      have e : j / K * K = K * (j / K) := Nat.mul_comm _ _
      omega

/-- The sum of real numbers, read among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A number whose magnitude is below infinity is real. -/
theorem real_of_abs_lt (x : EReal) (h : max x (-x) < ⊤) : ∃ r : ℝ, x = r := by
  induction x with
  | bot => simp at h
  | top => simp at h
  | coe r => exact ⟨r, rfl⟩

/-- The infinity word. -/
theorem inf_word : (FloatOps.ofBits (F := Ideal) .f32 0x7F800000#32 : EReal) = ⊤ := by
  show Ideal.ofBits .f32 0x7F800000#32 = ⊤
  simp [Ideal.ofBits, Ideal.ieee]

/-- The stated test over an array: every magnitude compares below the infinity word, so every entry is real. -/
theorem real_of_pre {s s0 : Shape} (x : FVec Ideal s .f32) {d : Fin s0.rank → Fin s.rank} (hb : s0.BroadcastsInDim s d)
    (h : cmpf .olt (Host.absf x) (broadcastInDim s d hb (constant s0 .f32 0x7F800000#32)) = fun _ => 1#1) :
    ∃ X : s.Idx → ℝ, x = fun i => (X i : EReal) := by
  refine ⟨fun i => (real_of_abs_lt (x i) ?_).choose, funext fun i => (real_of_abs_lt (x i) ?_).choose_spec⟩
  all_goals
    have hi := congrFun h i
    change Ideal.cmp .olt (max (x i) (-(x i))) (FloatOps.ofBits (F := Ideal) .f32 0x7F800000#32) = 1#1 at hi
    rw [inf_word] at hi
    by_contra hn
    rw [show Ideal.cmp .olt (max (x i) (-(x i))) ⊤ = BitVec.ofBool (decide (max (x i) (-(x i)) < ⊤)) from rfl, decide_eq_false hn] at hi
    exact absurd hi (by decide)

/-- A family of real numbers. -/
theorem real_fun {ι : Type} (x : ι → EReal) (h : ∀ i, ∃ r : ℝ, x i = r) : ∃ X : ι → ℝ, x = fun i => (X i : EReal) :=
  ⟨fun i => (h i).choose, funext fun i => (h i).choose_spec⟩

/-- The gradient of `g · σ(g)` against a real cotangent `t`, in the two forms in use: one factored, one summed. -/
theorem silu_grad (g : EReal) (t : ℝ) :
    (t : EReal) * (Ideal.logistic g * (1 + g * (1 - Ideal.logistic g)))
      = (t : EReal) * Ideal.logistic g + g * t * (Ideal.logistic g * (1 - Ideal.logistic g)) := by
  induction g with
  | bot => simp [Ideal.logistic_bot]
  | top =>
    rw [Ideal.logistic_top]
    have : (1 : EReal) - 1 = 0 := by
      rw [← EReal.coe_one, ← EReal.coe_sub, sub_self, EReal.coe_zero]
    simp [this]
  | coe r =>
    rw [Ideal.logistic_coe]
    norm_cast
    ring

end Cert.Sums

end
-- ==== Proof.FfnHidden.Pay.lean ====
/- The payloads of the hidden-layer backward call, and the reference's stages, read at an index. -/
module

public import proofs.«01_k».proof.Proof.FfnHidden.Block
public import proofs.«01_k».proof.Proof.Gen.FfnHiddenVjpIdeal.Read
public import proofs.«01_k».proof.Proof.Sums

@[expose] public section

set_option maxRecDepth 16384

noncomputable section

open Idealize.ShloMosaic Idealize.ShloMosaic.TcCoe Idealize.SL.Sem

namespace Cert.FfnHiddenIdeal.Pay

open Cert.FfnHiddenIdeal Cert.FfnHiddenIdeal.Gen

/-- The gate gradient's block at an index. -/
theorem pay10 (g u : FVec Ideal S512x1408 .bf16) (d : FVec Ideal S512x1024 .f32) (w : FVec Ideal S1408x1024 .bf16)
    (r : Fin 512) (k : Fin 1408) :
    k0_pay10 (F := Ideal) g u d w (ix2 r k) = (∑ x : Fin 1024, d (ix2 r x) * w (ix2 k x)) * u (ix2 r k)
      * (Ideal.logistic (g (ix2 r k)) * (1 + g (ix2 r k) * (1 - Ideal.logistic (g (ix2 r k))))) := by
  pointwise [k0_pay10, k0_pay9, k0_pay7, k0_pay3, k0_pay4, k0_pay5]

/-- The up gradient's block at an index. -/
theorem pay11 (g : FVec Ideal S512x1408 .bf16) (d : FVec Ideal S512x1024 .f32) (w : FVec Ideal S1408x1024 .bf16)
    (r : Fin 512) (k : Fin 1408) :
    k0_pay11 (F := Ideal) g d w (ix2 r k)
      = (∑ x : Fin 1024, d (ix2 r x) * w (ix2 k x)) * (g (ix2 r k) * Ideal.logistic (g (ix2 r k))) := by
  pointwise [k0_pay11, k0_pay9, k0_pay7, k0_pay3, k0_pay6, k0_pay5]

/-- The accumulator after a point, at an index. -/
theorem pay8 (g u : FVec Ideal S512x1408 .bf16) (d : FVec Ideal S512x1024 .f32) (a : FVec Ideal S1408x1024 .f32)
    (r : Fin 1408) (k : Fin 1024) :
    k0_pay8 (F := Ideal) g u d a (ix2 r k) = a (ix2 r k)
      + ∑ x : Fin 512, g (ix2 x r) * Ideal.logistic (g (ix2 x r)) * u (ix2 x r) * d (ix2 x k) := by
  pointwise [k0_pay8, k0_pay4, k0_pay7, k0_pay3, k0_pay6, k0_pay5]

/-- The cleared accumulator. -/
theorem pay2 (i : S1408x1024.Idx) : k0_pay2 (F := Ideal) i = 0 := by
  idx_vars i
  pointwise [k0_pay2]

/-- The narrowed accumulator. -/
theorem pay1 (a : FVec Ideal S1408x1024 .f32) (i : S1408x1024.Idx) : k0_pay1 (F := Ideal) a i = a i := rfl

open Cert.FfnHiddenVjpIdeal Cert.FfnHiddenVjpIdeal.Read

/-- The reference's sigmoid. -/
theorem ref_sigma (x1 : FVec Ideal S4096x2816 .bf16) (r : Fin 4096) (k : Fin 2816) :
    val_main_v3_2 (F := Ideal) x1 (ix2 r k) = Ideal.logistic (x1 (ix2 r k)) := by
  pointwise [val_main_v3_2, val_main_v0, val_main_call0_v0, val_main_call0_v1, val_main_call0_v2, val_main_call0_v3,
    val_main_call0_v4, val_main_call0_cst, val_main_call0_cst_0]
  rfl

/-- The reference's gate gradient. -/
theorem ref12 (x0 : FVec Ideal S4096x1024 .f32) (x1 x2 : FVec Ideal S4096x2816 .bf16) (x3 : FVec Ideal S2816x1024 .bf16)
    (r : Fin 4096) (k : Fin 2816) :
    val_main_v12 (F := Ideal) x0 x1 x2 x3 (ix2 r k)
      = (∑ x : Fin 1024, x0 (ix2 r x) * x3 (ix2 k x)) * x2 (ix2 r k) * Ideal.logistic (x1 (ix2 r k))
        + x1 (ix2 r k) * ((∑ x : Fin 1024, x0 (ix2 r x) * x3 (ix2 k x)) * x2 (ix2 r k))
          * (Ideal.logistic (x1 (ix2 r k)) * (1 - Ideal.logistic (x1 (ix2 r k)))) := by
  pointwise [val_main_v12, val_main_v11, val_main_call1_v2, val_main_call1_v0, val_main_call1_v1, val_main_v10, val_main_v8,
    val_main_v2, val_main_v0, val_main_v1, val_main_v3_1, ref_sigma, val_main_call0_v6, val_main_call0_v7, val_main_call0_cst_1]

/-- The reference's up gradient. -/
theorem ref13 (x0 : FVec Ideal S4096x1024 .f32) (x1 : FVec Ideal S4096x2816 .bf16) (x3 : FVec Ideal S2816x1024 .bf16)
    (r : Fin 4096) (k : Fin 2816) :
    val_main_v13 (F := Ideal) x0 x1 x3 (ix2 r k)
      = x1 (ix2 r k) * Ideal.logistic (x1 (ix2 r k)) * ∑ x : Fin 1024, x0 (ix2 r x) * x3 (ix2 k x) := by
  pointwise [val_main_v13, val_main_v9, val_main_v8, val_main_v2, val_main_v0, val_main_v3_0, ref_sigma]

/-- The reference's weight gradient. -/
theorem ref14 (x0 : FVec Ideal S4096x1024 .f32) (x1 x2 : FVec Ideal S4096x2816 .bf16) (r : Fin 2816) (k : Fin 1024) :
    val_main_v14 (F := Ideal) x0 x1 x2 (ix2 r k)
      = ∑ x : Fin 4096, x0 (ix2 x k) * (x1 (ix2 x r) * Ideal.logistic (x1 (ix2 x r)) * x2 (ix2 x r)) := by
  pointwise [val_main_v14, val_main_v7, val_main_v6, val_main_v4, val_main_v1, val_main_v0, val_main_v3_0, ref_sigma]

end Cert.FfnHiddenIdeal.Pay

end
-- ==== Proof.FfnHidden.Value.lean ====
/- The hidden-layer backward call computes the three gradients its reference states. -/
module

public import proofs.«01_k».proof.Proof.FfnHidden.Pay

@[expose] public section

set_option maxRecDepth 16384

noncomputable section

open Idealize.ShloMosaic Idealize.ShloMosaic.TcCoe Idealize.SL.Sem

namespace Cert.FfnHiddenIdeal.Final

open Cert.FfnHiddenIdeal Cert.FfnHiddenIdeal.Gen Cert.FfnHiddenIdeal.Value Cert.FfnHiddenIdeal.Pay Cert.Sums

variable (m : (ℓ : Loc nD τ sig) → Buf (Elt Ideal) ℓ) (c : Dev nD)

/-- The cotangent, as launched. -/
abbrev D : FVec Ideal S4096x1024 .f32 := m ((c.tc : Thread nD τ).loc main_arg0)
/-- The gate's input, as launched. -/
abbrev G : FVec Ideal S4096x2816 .bf16 := m ((c.tc : Thread nD τ).loc main_arg1)
/-- The up projection, as launched. -/
abbrev U : FVec Ideal S4096x2816 .bf16 := m ((c.tc : Thread nD τ).loc main_arg2)
/-- The down weights, as launched. -/
abbrev W : FVec Ideal S2816x1024 .bf16 := m ((c.tc : Thread nD τ).loc main_arg3)

/-- The windows' block indices at a point. -/
theorem index_facts : ∀ t : Fin cfg0.N, (win0_0.index t (0 : Fin 2) = t.val % 8 ∧ win0_0.index t (1 : Fin 2) = 0)
    ∧ (win0_1.index t (0 : Fin 2) = t.val % 8 ∧ win0_1.index t (1 : Fin 2) = t.val / 8)
    ∧ (win0_2.index t (0 : Fin 2) = t.val % 8 ∧ win0_2.index t (1 : Fin 2) = t.val / 8)
    ∧ (win0_3.index t (0 : Fin 2) = t.val / 8 ∧ win0_3.index t (1 : Fin 2) = 0) :=
  (by decide +kernel : ∀ t : Fin grid0.N, _)

/-- The cotangent's block. -/
theorem blk0 (t : Fin cfg0.N) (r : Fin 512) (k : Fin 1024) (R : Fin 4096) (hR : R.val = t.val % 8 * 512 + r.val) :
    (iblk m c 0 t : Vec Ideal S512x1024 .f32) (ix2 r k) = D m c (ix2 R k) := by
  obtain ⟨⟨e0, e1⟩, -, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * r.val = R.val; rw [e0]; omega
  | ⟨1, _⟩ => show win0_0.index t 1 * 1024 + 1 * k.val = k.val; rw [e1]; omega

/-- The gate input's block. -/
theorem blk1 (t : Fin cfg0.N) (r : Fin 512) (k : Fin 1408) (R : Fin 4096) (K : Fin 2816)
    (hR : R.val = t.val % 8 * 512 + r.val) (hK : K.val = t.val / 8 * 1408 + k.val) :
    (iblk m c 1 t : Vec Ideal S512x1408 .bf16) (ix2 r k) = G m c (ix2 R K) := by
  obtain ⟨-, ⟨e0, e1⟩, -, -⟩ := index_facts t
  unfold iblk
  rw [View.read_apply]
  show V m c main_arg1 _ = m (c.tc.loc main_arg1) _
  unfold V
  congr 1
  funext a
  apply Fin.ext
  match a with
  | ⟨0, _⟩ => show win0_1.index t 0 * 512 + 1 * r.val = R.val; rw [e0]; omega
  | ⟨1, _⟩ => show win0_1.index t 1 * 1408 + 1 * k.val = K.val; rw [e1]; omega

/-- The up projection's block. -/
theorem blk2 (t : Fin cfg0.N) (r : Fin 512) (k : Fin 1408) (R : Fin 4096) (K : Fin 2816)
    (hR : R.val = t.val % 8 * 512 + r.val) (hK : K.val = t.val / 8 * 1408 + k.val) :
    (iblk m c 2 t : Vec Ideal S512x1408 .bf16) (ix2 r k) = U m c (ix2 R K) := by
  obtain ⟨-, -, ⟨e0, e1⟩, -⟩ := index_facts t
  unfold iblk
  rw [View.read_apply]
  show V m c main_arg2 _ = m (c.tc.loc main_arg2) _
  unfold V
  congr 1
  funext a
  apply Fin.ext
  match a with
  | ⟨0, _⟩ => show win0_2.index t 0 * 512 + 1 * r.val = R.val; rw [e0]; omega
  | ⟨1, _⟩ => show win0_2.index t 1 * 1408 + 1 * k.val = K.val; rw [e1]; omega

/-- The down weights' block. -/
theorem blk3 (t : Fin cfg0.N) (r : Fin 1408) (k : Fin 1024) (R : Fin 2816) (hR : R.val = t.val / 8 * 1408 + r.val) :
    (iblk m c 3 t : Vec Ideal S1408x1024 .bf16) (ix2 r k) = W m c (ix2 R k) := by
  obtain ⟨-, -, -, ⟨e0, e1⟩⟩ := index_facts t
  unfold iblk
  rw [View.read_apply]
  show V m c main_arg3 _ = m (c.tc.loc main_arg3) _
  unfold V
  congr 1
  funext a
  apply Fin.ext
  match a with
  | ⟨0, _⟩ => show win0_3.index t 0 * 1408 + 1 * r.val = R.val; rw [e0]; omega
  | ⟨1, _⟩ => show win0_3.index t 1 * 1024 + 1 * k.val = k.val; rw [e1]; omega

/-- The gate gradient's array. -/
theorem G4_apply (r : Fin 4096) (k : Fin 2816) :
    G4 m c (ix2 r k) = (∑ x : Fin 1024, D m c (ix2 r x) * W m c (ix2 k x)) * U m c (ix2 r k)
      * (Ideal.logistic (G m c (ix2 r k)) * (1 + G m c (ix2 r k) * (1 - Ideal.logistic (G m c (ix2 r k))))) := by
  have hr := r.isLt
  have hk := k.isLt
  have hN : cfg0.N = 16 := N_0
  have hp : pt4Of (ix2 r k) = r.val / 512 + 8 * (k.val / 1408) := by
    show 1 * (r.val / 512 - 0) + 8 * (k.val / 1408 - 0) = _
    omega
  have hlt : pt4Of (ix2 r k) < cfg0.N := by rw [hp]; omega
  unfold G4
  rw [dif_pos hlt]
  obtain ⟨acc, hacc⟩ := accAt_step (stAt0 m c) junk0 (pt4Of (ix2 r k)) (by omega)
  rw [hacc, Block.st4 m c ⟨pt4Of (ix2 r k), hlt⟩ acc]
  have hl : loc4Of (ix2 r k) = ix2 ⟨r.val % 512, by omega⟩ ⟨k.val % 1408, by omega⟩ := by idx_ext
  rw [hl]
  refine (pay10 _ _ _ _ _ _).trans ?_
  have er : r.val = pt4Of (ix2 r k) % 8 * 512 + r.val % 512 := by rw [hp]; omega
  have ek : k.val = pt4Of (ix2 r k) / 8 * 1408 + k.val % 1408 := by rw [hp]; omega
  rw [blk1 m c ⟨pt4Of (ix2 r k), hlt⟩ _ _ r k er ek, blk2 m c ⟨pt4Of (ix2 r k), hlt⟩ _ _ r k er ek]
  refine congrArg (· * _) (congrArg (· * _) (Finset.sum_congr rfl fun x _ => ?_))
  rw [blk0 m c ⟨pt4Of (ix2 r k), hlt⟩ _ _ r er, blk3 m c ⟨pt4Of (ix2 r k), hlt⟩ _ _ k ek]

/-- The up gradient's array. -/
theorem G5_apply (r : Fin 4096) (k : Fin 2816) :
    G5 m c (ix2 r k) = (∑ x : Fin 1024, D m c (ix2 r x) * W m c (ix2 k x))
      * (G m c (ix2 r k) * Ideal.logistic (G m c (ix2 r k))) := by
  have hr := r.isLt
  have hk := k.isLt
  have hN : cfg0.N = 16 := N_0
  have hp : pt5Of (ix2 r k) = r.val / 512 + 8 * (k.val / 1408) := by
    show 1 * (r.val / 512 - 0) + 8 * (k.val / 1408 - 0) = _
    omega
  have hlt : pt5Of (ix2 r k) < cfg0.N := by rw [hp]; omega
  unfold G5
  rw [dif_pos hlt]
  obtain ⟨acc, hacc⟩ := accAt_step (stAt0 m c) junk0 (pt5Of (ix2 r k)) (by omega)
  rw [hacc, Block.st5 m c ⟨pt5Of (ix2 r k), hlt⟩ acc]
  have hl : loc5Of (ix2 r k) = ix2 ⟨r.val % 512, by omega⟩ ⟨k.val % 1408, by omega⟩ := by idx_ext
  rw [hl]
  refine (pay11 _ _ _ _ _).trans ?_
  have er : r.val = pt5Of (ix2 r k) % 8 * 512 + r.val % 512 := by rw [hp]; omega
  have ek : k.val = pt5Of (ix2 r k) / 8 * 1408 + k.val % 1408 := by rw [hp]; omega
  rw [blk1 m c ⟨pt5Of (ix2 r k), hlt⟩ _ _ r k er ek]
  refine congrArg (· * _) (Finset.sum_congr rfl fun x _ => ?_)
  rw [blk0 m c ⟨pt5Of (ix2 r k), hlt⟩ _ _ r er, blk3 m c ⟨pt5Of (ix2 r k), hlt⟩ _ _ k ek]

/-- One row's contribution to the weight gradient. -/
def rowTerm (r : Fin 2816) (k : Fin 1024) (x : Fin 4096) : EReal :=
  G m c (ix2 x r) * Ideal.logistic (G m c (ix2 x r)) * U m c (ix2 x r) * D m c (ix2 x k)

/-- What one point adds to the accumulator at an index whose column lies in the point's half. -/
theorem step7 (n : ℕ) (hn : n < cfg0.N) (acc) (r : Fin 1408) (k : Fin 1024) (R : Fin 2816)
    (hR : R.val = n / 8 * 1408 + r.val) :
    ((stAt0 m c n hn acc).2.2.2 : FVec Ideal S1408x1024 .f32) (ix2 r k)
      = (if n % 8 = 0 then 0 else (acc.2.2.2 : FVec Ideal S1408x1024 .f32) (ix2 r k))
        + ∑ x : Fin 512, rowTerm m c R k ⟨n % 8 * 512 + x.val, by omega⟩ := by
  rw [Block.st7 m c ⟨n, hn⟩ acc]
  refine (pay8 _ _ _ _ _ _).trans ?_
  congr 1
  · dsimp only
    split
    · exact pay2 _
    · rfl
  · refine Finset.sum_congr rfl fun x _ => ?_
    rw [blk1 m c ⟨n, hn⟩ x r ⟨n % 8 * 512 + x.val, by omega⟩ R rfl hR, blk2 m c ⟨n, hn⟩ x r ⟨n % 8 * 512 + x.val, by omega⟩ R rfl hR,
      blk0 m c ⟨n, hn⟩ x k ⟨n % 8 * 512 + x.val, by omega⟩ rfl]
    rfl

/-- What point `n` adds to the accumulator at an index, for every `n`. -/
def stepTerm (r : Fin 1408) (k : Fin 1024) (n : ℕ) : EReal :=
  if h : n < 16 then ∑ x : Fin 512, rowTerm m c ⟨n / 8 * 1408 + r.val, by omega⟩ k ⟨n % 8 * 512 + x.val, by omega⟩ else 0

/-- The accumulator after a point. -/
theorem acc7 (r : Fin 1408) (k : Fin 1024) (j : ℕ) (h : 0 + j < cfg0.N) :
    ((Pipeline.accAt (fun n h => stAt0 m c n h junk0) (stAt0 m c) 0 j h).2.2.2 : FVec Ideal S1408x1024 .f32) (ix2 r k)
      = ∑ i ∈ Finset.range (j % 8 + 1), stepTerm m c r k (j / 8 * 8 + i) := by
  refine accAt_run (K := 8) (by decide) (stAt0 m c) junk0
    (fun acc => ((acc.2.2.2 : FVec Ideal S1408x1024 .f32) (ix2 r k) : EReal)) (stepTerm m c r k) (fun n hn acc => ?_) j h
  have hN : cfg0.N = 16 := N_0
  have h16 : n < 16 := hN ▸ hn
  unfold stepTerm
  rw [dif_pos h16]
  exact step7 m c n hn acc r k ⟨n / 8 * 1408 + r.val, by omega⟩ rfl

/-- The weight gradient's array. -/
theorem G6_apply (r : Fin 2816) (k : Fin 1024) : G6 m c (ix2 r k) = ∑ x : Fin 4096, rowTerm m c r k x := by
  have hr := r.isLt
  have hk := k.isLt
  have hN : cfg0.N = 16 := N_0
  have hp : pt6Of (ix2 r k) = 8 * (r.val / 1408) + 7 := by
    show 8 * (1 * (r.val / 1408 - 0) + 1 * (k.val / 1024 - 0)) + 7 = _
    omega
  have hlt : pt6Of (ix2 r k) < cfg0.N := by rw [hp]; omega
  unfold G6
  rw [dif_pos hlt]
  have h7 : pt6Of (ix2 r k) % 8 = 7 := by omega
  have hl : loc6Of (ix2 r k) = ix2 ⟨r.val % 1408, by omega⟩ ⟨k.val, hk⟩ := by
    funext a
    apply Fin.ext
    match a with
    | ⟨0, _⟩ => rfl
    | ⟨1, _⟩ => exact Nat.mod_eq_of_lt hk
  have hcell : (Pipeline.accAt (fun n h => stAt0 m c n h junk0) (stAt0 m c) 0 (pt6Of (ix2 r k)) (by omega)).2.2.1
      = k0_pay1 (Pipeline.accAt (fun n h => stAt0 m c n h junk0) (stAt0 m c) 0 (pt6Of (ix2 r k)) (by omega)).2.2.2 := by
    obtain ⟨acc, hacc⟩ := accAt_step (stAt0 m c) junk0 (pt6Of (ix2 r k)) (by omega)
    rw [hacc]
    exact Block.st6 m c ⟨pt6Of (ix2 r k), hlt⟩ acc h7
  rw [hcell, hl]
  refine (pay1 _ _).trans ((acc7 m c ⟨r.val % 1408, by omega⟩ ⟨k.val, hk⟩ _ _).trans ?_)
  rw [h7, Fin.sum_univ_tiles 8 512 (by decide) (rowTerm m c r k), Finset.sum_range]
  refine Finset.sum_congr rfl fun q _ => ?_
  have hq := q.isLt
  have h16 : pt6Of (ix2 r k) / 8 * 8 + q.val < 16 := by omega
  unfold stepTerm
  rw [dif_pos h16]
  refine Finset.sum_congr rfl fun x _ => ?_
  congr 1
  · apply Fin.ext
    show (pt6Of (ix2 r k) / 8 * 8 + q.val) / 8 * 1408 + r.val % 1408 = r.val
    rw [hp]
    omega
  · apply Fin.ext
    show (pt6Of (ix2 r k) / 8 * 8 + q.val) % 8 * 512 + x.val = q.val * 512 + x.val
    omega

/-- The gate gradient is the reference's, for finite cotangent, up projection and down weights. -/
theorem value12 (hD : ∃ X : S4096x1024.Idx → ℝ, D m c = fun i => (X i : EReal))
    (hU : ∃ X : S4096x2816.Idx → ℝ, U m c = fun i => (X i : EReal))
    (hW : ∃ X : S2816x1024.Idx → ℝ, W m c = fun i => (X i : EReal)) :
    Cert.FfnHiddenVjpIdeal.Read.val_main_v12 (F := Ideal) (D m c) (G m c) (U m c) (W m c) = G4 m c := by
  obtain ⟨d, hd⟩ := hD
  obtain ⟨u, hu⟩ := hU
  obtain ⟨w, hw⟩ := hW
  funext i
  idx_vars i
  rw [ref12, G4_apply, hd, hu, hw]
  simp only [← EReal.coe_mul, coe_sum]
  exact (silu_grad _ _).symm

/-- The up gradient is the reference's. -/
theorem value13 : Cert.FfnHiddenVjpIdeal.Read.val_main_v13 (F := Ideal) (D m c) (G m c) (W m c) = G5 m c := by
  funext i
  idx_vars i
  rw [ref13, G5_apply, mul_comm]

/-- The weight gradient is the reference's. -/
theorem value14 : Cert.FfnHiddenVjpIdeal.Read.val_main_v14 (F := Ideal) (D m c) (G m c) (U m c) = G6 m c := by
  funext i
  idx_vars i
  rw [ref14, G6_apply]
  exact Finset.sum_congr rfl fun x _ => mul_comm _ _

end Cert.FfnHiddenIdeal.Final

end
-- ==== Proof.FfnHidden.Claims.lean ====
/- The claims about the hidden-layer backward call. -/
module

public import proofs.«01_k».proof.Defs
public import proofs.«01_k».proof.Proof.FfnHidden.Value
public import proofs.«01_k».proof.Proof.Gen.FfnHiddenVjpIdeal.Run
public import proofs.«01_k».proof.Proof.Gen.FfnHidden.Frame
public import proofs.«01_k».proof.Proof.Gen.Pre_finite_ffn_hidden
public import Idealize.ShloMosaic.Lib.Quiescent

@[expose] public section

noncomputable section

open Idealize.ShloMosaic Idealize.SL.Sem

namespace Cert.FfnHiddenClaims

open Cert.FfnHiddenIdeal.Final Cert.Sums

/-- The reference runs to the end, keeps its arguments and has no counters. -/
theorem frame_ref : Cert.quiescent_FfnHiddenVjpIdeal := fun m ρ _ =>
  (θ_run Cert.FfnHiddenVjpIdeal.defs _ _).mono
    (fun r h => ⟨fun c => (h c).2.2.2, sem_eq_zero_of_no_sems (by decide) r.2⟩)
    (Cert.FfnHiddenVjpIdeal.Value.run (F := Ideal) m ρ)

/-- The kernel's run, with the precondition, gives the reference's three results. -/
theorem value : Cert.algebraic_FfnHiddenIdeal_FfnHiddenVjpIdeal_pre_finite_ffn_hidden := by
  intro m ρ m' ρ' hpre hargs
  refine ⟨_, _, _, Cert.FfnHiddenIdeal.Value.run m ρ,
    (θ_run Cert.FfnHiddenVjpIdeal.defs _ _).mono (fun r h c => ?_) (Cert.FfnHiddenVjpIdeal.Value.run (F := Ideal) m' ρ')⟩
  obtain ⟨p0, p1, p2⟩ := hpre c
  have e := (real_of_pre (s0 := Cert.Pre_finite_ffn_hidden.S_) (D m c) _ p0)
  have e1 := (real_of_pre (s0 := Cert.Pre_finite_ffn_hidden.S_) (U m c) _ p1)
  have e2 := (real_of_pre (s0 := Cert.Pre_finite_ffn_hidden.S_) (W m c) _ p2)
  obtain ⟨a0, a1, a2, a3⟩ := hargs c
  obtain ⟨h0, h1, h2, hk⟩ := h c
  refine ⟨h0.trans ?_, h1.trans ?_, h2.trans ?_, hk⟩
  · rw [Cert.FfnHiddenVjpIdeal.Read.val_main_v12_eq, a0, a1, a2, a3]
    exact value12 m c e e1 e2
  · rw [Cert.FfnHiddenVjpIdeal.Read.val_main_v13_eq, a0, a1, a3]
    exact value13 m c
  · rw [Cert.FfnHiddenVjpIdeal.Read.val_main_v14_eq, a0, a1, a2]
    exact value14 m c

end Cert.FfnHiddenClaims

end
-- ==== Proof.BwdAttn.Block.lean ====
/- What the attention backward kernel leaves after a grid point, as functions of the point's blocks: a point runs over four
   stretches of 256 query rows, each leaving its rows of three staging buffers and of the query gradient. -/
module

public import proofs.«01_k».proof.Proof.Gen.BwdAttnIdeal.Value
public import proofs.«01_k».proof.Proof.Whole
public import Idealize.ShloMosaic.Lib.Tactic

@[expose] public section

set_option maxRecDepth 16384
set_option maxHeartbeats 1000000

noncomputable section

open Idealize.ShloMosaic Idealize.ShloMosaic.TcCoe Idealize.SL.Sem

namespace Cert.BwdAttnIdeal.Block

open Cert.BwdAttnIdeal Cert.BwdAttnIdeal.Gen Cert.BwdAttnIdeal.Value Cert.Whole

variable {F : FTy → Type} [FloatOps F] [Named F]

/-- The 256 rows from `o` on lie in a block of 1024 query rows. -/
theorem inbQ (o : Nat) (h : o + 256 ≤ 1024) :
    ∀ a, (![0, o, 0] : Fin 3 → Nat) a + (![1, 256, 256] : Fin 3 → Nat) a ≤ (![1, 1024, 256] : Fin 3 → Nat) a := by
  intro a; fin_cases a
  · exact le_refl 1
  · exact h
  · exact le_refl 256

/-- The same of a block with 128 columns. -/
theorem inbD (o : Nat) (h : o + 256 ≤ 1024) :
    ∀ a, (![o, 0] : Fin 2 → Nat) a + (![256, 128] : Fin 2 → Nat) a ≤ (![1024, 128] : Fin 2 → Nat) a := by
  intro a; fin_cases a
  · exact h
  · exact le_refl 128

/-- The same of a block with one column per key. -/
theorem inbP (o : Nat) (h : o + 256 ≤ 1024) :
    ∀ a, (![o, 0] : Fin 2 → Nat) a + (![256, 4096] : Fin 2 → Nat) a ≤ (![1024, 4096] : Fin 2 → Nat) a := by
  intro a; fin_cases a
  · exact h
  · exact le_refl 4096

/-- Rows `o … o + 255` of a block of query rows. -/
abbrev rowsQ (o : Nat) (h : o + 256 ≤ 1024) (q : FVec F S1x1024x256 .bf16) : FVec F S1x256x256 .bf16 :=
  View.ld (Val := Elt F) (e' := .bf16) q (Rect.unit (s := S1x1024x256) ![0, o, 0] ![1, 256, 256] (inbQ o h))

/-- Rows `o … o + 255` of a block of output gradients. -/
abbrev rowsD (o : Nat) (h : o + 256 ≤ 1024) (d : FVec F S1024x128 .bf16) : FVec F S256x128 .bf16 :=
  View.ld (Val := Elt F) (e' := .bf16) d (Rect.unit (s := S1024x128) ![o, 0] ![256, 128] (inbD o h))

/-- Rows `o … o + 255` of a block of outputs. -/
abbrev rowsA (o : Nat) (h : o + 256 ≤ 1024) (a : FVec F S1024x128 .f32) : FVec F S256x128 .f32 :=
  View.ld (Val := Elt F) (e' := .f32) a (Rect.unit (s := S1024x128) ![o, 0] ![256, 128] (inbD o h))

section Stretch

variable (q : FVec F S1x1024x256 .bf16) (k : FVec F S1x4096x256 .bf16) (v : FVec F S1x4096x128 .bf16)
variable (d : FVec F S1024x128 .bf16) (a : FVec F S1024x128 .f32)

section One

variable (o : Nat) (h : o + 256 ≤ 1024)

/-- A stretch's exponentials. -/
def expo : FVec F S256x4096 .bf16 := k0_pay11 k (rowsQ o h q)

/-- A stretch's output gradients over the rows' sums of exponentials. -/
def dol : FVec F S256x128 .bf16 := k0_pay16 (k0_pay10 k (rowsQ o h q)) (k0_pay12 (rowsD o h d))

/-- A stretch's score gradients. -/
def ds : FVec F S256x4096 .bf16 :=
  k0_pay14 (k0_pay8 v) (k0_pay10 k (rowsQ o h q)) (rowsD o h d) (k0_pay13 (rowsD o h d) (rowsA o h a)) (expo q k o h)

/-- A stretch's query gradients. -/
def dq : FVec F S1x256x256 .f32 := k0_pay15 (k0_pay7 k) (ds q k v d a o h)

end One

/-- The stores that fill the buffer of exponentials, last first. -/
def expoPieces : List (View.Piece (Elt F) S1024x4096 .bf16) :=
  [⟨Rect.unit (s := S1024x4096) ![768, 0] ![256, 4096] (inbP 768 (by omega)), expo q k 768 (by omega)⟩,
   ⟨Rect.unit (s := S1024x4096) ![512, 0] ![256, 4096] (inbP 512 (by omega)), expo q k 512 (by omega)⟩,
   ⟨Rect.unit (s := S1024x4096) ![256, 0] ![256, 4096] (inbP 256 (by omega)), expo q k 256 (by omega)⟩,
   ⟨Rect.unit (s := S1024x4096) ![0, 0] ![256, 4096] (inbP 0 (by omega)), expo q k 0 (by omega)⟩]

/-- The stores that fill the buffer of output gradients. -/
def dolPieces : List (View.Piece (Elt F) S1024x128 .bf16) :=
  [⟨Rect.unit (s := S1024x128) ![768, 0] ![256, 128] (inbD 768 (by omega)), dol q k d 768 (by omega)⟩,
   ⟨Rect.unit (s := S1024x128) ![512, 0] ![256, 128] (inbD 512 (by omega)), dol q k d 512 (by omega)⟩,
   ⟨Rect.unit (s := S1024x128) ![256, 0] ![256, 128] (inbD 256 (by omega)), dol q k d 256 (by omega)⟩,
   ⟨Rect.unit (s := S1024x128) ![0, 0] ![256, 128] (inbD 0 (by omega)), dol q k d 0 (by omega)⟩]

/-- The stores that fill the buffer of score gradients. -/
def dsPieces : List (View.Piece (Elt F) S1024x4096 .bf16) :=
  [⟨Rect.unit (s := S1024x4096) ![768, 0] ![256, 4096] (inbP 768 (by omega)), ds q k v d a 768 (by omega)⟩,
   ⟨Rect.unit (s := S1024x4096) ![512, 0] ![256, 4096] (inbP 512 (by omega)), ds q k v d a 512 (by omega)⟩,
   ⟨Rect.unit (s := S1024x4096) ![256, 0] ![256, 4096] (inbP 256 (by omega)), ds q k v d a 256 (by omega)⟩,
   ⟨Rect.unit (s := S1024x4096) ![0, 0] ![256, 4096] (inbP 0 (by omega)), ds q k v d a 0 (by omega)⟩]

/-- The stores that fill the block of query gradients. -/
def dqPieces : List (View.Piece (Elt F) S1x1024x256 .f32) :=
  [⟨Rect.unit (s := S1x1024x256) ![0, 768, 0] ![1, 256, 256] (inbQ 768 (by omega)), dq q k v d a 768 (by omega)⟩,
   ⟨Rect.unit (s := S1x1024x256) ![0, 512, 0] ![1, 256, 256] (inbQ 512 (by omega)), dq q k v d a 512 (by omega)⟩,
   ⟨Rect.unit (s := S1x1024x256) ![0, 256, 0] ![1, 256, 256] (inbQ 256 (by omega)), dq q k v d a 256 (by omega)⟩,
   ⟨Rect.unit (s := S1x1024x256) ![0, 0, 0] ![1, 256, 256] (inbQ 0 (by omega)), dq q k v d a 0 (by omega)⟩]

end Stretch

/-! The four stretches' payloads are the same four functions, which the printed program spells four times. -/

section Same

variable (k : FVec F S1x4096x256 .bf16) (v8 : FVec F S4096x128 .bf16) (k7 : FVec F S4096x256 .bf16) (q : FVec F S1x256x256 .bf16)
variable (d : FVec F S256x128 .bf16) (a : FVec F S256x128 .f32) (p : FVec F S256x4096 .bf16)

theorem expo1 : k0_pay20 (k0_pay17 (k0_pay7 k) q) = k0_pay11 k q := rfl
theorem expo2 : k0_pay28 (k0_pay7 k) q = k0_pay11 k q := rfl
theorem expo3 : k0_pay35 (k0_pay7 k) q = k0_pay11 k q := rfl
theorem dol1 : k0_pay25 (k0_pay24 (k0_pay18 (k0_pay7 k) q) (FloatOps.ofBits FTy.f32 1065353216#32) d) = k0_pay16 (k0_pay10 k q) (k0_pay12 d) := rfl
theorem dol2 : k0_pay32 (k0_pay27 (k0_pay7 k) q) (k0_pay29 d) = k0_pay16 (k0_pay10 k q) (k0_pay12 d) := rfl
theorem dol3 : k0_pay39 (k0_pay34 (k0_pay7 k) q) (k0_pay36 d) = k0_pay16 (k0_pay10 k q) (k0_pay12 d) := rfl
theorem ds1 : k0_pay22 v8 (k0_pay18 (k0_pay7 k) q) (FloatOps.ofBits FTy.f32 1065353216#32) d a p = k0_pay14 v8 (k0_pay10 k q) d (k0_pay13 d a) p := rfl
theorem ds2 : k0_pay30 (k0_pay7 k) v8 q d a p = k0_pay14 v8 (k0_pay10 k q) d (k0_pay13 d a) p := rfl
theorem ds3 : k0_pay37 v8 (k0_pay34 (k0_pay7 k) q) d (k0_pay36 d) a p = k0_pay14 v8 (k0_pay10 k q) d (k0_pay13 d a) p := rfl
theorem dq1 : k0_pay23 k7 p = k0_pay15 k7 p := rfl
theorem dq2 : k0_pay31 k7 p = k0_pay15 k7 p := rfl
theorem dq3 : k0_pay38 k7 p = k0_pay15 k7 p := rfl

end Same

/-- A load of a whole rank-two buffer after stores into it is what the stores leave. -/
theorem covAll {Val : EltTy → Type} [∀ e, Nonempty (Val e)] {sig : RefSig} {κ : Kind} {sp : Space} {a b : Nat} {e : EltTy} (v : View sig κ sp ⟨2, ![a, b]⟩ e)
    (inb : ∀ i, (![0, 0] : Fin 2 → Nat) i + (![a, b] : Fin 2 → Nat) i ≤ (⟨2, ![a, b]⟩ : Shape).size i)
    (L : List (View.Piece Val ⟨2, ![a, b]⟩ e)) :
    v.readCov L (Rect.unit (s := ⟨2, ![a, b]⟩) ![0, 0] ![a, b] inb).toLoadRect = View.canon L := by
  rw [View.readCov_eq_canon']
  exact ld2 inb (View.canon L)

variable (m : (ℓ : Loc nD τ sig) → Buf (Elt F) ℓ) (c : Dev nD)

/-- A point's score gradients times its queries, added to what the point before left. -/
abbrev step3 (acc : FVec F S256x4096 .f32) (t : Fin cfg0.N) : FVec F S256x4096 .f32 :=
  k0_pay1 (k0_pay40 acc (iblk m c 0 t) (View.canon (dsPieces (iblk m c 0 t) (iblk m c 1 t) (iblk m c 2 t) (iblk m c 3 t) (iblk m c 4 t))))

/-- A point's exponentials times its output gradients, added to what the point before left. -/
abbrev step4 (acc : FVec F S128x4096 .f32) (t : Fin cfg0.N) : FVec F S128x4096 .f32 :=
  k0_pay2 acc (View.canon (dolPieces (iblk m c 0 t) (iblk m c 1 t) (iblk m c 3 t))) (View.canon (expoPieces (iblk m c 0 t) (iblk m c 1 t)))

/-- At a head's first point: the query gradients. -/
theorem o5_A (t : Fin cfg0.N) (h0 : t.val % 4 = 0) (h1 : ¬ t.val % 4 = 3) :
    (outsAt0 m c t.val t.isLt).1 = View.canon (dqPieces (iblk m c 0 t) (iblk m c 1 t) (iblk m c 2 t) (iblk m c 3 t) (iblk m c 4 t)) := by
  rw [outsAt0_A m c t h0 h1]
  dsimp only
  unfold out0_A_5
  rw [View.read_writes_eq_canon (h := fun y => cover0_A_5 ..)]
  unfold kernelRun0_A
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a head's first point: the running key gradients. -/
theorem s3_A (t : Fin cfg0.N) (h0 : t.val % 4 = 0) (h1 : ¬ t.val % 4 = 3) :
    (outsAt0 m c t.val t.isLt).2.2.2.1 = step3 m c k0_pay5 t := by
  rw [outsAt0_A m c t h0 h1]
  dsimp only
  unfold sout0_A_3
  rw [View.read_writes_eq_canon (h := fun y => scover0_A_3 ..)]
  unfold kernelRun0_A
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a head's first point: the running value gradients. -/
theorem s4_A (t : Fin cfg0.N) (h0 : t.val % 4 = 0) (h1 : ¬ t.val % 4 = 3) :
    (outsAt0 m c t.val t.isLt).2.2.2.2 = step4 m c k0_pay6 t := by
  rw [outsAt0_A m c t h0 h1]
  dsimp only
  unfold sout0_A_4
  rw [View.read_writes_eq_canon (h := fun y => scover0_A_4 ..)]
  unfold kernelRun0_A
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a middle point: the query gradients. -/
theorem o5_B (t : Fin cfg0.N) (h0 : ¬ t.val % 4 = 0) (h1 : ¬ t.val % 4 = 3) :
    (outsAt0 m c t.val t.isLt).1 = View.canon (dqPieces (iblk m c 0 t) (iblk m c 1 t) (iblk m c 2 t) (iblk m c 3 t) (iblk m c 4 t)) := by
  rw [outsAt0_B m c t h0 h1]
  dsimp only
  unfold out0_B_5
  rw [View.read_writes_eq_canon (h := fun y => cover0_B_5 ..)]
  unfold kernelRun0_B
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a middle point: the running key gradients. -/
theorem s3_B (t : Fin cfg0.N) (h0 : ¬ t.val % 4 = 0) (h1 : ¬ t.val % 4 = 3) :
    (outsAt0 m c t.val t.isLt).2.2.2.1 = step3 m c (outsAt0 m c (t.val - 1) (by omega)).2.2.2.1 t := by
  rw [outsAt0_B m c t h0 h1]
  dsimp only
  unfold sout0_B_3
  rw [View.read_writes_eq_canon (h := fun y => scover0_B_3 ..)]
  unfold kernelRun0_B
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a middle point: the running value gradients. -/
theorem s4_B (t : Fin cfg0.N) (h0 : ¬ t.val % 4 = 0) (h1 : ¬ t.val % 4 = 3) :
    (outsAt0 m c t.val t.isLt).2.2.2.2 = step4 m c (outsAt0 m c (t.val - 1) (by omega)).2.2.2.2 t := by
  rw [outsAt0_B m c t h0 h1]
  dsimp only
  unfold sout0_B_4
  rw [View.read_writes_eq_canon (h := fun y => scover0_B_4 ..)]
  unfold kernelRun0_B
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a head's last point: the query gradients. -/
theorem o5_C (t : Fin cfg0.N) (h0 : ¬ t.val % 4 = 0) (h1 : t.val % 4 = 3) :
    (outsAt0 m c t.val t.isLt).1 = View.canon (dqPieces (iblk m c 0 t) (iblk m c 1 t) (iblk m c 2 t) (iblk m c 3 t) (iblk m c 4 t)) := by
  rw [outsAt0_C m c t h0 h1]
  dsimp only
  unfold out0_C_5
  rw [View.read_writes_eq_canon (h := fun y => cover0_C_5 ..)]
  unfold kernelRun0_C
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a head's last point: the running key gradients. -/
theorem s3_C (t : Fin cfg0.N) (h0 : ¬ t.val % 4 = 0) (h1 : t.val % 4 = 3) :
    (outsAt0 m c t.val t.isLt).2.2.2.1 = step3 m c (outsAt0 m c (t.val - 1) (by omega)).2.2.2.1 t := by
  rw [outsAt0_C m c t h0 h1]
  dsimp only
  unfold sout0_C_3
  rw [View.read_writes_eq_canon (h := fun y => scover0_C_3 ..)]
  unfold kernelRun0_C
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a head's last point: the running value gradients. -/
theorem s4_C (t : Fin cfg0.N) (h0 : ¬ t.val % 4 = 0) (h1 : t.val % 4 = 3) :
    (outsAt0 m c t.val t.isLt).2.2.2.2 = step4 m c (outsAt0 m c (t.val - 1) (by omega)).2.2.2.2 t := by
  rw [outsAt0_C m c t h0 h1]
  dsimp only
  unfold sout0_C_4
  rw [View.read_writes_eq_canon (h := fun y => scover0_C_4 ..)]
  unfold kernelRun0_C
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a head's last point: the key gradients. -/
theorem o6_C (t : Fin cfg0.N) (h0 : ¬ t.val % 4 = 0) (h1 : t.val % 4 = 3) :
    (outsAt0 m c t.val t.isLt).2.1 = k0_pay3 (step3 m c (outsAt0 m c (t.val - 1) (by omega)).2.2.2.1 t) := by
  rw [outsAt0_C m c t h0 h1]
  dsimp only
  unfold out0_C_6
  rw [View.read_writes_eq_canon (h := fun y => cover0_C_6 ..)]
  unfold kernelRun0_C
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

/-- At a head's last point: the value gradients. -/
theorem o7_C (t : Fin cfg0.N) (h0 : ¬ t.val % 4 = 0) (h1 : t.val % 4 = 3) :
    (outsAt0 m c t.val t.isLt).2.2.1 = k0_pay4 (step4 m c (outsAt0 m c (t.val - 1) (by omega)).2.2.2.2 t) := by
  rw [outsAt0_C m c t h0 h1]
  dsimp only
  unfold out0_C_7
  rw [View.read_writes_eq_canon (h := fun y => cover0_C_7 ..)]
  unfold kernelRun0_C
  dsimp only
  sl_unfold_words
  simp only [canon2, canon3, cov2, cov3, View.readAt_eq_ld, ld2, ld3, Memref.IsWhole.read_unread, read_unread_whole,
    View.readCov_cons_toLoadRect, covAll, expo1, expo2, expo3, dol1, dol2, dol3, ds1, ds2, ds3, dq1, dq2, dq3]
  rfl

end Cert.BwdAttnIdeal.Block

end
-- ==== Proof.Softmax.lean ====
/- Softmax over finite real scores, read among the extended reals: a row's maximum, its exponentials and their sum, and that
   the weights depend on neither the maximum subtracted nor the base in which the exponentials are taken. -/
module

public import proofs.«01_k».proof.Proof.Sums
public import Mathlib.Analysis.SpecialFunctions.Pow.Real

@[expose] public section

noncomputable section

open Idealize.ShloMosaic

namespace Cert.Softmax

open Cert.Sums

variable {n : ℕ}

/-- The word the maximum starts from lies below every number. -/
theorem bot_word : (Ideal.ofBits .f32 4286578688#32 : EReal) = ⊥ := by simp [Ideal.ofBits, Ideal.ieee]

/-- The word of one. -/
theorem one_word : (Ideal.ofBits .f32 1065353216#32 : EReal) = ((1 : ℝ) : EReal) := by
  simp [Ideal.ofBits, Ideal.ieee]
  norm_num
  exact_mod_cast (by norm_num : (8388608 : ℝ) * (1 / 8388608) = 1)

/-- The largest score of a row. -/
def top (x : Fin n → ℝ) : ℝ := (Finset.fold max (⊥ : EReal) (fun j => (x j : EReal)) Finset.univ).toReal

/-- The running maximum over a row of finite scores is finite. -/
theorem fold_top [NeZero n] (x : Fin n → ℝ) :
    Finset.fold max (⊥ : EReal) (fun j => (x j : EReal)) Finset.univ = (top x : EReal) := by
  have h : ∃ r : ℝ, Finset.fold max (⊥ : EReal) (fun j => (x j : EReal)) Finset.univ = (r : EReal) := by
    obtain ⟨i, -, hi⟩ := Finset.exists_mem_eq_sup (Finset.univ : Finset (Fin n)) Finset.univ_nonempty (fun j => (x j : EReal))
    exact ⟨x i, hi⟩
  obtain ⟨r, hr⟩ := h
  unfold top
  rw [hr, EReal.toReal_coe]

/-- A row's softmax weights. -/
def weight (x : Fin n → ℝ) (j : Fin n) : ℝ := Real.exp (x j) / ∑ l, Real.exp (x l)

/-- A sum of exponentials is positive. -/
theorem sum_exp_pos [NeZero n] (x : Fin n → ℝ) : 0 < ∑ l, Real.exp (x l) :=
  Finset.sum_pos (fun l _ => Real.exp_pos _) Finset.univ_nonempty

/-- Subtracting one number from every score changes no weight. -/
theorem weight_shift [NeZero n] (x : Fin n → ℝ) (M : ℝ) (j : Fin n) :
    Real.exp (x j - M) / ∑ l, Real.exp (x l - M) = weight x j := by
  unfold weight
  simp only [Real.exp_sub]
  rw [← Finset.sum_div]
  field_simp

/-- A power of two whose exponent carries a factor one over the logarithm of two. -/
theorem rpow_log2 (y s : ℝ) : Real.rpow 2 (y * (s * (Real.log 2)⁻¹)) = Real.exp (y * s) := by
  have h2 : Real.log 2 ≠ 0 := (Real.log_pos (by norm_num)).ne'
  show (2 : ℝ) ^ (y * (s * (Real.log 2)⁻¹)) = _
  rw [Real.rpow_def_of_pos (by norm_num)]
  congr 1
  field_simp

/-- A sum over 256 columns of which the last 64 are filled with zeros. -/
theorem sum_pad (f : Fin 192 → ℝ) : (∑ a : Fin 256, if h : a.val < 192 then f ⟨a.val, h⟩ else 0) = ∑ a : Fin 192, f a := by
  rw [show (Finset.univ : Finset (Fin 256)).sum (fun a => if h : a.val < 192 then f ⟨a.val, h⟩ else 0)
      = ∑ a : Fin (192 + 64), if h : a.val < 192 then f ⟨a.val, h⟩ else 0 from rfl, Fin.sum_univ_add]
  simp

/-- A host maximum over the last of three axes, at an index. -/
theorem reduce_max3 {a b n : ℕ} {u : Shape} (x : FVec Ideal ⟨3, ![a, b, n]⟩ .f32) (init : FVec Ideal u .f32)
    (h : (⟨3, ![a, b, n]⟩ : Shape).ReducesTo [2] ⟨2, ![a, b]⟩) (hu : 0 < u.numel) (i : Fin a) (j : Fin b) :
    Host.reduce (FloatOps.maximumf (F := Ideal) (φ := .f32)) x init h hu (ix2 i j)
      = Finset.fold max (init (Shape.Idx.first hu)) (fun l => x (ix3 i j l)) Finset.univ := by
  pointwise

end Cert.Softmax

end
-- ==== Proof.BwdAttn.Pay.lean ====
/- The attention backward kernel's payloads at an index, over blocks of finite numbers: each as one real number. -/
module

public import proofs.«01_k».proof.Proof.BwdAttn.Block
public import proofs.«01_k».proof.Proof.Softmax
public import Idealize.ShloMosaic.Lib.Pipeline.ValueKit.Tiles

@[expose] public section

set_option maxRecDepth 16384

noncomputable section

open Idealize.ShloMosaic Idealize.ShloMosaic.TcCoe Idealize.SL.Sem

namespace Cert.BwdAttnIdeal.Pay

open Cert.BwdAttnIdeal Cert.BwdAttnIdeal.Gen Cert.Sums Cert.Softmax

/-- The scores' scale. -/
def s : ℝ := (Real.sqrt 192)⁻¹

theorem named_scale : (Named.named κ "scale" (F := Ideal) (φ := .f32) 1033096506#32 : EReal) = (s : EReal) := rfl

theorem named_log2 : (Named.named κ "scale_log2_e" (F := Ideal) (φ := .f32) 1037384597#32 : EReal) = ((s * (Real.log 2)⁻¹ : ℝ) : EReal) := rfl

/-- A query row's products with the keys. -/
def score (q : Fin 256 → ℝ) (k : Fin 4096 → Fin 256 → ℝ) (j : Fin 4096) : ℝ := ∑ a, q a * k j a

/-- The row's exponentials, its largest score subtracted. -/
def ex (q : Fin 256 → ℝ) (k : Fin 4096 → Fin 256 → ℝ) (j : Fin 4096) : ℝ := Real.exp ((score q k j - top (score q k)) * s)

/-- One over the row's sum of exponentials. -/
def il (q : Fin 256 → ℝ) (k : Fin 4096 → Fin 256 → ℝ) : ℝ := 1 / ∑ j, ex q k j

/-- The row's score gradients: `d` its output gradient, `a` its output. -/
def dsc (q : Fin 256 → ℝ) (k : Fin 4096 → Fin 256 → ℝ) (v : Fin 4096 → Fin 128 → ℝ) (d a : Fin 128 → ℝ) (j : Fin 4096) : ℝ :=
  ex q k j * ((∑ x, d x * v j x - ∑ x, d x * a x) * il q k)

section Rows

variable {k : FVec Ideal S1x4096x256 .bf16} {q : FVec Ideal S1x256x256 .bf16} {v : FVec Ideal S1x4096x128 .bf16}
variable {d : FVec Ideal S256x128 .bf16} {a : FVec Ideal S256x128 .f32} {p : FVec Ideal S256x4096 .bf16}
variable {Q : Fin 256 → Fin 256 → ℝ} {K : Fin 4096 → Fin 256 → ℝ} {V : Fin 4096 → Fin 128 → ℝ} {D A : Fin 256 → Fin 128 → ℝ}
variable (hq : ∀ r x, q (ix3 0 r x) = (Q r x : EReal)) (hk : ∀ j x, k (ix3 0 j x) = (K j x : EReal))
variable (hv : ∀ j x, v (ix3 0 j x) = (V j x : EReal)) (hd : ∀ r x, d (ix2 r x) = (D r x : EReal))
variable (ha : ∀ r x, a (ix2 r x) = (A r x : EReal))

/-- A power of two with the named exponent factor. -/
theorem exp2_named (y : ℝ) : (FloatOps.exp2 (F := Ideal) (φ := .f32) ((y * (s * (Real.log 2)⁻¹) : ℝ) : EReal) : EReal) = (Real.exp (y * s) : EReal) := by
  show Ideal.exp2 _ = _
  rw [Ideal.exp2_coe, rpow_log2]

/-- A sum of exponentials of a row is positive. -/
theorem ex_pos (q : Fin 256 → ℝ) (k : Fin 4096 → Fin 256 → ℝ) : 0 < ∑ j, ex q k j :=
  Finset.sum_pos (fun _ _ => Real.exp_pos _) Finset.univ_nonempty

include hq hk in
theorem pay11 (r : Fin 256) (j : Fin 4096) : k0_pay11 (F := Ideal) k q (ix2 r j) = (ex (Q r) K j : EReal) := by
  pointwise [k0_pay11, k0_pay9, k0_pay7]
  simp only [hq, hk, ← EReal.coe_mul, coe_sum, bot_word, fold_top, ← EReal.coe_sub, named_log2, exp2_named]
  rfl

include hq hk in
theorem pay10 (r : Fin 256) : k0_pay10 (F := Ideal) k q (ix2 r 0) = (il (Q r) K : EReal) := by
  pointwise [k0_pay10, k0_pay9, k0_pay7]
  simp only [hq, hk, ← EReal.coe_mul, coe_sum, bot_word, fold_top, ← EReal.coe_sub, named_log2, exp2_named]
  rw [← EReal.coe_one]
  exact (Ideal.div_coe (ex_pos (Q r) K).ne' _).trans (by rw [← EReal.coe_mul, one_mul]; rfl)

include hq hk hv hd ha in
theorem pay14 (r : Fin 256) (j : Fin 4096) :
    k0_pay14 (F := Ideal) (k0_pay8 v) (k0_pay10 (F := Ideal) k q) d (k0_pay13 d a) (k0_pay11 (F := Ideal) k q) (ix2 r j) = (dsc (Q r) K V (D r) (A r) j : EReal) := by
  have h13 : k0_pay13 (F := Ideal) d a (ix2 r 0) = ((∑ x, D r x * A r x : ℝ) : EReal) := by
    pointwise [k0_pay13, k0_pay12]
    simp only [hd, ha, ← EReal.coe_mul, coe_sum]
  pointwise [k0_pay14, k0_pay8]
  simp only [h13, pay10 hq hk, pay11 hq hk, hd, hv, ← EReal.coe_mul, coe_sum, ← EReal.coe_sub]
  rfl

include hk in
theorem pay15 {P : Fin 256 → Fin 4096 → ℝ} (hp : ∀ r j, p (ix2 r j) = (P r j : EReal)) (r : Fin 256) (x : Fin 256) :
    k0_pay15 (F := Ideal) (k0_pay7 k) p (ix3 0 r x) = (((∑ j, P r j * K j x) * s : ℝ) : EReal) := by
  pointwise [k0_pay15, k0_pay7]
  simp only [hp, hk, ← EReal.coe_mul, coe_sum, named_scale]

include hq hk hd in
theorem pay16 (r : Fin 256) (x : Fin 128) :
    k0_pay16 (F := Ideal) (k0_pay10 k q) (k0_pay12 d) (ix2 r x) = ((D r x * il (Q r) K : ℝ) : EReal) := by
  pointwise [k0_pay16, k0_pay12]
  simp only [pay10 hq hk, hd, ← EReal.coe_mul]

end Rows

section Points

variable {k : FVec Ideal S1x4096x256 .bf16} {q : FVec Ideal S1x1024x256 .bf16} {v : FVec Ideal S1x4096x128 .bf16}
variable {d : FVec Ideal S1024x128 .bf16} {a : FVec Ideal S1024x128 .f32}
variable {Q : Fin 1024 → Fin 256 → ℝ} {K : Fin 4096 → Fin 256 → ℝ} {V : Fin 4096 → Fin 128 → ℝ} {D A : Fin 1024 → Fin 128 → ℝ}
variable (hq : ∀ r x, q (ix3 0 r x) = (Q r x : EReal)) (hk : ∀ j x, k (ix3 0 j x) = (K j x : EReal))
variable (hv : ∀ j x, v (ix3 0 j x) = (V j x : EReal)) (hd : ∀ r x, d (ix2 r x) = (D r x : EReal))
variable (ha : ∀ r x, a (ix2 r x) = (A r x : EReal))

section Stretch

variable (o : Nat) (h : o + 256 ≤ 1024)

include hq in
theorem rowsQ_at (r x : Fin 256) : Block.rowsQ (F := Ideal) o h q (ix3 0 r x) = (Q ⟨o + r.val, by omega⟩ x : EReal) := by
  rw [← hq]
  refine View.ld_unit_apply_of (Val := Elt Ideal) (e := .bf16) q _ _ _ _ _ fun b => ?_
  match b with
  | ⟨0, _⟩ => rfl
  | ⟨1, _⟩ => rfl
  | ⟨2, _⟩ => exact (Nat.zero_add _).symm

include hd in
theorem rowsD_at (r : Fin 256) (x : Fin 128) : Block.rowsD (F := Ideal) o h d (ix2 r x) = (D ⟨o + r.val, by omega⟩ x : EReal) := by
  rw [← hd]
  refine View.ld_unit_apply_of (Val := Elt Ideal) (e := .bf16) d _ _ _ _ _ fun b => ?_
  match b with
  | ⟨0, _⟩ => rfl
  | ⟨1, _⟩ => exact (Nat.zero_add _).symm

include ha in
theorem rowsA_at (r : Fin 256) (x : Fin 128) : Block.rowsA (F := Ideal) o h a (ix2 r x) = (A ⟨o + r.val, by omega⟩ x : EReal) := by
  rw [← ha]
  refine View.ld_unit_apply_of (Val := Elt Ideal) (e := .f32) a _ _ _ _ _ fun b => ?_
  match b with
  | ⟨0, _⟩ => rfl
  | ⟨1, _⟩ => exact (Nat.zero_add _).symm

end Stretch

/-- The point's exponentials. -/
def exAll (Q : Fin 1024 → Fin 256 → ℝ) (K : Fin 4096 → Fin 256 → ℝ) : S1024x4096.Idx → EReal := fun i => (ex (Q (i 0)) K (i 1) : EReal)

/-- The point's output gradients over the rows' sums. -/
def dolAll (Q : Fin 1024 → Fin 256 → ℝ) (K : Fin 4096 → Fin 256 → ℝ) (D : Fin 1024 → Fin 128 → ℝ) : S1024x128.Idx → EReal :=
  fun i => ((D (i 0) (i 1) * il (Q (i 0)) K : ℝ) : EReal)

/-- The point's score gradients. -/
def dsAll (Q : Fin 1024 → Fin 256 → ℝ) (K : Fin 4096 → Fin 256 → ℝ) (V : Fin 4096 → Fin 128 → ℝ) (D A : Fin 1024 → Fin 128 → ℝ) :
    S1024x4096.Idx → EReal := fun i => (dsc (Q (i 0)) K V (D (i 0)) (A (i 0)) (i 1) : EReal)

/-- The point's query gradients. -/
def dqAll (Q : Fin 1024 → Fin 256 → ℝ) (K : Fin 4096 → Fin 256 → ℝ) (V : Fin 4096 → Fin 128 → ℝ) (D A : Fin 1024 → Fin 128 → ℝ) :
    S1x1024x256.Idx → EReal := fun i => (((∑ j, dsc (Q (i 1)) K V (D (i 1)) (A (i 1)) j * K j (i 2)) * s : ℝ) : EReal)

/-- Where a stretch's element of a buffer with one column per key lies. -/
theorem embP (o : Nat) (h : o + 256 ≤ 1024) (r : Fin 256) (j : Fin 4096) :
    (Rect.unit (s := S1024x4096) ![o, 0] ![256, 4096] (Block.inbP o h)).emb (ix2 r j) = ix2 ⟨o + r.val, by omega⟩ j := by
  funext b
  apply Fin.ext
  match b with
  | ⟨0, _⟩ => show o + 1 * r.val = o + r.val; omega
  | ⟨1, _⟩ => show 0 + 1 * j.val = j.val; omega

/-- The same of a buffer with 128 columns. -/
theorem embD (o : Nat) (h : o + 256 ≤ 1024) (r : Fin 256) (x : Fin 128) :
    (Rect.unit (s := S1024x128) ![o, 0] ![256, 128] (Block.inbD o h)).emb (ix2 r x) = ix2 ⟨o + r.val, by omega⟩ x := by
  funext b
  apply Fin.ext
  match b with
  | ⟨0, _⟩ => show o + 1 * r.val = o + r.val; omega
  | ⟨1, _⟩ => show 0 + 1 * x.val = x.val; omega

/-- The same of the block of query gradients. -/
theorem embQ (o : Nat) (h : o + 256 ≤ 1024) (r : Fin 256) (x : Fin 256) :
    (Rect.unit (s := S1x1024x256) ![0, o, 0] ![1, 256, 256] (Block.inbQ o h)).emb (ix3 0 r x) = ix3 0 ⟨o + r.val, by omega⟩ x := by
  funext b
  apply Fin.ext
  match b with
  | ⟨0, _⟩ => rfl
  | ⟨1, _⟩ => show o + 1 * r.val = o + r.val; omega
  | ⟨2, _⟩ => show 0 + 1 * x.val = x.val; omega

include hq hk in
theorem expo_at (o : Nat) (h : o + 256 ≤ 1024) (x : S256x4096.Idx) :
    Block.expo (F := Ideal) q k o h x = exAll Q K ((Rect.unit (s := S1024x4096) ![o, 0] ![256, 4096] (Block.inbP o h)).emb x) := by
  idx_vars x
  rw [embP o h]
  exact pay11 (rowsQ_at hq o h) hk _ _

include hq hk hd in
theorem dol_at (o : Nat) (h : o + 256 ≤ 1024) (x : S256x128.Idx) :
    Block.dol (F := Ideal) q k d o h x = dolAll Q K D ((Rect.unit (s := S1024x128) ![o, 0] ![256, 128] (Block.inbD o h)).emb x) := by
  idx_vars x
  rw [embD o h]
  exact pay16 (rowsQ_at hq o h) hk (rowsD_at hd o h) _ _

include hq hk hv hd ha in
theorem ds_at (o : Nat) (h : o + 256 ≤ 1024) (x : S256x4096.Idx) :
    Block.ds (F := Ideal) q k v d a o h x = dsAll Q K V D A ((Rect.unit (s := S1024x4096) ![o, 0] ![256, 4096] (Block.inbP o h)).emb x) := by
  idx_vars x
  rw [embP o h]
  exact pay14 (rowsQ_at hq o h) hk hv (rowsD_at hd o h) (rowsA_at ha o h) _ _

include hq hk hv hd ha in
theorem dq_at (o : Nat) (h : o + 256 ≤ 1024) (x : S1x256x256.Idx) :
    Block.dq (F := Ideal) q k v d a o h x = dqAll Q K V D A ((Rect.unit (s := S1x1024x256) ![0, o, 0] ![1, 256, 256] (Block.inbQ o h)).emb x) := by
  idx_vars x
  obtain rfl : x0 = 0 := Subsingleton.elim _ _
  rw [embQ o h]
  refine pay15 (P := fun r j => dsc (Q ⟨o + r.val, by omega⟩) K V (D ⟨o + r.val, by omega⟩) (A ⟨o + r.val, by omega⟩) j) hk (fun r j => ?_) _ _
  exact (ds_at hq hk hv hd ha o h (ix2 r j)).trans (by rw [embP o h]; rfl)

/-- Some stretch holds a row of 1024. -/
theorem stretch (r : Fin 1024) : (768 ≤ r.val ∧ r.val < 1024) ∨ (512 ≤ r.val ∧ r.val < 768) ∨ (256 ≤ r.val ∧ r.val < 512) ∨ (0 ≤ r.val ∧ r.val < 256) := by
  omega

/-- A row of a stretch lies in the stretch's rectangle. -/
theorem memP (o : Nat) (h : o + 256 ≤ 1024) (y : S1024x4096.Idx) (h1 : o ≤ (y 0).val) (h2 : (y 0).val < o + 256) :
    y ∈ (Rect.unit (s := S1024x4096) ![o, 0] ![256, 4096] (Block.inbP o h)).set := by
  rw [Rect.mem_set_unit]
  intro b
  match b with
  | ⟨0, _⟩ => exact ⟨h1, h2⟩
  | ⟨1, _⟩ => exact ⟨Nat.zero_le _, by have := (y 1).isLt; simpa using this⟩

/-- The same of a buffer with 128 columns. -/
theorem memD (o : Nat) (h : o + 256 ≤ 1024) (y : S1024x128.Idx) (h1 : o ≤ (y 0).val) (h2 : (y 0).val < o + 256) :
    y ∈ (Rect.unit (s := S1024x128) ![o, 0] ![256, 128] (Block.inbD o h)).set := by
  rw [Rect.mem_set_unit]
  intro b
  match b with
  | ⟨0, _⟩ => exact ⟨h1, h2⟩
  | ⟨1, _⟩ => exact ⟨Nat.zero_le _, by have := (y 1).isLt; simpa using this⟩

/-- The same of the block of query gradients. -/
theorem memQ (o : Nat) (h : o + 256 ≤ 1024) (y : S1x1024x256.Idx) (h1 : o ≤ (y 1).val) (h2 : (y 1).val < o + 256) :
    y ∈ (Rect.unit (s := S1x1024x256) ![0, o, 0] ![1, 256, 256] (Block.inbQ o h)).set := by
  rw [Rect.mem_set_unit]
  intro b
  match b with
  | ⟨0, _⟩ => exact ⟨Nat.zero_le _, by have := (y 0).isLt; simpa using this⟩
  | ⟨1, _⟩ => exact ⟨h1, h2⟩
  | ⟨2, _⟩ => exact ⟨Nat.zero_le _, by have := (y 2).isLt; simpa using this⟩

include hq hk in
/-- The buffer of exponentials. -/
theorem canon_expo : View.canon (Block.expoPieces (F := Ideal) q k) = exAll Q K := by
  funext y
  refine View.canon_apply_of_pieces (Val := Elt Ideal) _ _ (fun p hp x => ?_) y ?_
  · simp only [Block.expoPieces, List.mem_cons, List.not_mem_nil, or_false] at hp
    rcases hp with rfl | rfl | rfl | rfl <;> exact expo_at hq hk _ _ x
  · rcases stretch (y 0) with h | h | h | h
    · exact ⟨_, .head _, memP 768 (by omega) y h.1 h.2⟩
    · exact ⟨_, .tail _ (.head _), memP 512 (by omega) y h.1 h.2⟩
    · exact ⟨_, .tail _ (.tail _ (.head _)), memP 256 (by omega) y h.1 h.2⟩
    · exact ⟨_, .tail _ (.tail _ (.tail _ (.head _))), memP 0 (by omega) y h.1 h.2⟩

include hq hk hd in
/-- The buffer of output gradients. -/
theorem canon_dol : View.canon (Block.dolPieces (F := Ideal) q k d) = dolAll Q K D := by
  funext y
  refine View.canon_apply_of_pieces (Val := Elt Ideal) _ _ (fun p hp x => ?_) y ?_
  · simp only [Block.dolPieces, List.mem_cons, List.not_mem_nil, or_false] at hp
    rcases hp with rfl | rfl | rfl | rfl <;> exact dol_at hq hk hd _ _ x
  · rcases stretch (y 0) with h | h | h | h
    · exact ⟨_, .head _, memD 768 (by omega) y h.1 h.2⟩
    · exact ⟨_, .tail _ (.head _), memD 512 (by omega) y h.1 h.2⟩
    · exact ⟨_, .tail _ (.tail _ (.head _)), memD 256 (by omega) y h.1 h.2⟩
    · exact ⟨_, .tail _ (.tail _ (.tail _ (.head _))), memD 0 (by omega) y h.1 h.2⟩

include hq hk hv hd ha in
/-- The buffer of score gradients. -/
theorem canon_ds : View.canon (Block.dsPieces (F := Ideal) q k v d a) = dsAll Q K V D A := by
  funext y
  refine View.canon_apply_of_pieces (Val := Elt Ideal) _ _ (fun p hp x => ?_) y ?_
  · simp only [Block.dsPieces, List.mem_cons, List.not_mem_nil, or_false] at hp
    rcases hp with rfl | rfl | rfl | rfl <;> exact ds_at hq hk hv hd ha _ _ x
  · rcases stretch (y 0) with h | h | h | h
    · exact ⟨_, .head _, memP 768 (by omega) y h.1 h.2⟩
    · exact ⟨_, .tail _ (.head _), memP 512 (by omega) y h.1 h.2⟩
    · exact ⟨_, .tail _ (.tail _ (.head _)), memP 256 (by omega) y h.1 h.2⟩
    · exact ⟨_, .tail _ (.tail _ (.tail _ (.head _))), memP 0 (by omega) y h.1 h.2⟩

include hq hk hv hd ha in
/-- The block of query gradients. -/
theorem canon_dq : View.canon (Block.dqPieces (F := Ideal) q k v d a) = dqAll Q K V D A := by
  funext y
  refine View.canon_apply_of_pieces (Val := Elt Ideal) _ _ (fun p hp x => ?_) y ?_
  · simp only [Block.dqPieces, List.mem_cons, List.not_mem_nil, or_false] at hp
    rcases hp with rfl | rfl | rfl | rfl <;> exact dq_at hq hk hv hd ha _ _ x
  · rcases stretch (y 1) with h | h | h | h
    · exact ⟨_, .head _, memQ 768 (by omega) y h.1 h.2⟩
    · exact ⟨_, .tail _ (.head _), memQ 512 (by omega) y h.1 h.2⟩
    · exact ⟨_, .tail _ (.tail _ (.head _)), memQ 256 (by omega) y h.1 h.2⟩
    · exact ⟨_, .tail _ (.tail _ (.tail _ (.head _))), memQ 0 (by omega) y h.1 h.2⟩

include hq hk hv hd ha in
/-- One point's addition to the running key gradients. -/
theorem key_step (acc : FVec Ideal S256x4096 .f32) (x : Fin 256) (j : Fin 4096) :
    k0_pay1 (F := Ideal) (k0_pay40 acc q (View.canon (Block.dsPieces (F := Ideal) q k v d a))) (ix2 x j)
      = acc (ix2 x j) + ((∑ r, Q r x * dsc (Q r) K V (D r) (A r) j : ℝ) : EReal) := by
  rw [canon_ds hq hk hv hd ha]
  pointwise [k0_pay1, k0_pay40]
  simp only [hq, dsAll, ← EReal.coe_mul, coe_sum]
  rfl

include hq hk hd in
/-- One point's addition to the running value gradients. -/
theorem value_step (acc : FVec Ideal S128x4096 .f32) (x : Fin 128) (j : Fin 4096) :
    k0_pay2 (F := Ideal) acc (View.canon (Block.dolPieces (F := Ideal) q k d)) (View.canon (Block.expoPieces (F := Ideal) q k)) (ix2 x j)
      = acc (ix2 x j) + ((∑ r, D r x * il (Q r) K * ex (Q r) K j : ℝ) : EReal) := by
  rw [canon_dol hq hk hd, canon_expo hq hk]
  pointwise [k0_pay2]
  simp only [exAll, dolAll, ← EReal.coe_mul, coe_sum]
  rfl

end Points

theorem pay3 (acc : FVec Ideal S256x4096 .f32) (j : Fin 4096) (x : Fin 256) :
    k0_pay3 (F := Ideal) acc (ix3 0 j x) = acc (ix2 x j) * (s : EReal) := by
  pointwise [k0_pay3]
  rfl

theorem pay4 (acc : FVec Ideal S128x4096 .f32) (j : Fin 4096) (x : Fin 128) :
    k0_pay4 (F := Ideal) acc (ix3 0 j x) = acc (ix2 x j) := by
  pointwise [k0_pay4]

theorem pay5 (x : Fin 256) (j : Fin 4096) : k0_pay5 (F := Ideal) (ix2 x j) = 0 := by
  pointwise [k0_pay5]

theorem pay6 (x : Fin 128) (j : Fin 4096) : k0_pay6 (F := Ideal) (ix2 x j) = 0 := by
  pointwise [k0_pay6]

end Cert.BwdAttnIdeal.Pay

end
-- ==== Proof.BwdAttn.Ref.lean ====
/- The attention gradients' reference at an index, over finite arguments: each line as one real number. -/
module

public import proofs.«01_k».proof.Proof.Gen.AttnVjpIdeal.Read
public import proofs.«01_k».proof.Proof.Softmax
public import Idealize.ShloMosaic.Lib.Tactic

@[expose] public section

set_option maxRecDepth 16384

noncomputable section

open Idealize.ShloMosaic Idealize.ShloMosaic.TcCoe Idealize.SL.Sem

namespace Cert.AttnVjpIdeal.At

open Cert.AttnVjpIdeal Cert.AttnVjpIdeal.Read Cert.Sums Cert.Softmax

/-- The root the scores are divided by. -/
theorem root_word : Ideal.sqrt (Ideal.ofBits .f32 1128267776#32) = ((Real.sqrt 192 : ℝ) : EReal) := by
  have h : (Ideal.ofBits .f32 1128267776#32 : EReal) = ((192 : ℝ) : EReal) := by
    simp [Ideal.ofBits, Ideal.ieee]
    norm_num
    exact_mod_cast (by norm_num : (12582912 : ℝ) * (1 / 65536) = 192)
  rw [h, Ideal.sqrt_coe, if_neg (by norm_num)]

theorem root_pos : 0 < Real.sqrt 192 := Real.sqrt_pos.mpr (by norm_num)

/-- The scores. -/
def sc (Q K : Fin 4 → Fin 4096 → Fin 192 → ℝ) (h : Fin 4) (i j : Fin 4096) : ℝ := (∑ a, Q h i a * K h j a) * (1 / Real.sqrt 192)

/-- The weights' gradients. -/
def dw (V : Fin 4 → Fin 4096 → Fin 128 → ℝ) (D : Fin 4096 → Fin 512 → ℝ) (h : Fin 4) (i j : Fin 4096) : ℝ :=
  ∑ x : Fin 128, D i ⟨h.val * 128 + x.val, by omega⟩ * V h j x

/-- The scores' gradients. -/
def dscore (Q K : Fin 4 → Fin 4096 → Fin 192 → ℝ) (V : Fin 4 → Fin 4096 → Fin 128 → ℝ) (D : Fin 4096 → Fin 512 → ℝ) (h : Fin 4) (i j : Fin 4096) : ℝ :=
  weight (sc Q K h i) j * (dw V D h i j - ∑ l, dw V D h i l * weight (sc Q K h i) l)

variable {q k : FVec Ideal S4096x4x192 .bf16} {v : FVec Ideal S4096x4x128 .bf16} {d : FVec Ideal S4096x512 .bf16}
variable {Q K : Fin 4 → Fin 4096 → Fin 192 → ℝ} {V : Fin 4 → Fin 4096 → Fin 128 → ℝ} {D : Fin 4096 → Fin 512 → ℝ}
variable (hq : ∀ i h a, q (ix3 i h a) = (Q h i a : EReal)) (hk : ∀ i h a, k (ix3 i h a) = (K h i a : EReal))
variable (hv : ∀ i h a, v (ix3 i h a) = (V h i a : EReal)) (hd : ∀ i a, d (ix2 i a) = (D i a : EReal))
variable (h : Fin 4) (i j : Fin 4096)

include hq hk in
theorem v6 : val_main_v6 (F := Ideal) q k (ix3 h i j) = (sc Q K h i j : EReal) := by
  pointwise [val_main_v6, val_main_v5, val_main_v4, val_main_cst, val_main_v3, val_main_v0, val_main_v1]
  simp only [hq, hk, ← EReal.coe_mul, coe_sum]
  rw [root_word]
  exact Ideal.div_coe root_pos.ne' _

include hq hk in
theorem v14 : val_main_v14 (F := Ideal) q k (ix2 h i) = (top (sc Q K h i) : EReal) := by
  have h7 : val_main_v7 (F := Ideal) q k (ix2 h i) = (top (sc Q K h i) : EReal) := by
    refine (reduce_max3 (val_main_v6 (F := Ideal) q k) (val_main_cst_0 (F := Ideal)) _ _ h i).trans ?_
    simp only [v6 hq hk]
    rw [show val_main_cst_0 (F := Ideal) _ = (⊥ : EReal) from bot_word, fold_top]
  rw [val_main_v14_apply, h7]
  pointwise [val_main_v13, val_main_cst_2]
  rw [bot_word]
  exact max_eq_right bot_le

/-- A score's exponential, the largest score of its row subtracted. -/
def e (Q K : Fin 4 → Fin 4096 → Fin 192 → ℝ) (h : Fin 4) (i j : Fin 4096) : ℝ := Real.exp (sc Q K h i j - top (sc Q K h i))

/-- A row's sum of exponentials. -/
def es (Q K : Fin 4 → Fin 4096 → Fin 192 → ℝ) (h : Fin 4) (i : Fin 4096) : ℝ := ∑ j, e Q K h i j

theorem es_pos : 0 < es Q K h i := Finset.sum_pos (fun _ _ => Real.exp_pos _) Finset.univ_nonempty

theorem weight_eq : e Q K h i j / es Q K h i = weight (sc Q K h i) j := weight_shift _ _ _

include hq hk in
theorem v27 : val_main_v27 (F := Ideal) q k (ix3 h i j) = (e Q K h i j : EReal) := by
  pointwise [val_main_v27, val_main_v26, val_main_v25, val_main_v24]
  rw [v6 hq hk, v14 hq hk, ← EReal.coe_sub]
  rfl

include hq hk in
theorem v28 : val_main_v28 (F := Ideal) q k (ix2 h i) = (es Q K h i : EReal) := by
  pointwise [val_main_v28, val_main_cst_8]
  simp only [v27 hq hk, coe_sum]
  rfl

include hq hk in
theorem v31 : val_main_v31 (F := Ideal) q k (ix3 h i j) = (weight (sc Q K h i) j : EReal) := by
  pointwise [val_main_v31, val_main_v30, val_main_v29]
  rw [v27 hq hk, v28 hq hk, Ideal.div_coe (es_pos h i).ne', ← EReal.coe_mul, ← weight_eq, mul_one_div]

include hq hk in
theorem v34 : val_main_v34 (F := Ideal) q k (ix3 h i 0) = ((1 / (es Q K h i * es Q K h i) : ℝ) : EReal) := by
  pointwise [val_main_v34, val_main_v33, val_main_v32, val_main_cst_9, val_main_v29]
  rw [v28 hq hk, ← EReal.coe_mul, Ideal.div_coe (mul_pos (es_pos h i) (es_pos h i)).ne', one_mul]

include hv hd in
theorem v40 : val_main_v40 (F := Ideal) v d (ix3 h i j) = (dw V D h i j : EReal) := by
  pointwise [val_main_v40, val_main_v39, val_main_v38, val_main_v37, val_main_v2]
  simp only [hv, hd, ← EReal.coe_mul, coe_sum]
  rfl

include hq hk hv hd in
theorem v51 : val_main_v51 (F := Ideal) q k v d (ix2 h i)
    = ((-∑ l, dw V D h i l * (1 / (es Q K h i * es Q K h i)) * e Q K h i l : ℝ) : EReal) := by
  pointwise [val_main_v51, val_main_v48, val_main_v47, val_main_v46, val_main_v45, val_main_v44, val_main_v43, val_main_cst_10, val_main_cst_11]
  simp only [v40 hv hd, v34 hq hk, v27 hq hk, ← EReal.coe_mul, coe_sum, ← EReal.coe_neg]
  simp

include hq hk hv hd in
theorem v56 : val_main_v56 (F := Ideal) q k v d (ix3 h i j) = ((dscore Q K V D h i j * (1 / Real.sqrt 192) : ℝ) : EReal) := by
  pointwise [val_main_v56, val_main_v55, val_main_v4, val_main_cst, val_main_v54, val_main_v53, val_main_v52, val_main_v50, val_main_v49, val_main_v29]
  rw [v40 hv hd, v28 hq hk, v51 hq hk hv hd, v27 hq hk, root_word, Ideal.div_coe root_pos.ne', Ideal.div_coe (es_pos h i).ne']
  simp only [← EReal.coe_mul, ← EReal.coe_add]
  congr 2
  unfold dscore
  have hs : ∑ l, dw V D h i l * (1 / (es Q K h i * es Q K h i)) * e Q K h i l
      = (∑ l, dw V D h i l * weight (sc Q K h i) l) * (1 / es Q K h i) := by
    rw [Finset.sum_mul]
    refine Finset.sum_congr rfl fun l _ => ?_
    rw [← weight_eq]
    have := (es_pos (Q := Q) (K := K) h i).ne'
    field_simp
  rw [hs, ← weight_eq]
  ring

/-- The forward pass's output. -/
def out (Q K : Fin 4 → Fin 4096 → Fin 192 → ℝ) (V : Fin 4 → Fin 4096 → Fin 128 → ℝ) (h : Fin 4) (i : Fin 4096) (x : Fin 128) : ℝ :=
  ∑ j, V h j x * weight (sc Q K h i) j

include hq hk hv in
theorem v36 (x : Fin 128) : val_main_v36 (F := Ideal) q k v (ix3 i h x) = (out Q K V h i x : EReal) := by
  pointwise [val_main_v36, val_main_v35, val_main_v2]
  simp only [v31 hq hk, hv, ← EReal.coe_mul, coe_sum]
  rfl

/-- The number the columns are filled up with. -/
theorem fill_word : (FloatOps.sitofp (F := Ideal) .f32 (val_main_c (F := Ideal) (Shape.Idx.first Gen.h_S_)) : EReal) = ((0 : ℝ) : EReal) := by
  show (((0#32 : BitVec 32).toInt : ℝ) : EReal) = ((0 : ℝ) : EReal)
  simp

include hq hk hv hd in
/-- The query gradients, filled up to 256 columns. -/
theorem v62 (a : Fin 256) : val_main_v62 (F := Ideal) q k v d (ix3 h i a)
    = ((if ha : a.val < 192 then ∑ j, dscore Q K V D h i j * (1 / Real.sqrt 192) * K h j ⟨a.val, ha⟩ else 0 : ℝ) : EReal) := by
  pointwise [val_main_v62, val_main_v61, val_main_v60, val_main_v59, val_main_call0_v0, val_main_v1]
  split
  · simp only [v56 hq hk hv hd, hk, ← EReal.coe_mul, coe_sum]
  · exact fill_word

include hq hk hv hd in
/-- The key gradients, filled up to 256 columns. -/
theorem v64 (a : Fin 256) : val_main_v64 (F := Ideal) q k v d (ix3 h i a)
    = ((if ha : a.val < 192 then ∑ j, dscore Q K V D h j i * (1 / Real.sqrt 192) * Q h j ⟨a.val, ha⟩ else 0 : ℝ) : EReal) := by
  pointwise [val_main_v64, val_main_v63, val_main_v58, val_main_v57, val_main_call1_v0, val_main_v0]
  split
  · simp only [v56 hq hk hv hd, hq, ← EReal.coe_mul, coe_sum]
  · exact fill_word

include hq hk hd in
/-- The value gradients. -/
theorem v65 (a : Fin 128) : val_main_v65 (F := Ideal) q k d (ix3 h i a)
    = ((∑ j, D j ⟨h.val * 128 + a.val, by omega⟩ * weight (sc Q K h j) i : ℝ) : EReal) := by
  pointwise [val_main_v65, val_main_v42, val_main_v41, val_main_v39, val_main_v38, val_main_v37]
  simp only [v31 hq hk, hd, ← EReal.coe_mul, coe_sum]

end Cert.AttnVjpIdeal.At

end
-- ==== Proof.BwdAttn.Host.lean ====
/- The buffers the attention backward kernel's host lines prepare, at an index: queries and keys head by head with 64 zero
   columns appended, values head by head, and the forward pass's output. -/
module

public import proofs.«01_k».proof.Proof.Gen.BwdAttnIdeal.Value
public import proofs.«01_k».proof.Proof.BwdAttn.Ref
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.BwdAttnIdeal.Host

open Cert.BwdAttnIdeal Cert.BwdAttnIdeal.Gen Cert.Sums Cert.Softmax

variable (m : (ℓ : Loc nD τ sig) → Buf (Elt Ideal) ℓ) (c : Dev nD)

/-- The query argument. -/
abbrev argQ : FVec Ideal S4096x4x192 .bf16 := m (c.tc.loc main_arg0)
/-- The key argument. -/
abbrev argK : FVec Ideal S4096x4x192 .bf16 := m (c.tc.loc main_arg1)
/-- The value argument. -/
abbrev argV : FVec Ideal S4096x4x128 .bf16 := m (c.tc.loc main_arg2)

theorem hostQ (h : Fin 4) (r : Fin 4096) (x : Fin 256) :
    (V m c main_v24 : FVec Ideal S4x4096x256 .bf16) (ix3 h r x) = (if hx : x.val < 192 then argQ m c (ix3 r h ⟨x.val, hx⟩) else ((0 : ℝ) : EReal)) := by
  unfold V
  after_reads_at
  split
  · rfl
  · exact Cert.AttnVjpIdeal.At.fill_word

theorem hostK (h : Fin 4) (r : Fin 4096) (x : Fin 256) :
    (V m c main_v28 : FVec Ideal S4x4096x256 .bf16) (ix3 h r x) = (if hx : x.val < 192 then argK m c (ix3 r h ⟨x.val, hx⟩) else ((0 : ℝ) : EReal)) := by
  unfold V
  after_reads_at
  split
  · rfl
  · exact Cert.AttnVjpIdeal.At.fill_word

theorem hostV (h : Fin 4) (r : Fin 4096) (x : Fin 128) :
    (V m c main_v29 : FVec Ideal S4x4096x128 .bf16) (ix3 h r x) = argV m c (ix3 r h x) := by
  unfold V
  after_reads_at

theorem hostO :
    (V m c main_v20 : FVec Ideal S4096x512 .f32) = shapeCast S4096x512 (Cert.AttnVjpIdeal.Read.val_main_v36 (F := Ideal) (argQ m c) (argK m c) (argV m c)) shapeCasts_S4096x4x128_S4096x512 := by
  unfold V
  after_reads_simp
  try simp -implicitDefEqProofs only [StableHlo.TRef.toBuf, StableHlo.TRef.ofBuf, cast_cast, cast_eq]
  rfl

/-- A row of queries or keys, 64 zero columns appended. -/
def wide (Q : Fin 4 → Fin 4096 → Fin 192 → ℝ) (h : Fin 4) (i : Fin 4096) (x : Fin 256) : ℝ := if hx : x.val < 192 then Q h i ⟨x.val, hx⟩ else 0

variable {m c}
variable {Q K : Fin 4 → Fin 4096 → Fin 192 → ℝ} {W : Fin 4 → Fin 4096 → Fin 128 → ℝ}
variable (hq : ∀ i h a, argQ m c (ix3 i h a) = (Q h i a : EReal)) (hk : ∀ i h a, argK m c (ix3 i h a) = (K h i a : EReal))
variable (hv : ∀ i h a, argV m c (ix3 i h a) = (W h i a : EReal))

include hq in
theorem hostQ_at (h : Fin 4) (r : Fin 4096) (x : Fin 256) :
    (V m c main_v24 : FVec Ideal S4x4096x256 .bf16) (ix3 h r x) = (wide Q h r x : EReal) := by
  rw [hostQ]
  unfold wide
  split
  · exact hq ..
  · rfl

include hk in
theorem hostK_at (h : Fin 4) (r : Fin 4096) (x : Fin 256) :
    (V m c main_v28 : FVec Ideal S4x4096x256 .bf16) (ix3 h r x) = (wide K h r x : EReal) := by
  rw [hostK]
  unfold wide
  split
  · exact hk ..
  · rfl

include hq hk hv in
theorem hostO_at (h : Fin 4) (r : Fin 4096) (x : Fin 128) :
    (V m c main_v20 : FVec Ideal S4096x512 .f32) (ix2 r ⟨h.val * 128 + x.val, by omega⟩) = (Cert.AttnVjpIdeal.At.out Q K W h r x : EReal) := by
  rw [hostO, ← Cert.AttnVjpIdeal.At.v36 hq hk hv h r x]
  pointwise

end Cert.BwdAttnIdeal.Host

end
-- ==== Proof.BwdAttn.Value.lean ====
/- The attention backward kernel's three results at an index, over finite arguments, and their equality with the
   reference's gradients. -/
module

public import proofs.«01_k».proof.Proof.BwdAttn.Pay
public import proofs.«01_k».proof.Proof.BwdAttn.Host

@[expose] public section

set_option maxRecDepth 16384

noncomputable section

open Idealize.ShloMosaic Idealize.ShloMosaic.TcCoe Idealize.SL.Sem

namespace Cert.BwdAttnIdeal.Final

open Cert.BwdAttnIdeal Cert.BwdAttnIdeal.Gen Cert.BwdAttnIdeal.Value Cert.Sums Cert.Softmax Cert.BwdAttnIdeal.Host
open Cert.AttnVjpIdeal.At (sc out dw dscore)

/-- Which block of its array each window holds at a point. -/
theorem index_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 2) = t.val % 4 ∧ win0_3.index t (1 : Fin 2) = t.val / 4)
    ∧ (win0_4.index t (0 : Fin 2) = t.val % 4 ∧ win0_4.index t (1 : Fin 2) = t.val / 4)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = 0 ∧ win0_6.index t (2 : Fin 3) = 0)
    ∧ (win0_7.index t (0 : Fin 3) = t.val / 4 ∧ win0_7.index t (1 : Fin 3) = 0 ∧ win0_7.index t (2 : Fin 3) = 0) :=
  (by decide +kernel : ∀ t : Fin grid0.N, _)

variable {m : (ℓ : Loc nD τ sig) → Buf (Elt Ideal) ℓ} {c : Dev nD}
variable {Q K : Fin 4 → Fin 4096 → Fin 192 → ℝ} {W : Fin 4 → Fin 4096 → Fin 128 → ℝ} {D : Fin 4096 → Fin 512 → ℝ}

/-- The output gradients' argument. -/
abbrev argD (m : (ℓ : Loc nD τ sig) → Buf (Elt Ideal) ℓ) (c : Dev nD) : FVec Ideal S4096x512 .bf16 := m (c.tc.loc main_arg3)

variable (hq : ∀ i h a, argQ m c (ix3 i h a) = (Q h i a : EReal)) (hk : ∀ i h a, argK m c (ix3 i h a) = (K h i a : EReal))
variable (hv : ∀ i h a, argV m c (ix3 i h a) = (W h i a : EReal)) (hd : ∀ i a, argD m c (ix2 i a) = (D i a : EReal))

theorem lt16 (t : Fin cfg0.N) : t.val < 16 := lt_of_lt_of_eq t.isLt (show cfg0.N = 16 from N_0)

/-- A point's head. -/
def hd4 (t : Fin cfg0.N) : Fin 4 := ⟨t.val / 4, by have := lt16 t; omega⟩

/-- A point's query row among all. -/
def row (t : Fin cfg0.N) (r : Fin 1024) : Fin 4096 := ⟨t.val % 4 * 1024 + r.val, by omega⟩

/-- A head's column of the output gradients. -/
def col (h : Fin 4) (x : Fin 128) : Fin 512 := ⟨h.val * 128 + x.val, by omega⟩

include hq in
theorem blk0 (t : Fin cfg0.N) (r : Fin 1024) (x : Fin 256) : (iblk m c 0 t : FVec Ideal S1x1024x256 .bf16) (ix3 0 r x) = (wide Q (hd4 t) (row t r) x : EReal) := by
  obtain ⟨f0, f1, f2, f3, f4, -, -, -⟩ := index_facts t
  refine Eq.trans ?_ (hostQ_at hq (hd4 t) (row t r) x)
  unfold iblk
  rw [View.read_apply]
  show V m c main_v24 _ = V m c main_v24 _
  congr 1
  funext a
  apply Fin.ext
  match a with
  | ⟨0, _⟩ => show win0_0.index t 0 * 1 + 1 * 0 = t.val / 4; rw [f0.1]; omega
  | ⟨1, _⟩ => show win0_0.index t 1 * 1024 + 1 * r.val = t.val % 4 * 1024 + r.val; rw [f0.2.1]; omega
  | ⟨2, _⟩ => show win0_0.index t 2 * 256 + 1 * x.val = x.val; rw [f0.2.2]; omega

include hk in
theorem blk1 (t : Fin cfg0.N) (j : Fin 4096) (x : Fin 256) : (iblk m c 1 t : FVec Ideal S1x4096x256 .bf16) (ix3 0 j x) = (wide K (hd4 t) j x : EReal) := by
  obtain ⟨f0, f1, f2, f3, f4, -, -, -⟩ := index_facts t
  refine Eq.trans ?_ (hostK_at hk (hd4 t) j x)
  unfold iblk
  rw [View.read_apply]
  show V m c main_v28 _ = V m c main_v28 _
  congr 1
  funext a
  apply Fin.ext
  match a with
  | ⟨0, _⟩ => show win0_1.index t 0 * 1 + 1 * 0 = t.val / 4; rw [f1.1]; omega
  | ⟨1, _⟩ => show win0_1.index t 1 * 4096 + 1 * j.val = j.val; rw [f1.2.1]; omega
  | ⟨2, _⟩ => show win0_1.index t 2 * 256 + 1 * x.val = x.val; rw [f1.2.2]; omega

include hv in
theorem blk2 (t : Fin cfg0.N) (j : Fin 4096) (x : Fin 128) : (iblk m c 2 t : FVec Ideal S1x4096x128 .bf16) (ix3 0 j x) = (W (hd4 t) j x : EReal) := by
  obtain ⟨f0, f1, f2, f3, f4, -, -, -⟩ := index_facts t
  refine Eq.trans ?_ ((hostV m c (hd4 t) j x).trans (hv ..))
  unfold iblk
  rw [View.read_apply]
  show V m c main_v29 _ = V m c main_v29 _
  congr 1
  funext a
  apply Fin.ext
  match a with
  | ⟨0, _⟩ => show win0_2.index t 0 * 1 + 1 * 0 = t.val / 4; rw [f2.1]; omega
  | ⟨1, _⟩ => show win0_2.index t 1 * 4096 + 1 * j.val = j.val; rw [f2.2.1]; omega
  | ⟨2, _⟩ => show win0_2.index t 2 * 128 + 1 * x.val = x.val; rw [f2.2.2]; omega

/-- The host lines leave the output gradients' argument alone. -/
theorem kept3 : V m c main_arg3 = argD m c := by
  unfold V
  after_reads_simp

include hd in
theorem blk3 (t : Fin cfg0.N) (r : Fin 1024) (x : Fin 128) : (iblk m c 3 t : FVec Ideal S1024x128 .bf16) (ix2 r x) = (D (row t r) (col (hd4 t) x) : EReal) := by
  obtain ⟨f0, f1, f2, f3, f4, -, -, -⟩ := index_facts t
  refine Eq.trans ?_ (hd (row t r) (col (hd4 t) x))
  unfold iblk
  rw [View.read_apply]
  show V m c main_arg3 _ = argD m c _
  rw [kept3]
  congr 1
  funext a
  apply Fin.ext
  match a with
  | ⟨0, _⟩ => show win0_3.index t 0 * 1024 + 1 * r.val = t.val % 4 * 1024 + r.val; rw [f3.1]; omega
  | ⟨1, _⟩ => show win0_3.index t 1 * 128 + 1 * x.val = t.val / 4 * 128 + x.val; rw [f3.2]; omega

include hq hk hv in
theorem blk4 (t : Fin cfg0.N) (r : Fin 1024) (x : Fin 128) : (iblk m c 4 t : FVec Ideal S1024x128 .f32) (ix2 r x) = (out Q K W (hd4 t) (row t r) x : EReal) := by
  obtain ⟨f0, f1, f2, f3, f4, -, -, -⟩ := index_facts t
  refine Eq.trans ?_ (hostO_at hq hk hv (hd4 t) (row t r) x)
  unfold iblk
  rw [View.read_apply]
  show V m c main_v20 _ = V m c main_v20 _
  congr 1
  funext a
  apply Fin.ext
  match a with
  | ⟨0, _⟩ => show win0_4.index t 0 * 1024 + 1 * r.val = t.val % 4 * 1024 + r.val; rw [f4.1]; omega
  | ⟨1, _⟩ => show win0_4.index t 1 * 128 + 1 * x.val = t.val / 4 * 128 + x.val; rw [f4.2]; omega

/-! Rows, whatever the point. -/

/-- A row's exponentials, as the kernel takes them. -/
def kx (Q K : Fin 4 → Fin 4096 → Fin 192 → ℝ) (h : Fin 4) (i j : Fin 4096) : ℝ := Pay.ex (wide Q h i) (wide K h) j

/-- One over their sum. -/
def kl (Q K : Fin 4 → Fin 4096 → Fin 192 → ℝ) (h : Fin 4) (i : Fin 4096) : ℝ := Pay.il (wide Q h i) (wide K h)

/-- A row's score gradients, as the kernel forms them. -/
def kds (Q K : Fin 4 → Fin 4096 → Fin 192 → ℝ) (W : Fin 4 → Fin 4096 → Fin 128 → ℝ) (D : Fin 4096 → Fin 512 → ℝ) (h : Fin 4) (i j : Fin 4096) : ℝ :=
  Pay.dsc (wide Q h i) (wide K h) (W h) (fun x => D i (col h x)) (out Q K W h i) j

/-- The padding columns add nothing to a score. -/
theorem score_wide (h : Fin 4) (i j : Fin 4096) : Pay.score (wide Q h i) (wide K h) j * Pay.s = sc Q K h i j := by
  unfold Pay.score sc Pay.s
  rw [one_div]
  congr 1
  rw [← sum_pad (fun a => Q h i a * K h j a)]
  refine Finset.sum_congr rfl fun a _ => ?_
  unfold wide
  split <;> simp

/-- The kernel's weights are the softmax's. -/
theorem kx_kl (h : Fin 4) (i j : Fin 4096) : kx Q K h i j * kl Q K h i = weight (sc Q K h i) j := by
  have hx : ∀ l, Pay.ex (wide Q h i) (wide K h) l
      = Real.exp (sc Q K h i l - top (Pay.score (wide Q h i) (wide K h)) * Pay.s) := fun l => by
    unfold Pay.ex
    rw [sub_mul, score_wide]
  unfold kx kl Pay.il
  simp only [hx]
  rw [mul_one_div]
  exact weight_shift _ _ _

/-- The kernel's score gradients are the reference's. -/
theorem kds_eq (h : Fin 4) (i j : Fin 4096) : kds Q K W D h i j = dscore Q K W D h i j := by
  unfold kds Pay.dsc dscore
  rw [← kx_kl]
  show kx Q K h i j * (_ * kl Q K h i) = _
  have hsum : ∑ x, D i (col h x) * out Q K W h i x = ∑ l, dw W D h i l * weight (sc Q K h i) l := by
    unfold out dw
    simp only [Finset.mul_sum, Finset.sum_mul]
    rw [Finset.sum_comm]
    exact Finset.sum_congr rfl fun l _ => Finset.sum_congr rfl fun x _ => (mul_assoc ..).symm
  rw [hsum]
  unfold dw col
  ring

/-- The sum over one block of 1024 rows. -/
def tile (f : Fin 4096 → ℝ) (b : ℕ) : ℝ := ∑ r : Fin 1024, if h : b * 1024 + r.val < 4096 then f ⟨b * 1024 + r.val, h⟩ else 0

/-- Four blocks of rows are all rows. -/
theorem tiles (f : Fin 4096 → ℝ) : ∑ b ∈ Finset.range 4, tile f b = ∑ i, f i := by
  rw [Fin.sum_univ_tiles 4 1024 (by decide) f, Finset.sum_range]
  refine Finset.sum_congr rfl fun b _ => Finset.sum_congr rfl fun r _ => ?_
  rw [dif_pos (by omega)]

/-- A point's rows are a block. -/
theorem tile_row (f : Fin 4096 → ℝ) (t : Fin cfg0.N) : ∑ r, f (row t r) = tile f (t.val % 4) := by
  refine Finset.sum_congr rfl fun r _ => ?_
  rw [dif_pos (by omega)]
  rfl

include hq hk hv hd in
theorem step3_at (acc : FVec Ideal S256x4096 .f32) (t : Fin cfg0.N) (x : Fin 256) (j : Fin 4096) :
    Block.step3 m c acc t (ix2 x j) = acc (ix2 x j) + (tile (fun i => wide Q (hd4 t) i x * kds Q K W D (hd4 t) i j) (t.val % 4) : EReal) := by
  rw [← tile_row]
  exact Pay.key_step (Q := fun r => wide Q (hd4 t) (row t r)) (K := wide K (hd4 t)) (V := W (hd4 t)) (D := fun r x => D (row t r) (col (hd4 t) x))
    (A := fun r => out Q K W (hd4 t) (row t r)) (blk0 hq t) (blk1 hk t) (blk2 hv t) (blk3 hd t) (blk4 hq hk hv t) acc x j

include hq hk hd in
theorem step4_at (acc : FVec Ideal S128x4096 .f32) (t : Fin cfg0.N) (x : Fin 128) (j : Fin 4096) :
    Block.step4 m c acc t (ix2 x j)
      = acc (ix2 x j) + (tile (fun i => D i (col (hd4 t) x) * kl Q K (hd4 t) i * kx Q K (hd4 t) i j) (t.val % 4) : EReal) := by
  rw [← tile_row]
  exact Pay.value_step (Q := fun r => wide Q (hd4 t) (row t r)) (K := wide K (hd4 t)) (D := fun r x => D (row t r) (col (hd4 t) x))
    (blk0 hq t) (blk1 hk t) (blk3 hd t) acc x j

include hq hk hv hd in
/-- The running key gradients after a point. -/
theorem run3 (n : ℕ) : ∀ (hn : n < cfg0.N) (x : Fin 256) (j : Fin 4096), ((outsAt0 m c n hn).2.2.2.1 : FVec Ideal S256x4096 .f32) (ix2 x j)
    = ((∑ b ∈ Finset.range (n % 4 + 1), tile (fun i => wide Q (hd4 ⟨n, hn⟩) i x * kds Q K W D (hd4 ⟨n, hn⟩) i j) b : ℝ) : EReal) := by
  induction n with
  | zero =>
    intro hn x j
    rw [Block.s3_A m c ⟨0, hn⟩ rfl (by show ¬ 0 % 4 = 3; decide), step3_at hq hk hv hd, Pay.pay5, zero_add]
    simp
  | succ n ih =>
    intro hn x j
    by_cases h0 : (n + 1) % 4 = 0
    · rw [Block.s3_A m c ⟨n + 1, hn⟩ h0 (by show ¬ (n + 1) % 4 = 3; omega), step3_at hq hk hv hd, Pay.pay5, zero_add]
      simp [h0]
    · have hs : (outsAt0 m c (n + 1) hn).2.2.2.1 = Block.step3 m c (outsAt0 m c n (by omega)).2.2.2.1 ⟨n + 1, hn⟩ := by
        by_cases h1 : (n + 1) % 4 = 3
        · exact Block.s3_C m c ⟨n + 1, hn⟩ h0 h1
        · exact Block.s3_B m c ⟨n + 1, hn⟩ h0 h1
      have e1 : (n + 1) % 4 = n % 4 + 1 := by omega
      have e2 : hd4 ⟨n + 1, hn⟩ = hd4 ⟨n, by omega⟩ := Fin.ext (by show (n + 1) / 4 = n / 4; omega)
      rw [hs, step3_at hq hk hv hd, ih (by omega), ← EReal.coe_add, e2]
      show ((_ + tile _ ((n + 1) % 4) : ℝ) : EReal) = _
      rw [e1, Finset.sum_range_succ _ (n % 4 + 1)]

include hq hk hd in
/-- The running value gradients after a point. -/
theorem run4 (n : ℕ) : ∀ (hn : n < cfg0.N) (x : Fin 128) (j : Fin 4096), ((outsAt0 m c n hn).2.2.2.2 : FVec Ideal S128x4096 .f32) (ix2 x j)
    = ((∑ b ∈ Finset.range (n % 4 + 1), tile (fun i => D i (col (hd4 ⟨n, hn⟩) x) * kl Q K (hd4 ⟨n, hn⟩) i * kx Q K (hd4 ⟨n, hn⟩) i j) b : ℝ) : EReal) := by
  induction n with
  | zero =>
    intro hn x j
    rw [Block.s4_A m c ⟨0, hn⟩ rfl (by show ¬ 0 % 4 = 3; decide), step4_at hq hk hd, Pay.pay6, zero_add]
    simp
  | succ n ih =>
    intro hn x j
    by_cases h0 : (n + 1) % 4 = 0
    · rw [Block.s4_A m c ⟨n + 1, hn⟩ h0 (by show ¬ (n + 1) % 4 = 3; omega), step4_at hq hk hd, Pay.pay6, zero_add]
      simp [h0]
    · have hs : (outsAt0 m c (n + 1) hn).2.2.2.2 = Block.step4 m c (outsAt0 m c n (by omega)).2.2.2.2 ⟨n + 1, hn⟩ := by
        by_cases h1 : (n + 1) % 4 = 3
        · exact Block.s4_C m c ⟨n + 1, hn⟩ h0 h1
        · exact Block.s4_B m c ⟨n + 1, hn⟩ h0 h1
      have e1 : (n + 1) % 4 = n % 4 + 1 := by omega
      have e2 : hd4 ⟨n + 1, hn⟩ = hd4 ⟨n, by omega⟩ := Fin.ext (by show (n + 1) / 4 = n / 4; omega)
      rw [hs, step4_at hq hk hd, ih (by omega), ← EReal.coe_add, e2]
      show ((_ + tile _ ((n + 1) % 4) : ℝ) : EReal) = _
      rw [e1, Finset.sum_range_succ _ (n % 4 + 1)]

/-! The three arrays. -/

/-- Which points write each result back. -/
theorem flush_facts : ∀ t : Fin cfg0.N, (cfg0.win 5).flush t = true ∧ (t.val % 4 = 3 → (cfg0.win 6).flush t = true)
    ∧ (t.val % 4 = 3 → (cfg0.win 7).flush t = true) :=
  (by decide +kernel : ∀ t : Fin grid0.N, _)

/-- Two points that write the key gradients back write different blocks. -/
theorem apart6 : ∀ t t' : Fin cfg0.N, (cfg0.win 6).flush t = true → (cfg0.win 6).flush t' = true → win0_6.index t = win0_6.index t' → t = t' :=
  (by decide +kernel : ∀ t t' : Fin grid0.N, _)

/-- Two points that write the value gradients back write different blocks. -/
theorem apart7 : ∀ t t' : Fin cfg0.N, (cfg0.win 7).flush t = true → (cfg0.win 7).flush t' = true → win0_7.index t = win0_7.index t' → t = t' :=
  (by decide +kernel : ∀ t t' : Fin grid0.N, _)

theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (apart6 t t' hf hf' h)

theorem disjoint7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (apart7 t t' hf hf' h)

/-- The query gradients' array. -/
abbrev arr5 (m : (ℓ : Loc nD τ sig) → Buf (Elt Ideal) ℓ) (c : Dev nD) : FVec Ideal S4x4096x256 .f32 := (dats m 0 c).arrAt 5 cfg0.N

/-- The key gradients' array. -/
abbrev arr6 (m : (ℓ : Loc nD τ sig) → Buf (Elt Ideal) ℓ) (c : Dev nD) : FVec Ideal S4x4096x256 .f32 := (dats m 0 c).arrAt 6 cfg0.N

/-- The value gradients' array. -/
abbrev arr7 (m : (ℓ : Loc nD τ sig) → Buf (Elt Ideal) ℓ) (c : Dev nD) : FVec Ideal S4x4096x128 .f32 := (dats m 0 c).arrAt 7 cfg0.N

theorem cell5 (t : Fin cfg0.N) (r : Fin 1024) (x : Fin 256) :
    arr5 m c (ix3 (hd4 t) (row t r) x) = ((outsAt0 m c t.val t.isLt).1 : FVec Ideal S1x1024x256 .f32) (ix3 0 r x) := by
  obtain ⟨-, -, -, -, -, f5, -, -⟩ := index_facts t
  have h := congrFun ((blocks5 m c t (flush_facts t).1).trans (flushed5 m c t)) (ix3 0 r x)
  rw [View.read_apply] at h
  refine Eq.trans ?_ h
  show arr5 m c _ = arr5 m c _
  congr 1
  funext a
  apply Fin.ext
  match a with
  | ⟨0, _⟩ => show t.val / 4 = win0_5.index t 0 * 1 + 1 * 0; rw [f5.1]; omega
  | ⟨1, _⟩ => show t.val % 4 * 1024 + r.val = win0_5.index t 1 * 1024 + 1 * r.val; rw [f5.2.1]; omega
  | ⟨2, _⟩ => show x.val = win0_5.index t 2 * 256 + 1 * x.val; rw [f5.2.2]; omega

theorem cell6 (t : Fin cfg0.N) (ht : t.val % 4 = 3) (j : Fin 4096) (x : Fin 256) :
    arr6 m c (ix3 (hd4 t) j x) = ((outsAt0 m c t.val t.isLt).2.1 : FVec Ideal S1x4096x256 .f32) (ix3 0 j x) := by
  obtain ⟨-, -, -, -, -, -, f6, -⟩ := index_facts t
  have h := congrFun (((dats m 0 c).read_blk_arrAt_eq_flushed 6 disjoint6 cfg0.N t t.isLt ((flush_facts t).2.1 ht)).trans (flushed6 m c t)) (ix3 0 j x)
  rw [View.read_apply] at h
  refine Eq.trans ?_ h
  show arr6 m c _ = arr6 m c _
  congr 1
  funext a
  apply Fin.ext
  match a with
  | ⟨0, _⟩ => show t.val / 4 = win0_6.index t 0 * 1 + 1 * 0; rw [f6.1]; omega
  | ⟨1, _⟩ => show j.val = win0_6.index t 1 * 4096 + 1 * j.val; rw [f6.2.1]; omega
  | ⟨2, _⟩ => show x.val = win0_6.index t 2 * 256 + 1 * x.val; rw [f6.2.2]; omega

theorem cell7 (t : Fin cfg0.N) (ht : t.val % 4 = 3) (j : Fin 4096) (x : Fin 128) :
    arr7 m c (ix3 (hd4 t) j x) = ((outsAt0 m c t.val t.isLt).2.2.1 : FVec Ideal S1x4096x128 .f32) (ix3 0 j x) := by
  obtain ⟨-, -, -, -, -, -, -, f7⟩ := index_facts t
  have h := congrFun (((dats m 0 c).read_blk_arrAt_eq_flushed 7 disjoint7 cfg0.N t t.isLt ((flush_facts t).2.2 ht)).trans (flushed7 m c t)) (ix3 0 j x)
  rw [View.read_apply] at h
  refine Eq.trans ?_ h
  show arr7 m c _ = arr7 m c _
  congr 1
  funext a
  apply Fin.ext
  match a with
  | ⟨0, _⟩ => show t.val / 4 = win0_7.index t 0 * 1 + 1 * 0; rw [f7.1]; omega
  | ⟨1, _⟩ => show j.val = win0_7.index t 1 * 4096 + 1 * j.val; rw [f7.2.1]; omega
  | ⟨2, _⟩ => show x.val = win0_7.index t 2 * 128 + 1 * x.val; rw [f7.2.2]; omega

include hq hk hv hd in
/-- The query gradients, at a point's rows. -/
theorem query_at (t : Fin cfg0.N) (r : Fin 1024) (x : Fin 256) : arr5 m c (ix3 (hd4 t) (row t r) x)
    = (((∑ j, kds Q K W D (hd4 t) (row t r) j * wide K (hd4 t) j x) * Pay.s : ℝ) : EReal) := by
  have ho : (outsAt0 m c t.val t.isLt).1 = View.canon (Block.dqPieces (iblk m c 0 t) (iblk m c 1 t) (iblk m c 2 t) (iblk m c 3 t) (iblk m c 4 t)) := by
    by_cases h0 : t.val % 4 = 0
    · exact Block.o5_A m c t h0 (by omega)
    · by_cases h1 : t.val % 4 = 3
      · exact Block.o5_C m c t h0 h1
      · exact Block.o5_B m c t h0 h1
  rw [cell5, ho, Pay.canon_dq (Q := fun r => wide Q (hd4 t) (row t r)) (K := wide K (hd4 t)) (V := W (hd4 t)) (D := fun r x => D (row t r) (col (hd4 t) x))
    (A := fun r => out Q K W (hd4 t) (row t r)) (blk0 hq t) (blk1 hk t) (blk2 hv t) (blk3 hd t) (blk4 hq hk hv t)]
  rfl

/-- The last point of a head. -/
def last (h : Fin 4) : Fin cfg0.N := ⟨h.val * 4 + 3, lt_of_lt_of_eq (by omega) (show 16 = cfg0.N from N_0.symm)⟩

theorem last_mod (h : Fin 4) : (last h).val % 4 = 3 := by show (h.val * 4 + 3) % 4 = 3; omega

theorem last_head (h : Fin 4) : hd4 (last h) = h := Fin.ext (by show (h.val * 4 + 3) / 4 = h.val; omega)

/-- The point that holds a head's row. -/
def holds (h : Fin 4) (i : Fin 4096) : Fin cfg0.N := ⟨h.val * 4 + i.val / 1024, lt_of_lt_of_eq (by omega) (show 16 = cfg0.N from N_0.symm)⟩

include hq hk hv hd in
/-- The key gradients. -/
theorem keys_at (h : Fin 4) (j : Fin 4096) (x : Fin 256) : arr6 m c (ix3 h j x)
    = (((∑ i, wide Q h i x * kds Q K W D h i j) * Pay.s : ℝ) : EReal) := by
  have h3 := last_mod h
  have hh := last_head h
  have e := run3 hq hk hv hd (last h).val (last h).isLt x j
  have e1 := cell6 (m := m) (c := c) (last h) h3 j x
  rw [Block.o6_C m c (last h) (by omega) h3, Pay.pay3, ← Block.s3_C m c (last h) (by omega) h3, e] at e1
  simp only [h3, Fin.eta, hh] at e1
  rw [e1, tiles, ← EReal.coe_mul]

include hq hk hd in
/-- The value gradients. -/
theorem values_at (h : Fin 4) (j : Fin 4096) (x : Fin 128) : arr7 m c (ix3 h j x)
    = ((∑ i, D i (col h x) * kl Q K h i * kx Q K h i j : ℝ) : EReal) := by
  have h3 := last_mod h
  have hh := last_head h
  have e := run4 hq hk hd (last h).val (last h).isLt x j
  have e1 := cell7 (m := m) (c := c) (last h) h3 j x
  rw [Block.o7_C m c (last h) (by omega) h3, Pay.pay4, ← Block.s4_C m c (last h) (by omega) h3, e] at e1
  simp only [h3, Fin.eta, hh] at e1
  rw [e1, tiles]

include hq hk hv hd in
/-- The query gradients are the reference's. -/
theorem value62 : Cert.AttnVjpIdeal.Read.val_main_v62 (F := Ideal) (argQ m c) (argK m c) (argV m c) (argD m c) = arr5 m c := by
  funext i
  idx_vars i
  have e := query_at hq hk hv hd (holds i0 i1) ⟨i1.val % 1024, by omega⟩ i2
  have e0 : hd4 (holds i0 i1) = i0 := Fin.ext (by show (i0.val * 4 + i1.val / 1024) / 4 = i0.val; omega)
  have e1 : row (holds i0 i1) ⟨i1.val % 1024, by omega⟩ = i1 :=
    Fin.ext (by show (i0.val * 4 + i1.val / 1024) % 4 * 1024 + i1.val % 1024 = i1.val; omega)
  rw [e0, e1] at e
  rw [e, Cert.AttnVjpIdeal.At.v62 hq hk hv hd]
  congr 1
  simp only [kds_eq]
  unfold wide Pay.s
  split
  · rw [Finset.sum_mul]
    refine Finset.sum_congr rfl fun j _ => ?_
    rw [one_div]
    ring
  · simp

include hq hk hv hd in
/-- The key gradients are the reference's. -/
theorem value64 : Cert.AttnVjpIdeal.Read.val_main_v64 (F := Ideal) (argQ m c) (argK m c) (argV m c) (argD m c) = arr6 m c := by
  funext i
  idx_vars i
  rw [keys_at hq hk hv hd, Cert.AttnVjpIdeal.At.v64 hq hk hv hd]
  congr 1
  simp only [kds_eq]
  unfold wide Pay.s
  split
  · rw [Finset.sum_mul]
    refine Finset.sum_congr rfl fun j _ => ?_
    rw [one_div]
    ring
  · simp

include hq hk hd in
/-- The value gradients are the reference's. -/
theorem value65 : Cert.AttnVjpIdeal.Read.val_main_v65 (F := Ideal) (argQ m c) (argK m c) (argD m c) = arr7 m c := by
  funext i
  idx_vars i
  rw [values_at hq hk hd, Cert.AttnVjpIdeal.At.v65 hq hk hd]
  congr 1
  refine Finset.sum_congr rfl fun j _ => ?_
  rw [← kx_kl, mul_assoc, mul_comm (kl Q K i0 j)]
  rfl

end Cert.BwdAttnIdeal.Final

end
-- ==== Proof.BwdAttn.Claims.lean ====
/- The claims about the attention backward call. -/
module

public import proofs.«01_k».proof.Defs
public import proofs.«01_k».proof.Proof.BwdAttn.Value
public import proofs.«01_k».proof.Proof.Gen.AttnVjpIdeal.Run
public import proofs.«01_k».proof.Proof.Gen.BwdAttn.Frame
public import proofs.«01_k».proof.Proof.Gen.Pre_finite_bwd_attn
public import Idealize.ShloMosaic.Lib.Quiescent

@[expose] public section

set_option maxRecDepth 16384

noncomputable section

open Idealize.ShloMosaic Idealize.SL.Sem

namespace Cert.BwdAttnClaims

open Cert.BwdAttnIdeal.Final Cert.BwdAttnIdeal.Host Cert.Sums

/-- The reference runs to the end, keeps its arguments and has no counters. -/
theorem frame_ref : Cert.quiescent_AttnVjpIdeal := fun m ρ _ =>
  (θ_run Cert.AttnVjpIdeal.defs _ _).mono
    (fun r h => ⟨fun c => (h c).2.2.2, sem_eq_zero_of_no_sems (by decide) r.2⟩)
    (Cert.AttnVjpIdeal.Value.run (F := Ideal) m ρ)

/-- The two named constants are the written-out values of the literals they replace. -/
theorem named : Cert.preserves_BwdAttn_BwdAttnIdeal :=
  ⟨IdealRules.named_const.statement Cert.BwdAttnIdeal.κ "scale_log2_e" .f32 0x3DD53B95#32 _ rfl,
    IdealRules.named_const.statement Cert.BwdAttnIdeal.κ "scale" .f32 0x3D93CD3A#32 _ rfl⟩

/-- The kernel's run, with the precondition, gives the reference's three results. -/
theorem value : Cert.algebraic_BwdAttnIdeal_AttnVjpIdeal_pre_finite_bwd_attn := by
  intro m ρ m' ρ' hpre hargs
  refine ⟨_, _, _, Cert.BwdAttnIdeal.Value.run_blocks m ρ,
    (θ_run Cert.AttnVjpIdeal.defs _ _).mono (fun r h c => ?_) (Cert.AttnVjpIdeal.Value.run (F := Ideal) m' ρ')⟩
  obtain ⟨p0, p1, p2, p3⟩ := hpre c
  obtain ⟨Q, eq⟩ := real_of_pre (s0 := Cert.Pre_finite_bwd_attn.S_) (argQ m c) _ p0
  obtain ⟨K, ek⟩ := real_of_pre (s0 := Cert.Pre_finite_bwd_attn.S_) (argK m c) _ p1
  obtain ⟨W, ev⟩ := real_of_pre (s0 := Cert.Pre_finite_bwd_attn.S_) (argV m c) _ p2
  obtain ⟨D, ed⟩ := real_of_pre (s0 := Cert.Pre_finite_bwd_attn.S_) (argD m c) _ p3
  have hq : ∀ i h a, argQ m c (ix3 i h a) = ((fun h i a => Q (ix3 i h a) : Fin 4 → Fin 4096 → Fin 192 → ℝ) h i a : EReal) := fun i h a => congrFun eq _
  have hk : ∀ i h a, argK m c (ix3 i h a) = ((fun h i a => K (ix3 i h a) : Fin 4 → Fin 4096 → Fin 192 → ℝ) h i a : EReal) := fun i h a => congrFun ek _
  have hv : ∀ i h a, argV m c (ix3 i h a) = ((fun h i a => W (ix3 i h a) : Fin 4 → Fin 4096 → Fin 128 → ℝ) h i a : EReal) := fun i h a => congrFun ev _
  have hd : ∀ i a, argD m c (ix2 i a) = ((fun i a => D (ix2 i a) : Fin 4096 → Fin 512 → ℝ) i a : EReal) := fun i a => congrFun ed _
  obtain ⟨a0, a1, a2, a3, -⟩ := hargs c
  obtain ⟨h0, h1, h2, hkept⟩ := h c
  refine ⟨h0.trans ?_, h1.trans ?_, h2.trans ?_, hkept⟩
  · rw [Cert.AttnVjpIdeal.Read.val_main_v62_eq, a0, a1, a2, a3]
    exact value62 hq hk hv hd
  · rw [Cert.AttnVjpIdeal.Read.val_main_v64_eq, a0, a1, a2, a3]
    exact value64 hq hk hv hd
  · refine (Cert.AttnVjpIdeal.Read.val_main_v65_eq _ _ _).trans ?_
    rw [a0, a1, a3]
    exact value65 hq hk hd

end Cert.BwdAttnClaims

end
-- ==== Proof.At.lean ====
/- Where a window's block lies in its array, at ranks two and three: an index of the block read as an index of the array. -/
module

public import Idealize.ShloMosaic.Lib.Pointwise
public import Idealize.ShloMosaic.Lib.Pipeline.Value

@[expose] public section

noncomputable section

open Idealize.ShloMosaic

namespace Cert.At

/-- Two coordinates make an index. -/
theorem ext2 {a b : Nat} {i : (⟨2, ![a, b]⟩ : Shape).Idx} {p : Fin a} {q : Fin b} (h0 : (i 0).val = p.val) (h1 : (i 1).val = q.val) : i = ix2 p q := by
  funext x
  apply Fin.ext
  match x with
  | ⟨0, _⟩ => exact h0
  | ⟨1, _⟩ => exact h1

/-- Three coordinates make an index. -/
theorem ext3 {a b d : Nat} {i : (⟨3, ![a, b, d]⟩ : Shape).Idx} {p : Fin a} {q : Fin b} {s : Fin d} (h0 : (i 0).val = p.val) (h1 : (i 1).val = q.val) (h2 : (i 2).val = s.val) : i = ix3 p q s := by
  funext x
  apply Fin.ext
  match x with
  | ⟨0, _⟩ => exact h0
  | ⟨1, _⟩ => exact h1
  | ⟨2, _⟩ => exact h2

/-- A coordinate of a block that stays at the array's start. -/
theorem fixed {i b r : Nat} (f : i = 0) : i * b + 1 * r = r := by subst f; omega

/-- A coordinate of a block that moves with the point. -/
theorem moved {i t b r : Nat} (f : i = t) : i * b + 1 * r = t * b + r := by subst f; omega

end Cert.At

end
-- ==== Proof.FfnIn.Block.lean ====
/- What the feed-forward norm's backward call leaves after a grid point, as functions of the point's blocks. -/
module

public import proofs.«01_k».proof.Proof.Gen.FfnInIdeal.Value
public import proofs.«01_k».proof.Proof.Whole
public import Idealize.ShloMosaic.Lib.Tactic

@[expose] public section

set_option maxRecDepth 16384
set_option maxHeartbeats 1000000

noncomputable section

open Idealize.ShloMosaic Idealize.ShloMosaic.TcCoe Idealize.SL.Sem

namespace Cert.FfnInIdeal.Block

open Cert.FfnInIdeal Cert.FfnInIdeal.Gen Cert.FfnInIdeal.Value Cert.Whole

variable {F : FTy → Type} [FloatOps F]
variable (m : (ℓ : Loc nD τ sig) → Buf (Elt F) ℓ) (c : Dev nD)

/-- The residual gradient's block. -/
theorem o7 (t : Fin cfg0.N) :
    (outsAt0 m c t.val t.isLt).1 = k0_pay1 (iblk m c 1 t) (k0_pay7 (iblk m c 4 t) (iblk m c 2 t) (iblk m c 5 t) (iblk m c 3 t) (iblk m c 6 t)) (k0_pay8 (iblk m c 1 t) (iblk m c 4 t) (iblk m c 2 t) (iblk m c 5 t) (iblk m c 3 t) (iblk m c 6 t)) (k0_pay9 (iblk m c 1 t)) (iblk m c 0 t) := by
  by_cases h0 : t.val % 8 = 0
  · rw [outsAt0_A m c t h0]
    dsimp only
    unfold out0_A_7
    rw [View.read_writes_eq_canon (h := fun y => cover0_A_7 ..)]
    unfold kernelRun0_A
    dsimp only
    sl_unfold_words
    simp only [canon2, cov2, View.readAt_eq_ld, ld2, Memref.IsWhole.read_unread, read_unread_whole]
  · rw [outsAt0_B m c t h0]
    dsimp only
    unfold out0_B_7
    rw [View.read_writes_eq_canon (h := fun y => cover0_B_7 ..)]
    unfold kernelRun0_B
    dsimp only
    sl_unfold_words
    simp only [canon2, cov2, View.readAt_eq_ld, ld2, Memref.IsWhole.read_unread, read_unread_whole]

/-- The norm output's block. -/
theorem o8 (t : Fin cfg0.N) :
    (outsAt0 m c t.val t.isLt).2.1 = k0_pay6 (iblk m c 1 t) (iblk m c 4 t) := by
  by_cases h0 : t.val % 8 = 0
  · rw [outsAt0_A m c t h0]
    dsimp only
    unfold out0_A_8
    rw [View.read_writes_eq_canon (h := fun y => cover0_A_8 ..)]
    unfold kernelRun0_A
    dsimp only
    sl_unfold_words
    simp only [canon2, cov2, View.readAt_eq_ld, ld2, Memref.IsWhole.read_unread, read_unread_whole]
  · rw [outsAt0_B m c t h0]
    dsimp only
    unfold out0_B_8
    rw [View.read_writes_eq_canon (h := fun y => cover0_B_8 ..)]
    unfold kernelRun0_B
    dsimp only
    sl_unfold_words
    simp only [canon2, cov2, View.readAt_eq_ld, ld2, Memref.IsWhole.read_unread, read_unread_whole]

/-- The running gradient of the gains. -/
theorem o9_A (t : Fin cfg0.N) (h0 : t.val % 8 = 0) :
    (outsAt0 m c t.val t.isLt).2.2 = k0_pay2 (iblk m c 1 t) (k0_pay4 (iblk m c 2 t) (iblk m c 5 t) (iblk m c 3 t) (iblk m c 6 t)) (k0_pay5 (iblk m c 1 t)) (k0_pay3 (F := F)) := by
  rw [outsAt0_A m c t h0]
  dsimp only
  unfold out0_A_9
  rw [View.read_writes_eq_canon (h := fun y => cover0_A_9 ..)]
  unfold kernelRun0_A
  dsimp only
  sl_unfold_words
  simp only [canon2, cov2, View.readAt_eq_ld, ld2, Memref.IsWhole.read_unread, read_unread_whole]

/-- The running gradient of the gains. -/
theorem o9_B (t : Fin cfg0.N) (h0 : ¬ t.val % 8 = 0) :
    (outsAt0 m c t.val t.isLt).2.2 = k0_pay2 (iblk m c 1 t) (k0_pay4 (iblk m c 2 t) (iblk m c 5 t) (iblk m c 3 t) (iblk m c 6 t)) (k0_pay5 (iblk m c 1 t)) (outsAt0 m c (t.val - 1) (by omega)).2.2 := by
  rw [outsAt0_B m c t h0]
  dsimp only
  unfold out0_B_9
  rw [View.read_writes_eq_canon (h := fun y => cover0_B_9 ..)]
  unfold kernelRun0_B
  dsimp only
  sl_unfold_words
  simp only [canon2, cov2, View.readAt_eq_ld, ld2, Memref.IsWhole.read_unread, read_unread_whole]

end Cert.FfnInIdeal.Block

end
-- ==== Proof.Norm.lean ====
/- A row divided by the root of its mean square, and the gradient of that, over real numbers: the two forms in use. -/
module

public import proofs.«01_k».proof.Proof.Sums

@[expose] public section

noncomputable section

open Idealize.ShloMosaic

namespace Cert.Norm

/-- The number added to a mean square. -/
def eps : ℝ := 8796093 * (1 / 8796093022208)

theorem eps_word : (Ideal.ofBits .f32 0x358637BD#32 : EReal) = (eps : EReal) := by
  simp [Ideal.ofBits, Ideal.ieee]
  norm_num [eps]
  exact_mod_cast (by norm_num : (8796093 : ℝ) * (1 / 8796093022208) = 8796093 / 8796093022208)

theorem eps_pos : 0 < eps := by unfold eps; norm_num

theorem width_word : (Ideal.ofBits .f32 0x44800000#32 : EReal) = ((1024 : ℝ) : EReal) := by
  simp [Ideal.ofBits, Ideal.ieee]
  norm_num
  exact_mod_cast (by norm_num : (8388608 : ℝ) * (1 / 8192) = 1024)

theorem over_width_word : (Ideal.ofBits .f32 0x3A800000#32 : EReal) = ((1 / 1024 : ℝ) : EReal) := by
  simp [Ideal.ofBits, Ideal.ieee]
  norm_num
  exact_mod_cast (by norm_num : (8388608 : ℝ) * (1 / 8589934592) = 1 / 1024)

theorem half_word : (Ideal.ofBits .f32 0xBF000000#32 : EReal) = ((-(1 / 2) : ℝ) : EReal) := by
  simp [Ideal.ofBits, Ideal.ieee]
  norm_num
  exact_mod_cast (by norm_num : (8388608 : ℝ) * (1 / 16777216) = 1 / 2)

theorem pos_half_word : (Ideal.ofBits .f32 0x3F000000#32 : EReal) = ((1 / 2 : ℝ) : EReal) := by
  simp [Ideal.ofBits, Ideal.ieee]
  norm_num
  exact_mod_cast (by norm_num : (8388608 : ℝ) * (1 / 16777216) = 1 / 2)

theorem one_word : (Ideal.ofBits .f32 0x3F800000#32 : EReal) = ((1 : ℝ) : EReal) := by
  simp [Ideal.ofBits, Ideal.ieee]
  norm_num
  exact_mod_cast (by norm_num : (8388608 : ℝ) * (1 / 8388608) = 1)

theorem width128_word : (Ideal.ofBits .f32 0x43000000#32 : EReal) = ((128 : ℝ) : EReal) := by
  simp [Ideal.ofBits, Ideal.ieee]
  norm_num
  exact_mod_cast (by norm_num : (8388608 : ℝ) * (1 / 65536) = 128)

theorem over_128_word : (Ideal.ofBits .f32 0x3C000000#32 : EReal) = ((1 / 128 : ℝ) : EReal) := by
  simp [Ideal.ofBits, Ideal.ieee]
  norm_num
  exact_mod_cast (by norm_num : (8388608 : ℝ) * (1 / 1073741824) = 1 / 128)

theorem two_word : (Ideal.ofBits .f32 0x40000000#32 : EReal) = ((2 : ℝ) : EReal) := by
  simp [Ideal.ofBits, Ideal.ieee]
  norm_num
  exact_mod_cast (by norm_num : (8388608 : ℝ) * (1 / 4194304) = 2)

variable {n : ℕ}

/-- A row's mean square and the small number. -/
def ms (w : ℝ) (x : Fin n → ℝ) : ℝ := (∑ a, x a * x a) * (1 / w) + eps

/-- One over its root. -/
def rt (w : ℝ) (x : Fin n → ℝ) : ℝ := (Real.sqrt (ms w x))⁻¹

theorem ms_pos {w : ℝ} (hw : 0 < w) (x : Fin n → ℝ) : 0 < ms w x :=
  add_pos_of_nonneg_of_pos (mul_nonneg (Finset.sum_nonneg fun _ _ => mul_self_nonneg _) (one_div_nonneg.mpr hw.le)) eps_pos

theorem rsqrt_ms {w : ℝ} (hw : 0 < w) (x : Fin n → ℝ) : Ideal.rsqrt ((ms w x : ℝ) : EReal) = (rt w x : EReal) := by
  rw [Ideal.rsqrt_coe, if_neg (ms_pos hw x).le.not_gt, if_neg (ms_pos hw x).ne']
  rfl

/-- The root times itself. -/
theorem rt_sq {w : ℝ} (hw : 0 < w) (x : Fin n → ℝ) : rt w x * (1 / ms w x) = rt w x * rt w x * rt w x := by
  unfold rt
  have h := Real.mul_self_sqrt (ms_pos hw x).le
  rw [mul_assoc, ← mul_inv (Real.sqrt _), h, one_div]

/-- The gradient into a row from the gradient into what it is scaled to: `u` is the gradient times the gains. -/
def back (w : ℝ) (x u : Fin n → ℝ) (j : Fin n) : ℝ := rt w x * u j - x j * (rt w x * rt w x * rt w x) * ((∑ a, u a * x a) * (1 / w))

/-- The other form: through the mean square, entering each product of a number with itself twice. -/
theorem back_eq {w : ℝ} (hw : 0 < w) (x u : Fin n → ℝ) (j : Fin n) (d : ℝ) :
    d + u j * rt w x + x j * ((∑ a, x a * u a) * (-(1 / 2) * (rt w x * (1 / ms w x))) * (1 / w))
        + (∑ a, x a * u a) * (-(1 / 2) * (rt w x * (1 / ms w x))) * (1 / w) * x j
      = d + back w x u j := by
  unfold back
  rw [rt_sq hw]
  simp only [mul_comm (x _) (u _)]
  ring

/-- A gradient through two products of the same row. -/
def dh {a : ℕ} (p q : Fin a → ℝ) (w v : Fin n → Fin a → ℝ) (k : Fin n) : ℝ := ∑ i, p i * w k i + ∑ i, q i * v k i

/-- An entry of a row divided by its root and scaled, over the extended reals. -/
def unit (w : ℝ) (x g : Fin n → EReal) (k : Fin n) : EReal := x k * Ideal.rsqrt ((∑ a, x a * x a) * ((1 / w : ℝ) : EReal) + (eps : EReal)) * g k

end Cert.Norm

end
-- ==== Proof.FfnIn.Pay.lean ====
/- The feed-forward norm's backward payloads at an index, over blocks of finite numbers. -/
module

public import proofs.«01_k».proof.Proof.FfnIn.Block
public import proofs.«01_k».proof.Proof.Norm
public import Idealize.ShloMosaic.Lib.Pipeline.ValueKit.Tiles

@[expose] public section

set_option maxRecDepth 16384
set_option maxHeartbeats 1000000

noncomputable section

open Idealize.ShloMosaic Idealize.ShloMosaic.TcCoe Idealize.SL.Sem

namespace Cert.FfnInIdeal.Pay

open Cert.FfnInIdeal Cert.FfnInIdeal.Gen Cert.Sums Cert.Norm

variable {x d3 : FVec Ideal S512x1024 .f32} {gp up : FVec Ideal S512x2816 .bf16} {g : FVec Ideal S1x1024 .f32} {wg wu : FVec Ideal S2816x1024 .bf16}
variable {X D3 : Fin 512 → Fin 1024 → ℝ} {GP UP : Fin 512 → Fin 2816 → ℝ} {G : Fin 1024 → ℝ} {WG WU : Fin 1024 → Fin 2816 → ℝ}
variable (hx : ∀ r k, x (ix2 r k) = (X r k : EReal)) (h3 : ∀ r k, d3 (ix2 r k) = (D3 r k : EReal))
variable (hp : ∀ r k, gp (ix2 r k) = (GP r k : EReal)) (hu : ∀ r k, up (ix2 r k) = (UP r k : EReal))
variable (hg : ∀ k, g (ix2 0 k) = (G k : EReal)) (hwg : ∀ a k, wg (ix2 a k) = (WG k a : EReal)) (hwu : ∀ a k, wu (ix2 a k) = (WU k a : EReal))
variable (r : Fin 512) (k : Fin 1024)

include hx in
/-- One over the root of a row's mean square. -/
theorem pay5 : k0_pay5 (F := Ideal) x (ix2 r 0) = (rt 1024 (X r) : EReal) := by
  rw [← rsqrt_ms (by norm_num)]
  pointwise [k0_pay5]
  simp only [hx, ← EReal.coe_mul, coe_sum]
  rw [over_width_word, eps_word, ← EReal.coe_mul, ← EReal.coe_add]
  rfl

include hx hg in
/-- The norm's output. -/
theorem pay6 : k0_pay6 (F := Ideal) x g (ix2 r k) = ((X r k * rt 1024 (X r) * G k : ℝ) : EReal) := by
  pointwise [k0_pay6]
  rw [pay5 hx, hx, hg, ← EReal.coe_mul, ← EReal.coe_mul]

include hp hu hwg hwu in
theorem pay4 : k0_pay4 (F := Ideal) gp wg up wu (ix2 r k) = (dh (GP r) (UP r) WG WU k : EReal) := by
  pointwise [k0_pay4]
  simp only [hp, hu, hwg, hwu, ← EReal.coe_mul, coe_sum, ← EReal.coe_add]
  rfl

include hp hu hwg hwu hg in
theorem pay7 : k0_pay7 (F := Ideal) g gp wg up wu (ix2 r k) = ((dh (GP r) (UP r) WG WU k * G k : ℝ) : EReal) := by
  pointwise [k0_pay7]
  rw [pay4 hp hu hwg hwu, hg, ← EReal.coe_mul]

include hx hp hu hwg hwu hg in
theorem pay8 : k0_pay8 (F := Ideal) x g gp wg up wu (ix2 r k) = ((rt 1024 (X r) * (dh (GP r) (UP r) WG WU k * G k) : ℝ) : EReal) := by
  pointwise [k0_pay8]
  rw [pay5 hx, pay7 hp hu hg hwg hwu, ← EReal.coe_mul]

include hx in
theorem pay9 : k0_pay9 (F := Ideal) x (ix2 r k) = ((X r k * (rt 1024 (X r) * rt 1024 (X r) * rt 1024 (X r)) : ℝ) : EReal) := by
  pointwise [k0_pay9]
  rw [pay5 hx, hx, ← EReal.coe_mul, ← EReal.coe_mul, ← EReal.coe_mul]

include hx h3 hp hu hwg hwu hg in
/-- The gradient into the residual. -/
theorem pay1 : k0_pay1 (F := Ideal) x (k0_pay7 g gp wg up wu) (k0_pay8 x g gp wg up wu) (k0_pay9 x) d3 (ix2 r k)
    = ((D3 r k + back 1024 (X r) (fun a => dh (GP r) (UP r) WG WU a * G a) k : ℝ) : EReal) := by
  pointwise [k0_pay1]
  simp only [pay8 hx hp hu hg hwg hwu, pay9 hx, pay7 hp hu hg hwg hwu, hx, h3, ← EReal.coe_mul, coe_sum]
  rw [over_width_word, ← EReal.coe_mul, ← EReal.coe_mul, ← EReal.coe_sub, ← EReal.coe_add]
  rfl

include hx hp hu hwg hwu in
/-- What a point adds to the gradient of the gains. -/
theorem pay2 (acc : FVec Ideal S1x1024 .f32) : k0_pay2 (F := Ideal) x (k0_pay4 gp wg up wu) (k0_pay5 x) acc (ix2 0 k)
    = acc (ix2 0 k) + ((∑ r, dh (GP r) (UP r) WG WU k * X r k * rt 1024 (X r) : ℝ) : EReal) := by
  pointwise [k0_pay2]
  simp only [pay4 hp hu hwg hwu, pay5 hx, hx, ← EReal.coe_mul, coe_sum]

theorem pay3 : k0_pay3 (F := Ideal) (ix2 0 k) = 0 := by
  pointwise [k0_pay3]

end Cert.FfnInIdeal.Pay

end
-- ==== Proof.FfnIn.Ref.lean ====
/- The feed-forward norm's gradients in the reference at an index, over finite arguments. -/
module

public import proofs.«01_k».proof.Proof.Gen.FfnInVjpIdeal.Read
public import proofs.«01_k».proof.Proof.Norm
public import Idealize.ShloMosaic.Lib.Tactic

@[expose] public section

set_option maxRecDepth 16384
set_option maxHeartbeats 1000000

noncomputable section

open Idealize.ShloMosaic Idealize.ShloMosaic.TcCoe Idealize.SL.Sem

namespace Cert.FfnInVjpIdeal.At

open Cert.FfnInVjpIdeal Cert.FfnInVjpIdeal.Read Cert.Sums Cert.Norm

variable {x d3 : FVec Ideal S4096x1024 .f32} {gp up : FVec Ideal S4096x2816 .bf16} {g : FVec Ideal S1x1024 .f32} {wg wu : FVec Ideal S1024x2816 .bf16}
variable {X D3 : Fin 4096 → Fin 1024 → ℝ} {GP UP : Fin 4096 → Fin 2816 → ℝ} {G : Fin 1024 → ℝ} {WG WU : Fin 1024 → Fin 2816 → ℝ}
variable (hx : ∀ r k, x (ix2 r k) = (X r k : EReal)) (h3 : ∀ r k, d3 (ix2 r k) = (D3 r k : EReal))
variable (hp : ∀ r k, gp (ix2 r k) = (GP r k : EReal)) (hu : ∀ r k, up (ix2 r k) = (UP r k : EReal))
variable (hg : ∀ k, g (ix2 0 k) = (G k : EReal)) (hwg : ∀ k a, wg (ix2 k a) = (WG k a : EReal)) (hwu : ∀ k a, wu (ix2 k a) = (WU k a : EReal))
variable (r : Fin 4096) (k : Fin 1024)

include hx in
theorem v6 : val_main_v6 (F := Ideal) x (ix2 r 0) = (ms 1024 (X r) : EReal) := by
  pointwise [val_main_v6, val_main_v5, val_main_v4, val_main_v3, val_main_v2, val_main_v1, val_main_v0, val_main_cst, val_main_cst_0, val_main_cst_1]
  simp only [hx, ← EReal.coe_mul, coe_sum]
  rw [width_word, eps_word, Ideal.div_coe (by norm_num), ← EReal.coe_mul, ← EReal.coe_add]
  rfl

include hx in
theorem v7 : val_main_v7 (F := Ideal) x (ix2 r 0) = (rt 1024 (X r) : EReal) := by
  rw [← rsqrt_ms (by norm_num)]
  pointwise [val_main_v7]
  rw [v6 hx]

theorem root (r : Fin 4096) : Ideal.rsqrt ((ms 1024 (X r) : ℝ) : EReal) = (rt 1024 (X r) : EReal) := rsqrt_ms (by norm_num) (X r)

include hx in
theorem v12 : val_main_v12 (F := Ideal) x (ix2 r k) = ((X r k * rt 1024 (X r) : ℝ) : EReal) := by
  pointwise [val_main_v12, val_main_v11]
  rw [v7 hx, hx, ← EReal.coe_mul]

include hx hg in
/-- The norm's output. -/
theorem v56 : val_main_v56 (F := Ideal) x g (ix2 r k) = ((X r k * rt 1024 (X r) * G k : ℝ) : EReal) := by
  have h50 : val_main_v50 (F := Ideal) x (ix2 r 0) = (ms 1024 (X r) : EReal) := by
    pointwise [val_main_v50, val_main_v49, val_main_v48, val_main_v47, val_main_v46, val_main_v45, val_main_v44, val_main_cst_7, val_main_cst_8, val_main_cst_9]
    simp only [hx, ← EReal.coe_mul, coe_sum]
    rw [width_word, eps_word, Ideal.div_coe (by norm_num), ← EReal.coe_mul, ← EReal.coe_add]
    rfl
  pointwise [val_main_v56, val_main_v55, val_main_v54, val_main_v53, val_main_v52, val_main_v51]
  rw [h50, root, hx, hg,
    ← EReal.coe_mul, ← EReal.coe_mul]

include hp hu hwg hwu in
theorem v23 : val_main_v23 (F := Ideal) gp up wg wu (ix2 r k) = (dh (GP r) (UP r) WG WU k : EReal) := by
  pointwise [val_main_v23, val_main_v22, val_main_v21, val_main_v20, val_main_v19, val_main_v18, val_main_v17, val_main_v16, val_main_v15]
  simp only [hp, hu, hwg, hwu, ← EReal.coe_mul, coe_sum, ← EReal.coe_add]
  congr 1
  unfold dh
  ring

include hx hp hu hwg hwu in
/-- The gradient of the gains. -/
theorem v26 : val_main_v26 (F := Ideal) x gp up wg wu (ix2 0 k) = ((∑ r, dh (GP r) (UP r) WG WU k * X r k * rt 1024 (X r) : ℝ) : EReal) := by
  pointwise [val_main_v26, val_main_v25, val_main_v24, val_main_cst_3]
  simp only [v12 hx, v23 hp hu hwg hwu, ← EReal.coe_mul, coe_sum]
  congr 1
  exact Finset.sum_congr rfl fun i _ => by ring

include hp hu hwg hwu hg in
theorem v28 : val_main_v28 (F := Ideal) gp up g wg wu (ix2 r k) = ((dh (GP r) (UP r) WG WU k * G k : ℝ) : EReal) := by
  pointwise [val_main_v28, val_main_v27]
  rw [v23 hp hu hwg hwu, hg, ← EReal.coe_mul]

include hx hp hu hwg hwu hg in
theorem v39 : val_main_v39 (F := Ideal) x gp up g wg wu (ix2 r k)
    = (((∑ a, X r a * (dh (GP r) (UP r) WG WU a * G a)) * (-(1 / 2) * (rt 1024 (X r) * (1 / ms 1024 (X r)))) * (1 / 1024) : ℝ) : EReal) := by
  pointwise [val_main_v39, val_main_v38, val_main_v37, val_main_v36, val_main_v35, val_main_v31, val_main_v30, val_main_v29, val_main_v10, val_main_v9, val_main_v8,
    val_main_cst_2, val_main_cst_4, val_main_cst_5, val_main_cst_6]
  simp only [Fin.sum_univ_one, v28 hp hu hg hwg hwu, v7 hx, v6 hx, hx, ← EReal.coe_mul, coe_sum]
  rw [half_word, width_word, Ideal.div_coe (ms_pos (by norm_num) _).ne', Ideal.div_coe (by norm_num)]
  simp only [← EReal.coe_mul]

include hx h3 hp hu hwg hwu hg in
/-- The gradient into the residual. -/
theorem v43 : val_main_v43 (F := Ideal) d3 x gp up g wg wu (ix2 r k)
    = ((D3 r k + back 1024 (X r) (fun a => dh (GP r) (UP r) WG WU a * G a) k : ℝ) : EReal) := by
  rw [← back_eq (by norm_num)]
  pointwise [val_main_v43, val_main_v42, val_main_v41, val_main_v40, val_main_v34, val_main_v33, val_main_v32]
  rw [v39 hx hp hu hg hwg hwu, v28 hp hu hg hwg hwu, v7 hx, hx, h3]
  simp only [← EReal.coe_mul, ← EReal.coe_add]

end Cert.FfnInVjpIdeal.At

end
-- ==== Proof.Tile.lean ====
/- A sum over the rows taken block by block, as a grid's points add it up. -/
module

public import proofs.«01_k».proof.Proof.Sums
public import Idealize.ShloMosaic.Lib.Pipeline.ValueKit.Tiles

@[expose] public section

noncomputable section

open Idealize.ShloMosaic

namespace Cert.Tile

/-- The sum over block `k` of `b` rows. -/
def tile {N : ℕ} (b : ℕ) (f : Fin N → ℝ) (k : ℕ) : ℝ := ∑ r : Fin b, if h : k * b + r.val < N then f ⟨k * b + r.val, h⟩ else 0

/-- All blocks are all rows. -/
theorem tiles {N : ℕ} (n b : ℕ) (h : n * b = N) (f : Fin N → ℝ) : ∑ k ∈ Finset.range n, tile b f k = ∑ i, f i := by
  subst h
  rw [Fin.sum_univ_tiles n b rfl f, Finset.sum_range]
  refine Finset.sum_congr rfl fun k _ => Finset.sum_congr rfl fun r _ => ?_
  rw [dif_pos (by have := k.isLt; have := r.isLt; nlinarith)]

/-- A block's rows, named one by one. -/
theorem tile_row {N b : ℕ} (f : Fin N → ℝ) (k : ℕ) (row : Fin b → Fin N) (h : ∀ r, (row r).val = k * b + r.val) :
    ∑ r, f (row r) = tile b f k := by
  refine Finset.sum_congr rfl fun r _ => ?_
  rw [dif_pos (by rw [← h]; exact (row r).isLt)]
  exact congrArg f (Fin.ext (h r))

/-- A number that the first point sets and each later point adds to. -/
theorem run {N : ℕ} (a : (n : ℕ) → n < N → EReal) (s : ℕ → ℝ) (h0 : ∀ h, a 0 h = (s 0 : EReal))
    (hs : ∀ n (h : n + 1 < N), a (n + 1) h = a n (by omega) + (s (n + 1) : EReal)) (n : ℕ) :
    ∀ h : n < N, a n h = ((∑ k ∈ Finset.range (n + 1), s k : ℝ) : EReal) := by
  induction n with
  | zero => intro h; rw [h0]; simp
  | succ n ih => intro h; rw [hs, ih, ← EReal.coe_add, Finset.sum_range_succ _ (n + 1)]

/-- The sum over block `k` of `b` rows, over the extended reals. -/
def tileE {N : ℕ} (b : ℕ) (f : Fin N → EReal) (k : ℕ) : EReal := ∑ r : Fin b, if h : k * b + r.val < N then f ⟨k * b + r.val, h⟩ else 0

theorem tilesE {N : ℕ} (n b : ℕ) (h : n * b = N) (f : Fin N → EReal) : ∑ k ∈ Finset.range n, tileE b f k = ∑ i, f i := by
  subst h
  rw [Fin.sum_univ_tiles n b rfl f, Finset.sum_range]
  refine Finset.sum_congr rfl fun k _ => Finset.sum_congr rfl fun r _ => ?_
  rw [dif_pos (by have := k.isLt; have := r.isLt; nlinarith)]

theorem tileE_row {N b : ℕ} (f : Fin N → EReal) (k : ℕ) (row : Fin b → Fin N) (h : ∀ r, (row r).val = k * b + r.val) :
    ∑ r, f (row r) = tileE b f k := by
  refine Finset.sum_congr rfl fun r _ => ?_
  rw [dif_pos (by rw [← h]; exact (row r).isLt)]
  exact congrArg f (Fin.ext (h r))

/-- The running sum over the extended reals. -/
theorem runE {N : ℕ} (a : (n : ℕ) → n < N → EReal) (s : ℕ → EReal) (h0 : ∀ h, a 0 h = s 0)
    (hs : ∀ n (h : n + 1 < N), a (n + 1) h = a n (by omega) + s (n + 1)) (n : ℕ) :
    ∀ h : n < N, a n h = ∑ k ∈ Finset.range (n + 1), s k := by
  induction n with
  | zero => intro h; rw [h0]; simp
  | succ n ih => intro h; rw [hs, ih, Finset.sum_range_succ _ (n + 1)]

end Cert.Tile

end
-- ==== Proof.FfnIn.Value.lean ====
/- The feed-forward norm's backward call computes the three gradients its reference states. -/
module

public import proofs.«01_k».proof.Proof.At
public import proofs.«01_k».proof.Proof.FfnIn.Pay
public import proofs.«01_k».proof.Proof.FfnIn.Ref
public import proofs.«01_k».proof.Proof.Tile
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.FfnInIdeal.Final

open Cert.FfnInIdeal Cert.FfnInIdeal.Gen Cert.FfnInIdeal.Value Cert.Sums Cert.Norm Cert.Tile Cert.At

variable {m : (ℓ : Loc nD τ sig) → Buf (Elt Ideal) ℓ} {c : Dev nD}

/-- Argument 0, as launched. -/
abbrev arg3 (m : (ℓ : Loc nD τ sig) → Buf (Elt Ideal) ℓ) (c : Dev nD) : FVec Ideal S4096x1024 .f32 := m (c.tc.loc main_arg0)

theorem kept0 : V m c main_arg0 = arg3 m c := by
  unfold V
  after_reads_simp

/-- Argument 1, as launched. -/
abbrev argX (m : (ℓ : Loc nD τ sig) → Buf (Elt Ideal) ℓ) (c : Dev nD) : FVec Ideal S4096x1024 .f32 := m (c.tc.loc main_arg1)

theorem kept1 : V m c main_arg1 = argX m c := by
  unfold V
  after_reads_simp

/-- Argument 2, as launched. -/
abbrev argP (m : (ℓ : Loc nD τ sig) → Buf (Elt Ideal) ℓ) (c : Dev nD) : FVec Ideal S4096x2816 .bf16 := m (c.tc.loc main_arg2)

theorem kept2 : V m c main_arg2 = argP m c := by
  unfold V
  after_reads_simp

/-- Argument 3, as launched. -/
abbrev argU (m : (ℓ : Loc nD τ sig) → Buf (Elt Ideal) ℓ) (c : Dev nD) : FVec Ideal S4096x2816 .bf16 := m (c.tc.loc main_arg3)

theorem kept3 : V m c main_arg3 = argU m c := by
  unfold V
  after_reads_simp

/-- Argument 4, as launched. -/
abbrev argG (m : (ℓ : Loc nD τ sig) → Buf (Elt Ideal) ℓ) (c : Dev nD) : FVec Ideal S1x1024 .f32 := m (c.tc.loc main_arg4)

theorem kept4 : V m c main_arg4 = argG m c := by
  unfold V
  after_reads_simp

/-- Argument 5, as launched. -/
abbrev argWG (m : (ℓ : Loc nD τ sig) → Buf (Elt Ideal) ℓ) (c : Dev nD) : FVec Ideal S1024x2816 .bf16 := m (c.tc.loc main_arg5)

theorem turned5 (a : Fin 2816) (k : Fin 1024) : (V m c main_v0 : FVec Ideal S2816x1024 .bf16) (ix2 a k) = argWG m c (ix2 k a) := by
  unfold V
  after_reads_at

/-- Argument 6, as launched. -/
abbrev argWU (m : (ℓ : Loc nD τ sig) → Buf (Elt Ideal) ℓ) (c : Dev nD) : FVec Ideal S1024x2816 .bf16 := m (c.tc.loc main_arg6)

theorem turned6 (a : Fin 2816) (k : Fin 1024) : (V m c main_v1 : FVec Ideal S2816x1024 .bf16) (ix2 a k) = argWU m c (ix2 k a) := by
  unfold V
  after_reads_at

theorem at0 : ∀ t : Fin cfg0.N, win0_0.index t (0 : Fin 2) = t.val ∧ win0_0.index t (1 : Fin 2) = 0 :=
  (by decide +kernel : ∀ t : Fin grid0.N, _)

theorem at1 : ∀ t : Fin cfg0.N, win0_1.index t (0 : Fin 2) = t.val ∧ win0_1.index t (1 : Fin 2) = 0 :=
  (by decide +kernel : ∀ t : Fin grid0.N, _)

theorem at2 : ∀ t : Fin cfg0.N, win0_2.index t (0 : Fin 2) = t.val ∧ win0_2.index t (1 : Fin 2) = 0 :=
  (by decide +kernel : ∀ t : Fin grid0.N, _)

theorem at3 : ∀ t : Fin cfg0.N, win0_3.index t (0 : Fin 2) = t.val ∧ win0_3.index t (1 : Fin 2) = 0 :=
  (by decide +kernel : ∀ t : Fin grid0.N, _)

theorem at7 : ∀ t : Fin cfg0.N, win0_7.index t (0 : Fin 2) = t.val ∧ win0_7.index t (1 : Fin 2) = 0 :=
  (by decide +kernel : ∀ t : Fin grid0.N, _)

theorem at8 : ∀ t : Fin cfg0.N, win0_8.index t (0 : Fin 2) = t.val ∧ win0_8.index t (1 : Fin 2) = 0 :=
  (by decide +kernel : ∀ t : Fin grid0.N, _)

theorem at4 : ∀ t : Fin cfg0.N, win0_4.index t (0 : Fin 2) = 0 ∧ win0_4.index t (1 : Fin 2) = 0 :=
  (by decide +kernel : ∀ t : Fin grid0.N, _)

theorem at5 : ∀ t : Fin cfg0.N, win0_5.index t (0 : Fin 2) = 0 ∧ win0_5.index t (1 : Fin 2) = 0 :=
  (by decide +kernel : ∀ t : Fin grid0.N, _)

theorem at6 : ∀ t : Fin cfg0.N, win0_6.index t (0 : Fin 2) = 0 ∧ win0_6.index t (1 : Fin 2) = 0 :=
  (by decide +kernel : ∀ t : Fin grid0.N, _)

theorem at9 : ∀ t : Fin cfg0.N, win0_9.index t (0 : Fin 2) = 0 ∧ win0_9.index t (1 : Fin 2) = 0 :=
  (by decide +kernel : ∀ t : Fin grid0.N, _)

theorem blk0 (t : Fin cfg0.N) (r : Fin 512) (k : Fin 1024) (R : Fin 4096) (hR : R.val = t.val * 512 + r.val) :
    (iblk m c 0 t : FVec Ideal S512x1024 .f32) (ix2 r k) = V m c main_arg0 (ix2 R k) := by
  obtain ⟨f0, f1⟩ := at0 t
  unfold iblk
  rw [View.read_apply]
  exact congrArg (V m c main_arg0) (ext2 ((moved f0).trans hR.symm) (fixed f1))

theorem blk1 (t : Fin cfg0.N) (r : Fin 512) (k : Fin 1024) (R : Fin 4096) (hR : R.val = t.val * 512 + r.val) :
    (iblk m c 1 t : FVec Ideal S512x1024 .f32) (ix2 r k) = V m c main_arg1 (ix2 R k) := by
  obtain ⟨f0, f1⟩ := at1 t
  unfold iblk
  rw [View.read_apply]
  exact congrArg (V m c main_arg1) (ext2 ((moved f0).trans hR.symm) (fixed f1))

theorem blk2 (t : Fin cfg0.N) (r : Fin 512) (k : Fin 2816) (R : Fin 4096) (hR : R.val = t.val * 512 + r.val) :
    (iblk m c 2 t : FVec Ideal S512x2816 .bf16) (ix2 r k) = V m c main_arg2 (ix2 R k) := by
  obtain ⟨f0, f1⟩ := at2 t
  unfold iblk
  rw [View.read_apply]
  exact congrArg (V m c main_arg2) (ext2 ((moved f0).trans hR.symm) (fixed f1))

theorem blk3 (t : Fin cfg0.N) (r : Fin 512) (k : Fin 2816) (R : Fin 4096) (hR : R.val = t.val * 512 + r.val) :
    (iblk m c 3 t : FVec Ideal S512x2816 .bf16) (ix2 r k) = V m c main_arg3 (ix2 R k) := by
  obtain ⟨f0, f1⟩ := at3 t
  unfold iblk
  rw [View.read_apply]
  exact congrArg (V m c main_arg3) (ext2 ((moved f0).trans hR.symm) (fixed f1))

theorem blk4 (t : Fin cfg0.N) (k : Fin 1024)  :
    (iblk m c 4 t : FVec Ideal S1x1024 .f32) (ix2 0 k) = V m c main_arg4 (ix2 0 k) := by
  obtain ⟨f0, f1⟩ := at4 t
  unfold iblk
  rw [View.read_apply]
  exact congrArg (V m c main_arg4) (ext2 (fixed f0) (fixed f1))

theorem blk5 (t : Fin cfg0.N) (r : Fin 2816) (k : Fin 1024)  :
    (iblk m c 5 t : FVec Ideal S2816x1024 .bf16) (ix2 r k) = V m c main_v0 (ix2 r k) := by
  obtain ⟨f0, f1⟩ := at5 t
  unfold iblk
  rw [View.read_apply]
  exact congrArg (V m c main_v0) (ext2 (fixed f0) (fixed f1))

theorem blk6 (t : Fin cfg0.N) (r : Fin 2816) (k : Fin 1024)  :
    (iblk m c 6 t : FVec Ideal S2816x1024 .bf16) (ix2 r k) = V m c main_v1 (ix2 r k) := by
  obtain ⟨f0, f1⟩ := at6 t
  unfold iblk
  rw [View.read_apply]
  exact congrArg (V m c main_v1) (ext2 (fixed f0) (fixed f1))

/-- A point's row among all. -/
def row (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem row_holds (i : Fin 4096) : row (holds i) ⟨i.val % 512, by omega⟩ = i := Fin.ext (by show i.val / 512 * 512 + i.val % 512 = i.val; omega)

variable {X D3 : Fin 4096 → Fin 1024 → ℝ} {GP UP : Fin 4096 → Fin 2816 → ℝ} {G : Fin 1024 → ℝ} {WG WU : Fin 1024 → Fin 2816 → ℝ}
variable (h3 : ∀ r k, arg3 m c (ix2 r k) = (D3 r k : EReal)) (hx : ∀ r k, argX m c (ix2 r k) = (X r k : EReal))
variable (hp : ∀ r k, argP m c (ix2 r k) = (GP r k : EReal)) (hu : ∀ r k, argU m c (ix2 r k) = (UP r k : EReal))
variable (hg : ∀ k, argG m c (ix2 0 k) = (G k : EReal)) (hwg : ∀ k a, argWG m c (ix2 k a) = (WG k a : EReal)) (hwu : ∀ k a, argWU m c (ix2 k a) = (WU k a : EReal))
variable (t : Fin cfg0.N)

include h3 in
theorem at_3 (r : Fin 512) (k : Fin 1024) : (iblk m c 0 t : FVec Ideal S512x1024 .f32) (ix2 r k) = (D3 (row t r) k : EReal) := by
  rw [blk0 t r k (row t r) rfl, kept0, h3]

include hx in
theorem at_X (r : Fin 512) (k : Fin 1024) : (iblk m c 1 t : FVec Ideal S512x1024 .f32) (ix2 r k) = (X (row t r) k : EReal) := by
  rw [blk1 t r k (row t r) rfl, kept1, hx]

include hp in
theorem at_P (r : Fin 512) (k : Fin 2816) : (iblk m c 2 t : FVec Ideal S512x2816 .bf16) (ix2 r k) = (GP (row t r) k : EReal) := by
  rw [blk2 t r k (row t r) rfl, kept2, hp]

include hu in
theorem at_U (r : Fin 512) (k : Fin 2816) : (iblk m c 3 t : FVec Ideal S512x2816 .bf16) (ix2 r k) = (UP (row t r) k : EReal) := by
  rw [blk3 t r k (row t r) rfl, kept3, hu]

include hg in
theorem at_G (k : Fin 1024) : (iblk m c 4 t : FVec Ideal S1x1024 .f32) (ix2 0 k) = (G k : EReal) := by
  rw [blk4 t k, kept4, hg]

include hwg in
theorem at_WG (a : Fin 2816) (k : Fin 1024) : (iblk m c 5 t : FVec Ideal S2816x1024 .bf16) (ix2 a k) = (WG k a : EReal) := by
  rw [blk5 t a k, turned5, hwg]

include hwu in
theorem at_WU (a : Fin 2816) (k : Fin 1024) : (iblk m c 6 t : FVec Ideal S2816x1024 .bf16) (ix2 a k) = (WU k a : EReal) := by
  rw [blk6 t a k, turned6, hwu]

theorem flush7 : ∀ t : Fin cfg0.N, (cfg0.win 7).flush t = true ∧ (cfg0.win 8).flush t = true ∧ (t.val = 7 → (cfg0.win 9).flush t = true) :=
  (by decide +kernel : ∀ t : Fin grid0.N, _)

/-- Only the last point writes the gains' gradient back. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' hf hf' hne => absurd ((by decide +kernel : ∀ t t' : Fin grid0.N, (cfg0.win 9).flush t = true → (cfg0.win 9).flush t' = true → t = t') t t' hf hf') hne

/-- The three results' arrays. -/
abbrev arr7 (m : (ℓ : Loc nD τ sig) → Buf (Elt Ideal) ℓ) (c : Dev nD) : FVec Ideal S4096x1024 .f32 := (dats m 0 c).arrAt 7 cfg0.N
abbrev arr8 (m : (ℓ : Loc nD τ sig) → Buf (Elt Ideal) ℓ) (c : Dev nD) : FVec Ideal S4096x1024 .bf16 := (dats m 0 c).arrAt 8 cfg0.N
abbrev arr9 (m : (ℓ : Loc nD τ sig) → Buf (Elt Ideal) ℓ) (c : Dev nD) : FVec Ideal S1x1024 .f32 := (dats m 0 c).arrAt 9 cfg0.N

theorem cell7 (r : Fin 512) (k : Fin 1024) :
    arr7 m c (ix2 (row t r) k) = ((outsAt0 m c t.val t.isLt).1 : FVec Ideal S512x1024 .f32) (ix2 r k) := by
  obtain ⟨f0, f1⟩ := at7 t
  have h := congrFun ((blocks7 m c t (flush7 t).1).trans (flushed7 m c t)) (ix2 r k)
  rw [View.read_apply] at h
  exact (congrArg (arr7 m c) (ext2 (moved f0) (fixed f1)).symm).trans h

theorem cell8 (r : Fin 512) (k : Fin 1024) :
    arr8 m c (ix2 (row t r) k) = ((outsAt0 m c t.val t.isLt).2.1 : FVec Ideal S512x1024 .bf16) (ix2 r k) := by
  obtain ⟨f0, f1⟩ := at8 t
  have h := congrFun ((blocks8 m c t (flush7 t).2.1).trans (flushed8 m c t)) (ix2 r k)
  rw [View.read_apply] at h
  exact (congrArg (arr8 m c) (ext2 (moved f0) (fixed f1)).symm).trans h

theorem cell9 (ht : t.val = 7) (k : Fin 1024) : arr9 m c (ix2 0 k) = ((outsAt0 m c t.val t.isLt).2.2 : FVec Ideal S1x1024 .f32) (ix2 0 k) := by
  obtain ⟨f0, f1⟩ := at9 t
  have h := congrFun (((dats m 0 c).read_blk_arrAt_eq_flushed 9 disjoint9 cfg0.N t t.isLt ((flush7 t).2.2 ht)).trans (flushed9 m c t)) (ix2 0 k)
  rw [View.read_apply] at h
  exact (congrArg (arr9 m c) (ext2 (fixed f0) (fixed f1)).symm).trans h

/-- One row's part of the gains' gradient. -/
def gain (X : Fin 4096 → Fin 1024 → ℝ) (GP UP : Fin 4096 → Fin 2816 → ℝ) (WG WU : Fin 1024 → Fin 2816 → ℝ) (k : Fin 1024) (i : Fin 4096) : ℝ :=
  dh (GP i) (UP i) WG WU k * X i k * rt 1024 (X i)

include hx hp hu hwg hwu in
theorem point9 (acc : FVec Ideal S1x1024 .f32) (k : Fin 1024) :
    k0_pay2 (F := Ideal) (iblk m c 1 t) (k0_pay4 (iblk m c 2 t) (iblk m c 5 t) (iblk m c 3 t) (iblk m c 6 t)) (k0_pay5 (iblk m c 1 t)) acc (ix2 0 k)
      = acc (ix2 0 k) + (tile 512 (gain X GP UP WG WU k) t.val : EReal) := by
  rw [← tile_row _ _ (row t) fun r => rfl]
  exact Pay.pay2 (X := fun r => X (row t r)) (GP := fun r => GP (row t r)) (UP := fun r => UP (row t r))
    (at_X hx t) (at_P hp t) (at_U hu t) (at_WG hwg t) (at_WU hwu t) k acc

include hx hp hu hwg hwu in
/-- The gains' gradient. -/
theorem gains_at (k : Fin 1024) : arr9 m c (ix2 0 k) = ((∑ i, gain X GP UP WG WU k i : ℝ) : EReal) := by
  have h := run (fun n hn => ((outsAt0 m c n hn).2.2 : FVec Ideal S1x1024 .f32) (ix2 0 k)) (tile 512 (gain X GP UP WG WU k))
    (fun h => by
      show ((outsAt0 m c (⟨0, h⟩ : Fin cfg0.N).val h).2.2 : FVec Ideal S1x1024 .f32) (ix2 0 k) = _
      rw [Block.o9_A m c ⟨0, h⟩ rfl, point9 hx hp hu hwg hwu, Pay.pay3, zero_add])
    (fun n h => by
      have h8 := lt_of_lt_of_eq h (show cfg0.N = 8 from N_0)
      show ((outsAt0 m c (⟨n + 1, h⟩ : Fin cfg0.N).val h).2.2 : FVec Ideal S1x1024 .f32) (ix2 0 k) = _
      rw [Block.o9_B m c ⟨n + 1, h⟩ (by show ¬ (n + 1) % 8 = 0; omega), point9 hx hp hu hwg hwu]
      rfl)
    7 (lt_of_lt_of_eq (by decide) (show 8 = cfg0.N from N_0.symm))
  rw [tiles 8 512 rfl] at h
  exact (cell9 ⟨7, lt_of_lt_of_eq (by decide) (show 8 = cfg0.N from N_0.symm)⟩ rfl k).trans h

include h3 hx hp hu hg hwg hwu in
/-- The residual's gradient is the reference's. -/
theorem value43 : Cert.FfnInVjpIdeal.Read.val_main_v43 (F := Ideal) (arg3 m c) (argX m c) (argP m c) (argU m c) (argG m c) (argWG m c) (argWU m c) = arr7 m c := by
  funext i
  idx_vars i
  have e := cell7 (m := m) (c := c) (holds i0) ⟨i0.val % 512, by omega⟩ i1
  rw [row_holds, Block.o7, Pay.pay1 (X := fun r => X (row (holds i0) r)) (D3 := fun r => D3 (row (holds i0) r)) (GP := fun r => GP (row (holds i0) r)) (UP := fun r => UP (row (holds i0) r))
    (at_X hx _) (at_3 h3 _) (at_P hp _) (at_U hu _) (at_G hg _) (at_WG hwg _) (at_WU hwu _)] at e
  simp only [row_holds] at e
  rw [e, Cert.FfnInVjpIdeal.At.v43 hx h3 hp hu hg hwg hwu]

include hx hg in
/-- The norm's output is the reference's. -/
theorem value56 : Cert.FfnInVjpIdeal.Read.val_main_v56 (F := Ideal) (argX m c) (argG m c) = arr8 m c := by
  funext i
  idx_vars i
  have e := cell8 (m := m) (c := c) (holds i0) ⟨i0.val % 512, by omega⟩ i1
  rw [row_holds, Block.o8, Pay.pay6 (X := fun r => X (row (holds i0) r)) (at_X hx _) (at_G hg _)] at e
  simp only [row_holds] at e
  rw [e, Cert.FfnInVjpIdeal.At.v56 hx hg]

include hx hp hu hwg hwu in
/-- The gains' gradient is the reference's. -/
theorem value26 : Cert.FfnInVjpIdeal.Read.val_main_v26 (F := Ideal) (argX m c) (argP m c) (argU m c) (argWG m c) (argWU m c) = arr9 m c := by
  funext i
  idx_vars i
  obtain rfl : i0 = 0 := Subsingleton.elim _ _
  rw [gains_at hx hp hu hwg hwu, Cert.FfnInVjpIdeal.At.v26 hx hp hu hwg hwu]
  rfl

end Cert.FfnInIdeal.Final

end
-- ==== Proof.FfnIn.Claims.lean ====
/- The claims about the feed-forward norm's backward call. -/
module

public import proofs.«01_k».proof.Defs
public import proofs.«01_k».proof.Proof.FfnIn.Value
public import proofs.«01_k».proof.Proof.Gen.FfnInVjpIdeal.Run
public import proofs.«01_k».proof.Proof.Gen.FfnIn.Frame
public import proofs.«01_k».proof.Proof.Gen.Pre_finite_ffn_in
public import Idealize.ShloMosaic.Lib.Quiescent

@[expose] public section

set_option maxRecDepth 16384

noncomputable section

open Idealize.ShloMosaic Idealize.SL.Sem

namespace Cert.FfnInClaims

open Cert.FfnInIdeal.Final Cert.Sums

/-- The reference runs to the end, keeps its arguments and has no counters. -/
theorem frame_ref : Cert.quiescent_FfnInVjpIdeal := fun m ρ _ =>
  (θ_run Cert.FfnInVjpIdeal.defs _ _).mono
    (fun r h => ⟨fun c => (h c).2.2.2, sem_eq_zero_of_no_sems (by decide) r.2⟩)
    (Cert.FfnInVjpIdeal.Value.run (F := Ideal) m ρ)

/-- The kernel's run gives the reference's results. -/
theorem value : Cert.algebraic_FfnInIdeal_FfnInVjpIdeal_pre_finite_ffn_in := by
  intro m ρ m' ρ' hpre hargs
  refine ⟨_, _, _, Cert.FfnInIdeal.Value.run_blocks m ρ,
    (θ_run Cert.FfnInVjpIdeal.defs _ _).mono (fun r h c => ?_) (Cert.FfnInVjpIdeal.Value.run (F := Ideal) m' ρ')⟩
  obtain ⟨p0, p1, p2, p3, p4, p5, p6⟩ := hpre c
  obtain ⟨X0, e0⟩ := real_of_pre (s0 := Cert.Pre_finite_ffn_in.S_) (arg3 m c) _ p0
  have h3 : ∀ r k, arg3 m c (ix2 r k) = ((fun r k => X0 (ix2 r k)) r k : EReal) := fun r k => congrFun e0 _
  obtain ⟨X1, e1⟩ := real_of_pre (s0 := Cert.Pre_finite_ffn_in.S_) (argX m c) _ p1
  have hx : ∀ r k, argX m c (ix2 r k) = ((fun r k => X1 (ix2 r k)) r k : EReal) := fun r k => congrFun e1 _
  obtain ⟨X2, e2⟩ := real_of_pre (s0 := Cert.Pre_finite_ffn_in.S_) (argP m c) _ p2
  have hp : ∀ r k, argP m c (ix2 r k) = ((fun r k => X2 (ix2 r k)) r k : EReal) := fun r k => congrFun e2 _
  obtain ⟨X3, e3⟩ := real_of_pre (s0 := Cert.Pre_finite_ffn_in.S_) (argU m c) _ p3
  have hu : ∀ r k, argU m c (ix2 r k) = ((fun r k => X3 (ix2 r k)) r k : EReal) := fun r k => congrFun e3 _
  obtain ⟨X4, e4⟩ := real_of_pre (s0 := Cert.Pre_finite_ffn_in.S_) (argG m c) _ p4
  have hg : ∀ k, argG m c (ix2 0 k) = ((fun k => X4 (ix2 0 k)) k : EReal) := fun k => congrFun e4 _
  obtain ⟨X5, e5⟩ := real_of_pre (s0 := Cert.Pre_finite_ffn_in.S_) (argWG m c) _ p5
  have hwg : ∀ k a, argWG m c (ix2 k a) = ((fun k a => X5 (ix2 k a)) k a : EReal) := fun k a => congrFun e5 _
  obtain ⟨X6, e6⟩ := real_of_pre (s0 := Cert.Pre_finite_ffn_in.S_) (argWU m c) _ p6
  have hwu : ∀ k a, argWU m c (ix2 k a) = ((fun k a => X6 (ix2 k a)) k a : EReal) := fun k a => congrFun e6 _
  obtain ⟨a0, a1, a2, a3, a4, a5, a6⟩ := hargs c
  obtain ⟨h0_, h1_, h2_, hkept⟩ := h c
  refine ⟨h0_.trans ?_, h1_.trans ?_, h2_.trans ?_, hkept⟩
  · rw [Cert.FfnInVjpIdeal.Read.val_main_v43_eq, a0, a1, a2, a3, a4, a5, a6]
    exact value43 h3 hx hp hu hg hwg hwu
  · refine (Cert.FfnInVjpIdeal.Read.val_main_v56_eq _ _ ).trans ?_
    rw [a1, a4]
    exact value56 hx hg
  · refine (Cert.FfnInVjpIdeal.Read.val_main_v26_eq _ _ _ _ _ ).trans ?_
    rw [a1, a2, a3, a5, a6]
    exact value26 hx hp hu hwg hwu

end Cert.FfnInClaims

end
-- ==== Proof.PleLoss.Block.lean ====
/- What the embedding gate's and the loss's call leaves after a grid point, as functions of the point's blocks. -/
module

public import proofs.«01_k».proof.Proof.Gen.PleLossIdeal.Value
public import proofs.«01_k».proof.Proof.Whole
public import Idealize.ShloMosaic.Lib.Tactic

@[expose] public section

set_option maxRecDepth 16384
set_option maxHeartbeats 1000000

noncomputable section

open Idealize.ShloMosaic Idealize.ShloMosaic.TcCoe Idealize.SL.Sem

namespace Cert.PleLossIdeal.Block

open Cert.PleLossIdeal Cert.PleLossIdeal.Gen Cert.PleLossIdeal.Value Cert.Whole

variable {F : FTy → Type} [FloatOps F]

/-- A table of the packed projection lies within it. -/
theorem inbW (j : Nat) (h : j < 8) : ∀ a, (![j, 0, 0] : Fin 3 → Nat) a + (![1, 256, 128] : Fin 3 → Nat) a ≤ (![8, 256, 128] : Fin 3 → Nat) a := by
  intro a; fin_cases a
  · exact h
  · exact le_refl 256
  · exact le_refl 128

/-- A band of 128 columns lies within 1024. -/
theorem inbC (o : Nat) (h : o + 128 ≤ 1024) : ∀ a, (![0, o] : Fin 2 → Nat) a + (![256, 128] : Fin 2 → Nat) a ≤ (![256, 1024] : Fin 2 → Nat) a := by
  intro a; fin_cases a
  · exact le_refl 256
  · exact h

/-- One table of the packed projection. -/
abbrev tab (j : Nat) (h : j < 8) (w : FVec F S8x256x128 .bf16) : FVec F S1x256x128 .bf16 :=
  View.ld (Val := Elt F) (e' := .bf16) w (Rect.unit (s := S8x256x128) ![j, 0, 0] ![1, 256, 128] (inbW j h))

/-- One band of columns. -/
abbrev band (o : Nat) (h : o + 128 ≤ 1024) (a : FVec F S256x1024 .f32) : FVec F S256x128 .f32 :=
  View.ld (Val := Elt F) (e' := .f32) a (Rect.unit (s := S256x1024) ![0, o] ![256, 128] (inbC o h))

section One

variable (x y : FVec F S512x1024 .f32) (g : FVec F S1x1024 .f32) (wg : FVec F S1024x1024 .bf16) (p : FVec F S512x256 .f32) (w : FVec F S8x256x128 .bf16)

/-- The embedding's projection. -/
def emb : FVec F S512x1024 .f32 :=
  k0_pay24 (k0_pay19 p) (k0_pay21 p (tab 0 (by omega) w)) (k0_pay22 p (tab 1 (by omega) w)) (k0_pay23 p (tab 2 (by omega) w))
    (tab 3 (by omega) w) (tab 4 (by omega) w) (tab 5 (by omega) w) (tab 6 (by omega) w) (tab 7 (by omega) w)

/-- The output minus the target. -/
def diff : FVec F S512x1024 .f32 :=
  k0_pay25 x (k0_pay19 p) (k0_pay20 x g wg) (k0_pay21 p (tab 0 (by omega) w)) (k0_pay22 p (tab 1 (by omega) w)) (k0_pay23 p (tab 2 (by omega) w))
    (tab 3 (by omega) w) (tab 4 (by omega) w) (tab 5 (by omega) w) (tab 6 (by omega) w) (tab 7 (by omega) w) y

/-- The running loss after a point. -/
def loss (acc : FVec F S8x128 .f32) : FVec F S8x128 .f32 :=
  k0_pay26 x (k0_pay19 p) (k0_pay20 x g wg) (k0_pay21 p (tab 0 (by omega) w)) (k0_pay22 p (tab 1 (by omega) w)) (k0_pay23 p (tab 2 (by omega) w))
    (tab 3 (by omega) w) (tab 4 (by omega) w) (tab 5 (by omega) w) (tab 6 (by omega) w) (tab 7 (by omega) w) y acc

/-- The gradient into the row. -/
def dx : FVec F S512x1024 .f32 := k0_pay30 x g (k0_pay17 x) (k0_pay20 x g wg) (emb p w) (diff x y g wg p w) wg

/-- The running gradient of the gains. -/
def dgain (acc : FVec F S1x1024 .f32) : FVec F S1x1024 .f32 := k0_pay31 x (k0_pay17 x) (k0_pay20 x g wg) (emb p w) (diff x y g wg p w) wg acc

/-- The running gradient of the gate's weights. -/
def dgate (acc : FVec F S1024x1024 .f32) : FVec F S1024x1024 .f32 := k0_pay1 acc (k0_pay32 (k0_pay18 x g) (k0_pay20 x g wg) (emb p w) (diff x y g wg p w))

/-- The running gradient of the projection. -/
def dproj (acc : FVec F S256x1024 .f32) : FVec F S256x1024 .f32 := k0_pay2 (k0_pay19 p) (k0_pay20 x g wg) (k0_pay27 (diff x y g wg p w)) acc

end One

/-- The stores that write the projection's gradient, last first. -/
def tables (a : FVec F S256x1024 .f32) : List (View.Piece (Elt F) S8x256x128 .bf16) :=
  [⟨Rect.unit (s := S8x256x128) ![7, 0, 0] ![1, 256, 128] (inbW 7 (by omega)), k0_pay6 (band 896 (by omega) a)⟩,
   ⟨Rect.unit (s := S8x256x128) ![6, 0, 0] ![1, 256, 128] (inbW 6 (by omega)), k0_pay5 (band 768 (by omega) a)⟩,
   ⟨Rect.unit (s := S8x256x128) ![5, 0, 0] ![1, 256, 128] (inbW 5 (by omega)), k0_pay4 (band 640 (by omega) a)⟩,
   ⟨Rect.unit (s := S8x256x128) ![4, 0, 0] ![1, 256, 128] (inbW 4 (by omega)), k0_pay3 (k0_pay12 (band 512 (by omega) a))⟩,
   ⟨Rect.unit (s := S8x256x128) ![3, 0, 0] ![1, 256, 128] (inbW 3 (by omega)), k0_pay11 (band 384 (by omega) a)⟩,
   ⟨Rect.unit (s := S8x256x128) ![2, 0, 0] ![1, 256, 128] (inbW 2 (by omega)), k0_pay10 (band 256 (by omega) a)⟩,
   ⟨Rect.unit (s := S8x256x128) ![1, 0, 0] ![1, 256, 128] (inbW 1 (by omega)), k0_pay9 (band 128 (by omega) a)⟩,
   ⟨Rect.unit (s := S8x256x128) ![0, 0, 0] ![1, 256, 128] (inbW 0 (by omega)), k0_pay8 (band 0 (by omega) a)⟩]

variable (m : (ℓ : Loc nD τ sig) → Buf (Elt F) ℓ) (c : Dev nD)

/-- The row gradient's block. -/
theorem o6 (t : Fin cfg0.N) : (outsAt0 m c t.val t.isLt).1 = dx (iblk m c 0 t) (iblk m c 5 t) (iblk m c 1 t) (iblk m c 2 t) (iblk m c 3 t) (iblk m c 4 t) := by
  by_cases h0 : t.val % 8 = 0
  · have h1 : ¬ t.val % 8 = 7 := by omega
    rw [outsAt0_A m c t h0 h1]
    dsimp only
    unfold out0_A_6
    rw [View.read_writes_eq_canon (h := fun y => cover0_A_6 ..)]
    unfold kernelRun0_A
    dsimp only
    sl_unfold_words
    simp only [canon2, cov2, View.readAt_eq_ld, ld2, Memref.IsWhole.read_unread, read_unread_whole]
    rfl
  by_cases h1 : t.val % 8 = 7
  · rw [outsAt0_C m c t h0 h1]
    dsimp only
    unfold out0_C_6
    rw [View.read_writes_eq_canon (h := fun y => cover0_C_6 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold out0_B_6
    rw [View.read_writes_eq_canon (h := fun y => cover0_B_6 ..)]
    unfold kernelRun0_B
    dsimp only
    sl_unfold_words
    simp only [canon2, cov2, View.readAt_eq_ld, ld2, Memref.IsWhole.read_unread, read_unread_whole]
    rfl

/-- The gains' running gradient at the first point. -/
theorem o9_A (t : Fin cfg0.N) (h0 : t.val % 8 = 0) : (outsAt0 m c t.val t.isLt).2.2.2.1 = dgain (iblk m c 0 t) (iblk m c 5 t) (iblk m c 1 t) (iblk m c 2 t) (iblk m c 3 t) (iblk m c 4 t) (k0_pay15 (F := F)) := by
  have h1 : ¬ t.val % 8 = 7 := by omega
  rw [outsAt0_A m c t h0 h1]
  dsimp only
  unfold out0_A_9
  rw [View.read_writes_eq_canon (h := fun y => cover0_A_9 ..)]
  unfold kernelRun0_A
  dsimp only
  sl_unfold_words
  simp only [canon2, cov2, View.readAt_eq_ld, ld2, Memref.IsWhole.read_unread, read_unread_whole]
  rfl

/-- The gains' running gradient at a later point. -/
theorem o9_B (t : Fin cfg0.N) (h0 : ¬ t.val % 8 = 0) :
    (outsAt0 m c t.val t.isLt).2.2.2.1 = dgain (iblk m c 0 t) (iblk m c 5 t) (iblk m c 1 t) (iblk m c 2 t) (iblk m c 3 t) (iblk m c 4 t) (outsAt0 m c (t.val - 1) (by omega)).2.2.2.1 := by
  by_cases h1 : t.val % 8 = 7
  · rw [outsAt0_C m c t h0 h1]
    dsimp only
    unfold out0_C_9
    rw [View.read_writes_eq_canon (h := fun y => cover0_C_9 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold out0_B_9
    rw [View.read_writes_eq_canon (h := fun y => cover0_B_9 ..)]
    unfold kernelRun0_B
    dsimp only
    sl_unfold_words
    simp only [canon2, cov2, View.readAt_eq_ld, ld2, Memref.IsWhole.read_unread, read_unread_whole]
    rfl

/-- The running loss at the first point. -/
theorem o10_A (t : Fin cfg0.N) (h0 : t.val % 8 = 0) : (outsAt0 m c t.val t.isLt).2.2.2.2.1 = loss (iblk m c 0 t) (iblk m c 5 t) (iblk m c 1 t) (iblk m c 2 t) (iblk m c 3 t) (iblk m c 4 t) (k0_pay16 (F := F)) := by
  have h1 : ¬ t.val % 8 = 7 := by omega
  rw [outsAt0_A m c t h0 h1]
  dsimp only
  unfold out0_A_10
  rw [View.read_writes_eq_canon (h := fun y => cover0_A_10 ..)]
  unfold kernelRun0_A
  dsimp only
  sl_unfold_words
  simp only [canon2, cov2, View.readAt_eq_ld, ld2, Memref.IsWhole.read_unread, read_unread_whole]
  rfl

/-- The running loss at a later point. -/
theorem o10_B (t : Fin cfg0.N) (h0 : ¬ t.val % 8 = 0) :
    (outsAt0 m c t.val t.isLt).2.2.2.2.1 = loss (iblk m c 0 t) (iblk m c 5 t) (iblk m c 1 t) (iblk m c 2 t) (iblk m c 3 t) (iblk m c 4 t) (outsAt0 m c (t.val - 1) (by omega)).2.2.2.2.1 := by
  by_cases h1 : t.val % 8 = 7
  · rw [outsAt0_C m c t h0 h1]
    dsimp only
    unfold out0_C_10
    rw [View.read_writes_eq_canon (h := fun y => cover0_C_10 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold out0_B_10
    rw [View.read_writes_eq_canon (h := fun y => cover0_B_10 ..)]
    unfold kernelRun0_B
    dsimp only
    sl_unfold_words
    simp only [canon2, cov2, View.readAt_eq_ld, ld2, Memref.IsWhole.read_unread, read_unread_whole]
    rfl

/-- The gate weights' running gradient at the first point. -/
theorem s0_A (t : Fin cfg0.N) (h0 : t.val % 8 = 0) : (outsAt0 m c t.val t.isLt).2.2.2.2.2.1 = dgate (iblk m c 0 t) (iblk m c 5 t) (iblk m c 1 t) (iblk m c 2 t) (iblk m c 3 t) (iblk m c 4 t) (k0_pay13 (F := F)) := by
  have h1 : ¬ t.val % 8 = 7 := by omega
  rw [outsAt0_A m c t h0 h1]
  dsimp only
  unfold sout0_A_0
  rw [View.read_writes_eq_canon (h := fun y => scover0_A_0 ..)]
  unfold kernelRun0_A
  dsimp only
  sl_unfold_words
  simp only [canon2, cov2, View.readAt_eq_ld, ld2, Memref.IsWhole.read_unread, read_unread_whole]
  rfl

/-- The gate weights' running gradient at a later point. -/
theorem s0_B (t : Fin cfg0.N) (h0 : ¬ t.val % 8 = 0) :
    (outsAt0 m c t.val t.isLt).2.2.2.2.2.1 = dgate (iblk m c 0 t) (iblk m c 5 t) (iblk m c 1 t) (iblk m c 2 t) (iblk m c 3 t) (iblk m c 4 t) (outsAt0 m c (t.val - 1) (by omega)).2.2.2.2.2.1 := by
  by_cases h1 : t.val % 8 = 7
  · rw [outsAt0_C m c t h0 h1]
    dsimp only
    unfold sout0_C_0
    rw [View.read_writes_eq_canon (h := fun y => scover0_C_0 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold sout0_B_0
    rw [View.read_writes_eq_canon (h := fun y => scover0_B_0 ..)]
    unfold kernelRun0_B
    dsimp only
    sl_unfold_words
    simp only [canon2, cov2, View.readAt_eq_ld, ld2, Memref.IsWhole.read_unread, read_unread_whole]
    rfl

/-- The projection's running gradient at the first point. -/
theorem s1_A (t : Fin cfg0.N) (h0 : t.val % 8 = 0) : (outsAt0 m c t.val t.isLt).2.2.2.2.2.2 = dproj (iblk m c 0 t) (iblk m c 5 t) (iblk m c 1 t) (iblk m c 2 t) (iblk m c 3 t) (iblk m c 4 t) (k0_pay14 (F := F)) := by
  have h1 : ¬ t.val % 8 = 7 := by omega
  rw [outsAt0_A m c t h0 h1]
  dsimp only
  unfold sout0_A_1
  rw [View.read_writes_eq_canon (h := fun y => scover0_A_1 ..)]
  unfold kernelRun0_A
  dsimp only
  sl_unfold_words
  simp only [canon2, cov2, View.readAt_eq_ld, ld2, Memref.IsWhole.read_unread, read_unread_whole]
  rfl

/-- The projection's running gradient at a later point. -/
theorem s1_B (t : Fin cfg0.N) (h0 : ¬ t.val % 8 = 0) :
    (outsAt0 m c t.val t.isLt).2.2.2.2.2.2 = dproj (iblk m c 0 t) (iblk m c 5 t) (iblk m c 1 t) (iblk m c 2 t) (iblk m c 3 t) (iblk m c 4 t) (outsAt0 m c (t.val - 1) (by omega)).2.2.2.2.2.2 := by
  by_cases h1 : t.val % 8 = 7
  · rw [outsAt0_C m c t h0 h1]
    dsimp only
    unfold sout0_C_1
    rw [View.read_writes_eq_canon (h := fun y => scover0_C_1 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold sout0_B_1
    rw [View.read_writes_eq_canon (h := fun y => scover0_B_1 ..)]
    unfold kernelRun0_B
    dsimp only
    sl_unfold_words
    simp only [canon2, cov2, View.readAt_eq_ld, ld2, Memref.IsWhole.read_unread, read_unread_whole]
    rfl

/-- The gate weights' gradient, at the last point. -/
theorem o7_C (t : Fin cfg0.N) (h0 : ¬ t.val % 8 = 0) (h1 : t.val % 8 = 7) :
    (outsAt0 m c t.val t.isLt).2.1 = k0_pay7 (outsAt0 m c t.val t.isLt).2.2.2.2.2.1 := by
  rw [s0_B m c t h0]
  rw [outsAt0_C m c t h0 h1]
  dsimp only
  unfold out0_C_7
  rw [View.read_writes_eq_canon (h := fun y => cover0_C_7 ..)]
  unfold kernelRun0_C
  dsimp only
  sl_unfold_words
  simp only [canon2, cov2, View.readAt_eq_ld, ld2, Memref.IsWhole.read_unread, read_unread_whole]
  rfl

/-- The projection's gradient, at the last point. -/
theorem o8_C (t : Fin cfg0.N) (h0 : ¬ t.val % 8 = 0) (h1 : t.val % 8 = 7) :
    (outsAt0 m c t.val t.isLt).2.2.1 = View.canon (tables (outsAt0 m c t.val t.isLt).2.2.2.2.2.2) := by
  rw [s1_B m c t h0]
  rw [outsAt0_C m c t h0 h1]
  dsimp only
  unfold out0_C_8
  rw [View.read_writes_eq_canon (h := fun y => cover0_C_8 ..)]
  unfold kernelRun0_C
  dsimp only
  sl_unfold_words
  simp only [canon2, cov2, View.readAt_eq_ld, ld2, Memref.IsWhole.read_unread, read_unread_whole]
  simp only [View.readCov_eq_canon', canon2]
  rfl

end Cert.PleLossIdeal.Block

end
-- ==== Proof.PleLoss.Real.lean ====
/- The embedding gate, the loss and their gradients over real numbers, one row at a time. -/
module

public import proofs.«01_k».proof.Proof.Norm

@[expose] public section

set_option maxRecDepth 16384
set_option maxHeartbeats 1000000

noncomputable section

open Idealize.ShloMosaic Idealize.ShloMosaic.TcCoe Idealize.SL.Sem

namespace Cert.PleLoss.Real

open Cert.Norm

/-- The weights: the norm's gains, the gate's matrix, the embedding's projection. -/
structure Wts where
  g : Fin 1024 → ℝ
  wg : Fin 1024 → Fin 1024 → ℝ
  wp : Fin 256 → Fin 1024 → ℝ

/-- A row: the residual, the embedding, the target. -/
structure Row where
  x : Fin 1024 → ℝ
  p : Fin 256 → ℝ
  y : Fin 1024 → ℝ

/-- A packed column's place. -/
def col (j : Fin 8) (l : Fin 128) : Fin 1024 := ⟨j.val * 128 + l.val, by omega⟩

variable (w : Wts) (r : Row)

/-- The norm's output. -/
def hn (j : Fin 1024) : ℝ := r.x j * rt 1024 r.x * w.g j

/-- The gate. -/
def gate (k : Fin 1024) : ℝ := (1 + Real.exp (-∑ j, hn w r j * w.wg j k))⁻¹

/-- The embedding's projection. -/
def emb (k : Fin 1024) : ℝ := ∑ a, r.p a * w.wp a k

/-- The output minus the target. -/
def df (k : Fin 1024) : ℝ := r.x k + gate w r k * emb w r k - r.y k

/-- The output's gradient. -/
def dy (k : Fin 1024) : ℝ := df w r k * (1 / 1024)

/-- The gradient at the gate's input. -/
def dz (k : Fin 1024) : ℝ := dy w r k * emb w r k * gate w r k * (1 - gate w r k)

/-- The gradient at the norm's output. -/
def dn (j : Fin 1024) : ℝ := ∑ k, dz w r k * w.wg j k

/-- The residual's gradient. -/
def dx (j : Fin 1024) : ℝ := dy w r j + back 1024 r.x (fun a => dn w r a * w.g a) j

/-- A row's part of the gains' gradient. -/
def dg (j : Fin 1024) : ℝ := dn w r j * r.x j * rt 1024 r.x

/-- A row's part of the gate matrix's gradient. -/
def dwg (j k : Fin 1024) : ℝ := hn w r j * dz w r k

/-- A row's part of the projection's gradient. -/
def dwp (a : Fin 256) (k : Fin 1024) : ℝ := r.p a * (dy w r k * gate w r k)

/-- A row's sum of squares. -/
def sq : ℝ := ∑ k, df w r k * df w r k

end Cert.PleLoss.Real

end
-- ==== Proof.PleLoss.Pay.lean ====
/- The embedding gate's and the loss's payloads at an index, over blocks of finite numbers. -/
module

public import proofs.«01_k».proof.Proof.PleLoss.Block
public import proofs.«01_k».proof.Proof.PleLoss.Real
public import Idealize.ShloMosaic.Lib.Pipeline.ValueKit.Tiles

@[expose] public section

set_option maxRecDepth 16384
set_option maxHeartbeats 1000000

noncomputable section

open Idealize.ShloMosaic Idealize.ShloMosaic.TcCoe Idealize.SL.Sem

namespace Cert.PleLossIdeal.Pay

open Cert.PleLossIdeal Cert.PleLossIdeal.Gen Cert.Sums Cert.Norm Cert.PleLoss

variable {x y : FVec Ideal S512x1024 .f32} {g : FVec Ideal S1x1024 .f32} {wg : FVec Ideal S1024x1024 .bf16} {p : FVec Ideal S512x256 .f32} {wp : FVec Ideal S8x256x128 .bf16}
variable {w : Real.Wts} {R : Fin 512 → Real.Row}
variable (hx : ∀ r k, x (ix2 r k) = ((R r).x k : EReal)) (hy : ∀ r k, y (ix2 r k) = ((R r).y k : EReal)) (hp : ∀ r k, p (ix2 r k) = ((R r).p k : EReal))
variable (hg : ∀ k, g (ix2 0 k) = (w.g k : EReal)) (hwg : ∀ j k, wg (ix2 j k) = (w.wg j k : EReal))
variable (hwp : ∀ (j : Fin 8) (a : Fin 256) (l : Fin 128), wp (ix3 j a l) = (w.wp a (Real.col j l) : EReal))
variable (r : Fin 512) (k : Fin 1024)

include hx in
theorem pay17 : k0_pay17 (F := Ideal) x (ix2 r 0) = (rt 1024 (R r).x : EReal) := by
  rw [← rsqrt_ms (by norm_num)]
  pointwise [k0_pay17]
  simp only [hx, ← EReal.coe_mul, coe_sum]
  rw [over_width_word, eps_word, ← EReal.coe_mul, ← EReal.coe_add]
  rfl

include hx hg in
theorem pay18 : k0_pay18 (F := Ideal) x g (ix2 r k) = (Real.hn w (R r) k : EReal) := by
  pointwise [k0_pay18]
  rw [pay17 hx, hx, hg, ← EReal.coe_mul, ← EReal.coe_mul]
  rfl

include hx hg hwg in
theorem pay20 : k0_pay20 (F := Ideal) x g wg (ix2 r k) = (Real.gate w (R r) k : EReal) := by
  pointwise [k0_pay20]
  simp only [pay18 hx hg, hwg, ← EReal.coe_mul, coe_sum]
  exact Ideal.logistic_coe _

theorem tab_at (j : ℕ) (h) (a : Fin 256) (l : Fin 128) (hj : j < 8) : Block.tab (F := Ideal) j h wp (ix3 0 a l) = wp (ix3 ⟨j, hj⟩ a l) := by
  unfold Block.tab
  pointwise

include hp hwp in
theorem band_at (j : ℕ) (h) (l : Fin 128) (hk : j * 128 + l.val = k.val) :
    (∑ a, p (ix2 r a) * Block.tab (F := Ideal) j h wp (ix3 0 a l) : EReal) = (Real.emb w (R r) k : EReal) := by
  have f (a : Fin 256) : Block.tab (F := Ideal) j h wp (ix3 0 a l) = (w.wp a (Real.col ⟨j, h⟩ l) : EReal) := (tab_at j h a l h).trans (hwp ⟨j, h⟩ a l)
  simp only [f, hp, ← EReal.coe_mul, coe_sum]
  have e : Real.col ⟨j, h⟩ l = k := Fin.ext hk
  rw [e]
  rfl

include hp hwp in
theorem emb_at : Block.emb (F := Ideal) p wp (ix2 r k) = (Real.emb w (R r) k : EReal) := by
  unfold Block.emb
  pointwise [k0_pay24, k0_pay23, k0_pay22, k0_pay21, k0_pay19]
  split_ifs <;> exact band_at hp hwp r k _ _ _ (by dsimp only; omega)

theorem diff_eq : Block.diff (F := Ideal) x y g wg p wp (ix2 r k) = x (ix2 r k) + k0_pay20 x g wg (ix2 r k) * Block.emb p wp (ix2 r k) - y (ix2 r k) := by
  unfold Block.diff
  pointwise [k0_pay25]
  rfl

include hx hy hp hg hwg hwp in
theorem diff_at : Block.diff (F := Ideal) x y g wg p wp (ix2 r k) = (Real.df w (R r) k : EReal) := by
  rw [diff_eq, hx, hy, pay20 hx hg hwg, emb_at hp hwp, ← EReal.coe_mul, ← EReal.coe_add, ← EReal.coe_sub]
  rfl

include hx hy hp hg hwg hwp in
theorem pay27 : k0_pay27 (F := Ideal) (Block.diff x y g wg p wp) (ix2 r k) = (Real.dy w (R r) k : EReal) := by
  pointwise [k0_pay27]
  rw [diff_at hx hy hp hg hwg hwp, over_width_word, ← EReal.coe_mul]
  rfl

include hx hy hp hg hwg hwp in
theorem pay28 : k0_pay28 (F := Ideal) (k0_pay20 x g wg) (Block.emb p wp) (Block.diff x y g wg p wp) (ix2 r k) = (Real.dz w (R r) k : EReal) := by
  pointwise [k0_pay28]
  rw [pay27 hx hy hp hg hwg hwp, emb_at hp hwp, pay20 hx hg hwg, ← EReal.coe_one, ← EReal.coe_mul, ← EReal.coe_mul, ← EReal.coe_sub, ← EReal.coe_mul]
  rfl

include hx hy hp hg hwg hwp in
theorem pay29 : k0_pay29 (F := Ideal) (k0_pay20 x g wg) (Block.emb p wp) (Block.diff x y g wg p wp) wg (ix2 r k) = (Real.dn w (R r) k : EReal) := by
  pointwise [k0_pay29]
  simp only [pay28 hx hy hp hg hwg hwp, hwg, ← EReal.coe_mul, coe_sum]
  rfl

include hx hy hp hg hwg hwp in
theorem dx_at : Block.dx (F := Ideal) x y g wg p wp (ix2 r k) = (Real.dx w (R r) k : EReal) := by
  unfold Block.dx
  pointwise [k0_pay30]
  simp only [pay29 hx hy hp hg hwg hwp, pay27 hx hy hp hg hwg hwp, pay17 hx, hx, hg, ← EReal.coe_mul, coe_sum]
  rw [over_width_word, ← EReal.coe_mul, ← EReal.coe_mul, ← EReal.coe_sub, ← EReal.coe_add]
  rfl

include hx hy hp hg hwg hwp in
theorem dgain_at (acc : FVec Ideal S1x1024 .f32) : Block.dgain (F := Ideal) x y g wg p wp acc (ix2 0 k)
    = acc (ix2 0 k) + ((∑ r, Real.dg w (R r) k : ℝ) : EReal) := by
  unfold Block.dgain
  pointwise [k0_pay31]
  simp only [pay29 hx hy hp hg hwg hwp, pay17 hx, hx, ← EReal.coe_mul, coe_sum]
  rfl

include hx hy hp hg hwg hwp in
theorem dgate_at (acc : FVec Ideal S1024x1024 .f32) (j : Fin 1024) : Block.dgate (F := Ideal) x y g wg p wp acc (ix2 j k)
    = acc (ix2 j k) + ((∑ r, Real.dwg w (R r) j k : ℝ) : EReal) := by
  unfold Block.dgate
  pointwise [k0_pay1, k0_pay32]
  simp only [pay28 hx hy hp hg hwg hwp, pay18 hx hg, ← EReal.coe_mul, coe_sum]
  rfl

include hx hy hp hg hwg hwp in
theorem dproj_at (acc : FVec Ideal S256x1024 .f32) (a : Fin 256) : Block.dproj (F := Ideal) x y g wg p wp acc (ix2 a k)
    = acc (ix2 a k) + ((∑ r, Real.dwp w (R r) a k : ℝ) : EReal) := by
  unfold Block.dproj
  pointwise [k0_pay2, k0_pay19]
  simp only [pay27 hx hy hp hg hwg hwp, pay20 hx hg hwg, hp, ← EReal.coe_mul, coe_sum]
  rfl

include hx hy hp hg hwg hwp in
theorem loss_at (acc : FVec Ideal S8x128 .f32) (a : Fin 8) (l : Fin 128) : Block.loss (F := Ideal) x y g wg p wp acc (ix2 a l)
    = acc (ix2 a l) + ((∑ r, 1 / 2 * Real.sq w (R r) * (1 / 1024) : ℝ) : EReal) := by
  unfold Block.loss
  pointwise [k0_pay26]
  have e (r k) := diff_at hx hy hp hg hwg hwp r k
  unfold Block.diff at e
  simp only [e, ← EReal.coe_mul, coe_sum]
  rw [pos_half_word, over_width_word, ← EReal.coe_mul, ← EReal.coe_mul, Finset.mul_sum, Finset.sum_mul]
  rfl

theorem pay13 (j k : Fin 1024) : k0_pay13 (F := Ideal) (ix2 j k) = 0 := by
  pointwise [k0_pay13]

theorem pay14 (j : Fin 256) (k : Fin 1024) : k0_pay14 (F := Ideal) (ix2 j k) = 0 := by
  pointwise [k0_pay14]

theorem pay15 (k : Fin 1024) : k0_pay15 (F := Ideal) (ix2 0 k) = 0 := by
  pointwise [k0_pay15]

theorem pay16 (j : Fin 8) (k : Fin 128) : k0_pay16 (F := Ideal) (ix2 j k) = 0 := by
  pointwise [k0_pay16]

theorem pay7 (a : FVec Ideal S1024x1024 .f32) (j k : Fin 1024) : k0_pay7 (F := Ideal) a (ix2 j k) = a (ix2 j k) := by
  pointwise [k0_pay7]

theorem piece_at (a : FVec Ideal S256x1024 .f32) (j : Fin 8) (b : Fin 256) (l : Fin 128) (n : ℕ) (o : ℕ) (ho : o = n * 128) (h : o + 128 ≤ 1024)
    (P : FVec Ideal S1x256x128 .bf16) (hP : ∀ b l, P (ix3 0 b l) = Block.band o h a (ix2 b l)) :
    View.TileAt (Val := Elt Ideal) (S := S8x256x128) (e := .bf16) (ix3 j b l) ![n, 0, 0] ![1, 256, 128] P (a (ix2 b (Real.col j l))) := by
  intro x hx
  idx_vars x
  have e0 : j.val = n + x0.val := hx 0
  have e1 : b.val = 0 + x1.val := hx 1
  have e2 : l.val = 0 + x2.val := hx 2
  have z : x0.val = 0 := by omega
  obtain rfl : x0 = 0 := Subsingleton.elim _ _
  obtain rfl : b = x1 := Fin.ext (by omega)
  obtain rfl : l = x2 := Fin.ext (by omega)
  rw [hP]
  unfold Block.band
  pointwise
  congr 1
  congr 1
  exact Fin.ext (by show o + l.val = j.val * 128 + l.val; omega)

theorem tables_at (a : FVec Ideal S256x1024 .f32) (j : Fin 8) (b : Fin 256) (l : Fin 128) :
    (View.canon (Val := Elt Ideal) (Block.tables a) : FVec Ideal S8x256x128 .bf16) (ix3 j b l) = a (ix2 b (Real.col j l)) := by
  refine View.canon_eq_of_allAt _ _ _ (View.cover_of_tiled_head _ _ _ rfl _) ?_
  unfold Block.tables
  refine View.allAt_cons_unit _ _ _ _ _ (piece_at a j b l 7 896 rfl (by omega) _ fun b l => by pointwise [k0_pay6]) ?_
  refine View.allAt_cons_unit _ _ _ _ _ (piece_at a j b l 6 768 rfl (by omega) _ fun b l => by pointwise [k0_pay5]) ?_
  refine View.allAt_cons_unit _ _ _ _ _ (piece_at a j b l 5 640 rfl (by omega) _ fun b l => by pointwise [k0_pay4]) ?_
  refine View.allAt_cons_unit _ _ _ _ _ (piece_at a j b l 4 512 rfl (by omega) _ fun b l => by pointwise [k0_pay3, k0_pay12]) ?_
  refine View.allAt_cons_unit _ _ _ _ _ (piece_at a j b l 3 384 rfl (by omega) _ fun b l => by pointwise [k0_pay11]) ?_
  refine View.allAt_cons_unit _ _ _ _ _ (piece_at a j b l 2 256 rfl (by omega) _ fun b l => by pointwise [k0_pay10]) ?_
  refine View.allAt_cons_unit _ _ _ _ _ (piece_at a j b l 1 128 rfl (by omega) _ fun b l => by pointwise [k0_pay9]) ?_
  refine View.allAt_cons_unit _ _ _ _ _ (piece_at a j b l 0 0 rfl (by omega) _ fun b l => by pointwise [k0_pay8]) ?_
  exact View.allAt_nil _ _

end Cert.PleLossIdeal.Pay

end
-- ==== Proof.PleLoss.Ref.lean ====
/- The embedding gate's and the loss's gradients in the reference at an index, over finite arguments. -/
module

public import proofs.«01_k».proof.Proof.Gen.PleLossVjpIdeal.Read
public import proofs.«01_k».proof.Proof.PleLoss.Real
public import Idealize.ShloMosaic.Lib.Tactic

@[expose] public section

set_option maxRecDepth 16384
set_option maxHeartbeats 1000000

noncomputable section

open Idealize.ShloMosaic Idealize.ShloMosaic.TcCoe Idealize.SL.Sem

namespace Cert.PleLossVjpIdeal.At

open Cert.PleLossVjpIdeal Cert.PleLossVjpIdeal.Read Cert.Sums Cert.Norm Cert.PleLoss

variable {x y : FVec Ideal S4096x1024 .f32} {g : FVec Ideal S1x1024 .f32} {wg : FVec Ideal S1024x1024 .bf16} {p : FVec Ideal S4096x256 .f32} {wp : FVec Ideal S256x1024 .bf16}
variable {w : Real.Wts} {R : Fin 4096 → Real.Row}
variable (hx : ∀ r k, x (ix2 r k) = ((R r).x k : EReal)) (hy : ∀ r k, y (ix2 r k) = ((R r).y k : EReal)) (hp : ∀ r k, p (ix2 r k) = ((R r).p k : EReal))
variable (hg : ∀ k, g (ix2 0 k) = (w.g k : EReal)) (hwg : ∀ j k, wg (ix2 j k) = (w.wg j k : EReal)) (hwp : ∀ a k, wp (ix2 a k) = (w.wp a k : EReal))
variable (r : Fin 4096) (k : Fin 1024)

include hx in
theorem v8 : val_main_v8 (F := Ideal) x (ix2 r 0) = (ms 1024 (R r).x : EReal) := by
  pointwise [val_main_v8, val_main_v7, val_main_v6, val_main_v5, val_main_v4, val_main_v3, val_main_v2, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [hx, ← EReal.coe_mul, coe_sum]
  rw [width_word, eps_word, Ideal.div_coe (by norm_num), ← EReal.coe_mul, ← EReal.coe_add]
  rfl

include hx in
theorem v9 : val_main_v9 (F := Ideal) x (ix2 r 0) = (rt 1024 (R r).x : EReal) := by
  pointwise [val_main_v9, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v8 hx]
  exact rsqrt_ms (by norm_num) _

include hx in
theorem v14 : val_main_v14 (F := Ideal) x (ix2 r k) = (((R r).x k * rt 1024 (R r).x : ℝ) : EReal) := by
  pointwise [val_main_v14, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v9 hx, hx, ← EReal.coe_mul]

include hx hg in
theorem v16 : val_main_v16 (F := Ideal) x g (ix2 r k) = (Real.hn w (R r) k : EReal) := by
  pointwise [val_main_v16, val_main_v15, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v14 hx, hg, ← EReal.coe_mul]
  rfl

include hx hg hwg in
theorem v23 : val_main_v23 (F := Ideal) x g wg (ix2 r k) = (Real.gate w (R r) k : EReal) := by
  pointwise [val_main_v23, val_main_v22, val_main_v21, val_main_v20, val_main_v19, val_main_v18, val_main_v17, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [v16 hx hg, hwg, ← EReal.coe_mul, coe_sum, ← EReal.coe_neg, Ideal.exp_coe]
  rw [← EReal.coe_one, ← EReal.coe_add, Ideal.div_coe (by positivity), ← EReal.coe_mul, one_mul, one_div]
  rfl

include hp hwp in
theorem v27 : val_main_v27 (F := Ideal) p wp (ix2 r k) = (Real.emb w (R r) k : EReal) := by
  pointwise [val_main_v27, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [hp, hwp, ← EReal.coe_mul, coe_sum]
  rfl

include hx hy hp hg hwg hwp in
theorem v30 : val_main_v30 (F := Ideal) x g wg p wp y (ix2 r k) = (Real.df w (R r) k : EReal) := by
  pointwise [val_main_v30, val_main_v29, val_main_v28, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v23 hx hg hwg, v27 hp hwp, hx, hy, ← EReal.coe_mul, ← EReal.coe_add, ← EReal.coe_sub]
  rfl

include hx hy hp hg hwg hwp in
theorem v44 : val_main_v44 (F := Ideal) x g wg p wp y (ix2 r k) = (Real.dy w (R r) k : EReal) := by
  pointwise [val_main_v44, val_main_v43, val_main_v42, val_main_v41, val_main_v40, val_main_v39, val_main_v33, val_main_v32, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v30 hx hy hp hg hwg hwp, pos_half_word, two_word, width_word, Ideal.div_coe (by norm_num)]
  simp only [← EReal.coe_mul]
  congr 1
  unfold Real.dy
  ring

include hx hy hp hg hwg hwp in
theorem v49 : val_main_v49 (F := Ideal) x g wg p wp y (ix2 r k) = (Real.dz w (R r) k : EReal) := by
  pointwise [val_main_v49, val_main_v46, val_main_v26, val_main_v25, val_main_v24, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v44 hx hy hp hg hwg hwp, v27 hp hwp, v23 hx hg hwg, ← EReal.coe_one]
  simp only [← EReal.coe_mul, ← EReal.coe_sub]
  congr 1
  unfold Real.dz
  ring

include hx hy hp hg hwg hwp in
theorem v52 : val_main_v52 (F := Ideal) x g wg p wp y (ix2 r k) = (Real.dn w (R r) k : EReal) := by
  pointwise [val_main_v52, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [v49 hx hy hp hg hwg hwp, hwg, ← EReal.coe_mul, coe_sum]
  rfl

include hx hy hp hg hwg hwp in
/-- The gains' gradient. -/
theorem v55 : val_main_v55 (F := Ideal) x g wg p wp y (ix2 0 k) = ((∑ r, Real.dg w (R r) k : ℝ) : EReal) := by
  pointwise [val_main_v55, val_main_v54, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [v52 hx hy hp hg hwg hwp, v14 hx, ← EReal.coe_mul, coe_sum]
  congr 1
  exact Finset.sum_congr rfl fun i _ => by unfold Real.dg; ring

include hx hy hp hg hwg hwp in
theorem v57 : val_main_v57 (F := Ideal) x g wg p wp y (ix2 r k) = ((Real.dn w (R r) k * w.g k : ℝ) : EReal) := by
  pointwise [val_main_v57, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v52 hx hy hp hg hwg hwp, hg, ← EReal.coe_mul]

include hx hy hp hg hwg hwp in
theorem v68 : val_main_v68 (F := Ideal) x g wg p wp y (ix2 r k) = (((∑ a, (R r).x a * (Real.dn w (R r) a * w.g a)) * (-(1 / 2) * (rt 1024 (R r).x * (1 / ms 1024 (R r).x))) * (1 / 1024) : ℝ) : EReal) := by
  pointwise [val_main_v68, val_main_v67, val_main_v66, val_main_v65, val_main_v64, val_main_v60, val_main_v59, val_main_v58, val_main_v12, val_main_v11, val_main_v10, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [Fin.sum_univ_one, v57 hx hy hp hg hwg hwp, v9 hx, v8 hx, hx, ← EReal.coe_mul, coe_sum]
  rw [half_word, width_word, Ideal.div_coe (ms_pos (by norm_num) _).ne', Ideal.div_coe (by norm_num)]
  simp only [← EReal.coe_mul]

include hx hy hp hg hwg hwp in
/-- The residual's gradient. -/
theorem v72 : val_main_v72 (F := Ideal) x g wg p wp y (ix2 r k) = (Real.dx w (R r) k : EReal) := by
  pointwise [val_main_v72, val_main_v71, val_main_v70, val_main_v69, val_main_v63, val_main_v62, val_main_v61, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  rw [v68 hx hy hp hg hwg hwp, v57 hx hy hp hg hwg hwp, v9 hx, v44 hx hy hp hg hwg hwp, hx]
  simp only [← EReal.coe_mul, ← EReal.coe_add]
  congr 1
  exact back_eq (w := 1024) (by norm_num) (R r).x (fun a => Real.dn w (R r) a * w.g a) k (Real.dy w (R r) k)

include hx hy hp hg hwg hwp in
/-- The gate matrix's gradient. -/
theorem v73 (j : Fin 1024) : val_main_v73 (F := Ideal) x g wg p wp y (ix2 j k) = ((∑ r, Real.dwg w (R r) j k : ℝ) : EReal) := by
  pointwise [val_main_v73, val_main_v51, val_main_v50, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [v49 hx hy hp hg hwg hwp, v16 hx hg, ← EReal.coe_mul, coe_sum]
  congr 1
  exact Finset.sum_congr rfl fun i _ => by unfold Real.dwg; ring

include hx hy hp hg hwg hwp in
theorem v48 (a : Fin 256) : val_main_v48 (F := Ideal) x g wg p wp y (ix2 a k) = ((∑ r, Real.dwp w (R r) a k : ℝ) : EReal) := by
  pointwise [val_main_v48, val_main_v47, val_main_v45, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [v44 hx hy hp hg hwg hwp, v23 hx hg hwg, hp, ← EReal.coe_mul, coe_sum]
  congr 1
  exact Finset.sum_congr rfl fun i _ => by unfold Real.dwp; ring

include hx hy hp hg hwg hwp in
/-- The projection's gradient, packed. -/
theorem v76 (j : Fin 8) (a : Fin 256) (l : Fin 128) : val_main_v76 (F := Ideal) x g wg p wp y (ix3 j a l) = ((∑ r, Real.dwp w (R r) a (Real.col j l) : ℝ) : EReal) := by
  pointwise [val_main_v76, val_main_v75, val_main_v74, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  exact v48 hx hy hp hg hwg hwp _ a

include hx hy hp hg hwg hwp in
/-- The loss. -/
theorem v77 (j : Fin 8) (l : Fin 128) : val_main_v77 (F := Ideal) x g wg p wp y (ix2 j l) = ((∑ r, 1 / 2 * Real.sq w (R r) * (1 / 1024) : ℝ) : EReal) := by
  pointwise [val_main_v77, val_main_v38, val_main_v37, val_main_v36, val_main_v35, val_main_v34, val_main_v31, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17]
  simp only [v30 hx hy hp hg hwg hwp, ← EReal.coe_mul, coe_sum]
  simp only [width_word, Ideal.div_coe (show (1024 : ℝ) ≠ 0 by norm_num), ← EReal.coe_mul, coe_sum]
  rw [pos_half_word, ← EReal.coe_mul, Finset.mul_sum]
  congr 1
  exact Finset.sum_congr rfl fun i _ => by unfold Real.sq; ring

end Cert.PleLossVjpIdeal.At

end
-- ==== Proof.PleLoss.Value.lean ====
/- The loss call computes the five results its reference states. -/
module

public import proofs.«01_k».proof.Proof.At
public import proofs.«01_k».proof.Proof.PleLoss.Pay
public import proofs.«01_k».proof.Proof.PleLoss.Ref
public import proofs.«01_k».proof.Proof.Tile
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.PleLossIdeal.Final

open Cert.PleLossIdeal Cert.PleLossIdeal.Gen Cert.PleLossIdeal.Value Cert.Sums Cert.Norm Cert.Tile Cert.PleLoss Cert.At

variable {m : (ℓ : Loc nD τ sig) → Buf (Elt Ideal) ℓ} {c : Dev nD}

/-- Argument 0, as launched. -/
abbrev argX (m : (ℓ : Loc nD τ sig) → Buf (Elt Ideal) ℓ) (c : Dev nD) : FVec Ideal S4096x1024 .f32 := m (c.tc.loc main_arg0)

theorem kept0 : V m c main_arg0 = argX m c := by
  unfold V
  after_reads_simp

/-- Argument 1, as launched. -/
abbrev argG (m : (ℓ : Loc nD τ sig) → Buf (Elt Ideal) ℓ) (c : Dev nD) : FVec Ideal S1x1024 .f32 := m (c.tc.loc main_arg1)

theorem kept1 : V m c main_arg1 = argG m c := by
  unfold V
  after_reads_simp

/-- Argument 2, as launched. -/
abbrev argWG (m : (ℓ : Loc nD τ sig) → Buf (Elt Ideal) ℓ) (c : Dev nD) : FVec Ideal S1024x1024 .bf16 := m (c.tc.loc main_arg2)

theorem kept2 : V m c main_arg2 = argWG m c := by
  unfold V
  after_reads_simp

/-- Argument 3, as launched. -/
abbrev argP (m : (ℓ : Loc nD τ sig) → Buf (Elt Ideal) ℓ) (c : Dev nD) : FVec Ideal S4096x256 .f32 := m (c.tc.loc main_arg3)

theorem kept3 : V m c main_arg3 = argP m c := by
  unfold V
  after_reads_simp

/-- Argument 4, as launched. -/
abbrev argWP (m : (ℓ : Loc nD τ sig) → Buf (Elt Ideal) ℓ) (c : Dev nD) : FVec Ideal S256x1024 .bf16 := m (c.tc.loc main_arg4)

theorem turned4 (j : Fin 8) (a : Fin 256) (l : Fin 128) : (V m c main_v1 : FVec Ideal S8x256x128 .bf16) (ix3 j a l) = argWP m c (ix2 a (Real.col j l)) := by
  unfold V
  after_reads_at
  rfl

/-- Argument 5, as launched. -/
abbrev argY (m : (ℓ : Loc nD τ sig) → Buf (Elt Ideal) ℓ) (c : Dev nD) : FVec Ideal S4096x1024 .f32 := m (c.tc.loc main_arg5)

theorem kept5 : V m c main_arg5 = argY m c := by
  unfold V
  after_reads_simp

theorem at0 : ∀ t : Fin cfg0.N, win0_0.index t (0 : Fin 2) = t.val ∧ win0_0.index t (1 : Fin 2) = 0 :=
  (by decide +kernel : ∀ t : Fin grid0.N, _)

theorem at3 : ∀ t : Fin cfg0.N, win0_3.index t (0 : Fin 2) = t.val ∧ win0_3.index t (1 : Fin 2) = 0 :=
  (by decide +kernel : ∀ t : Fin grid0.N, _)

theorem at5 : ∀ t : Fin cfg0.N, win0_5.index t (0 : Fin 2) = t.val ∧ win0_5.index t (1 : Fin 2) = 0 :=
  (by decide +kernel : ∀ t : Fin grid0.N, _)

theorem at6 : ∀ t : Fin cfg0.N, win0_6.index t (0 : Fin 2) = t.val ∧ win0_6.index t (1 : Fin 2) = 0 :=
  (by decide +kernel : ∀ t : Fin grid0.N, _)

theorem at1 : ∀ t : Fin cfg0.N, win0_1.index t (0 : Fin 2) = 0 ∧ win0_1.index t (1 : Fin 2) = 0 :=
  (by decide +kernel : ∀ t : Fin grid0.N, _)

theorem at2 : ∀ t : Fin cfg0.N, win0_2.index t (0 : Fin 2) = 0 ∧ win0_2.index t (1 : Fin 2) = 0 :=
  (by decide +kernel : ∀ t : Fin grid0.N, _)

theorem at7 : ∀ t : Fin cfg0.N, win0_7.index t (0 : Fin 2) = 0 ∧ win0_7.index t (1 : Fin 2) = 0 :=
  (by decide +kernel : ∀ t : Fin grid0.N, _)

theorem at9 : ∀ t : Fin cfg0.N, win0_9.index t (0 : Fin 2) = 0 ∧ win0_9.index t (1 : Fin 2) = 0 :=
  (by decide +kernel : ∀ t : Fin grid0.N, _)

theorem at10 : ∀ t : Fin cfg0.N, win0_10.index t (0 : Fin 2) = 0 ∧ win0_10.index t (1 : Fin 2) = 0 :=
  (by decide +kernel : ∀ t : Fin grid0.N, _)

theorem at4 : ∀ t : Fin cfg0.N, win0_4.index t (0 : Fin 3) = 0 ∧ win0_4.index t (1 : Fin 3) = 0 ∧ win0_4.index t (2 : Fin 3) = 0 :=
  (by decide +kernel : ∀ t : Fin grid0.N, _)

theorem at8 : ∀ t : Fin cfg0.N, win0_8.index t (0 : Fin 3) = 0 ∧ win0_8.index t (1 : Fin 3) = 0 ∧ win0_8.index t (2 : Fin 3) = 0 :=
  (by decide +kernel : ∀ t : Fin grid0.N, _)

theorem blk0 (t : Fin cfg0.N) (r : Fin 512) (k : Fin 1024) (R : Fin 4096) (hR : R.val = t.val * 512 + r.val) :
    (iblk m c 0 t : FVec Ideal S512x1024 .f32) (ix2 r k) = V m c main_arg0 (ix2 R k) := by
  obtain ⟨f0, f1⟩ := at0 t
  unfold iblk
  rw [View.read_apply]
  exact congrArg (V m c main_arg0) (ext2 ((moved f0).trans hR.symm) (fixed f1))

theorem blk5 (t : Fin cfg0.N) (r : Fin 512) (k : Fin 1024) (R : Fin 4096) (hR : R.val = t.val * 512 + r.val) :
    (iblk m c 5 t : FVec Ideal S512x1024 .f32) (ix2 r k) = V m c main_arg5 (ix2 R k) := by
  obtain ⟨f0, f1⟩ := at5 t
  unfold iblk
  rw [View.read_apply]
  exact congrArg (V m c main_arg5) (ext2 ((moved f0).trans hR.symm) (fixed f1))

theorem blk3 (t : Fin cfg0.N) (r : Fin 512) (k : Fin 256) (R : Fin 4096) (hR : R.val = t.val * 512 + r.val) :
    (iblk m c 3 t : FVec Ideal S512x256 .f32) (ix2 r k) = V m c main_arg3 (ix2 R k) := by
  obtain ⟨f0, f1⟩ := at3 t
  unfold iblk
  rw [View.read_apply]
  exact congrArg (V m c main_arg3) (ext2 ((moved f0).trans hR.symm) (fixed f1))

theorem blk1 (t : Fin cfg0.N) (k : Fin 1024)  :
    (iblk m c 1 t : FVec Ideal S1x1024 .f32) (ix2 0 k) = V m c main_arg1 (ix2 0 k) := by
  obtain ⟨f0, f1⟩ := at1 t
  unfold iblk
  rw [View.read_apply]
  exact congrArg (V m c main_arg1) (ext2 (fixed f0) (fixed f1))

theorem blk2 (t : Fin cfg0.N) (r : Fin 1024) (k : Fin 1024)  :
    (iblk m c 2 t : FVec Ideal S1024x1024 .bf16) (ix2 r k) = V m c main_arg2 (ix2 r k) := by
  obtain ⟨f0, f1⟩ := at2 t
  unfold iblk
  rw [View.read_apply]
  exact congrArg (V m c main_arg2) (ext2 (fixed f0) (fixed f1))

theorem blk4 (t : Fin cfg0.N) (r : Fin 8) (k : Fin 256) (l : Fin 128)  :
    (iblk m c 4 t : FVec Ideal S8x256x128 .bf16) (ix3 r k l) = V m c main_v1 (ix3 r k l) := by
  obtain ⟨f0, f1, f2⟩ := at4 t
  unfold iblk
  rw [View.read_apply]
  exact congrArg (V m c main_v1) (ext3 (fixed f0) (fixed f1) (fixed f2))

/-- A point's row among all. -/
def row (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem row_holds (i : Fin 4096) : row (holds i) ⟨i.val % 512, by omega⟩ = i := Fin.ext (by show i.val / 512 * 512 + i.val % 512 = i.val; omega)

/-- The last point. -/
abbrev last : Fin cfg0.N := ⟨7, lt_of_lt_of_eq (by decide) (show 8 = cfg0.N from N_0.symm)⟩

variable {X Y : Fin 4096 → Fin 1024 → ℝ} {PE : Fin 4096 → Fin 256 → ℝ} {G : Fin 1024 → ℝ} {WG : Fin 1024 → Fin 1024 → ℝ} {WP : Fin 256 → Fin 1024 → ℝ}
variable (hx : ∀ r k, argX m c (ix2 r k) = (X r k : EReal)) (hg : ∀ k, argG m c (ix2 0 k) = (G k : EReal)) (hwg : ∀ j k, argWG m c (ix2 j k) = (WG j k : EReal))
variable (hp : ∀ r k, argP m c (ix2 r k) = (PE r k : EReal)) (hwp : ∀ a k, argWP m c (ix2 a k) = (WP a k : EReal)) (hy : ∀ r k, argY m c (ix2 r k) = (Y r k : EReal))
variable (t : Fin cfg0.N)

/-- The weights and the rows. -/
abbrev wts (G : Fin 1024 → ℝ) (WG : Fin 1024 → Fin 1024 → ℝ) (WP : Fin 256 → Fin 1024 → ℝ) : Real.Wts := ⟨G, WG, WP⟩
abbrev rws (X Y : Fin 4096 → Fin 1024 → ℝ) (PE : Fin 4096 → Fin 256 → ℝ) (i : Fin 4096) : Real.Row := ⟨X i, PE i, Y i⟩

include hx in
theorem at_X (r : Fin 512) (k : Fin 1024) : (iblk m c 0 t : FVec Ideal S512x1024 .f32) (ix2 r k) = ((rws X Y PE (row t r)).x k : EReal) := by
  rw [blk0 t r k (row t r) rfl, kept0, hx]

include hy in
theorem at_Y (r : Fin 512) (k : Fin 1024) : (iblk m c 5 t : FVec Ideal S512x1024 .f32) (ix2 r k) = ((rws X Y PE (row t r)).y k : EReal) := by
  rw [blk5 t r k (row t r) rfl, kept5, hy]

include hp in
theorem at_P (r : Fin 512) (k : Fin 256) : (iblk m c 3 t : FVec Ideal S512x256 .f32) (ix2 r k) = ((rws X Y PE (row t r)).p k : EReal) := by
  rw [blk3 t r k (row t r) rfl, kept3, hp]

include hg in
theorem at_G (k : Fin 1024) : (iblk m c 1 t : FVec Ideal S1x1024 .f32) (ix2 0 k) = ((wts G WG WP).g k : EReal) := by
  rw [blk1 t k, kept1, hg]

include hwg in
theorem at_WG (j k : Fin 1024) : (iblk m c 2 t : FVec Ideal S1024x1024 .bf16) (ix2 j k) = ((wts G WG WP).wg j k : EReal) := by
  rw [blk2 t j k, kept2, hwg]

include hwp in
theorem at_WP (j : Fin 8) (a : Fin 256) (l : Fin 128) :
    (iblk m c 4 t : FVec Ideal S8x256x128 .bf16) (ix3 j a l) = ((wts G WG WP).wp a (Real.col j l) : EReal) := by
  rw [blk4 t j a l, turned4, hwp]

theorem flushes : ∀ t : Fin cfg0.N, (cfg0.win 6).flush t = true ∧ (t.val = 7 → (cfg0.win 7).flush t = true) ∧ (t.val = 7 → (cfg0.win 8).flush t = true)
    ∧ (t.val = 7 → (cfg0.win 9).flush t = true) ∧ (t.val = 7 → (cfg0.win 10).flush t = true) :=
  (by decide +kernel : ∀ t : Fin grid0.N, _)

/-- The results' arrays. -/
abbrev arr6 (m : (ℓ : Loc nD τ sig) → Buf (Elt Ideal) ℓ) (c : Dev nD) : FVec Ideal S4096x1024 .f32 := (dats m 0 c).arrAt 6 cfg0.N
abbrev arr7 (m : (ℓ : Loc nD τ sig) → Buf (Elt Ideal) ℓ) (c : Dev nD) : FVec Ideal S1024x1024 .bf16 := (dats m 0 c).arrAt 7 cfg0.N
abbrev arr8 (m : (ℓ : Loc nD τ sig) → Buf (Elt Ideal) ℓ) (c : Dev nD) : FVec Ideal S8x256x128 .bf16 := (dats m 0 c).arrAt 8 cfg0.N
abbrev arr9 (m : (ℓ : Loc nD τ sig) → Buf (Elt Ideal) ℓ) (c : Dev nD) : FVec Ideal S1x1024 .f32 := (dats m 0 c).arrAt 9 cfg0.N
abbrev arr10 (m : (ℓ : Loc nD τ sig) → Buf (Elt Ideal) ℓ) (c : Dev nD) : FVec Ideal S8x128 .f32 := (dats m 0 c).arrAt 10 cfg0.N

theorem cell6 (r : Fin 512) (k : Fin 1024) :
    arr6 m c (ix2 (row t r) k) = ((outsAt0 m c t.val t.isLt).1 : FVec Ideal S512x1024 .f32) (ix2 r k) := by
  obtain ⟨f0, f1⟩ := at6 t
  have h := congrFun ((blocks6 m c t (flushes t).1).trans (flushed6 m c t)) (ix2 r k)
  rw [View.read_apply] at h
  exact (congrArg (arr6 m c) (ext2 (moved f0) (fixed f1)).symm).trans h

/-- Only the last point writes result 7 back. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' hf hf' hne => absurd ((by decide +kernel : ∀ t t' : Fin grid0.N, (cfg0.win 7).flush t = true → (cfg0.win 7).flush t' = true → t = t') t t' hf hf') hne

theorem cell7 (ht : t.val = 7) (r : Fin 1024) (k : Fin 1024) : arr7 m c (ix2 r k) = ((outsAt0 m c t.val t.isLt).2.1 : FVec Ideal S1024x1024 .bf16) (ix2 r k) := by
  obtain ⟨f0, f1⟩ := at7 t
  have h := congrFun (((dats m 0 c).read_blk_arrAt_eq_flushed 7 disjoint7 cfg0.N t t.isLt ((flushes t).2.1 ht)).trans (flushed7 m c t)) (ix2 r k)
  rw [View.read_apply] at h
  exact (congrArg (arr7 m c) (ext2 (fixed f0) (fixed f1)).symm).trans h

/-- Only the last point writes result 8 back. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' hf hf' hne => absurd ((by decide +kernel : ∀ t t' : Fin grid0.N, (cfg0.win 8).flush t = true → (cfg0.win 8).flush t' = true → t = t') t t' hf hf') hne

theorem cell8 (ht : t.val = 7) (r : Fin 8) (k : Fin 256) (l : Fin 128) : arr8 m c (ix3 r k l) = ((outsAt0 m c t.val t.isLt).2.2.1 : FVec Ideal S8x256x128 .bf16) (ix3 r k l) := by
  obtain ⟨f0, f1, f2⟩ := at8 t
  have h := congrFun (((dats m 0 c).read_blk_arrAt_eq_flushed 8 disjoint8 cfg0.N t t.isLt ((flushes t).2.2.1 ht)).trans (flushed8 m c t)) (ix3 r k l)
  rw [View.read_apply] at h
  exact (congrArg (arr8 m c) (ext3 (fixed f0) (fixed f1) (fixed f2)).symm).trans h

/-- Only the last point writes result 9 back. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' hf hf' hne => absurd ((by decide +kernel : ∀ t t' : Fin grid0.N, (cfg0.win 9).flush t = true → (cfg0.win 9).flush t' = true → t = t') t t' hf hf') hne

theorem cell9 (ht : t.val = 7) (k : Fin 1024) : arr9 m c (ix2 0 k) = ((outsAt0 m c t.val t.isLt).2.2.2.1 : FVec Ideal S1x1024 .f32) (ix2 0 k) := by
  obtain ⟨f0, f1⟩ := at9 t
  have h := congrFun (((dats m 0 c).read_blk_arrAt_eq_flushed 9 disjoint9 cfg0.N t t.isLt ((flushes t).2.2.2.1 ht)).trans (flushed9 m c t)) (ix2 0 k)
  rw [View.read_apply] at h
  exact (congrArg (arr9 m c) (ext2 (fixed f0) (fixed f1)).symm).trans h

/-- Only the last point writes result 10 back. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' hf hf' hne => absurd ((by decide +kernel : ∀ t t' : Fin grid0.N, (cfg0.win 10).flush t = true → (cfg0.win 10).flush t' = true → t = t') t t' hf hf') hne

theorem cell10 (ht : t.val = 7) (r : Fin 8) (k : Fin 128) : arr10 m c (ix2 r k) = ((outsAt0 m c t.val t.isLt).2.2.2.2.1 : FVec Ideal S8x128 .f32) (ix2 r k) := by
  obtain ⟨f0, f1⟩ := at10 t
  have h := congrFun (((dats m 0 c).read_blk_arrAt_eq_flushed 10 disjoint10 cfg0.N t t.isLt ((flushes t).2.2.2.2 ht)).trans (flushed10 m c t)) (ix2 r k)
  rw [View.read_apply] at h
  exact (congrArg (arr10 m c) (ext2 (fixed f0) (fixed f1)).symm).trans h

include hx hg hwg hp hwp hy in
/-- The gains' gradient after the last point. -/
theorem gains_sum (k : Fin 1024) : ((outsAt0 m c last.val last.isLt).2.2.2.1 : FVec Ideal S1x1024 .f32) (ix2 0 k) = ((∑ i, Real.dg (wts G WG WP) (rws X Y PE i) k : ℝ) : EReal) := by
  have h := run (fun n hn => ((outsAt0 m c n hn).2.2.2.1 : FVec Ideal S1x1024 .f32) (ix2 0 k)) (tile 512 fun i => Real.dg (wts G WG WP) (rws X Y PE i) k)
    (fun h => by
      show ((outsAt0 m c (⟨0, h⟩ : Fin cfg0.N).val h).2.2.2.1 : FVec Ideal S1x1024 .f32) (ix2 0 k) = _
      have p (acc : FVec Ideal S1x1024 .f32) := Pay.dgain_at (w := wts G WG WP) (R := fun r => rws X Y PE (row ⟨0, h⟩ r)) (at_X hx ⟨0, h⟩) (at_Y hy ⟨0, h⟩) (at_P hp ⟨0, h⟩) (at_G hg ⟨0, h⟩) (at_WG hwg ⟨0, h⟩) (at_WP hwp ⟨0, h⟩) k acc
      rw [Block.o9_A m c ⟨0, h⟩ rfl, p, Pay.pay15, zero_add, ← tile_row _ _ (row ⟨0, h⟩) fun r => rfl])
    (fun n h => by
      have h8 := lt_of_lt_of_eq h (show cfg0.N = 8 from N_0)
      show ((outsAt0 m c (⟨n + 1, h⟩ : Fin cfg0.N).val h).2.2.2.1 : FVec Ideal S1x1024 .f32) (ix2 0 k) = _
      have p (acc : FVec Ideal S1x1024 .f32) := Pay.dgain_at (w := wts G WG WP) (R := fun r => rws X Y PE (row ⟨n + 1, h⟩ r)) (at_X hx ⟨n + 1, h⟩) (at_Y hy ⟨n + 1, h⟩) (at_P hp ⟨n + 1, h⟩) (at_G hg ⟨n + 1, h⟩) (at_WG hwg ⟨n + 1, h⟩) (at_WP hwp ⟨n + 1, h⟩) k acc
      rw [Block.o9_B m c ⟨n + 1, h⟩ (by show ¬ (n + 1) % 8 = 0; omega), p, ← tile_row _ _ (row ⟨n + 1, h⟩) fun r => rfl]
      rfl)
    7 last.isLt
  rw [tiles 8 512 rfl] at h
  exact h

include hx hg hwg hp hwp hy in
/-- The loss after the last point. -/
theorem loss_sum (j : Fin 8) (l : Fin 128) : ((outsAt0 m c last.val last.isLt).2.2.2.2.1 : FVec Ideal S8x128 .f32) (ix2 j l) = ((∑ i, 1 / 2 * Real.sq (wts G WG WP) (rws X Y PE i) * (1 / 1024) : ℝ) : EReal) := by
  have h := run (fun n hn => ((outsAt0 m c n hn).2.2.2.2.1 : FVec Ideal S8x128 .f32) (ix2 j l)) (tile 512 fun i => 1 / 2 * Real.sq (wts G WG WP) (rws X Y PE i) * (1 / 1024))
    (fun h => by
      show ((outsAt0 m c (⟨0, h⟩ : Fin cfg0.N).val h).2.2.2.2.1 : FVec Ideal S8x128 .f32) (ix2 j l) = _
      have p (acc : FVec Ideal S8x128 .f32) := Pay.loss_at (w := wts G WG WP) (R := fun r => rws X Y PE (row ⟨0, h⟩ r)) (at_X hx ⟨0, h⟩) (at_Y hy ⟨0, h⟩) (at_P hp ⟨0, h⟩) (at_G hg ⟨0, h⟩) (at_WG hwg ⟨0, h⟩) (at_WP hwp ⟨0, h⟩) acc j l
      rw [Block.o10_A m c ⟨0, h⟩ rfl, p, Pay.pay16, zero_add, ← tile_row _ _ (row ⟨0, h⟩) fun r => rfl])
    (fun n h => by
      have h8 := lt_of_lt_of_eq h (show cfg0.N = 8 from N_0)
      show ((outsAt0 m c (⟨n + 1, h⟩ : Fin cfg0.N).val h).2.2.2.2.1 : FVec Ideal S8x128 .f32) (ix2 j l) = _
      have p (acc : FVec Ideal S8x128 .f32) := Pay.loss_at (w := wts G WG WP) (R := fun r => rws X Y PE (row ⟨n + 1, h⟩ r)) (at_X hx ⟨n + 1, h⟩) (at_Y hy ⟨n + 1, h⟩) (at_P hp ⟨n + 1, h⟩) (at_G hg ⟨n + 1, h⟩) (at_WG hwg ⟨n + 1, h⟩) (at_WP hwp ⟨n + 1, h⟩) acc j l
      rw [Block.o10_B m c ⟨n + 1, h⟩ (by show ¬ (n + 1) % 8 = 0; omega), p, ← tile_row _ _ (row ⟨n + 1, h⟩) fun r => rfl]
      rfl)
    7 last.isLt
  rw [tiles 8 512 rfl] at h
  exact h

include hx hg hwg hp hwp hy in
/-- The gate matrix's gradient after the last point. -/
theorem gate_sum (j k : Fin 1024) : ((outsAt0 m c last.val last.isLt).2.2.2.2.2.1 : FVec Ideal S1024x1024 .f32) (ix2 j k) = ((∑ i, Real.dwg (wts G WG WP) (rws X Y PE i) j k : ℝ) : EReal) := by
  have h := run (fun n hn => ((outsAt0 m c n hn).2.2.2.2.2.1 : FVec Ideal S1024x1024 .f32) (ix2 j k)) (tile 512 fun i => Real.dwg (wts G WG WP) (rws X Y PE i) j k)
    (fun h => by
      show ((outsAt0 m c (⟨0, h⟩ : Fin cfg0.N).val h).2.2.2.2.2.1 : FVec Ideal S1024x1024 .f32) (ix2 j k) = _
      have p (acc : FVec Ideal S1024x1024 .f32) := Pay.dgate_at (w := wts G WG WP) (R := fun r => rws X Y PE (row ⟨0, h⟩ r)) (at_X hx ⟨0, h⟩) (at_Y hy ⟨0, h⟩) (at_P hp ⟨0, h⟩) (at_G hg ⟨0, h⟩) (at_WG hwg ⟨0, h⟩) (at_WP hwp ⟨0, h⟩) k acc j
      rw [Block.s0_A m c ⟨0, h⟩ rfl, p, Pay.pay13, zero_add, ← tile_row _ _ (row ⟨0, h⟩) fun r => rfl])
    (fun n h => by
      have h8 := lt_of_lt_of_eq h (show cfg0.N = 8 from N_0)
      show ((outsAt0 m c (⟨n + 1, h⟩ : Fin cfg0.N).val h).2.2.2.2.2.1 : FVec Ideal S1024x1024 .f32) (ix2 j k) = _
      have p (acc : FVec Ideal S1024x1024 .f32) := Pay.dgate_at (w := wts G WG WP) (R := fun r => rws X Y PE (row ⟨n + 1, h⟩ r)) (at_X hx ⟨n + 1, h⟩) (at_Y hy ⟨n + 1, h⟩) (at_P hp ⟨n + 1, h⟩) (at_G hg ⟨n + 1, h⟩) (at_WG hwg ⟨n + 1, h⟩) (at_WP hwp ⟨n + 1, h⟩) k acc j
      rw [Block.s0_B m c ⟨n + 1, h⟩ (by show ¬ (n + 1) % 8 = 0; omega), p, ← tile_row _ _ (row ⟨n + 1, h⟩) fun r => rfl]
      rfl)
    7 last.isLt
  rw [tiles 8 512 rfl] at h
  exact h

include hx hg hwg hp hwp hy in
/-- The projection's gradient after the last point. -/
theorem proj_sum (a : Fin 256) (k : Fin 1024) : ((outsAt0 m c last.val last.isLt).2.2.2.2.2.2 : FVec Ideal S256x1024 .f32) (ix2 a k) = ((∑ i, Real.dwp (wts G WG WP) (rws X Y PE i) a k : ℝ) : EReal) := by
  have h := run (fun n hn => ((outsAt0 m c n hn).2.2.2.2.2.2 : FVec Ideal S256x1024 .f32) (ix2 a k)) (tile 512 fun i => Real.dwp (wts G WG WP) (rws X Y PE i) a k)
    (fun h => by
      show ((outsAt0 m c (⟨0, h⟩ : Fin cfg0.N).val h).2.2.2.2.2.2 : FVec Ideal S256x1024 .f32) (ix2 a k) = _
      have p (acc : FVec Ideal S256x1024 .f32) := Pay.dproj_at (w := wts G WG WP) (R := fun r => rws X Y PE (row ⟨0, h⟩ r)) (at_X hx ⟨0, h⟩) (at_Y hy ⟨0, h⟩) (at_P hp ⟨0, h⟩) (at_G hg ⟨0, h⟩) (at_WG hwg ⟨0, h⟩) (at_WP hwp ⟨0, h⟩) k acc a
      rw [Block.s1_A m c ⟨0, h⟩ rfl, p, Pay.pay14, zero_add, ← tile_row _ _ (row ⟨0, h⟩) fun r => rfl])
    (fun n h => by
      have h8 := lt_of_lt_of_eq h (show cfg0.N = 8 from N_0)
      show ((outsAt0 m c (⟨n + 1, h⟩ : Fin cfg0.N).val h).2.2.2.2.2.2 : FVec Ideal S256x1024 .f32) (ix2 a k) = _
      have p (acc : FVec Ideal S256x1024 .f32) := Pay.dproj_at (w := wts G WG WP) (R := fun r => rws X Y PE (row ⟨n + 1, h⟩ r)) (at_X hx ⟨n + 1, h⟩) (at_Y hy ⟨n + 1, h⟩) (at_P hp ⟨n + 1, h⟩) (at_G hg ⟨n + 1, h⟩) (at_WG hwg ⟨n + 1, h⟩) (at_WP hwp ⟨n + 1, h⟩) k acc a
      rw [Block.s1_B m c ⟨n + 1, h⟩ (by show ¬ (n + 1) % 8 = 0; omega), p, ← tile_row _ _ (row ⟨n + 1, h⟩) fun r => rfl]
      rfl)
    7 last.isLt
  rw [tiles 8 512 rfl] at h
  exact h

include hx hg hwg hp hwp hy in
/-- The residual's gradient is the reference's. -/
theorem value72 : Cert.PleLossVjpIdeal.Read.val_main_v72 (F := Ideal) (argX m c) (argG m c) (argWG m c) (argP m c) (argWP m c) (argY m c) = arr6 m c := by
  funext i
  idx_vars i
  have e := cell6 (m := m) (c := c) (holds i0) ⟨i0.val % 512, by omega⟩ i1
  rw [row_holds, Block.o6, Pay.dx_at (w := wts G WG WP) (R := fun r => rws X Y PE (row (holds i0) r)) (at_X hx _) (at_Y hy _) (at_P hp _) (at_G hg _) (at_WG hwg _) (at_WP hwp _)] at e
  simp only [row_holds] at e
  rw [e, Cert.PleLossVjpIdeal.At.v72 (w := wts G WG WP) (R := rws X Y PE) hx hy hp hg hwg hwp]

include hx hg hwg hp hwp hy in
/-- The gate matrix's gradient is the reference's. -/
theorem value73 : Cert.PleLossVjpIdeal.Read.val_main_v73 (F := Ideal) (argX m c) (argG m c) (argWG m c) (argP m c) (argWP m c) (argY m c) = arr7 m c := by
  funext i
  idx_vars i
  rw [cell7 last rfl, Block.o7_C m c last (by decide) (by decide), Pay.pay7, gate_sum hx hg hwg hp hwp hy, Cert.PleLossVjpIdeal.At.v73 (w := wts G WG WP) (R := rws X Y PE) hx hy hp hg hwg hwp]

include hx hg hwg hp hwp hy in
/-- The projection's gradient is the reference's. -/
theorem value76 : Cert.PleLossVjpIdeal.Read.val_main_v76 (F := Ideal) (argX m c) (argG m c) (argWG m c) (argP m c) (argWP m c) (argY m c) = arr8 m c := by
  funext i
  idx_vars i
  rw [cell8 last rfl, Block.o8_C m c last (by decide) (by decide), Pay.tables_at, proj_sum hx hg hwg hp hwp hy, Cert.PleLossVjpIdeal.At.v76 (w := wts G WG WP) (R := rws X Y PE) hx hy hp hg hwg hwp]

include hx hg hwg hp hwp hy in
/-- The gains' gradient is the reference's. -/
theorem value55 : Cert.PleLossVjpIdeal.Read.val_main_v55 (F := Ideal) (argX m c) (argG m c) (argWG m c) (argP m c) (argWP m c) (argY m c) = arr9 m c := by
  funext i
  idx_vars i
  obtain rfl : i0 = 0 := Subsingleton.elim _ _
  rw [cell9 last rfl, gains_sum hx hg hwg hp hwp hy, Cert.PleLossVjpIdeal.At.v55 (w := wts G WG WP) (R := rws X Y PE) hx hy hp hg hwg hwp]

include hx hg hwg hp hwp hy in
/-- The loss is the reference's. -/
theorem value77 : Cert.PleLossVjpIdeal.Read.val_main_v77 (F := Ideal) (argX m c) (argG m c) (argWG m c) (argP m c) (argWP m c) (argY m c) = arr10 m c := by
  funext i
  idx_vars i
  rw [cell10 last rfl, loss_sum hx hg hwg hp hwp hy, Cert.PleLossVjpIdeal.At.v77 (w := wts G WG WP) (R := rws X Y PE) hx hy hp hg hwg hwp]

end Cert.PleLossIdeal.Final

end
-- ==== Proof.PleLoss.Claims.lean ====
/- The claims about the loss call. -/
module

public import proofs.«01_k».proof.Defs
public import proofs.«01_k».proof.Proof.PleLoss.Value
public import proofs.«01_k».proof.Proof.Gen.PleLossVjpIdeal.Run
public import proofs.«01_k».proof.Proof.Gen.PleLoss.Frame
public import proofs.«01_k».proof.Proof.Gen.Pre_finite_ple_loss
public import Idealize.ShloMosaic.Lib.Quiescent

@[expose] public section

set_option maxRecDepth 16384

noncomputable section

open Idealize.ShloMosaic Idealize.SL.Sem

namespace Cert.PleLossClaims

open Cert.PleLossIdeal.Final Cert.Sums

/-- The reference runs to the end, keeps its arguments and has no counters. -/
theorem frame_ref : Cert.quiescent_PleLossVjpIdeal := fun m ρ _ =>
  (θ_run Cert.PleLossVjpIdeal.defs _ _).mono
    (fun r h => ⟨fun c => (h c).2.2.2.2.2, sem_eq_zero_of_no_sems (by decide) r.2⟩)
    (Cert.PleLossVjpIdeal.Value.run (F := Ideal) m ρ)

/-- The kernel's run gives the reference's results. -/
theorem value : Cert.algebraic_PleLossIdeal_PleLossVjpIdeal_pre_finite_ple_loss := by
  intro m ρ m' ρ' hpre hargs
  refine ⟨_, _, _, _, _, Cert.PleLossIdeal.Value.run_blocks m ρ,
    (θ_run Cert.PleLossVjpIdeal.defs _ _).mono (fun r h c => ?_) (Cert.PleLossVjpIdeal.Value.run (F := Ideal) m' ρ')⟩
  obtain ⟨p0, p1, p2, p3, p4, p5⟩ := hpre c
  obtain ⟨X0, e0⟩ := real_of_pre (s0 := Cert.Pre_finite_ple_loss.S_) (argX m c) _ p0
  have hx : ∀ r k, argX m c (ix2 r k) = ((fun r k => X0 (ix2 r k)) r k : EReal) := fun r k => congrFun e0 _
  obtain ⟨X1, e1⟩ := real_of_pre (s0 := Cert.Pre_finite_ple_loss.S_) (argG m c) _ p1
  have hg : ∀ k, argG m c (ix2 0 k) = ((fun k => X1 (ix2 0 k)) k : EReal) := fun k => congrFun e1 _
  obtain ⟨X2, e2⟩ := real_of_pre (s0 := Cert.Pre_finite_ple_loss.S_) (argWG m c) _ p2
  have hwg : ∀ j k, argWG m c (ix2 j k) = ((fun j k => X2 (ix2 j k)) j k : EReal) := fun j k => congrFun e2 _
  obtain ⟨X3, e3⟩ := real_of_pre (s0 := Cert.Pre_finite_ple_loss.S_) (argP m c) _ p3
  have hp : ∀ r k, argP m c (ix2 r k) = ((fun r k => X3 (ix2 r k)) r k : EReal) := fun r k => congrFun e3 _
  obtain ⟨X4, e4⟩ := real_of_pre (s0 := Cert.Pre_finite_ple_loss.S_) (argWP m c) _ p4
  have hwp : ∀ a k, argWP m c (ix2 a k) = ((fun a k => X4 (ix2 a k)) a k : EReal) := fun a k => congrFun e4 _
  obtain ⟨X5, e5⟩ := real_of_pre (s0 := Cert.Pre_finite_ple_loss.S_) (argY m c) _ p5
  have hy : ∀ r k, argY m c (ix2 r k) = ((fun r k => X5 (ix2 r k)) r k : EReal) := fun r k => congrFun e5 _
  obtain ⟨a0, a1, a2, a3, a4, a5⟩ := hargs c
  obtain ⟨h0_, h1_, h2_, h3_, h4_, hkept⟩ := h c
  refine ⟨h0_.trans ?_, h1_.trans ?_, h2_.trans ?_, h3_.trans ?_, h4_.trans ?_, hkept⟩
  · rw [Cert.PleLossVjpIdeal.Read.val_main_v72_eq, a0, a1, a2, a3, a4, a5]
    exact value72 hx hg hwg hp hwp hy
  · rw [Cert.PleLossVjpIdeal.Read.val_main_v73_eq, a0, a1, a2, a3, a4, a5]
    exact value73 hx hg hwg hp hwp hy
  · refine (Cert.PleLossVjpIdeal.Read.val_main_v76_eq _ _ _ _ _ _ ).trans ?_
    rw [a0, a1, a2, a3, a4, a5]
    exact value76 hx hg hwg hp hwp hy
  · rw [Cert.PleLossVjpIdeal.Read.val_main_v55_eq, a0, a1, a2, a3, a4, a5]
    exact value55 hx hg hwg hp hwp hy
  · refine (Cert.PleLossVjpIdeal.Read.val_main_v77_eq _ _ _ _ _ _ ).trans ?_
    rw [a0, a1, a2, a3, a4, a5]
    exact value77 hx hg hwg hp hwp hy

end Cert.PleLossClaims

end
-- ==== Proof.BwdMix.Block.lean ====
/- What the mixing call's backward pass leaves after a grid point, as functions of the point's blocks. -/
module

public import proofs.«01_k».proof.Proof.Gen.BwdMixIdeal.Value
public import proofs.«01_k».proof.Proof.Whole
public import Idealize.ShloMosaic.Lib.Tactic

@[expose] public section

set_option maxRecDepth 16384
set_option maxHeartbeats 1000000

noncomputable section

open Idealize.ShloMosaic Idealize.ShloMosaic.TcCoe Idealize.SL.Sem

namespace Cert.BwdMixIdeal.Block

open Cert.BwdMixIdeal Cert.BwdMixIdeal.Gen Cert.BwdMixIdeal.Value Cert.Whole

variable {F : FTy → Type} [FloatOps F]

/-- A head's band of columns lies within 512. -/
theorem inbH (o : Nat) (h : o + 128 ≤ 512) : ∀ a, (![0, o] : Fin 2 → Nat) a + (![512, 128] : Fin 2 → Nat) a ≤ (![512, 512] : Fin 2 → Nat) a := by
  intro a; fin_cases a
  · exact le_refl 512
  · exact h

section One

variable (d2 : FVec F S512x1024 .f32) (w : FVec F S1024x1024 .bf16) (o hg : FVec F S512x512 .f32) (g : FVec F S1x512 .f32)

/-- The gate's gradient. -/
def dgate : FVec F S512x512 .bf16 :=
  k0_pay28 (k0_pay10 d2 w) (k0_pay11 hg) (k0_pay16 (k0_pay12 o) (k0_pay13 g) (k0_pay14 o)) (k0_pay19 o g) (k0_pay22 o g) (k0_pay23 o) (k0_pay24 g) (k0_pay26 o)

/-- The four heads' stores of the recurrence's gradient, last first. -/
def heads : List (View.Piece (Elt F) S512x512 .f32) :=
  [⟨Rect.unit (s := S512x512) ![0, 384] ![512, 128] (inbH 384 (by omega)), k0_pay1 (k0_pay25 o) (k0_pay45 o) (k0_pay46 g (k0_pay29 (k0_pay10 d2 w) (k0_pay11 hg)))⟩,
   ⟨Rect.unit (s := S512x512) ![0, 256] ![512, 128] (inbH 256 (by omega)), k0_pay42 o g (k0_pay21 o) (k0_pay29 (k0_pay10 d2 w) (k0_pay11 hg))⟩,
   ⟨Rect.unit (s := S512x512) ![0, 128] ![512, 128] (inbH 128 (by omega)),
    k0_pay38 (k0_pay18 o) (k0_pay35 o) (k0_pay36 (k0_pay10 d2 w) (k0_pay11 hg) g) (k0_pay37 (k0_pay10 d2 w) (k0_pay11 hg) g (k0_pay18 o))⟩,
   ⟨Rect.unit (s := S512x512) ![0, 0] ![512, 128] (inbH 0 (by omega)), k0_pay32 (k0_pay10 d2 w) o (k0_pay11 hg) g (k0_pay15 (k0_pay14 o))⟩]

/-- The running gradient of the gains. -/
def dgain (acc : FVec F S1x512 .f32) : FVec F S1x512 .f32 :=
  k0_pay2 (k0_pay25 o) (k0_pay33 (k0_pay10 d2 w) o (k0_pay11 hg) (k0_pay15 (k0_pay14 o)))
    (k0_pay39 (k0_pay18 o) (k0_pay34 (k0_pay10 d2 w) (k0_pay11 hg)) (k0_pay35 o)) (k0_pay43 o (k0_pay21 o) (k0_pay29 (k0_pay10 d2 w) (k0_pay11 hg)))
    (k0_pay44 (k0_pay29 (k0_pay10 d2 w) (k0_pay11 hg))) (k0_pay45 o) acc

end One

/-- The running gradient of the projection. -/
def dproj (d2 : FVec F S512x1024 .f32) (cat : FVec F S512x1024 .bf16) (acc : FVec F S1024x1024 .f32) : FVec F S1024x1024 .f32 := k0_pay6 d2 acc cat

variable (m : (ℓ : Loc nD τ sig) → Buf (Elt F) ℓ) (c : Dev nD)

/-- The attention's gradient. -/
theorem o6 (t : Fin cfg0.N) : (outsAt0 m c t.val t.isLt).1 = k0_pay9 (iblk m c 0 t) (iblk m c 1 t) := by
  by_cases h0 : t.val % 8 = 0
  · have h1 : ¬ t.val % 8 = 7 := by omega
    rw [outsAt0_A m c t h0 h1]
    dsimp only
    unfold out0_A_6
    rw [View.read_writes_eq_canon (h := fun y => cover0_A_6 ..)]
    unfold kernelRun0_A
    dsimp only
    sl_unfold_words
    simp only [canon2, cov2, View.readAt_eq_ld, ld2, Memref.IsWhole.read_unread, read_unread_whole]
  by_cases h1 : t.val % 8 = 7
  · rw [outsAt0_C m c t h0 h1]
    dsimp only
    unfold out0_C_6
    rw [View.read_writes_eq_canon (h := fun y => cover0_C_6 ..)]
    unfold kernelRun0_C
    dsimp only
    sl_unfold_words
    simp only [canon2, cov2, View.readAt_eq_ld, ld2, Memref.IsWhole.read_unread, read_unread_whole]
  · rw [outsAt0_B m c t h0 h1]
    dsimp only
    unfold out0_B_6
    rw [View.read_writes_eq_canon (h := fun y => cover0_B_6 ..)]
    unfold kernelRun0_B
    dsimp only
    sl_unfold_words
    simp only [canon2, cov2, View.readAt_eq_ld, ld2, Memref.IsWhole.read_unread, read_unread_whole]

/-- The recurrence's gradient. -/
theorem o7 (t : Fin cfg0.N) : (outsAt0 m c t.val t.isLt).2.1 = View.canon (heads (iblk m c 0 t) (iblk m c 1 t) (iblk m c 2 t) (X0_3 m c t) (iblk m c 4 t)) := by
  by_cases h0 : t.val % 8 = 0
  · have h1 : ¬ t.val % 8 = 7 := by omega
    rw [outsAt0_A m c t h0 h1]
    dsimp only
    unfold out0_A_7
    rw [View.read_writes_eq_canon (h := fun y => cover0_A_7 ..)]
    unfold kernelRun0_A
    dsimp only
    sl_unfold_words
    simp only [canon2, cov2, View.readAt_eq_ld, ld2, Memref.IsWhole.read_unread, read_unread_whole]
    rfl
  by_cases h1 : t.val % 8 = 7
  · rw [outsAt0_C m c t h0 h1]
    dsimp only
    unfold out0_C_7
    rw [View.read_writes_eq_canon (h := fun y => cover0_C_7 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold out0_B_7
    rw [View.read_writes_eq_canon (h := fun y => cover0_B_7 ..)]
    unfold kernelRun0_B
    dsimp only
    sl_unfold_words
    simp only [canon2, cov2, View.readAt_eq_ld, ld2, Memref.IsWhole.read_unread, read_unread_whole]
    rfl

/-- The gate's gradient. -/
theorem o8 (t : Fin cfg0.N) : (outsAt0 m c t.val t.isLt).2.2.1 = dgate (iblk m c 0 t) (iblk m c 1 t) (iblk m c 2 t) (X0_3 m c t) (iblk m c 4 t) := by
  by_cases h0 : t.val % 8 = 0
  · have h1 : ¬ t.val % 8 = 7 := by omega
    rw [outsAt0_A m c t h0 h1]
    dsimp only
    unfold out0_A_8
    rw [View.read_writes_eq_canon (h := fun y => cover0_A_8 ..)]
    unfold kernelRun0_A
    dsimp only
    sl_unfold_words
    simp only [canon2, cov2, View.readAt_eq_ld, ld2, Memref.IsWhole.read_unread, read_unread_whole]
    rfl
  by_cases h1 : t.val % 8 = 7
  · rw [outsAt0_C m c t h0 h1]
    dsimp only
    unfold out0_C_8
    rw [View.read_writes_eq_canon (h := fun y => cover0_C_8 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold out0_B_8
    rw [View.read_writes_eq_canon (h := fun y => cover0_B_8 ..)]
    unfold kernelRun0_B
    dsimp only
    sl_unfold_words
    simp only [canon2, cov2, View.readAt_eq_ld, ld2, Memref.IsWhole.read_unread, read_unread_whole]
    rfl

/-- The gains' running gradient at the first point. -/
theorem o9_A (t : Fin cfg0.N) (h0 : t.val % 8 = 0) : (outsAt0 m c t.val t.isLt).2.2.2.1 = dgain (iblk m c 0 t) (iblk m c 1 t) (iblk m c 2 t) (X0_3 m c t) (k0_pay3 (F := F)) := by
  have h1 : ¬ t.val % 8 = 7 := by omega
  rw [outsAt0_A m c t h0 h1]
  dsimp only
  unfold out0_A_9
  rw [View.read_writes_eq_canon (h := fun y => cover0_A_9 ..)]
  unfold kernelRun0_A
  dsimp only
  sl_unfold_words
  simp only [canon2, cov2, View.readAt_eq_ld, ld2, Memref.IsWhole.read_unread, read_unread_whole]
  rfl

/-- The gains' running gradient at a later point. -/
theorem o9_B (t : Fin cfg0.N) (h0 : ¬ t.val % 8 = 0) :
    (outsAt0 m c t.val t.isLt).2.2.2.1 = dgain (iblk m c 0 t) (iblk m c 1 t) (iblk m c 2 t) (X0_3 m c t) (outsAt0 m c (t.val - 1) (by omega)).2.2.2.1 := by
  by_cases h1 : t.val % 8 = 7
  · rw [outsAt0_C m c t h0 h1]
    dsimp only
    unfold out0_C_9
    rw [View.read_writes_eq_canon (h := fun y => cover0_C_9 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold out0_B_9
    rw [View.read_writes_eq_canon (h := fun y => cover0_B_9 ..)]
    unfold kernelRun0_B
    dsimp only
    sl_unfold_words
    simp only [canon2, cov2, View.readAt_eq_ld, ld2, Memref.IsWhole.read_unread, read_unread_whole]
    rfl

/-- The projection's running gradient at the first point. -/
theorem s0_A (t : Fin cfg0.N) (h0 : t.val % 8 = 0) : (outsAt0 m c t.val t.isLt).2.2.2.2.2 = dproj (iblk m c 0 t) (iblk m c 5 t) (k0_pay4 (F := F)) := by
  have h1 : ¬ t.val % 8 = 7 := by omega
  rw [outsAt0_A m c t h0 h1]
  dsimp only
  unfold sout0_A_0
  rw [View.read_writes_eq_canon (h := fun y => scover0_A_0 ..)]
  unfold kernelRun0_A
  dsimp only
  sl_unfold_words
  simp only [canon2, cov2, View.readAt_eq_ld, ld2, Memref.IsWhole.read_unread, read_unread_whole]
  rfl

/-- The projection's running gradient at a later point. -/
theorem s0_B (t : Fin cfg0.N) (h0 : ¬ t.val % 8 = 0) :
    (outsAt0 m c t.val t.isLt).2.2.2.2.2 = dproj (iblk m c 0 t) (iblk m c 5 t) (outsAt0 m c (t.val - 1) (by omega)).2.2.2.2.2 := by
  by_cases h1 : t.val % 8 = 7
  · rw [outsAt0_C m c t h0 h1]
    dsimp only
    unfold sout0_C_0
    rw [View.read_writes_eq_canon (h := fun y => scover0_C_0 ..)]
    unfold kernelRun0_C
    dsimp only
    sl_unfold_words
    simp only [canon2, cov2, View.readAt_eq_ld, ld2, Memref.IsWhole.read_unread, read_unread_whole]
    rfl
  · rw [outsAt0_B m c t h0 h1]
    dsimp only
    unfold sout0_B_0
    rw [View.read_writes_eq_canon (h := fun y => scover0_B_0 ..)]
    unfold kernelRun0_B
    dsimp only
    sl_unfold_words
    simp only [canon2, cov2, View.readAt_eq_ld, ld2, Memref.IsWhole.read_unread, read_unread_whole]
    rfl

/-- The projection's gradient, at the last point. -/
theorem o10_C (t : Fin cfg0.N) (h0 : ¬ t.val % 8 = 0) (h1 : t.val % 8 = 7) :
    (outsAt0 m c t.val t.isLt).2.2.2.2.1 = k0_pay7 (outsAt0 m c t.val t.isLt).2.2.2.2.2 := by
  rw [s0_B m c t h0]
  rw [outsAt0_C m c t h0 h1]
  dsimp only
  unfold out0_C_10
  rw [View.read_writes_eq_canon (h := fun y => cover0_C_10 ..)]
  unfold kernelRun0_C
  dsimp only
  sl_unfold_words
  simp only [canon2, cov2, View.readAt_eq_ld, ld2, Memref.IsWhole.read_unread, read_unread_whole]
  rfl

end Cert.BwdMixIdeal.Block

end
-- ==== Proof.BwdMix.Real.lean ====
/- The output projection, the heads' norm and the gate, backward, over real numbers, one row at a time. -/
module

public import proofs.«01_k».proof.Proof.Norm

@[expose] public section

set_option maxRecDepth 16384
set_option maxHeartbeats 1000000

noncomputable section

open Idealize.ShloMosaic Idealize.ShloMosaic.TcCoe Idealize.SL.Sem

namespace Cert.BwdMix.Real

open Cert.Norm

/-- A column's head and its place in the head. -/
def hd (c : Fin 512) : Fin 4 := ⟨c.val / 128, by omega⟩
def ln (c : Fin 512) : Fin 128 := ⟨c.val % 128, by omega⟩

/-- The column at a place of a head. -/
def col (h : Fin 4) (k : Fin 128) : Fin 512 := ⟨h.val * 128 + k.val, by omega⟩

theorem flat {α : Type} (f : Fin 4 → Fin 128 → α) (c : Fin 512) (h : Fin 4) (k : Fin 128) (e : c.val = h.val * 128 + k.val) : f (hd c) (ln c) = f h k := by
  have e1 : hd c = h := Fin.ext (by show c.val / 128 = h.val; omega)
  have e2 : ln c = k := Fin.ext (by show c.val % 128 = k.val; omega)
  rw [e1, e2]

/-- The weights: the projection, the heads' gains. -/
structure Wts where
  wo : Fin 1024 → Fin 1024 → ℝ
  g : Fin 4 → Fin 128 → ℝ

/-- A row: the output's gradient, the recurrence's output, the gate's input. -/
structure Row where
  d2 : Fin 1024 → ℝ
  o : Fin 4 → Fin 128 → ℝ
  hg : Fin 4 → Fin 128 → ℝ

variable (w : Wts) (r : Row)

/-- The gradient before the projection. -/
def dc (i : Fin 1024) : ℝ := ∑ j, r.d2 j * w.wo i j

theorem col_hd (c : Fin 512) : col (hd c) (ln c) = c := Fin.ext (by show c.val / 128 * 128 + c.val % 128 = c.val; omega)

/-- Its columns of the attention and of the recurrence. -/
def lo (c : Fin 512) : Fin 1024 := ⟨c.val, by omega⟩
def hi (c : Fin 512) : Fin 1024 := ⟨512 + c.val, by omega⟩
/-- The gate's column among the input projection's. -/
def gateCol (c : Fin 512) : Fin 3136 := ⟨2624 + c.val, by omega⟩

/-- The gradient at the gated norm. -/
def dr (h : Fin 4) (k : Fin 128) : ℝ := dc w r (hi (col h k))

/-- The heads' norm. -/
def on (h : Fin 4) (k : Fin 128) : ℝ := r.o h k * rt 128 (r.o h) * w.g h k

/-- The gate. -/
def sg (h : Fin 4) (k : Fin 128) : ℝ := (1 + Real.exp (-r.hg h k))⁻¹

/-- The gate's gradient. -/
def dhg (h : Fin 4) (k : Fin 128) : ℝ := dr w r h k * on w r h k * (sg r h k * (1 + r.hg h k * (1 - sg r h k)))

/-- The gradient at the norm's output. -/
def don (h : Fin 4) (k : Fin 128) : ℝ := dr w r h k * (r.hg h k * sg r h k)

/-- The recurrence's gradient. -/
def dx (h : Fin 4) (k : Fin 128) : ℝ := back 128 (r.o h) (fun a => don w r h a * w.g h a) k

/-- A row's part of the gains' gradient. -/
def dg (h : Fin 4) (k : Fin 128) : ℝ := don w r h k * r.o h k * rt 128 (r.o h)

end Cert.BwdMix.Real

end
-- ==== Proof.BwdMix.Pay.lean ====
/- The mixing call's payloads at an index, over blocks of finite numbers. -/
module

public import proofs.«01_k».proof.Proof.BwdMix.Block
public import proofs.«01_k».proof.Proof.BwdMix.Real
public import Idealize.ShloMosaic.Lib.Pipeline.ValueKit.Tiles

@[expose] public section

set_option maxRecDepth 16384
set_option maxHeartbeats 1000000

noncomputable section

open Idealize.ShloMosaic Idealize.ShloMosaic.TcCoe Idealize.SL.Sem

namespace Cert.BwdMixIdeal.Pay

open Cert.BwdMixIdeal Cert.BwdMixIdeal.Gen Cert.Sums Cert.Norm Cert.BwdMix

variable {d2 : FVec Ideal S512x1024 .f32} {wo : FVec Ideal S1024x1024 .bf16} {o hv : FVec Ideal S512x512 .f32} {g : FVec Ideal S1x512 .f32}
variable {w : Real.Wts} {R : Fin 512 → Real.Row}
variable (hd : ∀ r j, d2 (ix2 r j) = ((R r).d2 j : EReal)) (hw : ∀ i j, wo (ix2 i j) = (w.wo i j : EReal))
variable (ho : ∀ r c, o (ix2 r c) = ((R r).o (Real.hd c) (Real.ln c) : EReal)) (hh : ∀ r c, hv (ix2 r c) = ((R r).hg (Real.hd c) (Real.ln c) : EReal))
variable (hg : ∀ c, g (ix2 0 c) = (w.g (Real.hd c) (Real.ln c) : EReal))
variable (r : Fin 512) (k : Fin 128)

theorem pay12 (a : FVec Ideal S512x512 .f32) (f : Fin 512 → Fin 4 → Fin 128 → ℝ) (ha : ∀ r c, a (ix2 r c) = (f r (Real.hd c) (Real.ln c) : EReal)) (p : Fin 512) (q : Fin 128) : k0_pay12 (F := Ideal) a (ix2 p q) = (f p 0 q : EReal) := by
  pointwise [k0_pay12]
  rw [ha]
  exact congrArg _ (Real.flat (f p) _ 0 q (by simp; try omega))

theorem pay31 (a : FVec Ideal S512x512 .f32) (f : Fin 512 → Fin 4 → Fin 128 → ℝ) (ha : ∀ r c, a (ix2 r c) = (f r (Real.hd c) (Real.ln c) : EReal)) (p : Fin 512) (q : Fin 128) : k0_pay31 (F := Ideal) a (ix2 p q) = (f p 0 q : EReal) := by
  pointwise [k0_pay31]
  rw [ha]
  exact congrArg _ (Real.flat (f p) _ 0 q (by simp; try omega))

theorem pay17 (a : FVec Ideal S512x512 .f32) (f : Fin 512 → Fin 4 → Fin 128 → ℝ) (ha : ∀ r c, a (ix2 r c) = (f r (Real.hd c) (Real.ln c) : EReal)) (p : Fin 512) (q : Fin 128) : k0_pay17 (F := Ideal) a (ix2 p q) = (f p 1 q : EReal) := by
  pointwise [k0_pay17]
  rw [ha]
  exact congrArg _ (Real.flat (f p) _ 1 q (by simp; try omega))

theorem pay35 (a : FVec Ideal S512x512 .f32) (f : Fin 512 → Fin 4 → Fin 128 → ℝ) (ha : ∀ r c, a (ix2 r c) = (f r (Real.hd c) (Real.ln c) : EReal)) (p : Fin 512) (q : Fin 128) : k0_pay35 (F := Ideal) a (ix2 p q) = (f p 1 q : EReal) := by
  pointwise [k0_pay35]
  rw [ha]
  exact congrArg _ (Real.flat (f p) _ 1 q (by simp; try omega))

theorem pay20 (a : FVec Ideal S512x512 .f32) (f : Fin 512 → Fin 4 → Fin 128 → ℝ) (ha : ∀ r c, a (ix2 r c) = (f r (Real.hd c) (Real.ln c) : EReal)) (p : Fin 512) (q : Fin 128) : k0_pay20 (F := Ideal) a (ix2 p q) = (f p 2 q : EReal) := by
  pointwise [k0_pay20]
  rw [ha]
  exact congrArg _ (Real.flat (f p) _ 2 q (by simp; try omega))

theorem pay41 (a : FVec Ideal S512x512 .f32) (f : Fin 512 → Fin 4 → Fin 128 → ℝ) (ha : ∀ r c, a (ix2 r c) = (f r (Real.hd c) (Real.ln c) : EReal)) (p : Fin 512) (q : Fin 128) : k0_pay41 (F := Ideal) a (ix2 p q) = (f p 2 q : EReal) := by
  pointwise [k0_pay41]
  rw [ha]
  exact congrArg _ (Real.flat (f p) _ 2 q (by simp; try omega))

theorem pay23 (a : FVec Ideal S512x512 .f32) (f : Fin 512 → Fin 4 → Fin 128 → ℝ) (ha : ∀ r c, a (ix2 r c) = (f r (Real.hd c) (Real.ln c) : EReal)) (p : Fin 512) (q : Fin 128) : k0_pay23 (F := Ideal) a (ix2 p q) = (f p 3 q : EReal) := by
  pointwise [k0_pay23]
  rw [ha]
  exact congrArg _ (Real.flat (f p) _ 3 q (by simp; try omega))

theorem pay45 (a : FVec Ideal S512x512 .f32) (f : Fin 512 → Fin 4 → Fin 128 → ℝ) (ha : ∀ r c, a (ix2 r c) = (f r (Real.hd c) (Real.ln c) : EReal)) (p : Fin 512) (q : Fin 128) : k0_pay45 (F := Ideal) a (ix2 p q) = (f p 3 q : EReal) := by
  pointwise [k0_pay45]
  rw [ha]
  exact congrArg _ (Real.flat (f p) _ 3 q (by simp; try omega))

theorem pay40 (a : FVec Ideal S512x512 .f32) (f : Fin 512 → Fin 4 → Fin 128 → ℝ) (ha : ∀ r c, a (ix2 r c) = (f r (Real.hd c) (Real.ln c) : EReal)) (p : Fin 512) (q : Fin 128) : k0_pay40 (F := Ideal) a (ix2 p q) = (f p 2 q : EReal) := by
  pointwise [k0_pay40]
  rw [ha]
  exact congrArg _ (Real.flat (f p) _ 2 q (by simp; try omega))

theorem pay44 (a : FVec Ideal S512x512 .f32) (f : Fin 512 → Fin 4 → Fin 128 → ℝ) (ha : ∀ r c, a (ix2 r c) = (f r (Real.hd c) (Real.ln c) : EReal)) (p : Fin 512) (q : Fin 128) : k0_pay44 (F := Ideal) a (ix2 p q) = (f p 3 q : EReal) := by
  pointwise [k0_pay44]
  rw [ha]
  exact congrArg _ (Real.flat (f p) _ 3 q (by simp; try omega))

include ho in
theorem rt0 : k0_pay15 (F := Ideal) (k0_pay14 o) (ix2 r 0) = (rt 128 ((R r).o 0) : EReal) := by
  rw [← rsqrt_ms (by norm_num)]
  pointwise [k0_pay15, k0_pay14]
  simp only [pay12 o (fun r => (R r).o) ho, ← EReal.coe_mul, coe_sum]
  rw [over_128_word, eps_word, ← EReal.coe_mul, ← EReal.coe_add]
  rfl

include ho in
theorem rt1 : k0_pay18 (F := Ideal) o (ix2 r 0) = (rt 128 ((R r).o 1) : EReal) := by
  rw [← rsqrt_ms (by norm_num)]
  pointwise [k0_pay18]
  simp only [pay17 o (fun r => (R r).o) ho, ← EReal.coe_mul, coe_sum]
  rw [over_128_word, eps_word, ← EReal.coe_mul, ← EReal.coe_add]
  rfl

include ho in
theorem rt2 : k0_pay21 (F := Ideal) o (ix2 r 0) = (rt 128 ((R r).o 2) : EReal) := by
  rw [← rsqrt_ms (by norm_num)]
  pointwise [k0_pay21]
  simp only [pay20 o (fun r => (R r).o) ho, ← EReal.coe_mul, coe_sum]
  rw [over_128_word, eps_word, ← EReal.coe_mul, ← EReal.coe_add]
  rfl

include ho in
theorem rt3 : k0_pay25 (F := Ideal) o (ix2 r 0) = (rt 128 ((R r).o 3) : EReal) := by
  rw [← rsqrt_ms (by norm_num)]
  pointwise [k0_pay25]
  simp only [pay23 o (fun r => (R r).o) ho, ← EReal.coe_mul, coe_sum]
  rw [over_128_word, eps_word, ← EReal.coe_mul, ← EReal.coe_add]
  rfl

include hd hw in
theorem pay8 (j : Fin 1024) : k0_pay8 (F := Ideal) d2 wo (ix2 r j) = (Real.dc w (R r) j : EReal) := by
  pointwise [k0_pay8, k0_pay5]
  simp only [hd, hw, ← EReal.coe_mul, coe_sum]
  rfl

include hd hw in
/-- The attention's gradient. -/
theorem pay9 (c : Fin 512) : k0_pay9 (F := Ideal) d2 wo (ix2 r c) = (Real.dc w (R r) (Real.lo c) : EReal) := by
  pointwise [k0_pay9]
  exact pay8 hd hw r (Real.lo c)

include hd hw in
theorem pay10 (c : Fin 512) : k0_pay10 (F := Ideal) d2 wo (ix2 r c) = (Real.dr w (R r) (Real.hd c) (Real.ln c) : EReal) := by
  pointwise [k0_pay10]
  rw [pay8 hd hw]
  unfold Real.dr
  congr 2
  exact Fin.ext (by simp [Real.hi, Real.col, Real.hd, Real.ln]; omega)

include hh in
theorem pay11 (c : Fin 512) : k0_pay11 (F := Ideal) hv (ix2 r c) = ((R r).hg (Real.hd c) (Real.ln c) : EReal) := by
  pointwise [k0_pay11]
  rw [hh]

include hh in
theorem pay27 (c : Fin 512) : k0_pay27 (F := Ideal) (k0_pay11 hv) (ix2 r c) = (Real.sg (R r) (Real.hd c) (Real.ln c) : EReal) := by
  pointwise [k0_pay27]
  rw [pay11 hh]
  exact Ideal.logistic_coe _

include hd hw hh in
/-- The gradient at the norm's output. -/
theorem pay29 (c : Fin 512) : k0_pay29 (F := Ideal) (k0_pay10 d2 wo) (k0_pay11 hv) (ix2 r c) = (Real.don w (R r) (Real.hd c) (Real.ln c) : EReal) := by
  pointwise [k0_pay29]
  rw [pay10 hd hw, pay11 hh, pay27 hh, ← EReal.coe_mul, ← EReal.coe_mul]
  rfl

include hd hw hh in
theorem pay30 : k0_pay30 (F := Ideal) (k0_pay10 d2 wo) (k0_pay11 hv) (ix2 r k) = (Real.don w (R r) 0 k : EReal) := by
  pointwise [k0_pay30]
  rw [pay29 hd hw hh]
  exact congrArg _ (Real.flat (Real.don w (R r)) _ 0 k (by simp; try omega))

include hd hw hh in
theorem pay34 : k0_pay34 (F := Ideal) (k0_pay10 d2 wo) (k0_pay11 hv) (ix2 r k) = (Real.don w (R r) 1 k : EReal) := by
  pointwise [k0_pay34]
  rw [pay29 hd hw hh]
  exact congrArg _ (Real.flat (Real.don w (R r)) _ 1 k (by simp; try omega))

include ho hg in
theorem on0 : k0_pay16 (F := Ideal) (k0_pay12 o) (k0_pay13 g) (k0_pay14 o) (ix2 r k) = (Real.on w (R r) 0 k : EReal) := by
  pointwise [k0_pay16, k0_pay13]
  rw [rt0 ho, pay12 o (fun r => (R r).o) ho, hg, Real.flat w.g _ 0 k (by simp; try omega), ← EReal.coe_mul, ← EReal.coe_mul]
  rfl

include ho hg in
theorem on1 : k0_pay19 (F := Ideal) o g (ix2 r k) = (Real.on w (R r) 1 k : EReal) := by
  pointwise [k0_pay19]
  rw [rt1 ho, pay17 o (fun r => (R r).o) ho, hg, Real.flat w.g _ 1 k (by simp; try omega), ← EReal.coe_mul, ← EReal.coe_mul]
  rfl

include ho hg in
theorem on2 : k0_pay22 (F := Ideal) o g (ix2 r k) = (Real.on w (R r) 2 k : EReal) := by
  pointwise [k0_pay22]
  rw [rt2 ho, pay20 o (fun r => (R r).o) ho, hg, Real.flat w.g _ 2 k (by simp; try omega), ← EReal.coe_mul, ← EReal.coe_mul]
  rfl

include hd hw ho hh hg in
/-- The gate's gradient. -/
theorem dhg_at (c : Fin 512) : Block.dgate (F := Ideal) d2 wo o hv g (ix2 r c) = (Real.dhg w (R r) (Real.hd c) (Real.ln c) : EReal) := by
  unfold Block.dgate
  pointwise [k0_pay28, k0_pay26, k0_pay24]
  rw [pay10 hd hw, pay11 hh, pay27 hh]
  have e (h : Fin 4) (j : Fin 128) (ec : c.val = h.val * 128 + j.val) : ((Real.on w (R r) h j : ℝ) : EReal) = (Real.on w (R r) (Real.hd c) (Real.ln c) : EReal) :=
    congrArg _ (Real.flat (Real.on w (R r)) c h j ec).symm
  by_cases h0 : c.val < 128
  · rw [dif_pos h0, on0 ho hg, e 0 ⟨c.val, h0⟩ (by simp)]
    simp only [← EReal.coe_one, ← EReal.coe_mul, ← EReal.coe_sub, ← EReal.coe_add]
    rfl
  rw [dif_neg h0]
  by_cases h1 : c.val - 128 < 128
  · rw [dif_pos h1, on1 ho hg, e 1 ⟨c.val - 128, h1⟩ (by simp; omega)]
    simp only [← EReal.coe_one, ← EReal.coe_mul, ← EReal.coe_sub, ← EReal.coe_add]
    rfl
  rw [dif_neg h1]
  by_cases h2 : c.val - 128 - 128 < 128
  · rw [dif_pos h2, on2 ho hg, e 2 ⟨c.val - 128 - 128, h2⟩ (by simp; omega)]
    simp only [← EReal.coe_one, ← EReal.coe_mul, ← EReal.coe_sub, ← EReal.coe_add]
    rfl
  rw [dif_neg h2]
  have h3 : c.val - 128 - 128 - 128 < 128 := by omega
  have f := e 3 ⟨c.val - 128 - 128 - 128, h3⟩ (by simp; omega)
  rw [rt3 ho, pay23 o (fun r => (R r).o) ho, hg, Real.flat w.g _ 3 ⟨c.val - 128 - 128 - 128, h3⟩ (by simp; try omega)]
  have f' : ((R r).o 3 ⟨c.val - 128 - 128 - 128, h3⟩ : EReal) * (rt 128 ((R r).o 3) : EReal) * (w.g 3 ⟨c.val - 128 - 128 - 128, h3⟩ : EReal) = (Real.on w (R r) (Real.hd c) (Real.ln c) : EReal) := by
    rw [← f, ← EReal.coe_mul, ← EReal.coe_mul, Real.on]
  rw [f']
  simp only [← EReal.coe_one, ← EReal.coe_mul, ← EReal.coe_sub, ← EReal.coe_add]
  rfl

include hd hw ho hh hg in
theorem dx0 : k0_pay32 (F := Ideal) (k0_pay10 d2 wo) o (k0_pay11 hv) g (k0_pay15 (k0_pay14 o)) (ix2 r k) = (Real.dx w (R r) 0 k : EReal) := by
  have e (k : Fin 128) (h) : g (ix2 0 ⟨k.val, h⟩) = (w.g 0 k : EReal) := by rw [hg]; exact congrArg _ (Real.flat w.g _ 0 k (by simp; try omega))
  pointwise [k0_pay32]
  simp only [rt0 ho, pay30 hd hw hh, pay31 o (fun r => (R r).o) ho, e, ← EReal.coe_mul, coe_sum]
  rw [over_128_word]
  simp only [← EReal.coe_mul, ← EReal.coe_sub]
  rfl

include hd hw ho hh hg in
theorem dx1 : k0_pay38 (F := Ideal) (k0_pay18 o) (k0_pay35 o) (k0_pay36 (k0_pay10 d2 wo) (k0_pay11 hv) g) (k0_pay37 (k0_pay10 d2 wo) (k0_pay11 hv) g (k0_pay18 o)) (ix2 r k) = (Real.dx w (R r) 1 k : EReal) := by
  have e (k : Fin 128) (h) : g (ix2 0 ⟨128 + k.val, h⟩) = (w.g 1 k : EReal) := by rw [hg]; exact congrArg _ (Real.flat w.g _ 1 k (by simp; try omega))
  pointwise [k0_pay38, k0_pay36, k0_pay37]
  simp only [rt1 ho, pay34 hd hw hh, pay35 o (fun r => (R r).o) ho, e, ← EReal.coe_mul, coe_sum]
  rw [over_128_word]
  simp only [← EReal.coe_mul, ← EReal.coe_sub]
  rfl

include hd hw ho hh hg in
theorem dx2 : k0_pay42 (F := Ideal) o g (k0_pay21 o) (k0_pay29 (k0_pay10 d2 wo) (k0_pay11 hv)) (ix2 r k) = (Real.dx w (R r) 2 k : EReal) := by
  have e (k : Fin 128) (h) : g (ix2 0 ⟨256 + k.val, h⟩) = (w.g 2 k : EReal) := by rw [hg]; exact congrArg _ (Real.flat w.g _ 2 k (by simp; try omega))
  pointwise [k0_pay42]
  simp only [rt2 ho, pay40 (k0_pay29 (k0_pay10 d2 wo) (k0_pay11 hv)) (fun r => Real.don w (R r)) (pay29 hd hw hh), pay41 o (fun r => (R r).o) ho, e, ← EReal.coe_mul, coe_sum]
  rw [over_128_word]
  simp only [← EReal.coe_mul, ← EReal.coe_sub]
  rfl

include hd hw ho hh hg in
theorem dx3 : k0_pay1 (F := Ideal) (k0_pay25 o) (k0_pay45 o) (k0_pay46 g (k0_pay29 (k0_pay10 d2 wo) (k0_pay11 hv))) (ix2 r k) = (Real.dx w (R r) 3 k : EReal) := by
  have e (k : Fin 128) (h) : g (ix2 0 ⟨384 + k.val, h⟩) = (w.g 3 k : EReal) := by rw [hg]; exact congrArg _ (Real.flat w.g _ 3 k (by simp; try omega))
  pointwise [k0_pay1, k0_pay46]
  simp only [rt3 ho, pay44 (k0_pay29 (k0_pay10 d2 wo) (k0_pay11 hv)) (fun r => Real.don w (R r)) (pay29 hd hw hh), pay45 o (fun r => (R r).o) ho, e, ← EReal.coe_mul, coe_sum]
  rw [over_128_word]
  simp only [← EReal.coe_mul, ← EReal.coe_sub]
  rfl

include hd hw ho hh in
theorem dg0 : k0_pay33 (F := Ideal) (k0_pay10 d2 wo) o (k0_pay11 hv) (k0_pay15 (k0_pay14 o)) (ix2 0 k) = ((∑ r, Real.dg w (R r) 0 k : ℝ) : EReal) := by
  pointwise [k0_pay33]
  simp only [rt0 ho, pay30 hd hw hh, pay31 o (fun r => (R r).o) ho, ← EReal.coe_mul, coe_sum]
  rfl

include hd hw ho hh in
theorem dg1 : k0_pay39 (F := Ideal) (k0_pay18 o) (k0_pay34 (k0_pay10 d2 wo) (k0_pay11 hv)) (k0_pay35 o) (ix2 0 k) = ((∑ r, Real.dg w (R r) 1 k : ℝ) : EReal) := by
  pointwise [k0_pay39]
  simp only [rt1 ho, pay34 hd hw hh, pay35 o (fun r => (R r).o) ho, ← EReal.coe_mul, coe_sum]
  rfl

include hd hw ho hh in
theorem dg2 : k0_pay43 (F := Ideal) o (k0_pay21 o) (k0_pay29 (k0_pay10 d2 wo) (k0_pay11 hv)) (ix2 0 k) = ((∑ r, Real.dg w (R r) 2 k : ℝ) : EReal) := by
  pointwise [k0_pay43]
  simp only [rt2 ho, pay40 (k0_pay29 (k0_pay10 d2 wo) (k0_pay11 hv)) (fun r => Real.don w (R r)) (pay29 hd hw hh), pay41 o (fun r => (R r).o) ho, ← EReal.coe_mul, coe_sum]
  rfl

include hd hw ho hh in
theorem dgain_at (c : Fin 512) (acc : FVec Ideal S1x512 .f32) : Block.dgain (F := Ideal) d2 wo o hv acc (ix2 0 c) = (acc (ix2 0 c) + ((∑ r, Real.dg w (R r) (Real.hd c) (Real.ln c) : ℝ) : EReal) : EReal) := by
  unfold Block.dgain
  pointwise [k0_pay2]
  have e (h : Fin 4) (j : Fin 128) (ec : c.val = h.val * 128 + j.val) :
      ((∑ r, Real.dg w (R r) h j : ℝ) : EReal) = ((∑ r, Real.dg w (R r) (Real.hd c) (Real.ln c) : ℝ) : EReal) :=
    congrArg _ (Real.flat (fun a b => ∑ r, Real.dg w (R r) a b) c h j ec).symm
  refine congrArg (acc (ix2 0 c) + ·) ?_
  by_cases h0 : c.val < 128
  · rw [dif_pos h0, dg0 hd hw ho hh, e 0 ⟨c.val, h0⟩ (by simp)]
  rw [dif_neg h0]
  by_cases h1 : c.val - 128 < 128
  · rw [dif_pos h1, dg1 hd hw ho hh, e 1 ⟨c.val - 128, h1⟩ (by simp; omega)]
  rw [dif_neg h1]
  by_cases h2 : c.val - 128 - 128 < 128
  · rw [dif_pos h2, dg2 hd hw ho hh, e 2 ⟨c.val - 128 - 128, h2⟩ (by simp; omega)]
  rw [dif_neg h2]
  · have h3 : c.val - 128 - 128 - 128 < 128 := by omega
    rw [← e 3 ⟨c.val - 128 - 128 - 128, h3⟩ (by simp; omega)]
    simp only [rt3 ho, pay44 (k0_pay29 (k0_pay10 d2 wo) (k0_pay11 hv)) (fun r => Real.don w (R r)) (pay29 hd hw hh), pay45 o (fun r => (R r).o) ho, ← EReal.coe_mul, coe_sum]
    rfl

theorem piece_at (F : Fin 4 → Fin 512 → Fin 128 → ℝ) (i c : Fin 512) (h : Fin 4) (o : ℕ) (eo : o = h.val * 128) (P : FVec Ideal S512x128 .f32)
    (hP : ∀ r k, P (ix2 r k) = (F h r k : EReal)) :
    View.TileAt (Val := Elt Ideal) (S := S512x512) (e := .f32) (ix2 i c) ![0, o] ![512, 128] P (F (Real.hd c) i (Real.ln c) : EReal) := by
  intro x hx
  idx_vars x
  have e0 : i.val = 0 + x0.val := hx 0
  have e1 : c.val = o + x1.val := hx 1
  obtain rfl : i = x0 := Fin.ext (by omega)
  rw [hP, Real.flat (fun a b => F a i b) c h x1 (by omega)]

include hd hw ho hh hg in
/-- The recurrence's gradient: the four stores are one function. -/
theorem heads_at (c : Fin 512) :
    (View.canon (Val := Elt Ideal) (Block.heads d2 wo o hv g) : FVec Ideal S512x512 .f32) (ix2 r c) = (Real.dx w (R r) (Real.hd c) (Real.ln c) : EReal) := by
  refine View.canon_eq_of_allAt _ _ _ (View.cover_of_tiled_head _ _ _ rfl _) ?_
  unfold Block.heads
  refine View.allAt_cons_unit _ _ _ _ _ (piece_at (fun h r k => Real.dx w (R r) h k) r c 3 384 rfl _ fun r k => dx3 hd hw ho hh hg r k) ?_
  refine View.allAt_cons_unit _ _ _ _ _ (piece_at (fun h r k => Real.dx w (R r) h k) r c 2 256 rfl _ fun r k => dx2 hd hw ho hh hg r k) ?_
  refine View.allAt_cons_unit _ _ _ _ _ (piece_at (fun h r k => Real.dx w (R r) h k) r c 1 128 rfl _ fun r k => dx1 hd hw ho hh hg r k) ?_
  refine View.allAt_cons_unit _ _ _ _ _ (piece_at (fun h r k => Real.dx w (R r) h k) r c 0 0 rfl _ fun r k => dx0 hd hw ho hh hg r k) ?_
  exact View.allAt_nil _ _

theorem dproj_at (cat : FVec Ideal S512x1024 .bf16) (acc : FVec Ideal S1024x1024 .f32) (i j : Fin 1024) :
    Block.dproj d2 cat acc (ix2 i j) = acc (ix2 i j) + ∑ r, (cat (ix2 r i) : EReal) * d2 (ix2 r j) := by
  unfold Block.dproj
  pointwise [k0_pay6, k0_pay5]

theorem zero3 (c : Fin 512) : k0_pay3 (F := Ideal) (ix2 0 c) = (0 : EReal) := by
  pointwise [k0_pay3]

theorem zero4 (i j : Fin 1024) : k0_pay4 (F := Ideal) (ix2 i j) = (0 : EReal) := by
  pointwise [k0_pay4]

theorem pay7 (a : FVec Ideal S1024x1024 .f32) (i j : Fin 1024) : k0_pay7 (F := Ideal) a (ix2 i j) = a (ix2 i j) := by
  pointwise [k0_pay7]

end Cert.BwdMixIdeal.Pay

end
-- ==== Proof.BwdMix.Ref.lean ====
/- The mixing call's gradients in the reference at an index, over finite arguments. -/
module

public import proofs.«01_k».proof.Proof.Gen.MixVjpIdeal.Read
public import proofs.«01_k».proof.Proof.BwdMix.Real
public import Idealize.ShloMosaic.Lib.Tactic

@[expose] public section

set_option maxRecDepth 16384
set_option maxHeartbeats 1000000

noncomputable section

open Idealize.ShloMosaic Idealize.ShloMosaic.TcCoe Idealize.SL.Sem

namespace Cert.MixVjpIdeal.At

open Cert.MixVjpIdeal Cert.MixVjpIdeal.Read Cert.Sums Cert.Norm Cert.BwdMix

variable {d2 : FVec Ideal S4096x1024 .f32} {wo : FVec Ideal S1024x1024 .bf16} {a : FVec Ideal S4096x512 .bf16} {o : FVec Ideal S4096x512 .f32}
variable {z : FVec Ideal S4096x3136 .f32} {g : FVec Ideal S1x512 .f32}
variable {w : Real.Wts} {R : Fin 4096 → Real.Row}
variable (hd : ∀ r j, d2 (ix2 r j) = ((R r).d2 j : EReal)) (hw : ∀ i j, wo (ix2 i j) = (w.wo i j : EReal))
variable (ho : ∀ r c, o (ix2 r c) = ((R r).o (Real.hd c) (Real.ln c) : EReal)) (hz : ∀ r c, z (ix2 r (Real.gateCol c)) = ((R r).hg (Real.hd c) (Real.ln c) : EReal))
variable (hg : ∀ c, g (ix2 0 c) = (w.g (Real.hd c) (Real.ln c) : EReal))
variable (r : Fin 4096) (c : Fin 512) (h : Fin 4) (k : Fin 128)

include ho in
theorem v3 : val_main_v3 (F := Ideal) o (ix3 r h k) = ((R r).o h k : EReal) := by
  pointwise [val_main_v3, val_main_cst, val_main_cst_0, val_main_cst_1, val_main_cst_2, val_main_cst_3, val_main_cst_4, val_main_cst_5, val_main_cst_6, val_main_cst_7, val_main_call0_cst, val_main_call0_cst_0, val_main_call0_cst_1]
  exact (ho _ _).trans (congrArg _ (Real.flat (R r).o _ h k rfl))

include hg in
theorem v4 : val_main_v4 (F := Ideal) g (ix2 h k) = (w.g h k : EReal) := by
  pointwise [val_main_v4, val_main_cst, val_main_cst_0, val_main_cst_1, val_main_cst_2, val_main_cst_3, val_main_cst_4, val_main_cst_5, val_main_cst_6, val_main_cst_7, val_main_call0_cst, val_main_call0_cst_0, val_main_call0_cst_1]
  exact (hg _).trans (congrArg _ (Real.flat w.g _ h k rfl))

include hz in
theorem v1 : val_main_v1 (F := Ideal) z (ix2 r c) = ((R r).hg (Real.hd c) (Real.ln c) : EReal) := by
  pointwise [val_main_v1, val_main_cst, val_main_cst_0, val_main_cst_1, val_main_cst_2, val_main_cst_3, val_main_cst_4, val_main_cst_5, val_main_cst_6, val_main_cst_7, val_main_call0_cst, val_main_call0_cst_0, val_main_call0_cst_1]
  exact hz r c

include ho in
theorem v11 : val_main_v11 (F := Ideal) o (ix3 r h 0) = (ms 128 ((R r).o h) : EReal) := by
  pointwise [val_main_v11, val_main_v10, val_main_v9, val_main_v8, val_main_v7, val_main_v6, val_main_v5, val_main_cst, val_main_cst_0, val_main_cst_1, val_main_cst_2, val_main_cst_3, val_main_cst_4, val_main_cst_5, val_main_cst_6, val_main_cst_7, val_main_call0_cst, val_main_call0_cst_0, val_main_call0_cst_1]
  simp only [v3 ho, ← EReal.coe_mul, coe_sum]
  rw [width128_word, eps_word, Ideal.div_coe (by norm_num), ← EReal.coe_mul, ← EReal.coe_add]
  rfl

include ho in
theorem v12 : val_main_v12 (F := Ideal) o (ix3 r h 0) = (rt 128 ((R r).o h) : EReal) := by
  pointwise [val_main_v12, val_main_cst, val_main_cst_0, val_main_cst_1, val_main_cst_2, val_main_cst_3, val_main_cst_4, val_main_cst_5, val_main_cst_6, val_main_cst_7, val_main_call0_cst, val_main_call0_cst_0, val_main_call0_cst_1]
  rw [v11 ho]
  exact rsqrt_ms (by norm_num) _

include ho in
theorem v17 : val_main_v17 (F := Ideal) o (ix3 r h k) = (((R r).o h k * rt 128 ((R r).o h) : ℝ) : EReal) := by
  pointwise [val_main_v17, val_main_v16, val_main_cst, val_main_cst_0, val_main_cst_1, val_main_cst_2, val_main_cst_3, val_main_cst_4, val_main_cst_5, val_main_cst_6, val_main_cst_7, val_main_call0_cst, val_main_call0_cst_0, val_main_call0_cst_1]
  rw [v12 ho, v3 ho, ← EReal.coe_mul]

include ho hg in
theorem v20 : val_main_v20 (F := Ideal) o g (ix3 r h k) = (Real.on w (R r) h k : EReal) := by
  pointwise [val_main_v20, val_main_v19, val_main_v18, val_main_cst, val_main_cst_0, val_main_cst_1, val_main_cst_2, val_main_cst_3, val_main_cst_4, val_main_cst_5, val_main_cst_6, val_main_cst_7, val_main_call0_cst, val_main_call0_cst_0, val_main_call0_cst_1]
  rw [v17 ho, v4 hg, ← EReal.coe_mul]
  rfl

include ho hg in
theorem v21 : val_main_v21 (F := Ideal) o g (ix2 r c) = (Real.on w (R r) (Real.hd c) (Real.ln c) : EReal) := by
  pointwise [val_main_v21, val_main_cst, val_main_cst_0, val_main_cst_1, val_main_cst_2, val_main_cst_3, val_main_cst_4, val_main_cst_5, val_main_cst_6, val_main_cst_7, val_main_call0_cst, val_main_call0_cst_0, val_main_call0_cst_1]
  exact v20 ho hg r (Real.hd c) (Real.ln c)

include hz in
theorem v22_2 : val_main_v22_2 (F := Ideal) z (ix2 r c) = (Real.sg (R r) (Real.hd c) (Real.ln c) : EReal) := by
  pointwise [val_main_v22_2, val_main_call0_v4, val_main_call0_v3, val_main_call0_v2, val_main_call0_v1, val_main_call0_v0, val_main_cst, val_main_cst_0, val_main_cst_1, val_main_cst_2, val_main_cst_3, val_main_cst_4, val_main_cst_5, val_main_cst_6, val_main_cst_7, val_main_call0_cst, val_main_call0_cst_0, val_main_call0_cst_1]
  rw [v1 hz, ← EReal.coe_neg, Ideal.exp_coe, ← EReal.coe_one, ← EReal.coe_add, Ideal.div_coe (by positivity), ← EReal.coe_mul, one_mul, one_div]
  rfl

include hz in
theorem v22_0 : val_main_v22_0 (F := Ideal) z (ix2 r c) = (((R r).hg (Real.hd c) (Real.ln c) * Real.sg (R r) (Real.hd c) (Real.ln c) : ℝ) : EReal) := by
  pointwise [val_main_v22_0, val_main_cst, val_main_cst_0, val_main_cst_1, val_main_cst_2, val_main_cst_3, val_main_cst_4, val_main_cst_5, val_main_cst_6, val_main_cst_7, val_main_call0_cst, val_main_call0_cst_0, val_main_call0_cst_1]
  rw [v1 hz, v22_2 hz, ← EReal.coe_mul]

include hd hw in
theorem v30 : val_main_v30 (F := Ideal) d2 wo (ix2 r c) = (Real.dr w (R r) (Real.hd c) (Real.ln c) : EReal) := by
  pointwise [val_main_v30, val_main_v28, val_main_v2, val_main_cst, val_main_cst_0, val_main_cst_1, val_main_cst_2, val_main_cst_3, val_main_cst_4, val_main_cst_5, val_main_cst_6, val_main_cst_7, val_main_call0_cst, val_main_call0_cst_0, val_main_call0_cst_1]
  simp only [hd, hw, ← EReal.coe_mul, coe_sum]
  unfold Real.dr Real.dc
  have e : (⟨512 + c.val, by omega⟩ : Fin 1024) = Real.hi (Real.col (Real.hd c) (Real.ln c)) :=
    Fin.ext (by simp [Real.hi, Real.col, Real.hd, Real.ln]; omega)
  rw [← e]

include hd hw in
/-- The attention's gradient. -/
theorem v57 : val_main_v57 (F := Ideal) d2 wo (ix2 r c) = (Real.dc w (R r) (Real.lo c) : EReal) := by
  pointwise [val_main_v57, val_main_v29, val_main_v28, val_main_v2, val_main_cst, val_main_cst_0, val_main_cst_1, val_main_cst_2, val_main_cst_3, val_main_cst_4, val_main_cst_5, val_main_cst_6, val_main_cst_7, val_main_call0_cst, val_main_call0_cst_0, val_main_call0_cst_1]
  simp only [hd, hw, ← EReal.coe_mul, coe_sum]
  rfl

include hd hw ho hz hg in
/-- The gate's gradient. -/
theorem v58 : val_main_v58 (F := Ideal) d2 wo o z g (ix2 r c) = (Real.dhg w (R r) (Real.hd c) (Real.ln c) : EReal) := by
  pointwise [val_main_v58, val_main_v33, val_main_call1_v2, val_main_call1_v1, val_main_call1_v0, val_main_v22_1, val_main_call0_v7, val_main_call0_v6, val_main_v31, val_main_cst, val_main_cst_0, val_main_cst_1, val_main_cst_2, val_main_cst_3, val_main_cst_4, val_main_cst_5, val_main_cst_6, val_main_cst_7, val_main_call0_cst, val_main_call0_cst_0, val_main_call0_cst_1]
  rw [v30 hd hw, v21 ho hg, v22_2 hz, v1 hz, ← EReal.coe_one]
  simp only [← EReal.coe_mul, ← EReal.coe_sub, ← EReal.coe_add]
  congr 1
  unfold Real.dhg
  ring

include hd hw ho hz hg in
theorem v34 : val_main_v34 (F := Ideal) d2 wo z (ix3 r h k) = (Real.don w (R r) h k : EReal) := by
  pointwise [val_main_v34, val_main_v32, val_main_cst, val_main_cst_0, val_main_cst_1, val_main_cst_2, val_main_cst_3, val_main_cst_4, val_main_cst_5, val_main_cst_6, val_main_cst_7, val_main_call0_cst, val_main_call0_cst_0, val_main_call0_cst_1]
  rw [v30 hd hw, v22_0 hz, ← EReal.coe_mul]
  exact congrArg _ (Real.flat (Real.don w (R r)) _ h k rfl)

include hd hw ho hz hg in
theorem v39 : val_main_v39 (F := Ideal) d2 wo z g (ix3 r h k) = ((Real.don w (R r) h k * w.g h k : ℝ) : EReal) := by
  pointwise [val_main_v39, val_main_v38, val_main_v18, val_main_cst, val_main_cst_0, val_main_cst_1, val_main_cst_2, val_main_cst_3, val_main_cst_4, val_main_cst_5, val_main_cst_6, val_main_cst_7, val_main_call0_cst, val_main_call0_cst_0, val_main_call0_cst_1]
  rw [v34 hd hw ho hz hg, v4 hg, ← EReal.coe_mul]

include hd hw ho hz hg in
/-- The gains' gradient. -/
theorem v55 : val_main_v55 (F := Ideal) d2 wo o z (ix2 0 c) = ((∑ r, Real.dg w (R r) (Real.hd c) (Real.ln c) : ℝ) : EReal) := by
  pointwise [val_main_v55, val_main_v40, val_main_v37, val_main_v36, val_main_v35, val_main_cst, val_main_cst_0, val_main_cst_1, val_main_cst_2, val_main_cst_3, val_main_cst_4, val_main_cst_5, val_main_cst_6, val_main_cst_7, val_main_call0_cst, val_main_call0_cst_0, val_main_call0_cst_1]
  simp only [Fin.sum_univ_one]
  simp only [v34 hd hw ho hz hg, v17 ho, ← EReal.coe_mul, coe_sum]
  congr 1
  exact Finset.sum_congr rfl fun i _ => by show _ = Real.dg w (R i) (Real.hd c) (Real.ln c); unfold Real.dg Real.hd Real.ln; ring

include hd hw ho hz hg in
theorem v49 : val_main_v49 (F := Ideal) d2 wo o z g (ix2 r h) = (((∑ k, (R r).o h k * (Real.don w (R r) h k * w.g h k)) * (-(1 / 2) * (rt 128 ((R r).o h) * (1 / ms 128 ((R r).o h)))) * (1 / 128) : ℝ) : EReal) := by
  pointwise [val_main_v49, val_main_v48, val_main_v47, val_main_v46, val_main_v43, val_main_v42, val_main_v41, val_main_v15, val_main_v14, val_main_v13, val_main_cst, val_main_cst_0, val_main_cst_1, val_main_cst_2, val_main_cst_3, val_main_cst_4, val_main_cst_5, val_main_cst_6, val_main_cst_7, val_main_call0_cst, val_main_call0_cst_0, val_main_call0_cst_1]
  simp only [Fin.sum_univ_one, v39 hd hw ho hz hg, v12 ho, v11 ho, v3 ho, ← EReal.coe_mul, coe_sum]
  rw [half_word, width128_word, Ideal.div_coe (ms_pos (by norm_num) _).ne', Ideal.div_coe (by norm_num)]
  simp only [← EReal.coe_mul]

include hd hw ho hz hg in
theorem v54 : val_main_v54 (F := Ideal) d2 wo o z g (ix3 r h k) = (Real.dx w (R r) h k : EReal) := by
  pointwise [val_main_v54, val_main_v53, val_main_v52, val_main_v51, val_main_v50, val_main_v45, val_main_v44, val_main_cst, val_main_cst_0, val_main_cst_1, val_main_cst_2, val_main_cst_3, val_main_cst_4, val_main_cst_5, val_main_cst_6, val_main_cst_7, val_main_call0_cst, val_main_call0_cst_0, val_main_call0_cst_1]
  rw [v49 hd hw ho hz hg, v39 hd hw ho hz hg, v12 ho, v3 ho]
  simp only [← EReal.coe_mul, ← EReal.coe_add]
  congr 1
  have b := back_eq (w := 128) (by norm_num) ((R r).o h) (fun a => Real.don w (R r) h a * w.g h a) k 0
  simp only [zero_add] at b
  exact b

include hd hw ho hz hg in
/-- The recurrence's gradient. -/
theorem v56 : val_main_v56 (F := Ideal) d2 wo o z g (ix2 r c) = (Real.dx w (R r) (Real.hd c) (Real.ln c) : EReal) := by
  pointwise [val_main_v56, val_main_cst, val_main_cst_0, val_main_cst_1, val_main_cst_2, val_main_cst_3, val_main_cst_4, val_main_cst_5, val_main_cst_6, val_main_cst_7, val_main_call0_cst, val_main_call0_cst_0, val_main_call0_cst_1]
  exact v54 hd hw ho hz hg r (Real.hd c) (Real.ln c)

/-- The projection's gradient. -/
theorem v59 (i j : Fin 1024) : val_main_v59 (F := Ideal) d2 a o z g (ix2 i j) = ((∑ r, val_main_v24 (F := Ideal) a o z g (ix2 r i) * d2 (ix2 r j) : EReal) : EReal) := by
  pointwise [val_main_v59, val_main_v27, val_main_v26, val_main_cst, val_main_cst_0, val_main_cst_1, val_main_cst_2, val_main_cst_3, val_main_cst_4, val_main_cst_5, val_main_cst_6, val_main_cst_7, val_main_call0_cst, val_main_call0_cst_0, val_main_call0_cst_1]
  exact Finset.sum_congr rfl fun r _ => mul_comm _ _

end Cert.MixVjpIdeal.At

end
-- ==== Proof.BwdMix.Value.lean ====
/- The mixing call computes the five results its reference states. -/
module

public import proofs.«01_k».proof.Proof.At
public import proofs.«01_k».proof.Proof.BwdMix.Pay
public import proofs.«01_k».proof.Proof.BwdMix.Ref
public import proofs.«01_k».proof.Proof.Tile
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.BwdMixIdeal.Final

open Cert.BwdMixIdeal Cert.BwdMixIdeal.Gen Cert.BwdMixIdeal.Value Cert.Sums Cert.Norm Cert.Tile Cert.BwdMix Cert.At

variable {m : (ℓ : Loc nD τ sig) → Buf (Elt Ideal) ℓ} {c : Dev nD}

/-- Argument 0, as launched. -/
abbrev argD2 (m : (ℓ : Loc nD τ sig) → Buf (Elt Ideal) ℓ) (c : Dev nD) : FVec Ideal S4096x1024 .f32 := m (c.tc.loc main_arg0)

theorem kept0 : V m c main_arg0 = argD2 m c := by
  unfold V
  after_reads_simp

/-- Argument 1, as launched. -/
abbrev argWO (m : (ℓ : Loc nD τ sig) → Buf (Elt Ideal) ℓ) (c : Dev nD) : FVec Ideal S1024x1024 .bf16 := m (c.tc.loc main_arg1)

theorem kept1 : V m c main_arg1 = argWO m c := by
  unfold V
  after_reads_simp

/-- Argument 2, as launched. -/
abbrev argA (m : (ℓ : Loc nD τ sig) → Buf (Elt Ideal) ℓ) (c : Dev nD) : FVec Ideal S4096x512 .bf16 := m (c.tc.loc main_arg2)

/-- Argument 3, as launched. -/
abbrev argO (m : (ℓ : Loc nD τ sig) → Buf (Elt Ideal) ℓ) (c : Dev nD) : FVec Ideal S4096x512 .f32 := m (c.tc.loc main_arg3)

theorem kept3 : V m c main_arg3 = argO m c := by
  unfold V
  after_reads_simp

/-- Argument 4, as launched. -/
abbrev argZ (m : (ℓ : Loc nD τ sig) → Buf (Elt Ideal) ℓ) (c : Dev nD) : FVec Ideal S4096x3136 .f32 := m (c.tc.loc main_arg4)

/-- Argument 5, as launched. -/
abbrev argG (m : (ℓ : Loc nD τ sig) → Buf (Elt Ideal) ℓ) (c : Dev nD) : FVec Ideal S1x512 .f32 := m (c.tc.loc main_arg5)

theorem kept5 : V m c main_arg5 = argG m c := by
  unfold V
  after_reads_simp

/-- The column order the kernel reads: the gate's columns. -/
theorem turned4 (r : Fin 4096) (k : Fin 512) (K : Fin 3200) (hK : K.val = 2048 + k.val) :
    (V m c main_v25 : FVec Ideal S4096x3200 .f32) (ix2 r K) = argZ m c (ix2 r (Real.gateCol k)) := by
  unfold V
  after_reads_simp
  pointwise
  rw [dif_pos (show K.val < 2560 by omega)]
  after_reads_simp
  pointwise
  refine congrArg (fun a => argZ m c (ix2 r a)) ?_
  exact Fin.ext (by show 576 + K.val = 2624 + k.val; omega)

/-- The saved concatenation is the reference's. -/
theorem saved : (V m c main_v21 : FVec Ideal S4096x1024 .bf16) = Cert.MixVjpIdeal.Read.val_main_v24 (F := Ideal) (argA m c) (argO m c) (argZ m c) (argG m c) := by
  unfold V
  after_reads_simp
  rfl

theorem at0 : ∀ t : Fin cfg0.N, win0_0.index t (0 : Fin 2) = t.val ∧ win0_0.index t (1 : Fin 2) = 0 :=
  (by decide +kernel : ∀ t : Fin grid0.N, _)

theorem at2 : ∀ t : Fin cfg0.N, win0_2.index t (0 : Fin 2) = t.val ∧ win0_2.index t (1 : Fin 2) = 0 :=
  (by decide +kernel : ∀ t : Fin grid0.N, _)

theorem at5 : ∀ t : Fin cfg0.N, win0_5.index t (0 : Fin 2) = t.val ∧ win0_5.index t (1 : Fin 2) = 0 :=
  (by decide +kernel : ∀ t : Fin grid0.N, _)

theorem at6 : ∀ t : Fin cfg0.N, win0_6.index t (0 : Fin 2) = t.val ∧ win0_6.index t (1 : Fin 2) = 0 :=
  (by decide +kernel : ∀ t : Fin grid0.N, _)

theorem at7 : ∀ t : Fin cfg0.N, win0_7.index t (0 : Fin 2) = t.val ∧ win0_7.index t (1 : Fin 2) = 0 :=
  (by decide +kernel : ∀ t : Fin grid0.N, _)

theorem at8 : ∀ t : Fin cfg0.N, win0_8.index t (0 : Fin 2) = t.val ∧ win0_8.index t (1 : Fin 2) = 0 :=
  (by decide +kernel : ∀ t : Fin grid0.N, _)

theorem at1 : ∀ t : Fin cfg0.N, win0_1.index t (0 : Fin 2) = 0 ∧ win0_1.index t (1 : Fin 2) = 0 :=
  (by decide +kernel : ∀ t : Fin grid0.N, _)

theorem at4 : ∀ t : Fin cfg0.N, win0_4.index t (0 : Fin 2) = 0 ∧ win0_4.index t (1 : Fin 2) = 0 :=
  (by decide +kernel : ∀ t : Fin grid0.N, _)

theorem at9 : ∀ t : Fin cfg0.N, win0_9.index t (0 : Fin 2) = 0 ∧ win0_9.index t (1 : Fin 2) = 0 :=
  (by decide +kernel : ∀ t : Fin grid0.N, _)

theorem at10 : ∀ t : Fin cfg0.N, win0_10.index t (0 : Fin 2) = 0 ∧ win0_10.index t (1 : Fin 2) = 0 :=
  (by decide +kernel : ∀ t : Fin grid0.N, _)

theorem at3 : ∀ t : Fin cfg0.N, win0_3.index t (0 : Fin 2) = t.val ∧ win0_3.index t (1 : Fin 2) = 4 :=
  (by decide +kernel : ∀ t : Fin grid0.N, _)

theorem blk0 (t : Fin cfg0.N) (r : Fin 512) (k : Fin 1024) (R : Fin 4096) (hR : R.val = t.val * 512 + r.val) :
    (iblk m c 0 t : FVec Ideal S512x1024 .f32) (ix2 r k) = V m c main_arg0 (ix2 R k) := by
  obtain ⟨f0, f1⟩ := at0 t
  unfold iblk
  rw [View.read_apply]
  exact congrArg (V m c main_arg0) (ext2 ((moved f0).trans hR.symm) (fixed f1))

theorem blk1 (t : Fin cfg0.N) (r : Fin 1024) (k : Fin 1024)  :
    (iblk m c 1 t : FVec Ideal S1024x1024 .bf16) (ix2 r k) = V m c main_arg1 (ix2 r k) := by
  obtain ⟨f0, f1⟩ := at1 t
  unfold iblk
  rw [View.read_apply]
  exact congrArg (V m c main_arg1) (ext2 (fixed f0) (fixed f1))

theorem blk2 (t : Fin cfg0.N) (r : Fin 512) (k : Fin 512) (R : Fin 4096) (hR : R.val = t.val * 512 + r.val) :
    (iblk m c 2 t : FVec Ideal S512x512 .f32) (ix2 r k) = V m c main_arg3 (ix2 R k) := by
  obtain ⟨f0, f1⟩ := at2 t
  unfold iblk
  rw [View.read_apply]
  exact congrArg (V m c main_arg3) (ext2 ((moved f0).trans hR.symm) (fixed f1))

theorem blk4 (t : Fin cfg0.N) (k : Fin 512)  :
    (iblk m c 4 t : FVec Ideal S1x512 .f32) (ix2 0 k) = V m c main_arg5 (ix2 0 k) := by
  obtain ⟨f0, f1⟩ := at4 t
  unfold iblk
  rw [View.read_apply]
  exact congrArg (V m c main_arg5) (ext2 (fixed f0) (fixed f1))

theorem blk5 (t : Fin cfg0.N) (r : Fin 512) (k : Fin 1024) (R : Fin 4096) (hR : R.val = t.val * 512 + r.val) :
    (iblk m c 5 t : FVec Ideal S512x1024 .bf16) (ix2 r k) = V m c main_v21 (ix2 R k) := by
  obtain ⟨f0, f1⟩ := at5 t
  unfold iblk
  rw [View.read_apply]
  exact congrArg (V m c main_v21) (ext2 ((moved f0).trans hR.symm) (fixed f1))

/-- The gate's columns: nothing of the block is cut. -/
theorem blk3 (t : Fin cfg0.N) (r : Fin 512) (k : Fin 512) (R : Fin 4096) (K : Fin 3200) (hR : R.val = t.val * 512 + r.val) (hK : K.val = 4 * 512 + k.val) :
    (X0_3 m c t : FVec Ideal S512x512 .f32) (ix2 r k) = V m c main_v25 (ix2 R K) := by
  obtain ⟨f0, f1⟩ := at3 t
  unfold X0_3 Pipeline.Window.fill
  rw [dif_pos (moved0_3 t _)]
  unfold iblk
  rw [View.read_apply]
  exact congrArg (V m c main_v25) (ext2 ((moved f0).trans hR.symm) ((moved f1).trans hK.symm))

/-- A point's row among all. -/
def row (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem row_holds (i : Fin 4096) : row (holds i) ⟨i.val % 512, by omega⟩ = i := Fin.ext (by show i.val / 512 * 512 + i.val % 512 = i.val; omega)

/-- The last point. -/
abbrev last : Fin cfg0.N := ⟨7, lt_of_lt_of_eq (by decide) (show 8 = cfg0.N from N_0.symm)⟩

variable {D2 : Fin 4096 → Fin 1024 → ℝ} {WO : Fin 1024 → Fin 1024 → ℝ} {O : Fin 4096 → Fin 512 → ℝ} {Z : Fin 4096 → Fin 3136 → ℝ} {G : Fin 512 → ℝ}
variable (hd : ∀ r j, argD2 m c (ix2 r j) = (D2 r j : EReal)) (hw : ∀ i j, argWO m c (ix2 i j) = (WO i j : EReal))
variable (ho : ∀ r k, argO m c (ix2 r k) = (O r k : EReal)) (hz : ∀ r k, argZ m c (ix2 r k) = (Z r k : EReal)) (hg : ∀ k, argG m c (ix2 0 k) = (G k : EReal))
variable (t : Fin cfg0.N)

/-- The weights and the rows. -/
abbrev wts (WO : Fin 1024 → Fin 1024 → ℝ) (G : Fin 512 → ℝ) : Real.Wts := ⟨WO, fun h k => G (Real.col h k)⟩
abbrev rws (D2 : Fin 4096 → Fin 1024 → ℝ) (O : Fin 4096 → Fin 512 → ℝ) (Z : Fin 4096 → Fin 3136 → ℝ) (i : Fin 4096) : Real.Row :=
  ⟨D2 i, fun h k => O i (Real.col h k), fun h k => Z i (Real.gateCol (Real.col h k))⟩

include ho in
theorem flat_O (r : Fin 4096) (k : Fin 512) : argO m c (ix2 r k) = ((rws D2 O Z r).o (Real.hd k) (Real.ln k) : EReal) := by
  rw [ho]
  show ((O r k : ℝ) : EReal) = (O r (Real.col (Real.hd k) (Real.ln k)) : EReal)
  rw [Real.col_hd]

include hz in
theorem flat_Z (r : Fin 4096) (k : Fin 512) : argZ m c (ix2 r (Real.gateCol k)) = ((rws D2 O Z r).hg (Real.hd k) (Real.ln k) : EReal) := by
  rw [hz]
  show ((Z r (Real.gateCol k) : ℝ) : EReal) = (Z r (Real.gateCol (Real.col (Real.hd k) (Real.ln k))) : EReal)
  rw [Real.col_hd]

include hg in
theorem flat_G (k : Fin 512) : argG m c (ix2 0 k) = ((wts WO G).g (Real.hd k) (Real.ln k) : EReal) := by
  rw [hg]
  show ((G k : ℝ) : EReal) = (G (Real.col (Real.hd k) (Real.ln k)) : EReal)
  rw [Real.col_hd]

include hd in
theorem at_D (r : Fin 512) (k : Fin 1024) : (iblk m c 0 t : FVec Ideal S512x1024 .f32) (ix2 r k) = ((rws D2 O Z (row t r)).d2 k : EReal) := by
  rw [blk0 t r k (row t r) rfl, kept0, hd]

include hw in
theorem at_W (i j : Fin 1024) : (iblk m c 1 t : FVec Ideal S1024x1024 .bf16) (ix2 i j) = ((wts WO G).wo i j : EReal) := by
  rw [blk1 t i j, kept1, hw]

include ho in
theorem at_O (r : Fin 512) (k : Fin 512) : (iblk m c 2 t : FVec Ideal S512x512 .f32) (ix2 r k) = ((rws D2 O Z (row t r)).o (Real.hd k) (Real.ln k) : EReal) := by
  rw [blk2 t r k (row t r) rfl, kept3, flat_O ho]

include hz in
theorem at_Z (r : Fin 512) (k : Fin 512) : (X0_3 m c t : FVec Ideal S512x512 .f32) (ix2 r k) = ((rws D2 O Z (row t r)).hg (Real.hd k) (Real.ln k) : EReal) := by
  rw [blk3 t r k (row t r) ⟨2048 + k.val, by omega⟩ rfl rfl, turned4 _ k _ rfl, flat_Z hz]

include hg in
theorem at_G (k : Fin 512) : (iblk m c 4 t : FVec Ideal S1x512 .f32) (ix2 0 k) = ((wts WO G).g (Real.hd k) (Real.ln k) : EReal) := by
  rw [blk4 t k, kept5, flat_G hg]

theorem flushes : ∀ t : Fin cfg0.N, (cfg0.win 6).flush t = true ∧ (cfg0.win 7).flush t = true ∧ (cfg0.win 8).flush t = true ∧ (t.val = 7 → (cfg0.win 9).flush t = true)
    ∧ (t.val = 7 → (cfg0.win 10).flush t = true) :=
  (by decide +kernel : ∀ t : Fin grid0.N, _)

/-- The results' arrays. -/
abbrev arr6 (m : (ℓ : Loc nD τ sig) → Buf (Elt Ideal) ℓ) (c : Dev nD) : FVec Ideal S4096x512 .bf16 := (dats m 0 c).arrAt 6 cfg0.N
abbrev arr7 (m : (ℓ : Loc nD τ sig) → Buf (Elt Ideal) ℓ) (c : Dev nD) : FVec Ideal S4096x512 .f32 := (dats m 0 c).arrAt 7 cfg0.N
abbrev arr8 (m : (ℓ : Loc nD τ sig) → Buf (Elt Ideal) ℓ) (c : Dev nD) : FVec Ideal S4096x512 .bf16 := (dats m 0 c).arrAt 8 cfg0.N
abbrev arr9 (m : (ℓ : Loc nD τ sig) → Buf (Elt Ideal) ℓ) (c : Dev nD) : FVec Ideal S1x512 .f32 := (dats m 0 c).arrAt 9 cfg0.N
abbrev arr10 (m : (ℓ : Loc nD τ sig) → Buf (Elt Ideal) ℓ) (c : Dev nD) : FVec Ideal S1024x1024 .bf16 := (dats m 0 c).arrAt 10 cfg0.N

theorem cell6 (r : Fin 512) (k : Fin 512) :
    arr6 m c (ix2 (row t r) k) = ((outsAt0 m c t.val t.isLt).1 : FVec Ideal S512x512 .bf16) (ix2 r k) := by
  obtain ⟨f0, f1⟩ := at6 t
  have h := congrFun ((blocks6 m c t (flushes t).1).trans (flushed6 m c t)) (ix2 r k)
  rw [View.read_apply] at h
  exact (congrArg (arr6 m c) (ext2 (moved f0) (fixed f1)).symm).trans h

theorem cell7 (r : Fin 512) (k : Fin 512) :
    arr7 m c (ix2 (row t r) k) = ((outsAt0 m c t.val t.isLt).2.1 : FVec Ideal S512x512 .f32) (ix2 r k) := by
  obtain ⟨f0, f1⟩ := at7 t
  have h := congrFun ((blocks7 m c t (flushes t).2.1).trans (flushed7 m c t)) (ix2 r k)
  rw [View.read_apply] at h
  exact (congrArg (arr7 m c) (ext2 (moved f0) (fixed f1)).symm).trans h

theorem cell8 (r : Fin 512) (k : Fin 512) :
    arr8 m c (ix2 (row t r) k) = ((outsAt0 m c t.val t.isLt).2.2.1 : FVec Ideal S512x512 .bf16) (ix2 r k) := by
  obtain ⟨f0, f1⟩ := at8 t
  have h := congrFun ((blocks8 m c t (flushes t).2.2.1).trans (flushed8 m c t)) (ix2 r k)
  rw [View.read_apply] at h
  exact (congrArg (arr8 m c) (ext2 (moved f0) (fixed f1)).symm).trans h

/-- Only the last point writes result 9 back. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' hf hf' hne => absurd ((by decide +kernel : ∀ t t' : Fin grid0.N, (cfg0.win 9).flush t = true → (cfg0.win 9).flush t' = true → t = t') t t' hf hf') hne

theorem cell9 (ht : t.val = 7) (k : Fin 512) : arr9 m c (ix2 0 k) = ((outsAt0 m c t.val t.isLt).2.2.2.1 : FVec Ideal S1x512 .f32) (ix2 0 k) := by
  obtain ⟨f0, f1⟩ := at9 t
  have h := congrFun (((dats m 0 c).read_blk_arrAt_eq_flushed 9 disjoint9 cfg0.N t t.isLt ((flushes t).2.2.2.1 ht)).trans (flushed9 m c t)) (ix2 0 k)
  rw [View.read_apply] at h
  exact (congrArg (arr9 m c) (ext2 (fixed f0) (fixed f1)).symm).trans h

/-- Only the last point writes result 10 back. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' hf hf' hne => absurd ((by decide +kernel : ∀ t t' : Fin grid0.N, (cfg0.win 10).flush t = true → (cfg0.win 10).flush t' = true → t = t') t t' hf hf') hne

theorem cell10 (ht : t.val = 7) (r : Fin 1024) (k : Fin 1024) : arr10 m c (ix2 r k) = ((outsAt0 m c t.val t.isLt).2.2.2.2.1 : FVec Ideal S1024x1024 .bf16) (ix2 r k) := by
  obtain ⟨f0, f1⟩ := at10 t
  have h := congrFun (((dats m 0 c).read_blk_arrAt_eq_flushed 10 disjoint10 cfg0.N t t.isLt ((flushes t).2.2.2.2 ht)).trans (flushed10 m c t)) (ix2 r k)
  rw [View.read_apply] at h
  exact (congrArg (arr10 m c) (ext2 (fixed f0) (fixed f1)).symm).trans h

include hd hw ho hz in
/-- The gains' gradient after the last point. -/
theorem gains_sum (k : Fin 512) : ((outsAt0 m c last.val last.isLt).2.2.2.1 : FVec Ideal S1x512 .f32) (ix2 0 k)
    = ((∑ i, Real.dg (wts WO G) (rws D2 O Z i) (Real.hd k) (Real.ln k) : ℝ) : EReal) := by
  have h := run (fun n hn => ((outsAt0 m c n hn).2.2.2.1 : FVec Ideal S1x512 .f32) (ix2 0 k)) (tile 512 fun i => Real.dg (wts WO G) (rws D2 O Z i) (Real.hd k) (Real.ln k))
    (fun h => by
      show ((outsAt0 m c (⟨0, h⟩ : Fin cfg0.N).val h).2.2.2.1 : FVec Ideal S1x512 .f32) (ix2 0 k) = _
      have p (acc : FVec Ideal S1x512 .f32) := Pay.dgain_at (w := wts WO G) (R := fun r => rws D2 O Z (row ⟨0, h⟩ r)) (at_D hd ⟨0, h⟩) (at_W hw ⟨0, h⟩) (at_O ho ⟨0, h⟩) (at_Z hz ⟨0, h⟩) k acc
      rw [Block.o9_A m c ⟨0, h⟩ rfl, p, Pay.zero3, zero_add, ← tile_row _ _ (row ⟨0, h⟩) fun r => rfl])
    (fun n h => by
      have h8 := lt_of_lt_of_eq h (show cfg0.N = 8 from N_0)
      show ((outsAt0 m c (⟨n + 1, h⟩ : Fin cfg0.N).val h).2.2.2.1 : FVec Ideal S1x512 .f32) (ix2 0 k) = _
      have p (acc : FVec Ideal S1x512 .f32) := Pay.dgain_at (w := wts WO G) (R := fun r => rws D2 O Z (row ⟨n + 1, h⟩ r)) (at_D hd ⟨n + 1, h⟩) (at_W hw ⟨n + 1, h⟩) (at_O ho ⟨n + 1, h⟩) (at_Z hz ⟨n + 1, h⟩) k acc
      rw [Block.o9_B m c ⟨n + 1, h⟩ (by show ¬ (n + 1) % 8 = 0; omega), p, ← tile_row _ _ (row ⟨n + 1, h⟩) fun r => rfl]
      rfl)
    7 last.isLt
  rw [tiles 8 512 rfl] at h
  exact h

/-- A row's part of the projection's gradient. -/
def pair (a : FVec Ideal S4096x1024 .bf16) (d : FVec Ideal S4096x1024 .f32) (i j : Fin 1024) (r : Fin 4096) : EReal := a (ix2 r i) * d (ix2 r j)

/-- The projection's gradient after the last point. -/
theorem proj_sum (i j : Fin 1024) : ((outsAt0 m c last.val last.isLt).2.2.2.2.2 : FVec Ideal S1024x1024 .f32) (ix2 i j)
    = ∑ r, pair (V m c main_v21) (argD2 m c) i j r := by
  have b (t : Fin cfg0.N) (acc : FVec Ideal S1024x1024 .f32) : Block.dproj (iblk m c 0 t) (iblk m c 5 t) acc (ix2 i j)
      = acc (ix2 i j) + tileE 512 (pair (V m c main_v21) (argD2 m c) i j) t.val := by
    rw [Pay.dproj_at, ← tileE_row _ _ (row t) fun r => rfl]
    refine congrArg (acc (ix2 i j) + ·) (Finset.sum_congr rfl fun r _ => ?_)
    rw [blk5 t r i (row t r) rfl, blk0 t r j (row t r) rfl, kept0]
    rfl
  have h := runE (fun n hn => ((outsAt0 m c n hn).2.2.2.2.2 : FVec Ideal S1024x1024 .f32) (ix2 i j))
    (tileE 512 (pair (V m c main_v21) (argD2 m c) i j))
    (fun h => by
      show ((outsAt0 m c (⟨0, h⟩ : Fin cfg0.N).val h).2.2.2.2.2 : FVec Ideal S1024x1024 .f32) (ix2 i j) = _
      rw [Block.s0_A m c ⟨0, h⟩ rfl, b, Pay.zero4, zero_add])
    (fun n h => by
      have h8 := lt_of_lt_of_eq h (show cfg0.N = 8 from N_0)
      show ((outsAt0 m c (⟨n + 1, h⟩ : Fin cfg0.N).val h).2.2.2.2.2 : FVec Ideal S1024x1024 .f32) (ix2 i j) = _
      rw [Block.s0_B m c ⟨n + 1, h⟩ (by show ¬ (n + 1) % 8 = 0; omega), b]
      rfl)
    7 last.isLt
  rw [tilesE 8 512 rfl] at h
  exact h

include hd hw in
/-- The attention's gradient is the reference's. -/
theorem value57 : Cert.MixVjpIdeal.Read.val_main_v57 (F := Ideal) (argD2 m c) (argWO m c) = arr6 m c := by
  funext i
  idx_vars i
  have e := cell6 (m := m) (c := c) (holds i0) ⟨i0.val % 512, by omega⟩ i1
  rw [row_holds, Block.o6, Pay.pay9 (w := wts WO fun _ => 0) (R := fun r => rws D2 (fun _ _ => 0) (fun _ _ => 0) (row (holds i0) r)) (at_D  hd _) (at_W  hw _)] at e
  simp only [row_holds] at e
  rw [e, Cert.MixVjpIdeal.At.v57 (w := wts WO fun _ => 0) (R := rws D2 (fun _ _ => 0) (fun _ _ => 0)) hd hw]

include hd hw ho hz hg in
/-- The recurrence's gradient is the reference's. -/
theorem value56 : Cert.MixVjpIdeal.Read.val_main_v56 (F := Ideal) (argD2 m c) (argWO m c) (argO m c) (argZ m c) (argG m c) = arr7 m c := by
  funext i
  idx_vars i
  have e := cell7 (m := m) (c := c) (holds i0) ⟨i0.val % 512, by omega⟩ i1
  rw [row_holds, Block.o7, Pay.heads_at (w := wts WO G) (R := fun r => rws D2 O Z (row (holds i0) r)) (at_D hd _) (at_W hw _) (at_O ho _) (at_Z hz _) (at_G hg _)] at e
  simp only [row_holds] at e
  rw [e, Cert.MixVjpIdeal.At.v56 (w := wts WO G) (R := rws D2 O Z) hd hw (flat_O ho) (flat_Z hz) (flat_G hg)]

include hd hw ho hz hg in
/-- The gate's gradient is the reference's. -/
theorem value58 : Cert.MixVjpIdeal.Read.val_main_v58 (F := Ideal) (argD2 m c) (argWO m c) (argO m c) (argZ m c) (argG m c) = arr8 m c := by
  funext i
  idx_vars i
  have e := cell8 (m := m) (c := c) (holds i0) ⟨i0.val % 512, by omega⟩ i1
  rw [row_holds, Block.o8, Pay.dhg_at (w := wts WO G) (R := fun r => rws D2 O Z (row (holds i0) r)) (at_D hd _) (at_W hw _) (at_O ho _) (at_Z hz _) (at_G hg _)] at e
  simp only [row_holds] at e
  rw [e, Cert.MixVjpIdeal.At.v58 (w := wts WO G) (R := rws D2 O Z) hd hw (flat_O ho) (flat_Z hz) (flat_G hg)]

include hd hw ho hz hg in
/-- The gains' gradient is the reference's. -/
theorem value55 : Cert.MixVjpIdeal.Read.val_main_v55 (F := Ideal) (argD2 m c) (argWO m c) (argO m c) (argZ m c) = arr9 m c := by
  funext i
  idx_vars i
  obtain rfl : i0 = 0 := Subsingleton.elim _ _
  rw [cell9 last rfl, gains_sum (G := G) hd hw ho hz, Cert.MixVjpIdeal.At.v55 (w := wts WO G) (R := rws D2 O Z) hd hw (flat_O ho) (flat_Z hz) (flat_G hg)]

/-- The projection's gradient is the reference's. -/
theorem value59 : Cert.MixVjpIdeal.Read.val_main_v59 (F := Ideal) (argD2 m c) (argA m c) (argO m c) (argZ m c) (argG m c) = arr10 m c := by
  funext i
  idx_vars i
  rw [cell10 last rfl, Block.o10_C m c last (by decide) (by decide), Pay.pay7, proj_sum, saved, Cert.MixVjpIdeal.At.v59]
  rfl

end Cert.BwdMixIdeal.Final

end
-- ==== Proof.BwdMix.Claims.lean ====
/- The claims about the mixing call. -/
module

public import proofs.«01_k».proof.Defs
public import proofs.«01_k».proof.Proof.BwdMix.Value
public import proofs.«01_k».proof.Proof.Gen.MixVjpIdeal.Run
public import proofs.«01_k».proof.Proof.Gen.BwdMix.Frame
public import proofs.«01_k».proof.Proof.Gen.Pre_finite_bwd_mix
public import Idealize.ShloMosaic.Lib.Quiescent

@[expose] public section

set_option maxRecDepth 16384

noncomputable section

open Idealize.ShloMosaic Idealize.SL.Sem

namespace Cert.BwdMixClaims

open Cert.BwdMixIdeal.Final Cert.Sums

/-- The reference runs to the end, keeps its arguments and has no counters. -/
theorem frame_ref : Cert.quiescent_MixVjpIdeal := fun m ρ _ =>
  (θ_run Cert.MixVjpIdeal.defs _ _).mono
    (fun r h => ⟨fun c => (h c).2.2.2.2.2, sem_eq_zero_of_no_sems (by decide) r.2⟩)
    (Cert.MixVjpIdeal.Value.run (F := Ideal) m ρ)

set_option maxHeartbeats 2000000 in
/-- The kernel's run gives the reference's results. -/
theorem value : Cert.algebraic_BwdMixIdeal_MixVjpIdeal_pre_finite_bwd_mix := by
  intro m ρ m' ρ' hpre hargs
  refine ⟨_, _, _, _, _, Cert.BwdMixIdeal.Value.run_blocks m ρ,
    (θ_run Cert.MixVjpIdeal.defs _ _).mono (fun r h c => ?_) (Cert.MixVjpIdeal.Value.run (F := Ideal) m' ρ')⟩
  obtain ⟨p0, p1, p3, p4, p5⟩ := hpre c
  obtain ⟨X0, e0⟩ := real_of_pre (s0 := Cert.Pre_finite_bwd_mix.S_) (argD2 m c) _ p0
  have hd : ∀ r k, argD2 m c (ix2 r k) = ((fun r k => X0 (ix2 r k)) r k : EReal) := fun r k => congrFun e0 _
  obtain ⟨X1, e1⟩ := real_of_pre (s0 := Cert.Pre_finite_bwd_mix.S_) (argWO m c) _ p1
  have hw : ∀ i j, argWO m c (ix2 i j) = ((fun i j => X1 (ix2 i j)) i j : EReal) := fun i j => congrFun e1 _
  obtain ⟨X3, e3⟩ := real_of_pre (s0 := Cert.Pre_finite_bwd_mix.S_) (argO m c) _ p3
  have ho : ∀ r k, argO m c (ix2 r k) = ((fun r k => X3 (ix2 r k)) r k : EReal) := fun r k => congrFun e3 _
  obtain ⟨X4, e4⟩ := real_of_pre (s0 := Cert.Pre_finite_bwd_mix.S_) (argZ m c) _ p4
  have hz : ∀ r k, argZ m c (ix2 r k) = ((fun r k => X4 (ix2 r k)) r k : EReal) := fun r k => congrFun e4 _
  obtain ⟨X5, e5⟩ := real_of_pre (s0 := Cert.Pre_finite_bwd_mix.S_) (argG m c) _ p5
  have hg : ∀ k, argG m c (ix2 0 k) = ((fun k => X5 (ix2 0 k)) k : EReal) := fun k => congrFun e5 _
  obtain ⟨a0, a1, a2, a3, a4, a5⟩ := hargs c
  obtain ⟨h0_, h1_, h2_, h3_, h4_, hkept⟩ := h c
  refine ⟨h0_.trans ?_, h1_.trans ?_, h2_.trans ?_, h3_.trans ?_, h4_.trans ?_, hkept⟩
  · refine (Cert.MixVjpIdeal.Read.val_main_v57_eq _ _ ).trans ?_
    rw [a0, a1]
    exact value57 hd hw
  · rw [Cert.MixVjpIdeal.Read.val_main_v56_eq, a0, a1, a3, a4, a5]
    exact value56 hd hw ho hz hg
  · refine (Cert.MixVjpIdeal.Read.val_main_v58_eq _ _ _ _ _ ).trans ?_
    rw [a0, a1, a3, a4, a5]
    exact value58 hd hw ho hz hg
  · refine (Cert.MixVjpIdeal.Read.val_main_v55_eq _ _ _ _ ).trans ?_
    rw [a0, a1, a3, a4]
    exact value55 hd hw ho hz hg
  · refine (Cert.MixVjpIdeal.Read.val_main_v59_eq _ _ _ _ _ ).trans ?_
    rw [a0, a2, a3, a4, a5]
    exact value59

end Cert.BwdMixClaims

end
-- ==== Proof.BwdIn.Block.lean ====
/- What the input projection's backward call leaves after a grid point, as functions of the point's blocks. -/
module

public import proofs.«01_k».proof.Proof.Gen.BwdInIdeal.Value
public import proofs.«01_k».proof.Proof.Whole
public import Idealize.ShloMosaic.Lib.Tactic

@[expose] public section

set_option maxRecDepth 16384
set_option maxHeartbeats 1000000

noncomputable section

open Idealize.ShloMosaic Idealize.ShloMosaic.TcCoe Idealize.SL.Sem

namespace Cert.BwdInIdeal.Block

open Cert.BwdInIdeal Cert.BwdInIdeal.Gen Cert.BwdInIdeal.Value Cert.Whole

variable {F : FTy → Type} [FloatOps F]

/-- The six segments of the projection's gradient and of the transposed weights. -/
structure Segs (F : FTy → Type) where
  z0 : FVec F S512x512 .bf16
  z1 : FVec F S512x512 .bf16
  z2 : FVec F S512x512 .bf16
  z3 : FVec F S512x512 .bf16
  z4 : FVec F S512x512 .bf16
  z5 : FVec F S512x640 .bf16
  w0 : FVec F S512x1024 .bf16
  w1 : FVec F S512x1024 .bf16
  w2 : FVec F S512x1024 .bf16
  w3 : FVec F S512x1024 .bf16
  w4 : FVec F S512x1024 .bf16
  w5 : FVec F S640x1024 .bf16

variable (s : Segs F) (x d2 : FVec F S512x1024 .f32) (g : FVec F S1x1024 .f32)

/-- The first four products. -/
def four : FVec F S512x1024 .f32 := k0_pay3 s.z0 s.w0 s.z1 s.w1 s.z2 s.w2 s.z3 s.w3

/-- The gradient at the residual. -/
def resid : FVec F S512x1024 .f32 := k0_pay8 (four s) (k0_pay4 s.z4 s.w4) s.z5 s.w5 x g d2

/-- The gains' gradient over what was there. -/
def gain (acc : FVec F S1x1024 .f32) : FVec F S1x1024 .f32 := k0_pay1 (k0_pay7 (four s) (k0_pay4 s.z4 s.w4) s.z5 s.w5 x) acc

variable (m : (ℓ : Loc nD τ sig) → Buf (Elt F) ℓ) (c : Dev nD)

/-- A point's segments. -/
abbrev segs (t : Fin cfg0.N) : Segs F := ⟨iblk m c 0 t, iblk m c 1 t, iblk m c 2 t, iblk m c 3 t, iblk m c 4 t, iblk m c 5 t, X0_6 m c t, X0_7 m c t, X0_8 m c t, X0_9 m c t, X0_10 m c t, iblk m c 11 t⟩

/-- The residual's gradient. -/
theorem o15 (t : Fin cfg0.N) : (outsAt0 m c t.val t.isLt).1 = resid (segs m c t) (iblk m c 12 t) (iblk m c 14 t) (iblk m c 13 t) := by
  by_cases h0 : t.val % 8 = 0
  · rw [outsAt0_A m c t h0]
    dsimp only
    unfold out0_A_15
    rw [View.read_writes_eq_canon (h := fun y => cover0_A_15 ..)]
    unfold kernelRun0_A
    dsimp only
    sl_unfold_words
    simp only [canon2, cov2, View.readAt_eq_ld, ld2, Memref.IsWhole.read_unread, read_unread_whole]
    rfl
  · rw [outsAt0_B m c t h0]
    dsimp only
    unfold out0_B_15
    rw [View.read_writes_eq_canon (h := fun y => cover0_B_15 ..)]
    unfold kernelRun0_B
    dsimp only
    sl_unfold_words
    simp only [canon2, cov2, View.readAt_eq_ld, ld2, Memref.IsWhole.read_unread, read_unread_whole]
    rfl

/-- The gains' gradient. -/
theorem o16_A (t : Fin cfg0.N) (h0 : t.val % 8 = 0) :
    (outsAt0 m c t.val t.isLt).2 = gain (segs m c t) (iblk m c 12 t) (k0_pay2 (F := F)) := by
  rw [outsAt0_A m c t h0]
  dsimp only
  unfold out0_A_16
  rw [View.read_writes_eq_canon (h := fun y => cover0_A_16 ..)]
  unfold kernelRun0_A
  dsimp only
  sl_unfold_words
  simp only [canon2, cov2, View.readAt_eq_ld, ld2, Memref.IsWhole.read_unread, read_unread_whole]
  rfl

/-- The gains' gradient. -/
theorem o16_B (t : Fin cfg0.N) (h0 : ¬ t.val % 8 = 0) :
    (outsAt0 m c t.val t.isLt).2 = gain (segs m c t) (iblk m c 12 t) (outsAt0 m c (t.val - 1) (by omega)).2 := by
  rw [outsAt0_B m c t h0]
  dsimp only
  unfold out0_B_16
  rw [View.read_writes_eq_canon (h := fun y => cover0_B_16 ..)]
  unfold kernelRun0_B
  dsimp only
  sl_unfold_words
  simp only [canon2, cov2, View.readAt_eq_ld, ld2, Memref.IsWhole.read_unread, read_unread_whole]
  rfl

end Cert.BwdInIdeal.Block

end
-- ==== Proof.BwdIn.Real.lean ====
/- The first norm and the input projection, backward, over real numbers, one row at a time. -/
module

public import proofs.«01_k».proof.Proof.Norm

@[expose] public section

set_option maxRecDepth 16384
set_option maxHeartbeats 1000000

noncomputable section

open Idealize.ShloMosaic Idealize.ShloMosaic.TcCoe Idealize.SL.Sem

namespace Cert.BwdIn.Real

open Cert.Norm

/-- The weights: the projection, the norm's gains. -/
structure Wts where
  w : Fin 1024 → Fin 3136 → ℝ
  g : Fin 1024 → ℝ

/-- A row: the projection's gradient, the residual, its gradient. -/
structure Row where
  dz : Fin 3136 → ℝ
  x : Fin 1024 → ℝ
  d2 : Fin 1024 → ℝ

variable (w : Wts) (r : Row)

/-- The gradient at the norm's output. -/
def dh (k : Fin 1024) : ℝ := ∑ j, r.dz j * w.w k j

/-- The gradient at the residual. -/
def dx (k : Fin 1024) : ℝ := r.d2 k + back 1024 r.x (fun a => dh w r a * w.g a) k

/-- A row's part of the gains' gradient. -/
def dg (k : Fin 1024) : ℝ := dh w r k * r.x k * rt 1024 r.x

/-- The projection's columns in the kernel's order: the last 2560, then the first 576, then zeros. -/
def kc (f : Fin 3136 → ℝ) (n : ℕ) : ℝ := if h : n < 2560 then f ⟨576 + n, by omega⟩ else if h : n - 2560 < 576 then f ⟨n - 2560, by omega⟩ else 0

theorem kc_hi (f : Fin 3136 → ℝ) (a : Fin 2560) : kc f a.val = f ⟨576 + a.val, by omega⟩ := by
  unfold kc
  rw [dif_pos a.isLt]

theorem kc_lo (f : Fin 3136 → ℝ) (a : Fin 576) : kc f (2560 + a.val) = f ⟨a.val, by omega⟩ := by
  have e : 2560 + a.val - 2560 = a.val := by omega
  unfold kc
  rw [dif_neg (by omega), dif_pos (by omega)]
  simp only [e]

theorem kc_zero (f : Fin 3136 → ℝ) (n : ℕ) : kc f (2560 + (576 + n)) = 0 := by
  unfold kc
  rw [dif_neg (by omega), dif_neg (by omega)]

/-- A column's product in the kernel's order. -/
def both (f g : Fin 3136 → ℝ) (n : ℕ) : ℝ := kc f n * kc g n

/-- The five segments of 512 columns and the last of 640 are all the columns. -/
theorem segments (f g : Fin 3136 → ℝ) :
    (∑ a : Fin 512, both f g (0 + a.val)) + (∑ a : Fin 512, both f g (512 + a.val)) + (∑ a : Fin 512, both f g (1024 + a.val)) + (∑ a : Fin 512, both f g (1536 + a.val))
      + (∑ a : Fin 512, both f g (2048 + a.val)) + (∑ a : Fin 640, both f g (2560 + a.val)) = ∑ j, f j * g j := by
  have s (n b : ℕ) : ∑ a : Fin n, both f g (b + a.val) = ∑ a ∈ Finset.range n, both f g (b + a) := Fin.sum_univ_eq_sum_range (fun a => both f g (b + a)) n
  have z : ∑ a ∈ Finset.range 64, both f g (2560 + (576 + a)) = 0 := by
    refine Finset.sum_eq_zero fun a _ => ?_
    unfold both
    rw [kc_zero, zero_mul]
  have lo : ∑ a ∈ Finset.range 576, both f g (2560 + a) = ∑ a : Fin 576, f ⟨a.val, by omega⟩ * g ⟨a.val, by omega⟩ := by
    rw [← Fin.sum_univ_eq_sum_range (fun a => both f g (2560 + a)) 576]
    simp only [both, kc_lo]
  have hi : ∑ a ∈ Finset.range 2560, both f g a = ∑ a : Fin 2560, f ⟨576 + a.val, by omega⟩ * g ⟨576 + a.val, by omega⟩ := by
    rw [← Fin.sum_univ_eq_sum_range (both f g) 2560]
    simp only [both, kc_hi]
  have all : ∑ a ∈ Finset.range 2560, both f g a = (∑ a ∈ Finset.range 512, both f g (0 + a)) + (∑ a ∈ Finset.range 512, both f g (512 + a)) + (∑ a ∈ Finset.range 512, both f g (1024 + a))
      + (∑ a ∈ Finset.range 512, both f g (1536 + a)) + ∑ a ∈ Finset.range 512, both f g (2048 + a) := by
    rw [show (2560 : ℕ) = 512 + 512 + 512 + 512 + 512 from rfl, Finset.sum_range_add, Finset.sum_range_add, Finset.sum_range_add, Finset.sum_range_add]
    simp only [Nat.zero_add]
  have last : ∑ a ∈ Finset.range 640, both f g (2560 + a) = (∑ a ∈ Finset.range 576, both f g (2560 + a)) + ∑ a ∈ Finset.range 64, both f g (2560 + (576 + a)) := by
    rw [show (640 : ℕ) = 576 + 64 from rfl, Finset.sum_range_add]
  rw [s, s, s, s, s, s, ← all, last, z, add_zero, lo, hi, add_comm]
  exact (Fin.sum_univ_add (a := 576) (b := 2560) (fun j : Fin (576 + 2560) => f j * g j)).symm

end Cert.BwdIn.Real

end
-- ==== Proof.BwdIn.Pay.lean ====
/- The input projection's backward payloads at an index, over blocks of finite numbers. -/
module

public import proofs.«01_k».proof.Proof.BwdIn.Block
public import proofs.«01_k».proof.Proof.BwdIn.Real

@[expose] public section

set_option maxRecDepth 16384
set_option maxHeartbeats 1000000

noncomputable section

open Idealize.ShloMosaic Idealize.ShloMosaic.TcCoe Idealize.SL.Sem

namespace Cert.BwdInIdeal.Pay

open Cert.BwdInIdeal Cert.BwdInIdeal.Gen Cert.Sums Cert.Norm Cert.BwdIn

variable {s : Block.Segs Ideal} {x d2 : FVec Ideal S512x1024 .f32} {g : FVec Ideal S1x1024 .f32}
variable {w : Real.Wts} {R : Fin 512 → Real.Row}

/-- The segments hold the columns in the kernel's order. -/
structure Holds (s : Block.Segs Ideal) (w : Real.Wts) (R : Fin 512 → Real.Row) : Prop where
  z0 : ∀ r a, s.z0 (ix2 r a) = (Real.kc (R r).dz (0 + a.val) : EReal)
  w0 : ∀ a k, s.w0 (ix2 a k) = (Real.kc (w.w k) (0 + a.val) : EReal)
  z1 : ∀ r a, s.z1 (ix2 r a) = (Real.kc (R r).dz (512 + a.val) : EReal)
  w1 : ∀ a k, s.w1 (ix2 a k) = (Real.kc (w.w k) (512 + a.val) : EReal)
  z2 : ∀ r a, s.z2 (ix2 r a) = (Real.kc (R r).dz (1024 + a.val) : EReal)
  w2 : ∀ a k, s.w2 (ix2 a k) = (Real.kc (w.w k) (1024 + a.val) : EReal)
  z3 : ∀ r a, s.z3 (ix2 r a) = (Real.kc (R r).dz (1536 + a.val) : EReal)
  w3 : ∀ a k, s.w3 (ix2 a k) = (Real.kc (w.w k) (1536 + a.val) : EReal)
  z4 : ∀ r a, s.z4 (ix2 r a) = (Real.kc (R r).dz (2048 + a.val) : EReal)
  w4 : ∀ a k, s.w4 (ix2 a k) = (Real.kc (w.w k) (2048 + a.val) : EReal)
  z5 : ∀ r a, s.z5 (ix2 r a) = (Real.kc (R r).dz (2560 + a.val) : EReal)
  w5 : ∀ a k, s.w5 (ix2 a k) = (Real.kc (w.w k) (2560 + a.val) : EReal)

variable (hs : Holds s w R) (hx : ∀ r k, x (ix2 r k) = ((R r).x k : EReal)) (h2 : ∀ r k, d2 (ix2 r k) = ((R r).d2 k : EReal)) (hg : ∀ k, g (ix2 0 k) = (w.g k : EReal))
variable (r : Fin 512) (k : Fin 1024)

include hs in
/-- The six products are the whole one. -/
theorem pay5 : k0_pay5 (F := Ideal) (Block.four s) (k0_pay4 s.z4 s.w4) s.z5 s.w5 (ix2 r k) = (Real.dh w (R r) k : EReal) := by
  unfold Block.four
  pointwise [k0_pay5, k0_pay4, k0_pay3]
  simp only [hs.z0, hs.z1, hs.z2, hs.z3, hs.z4, hs.z5, hs.w0, hs.w1, hs.w2, hs.w3, hs.w4, hs.w5, ← EReal.coe_mul, coe_sum, ← EReal.coe_add]
  congr 1
  exact Real.segments (R r).dz (w.w k)

include hx in
theorem pay6 : k0_pay6 (F := Ideal) x (ix2 r 0) = (rt 1024 (R r).x : EReal) := by
  rw [← rsqrt_ms (by norm_num)]
  pointwise [k0_pay6]
  simp only [hx, ← EReal.coe_mul, coe_sum]
  rw [over_width_word, eps_word, ← EReal.coe_mul, ← EReal.coe_add]
  rfl

include hs hx h2 hg in
/-- The residual's gradient. -/
theorem resid_at : Block.resid s x d2 g (ix2 r k) = (Real.dx w (R r) k : EReal) := by
  unfold Block.resid
  pointwise [k0_pay8]
  simp only [pay5 hs, pay6 hx, hx, h2, hg, ← EReal.coe_mul, coe_sum]
  rw [over_width_word]
  simp only [← EReal.coe_mul, ← EReal.coe_sub, ← EReal.coe_add]
  rfl

include hs hx in
/-- What a point adds to the gains' gradient. -/
theorem gain_at (acc : FVec Ideal S1x1024 .f32) : Block.gain s x acc (ix2 0 k) = acc (ix2 0 k) + ((∑ r, Real.dg w (R r) k : ℝ) : EReal) := by
  unfold Block.gain
  pointwise [k0_pay1, k0_pay7]
  simp only [pay5 hs, pay6 hx, hx, ← EReal.coe_mul, coe_sum]
  rfl

theorem zero2 : k0_pay2 (F := Ideal) (ix2 0 k) = (0 : EReal) := by
  pointwise [k0_pay2]

end Cert.BwdInIdeal.Pay

end
-- ==== Proof.BwdIn.Ref.lean ====
/- The input projection's gradients in the reference at an index, over finite arguments. -/
module

public import proofs.«01_k».proof.Proof.Gen.InVjpIdeal.Read
public import proofs.«01_k».proof.Proof.BwdIn.Real
public import Idealize.ShloMosaic.Lib.Tactic

@[expose] public section

set_option maxRecDepth 16384
set_option maxHeartbeats 1000000

noncomputable section

open Idealize.ShloMosaic Idealize.ShloMosaic.TcCoe Idealize.SL.Sem

namespace Cert.InVjpIdeal.At

open Cert.InVjpIdeal Cert.InVjpIdeal.Read Cert.Sums Cert.Norm Cert.BwdIn

variable {z : FVec Ideal S4096x3136 .bf16} {wi : FVec Ideal S1024x3136 .bf16} {x d2 : FVec Ideal S4096x1024 .f32} {g : FVec Ideal S1x1024 .f32}
variable {w : Real.Wts} {R : Fin 4096 → Real.Row}
variable (hz : ∀ r j, z (ix2 r j) = ((R r).dz j : EReal)) (hw : ∀ k j, wi (ix2 k j) = (w.w k j : EReal)) (hx : ∀ r k, x (ix2 r k) = ((R r).x k : EReal))
variable (hg : ∀ k, g (ix2 0 k) = (w.g k : EReal)) (h2 : ∀ r k, d2 (ix2 r k) = ((R r).d2 k : EReal))
variable (r : Fin 4096) (k : Fin 1024)

include hx in
theorem v6 : val_main_v6 (F := Ideal) x (ix2 r 0) = (ms 1024 (R r).x : EReal) := by
  pointwise [val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [hx, ← EReal.coe_mul, coe_sum]
  rw [width_word, eps_word, Ideal.div_coe (by norm_num), ← EReal.coe_mul, ← EReal.coe_add]
  rfl

include hx in
theorem v7 : val_main_v7 (F := Ideal) x (ix2 r 0) = (rt 1024 (R r).x : EReal) := by
  pointwise [val_main_v7, val_main_cst, val_main_cst_0, val_main_cst_1, val_main_cst_2, val_main_cst_3, val_main_cst_4, val_main_cst_5, val_main_cst_6]
  rw [v6 hx]
  exact rsqrt_ms (by norm_num) _

include hx in
theorem v12 : val_main_v12 (F := Ideal) x (ix2 r k) = (((R r).x k * rt 1024 (R r).x : ℝ) : EReal) := by
  pointwise [val_main_v12, val_main_v11, val_main_cst, val_main_cst_0, val_main_cst_1, val_main_cst_2, val_main_cst_3, val_main_cst_4, val_main_cst_5, val_main_cst_6]
  rw [v7 hx, hx, ← EReal.coe_mul]

include hz hw in
theorem v18 : val_main_v18 (F := Ideal) z wi (ix2 r k) = (Real.dh w (R r) k : EReal) := by
  pointwise [val_main_v18, val_main_v17, val_main_v15, val_main_cst, val_main_cst_0, val_main_cst_1, val_main_cst_2, val_main_cst_3, val_main_cst_4, val_main_cst_5, val_main_cst_6]
  simp only [hz, hw, ← EReal.coe_mul, coe_sum]
  rfl

include hz hw hx in
/-- The gains' gradient. -/
theorem v21 : val_main_v21 (F := Ideal) z wi x (ix2 0 k) = ((∑ r, Real.dg w (R r) k : ℝ) : EReal) := by
  pointwise [val_main_v21, val_main_v20, val_main_v19, val_main_cst, val_main_cst_0, val_main_cst_1, val_main_cst_2, val_main_cst_3, val_main_cst_4, val_main_cst_5, val_main_cst_6]
  simp only [v18 hz hw, v12 hx, ← EReal.coe_mul, coe_sum]
  congr 1
  exact Finset.sum_congr rfl fun i _ => by unfold Real.dg; ring

include hz hw hg in
theorem v23 : val_main_v23 (F := Ideal) z wi g (ix2 r k) = ((Real.dh w (R r) k * w.g k : ℝ) : EReal) := by
  pointwise [val_main_v23, val_main_v22, val_main_cst, val_main_cst_0, val_main_cst_1, val_main_cst_2, val_main_cst_3, val_main_cst_4, val_main_cst_5, val_main_cst_6]
  rw [v18 hz hw, hg, ← EReal.coe_mul]

include hz hw hx hg in
theorem v34 : val_main_v34 (F := Ideal) z wi x g (ix2 r k) = (((∑ a, (R r).x a * (Real.dh w (R r) a * w.g a)) * (-(1 / 2) * (rt 1024 (R r).x * (1 / ms 1024 (R r).x))) * (1 / 1024) : ℝ) : EReal) := by
  pointwise [val_main_v34, val_main_v33, val_main_v32, val_main_v31, val_main_v30, val_main_v26, val_main_v25, val_main_v24, val_main_v10, val_main_v9, val_main_v8, val_main_cst, val_main_cst_0, val_main_cst_1, val_main_cst_2, val_main_cst_3, val_main_cst_4, val_main_cst_5, val_main_cst_6]
  simp only [Fin.sum_univ_one, v23 hz hw hg, v7 hx, v6 hx, hx, ← EReal.coe_mul, coe_sum]
  rw [half_word, width_word, Ideal.div_coe (ms_pos (by norm_num) _).ne', Ideal.div_coe (by norm_num)]
  simp only [← EReal.coe_mul]

include hz hw hx hg h2 in
/-- The residual's gradient. -/
theorem v38 : val_main_v38 (F := Ideal) z wi x g d2 (ix2 r k) = (Real.dx w (R r) k : EReal) := by
  pointwise [val_main_v38, val_main_v37, val_main_v36, val_main_v35, val_main_v29, val_main_v28, val_main_v27, val_main_cst, val_main_cst_0, val_main_cst_1, val_main_cst_2, val_main_cst_3, val_main_cst_4, val_main_cst_5, val_main_cst_6]
  rw [v34 hz hw hx hg, v23 hz hw hg, v7 hx, hx, h2]
  simp only [← EReal.coe_mul, ← EReal.coe_add]
  congr 1
  exact back_eq (w := 1024) (by norm_num) (R r).x (fun a => Real.dh w (R r) a * w.g a) k ((R r).d2 k)

end Cert.InVjpIdeal.At

end
-- ==== Proof.BwdIn.Value.lean ====
/- The input projection's backward call computes the two results its reference states. -/
module

public import proofs.«01_k».proof.Proof.At
public import proofs.«01_k».proof.Proof.BwdIn.Pay
public import proofs.«01_k».proof.Proof.BwdIn.Ref
public import proofs.«01_k».proof.Proof.Tile
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.BwdInIdeal.Final

open Cert.BwdInIdeal Cert.BwdInIdeal.Gen Cert.BwdInIdeal.Value Cert.Sums Cert.Norm Cert.Tile Cert.BwdIn Cert.At

variable {m : (ℓ : Loc nD τ sig) → Buf (Elt Ideal) ℓ} {c : Dev nD}

/-- Argument 0, as launched. -/
abbrev argZ (m : (ℓ : Loc nD τ sig) → Buf (Elt Ideal) ℓ) (c : Dev nD) : FVec Ideal S4096x3136 .bf16 := m (c.tc.loc main_arg0)

/-- Argument 1, as launched. -/
abbrev argW (m : (ℓ : Loc nD τ sig) → Buf (Elt Ideal) ℓ) (c : Dev nD) : FVec Ideal S1024x3136 .bf16 := m (c.tc.loc main_arg1)

/-- Argument 2, as launched. -/
abbrev argX (m : (ℓ : Loc nD τ sig) → Buf (Elt Ideal) ℓ) (c : Dev nD) : FVec Ideal S4096x1024 .f32 := m (c.tc.loc main_arg2)

theorem kept2 : V m c main_arg2 = argX m c := by
  unfold V
  after_reads_simp

/-- Argument 3, as launched. -/
abbrev argG (m : (ℓ : Loc nD τ sig) → Buf (Elt Ideal) ℓ) (c : Dev nD) : FVec Ideal S1x1024 .f32 := m (c.tc.loc main_arg3)

theorem kept3 : V m c main_arg3 = argG m c := by
  unfold V
  after_reads_simp

/-- Argument 4, as launched. -/
abbrev argD2 (m : (ℓ : Loc nD τ sig) → Buf (Elt Ideal) ℓ) (c : Dev nD) : FVec Ideal S4096x1024 .f32 := m (c.tc.loc main_arg4)

theorem kept4 : V m c main_arg4 = argD2 m c := by
  unfold V
  after_reads_simp

/-- The columns in the kernel's order. -/
theorem ordered_z {f : Fin 4096 → Fin 3136 → ℝ} (h : ∀ r j, argZ m c (ix2 r j) = (f r j : EReal)) (r : Fin 4096) (j : Fin 3200) :
    (V m c main_v3 : FVec Ideal S4096x3200 .bf16) (ix2 r j) = (Real.kc (f r) j.val : EReal) := by
  unfold V Real.kc
  after_reads_simp
  pointwise
  by_cases h0 : j.val < 2560
  · rw [dif_pos h0, dif_pos h0]
    after_reads_simp
    pointwise
    exact h _ _
  rw [dif_neg h0, dif_neg h0]
  by_cases h1 : j.val - 2560 < 576
  · rw [dif_pos h1, dif_pos h1]
    after_reads_simp
    pointwise
    exact h _ _
  rw [dif_neg h1, dif_neg h1]
  after_reads_simp
  pointwise
  exact EReal.coe_zero.symm

/-- The columns in the kernel's order. -/
theorem ordered_w {f : Fin 1024 → Fin 3136 → ℝ} (h : ∀ r j, argW m c (ix2 r j) = (f r j : EReal)) (r : Fin 1024) (j : Fin 3200) :
    (V m c main_v13 : FVec Ideal S1024x3200 .bf16) (ix2 r j) = (Real.kc (f r) j.val : EReal) := by
  unfold V Real.kc
  after_reads_simp
  pointwise
  by_cases h0 : j.val < 2560
  · rw [dif_pos h0, dif_pos h0]
    after_reads_simp
    pointwise
    exact h _ _
  rw [dif_neg h0, dif_neg h0]
  by_cases h1 : j.val - 2560 < 576
  · rw [dif_pos h1, dif_pos h1]
    after_reads_simp
    pointwise
    exact h _ _
  rw [dif_neg h1, dif_neg h1]
  after_reads_simp
  pointwise
  exact EReal.coe_zero.symm

theorem seg0 {f : Fin 4096 → Fin 3136 → ℝ} (h : ∀ r j, argZ m c (ix2 r j) = (f r j : EReal)) (r : Fin 4096) (a : Fin 512) :
    (V m c main_v4 : FVec Ideal S4096x512 .bf16) (ix2 r a) = (Real.kc (f r) (0 + a.val) : EReal) := by
  rw [← ordered_z h r ⟨0 + a.val, by omega⟩]
  have e : (V m c main_v4 : FVec Ideal S4096x512 .bf16) = extractStridedSlice S4096x512 ![0, 0] (V m c main_v3 : FVec Ideal S4096x3200 .bf16) slices_S4096x3200_S4096x512_0_0 := by
    unfold V
    after_reads_simp
  rw [e]
  pointwise
  try simp

theorem seg1 {f : Fin 4096 → Fin 3136 → ℝ} (h : ∀ r j, argZ m c (ix2 r j) = (f r j : EReal)) (r : Fin 4096) (a : Fin 512) :
    (V m c main_v5 : FVec Ideal S4096x512 .bf16) (ix2 r a) = (Real.kc (f r) (512 + a.val) : EReal) := by
  rw [← ordered_z h r ⟨512 + a.val, by omega⟩]
  have e : (V m c main_v5 : FVec Ideal S4096x512 .bf16) = extractStridedSlice S4096x512 ![0, 512] (V m c main_v3 : FVec Ideal S4096x3200 .bf16) slices_S4096x3200_S4096x512_0_512 := by
    unfold V
    after_reads_simp
  rw [e]
  pointwise
  try simp

theorem seg2 {f : Fin 4096 → Fin 3136 → ℝ} (h : ∀ r j, argZ m c (ix2 r j) = (f r j : EReal)) (r : Fin 4096) (a : Fin 512) :
    (V m c main_v6 : FVec Ideal S4096x512 .bf16) (ix2 r a) = (Real.kc (f r) (1024 + a.val) : EReal) := by
  rw [← ordered_z h r ⟨1024 + a.val, by omega⟩]
  have e : (V m c main_v6 : FVec Ideal S4096x512 .bf16) = extractStridedSlice S4096x512 ![0, 1024] (V m c main_v3 : FVec Ideal S4096x3200 .bf16) slices_S4096x3200_S4096x512_0_1024 := by
    unfold V
    after_reads_simp
  rw [e]
  pointwise
  try simp

theorem seg3 {f : Fin 4096 → Fin 3136 → ℝ} (h : ∀ r j, argZ m c (ix2 r j) = (f r j : EReal)) (r : Fin 4096) (a : Fin 512) :
    (V m c main_v7 : FVec Ideal S4096x512 .bf16) (ix2 r a) = (Real.kc (f r) (1536 + a.val) : EReal) := by
  rw [← ordered_z h r ⟨1536 + a.val, by omega⟩]
  have e : (V m c main_v7 : FVec Ideal S4096x512 .bf16) = extractStridedSlice S4096x512 ![0, 1536] (V m c main_v3 : FVec Ideal S4096x3200 .bf16) slices_S4096x3200_S4096x512_0_1536 := by
    unfold V
    after_reads_simp
  rw [e]
  pointwise
  try simp

theorem seg4 {f : Fin 4096 → Fin 3136 → ℝ} (h : ∀ r j, argZ m c (ix2 r j) = (f r j : EReal)) (r : Fin 4096) (a : Fin 512) :
    (V m c main_v8 : FVec Ideal S4096x512 .bf16) (ix2 r a) = (Real.kc (f r) (2048 + a.val) : EReal) := by
  rw [← ordered_z h r ⟨2048 + a.val, by omega⟩]
  have e : (V m c main_v8 : FVec Ideal S4096x512 .bf16) = extractStridedSlice S4096x512 ![0, 2048] (V m c main_v3 : FVec Ideal S4096x3200 .bf16) slices_S4096x3200_S4096x512_0_2048 := by
    unfold V
    after_reads_simp
  rw [e]
  pointwise
  try simp

theorem seg5 {f : Fin 4096 → Fin 3136 → ℝ} (h : ∀ r j, argZ m c (ix2 r j) = (f r j : EReal)) (r : Fin 4096) (a : Fin 640) :
    (V m c main_v9 : FVec Ideal S4096x640 .bf16) (ix2 r a) = (Real.kc (f r) (2560 + a.val) : EReal) := by
  rw [← ordered_z h r ⟨2560 + a.val, by omega⟩]
  have e : (V m c main_v9 : FVec Ideal S4096x640 .bf16) = extractStridedSlice S4096x640 ![0, 2560] (V m c main_v3 : FVec Ideal S4096x3200 .bf16) slices_S4096x3200_S4096x640_0_2560 := by
    unfold V
    after_reads_simp
  rw [e]
  pointwise
  try simp

theorem turned {f : Fin 1024 → Fin 3136 → ℝ} (h : ∀ r j, argW m c (ix2 r j) = (f r j : EReal)) (j : Fin 3200) (k : Fin 1024) :
    (V m c main_v14 : FVec Ideal S3200x1024 .bf16) (ix2 j k) = (Real.kc (f k) j.val : EReal) := by
  rw [← ordered_w h k j]
  have e : (V m c main_v14 : FVec Ideal S3200x1024 .bf16) = transpose S3200x1024 [1, 0] (V m c main_v13 : FVec Ideal S1024x3200 .bf16) transposes_S1024x3200_S3200x1024_1_0 := by
    unfold V
    after_reads_simp
  rw [e]
  pointwise

theorem at0 : ∀ t : Fin cfg0.N, win0_0.index t (0 : Fin 2) = t.val ∧ win0_0.index t (1 : Fin 2) = 0 :=
  (by decide +kernel : ∀ t : Fin grid0.N, _)

theorem at1 : ∀ t : Fin cfg0.N, win0_1.index t (0 : Fin 2) = t.val ∧ win0_1.index t (1 : Fin 2) = 0 :=
  (by decide +kernel : ∀ t : Fin grid0.N, _)

theorem at2 : ∀ t : Fin cfg0.N, win0_2.index t (0 : Fin 2) = t.val ∧ win0_2.index t (1 : Fin 2) = 0 :=
  (by decide +kernel : ∀ t : Fin grid0.N, _)

theorem at3 : ∀ t : Fin cfg0.N, win0_3.index t (0 : Fin 2) = t.val ∧ win0_3.index t (1 : Fin 2) = 0 :=
  (by decide +kernel : ∀ t : Fin grid0.N, _)

theorem at4 : ∀ t : Fin cfg0.N, win0_4.index t (0 : Fin 2) = t.val ∧ win0_4.index t (1 : Fin 2) = 0 :=
  (by decide +kernel : ∀ t : Fin grid0.N, _)

theorem at5 : ∀ t : Fin cfg0.N, win0_5.index t (0 : Fin 2) = t.val ∧ win0_5.index t (1 : Fin 2) = 0 :=
  (by decide +kernel : ∀ t : Fin grid0.N, _)

theorem at12 : ∀ t : Fin cfg0.N, win0_12.index t (0 : Fin 2) = t.val ∧ win0_12.index t (1 : Fin 2) = 0 :=
  (by decide +kernel : ∀ t : Fin grid0.N, _)

theorem at14 : ∀ t : Fin cfg0.N, win0_14.index t (0 : Fin 2) = t.val ∧ win0_14.index t (1 : Fin 2) = 0 :=
  (by decide +kernel : ∀ t : Fin grid0.N, _)

theorem at15 : ∀ t : Fin cfg0.N, win0_15.index t (0 : Fin 2) = t.val ∧ win0_15.index t (1 : Fin 2) = 0 :=
  (by decide +kernel : ∀ t : Fin grid0.N, _)

theorem at6 : ∀ t : Fin cfg0.N, win0_6.index t (0 : Fin 2) = 0 ∧ win0_6.index t (1 : Fin 2) = 0 :=
  (by decide +kernel : ∀ t : Fin grid0.N, _)

theorem at7 : ∀ t : Fin cfg0.N, win0_7.index t (0 : Fin 2) = 1 ∧ win0_7.index t (1 : Fin 2) = 0 :=
  (by decide +kernel : ∀ t : Fin grid0.N, _)

theorem at8 : ∀ t : Fin cfg0.N, win0_8.index t (0 : Fin 2) = 2 ∧ win0_8.index t (1 : Fin 2) = 0 :=
  (by decide +kernel : ∀ t : Fin grid0.N, _)

theorem at9 : ∀ t : Fin cfg0.N, win0_9.index t (0 : Fin 2) = 3 ∧ win0_9.index t (1 : Fin 2) = 0 :=
  (by decide +kernel : ∀ t : Fin grid0.N, _)

theorem at10 : ∀ t : Fin cfg0.N, win0_10.index t (0 : Fin 2) = 4 ∧ win0_10.index t (1 : Fin 2) = 0 :=
  (by decide +kernel : ∀ t : Fin grid0.N, _)

theorem at11 : ∀ t : Fin cfg0.N, win0_11.index t (0 : Fin 2) = 4 ∧ win0_11.index t (1 : Fin 2) = 0 :=
  (by decide +kernel : ∀ t : Fin grid0.N, _)

theorem at13 : ∀ t : Fin cfg0.N, win0_13.index t (0 : Fin 2) = 0 ∧ win0_13.index t (1 : Fin 2) = 0 :=
  (by decide +kernel : ∀ t : Fin grid0.N, _)

theorem at16 : ∀ t : Fin cfg0.N, win0_16.index t (0 : Fin 2) = 0 ∧ win0_16.index t (1 : Fin 2) = 0 :=
  (by decide +kernel : ∀ t : Fin grid0.N, _)

theorem blk0 (t : Fin cfg0.N) (r : Fin 512) (k : Fin 512) (R : Fin 4096) (hR : R.val = t.val * 512 + r.val) :
    (iblk m c 0 t : FVec Ideal S512x512 .bf16) (ix2 r k) = V m c main_v4 (ix2 R k) := by
  obtain ⟨f0, f1⟩ := at0 t
  unfold iblk
  rw [View.read_apply]
  exact congrArg (V m c main_v4) (ext2 ((moved f0).trans hR.symm) (fixed f1))

theorem blk1 (t : Fin cfg0.N) (r : Fin 512) (k : Fin 512) (R : Fin 4096) (hR : R.val = t.val * 512 + r.val) :
    (iblk m c 1 t : FVec Ideal S512x512 .bf16) (ix2 r k) = V m c main_v5 (ix2 R k) := by
  obtain ⟨f0, f1⟩ := at1 t
  unfold iblk
  rw [View.read_apply]
  exact congrArg (V m c main_v5) (ext2 ((moved f0).trans hR.symm) (fixed f1))

theorem blk2 (t : Fin cfg0.N) (r : Fin 512) (k : Fin 512) (R : Fin 4096) (hR : R.val = t.val * 512 + r.val) :
    (iblk m c 2 t : FVec Ideal S512x512 .bf16) (ix2 r k) = V m c main_v6 (ix2 R k) := by
  obtain ⟨f0, f1⟩ := at2 t
  unfold iblk
  rw [View.read_apply]
  exact congrArg (V m c main_v6) (ext2 ((moved f0).trans hR.symm) (fixed f1))

theorem blk3 (t : Fin cfg0.N) (r : Fin 512) (k : Fin 512) (R : Fin 4096) (hR : R.val = t.val * 512 + r.val) :
    (iblk m c 3 t : FVec Ideal S512x512 .bf16) (ix2 r k) = V m c main_v7 (ix2 R k) := by
  obtain ⟨f0, f1⟩ := at3 t
  unfold iblk
  rw [View.read_apply]
  exact congrArg (V m c main_v7) (ext2 ((moved f0).trans hR.symm) (fixed f1))

theorem blk4 (t : Fin cfg0.N) (r : Fin 512) (k : Fin 512) (R : Fin 4096) (hR : R.val = t.val * 512 + r.val) :
    (iblk m c 4 t : FVec Ideal S512x512 .bf16) (ix2 r k) = V m c main_v8 (ix2 R k) := by
  obtain ⟨f0, f1⟩ := at4 t
  unfold iblk
  rw [View.read_apply]
  exact congrArg (V m c main_v8) (ext2 ((moved f0).trans hR.symm) (fixed f1))

theorem blk5 (t : Fin cfg0.N) (r : Fin 512) (k : Fin 640) (R : Fin 4096) (hR : R.val = t.val * 512 + r.val) :
    (iblk m c 5 t : FVec Ideal S512x640 .bf16) (ix2 r k) = V m c main_v9 (ix2 R k) := by
  obtain ⟨f0, f1⟩ := at5 t
  unfold iblk
  rw [View.read_apply]
  exact congrArg (V m c main_v9) (ext2 ((moved f0).trans hR.symm) (fixed f1))

theorem blk6 (t : Fin cfg0.N) (r : Fin 512) (k : Fin 1024) (R : Fin 3200) (hR : R.val = 0 * 512 + r.val) :
    (X0_6 m c t : FVec Ideal S512x1024 .bf16) (ix2 r k) = V m c main_v14 (ix2 R k) := by
  obtain ⟨f0, f1⟩ := at6 t
  unfold X0_6 Pipeline.Window.fill
  rw [dif_pos (moved0_6 t _)]
  unfold iblk
  rw [View.read_apply]
  exact congrArg (V m c main_v14) (ext2 ((moved f0).trans hR.symm) (fixed f1))

theorem blk7 (t : Fin cfg0.N) (r : Fin 512) (k : Fin 1024) (R : Fin 3200) (hR : R.val = 1 * 512 + r.val) :
    (X0_7 m c t : FVec Ideal S512x1024 .bf16) (ix2 r k) = V m c main_v14 (ix2 R k) := by
  obtain ⟨f0, f1⟩ := at7 t
  unfold X0_7 Pipeline.Window.fill
  rw [dif_pos (moved0_7 t _)]
  unfold iblk
  rw [View.read_apply]
  exact congrArg (V m c main_v14) (ext2 ((moved f0).trans hR.symm) (fixed f1))

theorem blk8 (t : Fin cfg0.N) (r : Fin 512) (k : Fin 1024) (R : Fin 3200) (hR : R.val = 2 * 512 + r.val) :
    (X0_8 m c t : FVec Ideal S512x1024 .bf16) (ix2 r k) = V m c main_v14 (ix2 R k) := by
  obtain ⟨f0, f1⟩ := at8 t
  unfold X0_8 Pipeline.Window.fill
  rw [dif_pos (moved0_8 t _)]
  unfold iblk
  rw [View.read_apply]
  exact congrArg (V m c main_v14) (ext2 ((moved f0).trans hR.symm) (fixed f1))

theorem blk9 (t : Fin cfg0.N) (r : Fin 512) (k : Fin 1024) (R : Fin 3200) (hR : R.val = 3 * 512 + r.val) :
    (X0_9 m c t : FVec Ideal S512x1024 .bf16) (ix2 r k) = V m c main_v14 (ix2 R k) := by
  obtain ⟨f0, f1⟩ := at9 t
  unfold X0_9 Pipeline.Window.fill
  rw [dif_pos (moved0_9 t _)]
  unfold iblk
  rw [View.read_apply]
  exact congrArg (V m c main_v14) (ext2 ((moved f0).trans hR.symm) (fixed f1))

theorem blk10 (t : Fin cfg0.N) (r : Fin 512) (k : Fin 1024) (R : Fin 3200) (hR : R.val = 4 * 512 + r.val) :
    (X0_10 m c t : FVec Ideal S512x1024 .bf16) (ix2 r k) = V m c main_v14 (ix2 R k) := by
  obtain ⟨f0, f1⟩ := at10 t
  unfold X0_10 Pipeline.Window.fill
  rw [dif_pos (moved0_10 t _)]
  unfold iblk
  rw [View.read_apply]
  exact congrArg (V m c main_v14) (ext2 ((moved f0).trans hR.symm) (fixed f1))

theorem blk11 (t : Fin cfg0.N) (r : Fin 640) (k : Fin 1024) (R : Fin 3200) (hR : R.val = 4 * 640 + r.val) :
    (iblk m c 11 t : FVec Ideal S640x1024 .bf16) (ix2 r k) = V m c main_v14 (ix2 R k) := by
  obtain ⟨f0, f1⟩ := at11 t
  unfold iblk
  rw [View.read_apply]
  exact congrArg (V m c main_v14) (ext2 ((moved f0).trans hR.symm) (fixed f1))

theorem blk12 (t : Fin cfg0.N) (r : Fin 512) (k : Fin 1024) (R : Fin 4096) (hR : R.val = t.val * 512 + r.val) :
    (iblk m c 12 t : FVec Ideal S512x1024 .f32) (ix2 r k) = V m c main_arg2 (ix2 R k) := by
  obtain ⟨f0, f1⟩ := at12 t
  unfold iblk
  rw [View.read_apply]
  exact congrArg (V m c main_arg2) (ext2 ((moved f0).trans hR.symm) (fixed f1))

theorem blk14 (t : Fin cfg0.N) (r : Fin 512) (k : Fin 1024) (R : Fin 4096) (hR : R.val = t.val * 512 + r.val) :
    (iblk m c 14 t : FVec Ideal S512x1024 .f32) (ix2 r k) = V m c main_arg4 (ix2 R k) := by
  obtain ⟨f0, f1⟩ := at14 t
  unfold iblk
  rw [View.read_apply]
  exact congrArg (V m c main_arg4) (ext2 ((moved f0).trans hR.symm) (fixed f1))

theorem blk13 (t : Fin cfg0.N) (k : Fin 1024)  :
    (iblk m c 13 t : FVec Ideal S1x1024 .f32) (ix2 0 k) = V m c main_arg3 (ix2 0 k) := by
  obtain ⟨f0, f1⟩ := at13 t
  unfold iblk
  rw [View.read_apply]
  exact congrArg (V m c main_arg3) (ext2 (fixed f0) (fixed f1))

/-- A point's row among all. -/
def row (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem row_holds (i : Fin 4096) : row (holds i) ⟨i.val % 512, by omega⟩ = i := Fin.ext (by show i.val / 512 * 512 + i.val % 512 = i.val; omega)

/-- The last point. -/
abbrev last : Fin cfg0.N := ⟨7, lt_of_lt_of_eq (by decide) (show 8 = cfg0.N from N_0.symm)⟩

variable {Z : Fin 4096 → Fin 3136 → ℝ} {W : Fin 1024 → Fin 3136 → ℝ} {X D2 : Fin 4096 → Fin 1024 → ℝ} {G : Fin 1024 → ℝ}
variable (hz : ∀ r j, argZ m c (ix2 r j) = (Z r j : EReal)) (hw : ∀ k j, argW m c (ix2 k j) = (W k j : EReal)) (hx : ∀ r k, argX m c (ix2 r k) = (X r k : EReal))
variable (hg : ∀ k, argG m c (ix2 0 k) = (G k : EReal)) (h2 : ∀ r k, argD2 m c (ix2 r k) = (D2 r k : EReal))
variable (t : Fin cfg0.N)

/-- The weights and the rows. -/
abbrev wts (W : Fin 1024 → Fin 3136 → ℝ) (G : Fin 1024 → ℝ) : Real.Wts := ⟨W, G⟩
abbrev rws (Z : Fin 4096 → Fin 3136 → ℝ) (X D2 : Fin 4096 → Fin 1024 → ℝ) (i : Fin 4096) : Real.Row := ⟨Z i, X i, D2 i⟩

include hz hw in
theorem at_S : Pay.Holds (Block.segs m c t) (wts W G) (fun r => rws Z X D2 (row t r)) where
  z0 r a := (blk0 t r a (row t r) rfl).trans (seg0 hz _ _)
  w0 a k := (blk6 t a k ⟨0 + a.val, by omega⟩ (by show 0 + a.val = 0 * 512 + a.val; omega)).trans (turned hw _ _)
  z1 r a := (blk1 t r a (row t r) rfl).trans (seg1 hz _ _)
  w1 a k := (blk7 t a k ⟨512 + a.val, by omega⟩ (by show 512 + a.val = 1 * 512 + a.val; omega)).trans (turned hw _ _)
  z2 r a := (blk2 t r a (row t r) rfl).trans (seg2 hz _ _)
  w2 a k := (blk8 t a k ⟨1024 + a.val, by omega⟩ (by show 1024 + a.val = 2 * 512 + a.val; omega)).trans (turned hw _ _)
  z3 r a := (blk3 t r a (row t r) rfl).trans (seg3 hz _ _)
  w3 a k := (blk9 t a k ⟨1536 + a.val, by omega⟩ (by show 1536 + a.val = 3 * 512 + a.val; omega)).trans (turned hw _ _)
  z4 r a := (blk4 t r a (row t r) rfl).trans (seg4 hz _ _)
  w4 a k := (blk10 t a k ⟨2048 + a.val, by omega⟩ (by show 2048 + a.val = 4 * 512 + a.val; omega)).trans (turned hw _ _)
  z5 r a := (blk5 t r a (row t r) rfl).trans (seg5 hz _ _)
  w5 a k := (blk11 t a k ⟨2560 + a.val, by omega⟩ (by show 2560 + a.val = 4 * 640 + a.val; omega)).trans (turned hw _ _)

include hx in
theorem at_X (r : Fin 512) (k : Fin 1024) : (iblk m c 12 t : FVec Ideal S512x1024 .f32) (ix2 r k) = ((rws Z X D2 (row t r)).x k : EReal) := by
  rw [blk12 t r k (row t r) rfl, kept2, hx]

include h2 in
theorem at_D (r : Fin 512) (k : Fin 1024) : (iblk m c 14 t : FVec Ideal S512x1024 .f32) (ix2 r k) = ((rws Z X D2 (row t r)).d2 k : EReal) := by
  rw [blk14 t r k (row t r) rfl, kept4, h2]

include hg in
theorem at_G (k : Fin 1024) : (iblk m c 13 t : FVec Ideal S1x1024 .f32) (ix2 0 k) = ((wts W G).g k : EReal) := by
  rw [blk13 t k, kept3, hg]

theorem flushes : ∀ t : Fin cfg0.N, (cfg0.win 15).flush t = true ∧ (t.val = 7 → (cfg0.win 16).flush t = true) :=
  (by decide +kernel : ∀ t : Fin grid0.N, _)

/-- The results' arrays. -/
abbrev arr15 (m : (ℓ : Loc nD τ sig) → Buf (Elt Ideal) ℓ) (c : Dev nD) : FVec Ideal S4096x1024 .f32 := (dats m 0 c).arrAt 15 cfg0.N
abbrev arr16 (m : (ℓ : Loc nD τ sig) → Buf (Elt Ideal) ℓ) (c : Dev nD) : FVec Ideal S1x1024 .f32 := (dats m 0 c).arrAt 16 cfg0.N

theorem cell15 (r : Fin 512) (k : Fin 1024) :
    arr15 m c (ix2 (row t r) k) = ((outsAt0 m c t.val t.isLt).1 : FVec Ideal S512x1024 .f32) (ix2 r k) := by
  obtain ⟨f0, f1⟩ := at15 t
  have h := congrFun ((blocks15 m c t (flushes t).1).trans (flushed15 m c t)) (ix2 r k)
  rw [View.read_apply] at h
  exact (congrArg (arr15 m c) (ext2 (moved f0) (fixed f1)).symm).trans h

/-- Only the last point writes result 16 back. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' hf hf' hne => absurd ((by decide +kernel : ∀ t t' : Fin grid0.N, (cfg0.win 16).flush t = true → (cfg0.win 16).flush t' = true → t = t') t t' hf hf') hne

theorem cell16 (ht : t.val = 7) (k : Fin 1024) : arr16 m c (ix2 0 k) = ((outsAt0 m c t.val t.isLt).2 : FVec Ideal S1x1024 .f32) (ix2 0 k) := by
  obtain ⟨f0, f1⟩ := at16 t
  have h := congrFun (((dats m 0 c).read_blk_arrAt_eq_flushed 16 disjoint16 cfg0.N t t.isLt ((flushes t).2 ht)).trans (flushed16 m c t)) (ix2 0 k)
  rw [View.read_apply] at h
  exact (congrArg (arr16 m c) (ext2 (fixed f0) (fixed f1)).symm).trans h

include hz hw hx in
/-- The gains' gradient after the last point. -/
theorem gains_sum (k : Fin 1024) : ((outsAt0 m c last.val last.isLt).2 : FVec Ideal S1x1024 .f32) (ix2 0 k) = ((∑ i, Real.dg (wts W G) (rws Z X D2 i) k : ℝ) : EReal) := by
  have h := run (fun n hn => ((outsAt0 m c n hn).2 : FVec Ideal S1x1024 .f32) (ix2 0 k)) (tile 512 fun i => Real.dg (wts W G) (rws Z X D2 i) k)
    (fun h => by
      show ((outsAt0 m c (⟨0, h⟩ : Fin cfg0.N).val h).2 : FVec Ideal S1x1024 .f32) (ix2 0 k) = _
      have p (acc : FVec Ideal S1x1024 .f32) := Pay.gain_at (w := wts W G) (R := fun r => rws Z X D2 (row ⟨0, h⟩ r)) (at_S hz hw ⟨0, h⟩) (at_X hx ⟨0, h⟩) k acc
      rw [Block.o16_A m c ⟨0, h⟩ rfl, p, Pay.zero2, zero_add, ← tile_row _ _ (row ⟨0, h⟩) fun r => rfl])
    (fun n h => by
      have h8 := lt_of_lt_of_eq h (show cfg0.N = 8 from N_0)
      show ((outsAt0 m c (⟨n + 1, h⟩ : Fin cfg0.N).val h).2 : FVec Ideal S1x1024 .f32) (ix2 0 k) = _
      have p (acc : FVec Ideal S1x1024 .f32) := Pay.gain_at (w := wts W G) (R := fun r => rws Z X D2 (row ⟨n + 1, h⟩ r)) (at_S hz hw ⟨n + 1, h⟩) (at_X hx ⟨n + 1, h⟩) k acc
      rw [Block.o16_B m c ⟨n + 1, h⟩ (by show ¬ (n + 1) % 8 = 0; omega), p, ← tile_row _ _ (row ⟨n + 1, h⟩) fun r => rfl]
      rfl)
    7 last.isLt
  rw [tiles 8 512 rfl] at h
  exact h

include hz hw hx hg h2 in
/-- The residual's gradient is the reference's. -/
theorem value38 : Cert.InVjpIdeal.Read.val_main_v38 (F := Ideal) (argZ m c) (argW m c) (argX m c) (argG m c) (argD2 m c) = arr15 m c := by
  funext i
  idx_vars i
  have e := cell15 (m := m) (c := c) (holds i0) ⟨i0.val % 512, by omega⟩ i1
  rw [row_holds, Block.o15, Pay.resid_at (w := wts W G) (R := fun r => rws Z X D2 (row (holds i0) r)) (at_S hz hw _) (at_X hx _) (at_D h2 _) (at_G hg _)] at e
  simp only [row_holds] at e
  rw [e, Cert.InVjpIdeal.At.v38 (w := wts W G) (R := rws Z X D2) hz hw hx hg h2]

include hz hw hx in
/-- The gains' gradient is the reference's. -/
theorem value21 : Cert.InVjpIdeal.Read.val_main_v21 (F := Ideal) (argZ m c) (argW m c) (argX m c) = arr16 m c := by
  funext i
  idx_vars i
  obtain rfl : i0 = 0 := Subsingleton.elim _ _
  rw [cell16 last rfl, gains_sum (G := fun _ => 0) (D2 := fun _ _ => 0) hz hw hx, Cert.InVjpIdeal.At.v21 (w := wts W fun _ => 0) (R := rws Z X fun _ _ => 0) hz hw hx]

end Cert.BwdInIdeal.Final

end
-- ==== Proof.BwdIn.Claims.lean ====
/- The claims about the input projection's backward call. -/
module

public import proofs.«01_k».proof.Defs
public import proofs.«01_k».proof.Proof.BwdIn.Value
public import proofs.«01_k».proof.Proof.Gen.InVjpIdeal.Run
public import proofs.«01_k».proof.Proof.Gen.BwdIn.Frame
public import proofs.«01_k».proof.Proof.Gen.Pre_finite_bwd_in
public import Idealize.ShloMosaic.Lib.Quiescent

@[expose] public section

set_option maxRecDepth 16384

noncomputable section

open Idealize.ShloMosaic Idealize.SL.Sem

namespace Cert.BwdInClaims

open Cert.BwdInIdeal.Final Cert.Sums

/-- The reference runs to the end, keeps its arguments and has no counters. -/
theorem frame_ref : Cert.quiescent_InVjpIdeal := fun m ρ _ =>
  (θ_run Cert.InVjpIdeal.defs _ _).mono
    (fun r h => ⟨fun c => (h c).2.2, sem_eq_zero_of_no_sems (by decide) r.2⟩)
    (Cert.InVjpIdeal.Value.run (F := Ideal) m ρ)

set_option maxHeartbeats 2000000 in
/-- The kernel's run gives the reference's results. -/
theorem value : Cert.algebraic_BwdInIdeal_InVjpIdeal_pre_finite_bwd_in := by
  intro m ρ m' ρ' hpre hargs
  refine ⟨_, _, Cert.BwdInIdeal.Value.run_blocks m ρ,
    (θ_run Cert.InVjpIdeal.defs _ _).mono (fun r h c => ?_) (Cert.InVjpIdeal.Value.run (F := Ideal) m' ρ')⟩
  obtain ⟨p0, p1, p2, p3, p4⟩ := hpre c
  obtain ⟨X0, e0⟩ := real_of_pre (s0 := Cert.Pre_finite_bwd_in.S_) (argZ m c) _ p0
  have hz : ∀ r j, argZ m c (ix2 r j) = ((fun r j => X0 (ix2 r j)) r j : EReal) := fun r j => congrFun e0 _
  obtain ⟨X1, e1⟩ := real_of_pre (s0 := Cert.Pre_finite_bwd_in.S_) (argW m c) _ p1
  have hw : ∀ k j, argW m c (ix2 k j) = ((fun k j => X1 (ix2 k j)) k j : EReal) := fun k j => congrFun e1 _
  obtain ⟨X2, e2⟩ := real_of_pre (s0 := Cert.Pre_finite_bwd_in.S_) (argX m c) _ p2
  have hx : ∀ r k, argX m c (ix2 r k) = ((fun r k => X2 (ix2 r k)) r k : EReal) := fun r k => congrFun e2 _
  obtain ⟨X3, e3⟩ := real_of_pre (s0 := Cert.Pre_finite_bwd_in.S_) (argG m c) _ p3
  have hg : ∀ k, argG m c (ix2 0 k) = ((fun k => X3 (ix2 0 k)) k : EReal) := fun k => congrFun e3 _
  obtain ⟨X4, e4⟩ := real_of_pre (s0 := Cert.Pre_finite_bwd_in.S_) (argD2 m c) _ p4
  have h2 : ∀ r k, argD2 m c (ix2 r k) = ((fun r k => X4 (ix2 r k)) r k : EReal) := fun r k => congrFun e4 _
  obtain ⟨a0, a1, a2, a3, a4⟩ := hargs c
  obtain ⟨h0_, h1_, hkept⟩ := h c
  refine ⟨h0_.trans ?_, h1_.trans ?_, hkept⟩
  · rw [Cert.InVjpIdeal.Read.val_main_v38_eq, a0, a1, a2, a3, a4]
    exact value38 hz hw hx hg h2
  · refine (Cert.InVjpIdeal.Read.val_main_v21_eq _ _ _ ).trans ?_
    rw [a0, a1, a2]
    exact value21 hz hw hx

end Cert.BwdInClaims

end
-- ==== Proof.FwdAttn.Block.lean ====
/- The blocks the attention kernel's point leaves: eight stretches of 256 query rows each, every one the same function of its rows, of the head's keys and of its values. -/
module

public import proofs.«01_k».proof.Proof.Gen.FwdAttnIdeal.Value
public import proofs.«01_k».proof.Proof.Whole

@[expose] public section

set_option maxRecDepth 16384
set_option maxHeartbeats 1000000

noncomputable section

open Idealize.ShloMosaic Idealize.ShloMosaic.TcCoe Idealize.SL.Sem

namespace Cert.FwdAttnIdeal.Block

open Cert.FwdAttnIdeal Cert.FwdAttnIdeal.Gen Cert.FwdAttnIdeal.Value Cert.Whole

variable {F : FTy → Type} [FloatOps F] [Named F]

/-- The 256 rows from `o` on lie in a block of 2048 query rows. -/
theorem inbQ (o : Nat) (h : o + 256 ≤ 2048) :
    ∀ a, (![0, o, 0] : Fin 3 → Nat) a + (![1, 256, 256] : Fin 3 → Nat) a ≤ (![1, 2048, 256] : Fin 3 → Nat) a := by
  intro a
  match a with
  | ⟨0, _⟩ => exact le_refl 1
  | ⟨1, _⟩ => exact h
  | ⟨2, _⟩ => exact le_refl 256

/-- The same of a block of outputs. -/
theorem inbO (o : Nat) (h : o + 256 ≤ 2048) :
    ∀ a, (![o, 0] : Fin 2 → Nat) a + (![256, 128] : Fin 2 → Nat) a ≤ (![2048, 128] : Fin 2 → Nat) a := by
  intro a
  match a with
  | ⟨0, _⟩ => exact h
  | ⟨1, _⟩ => exact le_refl 128

/-- Rows `o … o + 255` of a block of query rows. -/
abbrev rowsQ (o : Nat) (h : o + 256 ≤ 2048) (q : FVec F S1x2048x256 .bf16) : FVec F S1x256x256 .bf16 :=
  View.ld (Val := Elt F) (e' := .bf16) q (Rect.unit (s := S1x2048x256) ![0, o, 0] ![1, 256, 256] (inbQ o h))

section Stores

variable (q : FVec F S1x2048x256 .bf16) (k : FVec F S1x4096x256 .bf16) (v : FVec F S1x4096x128 .bf16)

/-- The stores that fill the block of outputs kept whole. -/
def outs : List (View.Piece (Elt F) S2048x128 .f32) :=
  [⟨Rect.unit (s := S2048x128) ![1792, 0] ![256, 128] (inbO 1792 (by omega)), k0_pay3 (rowsQ 1792 (by omega) q) k v⟩,
   ⟨Rect.unit (s := S2048x128) ![1536, 0] ![256, 128] (inbO 1536 (by omega)), k0_pay3 (rowsQ 1536 (by omega) q) k v⟩,
   ⟨Rect.unit (s := S2048x128) ![1280, 0] ![256, 128] (inbO 1280 (by omega)), k0_pay3 (rowsQ 1280 (by omega) q) k v⟩,
   ⟨Rect.unit (s := S2048x128) ![1024, 0] ![256, 128] (inbO 1024 (by omega)), k0_pay3 (rowsQ 1024 (by omega) q) k v⟩,
   ⟨Rect.unit (s := S2048x128) ![768, 0] ![256, 128] (inbO 768 (by omega)), k0_pay3 (rowsQ 768 (by omega) q) k v⟩,
   ⟨Rect.unit (s := S2048x128) ![512, 0] ![256, 128] (inbO 512 (by omega)), k0_pay3 (rowsQ 512 (by omega) q) k v⟩,
   ⟨Rect.unit (s := S2048x128) ![256, 0] ![256, 128] (inbO 256 (by omega)), k0_pay3 (rowsQ 256 (by omega) q) k v⟩,
   ⟨Rect.unit (s := S2048x128) ![0, 0] ![256, 128] (inbO 0 (by omega)), k0_pay3 (rowsQ 0 (by omega) q) k v⟩]

/-- The stores that fill the block of outputs in half the digits. -/
def halves : List (View.Piece (Elt F) S2048x128 .bf16) :=
  [⟨Rect.unit (s := S2048x128) ![1792, 0] ![256, 128] (inbO 1792 (by omega)), k0_pay4 (rowsQ 1792 (by omega) q) k v⟩,
   ⟨Rect.unit (s := S2048x128) ![1536, 0] ![256, 128] (inbO 1536 (by omega)), k0_pay4 (rowsQ 1536 (by omega) q) k v⟩,
   ⟨Rect.unit (s := S2048x128) ![1280, 0] ![256, 128] (inbO 1280 (by omega)), k0_pay4 (rowsQ 1280 (by omega) q) k v⟩,
   ⟨Rect.unit (s := S2048x128) ![1024, 0] ![256, 128] (inbO 1024 (by omega)), k0_pay4 (rowsQ 1024 (by omega) q) k v⟩,
   ⟨Rect.unit (s := S2048x128) ![768, 0] ![256, 128] (inbO 768 (by omega)), k0_pay4 (rowsQ 768 (by omega) q) k v⟩,
   ⟨Rect.unit (s := S2048x128) ![512, 0] ![256, 128] (inbO 512 (by omega)), k0_pay4 (rowsQ 512 (by omega) q) k v⟩,
   ⟨Rect.unit (s := S2048x128) ![256, 0] ![256, 128] (inbO 256 (by omega)), k0_pay4 (rowsQ 256 (by omega) q) k v⟩,
   ⟨Rect.unit (s := S2048x128) ![0, 0] ![256, 128] (inbO 0 (by omega)), k0_pay4 (rowsQ 0 (by omega) q) k v⟩]

end Stores

section Points

variable (m : (ℓ : Loc nD τ sig) → Buf (Elt F) ℓ) (c : Dev nD)

/-- A point's block of outputs in half the digits. -/
theorem o3 (t : Fin cfg0.N) : (outsAt0 m c t).1 = View.canon (halves (iblk m c 0 t) (iblk m c 1 t) (iblk m c 2 t)) := by
  unfold outsAt0
  dsimp only
  unfold out0_A_3
  rw [View.read_writes_eq_canon (h := fun y => cover0_A_3 ..)]
  unfold kernelRun0_A
  dsimp only
  sl_unfold_words
  simp only [canon2, cov2, canon3, cov3, View.readAt_eq_ld, ld2, ld3, Memref.IsWhole.read_unread, read_unread_whole]
  rfl

/-- A point's block of outputs kept whole. -/
theorem o4 (t : Fin cfg0.N) : (outsAt0 m c t).2 = View.canon (outs (iblk m c 0 t) (iblk m c 1 t) (iblk m c 2 t)) := by
  unfold outsAt0
  dsimp only
  unfold out0_A_4
  rw [View.read_writes_eq_canon (h := fun y => cover0_A_4 ..)]
  unfold kernelRun0_A
  dsimp only
  sl_unfold_words
  simp only [canon2, cov2, canon3, cov3, View.readAt_eq_ld, ld2, ld3, Memref.IsWhole.read_unread, read_unread_whole]
  rfl

end Points

end Cert.FwdAttnIdeal.Block

end
-- ==== Proof.FwdAttn.Pay.lean ====
/- The attention kernel's payloads at an index, over blocks of finite numbers. -/
module

public import proofs.«01_k».proof.Proof.FwdAttn.Block
public import proofs.«01_k».proof.Proof.BwdAttn.Pay
public import proofs.«01_k».proof.Proof.Softmax
public import Idealize.ShloMosaic.Lib.Pipeline.ValueKit.Tiles

@[expose] public section

set_option maxRecDepth 16384
set_option maxHeartbeats 1000000

noncomputable section

open Idealize.ShloMosaic Idealize.ShloMosaic.TcCoe Idealize.SL.Sem

namespace Cert.FwdAttnIdeal.Pay

open Cert.FwdAttnIdeal Cert.FwdAttnIdeal.Gen Cert.Sums Cert.Softmax
open Cert.BwdAttnIdeal.Pay (s score ex il ex_pos exp2_named)

theorem named_log2 : (Named.named κ "scale_log2_e" (F := Ideal) (φ := .f32) 1037384597#32 : EReal) = ((s * (Real.log 2)⁻¹ : ℝ) : EReal) := rfl

/-- A query row's output: its exponentials' sum over the values, over their own sum. -/
def val (q : Fin 256 → ℝ) (k : Fin 4096 → Fin 256 → ℝ) (v : Fin 4096 → Fin 128 → ℝ) (x : Fin 128) : ℝ := (∑ j, ex q k j * v j x) * il q k

section Rows

variable {k : FVec Ideal S1x4096x256 .bf16} {q : FVec Ideal S1x256x256 .bf16} {v : FVec Ideal S1x4096x128 .bf16}
variable {Q : Fin 256 → Fin 256 → ℝ} {K : Fin 4096 → Fin 256 → ℝ} {V : Fin 4096 → Fin 128 → ℝ}
variable (hq : ∀ r x, q (ix3 0 r x) = (Q r x : EReal)) (hk : ∀ j x, k (ix3 0 j x) = (K j x : EReal))
variable (hv : ∀ j x, v (ix3 0 j x) = (V j x : EReal))

include hq hk hv in
/-- A stretch's outputs. -/
theorem pay3 (r : Fin 256) (x : Fin 128) : k0_pay3 (F := Ideal) q k v (ix2 r x) = (val (Q r) K V x : EReal) := by
  pointwise [k0_pay3]
  simp only [hq, hk, hv, ← EReal.coe_mul, coe_sum, bot_word, fold_top, ← EReal.coe_sub, named_log2, exp2_named]
  unfold val
  rw [EReal.coe_mul]
  congr 1
  rw [← EReal.coe_one]
  exact (Ideal.div_coe (ex_pos (Q r) K).ne' _).trans (by rw [← EReal.coe_mul, one_mul]; rfl)

include hq hk hv in
/-- The same outputs in half the digits. -/
theorem pay4 (r : Fin 256) (x : Fin 128) : k0_pay4 (F := Ideal) q k v (ix2 r x) = (val (Q r) K V x : EReal) :=
  Eq.trans (by pointwise [k0_pay4]) (pay3 hq hk hv r x)

end Rows

variable {k : FVec Ideal S1x4096x256 .bf16} {q : FVec Ideal S1x2048x256 .bf16} {v : FVec Ideal S1x4096x128 .bf16}
variable {Q : Fin 2048 → Fin 256 → ℝ} {K : Fin 4096 → Fin 256 → ℝ} {V : Fin 4096 → Fin 128 → ℝ}
variable (hq : ∀ r x, q (ix3 0 r x) = (Q r x : EReal)) (hk : ∀ j x, k (ix3 0 j x) = (K j x : EReal))
variable (hv : ∀ j x, v (ix3 0 j x) = (V j x : EReal))

/-- The row a stretch's row is. -/
def at_ (o : Nat) (h : o + 256 ≤ 2048) (r : Fin 256) : Fin 2048 := ⟨o + r.val, by omega⟩

include hq in
theorem rowsQ_at (o : Nat) (h : o + 256 ≤ 2048) (r x : Fin 256) : Block.rowsQ (F := Ideal) o h q (ix3 0 r x) = (Q (at_ o h r) x : EReal) := by
  rw [← hq]
  refine View.ld_unit_apply_of (Val := Elt Ideal) (e := .bf16) q _ _ _ _ _ fun b => ?_
  match b with
  | ⟨0, _⟩ => rfl
  | ⟨1, _⟩ => rfl
  | ⟨2, _⟩ => exact (Nat.zero_add _).symm

/-- A store that holds a row function's values holds them wherever it reaches. -/
theorem piece_f32 (r : Fin 2048) (x : Fin 128) (o : ℕ) (h : o + 256 ≤ 2048) (P : FVec Ideal S256x128 .f32)
    (hP : ∀ i y, P (ix2 i y) = (val (Q (at_ o h i)) K V y : EReal)) :
    View.TileAt (Val := Elt Ideal) (S := S2048x128) (e := .f32) (ix2 r x) ![o, 0] ![256, 128] P (val (Q r) K V x : EReal) := by
  intro z hz
  idx_vars z
  have e0 : r.val = o + z0.val := hz 0
  have e1 : x.val = 0 + z1.val := hz 1
  obtain rfl : x = z1 := Fin.ext (by omega)
  obtain rfl : r = at_ o h z0 := Fin.ext e0
  exact hP z0 x

/-- A store that holds a row function's values holds them wherever it reaches. -/
theorem piece_bf16 (r : Fin 2048) (x : Fin 128) (o : ℕ) (h : o + 256 ≤ 2048) (P : FVec Ideal S256x128 .bf16)
    (hP : ∀ i y, P (ix2 i y) = (val (Q (at_ o h i)) K V y : EReal)) :
    View.TileAt (Val := Elt Ideal) (S := S2048x128) (e := .bf16) (ix2 r x) ![o, 0] ![256, 128] P (val (Q r) K V x : EReal) := by
  intro z hz
  idx_vars z
  have e0 : r.val = o + z0.val := hz 0
  have e1 : x.val = 0 + z1.val := hz 1
  obtain rfl : x = z1 := Fin.ext (by omega)
  obtain rfl : r = at_ o h z0 := Fin.ext e0
  exact hP z0 x

include hq hk hv in
/-- A point's outputs: the eight stores are one function. -/
theorem outs_at (r : Fin 2048) (x : Fin 128) : (View.canon (Val := Elt Ideal) (Block.outs q k v) : FVec Ideal S2048x128 .f32) (ix2 r x) = (val (Q r) K V x : EReal) := by
  refine View.canon_eq_of_allAt _ _ _ (View.cover_of_tiled_head _ _ _ rfl _) ?_
  unfold Block.outs
  refine View.allAt_cons_unit _ _ _ _ _ (piece_f32 r x 1792 (by omega) _ fun i y => pay3 (rowsQ_at hq 1792 (by omega)) hk hv i y) ?_
  refine View.allAt_cons_unit _ _ _ _ _ (piece_f32 r x 1536 (by omega) _ fun i y => pay3 (rowsQ_at hq 1536 (by omega)) hk hv i y) ?_
  refine View.allAt_cons_unit _ _ _ _ _ (piece_f32 r x 1280 (by omega) _ fun i y => pay3 (rowsQ_at hq 1280 (by omega)) hk hv i y) ?_
  refine View.allAt_cons_unit _ _ _ _ _ (piece_f32 r x 1024 (by omega) _ fun i y => pay3 (rowsQ_at hq 1024 (by omega)) hk hv i y) ?_
  refine View.allAt_cons_unit _ _ _ _ _ (piece_f32 r x 768 (by omega) _ fun i y => pay3 (rowsQ_at hq 768 (by omega)) hk hv i y) ?_
  refine View.allAt_cons_unit _ _ _ _ _ (piece_f32 r x 512 (by omega) _ fun i y => pay3 (rowsQ_at hq 512 (by omega)) hk hv i y) ?_
  refine View.allAt_cons_unit _ _ _ _ _ (piece_f32 r x 256 (by omega) _ fun i y => pay3 (rowsQ_at hq 256 (by omega)) hk hv i y) ?_
  refine View.allAt_cons_unit _ _ _ _ _ (piece_f32 r x 0 (by omega) _ fun i y => pay3 (rowsQ_at hq 0 (by omega)) hk hv i y) ?_
  exact View.allAt_nil _ _

include hq hk hv in
/-- The same of the outputs in half the digits. -/
theorem halves_at (r : Fin 2048) (x : Fin 128) : (View.canon (Val := Elt Ideal) (Block.halves q k v) : FVec Ideal S2048x128 .bf16) (ix2 r x) = (val (Q r) K V x : EReal) := by
  refine View.canon_eq_of_allAt _ _ _ (View.cover_of_tiled_head _ _ _ rfl _) ?_
  unfold Block.halves
  refine View.allAt_cons_unit _ _ _ _ _ (piece_bf16 r x 1792 (by omega) _ fun i y => pay4 (rowsQ_at hq 1792 (by omega)) hk hv i y) ?_
  refine View.allAt_cons_unit _ _ _ _ _ (piece_bf16 r x 1536 (by omega) _ fun i y => pay4 (rowsQ_at hq 1536 (by omega)) hk hv i y) ?_
  refine View.allAt_cons_unit _ _ _ _ _ (piece_bf16 r x 1280 (by omega) _ fun i y => pay4 (rowsQ_at hq 1280 (by omega)) hk hv i y) ?_
  refine View.allAt_cons_unit _ _ _ _ _ (piece_bf16 r x 1024 (by omega) _ fun i y => pay4 (rowsQ_at hq 1024 (by omega)) hk hv i y) ?_
  refine View.allAt_cons_unit _ _ _ _ _ (piece_bf16 r x 768 (by omega) _ fun i y => pay4 (rowsQ_at hq 768 (by omega)) hk hv i y) ?_
  refine View.allAt_cons_unit _ _ _ _ _ (piece_bf16 r x 512 (by omega) _ fun i y => pay4 (rowsQ_at hq 512 (by omega)) hk hv i y) ?_
  refine View.allAt_cons_unit _ _ _ _ _ (piece_bf16 r x 256 (by omega) _ fun i y => pay4 (rowsQ_at hq 256 (by omega)) hk hv i y) ?_
  refine View.allAt_cons_unit _ _ _ _ _ (piece_bf16 r x 0 (by omega) _ fun i y => pay4 (rowsQ_at hq 0 (by omega)) hk hv i y) ?_
  exact View.allAt_nil _ _

end Cert.FwdAttnIdeal.Pay

end
-- ==== Proof.FwdAttn.Host.lean ====
/- The buffers the attention kernel's host lines prepare, at an index: queries and keys head by head with 64 zero columns appended, values head by head. -/
module

public import proofs.«01_k».proof.Proof.Gen.FwdAttnIdeal.Value
public import proofs.«01_k».proof.Proof.BwdAttn.Host
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.FwdAttnIdeal.Host

open Cert.FwdAttnIdeal Cert.FwdAttnIdeal.Gen Cert.Sums
open Cert.AttnVjpIdeal.At (fill_word)
open Cert.BwdAttnIdeal.Host (wide)

variable (m : (ℓ : Loc nD τ sig) → Buf (Elt Ideal) ℓ) (c : Dev nD)

/-- The query argument. -/
abbrev argQ : FVec Ideal S4096x4x192 .bf16 := m (c.tc.loc main_arg0)
/-- The key argument. -/
abbrev argK : FVec Ideal S4096x4x192 .bf16 := m (c.tc.loc main_arg1)
/-- The value argument. -/
abbrev argV : FVec Ideal S4096x4x128 .bf16 := m (c.tc.loc main_arg2)

theorem hostQ (h : Fin 4) (r : Fin 4096) (x : Fin 256) :
    (V m c main_v3 : FVec Ideal S4x4096x256 .bf16) (ix3 h r x) = (if hx : x.val < 192 then argQ m c (ix3 r h ⟨x.val, hx⟩) else ((0 : ℝ) : EReal)) := by
  unfold V
  after_reads_at
  split
  · rfl
  · exact fill_word

theorem hostK (h : Fin 4) (r : Fin 4096) (x : Fin 256) :
    (V m c main_v7 : FVec Ideal S4x4096x256 .bf16) (ix3 h r x) = (if hx : x.val < 192 then argK m c (ix3 r h ⟨x.val, hx⟩) else ((0 : ℝ) : EReal)) := by
  unfold V
  after_reads_at
  split
  · rfl
  · exact fill_word

theorem hostV (h : Fin 4) (r : Fin 4096) (x : Fin 128) :
    (V m c main_v8 : FVec Ideal S4x4096x128 .bf16) (ix3 h r x) = argV m c (ix3 r h x) := by
  unfold V
  after_reads_at

variable {m c}
variable {Q K : Fin 4 → Fin 4096 → Fin 192 → ℝ} {W : Fin 4 → Fin 4096 → Fin 128 → ℝ}
variable (hq : ∀ i h a, argQ m c (ix3 i h a) = (Q h i a : EReal)) (hk : ∀ i h a, argK m c (ix3 i h a) = (K h i a : EReal))

include hq in
theorem hostQ_at (h : Fin 4) (r : Fin 4096) (x : Fin 256) : (V m c main_v3 : FVec Ideal S4x4096x256 .bf16) (ix3 h r x) = (wide Q h r x : EReal) := by
  rw [hostQ]
  unfold wide
  split
  · exact hq ..
  · rfl

include hk in
theorem hostK_at (h : Fin 4) (r : Fin 4096) (x : Fin 256) : (V m c main_v7 : FVec Ideal S4x4096x256 .bf16) (ix3 h r x) = (wide K h r x : EReal) := by
  rw [hostK]
  unfold wide
  split
  · exact hk ..
  · rfl

end Cert.FwdAttnIdeal.Host

end
-- ==== Proof.FwdAttn.Ref.lean ====
/- The attention reference at an index, over finite arguments: each line as one real number. -/
module

public import proofs.«01_k».proof.Proof.Gen.AttnRefIdeal.Read
public import proofs.«01_k».proof.Proof.BwdAttn.Ref
public import Idealize.ShloMosaic.Lib.Tactic

@[expose] public section

set_option maxRecDepth 16384
set_option maxHeartbeats 1000000

noncomputable section

open Idealize.ShloMosaic Idealize.ShloMosaic.TcCoe Idealize.SL.Sem

namespace Cert.AttnRefIdeal.At

open Cert.AttnRefIdeal Cert.AttnRefIdeal.Read Cert.Sums Cert.Softmax
open Cert.AttnVjpIdeal.At (root_word root_pos sc e es es_pos weight_eq out)

variable {q k : FVec Ideal S4096x4x192 .bf16} {v : FVec Ideal S4096x4x128 .bf16}
variable {Q K : Fin 4 → Fin 4096 → Fin 192 → ℝ} {V : Fin 4 → Fin 4096 → Fin 128 → ℝ}
variable (hq : ∀ i h a, q (ix3 i h a) = (Q h i a : EReal)) (hk : ∀ i h a, k (ix3 i h a) = (K h i a : EReal))
variable (hv : ∀ i h a, v (ix3 i h a) = (V h i a : EReal))
variable (h : Fin 4) (i j : Fin 4096)

include hq hk in
/-- The scores. -/
theorem v6 : val_main_v6 (F := Ideal) q k (ix3 h i j) = (sc Q K h i j : EReal) := by
  pointwise [val_main_v6, val_main_v5, val_main_v4, val_main_cst, val_main_v3, val_main_v0, val_main_v1]
  simp only [hq, hk, ← EReal.coe_mul, coe_sum]
  rw [root_word]
  exact Ideal.div_coe root_pos.ne' _

include hq hk in
/-- A row's largest score. -/
theorem v9 : val_main_v9 (F := Ideal) q k (ix2 h i) = (top (sc Q K h i) : EReal) := by
  have h7 : val_main_v7 (F := Ideal) q k (ix2 h i) = (top (sc Q K h i) : EReal) := by
    refine (reduce_max3 (val_main_v6 (F := Ideal) q k) (val_main_cst_0 (F := Ideal)) _ _ h i).trans ?_
    simp only [v6 hq hk]
    rw [show val_main_cst_0 (F := Ideal) _ = (⊥ : EReal) from bot_word, fold_top]
  rw [val_main_v9_apply, h7]
  pointwise [val_main_v8, val_main_cst_1]
  rw [bot_word]
  exact max_eq_right bot_le

include hq hk in
theorem v13 : val_main_v13 (F := Ideal) q k (ix3 h i j) = (e Q K h i j : EReal) := by
  pointwise [val_main_v13, val_main_v12, val_main_v11, val_main_v10]
  rw [v6 hq hk, v9 hq hk, ← EReal.coe_sub]
  rfl

include hq hk in
theorem v14 : val_main_v14 (F := Ideal) q k (ix2 h i) = (es Q K h i : EReal) := by
  pointwise [val_main_v14, val_main_cst_2]
  simp only [v13 hq hk, coe_sum]
  rfl

include hq hk in
/-- The weights. -/
theorem v17 : val_main_v17 (F := Ideal) q k (ix3 h i j) = (weight (sc Q K h i) j : EReal) := by
  pointwise [val_main_v17, val_main_v16, val_main_v15]
  rw [v13 hq hk, v14 hq hk, Ideal.div_coe (es_pos h i).ne', ← EReal.coe_mul, ← weight_eq, mul_one_div]

include hq hk hv in
theorem v19 (x : Fin 128) : val_main_v19 (F := Ideal) q k v (ix3 i h x) = (out Q K V h i x : EReal) := by
  pointwise [val_main_v19, val_main_v18, val_main_v2]
  simp only [v17 hq hk, hv, ← EReal.coe_mul, coe_sum]
  rfl

/-- A head's column of the outputs. -/
def col (h : Fin 4) (x : Fin 128) : Fin 512 := ⟨h.val * 128 + x.val, by omega⟩

include hq hk hv in
/-- The outputs, heads side by side. -/
theorem v20 (x : Fin 128) : val_main_v20 (F := Ideal) q k v (ix2 i (col h x)) = (out Q K V h i x : EReal) := by
  rw [← v19 hq hk hv h i x]
  unfold val_main_v20 col
  pointwise

include hq hk hv in
/-- The same in half the digits. -/
theorem v21 (x : Fin 128) : val_main_v21 (F := Ideal) q k v (ix2 i (col h x)) = (out Q K V h i x : EReal) :=
  Eq.trans (by pointwise [val_main_v21]) (v20 hq hk hv h i x)

end Cert.AttnRefIdeal.At

end
-- ==== Proof.FwdAttn.Value.lean ====
/- The attention kernel's two results at an index, over finite arguments, and their equality with the reference's. -/
module

public import proofs.«01_k».proof.Proof.At
public import proofs.«01_k».proof.Proof.FwdAttn.Pay
public import proofs.«01_k».proof.Proof.FwdAttn.Host
public import proofs.«01_k».proof.Proof.FwdAttn.Ref
public import proofs.«01_k».proof.Proof.BwdAttn.Value

@[expose] public section

set_option maxRecDepth 16384
set_option maxHeartbeats 1000000

noncomputable section

open Idealize.ShloMosaic Idealize.ShloMosaic.TcCoe Idealize.SL.Sem

namespace Cert.FwdAttnIdeal.Final

open Cert.FwdAttnIdeal Cert.FwdAttnIdeal.Gen Cert.FwdAttnIdeal.Value Cert.Sums Cert.Softmax Cert.FwdAttnIdeal.Host Cert.At
open Cert.AttnVjpIdeal.At (sc out)
open Cert.BwdAttnIdeal.Host (wide)
open Cert.BwdAttnIdeal.Final (kx kl kx_kl)
open Cert.AttnRefIdeal.At (col)

variable {m : (ℓ : Loc nD τ sig) → Buf (Elt Ideal) ℓ} {c : Dev nD}
variable {Q K : Fin 4 → Fin 4096 → Fin 192 → ℝ} {W : Fin 4 → Fin 4096 → Fin 128 → ℝ}
variable (hq : ∀ i h a, argQ m c (ix3 i h a) = (Q h i a : EReal)) (hk : ∀ i h a, argK m c (ix3 i h a) = (K h i a : EReal))
variable (hv : ∀ i h a, argV m c (ix3 i h a) = (W h i a : EReal))

theorem at0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)

theorem at1 : ∀ t : Fin cfg0.N, win0_1.index t (0 : Fin 3) = t.val / 2 ∧ win0_1.index t (1 : Fin 3) = 0 ∧ win0_1.index t (2 : Fin 3) = 0 :=
  (by decide +kernel : ∀ t : Fin grid0.N, _)

theorem at2 : ∀ t : Fin cfg0.N, win0_2.index t (0 : Fin 3) = t.val / 2 ∧ win0_2.index t (1 : Fin 3) = 0 ∧ win0_2.index t (2 : Fin 3) = 0 :=
  (by decide +kernel : ∀ t : Fin grid0.N, _)

theorem at3 : ∀ t : Fin cfg0.N, win0_3.index t (0 : Fin 2) = t.val % 2 ∧ win0_3.index t (1 : Fin 2) = t.val / 2 :=
  (by decide +kernel : ∀ t : Fin grid0.N, _)

theorem at4 : ∀ t : Fin cfg0.N, win0_4.index t (0 : Fin 2) = t.val % 2 ∧ win0_4.index t (1 : Fin 2) = t.val / 2 :=
  (by decide +kernel : ∀ t : Fin grid0.N, _)

theorem flush3 : ∀ t : Fin cfg0.N, (cfg0.win 3).flush t = true :=
  (by decide +kernel : ∀ t : Fin grid0.N, _)

theorem flush4 : ∀ t : Fin cfg0.N, (cfg0.win 4).flush t = true :=
  (by decide +kernel : ∀ t : Fin grid0.N, _)

theorem lt8 (t : Fin cfg0.N) : t.val < 8 := lt_of_lt_of_eq t.isLt (show cfg0.N = 8 from N_0)

/-- A point's head. -/
def hd4 (t : Fin cfg0.N) : Fin 4 := ⟨t.val / 2, by have := lt8 t; omega⟩

/-- A point's query row among all. -/
def row (t : Fin cfg0.N) (r : Fin 2048) : Fin 4096 := ⟨t.val % 2 * 2048 + r.val, by omega⟩

theorem blk0 (t : Fin cfg0.N) (k : Fin 2048) (l : Fin 256) (R : Fin 4) (K : Fin 4096) (hR : R.val = t.val / 2 * 1 + 0) (hK : K.val = t.val % 2 * 2048 + k.val) :
    (iblk m c 0 t : FVec Ideal S1x2048x256 .bf16) (ix3 0 k l) = V m c main_v3 (ix3 R K l) := by
  obtain ⟨f0, f1, f2⟩ := at0 t
  unfold iblk
  rw [View.read_apply]
  exact congrArg (V m c main_v3) (ext3 ((moved f0).trans hR.symm) ((moved f1).trans hK.symm) (fixed f2))

theorem blk1 (t : Fin cfg0.N) (k : Fin 4096) (l : Fin 256) (R : Fin 4) (hR : R.val = t.val / 2 * 1 + 0) :
    (iblk m c 1 t : FVec Ideal S1x4096x256 .bf16) (ix3 0 k l) = V m c main_v7 (ix3 R k l) := by
  obtain ⟨f0, f1, f2⟩ := at1 t
  unfold iblk
  rw [View.read_apply]
  exact congrArg (V m c main_v7) (ext3 ((moved f0).trans hR.symm) (fixed f1) (fixed f2))

theorem blk2 (t : Fin cfg0.N) (k : Fin 4096) (l : Fin 128) (R : Fin 4) (hR : R.val = t.val / 2 * 1 + 0) :
    (iblk m c 2 t : FVec Ideal S1x4096x128 .bf16) (ix3 0 k l) = V m c main_v8 (ix3 R k l) := by
  obtain ⟨f0, f1, f2⟩ := at2 t
  unfold iblk
  rw [View.read_apply]
  exact congrArg (V m c main_v8) (ext3 ((moved f0).trans hR.symm) (fixed f1) (fixed f2))

include hq in
theorem inQ (t : Fin cfg0.N) (r : Fin 2048) (x : Fin 256) : (iblk m c 0 t : FVec Ideal S1x2048x256 .bf16) (ix3 0 r x) = (wide Q (hd4 t) (row t r) x : EReal) :=
  (blk0 t r x (hd4 t) (row t r) (by show t.val / 2 = t.val / 2 * 1 + 0; omega) rfl).trans (hostQ_at hq _ _ _)

include hk in
theorem inK (t : Fin cfg0.N) (j : Fin 4096) (x : Fin 256) : (iblk m c 1 t : FVec Ideal S1x4096x256 .bf16) (ix3 0 j x) = (wide K (hd4 t) j x : EReal) :=
  (blk1 t j x (hd4 t) (by show t.val / 2 = t.val / 2 * 1 + 0; omega)).trans (hostK_at hk _ _ _)

include hv in
theorem inV (t : Fin cfg0.N) (j : Fin 4096) (x : Fin 128) : (iblk m c 2 t : FVec Ideal S1x4096x128 .bf16) (ix3 0 j x) = (W (hd4 t) j x : EReal) :=
  (blk2 t j x (hd4 t) (by show t.val / 2 = t.val / 2 * 1 + 0; omega)).trans ((hostV m c _ _ _).trans (hv ..))

/-- A row's output, as the kernel forms it, is the reference's. -/
theorem val_out (h : Fin 4) (i : Fin 4096) (x : Fin 128) : Pay.val (wide Q h i) (wide K h) (W h) x = out Q K W h i x := by
  unfold Pay.val out
  rw [Finset.sum_mul]
  refine Finset.sum_congr rfl fun j _ => ?_
  rw [← kx_kl]
  show kx Q K h i j * W h j x * kl Q K h i = _
  ring

/-- The array of outputs in half the digits. -/
abbrev arr3 (m : (ℓ : Loc nD τ sig) → Buf (Elt Ideal) ℓ) (c : Dev nD) : FVec Ideal S4096x512 .bf16 := (dats m 0 c).arrAt 3 cfg0.N

/-- The array of outputs kept whole. -/
abbrev arr4 (m : (ℓ : Loc nD τ sig) → Buf (Elt Ideal) ℓ) (c : Dev nD) : FVec Ideal S4096x512 .f32 := (dats m 0 c).arrAt 4 cfg0.N

theorem cell3 (t : Fin cfg0.N) (r : Fin 2048) (x : Fin 128) :
    arr3 m c (ix2 (row t r) (col (hd4 t) x)) = ((outsAt0 m c t).1 : FVec Ideal S2048x128 .bf16) (ix2 r x) := by
  obtain ⟨f0, f1⟩ := at3 t
  have h := congrFun ((blocks3 m c t (flush3 t)).trans (flushed3 m c t)) (ix2 r x)
  rw [View.read_apply] at h
  exact (congrArg (arr3 m c) (ext2 (moved f0) (moved f1)).symm).trans h

theorem cell4 (t : Fin cfg0.N) (r : Fin 2048) (x : Fin 128) :
    arr4 m c (ix2 (row t r) (col (hd4 t) x)) = ((outsAt0 m c t).2 : FVec Ideal S2048x128 .f32) (ix2 r x) := by
  obtain ⟨f0, f1⟩ := at4 t
  have h := congrFun ((blocks4 m c t (flush4 t)).trans (flushed4 m c t)) (ix2 r x)
  rw [View.read_apply] at h
  exact (congrArg (arr4 m c) (ext2 (moved f0) (moved f1)).symm).trans h

include hq hk hv in
theorem halves_at (t : Fin cfg0.N) (r : Fin 2048) (x : Fin 128) : arr3 m c (ix2 (row t r) (col (hd4 t) x)) = (out Q K W (hd4 t) (row t r) x : EReal) := by
  rw [cell3, Block.o3, Pay.halves_at (Q := fun r => wide Q (hd4 t) (row t r)) (inQ hq t) (inK hk t) (inV hv t) r x, val_out]

include hq hk hv in
theorem outs_at (t : Fin cfg0.N) (r : Fin 2048) (x : Fin 128) : arr4 m c (ix2 (row t r) (col (hd4 t) x)) = (out Q K W (hd4 t) (row t r) x : EReal) := by
  rw [cell4, Block.o4, Pay.outs_at (Q := fun r => wide Q (hd4 t) (row t r)) (inQ hq t) (inK hk t) (inV hv t) r x, val_out]

/-- The point that holds an output. -/
theorem holds (i : Fin 4096) (a : Fin 512) : ∃ (t : Fin cfg0.N) (r : Fin 2048) (x : Fin 128), i = row t r ∧ a = col (hd4 t) x := by
  refine ⟨⟨a.val / 128 * 2 + i.val / 2048, lt_of_lt_of_eq (by omega) (show 8 = cfg0.N from N_0.symm)⟩, ⟨i.val % 2048, by omega⟩, ⟨a.val % 128, by omega⟩, Fin.ext ?_, Fin.ext ?_⟩
  · show i.val = (a.val / 128 * 2 + i.val / 2048) % 2 * 2048 + i.val % 2048
    omega
  · show a.val = (a.val / 128 * 2 + i.val / 2048) / 2 * 128 + a.val % 128
    omega

include hq hk hv in
/-- The outputs in half the digits are the reference's. -/
theorem value3 : Cert.AttnRefIdeal.Read.val_main_v21 (F := Ideal) (argQ m c) (argK m c) (argV m c) = arr3 m c := by
  funext y
  idx_vars y
  obtain ⟨t, r, x, rfl, rfl⟩ := holds y0 y1
  rw [halves_at hq hk hv, Cert.AttnRefIdeal.At.v21 hq hk hv]

include hq hk hv in
/-- The outputs kept whole are the reference's. -/
theorem value4 : Cert.AttnRefIdeal.Read.val_main_v20 (F := Ideal) (argQ m c) (argK m c) (argV m c) = arr4 m c := by
  funext y
  idx_vars y
  obtain ⟨t, r, x, rfl, rfl⟩ := holds y0 y1
  rw [outs_at hq hk hv, Cert.AttnRefIdeal.At.v20 hq hk hv]

end Cert.FwdAttnIdeal.Final

end
-- ==== Proof.FwdAttn.Claims.lean ====
/- The claims about the attention's forward call. -/
module

public import proofs.«01_k».proof.Defs
public import proofs.«01_k».proof.Proof.FwdAttn.Value
public import proofs.«01_k».proof.Proof.Gen.AttnRefIdeal.Run
public import proofs.«01_k».proof.Proof.Gen.FwdAttn.Frame
public import proofs.«01_k».proof.Proof.Gen.Pre_finite_fwd_attn
public import Idealize.ShloMosaic.Lib.Quiescent

@[expose] public section

set_option maxRecDepth 16384

noncomputable section

open Idealize.ShloMosaic Idealize.SL.Sem

namespace Cert.FwdAttnClaims

open Cert.FwdAttnIdeal.Final Cert.Sums

/-- The reference runs to the end, keeps its arguments and has no counters. -/
theorem frame_ref : Cert.quiescent_AttnRefIdeal := fun m ρ _ =>
  (θ_run Cert.AttnRefIdeal.defs _ _).mono
    (fun r h => ⟨fun c => (h c).2.2, sem_eq_zero_of_no_sems (by decide) r.2⟩)
    (Cert.AttnRefIdeal.Value.run (F := Ideal) m ρ)

/-- The named constant is the written-out value of the literal it replaces. -/
theorem named : Cert.preserves_FwdAttn_FwdAttnIdeal :=
  IdealRules.named_const.statement Cert.FwdAttnIdeal.κ "scale_log2_e" .f32 0x3DD53B95#32 _ rfl

set_option maxHeartbeats 2000000 in
/-- The kernel's run gives the reference's results. -/
theorem value : Cert.algebraic_FwdAttnIdeal_AttnRefIdeal_pre_finite_fwd_attn := by
  intro m ρ m' ρ' hpre hargs
  refine ⟨_, _, Cert.FwdAttnIdeal.Value.run_blocks m ρ,
    (θ_run Cert.AttnRefIdeal.defs _ _).mono (fun r h c => ?_) (Cert.AttnRefIdeal.Value.run (F := Ideal) m' ρ')⟩
  obtain ⟨p0, p1, p2⟩ := hpre c
  obtain ⟨X0, e0⟩ := real_of_pre (s0 := Cert.Pre_finite_fwd_attn.S_) (Cert.FwdAttnIdeal.Host.argQ m c) _ p0
  have hq : ∀ i h a, Cert.FwdAttnIdeal.Host.argQ m c (ix3 i h a) = ((fun h i a => X0 (ix3 i h a) : Fin 4 → Fin 4096 → Fin 192 → ℝ) h i a : EReal) := fun i h a => congrFun e0 _
  obtain ⟨X1, e1⟩ := real_of_pre (s0 := Cert.Pre_finite_fwd_attn.S_) (Cert.FwdAttnIdeal.Host.argK m c) _ p1
  have hk : ∀ i h a, Cert.FwdAttnIdeal.Host.argK m c (ix3 i h a) = ((fun h i a => X1 (ix3 i h a) : Fin 4 → Fin 4096 → Fin 192 → ℝ) h i a : EReal) := fun i h a => congrFun e1 _
  obtain ⟨X2, e2⟩ := real_of_pre (s0 := Cert.Pre_finite_fwd_attn.S_) (Cert.FwdAttnIdeal.Host.argV m c) _ p2
  have hv : ∀ i h a, Cert.FwdAttnIdeal.Host.argV m c (ix3 i h a) = ((fun h i a => X2 (ix3 i h a) : Fin 4 → Fin 4096 → Fin 128 → ℝ) h i a : EReal) := fun i h a => congrFun e2 _
  obtain ⟨a0, a1, a2, a3⟩ := hargs c
  obtain ⟨h0_, h1_, hkept⟩ := h c
  refine ⟨h0_.trans ?_, h1_.trans ?_, hkept⟩
  · refine (Cert.AttnRefIdeal.Read.val_main_v21_eq _ _ _ ).trans ?_
    rw [a0, a1, a2]
    exact value3 hq hk hv
  · refine (Cert.AttnRefIdeal.Read.val_main_v20_eq _ _ _ ).trans ?_
    rw [a0, a1, a2]
    exact value4 hq hk hv

end Cert.FwdAttnClaims

end
-- ==== Proof.BwdMla.First.lean ====
module

public import proofs.«01_k».proof.Proof.Gen.BwdMlaIdeal.Frame.Runs

@[expose] public section

set_option maxRecDepth 16384

noncomputable section

namespace Cert.BwdMla.Hand

open Cert.BwdMlaIdeal Cert.BwdMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The staging buffers and the two scratch buffers the body is called with, all whole. -/
structure Ops where
  a1 : Memref sig .tc .vmem S512x256 .f32
  w1 : a1.IsWhole
  a2 : Memref sig .tc .vmem S512x256 .f32
  w2 : a2.IsWhole
  a3 : Memref sig .tc .vmem S512x128 .f32
  w3 : a3.IsWhole
  a4 : Memref sig .tc .vmem S4x512x256 .f32
  w4 : a4.IsWhole
  a5 : Memref sig .tc .vmem S4x512x256 .f32
  w5 : a5.IsWhole
  a6 : Memref sig .tc .vmem S4x512x128 .f32
  w6 : a6.IsWhole
  a7 : Memref sig .tc .vmem S512x128 .f32
  w7 : a7.IsWhole
  a8 : Memref sig .tc .vmem S512x128 .f32
  w8 : a8.IsWhole
  a9 : Memref sig .tc .vmem S512x128 .f32
  w9 : a9.IsWhole
  a10 : Memref sig .tc .vmem S1x256 .f32
  w10 : a10.IsWhole
  a11 : Memref sig .tc .vmem S1x256 .f32
  w11 : a11.IsWhole
  a12 : Memref sig .tc .vmem S256x1024 .bf16
  w12 : a12.IsWhole
  a13 : Memref sig .tc .vmem S256x1024 .bf16
  w13 : a13.IsWhole
  a14 : Memref sig .tc .vmem S1x256 .f32
  w14 : a14.IsWhole
  a15 : Memref sig .tc .vmem S1x256 .f32
  w15 : a15.IsWhole
  a16 : Memref sig .tc .vmem S512x640 .bf16
  w16 : a16.IsWhole
  a17 : Memref sig .tc .vmem S256x1024 .f32
  w17 : a17.IsWhole
  a18 : Memref sig .tc .vmem S256x1024 .f32
  w18 : a18.IsWhole
  a19 : Memref sig .tc .vmem S1x256 .f32
  w19 : a19.IsWhole
  a20 : Memref sig .tc .vmem S1x256 .f32
  w20 : a20.IsWhole
  a21 : Memref sig .tc .vmem S1x256 .f32
  w21 : a21.IsWhole
  a22 : Memref sig .tc .vmem S1x256 .f32
  w22 : a22.IsWhole
  a23 : Memref sig .tc .vmem S512x1024 .bf16
  w23 : a23.IsWhole
  a24 : Memref sig .tc .vmem S512x1024 .bf16
  w24 : a24.IsWhole

/-- The blocks of the fifteen inputs at one grid point. -/
structure Ins (F : FTy → Type) where
  x0 : Vec F S512x256 .f32
  x1 : Vec F S512x256 .f32
  x2 : Vec F S512x128 .f32
  x3 : Vec F S4x512x256 .f32
  x4 : Vec F S4x512x256 .f32
  x5 : Vec F S4x512x128 .f32
  x6 : Vec F S512x128 .f32
  x7 : Vec F S512x128 .f32
  x8 : Vec F S512x128 .f32
  x9 : Vec F S1x256 .f32
  x10 : Vec F S1x256 .f32
  x11 : Vec F S256x1024 .bf16
  x12 : Vec F S256x1024 .bf16
  x13 : Vec F S1x256 .f32
  x14 : Vec F S1x256 .f32

/-- The contents of the seven outputs' buffers: the tile of dz and the six running sums. -/
structure Outs (F : FTy → Type) where
  y15 : Vec F S512x640 .bf16
  y16 : Vec F S256x1024 .f32
  y17 : Vec F S256x1024 .f32
  y18 : Vec F S1x256 .f32
  y19 : Vec F S1x256 .f32
  y20 : Vec F S1x256 .f32
  y21 : Vec F S1x256 .f32

/-- The stores of one run of the body, last first, in each buffer it writes. -/
structure Stores (F : FTy → Type) where
  l15 : List (View.Piece (Elt F) S512x640 .bf16)
  l16 : List (View.Piece (Elt F) S256x1024 .f32)
  l17 : List (View.Piece (Elt F) S256x1024 .f32)
  l18 : List (View.Piece (Elt F) S1x256 .f32)
  l19 : List (View.Piece (Elt F) S1x256 .f32)
  l20 : List (View.Piece (Elt F) S1x256 .f32)
  l21 : List (View.Piece (Elt F) S1x256 .f32)
  l22 : List (View.Piece (Elt F) S512x1024 .bf16)
  l23 : List (View.Piece (Elt F) S512x1024 .bf16)

/-- The inputs' buffers at their blocks. -/
def held (c : Dev nD) (o : Ops) (x : Ins F) : sProp 𝕄 :=
  iprop(owns (c : Thread nD τ) o.a1 fullShare x.x0 ∗ owns (c : Thread nD τ) o.a2 fullShare x.x1 ∗ owns (c : Thread nD τ) o.a3 fullShare x.x2 ∗ owns (c : Thread nD τ) o.a4 fullShare x.x3 ∗ owns (c : Thread nD τ) o.a5 fullShare x.x4 ∗ owns (c : Thread nD τ) o.a6 fullShare x.x5 ∗ owns (c : Thread nD τ) o.a7 fullShare x.x6 ∗ owns (c : Thread nD τ) o.a8 fullShare x.x7 ∗ owns (c : Thread nD τ) o.a9 fullShare x.x8 ∗ owns (c : Thread nD τ) o.a10 fullShare x.x9 ∗ owns (c : Thread nD τ) o.a11 fullShare x.x10 ∗ owns (c : Thread nD τ) o.a12 fullShare x.x11 ∗ owns (c : Thread nD τ) o.a13 fullShare x.x12 ∗ owns (c : Thread nD τ) o.a14 fullShare x.x13 ∗ owns (c : Thread nD τ) o.a15 fullShare x.x14)

/-- The six sums' buffers at their running contents. -/
def sums (c : Dev nD) (o : Ops) (y : Outs F) : sProp 𝕄 :=
  iprop(owns (c : Thread nD τ) o.a17 fullShare y.y16 ∗ owns (c : Thread nD τ) o.a18 fullShare y.y17 ∗ owns (c : Thread nD τ) o.a19 fullShare y.y18 ∗ owns (c : Thread nD τ) o.a20 fullShare y.y19 ∗ owns (c : Thread nD τ) o.a21 fullShare y.y20 ∗ owns (c : Thread nD τ) o.a22 fullShare y.y21)

/-- The buffers whose earlier contents do not matter: the tile of dz and the scratch. -/
def free (c : Dev nD) (o : Ops) : sProp 𝕄 :=
  iprop((∃ d, owns (c : Thread nD τ) o.a16 fullShare d) ∗ (∃ d, owns (c : Thread nD τ) o.a23 fullShare d) ∗ (∃ d, owns (c : Thread nD τ) o.a24 fullShare d))

/-- Every written buffer with the stores made over some contents. -/
def left (c : Dev nD) (o : Ops) (l : Stores F) : sProp 𝕄 :=
  iprop((∃ f, o.a16.view.loc (c : Thread nD τ) ↦[o.a16.view.set]{fullShare} o.a16.view.writes (Elt F) f l.l15) ∗ (∃ f, o.a17.view.loc (c : Thread nD τ) ↦[o.a17.view.set]{fullShare} o.a17.view.writes (Elt F) f l.l16) ∗ (∃ f, o.a18.view.loc (c : Thread nD τ) ↦[o.a18.view.set]{fullShare} o.a18.view.writes (Elt F) f l.l17) ∗ (∃ f, o.a19.view.loc (c : Thread nD τ) ↦[o.a19.view.set]{fullShare} o.a19.view.writes (Elt F) f l.l18) ∗ (∃ f, o.a20.view.loc (c : Thread nD τ) ↦[o.a20.view.set]{fullShare} o.a20.view.writes (Elt F) f l.l19) ∗ (∃ f, o.a21.view.loc (c : Thread nD τ) ↦[o.a21.view.set]{fullShare} o.a21.view.writes (Elt F) f l.l20) ∗ (∃ f, o.a22.view.loc (c : Thread nD τ) ↦[o.a22.view.set]{fullShare} o.a22.view.writes (Elt F) f l.l21) ∗ (∃ f, o.a23.view.loc (c : Thread nD τ) ↦[o.a23.view.set]{fullShare} o.a23.view.writes (Elt F) f l.l22) ∗ (∃ f, o.a24.view.loc (c : Thread nD τ) ↦[o.a24.view.set]{fullShare} o.a24.view.writes (Elt F) f l.l23))

/-- The body on these buffers. -/
abbrev body (i : grid0.Coords) (o : Ops) : Prog (TpuEff nD τ sig (Elt F) Λ₀ .tc) PUnit :=
  cc0_bwd_mla_proj i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17 o.a18 o.w18 o.a19 o.w19 o.a20 o.w20 o.a21 o.w21 o.a22 o.w22 o.a23 o.w23 o.a24 o.w24

/-- From the inputs' blocks and the running sums the body runs to its end, keeps the inputs and leaves the stores `l`. -/
def Leaves (c : Dev nD) (i : grid0.Coords) (o : Ops) (x : Ins F) (y : Outs F) (l : Stores F) : Prop :=
  ∀ (E : Set ℕ) (K : PUnit → sProp 𝕄),
    iprop(held c o x ∗ sums c o y ∗ free c o ∗ (iprop(held c o x ∗ left c o l) -∗ K ⟨⟩))
      ⊢ wp frame (wpE (defs₀ (F := F)) Variants.none c none) E (body i o) K

set_option maxHeartbeats 4000000 in
/-- The stores of the first grid point, where the sums start at zero, found by running the body. -/
def runFirst (c : Dev nD) (i : grid0.Coords) (o : Ops) (hc : cond0_0 i) (x : Ins F) :
    { l : Stores F // ∀ y, Leaves c i o x y l } := by
  refine ⟨⟨?_, ?_, ?_, ?_, ?_, ?_, ?_, ?_, ?_⟩, fun y E K => ?run⟩
  case run =>
    unfold body held sums free left
    simp only [cc0_bwd_mla_proj_eq_skeleton]; unfold cc0_bwd_mla_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, ⟨⟨%f16, %e16, H16⟩, ⟨%f17, %e17, H17⟩, ⟨%f18, %e18, H18⟩, ⟨%f19, %e19, H19⟩, ⟨%f20, %e20, H20⟩, ⟨%f21, %e21, H21⟩⟩, ⟨⟨%d15, %f15, -, H15⟩, ⟨%d22, %f22, -, H22⟩, ⟨%d23, %f23, -, H23⟩⟩, Hk⟩
    obtain rfl := o.w1.eq_unread e0; obtain rfl := o.w2.eq_unread e1; obtain rfl := o.w3.eq_unread e2; obtain rfl := o.w4.eq_unread e3; obtain rfl := o.w5.eq_unread e4; obtain rfl := o.w6.eq_unread e5; obtain rfl := o.w7.eq_unread e6; obtain rfl := o.w8.eq_unread e7; obtain rfl := o.w9.eq_unread e8; obtain rfl := o.w10.eq_unread e9; obtain rfl := o.w11.eq_unread e10; obtain rfl := o.w12.eq_unread e11; obtain rfl := o.w13.eq_unread e12; obtain rfl := o.w14.eq_unread e13; obtain rfl := o.w15.eq_unread e14
    sl_exec (disch := first | sl_exact hc)
    sl_step
    iapply Hk
    isplitl [H0 H1 H2 H3 H4 H5 H6 H7 H8 H9 H10 H11 H12 H13 H14]
    · isplitl [H0]
      · iexists _; isplitr; · ipureintro; exact o.w1.read_unread _
        iexact H0
      isplitl [H1]
      · iexists _; isplitr; · ipureintro; exact o.w2.read_unread _
        iexact H1
      isplitl [H2]
      · iexists _; isplitr; · ipureintro; exact o.w3.read_unread _
        iexact H2
      isplitl [H3]
      · iexists _; isplitr; · ipureintro; exact o.w4.read_unread _
        iexact H3
      isplitl [H4]
      · iexists _; isplitr; · ipureintro; exact o.w5.read_unread _
        iexact H4
      isplitl [H5]
      · iexists _; isplitr; · ipureintro; exact o.w6.read_unread _
        iexact H5
      isplitl [H6]
      · iexists _; isplitr; · ipureintro; exact o.w7.read_unread _
        iexact H6
      isplitl [H7]
      · iexists _; isplitr; · ipureintro; exact o.w8.read_unread _
        iexact H7
      isplitl [H8]
      · iexists _; isplitr; · ipureintro; exact o.w9.read_unread _
        iexact H8
      isplitl [H9]
      · iexists _; isplitr; · ipureintro; exact o.w10.read_unread _
        iexact H9
      isplitl [H10]
      · iexists _; isplitr; · ipureintro; exact o.w11.read_unread _
        iexact H10
      isplitl [H11]
      · iexists _; isplitr; · ipureintro; exact o.w12.read_unread _
        iexact H11
      isplitl [H12]
      · iexists _; isplitr; · ipureintro; exact o.w13.read_unread _
        iexact H12
      isplitl [H13]
      · iexists _; isplitr; · ipureintro; exact o.w14.read_unread _
        iexact H13
      iexists _; isplitr; · ipureintro; exact o.w15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.BwdMla.Hand

end
-- ==== Proof.BwdMla.Later.lean ====
module

public import proofs.«01_k».proof.Proof.BwdMla.First

@[expose] public section

set_option maxRecDepth 16384

noncomputable section

namespace Cert.BwdMla.Hand

open Cert.BwdMlaIdeal Cert.BwdMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The stores of a later grid point, which adds to the sums, found by running the body. -/
def runLater (c : Dev nD) (i : grid0.Coords) (o : Ops) (hc : ¬cond0_0 i) (x : Ins F) (y : Outs F) :
    { l : Stores F // Leaves c i o x y l } := by
  refine ⟨⟨?_, ?_, ?_, ?_, ?_, ?_, ?_, ?_, ?_⟩, fun E K => ?run⟩
  case run =>
    unfold body held sums free left
    simp only [cc0_bwd_mla_proj_eq_skeleton]; unfold cc0_bwd_mla_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, ⟨⟨%f16, %e16, H16⟩, ⟨%f17, %e17, H17⟩, ⟨%f18, %e18, H18⟩, ⟨%f19, %e19, H19⟩, ⟨%f20, %e20, H20⟩, ⟨%f21, %e21, H21⟩⟩, ⟨⟨%d15, %f15, -, H15⟩, ⟨%d22, %f22, -, H22⟩, ⟨%d23, %f23, -, H23⟩⟩, Hk⟩
    obtain rfl := o.w1.eq_unread e0; obtain rfl := o.w2.eq_unread e1; obtain rfl := o.w3.eq_unread e2; obtain rfl := o.w4.eq_unread e3; obtain rfl := o.w5.eq_unread e4; obtain rfl := o.w6.eq_unread e5; obtain rfl := o.w7.eq_unread e6; obtain rfl := o.w8.eq_unread e7; obtain rfl := o.w9.eq_unread e8; obtain rfl := o.w10.eq_unread e9; obtain rfl := o.w11.eq_unread e10; obtain rfl := o.w12.eq_unread e11; obtain rfl := o.w13.eq_unread e12; obtain rfl := o.w14.eq_unread e13; obtain rfl := o.w15.eq_unread e14; obtain rfl := o.w17.eq_unread e16; obtain rfl := o.w18.eq_unread e17; obtain rfl := o.w19.eq_unread e18; obtain rfl := o.w20.eq_unread e19; obtain rfl := o.w21.eq_unread e20; obtain rfl := o.w22.eq_unread e21
    sl_exec (disch := first | sl_exact hc)
    sl_step
    iapply Hk
    isplitl [H0 H1 H2 H3 H4 H5 H6 H7 H8 H9 H10 H11 H12 H13 H14]
    · isplitl [H0]
      · iexists _; isplitr; · ipureintro; exact o.w1.read_unread _
        iexact H0
      isplitl [H1]
      · iexists _; isplitr; · ipureintro; exact o.w2.read_unread _
        iexact H1
      isplitl [H2]
      · iexists _; isplitr; · ipureintro; exact o.w3.read_unread _
        iexact H2
      isplitl [H3]
      · iexists _; isplitr; · ipureintro; exact o.w4.read_unread _
        iexact H3
      isplitl [H4]
      · iexists _; isplitr; · ipureintro; exact o.w5.read_unread _
        iexact H4
      isplitl [H5]
      · iexists _; isplitr; · ipureintro; exact o.w6.read_unread _
        iexact H5
      isplitl [H6]
      · iexists _; isplitr; · ipureintro; exact o.w7.read_unread _
        iexact H6
      isplitl [H7]
      · iexists _; isplitr; · ipureintro; exact o.w8.read_unread _
        iexact H7
      isplitl [H8]
      · iexists _; isplitr; · ipureintro; exact o.w9.read_unread _
        iexact H8
      isplitl [H9]
      · iexists _; isplitr; · ipureintro; exact o.w10.read_unread _
        iexact H9
      isplitl [H10]
      · iexists _; isplitr; · ipureintro; exact o.w11.read_unread _
        iexact H10
      isplitl [H11]
      · iexists _; isplitr; · ipureintro; exact o.w12.read_unread _
        iexact H11
      isplitl [H12]
      · iexists _; isplitr; · ipureintro; exact o.w13.read_unread _
        iexact H12
      isplitl [H13]
      · iexists _; isplitr; · ipureintro; exact o.w14.read_unread _
        iexact H13
      iexists _; isplitr; · ipureintro; exact o.w15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.BwdMla.Hand

end
-- ==== Proof.BwdMla.Frame.lean ====
module

public import proofs.«01_k».proof.Proof.BwdMla.Later
public import Idealize.ShloMosaic.Lib.Claim

@[expose] public section

set_option maxRecDepth 16384

noncomputable section

namespace Cert.BwdMla.Hand

open Cert.BwdMlaIdeal Cert.BwdMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of grid point `t`. -/
abbrev opsAt (t : Fin cfg0.N) : Ops :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, scM0_0, Memref.isWhole_whole _, scM0_1, Memref.isWhole_whole _⟩

/-- The inputs' blocks at grid point `t`. -/
abbrev insAt (c : Dev nD) (t : Fin cfg0.N) : Ins F :=
  ⟨X0_0 m c t, X0_1 m c t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The outputs' contents after the stores `l`, which cover their buffers. -/
def leave (l : Stores F) : Outs F :=
  ⟨VO0_15.read (Elt F) (VO0_15.writes (Elt F) VO0_15.junk l.l15),
    VO0_16.read (Elt F) (VO0_16.writes (Elt F) VO0_16.junk l.l16),
    VO0_17.read (Elt F) (VO0_17.writes (Elt F) VO0_17.junk l.l17),
    VO0_18.read (Elt F) (VO0_18.writes (Elt F) VO0_18.junk l.l18),
    VO0_19.read (Elt F) (VO0_19.writes (Elt F) VO0_19.junk l.l19),
    VO0_20.read (Elt F) (VO0_20.writes (Elt F) VO0_20.junk l.l20),
    VO0_21.read (Elt F) (VO0_21.writes (Elt F) VO0_21.junk l.l21)⟩

/-- Every output's buffer is written everywhere. -/
structure Covers (l : Stores F) : Prop where
  c15 : ∀ y : S512x640.Idx, ∃ pc ∈ l.l15, y ∈ pc.1.set
  c16 : ∀ y : S256x1024.Idx, ∃ pc ∈ l.l16, y ∈ pc.1.set
  c17 : ∀ y : S256x1024.Idx, ∃ pc ∈ l.l17, y ∈ pc.1.set
  c18 : ∀ y : S1x256.Idx, ∃ pc ∈ l.l18, y ∈ pc.1.set
  c19 : ∀ y : S1x256.Idx, ∃ pc ∈ l.l19, y ∈ pc.1.set
  c20 : ∀ y : S1x256.Idx, ∃ pc ∈ l.l20, y ∈ pc.1.set
  c21 : ∀ y : S1x256.Idx, ∃ pc ∈ l.l21, y ∈ pc.1.set

/-- The stores of the first grid point cover the outputs' buffers. -/
theorem coversFirst (c : Dev nD) (i : grid0.Coords) (o : Ops) (hc : cond0_0 i) (x : Ins F) : Covers (runFirst c i o hc x).1 :=
  ⟨View.cover_of_tiledBy _ ![512, 128] (by sl_kernel_rfl), View.cover_of_tiledL _ ![256, 1024] (by sl_kernel_rfl), View.cover_of_tiledL _ ![256, 1024] (by sl_kernel_rfl), View.cover_of_tiledL _ ![1, 256] (by sl_kernel_rfl), View.cover_of_tiledL _ ![1, 256] (by sl_kernel_rfl), View.cover_of_tiledL _ ![1, 256] (by sl_kernel_rfl), View.cover_of_tiledL _ ![1, 256] (by sl_kernel_rfl)⟩

/-- The stores of a later grid point cover the outputs' buffers. -/
theorem coversLater (c : Dev nD) (i : grid0.Coords) (o : Ops) (hc : ¬cond0_0 i) (x : Ins F) (y : Outs F) : Covers (runLater c i o hc x y).1 :=
  ⟨View.cover_of_tiledBy _ ![512, 128] (by sl_kernel_rfl), View.cover_of_tiledL _ ![256, 1024] (by sl_kernel_rfl), View.cover_of_tiledL _ ![256, 1024] (by sl_kernel_rfl), View.cover_of_tiledL _ ![1, 256] (by sl_kernel_rfl), View.cover_of_tiledL _ ![1, 256] (by sl_kernel_rfl), View.cover_of_tiledL _ ![1, 256] (by sl_kernel_rfl), View.cover_of_tiledL _ ![1, 256] (by sl_kernel_rfl)⟩

/-- A point after the first is not the first: there are eight. -/
theorem later {n : ℕ} (h : n + 1 < cfg0.N) : ¬cond0_0 (grid0.coords ⟨n + 1, h⟩) := fun hc => by
  have h8 : n + 1 < 8 := lt_of_lt_of_eq h (show cfg0.N = 8 from N_0)
  have := (hcond0_0 ⟨n + 1, h⟩).mp hc
  dsimp only at this; omega

/-- What the outputs' buffers hold after grid point `n`. -/
def outsAt (c : Dev nD) : (n : ℕ) → n < cfg0.N → Outs F
  | 0, h => leave (runFirst c (grid0.coords ⟨0, h⟩) (opsAt ⟨0, h⟩) ((hcond0_0 ⟨0, h⟩).mpr (Nat.zero_mod _)) (insAt m c ⟨0, h⟩)).1
  | n + 1, h => leave (runLater c (grid0.coords ⟨n + 1, h⟩) (opsAt ⟨n + 1, h⟩) (later h) (insAt m c ⟨n + 1, h⟩) (outsAt c n (Nat.lt_of_succ_lt h))).1

/-- The proof data: arrays as the region finds them, inputs' buffers at their blocks, outputs' as `outsAt` says. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t.val t.isLt).y15
    | ⟨16, _⟩ => (outsAt m c t.val t.isLt).y16
    | ⟨17, _⟩ => (outsAt m c t.val t.isLt).y17
    | ⟨18, _⟩ => (outsAt m c t.val t.isLt).y18
    | ⟨19, _⟩ => (outsAt m c t.val t.isLt).y19
    | ⟨20, _⟩ => (outsAt m c t.val t.isLt).y20
    | ⟨21, _⟩ => (outsAt m c t.val t.isLt).y21
    | ⟨_ + 22, h⟩ => absurd h (Nat.not_lt.2 (Nat.le_add_left _ _))
  Φ _ := Pipeline.ΦA spec0 c
  q w := Pipeline.shareOf spec0 w
  owed _ := 0

/-- The arrays are those the region finds. -/
theorem arrays (c : Dev nD) (w : Fin cfg0.W) : (dats m 0 c).A w = V m c (Pipeline.arrRef spec0 w) := by dsimp only [dats]

/-- What a window's buffer holds before the body at point `t`. -/
def before (c : Dev nD) (t : Fin cfg0.N) (w : Fin 22) : sProp 𝕄 :=
  iprop(∃ d, owns (c : Thread nD τ) ((cfg0.win w).stage (cfg0.slots t w)) fullShare ((dats m 0 c).before w t d))

/-- What it holds after. -/
def after (c : Dev nD) (t : Fin cfg0.N) (w : Fin 22) : sProp 𝕄 :=
  owns (c : Thread nD τ) ((cfg0.win w).stage (cfg0.slots t w)) fullShare ((dats m 0 c).after w t)

/-- Input 0 is at its block. -/
theorem in0 (c : Dev nD) (t : Fin cfg0.N) (d) : (dats m 0 c).before 0 t d = X0_0 m c t :=
  before0_0_of m (dats m 0 c) (arrays m c 0) (fun _ => by dsimp only [dats]) t d
/-- Input 1 is at its block. -/
theorem in1 (c : Dev nD) (t : Fin cfg0.N) (d) : (dats m 0 c).before 1 t d = X0_1 m c t :=
  before0_1_of m (dats m 0 c) (arrays m c 1) (fun _ => by dsimp only [dats]) t d
/-- Input 2 is at its block. -/
theorem in2 (c : Dev nD) (t : Fin cfg0.N) (d) : (dats m 0 c).before 2 t d = iblk m c 2 t :=
  before0_2_of m (dats m 0 c) (arrays m c 2) (fun _ => by dsimp only [dats]) t d
/-- Input 3 is at its block. -/
theorem in3 (c : Dev nD) (t : Fin cfg0.N) (d) : (dats m 0 c).before 3 t d = iblk m c 3 t :=
  before0_3_of m (dats m 0 c) (arrays m c 3) (fun _ => by dsimp only [dats]) t d
/-- Input 4 is at its block. -/
theorem in4 (c : Dev nD) (t : Fin cfg0.N) (d) : (dats m 0 c).before 4 t d = iblk m c 4 t :=
  before0_4_of m (dats m 0 c) (arrays m c 4) (fun _ => by dsimp only [dats]) t d
/-- Input 5 is at its block. -/
theorem in5 (c : Dev nD) (t : Fin cfg0.N) (d) : (dats m 0 c).before 5 t d = iblk m c 5 t :=
  before0_5_of m (dats m 0 c) (arrays m c 5) (fun _ => by dsimp only [dats]) t d
/-- Input 6 is at its block. -/
theorem in6 (c : Dev nD) (t : Fin cfg0.N) (d) : (dats m 0 c).before 6 t d = iblk m c 6 t :=
  before0_6_of m (dats m 0 c) (arrays m c 6) (fun _ => by dsimp only [dats]) t d
/-- Input 7 is at its block. -/
theorem in7 (c : Dev nD) (t : Fin cfg0.N) (d) : (dats m 0 c).before 7 t d = iblk m c 7 t :=
  before0_7_of m (dats m 0 c) (arrays m c 7) (fun _ => by dsimp only [dats]) t d
/-- Input 8 is at its block. -/
theorem in8 (c : Dev nD) (t : Fin cfg0.N) (d) : (dats m 0 c).before 8 t d = iblk m c 8 t :=
  before0_8_of m (dats m 0 c) (arrays m c 8) (fun _ => by dsimp only [dats]) t d
/-- Input 9 is at its block. -/
theorem in9 (c : Dev nD) (t : Fin cfg0.N) (d) : (dats m 0 c).before 9 t d = iblk m c 9 t :=
  before0_9_of m (dats m 0 c) (arrays m c 9) (fun _ => by dsimp only [dats]) t d
/-- Input 10 is at its block. -/
theorem in10 (c : Dev nD) (t : Fin cfg0.N) (d) : (dats m 0 c).before 10 t d = iblk m c 10 t :=
  before0_10_of m (dats m 0 c) (arrays m c 10) (fun _ => by dsimp only [dats]) t d
/-- Input 11 is at its block. -/
theorem in11 (c : Dev nD) (t : Fin cfg0.N) (d) : (dats m 0 c).before 11 t d = iblk m c 11 t :=
  before0_11_of m (dats m 0 c) (arrays m c 11) (fun _ => by dsimp only [dats]) t d
/-- Input 12 is at its block. -/
theorem in12 (c : Dev nD) (t : Fin cfg0.N) (d) : (dats m 0 c).before 12 t d = iblk m c 12 t :=
  before0_12_of m (dats m 0 c) (arrays m c 12) (fun _ => by dsimp only [dats]) t d
/-- Input 13 is at its block. -/
theorem in13 (c : Dev nD) (t : Fin cfg0.N) (d) : (dats m 0 c).before 13 t d = iblk m c 13 t :=
  before0_13_of m (dats m 0 c) (arrays m c 13) (fun _ => by dsimp only [dats]) t d
/-- Input 14 is at its block. -/
theorem in14 (c : Dev nD) (t : Fin cfg0.N) (d) : (dats m 0 c).before 14 t d = iblk m c 14 t :=
  before0_14_of m (dats m 0 c) (arrays m c 14) (fun _ => by dsimp only [dats]) t d

/-- What the body finds in the six sums' buffers, the tile of dz beside them. -/
abbrev found (c : Dev nD) (t : Fin cfg0.N) (d15 : (cfg0.win 15).block.Idx → Elt F (cfg0.win 15).elt) (d16 : (cfg0.win 16).block.Idx → Elt F (cfg0.win 16).elt) (d17 : (cfg0.win 17).block.Idx → Elt F (cfg0.win 17).elt) (d18 : (cfg0.win 18).block.Idx → Elt F (cfg0.win 18).elt) (d19 : (cfg0.win 19).block.Idx → Elt F (cfg0.win 19).elt) (d20 : (cfg0.win 20).block.Idx → Elt F (cfg0.win 20).elt) (d21 : (cfg0.win 21).block.Idx → Elt F (cfg0.win 21).elt) : Outs F :=
  ⟨(dats m 0 c).before 15 t d15, (dats m 0 c).before 16 t d16, (dats m 0 c).before 17 t d17, (dats m 0 c).before 18 t d18, (dats m 0 c).before 19 t d19, (dats m 0 c).before 20 t d20, (dats m 0 c).before 21 t d21⟩

/-- After the first point the sums' buffers hold what the point before left. -/
theorem kept (c : Dev nD) (t : Fin cfg0.N) (h0 : t.val ≠ 0) (d15 : (cfg0.win 15).block.Idx → Elt F (cfg0.win 15).elt) (d16 : (cfg0.win 16).block.Idx → Elt F (cfg0.win 16).elt) (d17 : (cfg0.win 17).block.Idx → Elt F (cfg0.win 17).elt) (d18 : (cfg0.win 18).block.Idx → Elt F (cfg0.win 18).elt) (d19 : (cfg0.win 19).block.Idx → Elt F (cfg0.win 19).elt) (d20 : (cfg0.win 20).block.Idx → Elt F (cfg0.win 20).elt) (d21 : (cfg0.win 21).block.Idx → Elt F (cfg0.win 21).elt) :
    (sums c (opsAt t) (found m c t d15 d16 d17 d18 d19 d20 d21) : sProp 𝕄) = sums c (opsAt t) (outsAt m c (t.val - 1) (Nat.lt_of_le_of_lt (Nat.sub_le _ _) t.isLt)) := by
  have hN : t.val < 8 := lt_of_lt_of_eq t.isLt (show cfg0.N = 8 from N_0)
  unfold sums; dsimp only
  rw [Dat.before_out_kept _ 16 rfl t h0 (Bool.eq_false_iff.mpr fun h => by have := (flush0_16 _).mp h; dsimp only at this; omega) (fun _ => rfl) (fun _ _ => rfl)]
  rw [Dat.before_out_kept _ 17 rfl t h0 (Bool.eq_false_iff.mpr fun h => by have := (flush0_17 _).mp h; dsimp only at this; omega) (fun _ => rfl) (fun _ _ => rfl)]
  rw [Dat.before_out_kept _ 18 rfl t h0 (Bool.eq_false_iff.mpr fun h => by have := (flush0_18 _).mp h; dsimp only at this; omega) (fun _ => rfl) (fun _ _ => rfl)]
  rw [Dat.before_out_kept _ 19 rfl t h0 (Bool.eq_false_iff.mpr fun h => by have := (flush0_19 _).mp h; dsimp only at this; omega) (fun _ => rfl) (fun _ _ => rfl)]
  rw [Dat.before_out_kept _ 20 rfl t h0 (Bool.eq_false_iff.mpr fun h => by have := (flush0_20 _).mp h; dsimp only at this; omega) (fun _ => rfl) (fun _ _ => rfl)]
  rw [Dat.before_out_kept _ 21 rfl t h0 (Bool.eq_false_iff.mpr fun h => by have := (flush0_21 _).mp h; dsimp only at this; omega) (fun _ => rfl) (fun _ _ => rfl)]
  dsimp only [dats]

/-- The point's stores: they cover, leave what `outsAt` says, and the body makes them from what it finds. -/
theorem stores (c : Dev nD) (t : Fin cfg0.N) (d15 : (cfg0.win 15).block.Idx → Elt F (cfg0.win 15).elt) (d16 : (cfg0.win 16).block.Idx → Elt F (cfg0.win 16).elt) (d17 : (cfg0.win 17).block.Idx → Elt F (cfg0.win 17).elt) (d18 : (cfg0.win 18).block.Idx → Elt F (cfg0.win 18).elt) (d19 : (cfg0.win 19).block.Idx → Elt F (cfg0.win 19).elt) (d20 : (cfg0.win 20).block.Idx → Elt F (cfg0.win 20).elt) (d21 : (cfg0.win 21).block.Idx → Elt F (cfg0.win 21).elt) :
    ∃ l : Stores F, Covers l ∧ leave l = outsAt m c t.val t.isLt ∧ Leaves c (grid0.coords t) (opsAt t) (insAt m c t) (found m c t d15 d16 d17 d18 d19 d20 d21) l := by
  obtain ⟨n, hn⟩ := t
  cases n with
  | zero => exact ⟨_, coversFirst _ _ _ _ _, rfl, (runFirst c _ (opsAt ⟨0, hn⟩) ((hcond0_0 ⟨0, hn⟩).mpr (Nat.zero_mod _)) (insAt m c ⟨0, hn⟩)).2 _⟩
  | succ n =>
    refine ⟨_, coversLater _ _ _ _ _ _, rfl, ?_⟩
    unfold Leaves
    rw [kept m c ⟨n + 1, hn⟩ (Nat.succ_ne_zero n)]
    exact (runLater c _ (opsAt ⟨n + 1, hn⟩) (later hn) (insAt m c ⟨n + 1, hn⟩) (outsAt m c n (Nat.lt_of_succ_lt hn))).2

set_option maxHeartbeats 4000000 in
/-- The body at every grid point. -/
theorem body_at (c : Dev nD) (t : Fin cfg0.N) :
    iprop((dats m 0 c).Φ t.castSucc ∗ (dats m 0 c).owesAt () t.castSucc ∗ before m c t 0 ∗ before m c t 1 ∗ before m c t 2 ∗ before m c t 3 ∗ before m c t 4 ∗ before m c t 5 ∗ before m c t 6 ∗ before m c t 7 ∗ before m c t 8 ∗ before m c t 9 ∗ before m c t 10 ∗ before m c t 11 ∗ before m c t 12 ∗ before m c t 13 ∗ before m c t 14 ∗ before m c t 15 ∗ before m c t 16 ∗ before m c t 17 ∗ before m c t 18 ∗ before m c t 19 ∗ before m c t 20 ∗ before m c t 21)
      ⊢ wp frame (wpE (defs₀ (F := F)) Variants.none c none) Set.univ (bodyAt0 t)
        (fun _ => iprop((dats m 0 c).Φ t.succ ∗ (dats m 0 c).owesAt () t.succ ∗ after m c t 0 ∗ after m c t 1 ∗ after m c t 2 ∗ after m c t 3 ∗ after m c t 4 ∗ after m c t 5 ∗ after m c t 6 ∗ after m c t 7 ∗ after m c t 8 ∗ after m c t 9 ∗ after m c t 10 ∗ after m c t 11 ∗ after m c t 12 ∗ after m c t 13 ∗ after m c t 14 ∗ after m c t 15 ∗ after m c t 16 ∗ after m c t 17 ∗ after m c t 18 ∗ after m c t 19 ∗ after m c t 20 ∗ after m c t 21)) := by
  unfold before after
  simp only [in0, in1, in2, in3, in4, in5, in6, in7, in8, in9, in10, in11, in12, in13, in14]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  obtain ⟨l, hl, hleave, hrun⟩ := stores m c t d15 d16 d17 d18 d19 d20 d21
  have hrun := hrun Set.univ
  unfold held sums free left at hrun
  dsimp only [dats]
  rw [← hleave]
  unfold leave
  iapply (hrun _)
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H16 H17 H18 H19 H20 H21]
  · isplitl [H16]; · iexact H16
    isplitl [H17]; · iexact H17
    isplitl [H18]; · iexact H18
    isplitl [H19]; · iexact H19
    isplitl [H20]; · iexact H20
    iexact H21
  isplitl [H15 HS0 HS1]
  · isplitl [H15]; · iexists _; iexact H15
    isplitl [HS0]; · iexact HS0
    iexact HS1
  iintro ⟨⟨H0, H1, H2, H3, H4, H5, H6, H7, H8, H9, H10, H11, H12, H13, H14⟩, ⟨%e15, H15⟩, ⟨%e16, H16⟩, ⟨%e17, H17⟩, ⟨%e18, H18⟩, ⟨%e19, H19⟩, ⟨%e20, H20⟩, ⟨%e21, H21⟩, ⟨%e22, HS0⟩, ⟨%e23, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover (ms0_15 t).view e15 VO0_15 VO0_15.junk l.l15 hl.c15
  isplitl [H16]
  · unfold owns; iexists _; isplitr
    swap; · iexact H16
    ipureintro; exact View.read_writes_of_cover (ms0_16 t).view e16 VO0_16 VO0_16.junk l.l16 hl.c16
  isplitl [H17]
  · unfold owns; iexists _; isplitr
    swap; · iexact H17
    ipureintro; exact View.read_writes_of_cover (ms0_17 t).view e17 VO0_17 VO0_17.junk l.l17 hl.c17
  isplitl [H18]
  · unfold owns; iexists _; isplitr
    swap; · iexact H18
    ipureintro; exact View.read_writes_of_cover (ms0_18 t).view e18 VO0_18 VO0_18.junk l.l18 hl.c18
  isplitl [H19]
  · unfold owns; iexists _; isplitr
    swap; · iexact H19
    ipureintro; exact View.read_writes_of_cover (ms0_19 t).view e19 VO0_19 VO0_19.junk l.l19 hl.c19
  isplitl [H20]
  · unfold owns; iexists _; isplitr
    swap; · iexact H20
    ipureintro; exact View.read_writes_of_cover (ms0_20 t).view e20 VO0_20 VO0_20.junk l.l20 hl.c20
  unfold owns; iexists _; isplitr
  swap; · iexact H21
  ipureintro; exact View.read_writes_of_cover (ms0_21 t).view e21 VO0_21 VO0_21.junk l.l21 hl.c21

/-- The library's body obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The run: every array of the call ends as the proof data say, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (arrays m) (run_main m ρ)) ((θ_run defs _ _).mono (fun _ h => h.2) (run_quiet m ρ))

end Cert.BwdMla.Hand

end
-- ==== Proof.BwdMla.Block.lean ====
/- What a block of tokens leaves in the results of the projections' backward call, as one word of the call's blocks. -/
module

public import proofs.«01_k».proof.Proof.BwdMla.Frame
public import proofs.«01_k».proof.Proof.Whole
public import Idealize.ShloMosaic.Lib.Tactic

@[expose] public section

set_option maxRecDepth 16384
set_option maxHeartbeats 1000000

noncomputable section

open Idealize.ShloMosaic Idealize.ShloMosaic.TcCoe Idealize.SL.Sem

namespace Cert.BwdMla.Block

open Cert.BwdMlaIdeal Cert.BwdMlaIdeal.Gen Cert.BwdMla.Hand Cert.Whole

variable {F : FTy → Type} [FloatOps F] [Named F]

/-- One over the root of a row's mean square, over a head's 192 columns. -/
def root (v : FVec F S512x256 .f32) : FVec F S512x1 .f32 :=
  rsqrt (addf (mulf (shapeCast S512x1 (multiReduction .add [1] S512 (mulf v v) 0x00000000#32 reduces_S512x256_S512 (.inl rfl) rfl) shapeCasts_S512_S512x1)
    (broadcast S512x1 (Named.named κ "over_qk_head" 0x3BAAAAAB#32))) (broadcast S512x1 (Scalar.ofBits .f32 0x358637BD#32)))

/-- The same for a key: its first 128 columns, and the sum over its turned part. -/
def rootK (n : FVec F S512x128 .f32) (s : FVec F S512x1 .f32) : FVec F S512x1 .f32 :=
  rsqrt (addf (mulf (addf (shapeCast S512x1 (multiReduction .add [1] S512 (mulf n n) 0x00000000#32 reduces_S512x128_S512 (.inl rfl) rfl) shapeCasts_S512_S512x1) s)
    (broadcast S512x1 (Named.named κ "over_qk_head" 0x3BAAAAAB#32))) (broadcast S512x1 (Scalar.ofBits .f32 0x358637BD#32)))

/-- A key: its own columns beside the shared ones. -/
def joined (n p : FVec F S512x128 .f32) : FVec F S512x256 .f32 :=
  concatenate S512x256 1 [⟨S512x128, n⟩, ⟨S512x128, p⟩] concatenates_S512x128_S512x128_S512x256_d1

/-- A head's block lies within the four. -/
theorem inbH {b : Nat} (h : Fin 4) : ∀ a, (![h.val, 0, 0] : Fin 3 → Nat) a + (![1, 512, b] : Fin 3 → Nat) a ≤ (⟨3, ![4, 512, b]⟩ : Shape).size a := by
  intro a; fin_cases a
  · show h.val + 1 ≤ 4; omega
  · exact le_refl 512
  · show 0 + b ≤ b; omega

/-- A head's gradient. -/
def slab (X : Vec F S4x512x256 .f32) (h : Fin 4) : Vec F S1x512x256 .f32 := View.ld X (Rect.unit (s := S4x512x256) ![h.val, 0, 0] ![1, 512, 256] (inbH h))
def slabV (X : Vec F S4x512x128 .f32) (h : Fin 4) : Vec F S1x512x128 .f32 := View.ld X (Rect.unit (s := S4x512x128) ![h.val, 0, 0] ![1, 512, 128] (inbH h))

variable (x : Ins F)

/-- The queries and the keys with the values, before the heads' norms. -/
def qs : FVec F S512x1024 .f32 := k0_pay23 (k0_pay16 x.x11) (k0_pay18 x.x0 x.x9)
def kvs : FVec F S512x1024 .f32 := k0_pay24 (k0_pay12 x.x1) x.x10 x.x12 (k0_pay19 x.x1) (FloatOps.ofBits .f32 998244352#32)

/-- A head's queries. -/
def qh : Fin 4 → FVec F S512x256 .f32
  | 0 => k0_pay32 (k0_pay16 x.x11) (k0_pay18 x.x0 x.x9)
  | 1 => k0_pay46 (qs x)
  | 2 => k0_pay61 (qs x)
  | 3 => k0_pay82 (qs x)

/-- A head's own columns of the keys. -/
def kn : Fin 4 → FVec F S512x128 .f32
  | 0 => k0_pay37 (kvs x)
  | 1 => k0_pay52 (kvs x)
  | 2 => k0_pay70 (kvs x)
  | 3 => k0_pay90 (kvs x)

def kh (h : Fin 4) : FVec F S512x256 .f32 := joined (kn x h) (k0_pay13 x.x2)
def rootsK (h : Fin 4) : FVec F S512x1 .f32 := rootK (kn x h) (k0_pay28 (k0_pay13 x.x2))

/-- The gradient of a head's queries, rounded. -/
def dqh (h : Fin 4) : FVec F S512x256 .bf16 := k0_pay35 (k0_pay14 x.x13) (k0_pay25 x.x6) (k0_pay26 x.x7) (k0_pay27 x.x8) (qh x h) (root (qh x h)) (slab x.x3 h)

/-- The gradient of a head's keys, and its first columns, rounded. -/
def dkh (h : Fin 4) : FVec F S512x256 .f32 := k0_pay41 (k0_pay15 x.x14) (k0_pay25 x.x6) (k0_pay26 x.x7) (k0_pay27 x.x8) (kh x h) (rootsK x h) (slab x.x4 h)
def dnh (h : Fin 4) : FVec F S512x128 .bf16 := k0_pay58 (dkh x h)

/-- The gradient of a head's values, rounded. -/
def dvh (h : Fin 4) : FVec F S512x128 .bf16 := k0_pay44 (slabV x.x5 h)

/-- A head's band of columns lies within the 1024. -/
theorem inbC {b : Nat} (o : Nat) (h : o + b ≤ 1024) : ∀ a, (![0, o] : Fin 2 → Nat) a + (![512, b] : Fin 2 → Nat) a ≤ (⟨2, ![512, 1024]⟩ : Shape).size a := by
  intro a; fin_cases a
  · exact le_refl 512
  · exact h

def band (o : Nat) (h : o + 256 ≤ 1024) (w : FVec F S512x256 .bf16) : View.Piece (Elt F) S512x1024 .bf16 :=
  ⟨Rect.unit (s := S512x1024) ![0, o] ![512, 256] (inbC o h), w⟩
def half (o : Nat) (h : o + 128 ≤ 1024) (w : FVec F S512x128 .bf16) : View.Piece (Elt F) S512x1024 .bf16 :=
  ⟨Rect.unit (s := S512x1024) ![0, o] ![512, 128] (inbC o h), w⟩

/-- The four heads' gradients side by side. -/
def sides (w : Fin 4 → FVec F S512x256 .bf16) : List (View.Piece (Elt F) S512x1024 .bf16) :=
  [band 768 (by omega) (w 3), band 512 (by omega) (w 2), band 256 (by omega) (w 1), band 0 (by omega) (w 0)]
def halves (n v : Fin 4 → FVec F S512x128 .bf16) : List (View.Piece (Elt F) S512x1024 .bf16) :=
  [half 896 (by omega) (v 3), half 768 (by omega) (n 3), half 640 (by omega) (v 2), half 512 (by omega) (n 2),
   half 384 (by omega) (v 1), half 256 (by omega) (n 1), half 128 (by omega) (v 0), half 0 (by omega) (n 0)]

theorem sides_cover (w : Fin 4 → FVec F S512x256 .bf16) : ∀ y : S512x1024.Idx, ∃ q ∈ sides w, y ∈ q.1.set :=
  View.cover_of_tiledL _ ![512, 256] (by sl_kernel_rfl)
theorem halves_cover (n v : Fin 4 → FVec F S512x128 .bf16) : ∀ y : S512x1024.Idx, ∃ q ∈ halves n v, y ∈ q.1.set :=
  View.cover_of_tiledL _ ![512, 128] (by sl_kernel_rfl)

def dqs : FVec F S512x1024 .bf16 := View.canon (sides (dqh x))
def dkvs : FVec F S512x1024 .bf16 := View.canon (halves (dnh x) (dvh x))

theorem read_sides {sp : Space} (a : View sig .tc sp S512x1024 .bf16) (w : Fin 4 → FVec F S512x256 .bf16) (inb) :
    a.readCov (sides w) (Rect.unit (s := S512x1024) ![0, 0] ![512, 1024] inb).toLoadRect = View.canon (sides w) := by
  rw [View.readCov_eq_canon_ld _ _ _ (sides_cover w), ld2]
theorem read_halves {sp : Space} (a : View sig .tc sp S512x1024 .bf16) (n v : Fin 4 → FVec F S512x128 .bf16) (inb) :
    a.readCov (halves n v) (Rect.unit (s := S512x1024) ![0, 0] ![512, 1024] inb).toLoadRect = View.canon (halves n v) := by
  rw [View.readCov_eq_canon_ld _ _ _ (halves_cover n v), ld2]

/-- The root of the keys' and values' rows. -/
def rkv : FVec F S512x1 .f32 := k0_pay20 (k0_pay19 x.x1) (FloatOps.ofBits .f32 998244352#32)

/-- The gradient of the shared columns of the keys. -/
def shared : FVec F S512x128 .f32 := k0_pay45 (k0_pay45 (k0_pay45 (k0_pay45 k0_pay29 (dkh x 0)) (dkh x 1)) (dkh x 2)) (dkh x 3)

/-- The gradient of the two rows before their norms. -/
def dcq : FVec F S512x256 .f32 := k0_pay107 (k0_pay11 x.x0) (k0_pay17 x.x0) (k0_pay104 x.x9 (dqs x) x.x11) (k0_pay105 x.x9 (k0_pay17 x.x0) (dqs x) x.x11) (k0_pay106 (k0_pay17 x.x0))
def dckv : FVec F S512x256 .f32 := k0_pay110 (k0_pay12 x.x1) x.x10 (rkv x) (dkvs x) x.x12

theorem inbZ {b : Nat} (o : Nat) (h : o + b ≤ 640) : ∀ a, (![0, o] : Fin 2 → Nat) a + (![512, b] : Fin 2 → Nat) a ≤ (⟨2, ![512, 640]⟩ : Shape).size a := by
  intro a; fin_cases a
  · exact le_refl 512
  · exact h

/-- The first result's three stores, last first. -/
def parts : List (View.Piece (Elt F) S512x640 .bf16) :=
  [⟨Rect.unit (s := S512x640) ![0, 512] ![512, 128] (inbZ 512 (by omega)), k0_pay4 (shared x)⟩,
   ⟨Rect.unit (s := S512x640) ![0, 256] ![512, 256] (inbZ 256 (by omega)), k0_pay3 (dckv x)⟩,
   ⟨Rect.unit (s := S512x640) ![0, 0] ![512, 256] (inbZ 0 (by omega)), k0_pay2 (dcq x)⟩]

/-- The sum of the gains' gradients over a block's heads. -/
def gq (h : Fin 4) (a : FVec F S1x256 .f32) : FVec F S1x256 .f32 := k0_pay36 (k0_pay25 x.x6) (k0_pay26 x.x7) (k0_pay27 x.x8) a (qh x h) (root (qh x h)) (slab x.x3 h)
def gk (h : Fin 4) (a : FVec F S1x256 .f32) : FVec F S1x256 .f32 := k0_pay42 (k0_pay25 x.x6) (k0_pay26 x.x7) (k0_pay27 x.x8) a (kh x h) (rootsK x h) (slab x.x4 h)

variable (y : Outs F)

def out : Outs F where
  y15 := View.canon (parts x)
  y16 := k0_pay101 (k0_pay21 (k0_pay18 x.x0 x.x9)) y.y16 (dqs x)
  y17 := k0_pay102 (k0_pay22 (k0_pay12 x.x1) x.x10 (k0_pay19 x.x1) (FloatOps.ofBits .f32 998244352#32)) y.y17 (dkvs x)
  y18 := k0_pay108 (k0_pay11 x.x0) (k0_pay17 x.x0) (k0_pay103 (dqs x) x.x11) y.y18
  y19 := k0_pay1 (k0_pay111 (k0_pay12 x.x1) (rkv x) (dkvs x) x.x12) y.y19
  y20 := k0_pay99 (gq x 3 (gq x 2 (gq x 1 (gq x 0 k0_pay30)))) y.y20
  y21 := k0_pay100 (gk x 3 (gk x 2 (gk x 1 (gk x 0 k0_pay31)))) y.y21

/-- The running sums before the first block. -/
def zeros : Outs F := { y15 := y.y15, y16 := k0_pay5, y17 := k0_pay6, y18 := k0_pay7, y19 := k0_pay8, y20 := k0_pay9, y21 := k0_pay10 }

variable (c : Dev nD) (i : grid0.Coords) (o : Ops)

theorem first15 (hc : cond0_0 i) : (leave (runFirst c i o hc x).1).y15 = (out x (zeros y)).y15 := by
  unfold leave
  dsimp only
  rw [View.read_writes_eq_canon (h := (coversFirst c i o hc x).c15)]
  unfold runFirst
  dsimp only
  sl_unfold_words
  simp only [canon2, cov2, View.readAt_eq_ld, ld2, Memref.IsWhole.read_unread, read_unread_whole]
  unfold out
  dsimp only
  unfold parts dcq dckv
  unfold dqs
  rw [← read_sides o.a23.view (dqh x) inb_S512x1024_S512x1024_0_0]
  unfold dkvs
  rw [← read_halves o.a24.view (dnh x) (dvh x) inb_S512x1024_S512x1024_0_0]
  rfl

theorem first16 (hc : cond0_0 i) : (leave (runFirst c i o hc x).1).y16 = (out x (zeros y)).y16 := by
  unfold leave
  dsimp only
  rw [View.read_writes_eq_canon (h := (coversFirst c i o hc x).c16)]
  unfold runFirst
  dsimp only
  sl_unfold_words
  simp only [canon2, cov2, View.readAt_eq_ld, ld2, Memref.IsWhole.read_unread, read_unread_whole]
  unfold out
  dsimp only
  unfold dqs
  rw [← read_sides o.a23.view (dqh x) inb_S512x1024_S512x1024_0_0]
  rfl

theorem first17 (hc : cond0_0 i) : (leave (runFirst c i o hc x).1).y17 = (out x (zeros y)).y17 := by
  unfold leave
  dsimp only
  rw [View.read_writes_eq_canon (h := (coversFirst c i o hc x).c17)]
  unfold runFirst
  dsimp only
  sl_unfold_words
  simp only [canon2, cov2, View.readAt_eq_ld, ld2, Memref.IsWhole.read_unread, read_unread_whole]
  unfold out
  dsimp only
  unfold dkvs
  rw [← read_halves o.a24.view (dnh x) (dvh x) inb_S512x1024_S512x1024_0_0]
  rfl

theorem first18 (hc : cond0_0 i) : (leave (runFirst c i o hc x).1).y18 = (out x (zeros y)).y18 := by
  unfold leave
  dsimp only
  rw [View.read_writes_eq_canon (h := (coversFirst c i o hc x).c18)]
  unfold runFirst
  dsimp only
  sl_unfold_words
  simp only [canon2, cov2, View.readAt_eq_ld, ld2, Memref.IsWhole.read_unread, read_unread_whole]
  unfold out
  dsimp only
  unfold dqs
  rw [← read_sides o.a23.view (dqh x) inb_S512x1024_S512x1024_0_0]
  rfl

theorem first19 (hc : cond0_0 i) : (leave (runFirst c i o hc x).1).y19 = (out x (zeros y)).y19 := by
  unfold leave
  dsimp only
  rw [View.read_writes_eq_canon (h := (coversFirst c i o hc x).c19)]
  unfold runFirst
  dsimp only
  sl_unfold_words
  simp only [canon2, cov2, View.readAt_eq_ld, ld2, Memref.IsWhole.read_unread, read_unread_whole]
  unfold out
  dsimp only
  unfold dkvs
  rw [← read_halves o.a24.view (dnh x) (dvh x) inb_S512x1024_S512x1024_0_0]
  rfl

theorem first20 (hc : cond0_0 i) : (leave (runFirst c i o hc x).1).y20 = (out x (zeros y)).y20 := by
  unfold leave
  dsimp only
  rw [View.read_writes_eq_canon (h := (coversFirst c i o hc x).c20)]
  unfold runFirst
  dsimp only
  sl_unfold_words
  simp only [canon2, cov2, View.readAt_eq_ld, ld2, Memref.IsWhole.read_unread, read_unread_whole]
  rfl

theorem first21 (hc : cond0_0 i) : (leave (runFirst c i o hc x).1).y21 = (out x (zeros y)).y21 := by
  unfold leave
  dsimp only
  rw [View.read_writes_eq_canon (h := (coversFirst c i o hc x).c21)]
  unfold runFirst
  dsimp only
  sl_unfold_words
  simp only [canon2, cov2, View.readAt_eq_ld, ld2, Memref.IsWhole.read_unread, read_unread_whole]
  rfl

theorem later15 (hc : ¬cond0_0 i) : (leave (runLater c i o hc x y).1).y15 = (out x y).y15 := by
  unfold leave
  dsimp only
  rw [View.read_writes_eq_canon (h := (coversLater c i o hc x y).c15)]
  unfold runLater
  dsimp only
  sl_unfold_words
  simp only [canon2, cov2, View.readAt_eq_ld, ld2, Memref.IsWhole.read_unread, read_unread_whole]
  unfold out
  dsimp only
  unfold parts dcq dckv
  unfold dqs
  rw [← read_sides o.a23.view (dqh x) inb_S512x1024_S512x1024_0_0]
  unfold dkvs
  rw [← read_halves o.a24.view (dnh x) (dvh x) inb_S512x1024_S512x1024_0_0]
  rfl

theorem later16 (hc : ¬cond0_0 i) : (leave (runLater c i o hc x y).1).y16 = (out x y).y16 := by
  unfold leave
  dsimp only
  rw [View.read_writes_eq_canon (h := (coversLater c i o hc x y).c16)]
  unfold runLater
  dsimp only
  sl_unfold_words
  simp only [canon2, cov2, View.readAt_eq_ld, ld2, Memref.IsWhole.read_unread, read_unread_whole]
  unfold out
  dsimp only
  unfold dqs
  rw [← read_sides o.a23.view (dqh x) inb_S512x1024_S512x1024_0_0]
  rfl

theorem later17 (hc : ¬cond0_0 i) : (leave (runLater c i o hc x y).1).y17 = (out x y).y17 := by
  unfold leave
  dsimp only
  rw [View.read_writes_eq_canon (h := (coversLater c i o hc x y).c17)]
  unfold runLater
  dsimp only
  sl_unfold_words
  simp only [canon2, cov2, View.readAt_eq_ld, ld2, Memref.IsWhole.read_unread, read_unread_whole]
  unfold out
  dsimp only
  unfold dkvs
  rw [← read_halves o.a24.view (dnh x) (dvh x) inb_S512x1024_S512x1024_0_0]
  rfl

theorem later18 (hc : ¬cond0_0 i) : (leave (runLater c i o hc x y).1).y18 = (out x y).y18 := by
  unfold leave
  dsimp only
  rw [View.read_writes_eq_canon (h := (coversLater c i o hc x y).c18)]
  unfold runLater
  dsimp only
  sl_unfold_words
  simp only [canon2, cov2, View.readAt_eq_ld, ld2, Memref.IsWhole.read_unread, read_unread_whole]
  unfold out
  dsimp only
  unfold dqs
  rw [← read_sides o.a23.view (dqh x) inb_S512x1024_S512x1024_0_0]
  rfl

theorem later19 (hc : ¬cond0_0 i) : (leave (runLater c i o hc x y).1).y19 = (out x y).y19 := by
  unfold leave
  dsimp only
  rw [View.read_writes_eq_canon (h := (coversLater c i o hc x y).c19)]
  unfold runLater
  dsimp only
  sl_unfold_words
  simp only [canon2, cov2, View.readAt_eq_ld, ld2, Memref.IsWhole.read_unread, read_unread_whole]
  unfold out
  dsimp only
  unfold dkvs
  rw [← read_halves o.a24.view (dnh x) (dvh x) inb_S512x1024_S512x1024_0_0]
  rfl

theorem later20 (hc : ¬cond0_0 i) : (leave (runLater c i o hc x y).1).y20 = (out x y).y20 := by
  unfold leave
  dsimp only
  rw [View.read_writes_eq_canon (h := (coversLater c i o hc x y).c20)]
  unfold runLater
  dsimp only
  sl_unfold_words
  simp only [canon2, cov2, View.readAt_eq_ld, ld2, Memref.IsWhole.read_unread, read_unread_whole]
  rfl

theorem later21 (hc : ¬cond0_0 i) : (leave (runLater c i o hc x y).1).y21 = (out x y).y21 := by
  unfold leave
  dsimp only
  rw [View.read_writes_eq_canon (h := (coversLater c i o hc x y).c21)]
  unfold runLater
  dsimp only
  sl_unfold_words
  simp only [canon2, cov2, View.readAt_eq_ld, ld2, Memref.IsWhole.read_unread, read_unread_whole]
  rfl

end Cert.BwdMla.Block

end
-- ==== Proof.BwdMla.Real.lean ====
/- The projections' backward call over real numbers, one row at a time. -/
module

public import proofs.«01_k».proof.Proof.Norm

@[expose] public section

set_option maxRecDepth 16384
set_option maxHeartbeats 1000000

noncomputable section

open Idealize.ShloMosaic Idealize.ShloMosaic.TcCoe Idealize.SL.Sem

namespace Cert.BwdMla.Real

open Cert.Norm

theorem over_256_word : (Ideal.ofBits .f32 0x3B800000#32 : EReal) = ((1 / 256 : ℝ) : EReal) := by
  simp [Ideal.ofBits, Ideal.ieee]
  norm_num
  exact_mod_cast (by norm_num : (8388608 : ℝ) * (1 / 2147483648) = 1 / 256)

theorem width256_word : (Ideal.ofBits .f32 0x43800000#32 : EReal) = ((256 : ℝ) : EReal) := by
  simp [Ideal.ofBits, Ideal.ieee]
  norm_num
  exact_mod_cast (by norm_num : (8388608 : ℝ) * (1 / 32768) = 256)

theorem width192_word : (Ideal.ofBits .f32 0x43400000#32 : EReal) = ((192 : ℝ) : EReal) := by
  simp [Ideal.ofBits, Ideal.ieee]
  norm_num
  exact_mod_cast (by norm_num : (12582912 : ℝ) * (1 / 65536) = 192)

/-- A row followed by zeros. -/
def pad {n N : ℕ} (f : Fin n → ℝ) (j : Fin N) : ℝ := if h : j.val < n then f ⟨j.val, h⟩ else 0

theorem pad_lt {n N : ℕ} (f : Fin n → ℝ) (j : Fin N) (h : j.val < n) : pad f j = f ⟨j.val, h⟩ := dif_pos h
theorem pad_ge {n N : ℕ} (f : Fin n → ℝ) (j : Fin N) (h : ¬ j.val < n) : pad f j = 0 := dif_neg h

theorem pad_mul {n N : ℕ} (f g : Fin n → ℝ) (j : Fin N) : pad f j * pad g j = pad (fun k => f k * g k) j := by
  unfold pad; split <;> simp

theorem mul_pad {n N : ℕ} (a : ℝ) (f : Fin n → ℝ) (j : Fin N) : a * pad f j = pad (fun k => a * f k) j := by
  unfold pad; split <;> simp

theorem pad_mul_r {n N : ℕ} (a : ℝ) (f : Fin n → ℝ) (j : Fin N) : pad f j * a = pad (fun k => f k * a) j := by
  unfold pad; split <;> simp

theorem pad_sub {n N : ℕ} (f g : Fin n → ℝ) (j : Fin N) : pad f j - pad g j = pad (fun k => f k - g k) j := by
  unfold pad; split <;> simp

theorem pad_add {n N : ℕ} (f g : Fin n → ℝ) (j : Fin N) : pad f j + pad g j = pad (fun k => f k + g k) j := by
  unfold pad; split <;> simp

theorem pad_zero {n N : ℕ} (j : Fin N) : pad (fun _ : Fin n => (0 : ℝ)) j = 0 := by
  unfold pad; split <;> rfl

theorem sum_pads {n N : ℕ} {ι : Type} (s : Finset ι) (f : ι → Fin n → ℝ) (j : Fin N) : ∑ i ∈ s, pad (f i) j = pad (fun k => ∑ i ∈ s, f i k) j := by
  unfold pad; split <;> simp

/-- The zeros add nothing. -/
theorem sum_pad {n N : ℕ} (h : n ≤ N) (f : Fin n → ℝ) : ∑ j : Fin N, pad f j = ∑ j, f j := by
  obtain ⟨k, rfl⟩ := Nat.exists_eq_add_of_le h
  rw [Fin.sum_univ_add]
  have e (i : Fin k) : pad f (Fin.natAdd n i) = 0 := pad_ge f _ (by simp)
  have e' (i : Fin n) : pad f (Fin.castAdd k i) = f i := pad_lt f _ i.isLt
  simp only [e, e', Finset.sum_const_zero, add_zero]

/-- A sum over the four heads' columns laid side by side. -/
theorem sum_flat {N b : ℕ} (e : N = 4 * b) (F : Fin N → ℝ) (G : Fin 4 → Fin b → ℝ) (hG : ∀ h k (c : Fin N), c.val = h.val * b + k.val → F c = G h k) :
    ∑ c, F c = ∑ h, ∑ k, G h k := by
  subst e
  rw [← Equiv.sum_comp finProdFinEquiv F, Fintype.sum_prod_type]
  refine Finset.sum_congr rfl fun h _ => Finset.sum_congr rfl fun k _ => hG h k _ ?_
  show k.val + b * h.val = _
  rw [Nat.mul_comm, Nat.add_comm]

/-- A column's head and its place in the head. -/
def hd (c : Fin 1024) : Fin 4 := ⟨c.val / 256, by omega⟩
def ln (c : Fin 1024) : Fin 256 := ⟨c.val % 256, by omega⟩
def col (h : Fin 4) (k : Fin 256) : Fin 1024 := ⟨h.val * 256 + k.val, by omega⟩

theorem hd_of (c : Fin 1024) (h : Fin 4) (k : Fin 256) (e : c.val = h.val * 256 + k.val) : hd c = h := Fin.ext (by show c.val / 256 = h.val; omega)
theorem ln_of (c : Fin 1024) (h : Fin 4) (k : Fin 256) (e : c.val = h.val * 256 + k.val) : ln c = k := Fin.ext (by show c.val % 256 = k.val; omega)

/-- A key's own columns, and a value's, among the 1024. -/
def own (h : Fin 4) (k : Fin 128) : Fin 1024 := ⟨h.val * 256 + k.val, by omega⟩
def vcol (h : Fin 4) (k : Fin 128) : Fin 1024 := ⟨h.val * 256 + (128 + k.val), by omega⟩

/-- The weights: the gains of the two rows, the two projections, the gains of the heads. -/
structure Wts where
  gqa : Fin 256 → ℝ
  gkva : Fin 256 → ℝ
  wq : Fin 256 → Fin 4 → Fin 192 → ℝ
  wkv : Fin 256 → Fin 1024 → ℝ
  gqn : Fin 192 → ℝ
  gkn : Fin 192 → ℝ

/-- A row: the two rows before their norms and the shared columns; the gradients of the queries, keys and values; the angles' cosines and sines. -/
structure Row where
  cq : Fin 256 → ℝ
  ckv : Fin 256 → ℝ
  kr : Fin 64 → ℝ
  dq : Fin 4 → Fin 192 → ℝ
  dk : Fin 4 → Fin 192 → ℝ
  dv : Fin 4 → Fin 128 → ℝ
  c : Fin 32 → ℝ
  s : Fin 32 → ℝ

variable (w : Wts) (r : Row)

/-- The two normed rows. -/
def nq (l : Fin 256) : ℝ := r.cq l * rt 256 r.cq * w.gqa l
def nkv (l : Fin 256) : ℝ := r.ckv l * rt 256 r.ckv * w.gkva l

/-- The queries, and the keys with the values, before the heads' norms. -/
def q (h : Fin 4) (j : Fin 192) : ℝ := ∑ l, nq w r l * w.wq l h j
def kv (c : Fin 1024) : ℝ := ∑ l, nkv w r l * w.wkv l c

/-- The keys: a head's own columns and the shared ones. -/
def k (h : Fin 4) (j : Fin 192) : ℝ := if e : j.val < 128 then kv w r (own h ⟨j.val, e⟩) else r.kr ⟨j.val - 128, by omega⟩

/-- A gradient turned back by the angles. -/
def turn (d : Fin 192 → ℝ) (j : Fin 192) : ℝ :=
  if j.val < 128 then d j
  else if e : j.val < 160 then d ⟨j.val + 32, by omega⟩ * r.s ⟨j.val - 128, by omega⟩ + d j * r.c ⟨j.val - 128, by omega⟩
  else d j * r.c ⟨j.val - 160, by omega⟩ - d ⟨j.val - 32, by omega⟩ * r.s ⟨j.val - 160, by omega⟩

/-- The gradients before the heads' norms. -/
def dq (h : Fin 4) : Fin 192 → ℝ := back 192 (q w r h) fun j => turn r (r.dq h) j * w.gqn j
def dk (h : Fin 4) : Fin 192 → ℝ := back 192 (k w r h) fun j => turn r (r.dk h) j * w.gkn j

/-- The gradient of the keys' own columns and the values. -/
def dkv (h : Fin 4) (p : Fin 256) : ℝ := if e : p.val < 128 then dk w r h ⟨p.val, by omega⟩ else r.dv h ⟨p.val - 128, by omega⟩

/-- The gradients at the normed rows. -/
def dnq (l : Fin 256) : ℝ := ∑ h, ∑ j, dq w r h j * w.wq l h j
def dnkv (l : Fin 256) : ℝ := ∑ h, ∑ p, dkv w r h p * w.wkv l (col h p)

/-- The results: the gradients of the two rows and of the shared columns. -/
def dcq : Fin 256 → ℝ := back 256 r.cq fun l => dnq w r l * w.gqa l
def dckv : Fin 256 → ℝ := back 256 r.ckv fun l => dnkv w r l * w.gkva l
def dkr (j : Fin 64) : ℝ := ∑ h, dk w r h ⟨128 + j.val, by omega⟩

/-- The first result's columns. -/
def dz (j : Fin 640) : ℝ :=
  if e : j.val < 256 then dcq w r ⟨j.val, e⟩ else if e' : j.val < 512 then dckv w r ⟨j.val - 256, by omega⟩
  else pad (dkr w r) (⟨j.val - 512, by omega⟩ : Fin 128)

/-- A row's parts of the weights' gradients. -/
def gwq (l : Fin 256) (h : Fin 4) (j : Fin 192) : ℝ := nq w r l * dq w r h j
def gwkv (l : Fin 256) (h : Fin 4) (p : Fin 256) : ℝ := nkv w r l * dkv w r h p
def ggqa (l : Fin 256) : ℝ := dnq w r l * r.cq l * rt 256 r.cq
def ggkva (l : Fin 256) : ℝ := dnkv w r l * r.ckv l * rt 256 r.ckv
def ggqn (h : Fin 4) (j : Fin 192) : ℝ := turn r (r.dq h) j * q w r h j * rt 192 (q w r h)
def ggkn (h : Fin 4) (j : Fin 192) : ℝ := turn r (r.dk h) j * k w r h j * rt 192 (k w r h)

/-- The tables of the angles, over the 128 columns of a head's turned part. -/
def tc (j : Fin 128) : ℝ := if e : j.val < 32 then r.c ⟨j.val, e⟩ else if e' : j.val < 64 then r.c ⟨j.val - 32, by omega⟩ else 0
def ta (j : Fin 128) : ℝ := if j.val < 32 then 0 else if e' : j.val < 64 then r.s ⟨j.val - 32, by omega⟩ else 0
def tb (j : Fin 128) : ℝ := if e : j.val < 32 then -r.s ⟨j.val, e⟩ else 0

end Cert.BwdMla.Real

end
-- ==== Proof.BwdMla.Pay.lean ====
/- The projections' backward call's payloads at an index, over blocks of finite numbers. -/
module

public import proofs.«01_k».proof.Proof.BwdMla.Block
public import proofs.«01_k».proof.Proof.BwdMla.Real
public import Idealize.ShloMosaic.Lib.Pipeline.ValueKit
public import Idealize.ShloMosaic.Lib.Pipeline.ValueKit.Tiles

@[expose] public section

set_option maxRecDepth 16384
set_option maxHeartbeats 1000000

noncomputable section

open Idealize.ShloMosaic Idealize.ShloMosaic.TcCoe Idealize.SL.Sem

namespace Cert.BwdMla.Pay

open Cert.BwdMlaIdeal Cert.BwdMlaIdeal.Gen Cert.BwdMla.Hand Cert.Sums Cert.Norm Cert.BwdMla Cert.BwdMla.Real

/-- The blocks of a grid point hold these weights and rows. -/
structure Holds (x : Ins Ideal) (w : Wts) (R : Fin 512 → Row) : Prop where
  cq : ∀ r j, x.x0 (ix2 r j) = ((R r).cq j : EReal)
  ckv : ∀ r j, x.x1 (ix2 r j) = ((R r).ckv j : EReal)
  kr : ∀ r j, x.x2 (ix2 r j) = (pad (R r).kr j : EReal)
  dq : ∀ h r j, x.x3 (ix3 h r j) = (pad ((R r).dq h) j : EReal)
  dk : ∀ h r j, x.x4 (ix3 h r j) = (pad ((R r).dk h) j : EReal)
  dv : ∀ h r j, x.x5 (ix3 h r j) = ((R r).dv h j : EReal)
  c : ∀ r j, x.x6 (ix2 r j) = (tc (R r) j : EReal)
  a : ∀ r j, x.x7 (ix2 r j) = (ta (R r) j : EReal)
  b : ∀ r j, x.x8 (ix2 r j) = (tb (R r) j : EReal)
  gqa : ∀ j, x.x9 (ix2 0 j) = (w.gqa j : EReal)
  gkva : ∀ j, x.x10 (ix2 0 j) = (w.gkva j : EReal)
  wq : ∀ l c, x.x11 (ix2 l c) = (pad (w.wq l (hd c)) (ln c) : EReal)
  wkv : ∀ l c, x.x12 (ix2 l c) = (w.wkv l c : EReal)
  gqn : ∀ j, x.x13 (ix2 0 j) = (pad w.gqn j : EReal)
  gkn : ∀ j, x.x14 (ix2 0 j) = (pad w.gkn j : EReal)

theorem over_192 : (Named.named κ "over_qk_head" 0x3BAAAAAB#32 : Ideal .f32) = ((1 / 192 : ℝ) : EReal) :=
  (show (Named.named κ "over_qk_head" 0x3BAAAAAB#32 : Ideal .f32) = ((192⁻¹ : ℝ) : EReal) from rfl).trans (congrArg _ (by norm_num))

variable {x : Ins Ideal} {w : Wts} {R : Fin 512 → Row} (H : Holds x w R)

include H in
theorem rq_at (r : Fin 512) : k0_pay17 (F := Ideal) x.x0 (ix2 r 0) = (rt 256 (R r).cq : EReal) := by
  rw [← rsqrt_ms (by norm_num)]
  pointwise [k0_pay17, k0_pay11]
  simp only [H.cq, ← EReal.coe_mul, coe_sum]
  rw [over_256_word, eps_word, ← EReal.coe_mul, ← EReal.coe_add]
  rfl

include H in
theorem nq_at (r : Fin 512) (l : Fin 256) : k0_pay18 (F := Ideal) x.x0 x.x9 (ix2 r l) = (nq w (R r) l : EReal) := by
  pointwise [k0_pay18, k0_pay11]
  rw [rq_at H, H.cq, H.gqa, ← EReal.coe_mul, ← EReal.coe_mul]
  rfl

include H in
theorem rkv_at (r : Fin 512) : Block.rkv (F := Ideal) x (ix2 r 0) = (rt 256 (R r).ckv : EReal) := by
  unfold Block.rkv
  rw [← rsqrt_ms (by norm_num)]
  pointwise [k0_pay20, k0_pay19, k0_pay12]
  simp only [H.ckv, ← EReal.coe_mul, coe_sum]
  rw [eps_word]
  change Ideal.rsqrt (_ * Ideal.ofBits .f32 0x3B800000#32 + _) = _
  rw [over_256_word, ← EReal.coe_mul, ← EReal.coe_add]
  rfl

include H in
theorem nkv_at (r : Fin 512) (l : Fin 256) :
    k0_pay22 (F := Ideal) (k0_pay12 x.x1) x.x10 (k0_pay19 x.x1) (FloatOps.ofBits .f32 998244352#32) (ix2 r l) = (nkv w (R r) l : EReal) := by
  have e : k0_pay20 (F := Ideal) (k0_pay19 x.x1) (Ideal.ofBits FTy.f32 998244352#32) (ix2 r 0) = (rt 256 (R r).ckv : EReal) := rkv_at H r
  pointwise [k0_pay22, k0_pay12]
  rw [e, H.ckv, H.gkva, ← EReal.coe_mul, ← EReal.coe_mul]
  rfl

include H in
theorem nq_bf (r : Fin 512) (l : Fin 256) : k0_pay21 (F := Ideal) (k0_pay18 x.x0 x.x9) (ix2 r l) = (nq w (R r) l : EReal) := by
  pointwise [k0_pay21]
  exact nq_at H r l

include H in
theorem qs_at (r : Fin 512) (c : Fin 1024) : Block.qs (F := Ideal) x (ix2 r c) = (pad (q w (R r) (hd c)) (ln c) : EReal) := by
  unfold Block.qs
  pointwise [k0_pay23, k0_pay16]
  simp only [nq_bf H, H.wq, ← EReal.coe_mul, coe_sum, mul_pad, sum_pads]
  rfl

include H in
theorem kvs_at (r : Fin 512) (c : Fin 1024) : Block.kvs (F := Ideal) x (ix2 r c) = (kv w (R r) c : EReal) := by
  have e (l : Fin 256) : k0_pay22 (F := Ideal) (k0_pay12 x.x1) x.x10 (k0_pay19 x.x1) (Ideal.ofBits FTy.f32 998244352#32) (ix2 r l) = (nkv w (R r) l : EReal) := nkv_at H r l
  unfold Block.kvs
  pointwise [k0_pay24]
  simp only [e, H.wkv, ← EReal.coe_mul, coe_sum]
  rfl

include H in
theorem qs_band (r : Fin 512) (h : Fin 4) (j : Fin 256) (c : Fin 1024) (e : c.val = h.val * 256 + j.val) :
    Block.qs (F := Ideal) x (ix2 r c) = (pad (q w (R r) h) j : EReal) := by
  rw [qs_at H, hd_of c h j e, ln_of c h j e]

include H in
theorem qh_at (h : Fin 4) (r : Fin 512) (j : Fin 256) : Block.qh (F := Ideal) x h (ix2 r j) = (pad (q w (R r) h) j : EReal) := by
  match h with
  | 0 =>
    show k0_pay32 (F := Ideal) (k0_pay16 x.x11) (k0_pay18 x.x0 x.x9) (ix2 r j) = _
    pointwise [k0_pay32]
    exact qs_band H r 0 j _ (by simp)
  | 1 =>
    show k0_pay46 (F := Ideal) (Block.qs x) (ix2 r j) = _
    pointwise [k0_pay46]
    exact qs_band H r 1 j _ (by simp)
  | 2 =>
    show k0_pay61 (F := Ideal) (Block.qs x) (ix2 r j) = _
    pointwise [k0_pay61]
    exact qs_band H r 2 j _ (by simp)
  | 3 =>
    show k0_pay82 (F := Ideal) (Block.qs x) (ix2 r j) = _
    pointwise [k0_pay82]
    exact qs_band H r 3 j _ (by simp)

include H in
theorem kn_at (h : Fin 4) (r : Fin 512) (j : Fin 128) : Block.kn (F := Ideal) x h (ix2 r j) = (kv w (R r) (own h j) : EReal) := by
  have e (c : Fin 1024) (he : c.val = h.val * 256 + j.val) : Block.kvs (F := Ideal) x (ix2 r c) = (kv w (R r) (own h j) : EReal) := by
    rw [kvs_at H, show c = own h j from Fin.ext he]
  match h with
  | 0 =>
    show k0_pay37 (F := Ideal) (Block.kvs x) (ix2 r j) = _
    pointwise [k0_pay37]
    exact e _ (by simp)
  | 1 =>
    show k0_pay52 (F := Ideal) (Block.kvs x) (ix2 r j) = _
    pointwise [k0_pay52]
    exact e _ (by simp)
  | 2 =>
    show k0_pay70 (F := Ideal) (Block.kvs x) (ix2 r j) = _
    pointwise [k0_pay70]
    exact e _ (by simp)
  | 3 =>
    show k0_pay90 (F := Ideal) (Block.kvs x) (ix2 r j) = _
    pointwise [k0_pay90]
    exact e _ (by simp)

include H in
theorem kh_at (h : Fin 4) (r : Fin 512) (j : Fin 256) : Block.kh (F := Ideal) x h (ix2 r j) = (pad (k w (R r) h) j : EReal) := by
  unfold Block.kh
  pointwise [Block.joined]
  by_cases h0 : j.val < 128
  · rw [dif_pos h0, kn_at H, pad_lt _ _ (by omega : j.val < 192), k, dif_pos h0]
  rw [dif_neg h0]
  pointwise [k0_pay13]
  rw [H.kr]
  by_cases h1 : j.val < 192
  · rw [pad_lt _ _ h1, k, dif_neg h0, pad_lt _ _ (by show j.val - 128 < 64; omega)]
  · rw [pad_ge _ _ h1, pad_ge _ _ (by show ¬ j.val - 128 < 64; omega)]

/-- The root of a padded row. -/
theorem root_at (v : FVec Ideal S512x256 .f32) (f : Fin 512 → Fin 192 → ℝ) (hv : ∀ r j, v (ix2 r j) = (pad (f r) j : EReal)) (r : Fin 512) :
    Block.root (F := Ideal) v (ix2 r 0) = (rt 192 (f r) : EReal) := by
  rw [← rsqrt_ms (by norm_num)]
  pointwise [Block.root]
  simp only [hv, ← EReal.coe_mul, coe_sum, pad_mul]
  rw [over_192, eps_word, sum_pad (by decide : 192 ≤ 256), ← EReal.coe_mul, ← EReal.coe_add]
  rfl

/-- A key's squares: its own columns' and the shared ones'. -/
theorem sq_k (r : Row) (h : Fin 4) : ∑ j : Fin 128, kv w r (own h j) * kv w r (own h j) + ∑ j : Fin 128, pad r.kr j * pad r.kr j = ∑ j, k w r h j * k w r h j := by
  simp only [pad_mul]
  rw [sum_pad (by decide : 64 ≤ 128)]
  show _ = ∑ j : Fin (128 + 64), k w r h j * k w r h j
  rw [Fin.sum_univ_add]
  refine congrArg₂ (· + ·) (Finset.sum_congr rfl fun j _ => ?_) (Finset.sum_congr rfl fun j _ => ?_)
  · have e : k w r h (Fin.castAdd 64 j) = kv w r (own h j) := by rw [k, dif_pos (show (Fin.castAdd 64 j).val < 128 from j.isLt)]; rfl
    rw [e]
  · have e : k w r h (Fin.natAdd 128 j) = r.kr j := by
      rw [k, dif_neg (show ¬ (Fin.natAdd 128 j).val < 128 by simp)]
      exact congrArg r.kr (Fin.ext (by simp))
    rw [e]

include H in
theorem rootsK_at (h : Fin 4) (r : Fin 512) : Block.rootsK (F := Ideal) x h (ix2 r 0) = (rt 192 (k w (R r) h) : EReal) := by
  rw [← rsqrt_ms (by norm_num)]
  unfold Block.rootsK
  pointwise [Block.rootK, k0_pay28, k0_pay13]
  simp only [kn_at H, H.kr, ← EReal.coe_mul, coe_sum]
  rw [over_192, eps_word, ← EReal.coe_add, sq_k, ← EReal.coe_mul, ← EReal.coe_add]
  rfl

theorem slab_at (X : Vec Ideal S4x512x256 .f32) (h : Fin 4) (r : Fin 512) (j : Fin 256) : Block.slab (F := Ideal) X h (ix3 0 r j) = X (ix3 h r j) := by
  unfold Block.slab View.ld
  refine congrArg X (funext fun a => Fin.ext ?_)
  match a with
  | ⟨0, _⟩ => show h.val + 1 * 0 = h.val; omega
  | ⟨1, _⟩ => show 0 + 1 * r.val = r.val; omega
  | ⟨2, _⟩ => show 0 + 1 * j.val = j.val; omega

theorem slabV_at (X : Vec Ideal S4x512x128 .f32) (h : Fin 4) (r : Fin 512) (j : Fin 128) : Block.slabV (F := Ideal) X h (ix3 0 r j) = X (ix3 h r j) := by
  unfold Block.slabV View.ld
  refine congrArg X (funext fun a => Fin.ext ?_)
  match a with
  | ⟨0, _⟩ => show h.val + 1 * 0 = h.val; omega
  | ⟨1, _⟩ => show 0 + 1 * r.val = r.val; omega
  | ⟨2, _⟩ => show 0 + 1 * j.val = j.val; omega

include H in
/-- The gradient turned back: two rolls of the columns and the three tables. -/
theorem turn_at (X : Vec Ideal S4x512x256 .f32) (D : Fin 4 → Fin 512 → Fin 192 → ℝ) (hX : ∀ h r j, X (ix3 h r j) = (pad (D h r) j : EReal)) (h : Fin 4) (r : Fin 512) (j : Fin 256) :
    k0_pay34 (F := Ideal) (k0_pay25 x.x6) (k0_pay26 x.x7) (k0_pay27 x.x8) (Block.slab X h) (ix2 r j) = (pad (turn (R r) (D h r)) j : EReal) := by
  pointwise [k0_pay34, k0_pay25, k0_pay26, k0_pay27]
  simp only [slab_at, hX]
  by_cases h0 : j.val < 128
  · rw [dif_pos h0, pad_lt _ _ (by omega : j.val < 192), pad_lt _ _ (by omega : j.val < 192), turn, if_pos h0]
  rw [dif_neg h0, H.c, H.a, H.b]
  simp only [tc, ta, tb]
  have e0 : 128 + (j.val - 128) = j.val := by omega
  by_cases h1 : j.val < 160
  · have i1 : j.val - 128 < 32 := by omega
    rw [dif_pos i1, if_pos i1, dif_pos i1, pad_lt _ j (by omega : j.val < 192), turn, if_neg h0, dif_pos h1]
    rw [pad_lt (D h r) (⟨128 + (j.val - 128), _⟩ : Fin 256) (by show 128 + (j.val - 128) < 192; omega)]
    rw [pad_lt (D h r) (⟨128 + (j.val - 128 + 128 - 96) % 128, _⟩ : Fin 256) (by show 128 + (j.val - 128 + 128 - 96) % 128 < 192; omega)]
    simp only [e0, show 128 + (j.val - 128 + 128 - 96) % 128 = j.val + 32 by omega]
    simp only [← EReal.coe_zero, ← EReal.coe_sub, ← EReal.coe_mul, ← EReal.coe_add]
    exact congrArg _ (by ring)
  by_cases h2 : j.val < 192
  · have i1 : ¬ j.val - 128 < 32 := by omega
    have i2 : j.val - 128 < 64 := by omega
    rw [dif_neg i1, if_neg i1, dif_neg i1, dif_pos i2, dif_pos i2, pad_lt _ j h2, turn, if_neg h0, dif_neg h1]
    rw [pad_lt (D h r) (⟨128 + (j.val - 128), _⟩ : Fin 256) (by show 128 + (j.val - 128) < 192; omega)]
    rw [pad_lt (D h r) (⟨128 + (j.val - 128 + 128 - 32) % 128, _⟩ : Fin 256) (by show 128 + (j.val - 128 + 128 - 32) % 128 < 192; omega)]
    simp only [e0, show 128 + (j.val - 128 + 128 - 32) % 128 = j.val - 32 by omega, show j.val - 128 - 32 = j.val - 160 by omega]
    simp only [← EReal.coe_zero, ← EReal.coe_sub, ← EReal.coe_mul, ← EReal.coe_add]
    exact congrArg _ (by ring)
  · have i1 : ¬ j.val - 128 < 32 := by omega
    have i2 : ¬ j.val - 128 < 64 := by omega
    rw [dif_neg i1, if_neg i1, dif_neg i1, dif_neg i2, dif_neg i2, pad_ge _ j h2]
    simp only [← EReal.coe_zero, ← EReal.coe_sub, ← EReal.coe_mul, ← EReal.coe_add]
    exact congrArg _ (by ring)

/-- The gradient before a norm, of padded rows. -/
theorem back_pad (f t g : Fin 192 → ℝ) (ρ : ℝ) (j : Fin 256) :
    ρ * (pad t j * pad g j) - pad f j * (ρ * ρ * ρ) * ((∑ i : Fin 256, pad t i * pad g i * pad f i) * (1 / 192))
      = pad (fun j => ρ * (t j * g j) - f j * (ρ * ρ * ρ) * ((∑ i, t i * g i * f i) * (1 / 192))) j := by
  simp only [pad_mul]
  rw [sum_pad (by decide : 192 ≤ 256)]
  by_cases h : j.val < 192
  · simp only [pad_lt _ _ h]
  · simp only [pad_ge _ _ h, mul_zero, zero_mul, sub_zero]

include H in
/-- The gradient before a head's norm. -/
theorem back_at (g : FVec Ideal S1x256 .f32) (gn : Fin 192 → ℝ) (hg : ∀ j, g (ix2 0 j) = (pad gn j : EReal)) (v : FVec Ideal S512x256 .f32) (ρ : FVec Ideal S512x1 .f32)
    (f : Fin 512 → Fin 192 → ℝ) (hv : ∀ r j, v (ix2 r j) = (pad (f r) j : EReal)) (hρ : ∀ r, ρ (ix2 r 0) = (rt 192 (f r) : EReal))
    (X : Vec Ideal S4x512x256 .f32) (D : Fin 4 → Fin 512 → Fin 192 → ℝ) (hX : ∀ h r j, X (ix3 h r j) = (pad (D h r) j : EReal)) (h : Fin 4) (r : Fin 512) (j : Fin 256) :
    k0_pay41 (F := Ideal) g (k0_pay25 x.x6) (k0_pay26 x.x7) (k0_pay27 x.x8) v ρ (Block.slab X h) (ix2 r j)
      = (pad (back 192 (f r) fun j => turn (R r) (D h r) j * gn j) j : EReal) := by
  have e (j : Fin 256) : k0_pay40 (F := Ideal) (k0_pay25 x.x6) (k0_pay26 x.x7) (k0_pay27 x.x8) (Block.slab X h) (ix2 r j) = (pad (turn (R r) (D h r)) j : EReal) := turn_at H X D hX h r j
  pointwise [k0_pay41]
  simp only [e, hg, hv, hρ, over_192, ← EReal.coe_mul, coe_sum, ← EReal.coe_sub]
  exact congrArg _ (back_pad _ _ _ _ _)

include H in
/-- A head's part of the gains' gradient, over the rows of a block. -/
theorem gain_at (v : FVec Ideal S512x256 .f32) (ρ : FVec Ideal S512x1 .f32)
    (f : Fin 512 → Fin 192 → ℝ) (hv : ∀ r j, v (ix2 r j) = (pad (f r) j : EReal)) (hρ : ∀ r, ρ (ix2 r 0) = (rt 192 (f r) : EReal))
    (X : Vec Ideal S4x512x256 .f32) (D : Fin 4 → Fin 512 → Fin 192 → ℝ) (hX : ∀ h r j, X (ix3 h r j) = (pad (D h r) j : EReal)) (a : FVec Ideal S1x256 .f32) (h : Fin 4) (j : Fin 256) :
    k0_pay42 (F := Ideal) (k0_pay25 x.x6) (k0_pay26 x.x7) (k0_pay27 x.x8) a v ρ (Block.slab X h) (ix2 0 j)
      = a (ix2 0 j) + ((pad (fun j => ∑ r, turn (R r) (D h r) j * f r j * rt 192 (f r)) j : ℝ) : EReal) := by
  have e (r : Fin 512) (j : Fin 256) : k0_pay40 (F := Ideal) (k0_pay25 x.x6) (k0_pay26 x.x7) (k0_pay27 x.x8) (Block.slab X h) (ix2 r j) = (pad (turn (R r) (D h r)) j : EReal) := turn_at H X D hX h r j
  pointwise [k0_pay42]
  simp only [e, hv, hρ, ← EReal.coe_mul, coe_sum]
  refine congrArg (fun t : ℝ => a (ix2 0 j) + (t : EReal)) ?_
  by_cases h0 : j.val < 192
  · simp only [pad_lt _ _ h0]
  · simp only [pad_ge _ _ h0, mul_zero, zero_mul, Finset.sum_const_zero]

end Cert.BwdMla.Pay

end
-- ==== Proof.BwdMla.Outs.lean ====
/- The outputs of a grid point of the projections' backward call, at an index. -/
module

public import proofs.«01_k».proof.Proof.BwdMla.Pay
public import Idealize.ShloMosaic.Lib.Pipeline.ValueKit
public import Idealize.ShloMosaic.Lib.Pipeline.ValueKit.Tiles

@[expose] public section

set_option maxRecDepth 16384
set_option maxHeartbeats 1000000

noncomputable section

open Idealize.ShloMosaic Idealize.ShloMosaic.TcCoe Idealize.SL.Sem

namespace Cert.BwdMla.Pay

open Cert.BwdMlaIdeal Cert.BwdMlaIdeal.Gen Cert.BwdMla.Hand Cert.Sums Cert.Norm Cert.BwdMla Cert.BwdMla.Real

variable {x : Ins Ideal} {w : Wts} {R : Fin 512 → Row} (H : Holds x w R)

/-- A store of some columns, at an index among them. -/
theorem piece {N b : ℕ} (F : Fin 512 → Fin N → ℝ) (i : Fin 512) (c : Fin N) (o : ℕ) (P : FVec Ideal ⟨2, ![512, b]⟩ .bf16)
    (hP : ∀ r (k : Fin b) (c : Fin N), c.val = o + k.val → P (ix2 r k) = (F r c : EReal)) :
    View.TileAt (Val := Elt Ideal) (S := ⟨2, ![512, N]⟩) (e := .bf16) (ix2 i c) ![0, o] ![512, b] P (F i c : EReal) := by
  intro x hx
  obtain ⟨x0, x1, rfl⟩ : ∃ (a : Fin 512) (k : Fin b), x = ix2 a k := ⟨x 0, x 1, eq_ix2 x⟩
  have e0 : i.val = 0 + x0.val := hx 0
  have e1 : c.val = o + x1.val := hx 1
  obtain rfl : i = x0 := Fin.ext (by omega)
  exact hP _ _ _ e1

include H in
theorem dqh_at (h : Fin 4) (r : Fin 512) (j : Fin 256) : Block.dqh (F := Ideal) x h (ix2 r j) = (pad (dq w (R r) h) j : EReal) := by
  have g (j : Fin 256) : k0_pay14 (F := Ideal) x.x13 (ix2 0 j) = (pad w.gqn j : EReal) := by
    pointwise [k0_pay14]
    exact H.gqn j
  refine Eq.trans ?_ (back_at H _ _ g (Block.qh x h) _ (fun r => q w (R r) h) (qh_at H h) (root_at _ _ (qh_at H h)) x.x3 (fun h r => (R r).dq h) H.dq h r j)
  unfold Block.dqh
  pointwise [k0_pay35, k0_pay41]
  rfl

include H in
theorem dkh_at (h : Fin 4) (r : Fin 512) (j : Fin 256) : Block.dkh (F := Ideal) x h (ix2 r j) = (pad (dk w (R r) h) j : EReal) := by
  have g (j : Fin 256) : k0_pay15 (F := Ideal) x.x14 (ix2 0 j) = (pad w.gkn j : EReal) := by
    pointwise [k0_pay15]
    exact H.gkn j
  exact back_at H _ _ g (Block.kh x h) _ (fun r => k w (R r) h) (kh_at H h) (rootsK_at H h) x.x4 (fun h r => (R r).dk h) H.dk h r j

include H in
theorem gq_at (h : Fin 4) (a : FVec Ideal S1x256 .f32) (j : Fin 256) :
    Block.gq (F := Ideal) x h a (ix2 0 j) = a (ix2 0 j) + ((pad (fun j => ∑ r, ggqn w (R r) h j) j : ℝ) : EReal) :=
  gain_at H (Block.qh x h) _ (fun r => q w (R r) h) (qh_at H h) (root_at _ _ (qh_at H h)) x.x3 (fun h r => (R r).dq h) H.dq a h j

include H in
theorem gk_at (h : Fin 4) (a : FVec Ideal S1x256 .f32) (j : Fin 256) :
    Block.gk (F := Ideal) x h a (ix2 0 j) = a (ix2 0 j) + ((pad (fun j => ∑ r, ggkn w (R r) h j) j : ℝ) : EReal) :=
  gain_at H (Block.kh x h) _ (fun r => k w (R r) h) (kh_at H h) (rootsK_at H h) x.x4 (fun h r => (R r).dk h) H.dk a h j

include H in
theorem dqs_at (r : Fin 512) (c : Fin 1024) : Block.dqs (F := Ideal) x (ix2 r c) = (pad (dq w (R r) (hd c)) (ln c) : EReal) := by
  have e (h : Fin 4) (o : ℕ) (eo : o = h.val * 256) (r : Fin 512) (j : Fin 256) (c : Fin 1024) (ec : c.val = o + j.val) :
      Block.dqh (F := Ideal) x h (ix2 r j) = ((fun (r : Fin 512) (c : Fin 1024) => pad (dq w (R r) (hd c)) (ln c)) r c : EReal) := by
    show _ = ((pad (dq w (R r) (hd c)) (ln c) : ℝ) : EReal)
    rw [dqh_at H, hd_of c h j (by omega), ln_of c h j (by omega)]
  refine View.canon_eq_of_allAt _ _ _ (Block.sides_cover _ _) ?_
  unfold Block.sides
  refine View.allAt_cons_unit _ _ _ _ _ (piece (fun r c => pad (dq w (R r) (hd c)) (ln c)) r c 768 _ (e 3 768 rfl)) ?_
  refine View.allAt_cons_unit _ _ _ _ _ (piece (fun r c => pad (dq w (R r) (hd c)) (ln c)) r c 512 _ (e 2 512 rfl)) ?_
  refine View.allAt_cons_unit _ _ _ _ _ (piece (fun r c => pad (dq w (R r) (hd c)) (ln c)) r c 256 _ (e 1 256 rfl)) ?_
  refine View.allAt_cons_unit _ _ _ _ _ (piece (fun r c => pad (dq w (R r) (hd c)) (ln c)) r c 0 _ (e 0 0 rfl)) ?_
  exact View.allAt_nil _ _

include H in
theorem dkvs_at (r : Fin 512) (c : Fin 1024) : Block.dkvs (F := Ideal) x (ix2 r c) = (dkv w (R r) (hd c) (ln c) : EReal) := by
  have en (h : Fin 4) (o : ℕ) (eo : o = h.val * 256) (r : Fin 512) (j : Fin 128) (c : Fin 1024) (ec : c.val = o + j.val) :
      Block.dnh (F := Ideal) x h (ix2 r j) = ((fun (r : Fin 512) (c : Fin 1024) => dkv w (R r) (hd c) (ln c)) r c : EReal) := by
    show _ = ((dkv w (R r) (hd c) (ln c) : ℝ) : EReal)
    rw [hd_of c h ⟨j.val, by omega⟩ (by show c.val = _ + j.val; omega), ln_of c h ⟨j.val, by omega⟩ (by show c.val = _ + j.val; omega)]
    unfold Block.dnh
    pointwise [k0_pay58]
    rw [dkh_at H, pad_lt _ _ (by show j.val < 192; omega), dkv, dif_pos (show j.val < 128 from j.isLt)]
  have ev (h : Fin 4) (o : ℕ) (eo : o = h.val * 256 + 128) (r : Fin 512) (j : Fin 128) (c : Fin 1024) (ec : c.val = o + j.val) :
      Block.dvh (F := Ideal) x h (ix2 r j) = ((fun (r : Fin 512) (c : Fin 1024) => dkv w (R r) (hd c) (ln c)) r c : EReal) := by
    show _ = ((dkv w (R r) (hd c) (ln c) : ℝ) : EReal)
    rw [hd_of c h ⟨128 + j.val, by omega⟩ (by show c.val = _ + (128 + j.val); omega), ln_of c h ⟨128 + j.val, by omega⟩ (by show c.val = _ + (128 + j.val); omega)]
    unfold Block.dvh
    pointwise [k0_pay44]
    rw [slabV_at, H.dv, dkv, dif_neg (show ¬ 128 + j.val < 128 by omega)]
    exact congrArg (fun t => (((R r).dv h t : ℝ) : EReal)) (Fin.ext (by show j.val = 128 + j.val - 128; omega))
  refine View.canon_eq_of_allAt _ _ _ (Block.halves_cover _ _ _) ?_
  unfold Block.halves
  refine View.allAt_cons_unit _ _ _ _ _ (piece (fun r c => dkv w (R r) (hd c) (ln c)) r c 896 _ (ev 3 896 rfl)) ?_
  refine View.allAt_cons_unit _ _ _ _ _ (piece (fun r c => dkv w (R r) (hd c) (ln c)) r c 768 _ (en 3 768 rfl)) ?_
  refine View.allAt_cons_unit _ _ _ _ _ (piece (fun r c => dkv w (R r) (hd c) (ln c)) r c 640 _ (ev 2 640 rfl)) ?_
  refine View.allAt_cons_unit _ _ _ _ _ (piece (fun r c => dkv w (R r) (hd c) (ln c)) r c 512 _ (en 2 512 rfl)) ?_
  refine View.allAt_cons_unit _ _ _ _ _ (piece (fun r c => dkv w (R r) (hd c) (ln c)) r c 384 _ (ev 1 384 rfl)) ?_
  refine View.allAt_cons_unit _ _ _ _ _ (piece (fun r c => dkv w (R r) (hd c) (ln c)) r c 256 _ (en 1 256 rfl)) ?_
  refine View.allAt_cons_unit _ _ _ _ _ (piece (fun r c => dkv w (R r) (hd c) (ln c)) r c 128 _ (ev 0 128 rfl)) ?_
  refine View.allAt_cons_unit _ _ _ _ _ (piece (fun r c => dkv w (R r) (hd c) (ln c)) r c 0 _ (en 0 0 rfl)) ?_
  exact View.allAt_nil _ _

include H in
theorem dnq_at (r : Fin 512) (l : Fin 256) : k0_pay103 (F := Ideal) (Block.dqs x) x.x11 (ix2 r l) = (dnq w (R r) l : EReal) := by
  pointwise [k0_pay103]
  simp only [dqs_at H, H.wq, ← EReal.coe_mul, coe_sum, pad_mul]
  refine congrArg _ ?_
  rw [sum_flat (b := 256) rfl _ (fun h j => pad (fun k => dq w (R r) h k * w.wq l h k) j) fun h j c e => by rw [hd_of c h j e, ln_of c h j e]]
  exact Finset.sum_congr rfl fun h _ => sum_pad (by decide) _

include H in
theorem dnkv_at (r : Fin 512) (l : Fin 256) : k0_pay109 (F := Ideal) (Block.dkvs x) x.x12 (ix2 r l) = (dnkv w (R r) l : EReal) := by
  pointwise [k0_pay109]
  simp only [dkvs_at H, H.wkv, ← EReal.coe_mul, coe_sum]
  exact congrArg _ (sum_flat (b := 256) rfl _ (fun h p => dkv w (R r) h p * w.wkv l (col h p)) fun h j c e => by
    rw [hd_of c h j e, ln_of c h j e, show c = col h j from Fin.ext e])

include H in
theorem dcq_at (r : Fin 512) (l : Fin 256) : Block.dcq (F := Ideal) x (ix2 r l) = (dcq w (R r) l : EReal) := by
  unfold Block.dcq
  pointwise [k0_pay107, k0_pay106, k0_pay105, k0_pay104, k0_pay11]
  simp only [rq_at H, dnq_at H, H.cq, H.gqa, over_256_word, ← EReal.coe_mul, coe_sum, ← EReal.coe_sub]
  rfl

include H in
theorem dckv_at (r : Fin 512) (l : Fin 256) : Block.dckv (F := Ideal) x (ix2 r l) = (dckv w (R r) l : EReal) := by
  unfold Block.dckv
  pointwise [k0_pay110, k0_pay12]
  simp only [rkv_at H, dnkv_at H, H.ckv, H.gkva, over_256_word, ← EReal.coe_mul, coe_sum, ← EReal.coe_sub]
  rfl

include H in
theorem shared_at (r : Fin 512) (j : Fin 128) : Block.shared (F := Ideal) x (ix2 r j) = (pad (dkr w (R r)) j : EReal) := by
  unfold Block.shared
  pointwise [k0_pay45, k0_pay29]
  simp only [dkh_at H]
  have e (h : Fin 4) (c : Fin 256) (ec : c.val = 128 + j.val) : pad (dk w (R r) h) c = pad (fun k : Fin 64 => dk w (R r) h ⟨128 + k.val, by omega⟩) j := by
    by_cases h0 : j.val < 64
    · rw [pad_lt _ _ (by omega : c.val < 192), pad_lt _ _ h0]
      exact congrArg _ (Fin.ext ec)
    · rw [pad_ge _ _ (by omega : ¬ c.val < 192), pad_ge _ _ h0]
  rw [e 0 _ rfl, e 1 _ rfl, e 2 _ rfl, e 3 _ rfl]
  have d : dkr w (R r) = fun j => ∑ h, dk w (R r) h ⟨128 + j.val, by omega⟩ := rfl
  rw [d, ← sum_pads, Fin.sum_univ_four]
  simp only [EReal.coe_add, zero_add, Ideal.ofBits_zero_f32]

/-- Four padded sums over the rows as one. -/
theorem four_pads (G : Fin 4 → Fin 512 → Fin 192 → ℝ) (j : Fin 256) :
    Real.pad (fun j => ∑ r, G 0 r j) j + Real.pad (fun j => ∑ r, G 1 r j) j + Real.pad (fun j => ∑ r, G 2 r j) j + Real.pad (fun j => ∑ r, G 3 r j) j = ∑ r, Real.pad (fun j => ∑ h, G h r j) j := by
  unfold Real.pad
  split
  · simp only [Fin.sum_univ_four, Finset.sum_add_distrib]
  · simp

/-- The three stores cover the block. -/
theorem parts_cover (x : Ins Ideal) (r : Fin 512) (j : Fin 640) : ∃ q ∈ Block.parts (F := Ideal) x, ix2 r j ∈ q.1.set := by
  have m (o b : ℕ) (ho : o + b ≤ 640) (h0 : o ≤ j.val) (h1 : j.val < o + b) : (ix2 r j : S512x640.Idx) ∈ (Rect.unit (s := S512x640) ![0, o] ![512, b] (Block.inbZ o ho)).set := by
    rw [Rect.mem_set_unit]
    intro a
    match a with
    | ⟨0, _⟩ => exact ⟨Nat.zero_le _, (show r.val < 0 + 512 by omega)⟩
    | ⟨1, _⟩ => exact ⟨h0, h1⟩
  unfold Block.parts
  by_cases h0 : j.val < 256
  · exact ⟨_, List.mem_cons_of_mem _ (List.mem_cons_of_mem _ (List.mem_cons_self ..)), m 0 256 (by omega) (by omega) (by omega)⟩
  by_cases h1 : j.val < 512
  · exact ⟨_, List.mem_cons_of_mem _ (List.mem_cons_self ..), m 256 256 (by omega) (by omega) (by omega)⟩
  · exact ⟨_, List.mem_cons_self .., m 512 128 (by omega) (by omega) (by omega)⟩

include H in
theorem y15_at (y : Outs Ideal) (r : Fin 512) (j : Fin 640) : (Block.out (F := Ideal) x y).y15 (ix2 r j) = (dz w (R r) j : EReal) := by
  have e0 (r : Fin 512) (k : Fin 128) (c : Fin 640) (ec : c.val = 512 + k.val) : k0_pay4 (Block.shared (F := Ideal) x) (ix2 r k) = ((fun (r : Fin 512) (c : Fin 640) => dz w (R r) c) r c : EReal) := by
    show _ = ((dz w (R r) c : ℝ) : EReal)
    pointwise [k0_pay4]
    rw [shared_at H, dz, dif_neg (by omega), dif_neg (by omega)]
    exact congrArg (fun t : Fin 128 => ((pad (dkr w (R r)) t : ℝ) : EReal)) (Fin.ext (by show k.val = c.val - 512; omega))
  have e1 (r : Fin 512) (k : Fin 256) (c : Fin 640) (ec : c.val = 256 + k.val) : k0_pay3 (Block.dckv (F := Ideal) x) (ix2 r k) = ((fun (r : Fin 512) (c : Fin 640) => dz w (R r) c) r c : EReal) := by
    show _ = ((dz w (R r) c : ℝ) : EReal)
    pointwise [k0_pay3]
    rw [dckv_at H, dz, dif_neg (by omega), dif_pos (by omega)]
    exact congrArg (fun t : Fin 256 => ((dckv w (R r) t : ℝ) : EReal)) (Fin.ext (by show k.val = c.val - 256; omega))
  have e2 (r : Fin 512) (k : Fin 256) (c : Fin 640) (ec : c.val = 0 + k.val) : k0_pay2 (Block.dcq (F := Ideal) x) (ix2 r k) = ((fun (r : Fin 512) (c : Fin 640) => dz w (R r) c) r c : EReal) := by
    show _ = ((dz w (R r) c : ℝ) : EReal)
    pointwise [k0_pay2]
    rw [dcq_at H, dz, dif_pos (by omega)]
    exact congrArg (fun t : Fin 256 => ((dcq w (R r) t : ℝ) : EReal)) (Fin.ext (by show k.val = c.val; omega))
  refine View.canon_eq_of_allAt _ _ _ (parts_cover x r j) ?_
  unfold Block.parts
  refine View.allAt_cons_unit _ _ _ _ _ (piece (fun r c => dz w (R r) c) r j 512 _ e0) ?_
  refine View.allAt_cons_unit _ _ _ _ _ (piece (fun r c => dz w (R r) c) r j 256 _ e1) ?_
  refine View.allAt_cons_unit _ _ _ _ _ (piece (fun r c => dz w (R r) c) r j 0 _ e2) ?_
  exact View.allAt_nil _ _

include H in
theorem y16_at (y : Outs Ideal) (l : Fin 256) (c : Fin 1024) :
    (Block.out (F := Ideal) x y).y16 (ix2 l c) = y.y16 (ix2 l c) + ((∑ r, pad (gwq w (R r) l (hd c)) (ln c) : ℝ) : EReal) := by
  show k0_pay101 (F := Ideal) _ _ _ _ = _
  pointwise [k0_pay101]
  simp only [nq_bf H, dqs_at H, ← EReal.coe_mul, coe_sum, mul_pad]
  rfl

include H in
theorem y17_at (y : Outs Ideal) (l : Fin 256) (c : Fin 1024) :
    (Block.out (F := Ideal) x y).y17 (ix2 l c) = y.y17 (ix2 l c) + ((∑ r, gwkv w (R r) l (hd c) (ln c) : ℝ) : EReal) := by
  have e (r : Fin 512) (l : Fin 256) : k0_pay22 (F := Ideal) (k0_pay12 x.x1) x.x10 (k0_pay19 x.x1) (Ideal.ofBits FTy.f32 998244352#32) (ix2 r l) = (nkv w (R r) l : EReal) := nkv_at H r l
  show k0_pay102 (F := Ideal) (k0_pay22 (k0_pay12 x.x1) x.x10 (k0_pay19 x.x1) (Ideal.ofBits FTy.f32 998244352#32)) _ _ _ = _
  pointwise [k0_pay102]
  simp only [e, dkvs_at H, ← EReal.coe_mul, coe_sum]
  rfl

include H in
theorem y18_at (y : Outs Ideal) (l : Fin 256) :
    (Block.out (F := Ideal) x y).y18 (ix2 0 l) = y.y18 (ix2 0 l) + ((∑ r, ggqa w (R r) l : ℝ) : EReal) := by
  show k0_pay108 (F := Ideal) _ _ _ _ _ = _
  pointwise [k0_pay108, k0_pay11]
  simp only [dnq_at H, H.cq, rq_at H, ← EReal.coe_mul, coe_sum]
  rfl

include H in
theorem y19_at (y : Outs Ideal) (l : Fin 256) :
    (Block.out (F := Ideal) x y).y19 (ix2 0 l) = y.y19 (ix2 0 l) + ((∑ r, ggkva w (R r) l : ℝ) : EReal) := by
  show k0_pay1 (F := Ideal) _ _ _ = _
  pointwise [k0_pay1, k0_pay111, k0_pay12]
  simp only [dnkv_at H, H.ckv, rkv_at H, ← EReal.coe_mul, coe_sum]
  rfl

include H in
theorem y20_at (y : Outs Ideal) (j : Fin 256) :
    (Block.out (F := Ideal) x y).y20 (ix2 0 j) = y.y20 (ix2 0 j) + ((∑ r, pad (fun j => ∑ h, ggqn w (R r) h j) j : ℝ) : EReal) := by
  show k0_pay99 (F := Ideal) _ _ _ = _
  pointwise [k0_pay99]
  rw [gq_at H, gq_at H, gq_at H, gq_at H]
  pointwise [k0_pay30]
  rw [← EReal.coe_add, ← EReal.coe_add, ← EReal.coe_add]
  refine congrArg (fun t : ℝ => y.y20 (ix2 0 j) + (t : EReal)) ?_
  exact four_pads (fun h r j => ggqn w (R r) h j) j

include H in
theorem y21_at (y : Outs Ideal) (j : Fin 256) :
    (Block.out (F := Ideal) x y).y21 (ix2 0 j) = y.y21 (ix2 0 j) + ((∑ r, pad (fun j => ∑ h, ggkn w (R r) h j) j : ℝ) : EReal) := by
  show k0_pay100 (F := Ideal) _ _ _ = _
  pointwise [k0_pay100]
  rw [gk_at H, gk_at H, gk_at H, gk_at H]
  pointwise [k0_pay31]
  rw [← EReal.coe_add, ← EReal.coe_add, ← EReal.coe_add]
  refine congrArg (fun t : ℝ => y.y21 (ix2 0 j) + (t : EReal)) ?_
  exact four_pads (fun h r j => ggkn w (R r) h j) j

end Cert.BwdMla.Pay

end
-- ==== Proof.BwdMla.Ref.lean ====
/- The projections' gradients in the reference at an index, over finite arguments. -/
module

public import proofs.«01_k».proof.Proof.Gen.MlaVjpIdeal.Read
public import proofs.«01_k».proof.Proof.BwdMla.Real
public import Idealize.ShloMosaic.Lib.Tactic
public import Idealize.ShloMosaic.Lib.Pipeline.ValueKit

@[expose] public section

set_option maxRecDepth 16384
set_option maxHeartbeats 1000000

noncomputable section

open Idealize.ShloMosaic Idealize.ShloMosaic.TcCoe Idealize.SL.Sem

namespace Cert.MlaVjpIdeal.At

open Cert.MlaVjpIdeal Cert.MlaVjpIdeal.Read Cert.Sums Cert.Norm Cert.BwdMla.Real

/-- A column of the queries' projection: its head and its column there. -/
def qhd (c : Fin 768) : Fin 4 := ⟨c.val / 192, by omega⟩
def qln (c : Fin 768) : Fin 192 := ⟨c.val % 192, by omega⟩
theorem qhd_of (c : Fin 768) (h : Fin 4) (k : Fin 192) (e : c.val = h.val * 192 + k.val) : qhd c = h := Fin.ext (by show c.val / 192 = h.val; omega)
theorem qln_of (c : Fin 768) (h : Fin 4) (k : Fin 192) (e : c.val = h.val * 192 + k.val) : qln c = k := Fin.ext (by show c.val % 192 = k.val; omega)

/-- The arguments hold these weights and rows; the angles are finite. -/
structure Holds (z : FVec Ideal S4096x3136 .f32) (dQ dK : FVec Ideal S4096x4x192 .f32) (dV : FVec Ideal S4096x4x128 .f32) (p : IVec S4096 32)
    (ga gb : FVec Ideal S1x256 .f32) (wQ : FVec Ideal S256x768 .bf16) (wK : FVec Ideal S256x1024 .bf16) (gn gm : FVec Ideal S1x192 .f32)
    (w : Wts) (R : Fin 4096 → Row) : Prop where
  cq : ∀ r (j : Fin 256) (c : Fin 3136), c.val = j.val → z (ix2 r c) = ((R r).cq j : EReal)
  ckv : ∀ r (j : Fin 256) (c : Fin 3136), c.val = 256 + j.val → z (ix2 r c) = ((R r).ckv j : EReal)
  kr : ∀ r (j : Fin 64) (c : Fin 3136), c.val = 512 + j.val → z (ix2 r c) = ((R r).kr j : EReal)
  dq : ∀ r h j, dQ (ix3 r h j) = ((R r).dq h j : EReal)
  dk : ∀ r h j, dK (ix3 r h j) = ((R r).dk h j : EReal)
  dv : ∀ r h j, dV (ix3 r h j) = ((R r).dv h j : EReal)
  ang : ∀ r j, val_main_v16 (F := Ideal) p (ix2 r j) = ((R r).c j : EReal)
  sang : ∀ r j, val_main_v17 (F := Ideal) p (ix2 r j) = ((R r).s j : EReal)
  gqa : ∀ j, ga (ix2 0 j) = (w.gqa j : EReal)
  gkva : ∀ j, gb (ix2 0 j) = (w.gkva j : EReal)
  wq : ∀ l c, wQ (ix2 l c) = (w.wq l (qhd c) (qln c) : EReal)
  wkv : ∀ l c, wK (ix2 l c) = (w.wkv l c : EReal)
  gqn : ∀ j, gn (ix2 0 j) = (w.gqn j : EReal)
  gkn : ∀ j, gm (ix2 0 j) = (w.gkn j : EReal)

/-- The turned gradient as the reference splits and pads it. -/
theorem turn_form (r : Row) (D : Fin 192 → ℝ) (j : Fin 192) :
    ((if e : 128 ≤ j.val ∧ j.val - 128 < 64 then
        if e' : j.val - 128 < 32 then
          (D ⟨128 + (32 + (j.val - 128)), by omega⟩ : EReal) * (r.s ⟨j.val - 128, e'⟩ : EReal) + (D ⟨128 + (j.val - 128), by omega⟩ : EReal) * (r.c ⟨j.val - 128, e'⟩ : EReal)
        else
          (D ⟨128 + (32 + (j.val - 128 - 32)), by omega⟩ : EReal) * (r.c ⟨j.val - 128 - 32, by omega⟩ : EReal)
            + -(D ⟨128 + (j.val - 128 - 32), by omega⟩ : EReal) * (r.s ⟨j.val - 128 - 32, by omega⟩ : EReal)
      else 0) + if e : j.val < 128 then (D j : EReal) else 0) = (turn r D j : EReal) := by
  by_cases h0 : j.val < 128
  · rw [dif_neg (by omega), dif_pos h0, zero_add, turn, if_pos h0]
  rw [dif_pos (by omega), dif_neg h0, add_zero, turn, if_neg h0]
  by_cases h1 : j.val < 160
  · rw [dif_pos (by omega), dif_pos h1]
    simp only [← EReal.coe_mul, ← EReal.coe_add, show 128 + (32 + (j.val - 128)) = j.val + 32 by omega, show 128 + (j.val - 128) = j.val by omega]
  · rw [dif_neg (by omega), dif_neg h1]
    simp only [← EReal.coe_mul, ← EReal.coe_add, ← EReal.coe_neg, show j.val - 128 - 32 = j.val - 160 by omega, show 128 + (32 + (j.val - 160)) = j.val by omega,
      show 128 + (j.val - 160) = j.val - 32 by omega]
    exact congrArg _ (by rw [neg_mul, ← sub_eq_add_neg])

/-- A sum over the first two of three axes. -/
theorem sum_two {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ a : Fin n0, ∑ b : Fin n1, v (ix3 a b j) := by
  unfold Ideal.hostReduceAdd
  refine congrArg (init + ·) ?_
  rw [← Fintype.sum_prod_type' fun (a : Fin n0) (b : Fin n1) => v (ix3 a b j)]
  refine (Finset.sum_bij (fun (q : Fin n0 × Fin n1) _ => (ix3 q.1 q.2 j : (⟨3, ![n0, n1, n2]⟩ : Shape).Idx)) (fun q _ => ?_) (fun q _ q' _ e => ?_) (fun y hy => ?_) fun _ _ => rfl).symm
  · refine Finset.mem_filter.2 ⟨Finset.mem_univ _, funext fun c => Fin.ext ?_⟩
    match c with
    | ⟨0, _⟩ => rfl
  · exact Prod.ext (congrFun e 0) (congrFun e 1)
  · refine ⟨(y 0, y 1), Finset.mem_univ _, ?_⟩
    have e : (y 2).val = j.val := congrArg Fin.val (congrFun (Finset.mem_filter.1 hy).2 (⟨0, Nat.one_pos⟩ : Fin 1))
    funext c
    match c with
    | ⟨0, _⟩ => rfl
    | ⟨1, _⟩ => rfl
    | ⟨2, _⟩ => exact (Fin.ext e).symm

/-- The whole number nought as a float. -/
theorem zero_int : (FloatOps.sitofp (F := Ideal) .f32 (0#32) : EReal) = 0 := by
  show (((((0#32 : BitVec 32).toInt : ℤ) : ℝ)) : EReal) = 0
  simp

variable {z : FVec Ideal S4096x3136 .f32} {dQ dK : FVec Ideal S4096x4x192 .f32} {dV : FVec Ideal S4096x4x128 .f32} {p : IVec S4096 32}
variable {ga gb : FVec Ideal S1x256 .f32} {wQ : FVec Ideal S256x768 .bf16} {wK : FVec Ideal S256x1024 .bf16} {gn gm : FVec Ideal S1x192 .f32}
variable {w : Wts} {R : Fin 4096 → Row} (H : Holds z dQ dK dV p ga gb wQ wK gn gm w R)
variable (r : Fin 4096) (l : Fin 256) (i : Fin 64) (c : Fin 768) (h : Fin 4) (j : Fin 192) (d : Fin 1024) (b : Fin 256) (a : Fin 640)

include H in
theorem v20 : val_main_v20 (F := Ideal) z (ix2 r l) = ((R r).cq l : EReal) := by
  pointwise [val_main_v20]
  exact H.cq r l _ rfl

include H in
theorem v21 : val_main_v21 (F := Ideal) z (ix2 r l) = ((R r).ckv l : EReal) := by
  pointwise [val_main_v21]
  exact H.ckv r l _ rfl

include H in
theorem v22 : val_main_v22 (F := Ideal) z (ix2 r i) = ((R r).kr i : EReal) := by
  pointwise [val_main_v22]
  exact H.kr r i _ rfl

include H in
theorem v31 : val_main_v31 (F := Ideal) z (ix2 r 0) = (ms 256 ((R r).cq) : EReal) := by
  pointwise [val_main_v31, val_main_v29, val_main_v27, val_main_v26, val_main_cst_3, val_main_v25, val_main_v28, val_main_cst_4, val_main_v30, val_main_cst_5]
  simp only [v20 H, ← EReal.coe_mul, coe_sum]
  rw [width256_word, eps_word, Ideal.div_coe (by norm_num), ← EReal.coe_mul, ← EReal.coe_add]
  rfl

include H in
theorem v32 : val_main_v32 (F := Ideal) z (ix2 r 0) = (rt 256 ((R r).cq) : EReal) := by
  pointwise [val_main_v32]
  rw [v31 H]
  exact rsqrt_ms (by norm_num) _

include H in
theorem v35 : val_main_v35 (F := Ideal) z (ix2 r 0) = ((-(1 / 2) * (rt 256 ((R r).cq) * (1 / ms 256 ((R r).cq))) : ℝ) : EReal) := by
  pointwise [val_main_v35, val_main_v33, val_main_v34, val_main_cst_6]
  rw [v31 H, v32 H, half_word, Ideal.div_coe (ms_pos (by norm_num) _).ne', ← EReal.coe_mul, ← EReal.coe_mul]

include H in
theorem v37 : val_main_v37 (F := Ideal) z (ix2 r l) = (((R r).cq l * rt 256 (R r).cq : ℝ) : EReal) := by
  pointwise [val_main_v37, val_main_v36]
  rw [v20 H, v32 H, ← EReal.coe_mul]

include H in
theorem v39 : val_main_v39 (F := Ideal) z ga (ix2 r l) = (nq w (R r) l : EReal) := by
  pointwise [val_main_v39, val_main_v38]
  rw [v37 H, H.gqa, ← EReal.coe_mul]
  rfl

include H in
theorem v40 : val_main_v40 (F := Ideal) z ga wQ (ix2 r c) = ((∑ l, nq w (R r) l * w.wq l (qhd c) (qln c) : ℝ) : EReal) := by
  pointwise [val_main_v40, val_main_v23]
  simp only [v39 H, H.wq, ← EReal.coe_mul, coe_sum]

include H in
theorem v41 : val_main_v41 (F := Ideal) z ga wQ (ix3 r h j) = (q w (R r) h j : EReal) := by
  pointwise [val_main_v41]
  refine (v40 H r _).trans ?_
  rw [qhd_of _ h j rfl, qln_of _ h j rfl]
  rfl

include H in
theorem v48 : val_main_v48 (F := Ideal) z (ix2 r 0) = (ms 256 ((R r).ckv) : EReal) := by
  pointwise [val_main_v48, val_main_v46, val_main_v44, val_main_v43, val_main_cst_7, val_main_v42, val_main_v45, val_main_cst_8, val_main_v47, val_main_cst_9]
  simp only [v21 H, ← EReal.coe_mul, coe_sum]
  rw [width256_word, eps_word, Ideal.div_coe (by norm_num), ← EReal.coe_mul, ← EReal.coe_add]
  rfl

include H in
theorem v49 : val_main_v49 (F := Ideal) z (ix2 r 0) = (rt 256 ((R r).ckv) : EReal) := by
  pointwise [val_main_v49]
  rw [v48 H]
  exact rsqrt_ms (by norm_num) _

include H in
theorem v52 : val_main_v52 (F := Ideal) z (ix2 r 0) = ((-(1 / 2) * (rt 256 ((R r).ckv) * (1 / ms 256 ((R r).ckv))) : ℝ) : EReal) := by
  pointwise [val_main_v52, val_main_v50, val_main_v51, val_main_cst_10]
  rw [v48 H, v49 H, half_word, Ideal.div_coe (ms_pos (by norm_num) _).ne', ← EReal.coe_mul, ← EReal.coe_mul]

include H in
theorem v54 : val_main_v54 (F := Ideal) z (ix2 r l) = (((R r).ckv l * rt 256 (R r).ckv : ℝ) : EReal) := by
  pointwise [val_main_v54, val_main_v53]
  rw [v21 H, v49 H, ← EReal.coe_mul]

include H in
theorem v56 : val_main_v56 (F := Ideal) z gb (ix2 r l) = (nkv w (R r) l : EReal) := by
  pointwise [val_main_v56, val_main_v55]
  rw [v54 H, H.gkva, ← EReal.coe_mul]
  rfl

include H in
theorem v57 : val_main_v57 (F := Ideal) z gb wK (ix2 r d) = (kv w (R r) d : EReal) := by
  pointwise [val_main_v57, val_main_v24]
  simp only [v56 H, H.wkv, ← EReal.coe_mul, coe_sum]
  rfl

include H in
theorem v63 : val_main_v63 (F := Ideal) z gb wK (ix3 r h j) = (k w (R r) h j : EReal) := by
  pointwise [val_main_v63, val_main_v59, val_main_v58, val_main_v62, val_main_v61]
  by_cases h0 : j.val < 128
  · rw [dif_pos h0, v57 H, k, dif_pos h0]
    exact congrArg (fun t : Fin 1024 => ((kv w (R r) t : ℝ) : EReal)) (Fin.ext (by simp [own]))
  · rw [dif_neg h0, v22 H, k, dif_neg h0]

include H in
theorem v70 : val_main_v70 (F := Ideal) z ga wQ (ix3 r h 0) = (ms 192 (q w (R r) h) : EReal) := by
  pointwise [val_main_v70, val_main_v68, val_main_v66, val_main_v65, val_main_cst_11, val_main_v64, val_main_v67, val_main_cst_12, val_main_v69, val_main_cst_13]
  simp only [v41 H, ← EReal.coe_mul, coe_sum]
  rw [width192_word, eps_word, Ideal.div_coe (by norm_num), ← EReal.coe_mul, ← EReal.coe_add]
  rfl

include H in
theorem v71 : val_main_v71 (F := Ideal) z ga wQ (ix3 r h 0) = (rt 192 (q w (R r) h) : EReal) := by
  pointwise [val_main_v71]
  rw [v70 H]
  exact rsqrt_ms (by norm_num) _

include H in
theorem v74 : val_main_v74 (F := Ideal) z ga wQ (ix3 r h 0) = ((-(1 / 2) * (rt 192 (q w (R r) h) * (1 / ms 192 (q w (R r) h))) : ℝ) : EReal) := by
  pointwise [val_main_v74, val_main_v72, val_main_v73, val_main_cst_14]
  rw [v70 H, v71 H, half_word, Ideal.div_coe (ms_pos (by norm_num) _).ne', ← EReal.coe_mul, ← EReal.coe_mul]

include H in
theorem v76 : val_main_v76 (F := Ideal) z ga wQ (ix3 r h j) = ((q w (R r) h j * rt 192 (q w (R r) h) : ℝ) : EReal) := by
  pointwise [val_main_v76, val_main_v75]
  rw [v41 H, v71 H, ← EReal.coe_mul]

include H in
theorem v86 : val_main_v86 (F := Ideal) z gb wK (ix3 r h 0) = (ms 192 (k w (R r) h) : EReal) := by
  pointwise [val_main_v86, val_main_v84, val_main_v82, val_main_v81, val_main_cst_15, val_main_v80, val_main_v83, val_main_cst_16, val_main_v85, val_main_cst_17]
  simp only [v63 H, ← EReal.coe_mul, coe_sum]
  rw [width192_word, eps_word, Ideal.div_coe (by norm_num), ← EReal.coe_mul, ← EReal.coe_add]
  rfl

include H in
theorem v87 : val_main_v87 (F := Ideal) z gb wK (ix3 r h 0) = (rt 192 (k w (R r) h) : EReal) := by
  pointwise [val_main_v87]
  rw [v86 H]
  exact rsqrt_ms (by norm_num) _

include H in
theorem v90 : val_main_v90 (F := Ideal) z gb wK (ix3 r h 0) = ((-(1 / 2) * (rt 192 (k w (R r) h) * (1 / ms 192 (k w (R r) h))) : ℝ) : EReal) := by
  pointwise [val_main_v90, val_main_v88, val_main_v89, val_main_cst_18]
  rw [v86 H, v87 H, half_word, Ideal.div_coe (ms_pos (by norm_num) _).ne', ← EReal.coe_mul, ← EReal.coe_mul]

include H in
theorem v92 : val_main_v92 (F := Ideal) z gb wK (ix3 r h j) = ((k w (R r) h j * rt 192 (k w (R r) h) : ℝ) : EReal) := by
  pointwise [val_main_v92, val_main_v91]
  rw [v63 H, v87 H, ← EReal.coe_mul]

include H in
/-- The gradient turned back by the angles. -/
theorem v146 : val_main_v146 (F := Ideal) dK p (ix3 r h j) = (turn (R r) ((R r).dk h) j : EReal) := by
  pointwise [val_main_v146, val_main_v144, val_main_cst_19, val_main_v143, val_main_v139, val_main_v133, val_main_v131, val_main_v129, val_main_v132, val_main_v18, val_main_v138, val_main_v136, val_main_v130, val_main_v137, val_main_v19, val_main_v142, val_main_v135, val_main_v134, val_main_v141, val_main_v140, val_main_v145, val_main_cst_20, val_main_v128]
  simp only [H.dk, H.ang, H.sang]
  exact turn_form (R r) ((R r).dk h) j

include H in
/-- The gradient turned back by the angles. -/
theorem v165 : val_main_v165 (F := Ideal) dQ p (ix3 r h j) = (turn (R r) ((R r).dq h) j : EReal) := by
  pointwise [val_main_v165, val_main_v163, val_main_cst_21, val_main_v162, val_main_v158, val_main_v152, val_main_v150, val_main_v148, val_main_v151, val_main_v18, val_main_v157, val_main_v155, val_main_v149, val_main_v156, val_main_v19, val_main_v161, val_main_v154, val_main_v153, val_main_v160, val_main_v159, val_main_v164, val_main_cst_22, val_main_v147]
  simp only [H.dq, H.ang, H.sang]
  exact turn_form (R r) ((R r).dq h) j

include H in
theorem v170 : val_main_v170 (F := Ideal) dK p gm (ix3 r h j) = ((turn (R r) ((R r).dk h) j * w.gkn j : ℝ) : EReal) := by
  pointwise [val_main_v170, val_main_v169, val_main_v93]
  rw [v146 H, H.gkn, ← EReal.coe_mul]

include H in
theorem v181 : val_main_v181 (F := Ideal) z dK p gb wK gm (ix2 r h) = (((∑ j, k w (R r) h j * (turn (R r) ((R r).dk h) j * w.gkn j)) * (-(1 / 2) * (rt 192 (k w (R r) h) * (1 / ms 192 (k w (R r) h)))) * (1 / 192) : ℝ) : EReal) := by
  pointwise [val_main_v181, val_main_cst_27, val_main_v180, val_main_v178, val_main_v175, val_main_v174, val_main_cst_25, val_main_v173, val_main_v179, val_main_cst_26]
  simp only [Fin.sum_univ_one, v170 H, v63 H, v90 H, ← EReal.coe_mul, coe_sum]
  rw [width192_word, Ideal.div_coe (by norm_num)]
  simp only [← EReal.coe_mul]

include H in
/-- The gradient before a head's norm. -/
theorem v186 : val_main_v186 (F := Ideal) z dK p gb wK gm (ix3 r h j) = (dk w (R r) h j : EReal) := by
  pointwise [val_main_v186, val_main_v184, val_main_v177, val_main_v176, val_main_v183, val_main_v182, val_main_v185]
  rw [v181 H, v170 H, v87 H, v63 H]
  simp only [← EReal.coe_mul, ← EReal.coe_add]
  congr 1
  have b := back_eq (w := 192) (by norm_num) (k w (R r) h) (fun j => turn (R r) ((R r).dk h) j * w.gkn j) j 0
  simp only [zero_add] at b
  exact b

include H in
theorem v191 : val_main_v191 (F := Ideal) dQ p gn (ix3 r h j) = ((turn (R r) ((R r).dq h) j * w.gqn j : ℝ) : EReal) := by
  pointwise [val_main_v191, val_main_v190, val_main_v77]
  rw [v165 H, H.gqn, ← EReal.coe_mul]

include H in
theorem v202 : val_main_v202 (F := Ideal) z dQ p ga wQ gn (ix2 r h) = (((∑ j, q w (R r) h j * (turn (R r) ((R r).dq h) j * w.gqn j)) * (-(1 / 2) * (rt 192 (q w (R r) h) * (1 / ms 192 (q w (R r) h)))) * (1 / 192) : ℝ) : EReal) := by
  pointwise [val_main_v202, val_main_cst_32, val_main_v201, val_main_v199, val_main_v196, val_main_v195, val_main_cst_30, val_main_v194, val_main_v200, val_main_cst_31]
  simp only [Fin.sum_univ_one, v191 H, v41 H, v74 H, ← EReal.coe_mul, coe_sum]
  rw [width192_word, Ideal.div_coe (by norm_num)]
  simp only [← EReal.coe_mul]

include H in
/-- The gradient before a head's norm. -/
theorem v207 : val_main_v207 (F := Ideal) z dQ p ga wQ gn (ix3 r h j) = (dq w (R r) h j : EReal) := by
  pointwise [val_main_v207, val_main_v205, val_main_v198, val_main_v197, val_main_v204, val_main_v203, val_main_v206]
  rw [v202 H, v191 H, v71 H, v41 H]
  simp only [← EReal.coe_mul, ← EReal.coe_add]
  congr 1
  have b := back_eq (w := 192) (by norm_num) (q w (R r) h) (fun j => turn (R r) ((R r).dq h) j * w.gqn j) j 0
  simp only [zero_add] at b
  exact b

include H in
theorem v172 : val_main_v172 (F := Ideal) z dK p gb wK (ix2 0 j) = ((∑ r, ∑ h, ggkn w (R r) h j : ℝ) : EReal) := by
  pointwise [val_main_v172, val_main_v171, val_main_cst_24, val_main_v168, val_main_v167, val_main_cst_23, val_main_v166]
  rw [sum_two]
  pointwise
  simp only [Fin.sum_univ_one, sum_two]
  pointwise
  simp only [v92 H, v146 H, ← EReal.coe_mul, coe_sum, zero_add]
  exact congrArg _ (Finset.sum_congr rfl fun r _ => Finset.sum_congr rfl fun h _ => by unfold ggkn; ring)

include H in
theorem v193 : val_main_v193 (F := Ideal) z dQ p ga wQ (ix2 0 j) = ((∑ r, ∑ h, ggqn w (R r) h j : ℝ) : EReal) := by
  pointwise [val_main_v193, val_main_v192, val_main_cst_29, val_main_v189, val_main_v188, val_main_cst_28, val_main_v187]
  rw [sum_two]
  pointwise
  simp only [Fin.sum_univ_one, sum_two]
  pointwise
  simp only [v76 H, v165 H, ← EReal.coe_mul, coe_sum, zero_add]
  exact congrArg _ (Finset.sum_congr rfl fun r _ => Finset.sum_congr rfl fun h _ => by unfold ggqn; ring)

include H in
theorem v212 : val_main_v212 (F := Ideal) z dK p gb wK gm (ix2 r i) = (dkr w (R r) i : EReal) := by
  pointwise [val_main_v212, val_main_cst_34, val_main_v211, val_main_v210, val_main_cst_33, val_main_v209]
  simp only [Fin.sum_univ_one, v186 H, ← EReal.coe_mul, coe_sum]
  rfl

include H in
theorem v215 : val_main_v215 (F := Ideal) z dK dV p gb wK gm (ix3 r h b) = (dkv w (R r) h b : EReal) := by
  pointwise [val_main_v215, val_main_v213, val_main_cst_35, val_main_v214, val_main_cst_36, val_main_v208]
  by_cases h0 : b.val < 128
  · rw [dif_neg (by omega), dif_pos h0, zero_add, v186 H, dkv, dif_pos h0]
  · rw [dif_pos (by omega), dif_neg h0, add_zero, H.dv, dkv, dif_neg h0]

include H in
theorem v216 : val_main_v216 (F := Ideal) z dK dV p gb wK gm (ix2 r d) = (dkv w (R r) (hd d) (ln d) : EReal) := by
  pointwise [val_main_v216]
  exact (v215 H r _ _).trans rfl

include H in
theorem v218 : val_main_v218 (F := Ideal) z dK dV p gb wK gm (ix2 l d) = ((∑ r, gwkv w (R r) l (hd d) (ln d) : ℝ) : EReal) := by
  pointwise [val_main_v218, val_main_v217]
  simp only [v216 H, v56 H, ← EReal.coe_mul, coe_sum]
  exact congrArg _ (Finset.sum_congr rfl fun r _ => mul_comm _ _)

include H in
theorem v219 : val_main_v219 (F := Ideal) z dK dV p gb wK gm (ix2 r l) = (dnkv w (R r) l : EReal) := by
  pointwise [val_main_v219, val_main_v24]
  simp only [v216 H, H.wkv, ← EReal.coe_mul, coe_sum]
  exact congrArg _ (sum_flat (b := 256) rfl _ (fun h p => dkv w (R r) h p * w.wkv l (col h p)) fun h j c e => by
    rw [hd_of c h j e, ln_of c h j e, show c = col h j from Fin.ext e])

include H in
theorem v222 : val_main_v222 (F := Ideal) z dK dV p gb wK gm (ix2 0 l) = ((∑ r, ggkva w (R r) l : ℝ) : EReal) := by
  pointwise [val_main_v222, val_main_v221, val_main_cst_37, val_main_v220]
  simp only [v54 H, v219 H, ← EReal.coe_mul, coe_sum]
  exact congrArg _ (Finset.sum_congr rfl fun r _ => by unfold ggkva; ring)

include H in
theorem v224 : val_main_v224 (F := Ideal) z dK dV p gb wK gm (ix2 r l) = ((dnkv w (R r) l * w.gkva l : ℝ) : EReal) := by
  pointwise [val_main_v224, val_main_v223]
  rw [v219 H, H.gkva, ← EReal.coe_mul]

include H in
theorem v233 : val_main_v233 (F := Ideal) z dK dV p gb wK gm (ix1 r) = (((∑ l, (R r).ckv l * (dnkv w (R r) l * w.gkva l)) * (-(1 / 2) * (rt 256 ((R r).ckv) * (1 / ms 256 ((R r).ckv)))) * (1 / 256) : ℝ) : EReal) := by
  pointwise [val_main_v233, val_main_cst_40, val_main_v232, val_main_v230, val_main_v227, val_main_v226, val_main_cst_38, val_main_v225, val_main_v231, val_main_cst_39]
  simp only [Fin.sum_univ_one, v224 H, v21 H, v52 H, ← EReal.coe_mul, coe_sum]
  rw [width256_word, Ideal.div_coe (by norm_num)]
  simp only [← EReal.coe_mul]

include H in
/-- The gradient before a row's norm. -/
theorem v238 : val_main_v238 (F := Ideal) z dK dV p gb wK gm (ix2 r l) = (dckv w (R r) l : EReal) := by
  pointwise [val_main_v238, val_main_v236, val_main_v229, val_main_v228, val_main_v235, val_main_v234, val_main_v237]
  rw [v233 H, v224 H, v49 H, v21 H]
  simp only [← EReal.coe_mul, ← EReal.coe_add]
  congr 1
  have b := back_eq (w := 256) (by norm_num) ((R r).ckv) (fun l => dnkv w (R r) l * w.gkva l) l 0
  simp only [zero_add] at b
  exact b

include H in
theorem v239 : val_main_v239 (F := Ideal) z dQ p ga wQ gn (ix2 r c) = (dq w (R r) (qhd c) (qln c) : EReal) := by
  pointwise [val_main_v239]
  exact (v207 H r _ _).trans rfl

include H in
theorem v241 : val_main_v241 (F := Ideal) z dQ p ga wQ gn (ix2 l c) = ((∑ r, gwq w (R r) l (qhd c) (qln c) : ℝ) : EReal) := by
  pointwise [val_main_v241, val_main_v240]
  simp only [v239 H, v39 H, ← EReal.coe_mul, coe_sum]
  exact congrArg _ (Finset.sum_congr rfl fun r _ => mul_comm _ _)

include H in
theorem v242 : val_main_v242 (F := Ideal) z dQ p ga wQ gn (ix2 r l) = (dnq w (R r) l : EReal) := by
  pointwise [val_main_v242, val_main_v23]
  simp only [v239 H, H.wq, ← EReal.coe_mul, coe_sum]
  exact congrArg _ (sum_flat (b := 192) rfl _ (fun h j => dq w (R r) h j * w.wq l h j) fun h j c e => by rw [qhd_of c h j e, qln_of c h j e])

include H in
theorem v245 : val_main_v245 (F := Ideal) z dQ p ga wQ gn (ix2 0 l) = ((∑ r, ggqa w (R r) l : ℝ) : EReal) := by
  pointwise [val_main_v245, val_main_v244, val_main_cst_41, val_main_v243]
  simp only [v37 H, v242 H, ← EReal.coe_mul, coe_sum]
  exact congrArg _ (Finset.sum_congr rfl fun r _ => by unfold ggqa; ring)

include H in
theorem v247 : val_main_v247 (F := Ideal) z dQ p ga wQ gn (ix2 r l) = ((dnq w (R r) l * w.gqa l : ℝ) : EReal) := by
  pointwise [val_main_v247, val_main_v246]
  rw [v242 H, H.gqa, ← EReal.coe_mul]

include H in
theorem v256 : val_main_v256 (F := Ideal) z dQ p ga wQ gn (ix1 r) = (((∑ l, (R r).cq l * (dnq w (R r) l * w.gqa l)) * (-(1 / 2) * (rt 256 ((R r).cq) * (1 / ms 256 ((R r).cq)))) * (1 / 256) : ℝ) : EReal) := by
  pointwise [val_main_v256, val_main_cst_44, val_main_v255, val_main_v253, val_main_v250, val_main_v249, val_main_cst_42, val_main_v248, val_main_v254, val_main_cst_43]
  simp only [Fin.sum_univ_one, v247 H, v20 H, v35 H, ← EReal.coe_mul, coe_sum]
  rw [width256_word, Ideal.div_coe (by norm_num)]
  simp only [← EReal.coe_mul]

include H in
/-- The gradient before a row's norm. -/
theorem v261 : val_main_v261 (F := Ideal) z dQ p ga wQ gn (ix2 r l) = (dcq w (R r) l : EReal) := by
  pointwise [val_main_v261, val_main_v259, val_main_v252, val_main_v251, val_main_v258, val_main_v257, val_main_v260]
  rw [v256 H, v247 H, v32 H, v20 H]
  simp only [← EReal.coe_mul, ← EReal.coe_add]
  congr 1
  have b := back_eq (w := 256) (by norm_num) ((R r).cq) (fun l => dnq w (R r) l * w.gqa l) l 0
  simp only [zero_add] at b
  exact b

include H in
/-- The rows' gradient. -/
theorem v264 : val_main_v264 (F := Ideal) z dQ dK dV p ga gb wQ wK gn gm (ix2 r a) = (dz w (R r) a : EReal) := by
  pointwise [val_main_v264, val_main_v263, val_main_v262, val_main_cst_45]
  by_cases h0 : a.val < 256
  · rw [dif_pos h0, v261 H, dz, dif_pos h0]
  rw [dif_neg h0]
  by_cases h1 : a.val < 512
  · rw [dif_pos (by omega), v238 H, dz, dif_neg h0, dif_pos h1]
  rw [dif_neg (by omega), dz, dif_neg h0, dif_neg h1]
  by_cases h2 : a.val < 576
  · rw [dif_pos (by omega), v212 H, pad_lt _ _ (by show a.val - 512 < 64; omega)]
    exact congrArg (fun t : Fin 64 => ((dkr w (R r) t : ℝ) : EReal)) (Fin.ext (by show a.val - 256 - 256 = a.val - 512; omega))
  · rw [dif_neg (by omega), pad_ge _ _ (by show ¬ a.val - 512 < 64; omega)]
    exact EReal.coe_zero.symm

include H in
/-- The queries' projection's gradient, padded. -/
theorem v267 : val_main_v267 (F := Ideal) z dQ p ga wQ gn (ix2 l d) = ((∑ r, pad (gwq w (R r) l (hd d)) (ln d) : ℝ) : EReal) := by
  pointwise [val_main_v267, val_main_v266, val_main_call0_v0, val_main_c, val_main_v265]
  by_cases h0 : d.val % 256 < 192
  · rw [dif_pos ⟨by omega, h0⟩, v241 H, qhd_of _ (hd d) ⟨d.val % 256, h0⟩ rfl, qln_of _ (hd d) ⟨d.val % 256, h0⟩ rfl]
    exact congrArg _ (Finset.sum_congr rfl fun r _ => (pad_lt (gwq w (R r) l (hd d)) (ln d) h0).symm)
  · rw [dif_neg (fun e => h0 e.2), zero_int, Finset.sum_eq_zero fun r _ => pad_ge _ _ h0]
    exact EReal.coe_zero.symm

include H in
/-- The queries' gain's gradient, padded. -/
theorem v268 : val_main_v268 (F := Ideal) z dQ p ga wQ (ix2 0 b) = ((∑ r, pad (fun j => ∑ h, ggqn w (R r) h j) b : ℝ) : EReal) := by
  pointwise [val_main_v268, val_main_call1_v0, val_main_c_46]
  by_cases h0 : b.val < 192
  · rw [dif_pos h0, v193 H]
    exact congrArg _ (Finset.sum_congr rfl fun r _ => (pad_lt (fun j => ∑ h, ggqn w (R r) h j) b h0).symm)
  · rw [dif_neg h0, zero_int, Finset.sum_eq_zero fun r _ => pad_ge _ _ h0]
    exact EReal.coe_zero.symm

include H in
/-- The keys' gain's gradient, padded. -/
theorem v269 : val_main_v269 (F := Ideal) z dK p gb wK (ix2 0 b) = ((∑ r, pad (fun j => ∑ h, ggkn w (R r) h j) b : ℝ) : EReal) := by
  pointwise [val_main_v269, val_main_call2_v0, val_main_c_47]
  by_cases h0 : b.val < 192
  · rw [dif_pos h0, v172 H]
    exact congrArg _ (Finset.sum_congr rfl fun r _ => (pad_lt (fun j => ∑ h, ggkn w (R r) h j) b h0).symm)
  · rw [dif_neg h0, zero_int, Finset.sum_eq_zero fun r _ => pad_ge _ _ h0]
    exact EReal.coe_zero.symm

end Cert.MlaVjpIdeal.At

end
-- ==== Proof.BwdMla.Host.lean ====
/- What the projections' gradients' call finds in its blocks. -/
module

public import proofs.«01_k».proof.Proof.At
public import proofs.«01_k».proof.Proof.BwdMla.Outs
public import proofs.«01_k».proof.Proof.BwdMla.Ref
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.BwdMla.Final

open Cert.BwdMlaIdeal Cert.BwdMlaIdeal.Gen Cert.BwdMla.Hand Cert.Sums Cert.Norm Cert.BwdMla.Real Cert.At

variable {m : (ℓ : Loc nD τ sig) → Buf (Elt Ideal) ℓ} {c : Dev nD}

/-- Argument 0, as launched. -/
abbrev argZ (m : (ℓ : Loc nD τ sig) → Buf (Elt Ideal) ℓ) (c : Dev nD) : FVec Ideal S4096x3136 .f32 := m (c.tc.loc main_arg0)

/-- Argument 1, as launched. -/
abbrev argDQ (m : (ℓ : Loc nD τ sig) → Buf (Elt Ideal) ℓ) (c : Dev nD) : FVec Ideal S4096x4x192 .f32 := m (c.tc.loc main_arg1)

/-- Argument 2, as launched. -/
abbrev argDK (m : (ℓ : Loc nD τ sig) → Buf (Elt Ideal) ℓ) (c : Dev nD) : FVec Ideal S4096x4x192 .f32 := m (c.tc.loc main_arg2)

/-- Argument 3, as launched. -/
abbrev argDV (m : (ℓ : Loc nD τ sig) → Buf (Elt Ideal) ℓ) (c : Dev nD) : FVec Ideal S4096x4x128 .f32 := m (c.tc.loc main_arg3)

/-- Argument 4, as launched. -/
abbrev argP (m : (ℓ : Loc nD τ sig) → Buf (Elt Ideal) ℓ) (c : Dev nD) : IVec S4096 32 := m (c.tc.loc main_arg4)

/-- Argument 5, as launched. -/
abbrev argGA (m : (ℓ : Loc nD τ sig) → Buf (Elt Ideal) ℓ) (c : Dev nD) : FVec Ideal S1x256 .f32 := m (c.tc.loc main_arg5)

/-- Argument 6, as launched. -/
abbrev argGB (m : (ℓ : Loc nD τ sig) → Buf (Elt Ideal) ℓ) (c : Dev nD) : FVec Ideal S1x256 .f32 := m (c.tc.loc main_arg6)

/-- Argument 7, as launched. -/
abbrev argWQ (m : (ℓ : Loc nD τ sig) → Buf (Elt Ideal) ℓ) (c : Dev nD) : FVec Ideal S256x768 .bf16 := m (c.tc.loc main_arg7)

/-- Argument 8, as launched. -/
abbrev argWK (m : (ℓ : Loc nD τ sig) → Buf (Elt Ideal) ℓ) (c : Dev nD) : FVec Ideal S256x1024 .bf16 := m (c.tc.loc main_arg8)

/-- Argument 9, as launched. -/
abbrev argGN (m : (ℓ : Loc nD τ sig) → Buf (Elt Ideal) ℓ) (c : Dev nD) : FVec Ideal S1x192 .f32 := m (c.tc.loc main_arg9)

/-- Argument 10, as launched. -/
abbrev argGM (m : (ℓ : Loc nD τ sig) → Buf (Elt Ideal) ℓ) (c : Dev nD) : FVec Ideal S1x192 .f32 := m (c.tc.loc main_arg10)

/-- The columns the kernel reads, in the kernel's order. -/
theorem turned (r : Fin 4096) (K : Fin 3200) (a : Fin 3136) (h : a.val < 576) (hK : K.val = 2560 + a.val) :
    (V m c main_v29 : FVec Ideal S4096x3200 .f32) (ix2 r K) = argZ m c (ix2 r a) := by
  unfold V
  after_reads_simp
  pointwise
  rw [dif_neg (show ¬ K.val < 2560 by omega)]
  after_reads_simp
  pointwise
  rw [dif_pos (show K.val - 2560 < 576 by omega)]
  refine congrArg (fun a => argZ m c (ix2 r a)) ?_
  exact Fin.ext (by show K.val - 2560 = a.val; omega)

/-- The columns past them are zeros. -/
theorem past (r : Fin 4096) (K : Fin 3200) (hK : 3136 ≤ K.val) : (V m c main_v29 : FVec Ideal S4096x3200 .f32) (ix2 r K) = (0 : EReal) := by
  unfold V
  after_reads_simp
  pointwise
  rw [dif_neg (show ¬ K.val < 2560 by omega)]
  after_reads_simp
  pointwise
  rw [dif_neg (show ¬ K.val - 2560 < 576 by omega)]

/-- The heads' gradients, each row padded. -/
theorem paddedDQ (h : Fin 4) (r : Fin 4096) (j : Fin 256) : (V m c main_v31 : FVec Ideal S4x4096x256 .f32) (ix3 h r j)
    = if e : j.val < 192 then argDQ m c (ix3 r h ⟨j.val, e⟩) else (0 : EReal) := by
  unfold V
  after_reads_simp
  pointwise
  show Idealize.ShloMosaic.pad S4096x4x256 ![0, 0, 0] ![0, 0, 64] ![0, 0, 0] (argDQ m c) (sitofp .f32 (constantI S_ 32 0#32)) pads_S4096x4x192_S4096x4x256_000_000_0640 h_S_ (ix3 r h j) = _
  pointwise
  simp only [Cert.MlaVjpIdeal.At.zero_int]

/-- The heads' gradients, each row padded. -/
theorem paddedDK (h : Fin 4) (r : Fin 4096) (j : Fin 256) : (V m c main_v33 : FVec Ideal S4x4096x256 .f32) (ix3 h r j)
    = if e : j.val < 192 then argDK m c (ix3 r h ⟨j.val, e⟩) else (0 : EReal) := by
  unfold V
  after_reads_simp
  pointwise
  show Idealize.ShloMosaic.pad S4096x4x256 ![0, 0, 0] ![0, 0, 64] ![0, 0, 0] (argDK m c) (sitofp .f32 (constantI S_ 32 0#32)) pads_S4096x4x192_S4096x4x256_000_000_0640 h_S_ (ix3 r h j) = _
  pointwise
  simp only [Cert.MlaVjpIdeal.At.zero_int]

/-- The gains, padded. -/
theorem paddedGN (j : Fin 256) : (V m c main_v35 : FVec Ideal S1x256 .f32) (ix2 0 j)
    = if e : j.val < 192 then argGN m c (ix2 0 ⟨j.val, e⟩) else (0 : EReal) := by
  unfold V
  after_reads_simp
  show Idealize.ShloMosaic.pad S1x256 ![0, 0] ![0, 64] ![0, 0] (argGN m c) (sitofp .f32 (constantI S_ 32 0#32)) pads_S1x192_S1x256_000_0640 h_S_ (ix2 0 j) = _
  pointwise
  simp only [Cert.MlaVjpIdeal.At.zero_int]

/-- The gains, padded. -/
theorem paddedGM (j : Fin 256) : (V m c main_v36 : FVec Ideal S1x256 .f32) (ix2 0 j)
    = if e : j.val < 192 then argGM m c (ix2 0 ⟨j.val, e⟩) else (0 : EReal) := by
  unfold V
  after_reads_simp
  show Idealize.ShloMosaic.pad S1x256 ![0, 0] ![0, 64] ![0, 0] (argGM m c) (sitofp .f32 (constantI S_ 32 0#32)) pads_S1x192_S1x256_000_0640 h_S_ (ix2 0 j) = _
  pointwise
  simp only [Cert.MlaVjpIdeal.At.zero_int]

/-- The values' gradients. -/
theorem turnedDV (h : Fin 4) (r : Fin 4096) (j : Fin 128) : (V m c main_v34 : FVec Ideal S4x4096x128 .f32) (ix3 h r j) = argDV m c (ix3 r h j) := by
  unfold V
  after_reads_simp
  pointwise

/-- The fill of the short format is zero. -/
theorem zero_half : (FloatOps.sitofp (F := Ideal) .bf16 (0#32) : EReal) = 0 := by
  show (((((0#32 : BitVec 32).toInt : ℤ) : ℝ)) : EReal) = 0
  simp

/-- The queries' weights, each head padded. -/
theorem paddedWQ (l : Fin 256) (d : Fin 1024) : (V m c main_v25 : FVec Ideal S256x1024 .bf16) (ix2 l d)
    = if e : (ln d).val < 192 then argWQ m c (ix2 l ⟨(hd d).val * 192 + (ln d).val, by have := (hd d).isLt; omega⟩) else (0 : EReal) := by
  unfold V
  after_reads_simp
  pointwise
  show Idealize.ShloMosaic.pad S256x4x256 ![0, 0, 0] ![0, 0, 64] ![0, 0, 0] (fun i : S256x4x192.Idx => argWQ m c (ix2 (i 0) ⟨(i 1).val * 192 + (i 2).val, by have h1 : (i 1).val < 4 := (i 1).isLt; have h2 : (i 2).val < 192 := (i 2).isLt; omega⟩)) (sitofp .bf16 (constantI S_ 32 0#32)) pads_S256x4x192_S256x4x256_000_000_0640 h_S_ (ix3 l (hd d) (ln d)) = _
  pointwise
  split
  · rfl
  · exact zero_half

variable {w : Wts} {R : Fin 4096 → Row}
variable (H : Cert.MlaVjpIdeal.At.Holds (argZ m c) (argDQ m c) (argDK m c) (argDV m c) (argP m c) (argGA m c) (argGB m c) (argWQ m c) (argWK m c) (argGN m c) (argGM m c) w R)

include H in
/-- The table of cosines. -/
theorem table_c (r : Fin 4096) (j : Fin 128) : (V m c main_v19 : FVec Ideal S4096x128 .f32) (ix2 r j) = ((tc (R r) j : ℝ) : EReal) := by
  unfold V
  after_reads_simp
  pointwise
  unfold tc
  by_cases h0 : j.val < 32
  · rw [dif_pos h0, dif_pos h0]
    after_reads_simp
    exact H.ang r ⟨j.val, h0⟩
  rw [dif_neg h0, dif_neg h0]
  by_cases h1 : j.val < 64
  · rw [dif_pos (by omega), dif_pos h1]
    after_reads_simp
    exact H.ang r ⟨j.val - 32, by omega⟩
  rw [dif_neg (by omega), dif_neg h1]
  by_cases h2 : j.val - 32 - 32 < 32
  · rw [dif_pos h2]
    after_reads_simp
    pointwise
    exact EReal.coe_zero.symm
  · rw [dif_neg h2]
    after_reads_simp
    pointwise
    exact EReal.coe_zero.symm

include H in
/-- The table of the sines added. -/
theorem table_a (r : Fin 4096) (j : Fin 128) : (V m c main_v20 : FVec Ideal S4096x128 .f32) (ix2 r j) = ((ta (R r) j : ℝ) : EReal) := by
  unfold V
  after_reads_simp
  pointwise
  unfold ta
  by_cases h0 : j.val < 32
  · rw [dif_pos h0, if_pos h0]
    after_reads_simp
    pointwise
    exact EReal.coe_zero.symm
  rw [dif_neg h0, if_neg h0]
  by_cases h1 : j.val < 64
  · rw [dif_pos (by omega), dif_pos h1]
    after_reads_simp
    exact H.sang r ⟨j.val - 32, by omega⟩
  rw [dif_neg (by omega), dif_neg h1]
  by_cases h2 : j.val - 32 - 32 < 32
  · rw [dif_pos h2]
    after_reads_simp
    pointwise
    exact EReal.coe_zero.symm
  · rw [dif_neg h2]
    after_reads_simp
    pointwise
    exact EReal.coe_zero.symm

include H in
/-- The table of the sines subtracted. -/
theorem table_b (r : Fin 4096) (j : Fin 128) : (V m c main_v22 : FVec Ideal S4096x128 .f32) (ix2 r j) = ((tb (R r) j : ℝ) : EReal) := by
  unfold V
  after_reads_simp
  pointwise
  unfold tb
  by_cases h0 : j.val < 32
  · rw [dif_pos h0, dif_pos h0]
    after_reads_simp
    exact (congrArg (fun x : EReal => -x) (H.sang r ⟨j.val, h0⟩)).trans (EReal.coe_neg _).symm
  rw [dif_neg h0, dif_neg h0]
  by_cases h1 : j.val - 32 < 32
  · rw [dif_pos h1]
    after_reads_simp
    pointwise
    exact EReal.coe_zero.symm
  rw [dif_neg h1]
  by_cases h2 : j.val - 32 - 32 < 32
  · rw [dif_pos h2]
    after_reads_simp
    pointwise
    exact EReal.coe_zero.symm
  · rw [dif_neg h2]
    after_reads_simp
    pointwise
    exact EReal.coe_zero.symm

theorem at0 : ∀ t : Fin cfg0.N, win0_0.index t (0 : Fin 2) = t.val ∧ win0_0.index t (1 : Fin 2) = 10 :=
  (by decide +kernel : ∀ t : Fin grid0.N, _)

theorem at1 : ∀ t : Fin cfg0.N, win0_1.index t (0 : Fin 2) = t.val ∧ win0_1.index t (1 : Fin 2) = 11 :=
  (by decide +kernel : ∀ t : Fin grid0.N, _)

theorem at2 : ∀ t : Fin cfg0.N, win0_2.index t (0 : Fin 2) = t.val ∧ win0_2.index t (1 : Fin 2) = 24 :=
  (by decide +kernel : ∀ t : Fin grid0.N, _)

theorem at3 : ∀ t : Fin cfg0.N, win0_3.index t (0 : Fin 3) = 0 ∧ win0_3.index t (1 : Fin 3) = t.val ∧ win0_3.index t (2 : Fin 3) = 0 :=
  (by decide +kernel : ∀ t : Fin grid0.N, _)

theorem at4 : ∀ t : Fin cfg0.N, win0_4.index t (0 : Fin 3) = 0 ∧ win0_4.index t (1 : Fin 3) = t.val ∧ win0_4.index t (2 : Fin 3) = 0 :=
  (by decide +kernel : ∀ t : Fin grid0.N, _)

theorem at5 : ∀ t : Fin cfg0.N, win0_5.index t (0 : Fin 3) = 0 ∧ win0_5.index t (1 : Fin 3) = t.val ∧ win0_5.index t (2 : Fin 3) = 0 :=
  (by decide +kernel : ∀ t : Fin grid0.N, _)

theorem at6 : ∀ t : Fin cfg0.N, win0_6.index t (0 : Fin 2) = t.val ∧ win0_6.index t (1 : Fin 2) = 0 :=
  (by decide +kernel : ∀ t : Fin grid0.N, _)

theorem at7 : ∀ t : Fin cfg0.N, win0_7.index t (0 : Fin 2) = t.val ∧ win0_7.index t (1 : Fin 2) = 0 :=
  (by decide +kernel : ∀ t : Fin grid0.N, _)

theorem at8 : ∀ t : Fin cfg0.N, win0_8.index t (0 : Fin 2) = t.val ∧ win0_8.index t (1 : Fin 2) = 0 :=
  (by decide +kernel : ∀ t : Fin grid0.N, _)

theorem at9 : ∀ t : Fin cfg0.N, win0_9.index t (0 : Fin 2) = 0 ∧ win0_9.index t (1 : Fin 2) = 0 :=
  (by decide +kernel : ∀ t : Fin grid0.N, _)

theorem at10 : ∀ t : Fin cfg0.N, win0_10.index t (0 : Fin 2) = 0 ∧ win0_10.index t (1 : Fin 2) = 0 :=
  (by decide +kernel : ∀ t : Fin grid0.N, _)

theorem at11 : ∀ t : Fin cfg0.N, win0_11.index t (0 : Fin 2) = 0 ∧ win0_11.index t (1 : Fin 2) = 0 :=
  (by decide +kernel : ∀ t : Fin grid0.N, _)

theorem at12 : ∀ t : Fin cfg0.N, win0_12.index t (0 : Fin 2) = 0 ∧ win0_12.index t (1 : Fin 2) = 0 :=
  (by decide +kernel : ∀ t : Fin grid0.N, _)

theorem at13 : ∀ t : Fin cfg0.N, win0_13.index t (0 : Fin 2) = 0 ∧ win0_13.index t (1 : Fin 2) = 0 :=
  (by decide +kernel : ∀ t : Fin grid0.N, _)

theorem at14 : ∀ t : Fin cfg0.N, win0_14.index t (0 : Fin 2) = 0 ∧ win0_14.index t (1 : Fin 2) = 0 :=
  (by decide +kernel : ∀ t : Fin grid0.N, _)

/-- A point's row among all. -/
def row (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem row_holds (i : Fin 4096) : row (holds i) ⟨i.val % 512, by omega⟩ = i := Fin.ext (by show i.val / 512 * 512 + i.val % 512 = i.val; omega)

/-- The last point. -/
abbrev last : Fin cfg0.N := ⟨7, lt_of_lt_of_eq (by decide) (show 8 = cfg0.N from N_0.symm)⟩

theorem blk0 (t : Fin cfg0.N) (r : Fin 512) (k : Fin 256) (K : Fin 3200) (hK : K.val = 10 * 256 + k.val) :
    (X0_0 m c t : FVec Ideal S512x256 .f32) (ix2 r k) = V m c main_v29 (ix2 (row t r) K) := by
  obtain ⟨f0, f1⟩ := at0 t
  unfold X0_0 Pipeline.Window.fill
  rw [dif_pos (moved0_0 t _)]
  unfold iblk
  rw [View.read_apply]
  exact congrArg (V m c main_v29) (ext2 (moved f0) ((moved f1).trans hK.symm))

theorem blk1 (t : Fin cfg0.N) (r : Fin 512) (k : Fin 256) (K : Fin 3200) (hK : K.val = 11 * 256 + k.val) :
    (X0_1 m c t : FVec Ideal S512x256 .f32) (ix2 r k) = V m c main_v29 (ix2 (row t r) K) := by
  obtain ⟨f0, f1⟩ := at1 t
  unfold X0_1 Pipeline.Window.fill
  rw [dif_pos (moved0_1 t _)]
  unfold iblk
  rw [View.read_apply]
  exact congrArg (V m c main_v29) (ext2 (moved f0) ((moved f1).trans hK.symm))

theorem blk2 (t : Fin cfg0.N) (r : Fin 512) (k : Fin 128) (K : Fin 3200) (hK : K.val = 24 * 128 + k.val) :
    (iblk m c 2 t : FVec Ideal S512x128 .f32) (ix2 r k) = V m c main_v29 (ix2 (row t r) K) := by
  obtain ⟨f0, f1⟩ := at2 t
  unfold iblk
  rw [View.read_apply]
  exact congrArg (V m c main_v29) (ext2 (moved f0) ((moved f1).trans hK.symm))

theorem blk3 (t : Fin cfg0.N) (r : Fin 4) (k : Fin 512) (l : Fin 256) (K : Fin 4096) (hK : K.val = t.val * 512 + k.val) :
    (iblk m c 3 t : FVec Ideal S4x512x256 .f32) (ix3 r k l) = V m c main_v31 (ix3 r K l) := by
  obtain ⟨f0, f1, f2⟩ := at3 t
  unfold iblk
  rw [View.read_apply]
  exact congrArg (V m c main_v31) (ext3 (fixed f0) ((moved f1).trans hK.symm) (fixed f2))

theorem blk4 (t : Fin cfg0.N) (r : Fin 4) (k : Fin 512) (l : Fin 256) (K : Fin 4096) (hK : K.val = t.val * 512 + k.val) :
    (iblk m c 4 t : FVec Ideal S4x512x256 .f32) (ix3 r k l) = V m c main_v33 (ix3 r K l) := by
  obtain ⟨f0, f1, f2⟩ := at4 t
  unfold iblk
  rw [View.read_apply]
  exact congrArg (V m c main_v33) (ext3 (fixed f0) ((moved f1).trans hK.symm) (fixed f2))

theorem blk5 (t : Fin cfg0.N) (r : Fin 4) (k : Fin 512) (l : Fin 128) (K : Fin 4096) (hK : K.val = t.val * 512 + k.val) :
    (iblk m c 5 t : FVec Ideal S4x512x128 .f32) (ix3 r k l) = V m c main_v34 (ix3 r K l) := by
  obtain ⟨f0, f1, f2⟩ := at5 t
  unfold iblk
  rw [View.read_apply]
  exact congrArg (V m c main_v34) (ext3 (fixed f0) ((moved f1).trans hK.symm) (fixed f2))

theorem blk6 (t : Fin cfg0.N) (r : Fin 512) (k : Fin 128) (R : Fin 4096) (hR : R.val = t.val * 512 + r.val) :
    (iblk m c 6 t : FVec Ideal S512x128 .f32) (ix2 r k) = V m c main_v19 (ix2 R k) := by
  obtain ⟨f0, f1⟩ := at6 t
  unfold iblk
  rw [View.read_apply]
  exact congrArg (V m c main_v19) (ext2 ((moved f0).trans hR.symm) (fixed f1))

theorem blk7 (t : Fin cfg0.N) (r : Fin 512) (k : Fin 128) (R : Fin 4096) (hR : R.val = t.val * 512 + r.val) :
    (iblk m c 7 t : FVec Ideal S512x128 .f32) (ix2 r k) = V m c main_v20 (ix2 R k) := by
  obtain ⟨f0, f1⟩ := at7 t
  unfold iblk
  rw [View.read_apply]
  exact congrArg (V m c main_v20) (ext2 ((moved f0).trans hR.symm) (fixed f1))

theorem blk8 (t : Fin cfg0.N) (r : Fin 512) (k : Fin 128) (R : Fin 4096) (hR : R.val = t.val * 512 + r.val) :
    (iblk m c 8 t : FVec Ideal S512x128 .f32) (ix2 r k) = V m c main_v22 (ix2 R k) := by
  obtain ⟨f0, f1⟩ := at8 t
  unfold iblk
  rw [View.read_apply]
  exact congrArg (V m c main_v22) (ext2 ((moved f0).trans hR.symm) (fixed f1))

theorem blk9 (t : Fin cfg0.N) (k : Fin 256)  :
    (iblk m c 9 t : FVec Ideal S1x256 .f32) (ix2 0 k) = V m c main_arg5 (ix2 0 k) := by
  obtain ⟨f0, f1⟩ := at9 t
  unfold iblk
  rw [View.read_apply]
  exact congrArg (V m c main_arg5) (ext2 (fixed f0) (fixed f1))

theorem blk10 (t : Fin cfg0.N) (k : Fin 256)  :
    (iblk m c 10 t : FVec Ideal S1x256 .f32) (ix2 0 k) = V m c main_arg6 (ix2 0 k) := by
  obtain ⟨f0, f1⟩ := at10 t
  unfold iblk
  rw [View.read_apply]
  exact congrArg (V m c main_arg6) (ext2 (fixed f0) (fixed f1))

theorem blk11 (t : Fin cfg0.N) (r : Fin 256) (k : Fin 1024)  :
    (iblk m c 11 t : FVec Ideal S256x1024 .bf16) (ix2 r k) = V m c main_v25 (ix2 r k) := by
  obtain ⟨f0, f1⟩ := at11 t
  unfold iblk
  rw [View.read_apply]
  exact congrArg (V m c main_v25) (ext2 (fixed f0) (fixed f1))

theorem blk12 (t : Fin cfg0.N) (r : Fin 256) (k : Fin 1024)  :
    (iblk m c 12 t : FVec Ideal S256x1024 .bf16) (ix2 r k) = V m c main_arg8 (ix2 r k) := by
  obtain ⟨f0, f1⟩ := at12 t
  unfold iblk
  rw [View.read_apply]
  exact congrArg (V m c main_arg8) (ext2 (fixed f0) (fixed f1))

theorem blk13 (t : Fin cfg0.N) (k : Fin 256)  :
    (iblk m c 13 t : FVec Ideal S1x256 .f32) (ix2 0 k) = V m c main_v35 (ix2 0 k) := by
  obtain ⟨f0, f1⟩ := at13 t
  unfold iblk
  rw [View.read_apply]
  exact congrArg (V m c main_v35) (ext2 (fixed f0) (fixed f1))

theorem blk14 (t : Fin cfg0.N) (k : Fin 256)  :
    (iblk m c 14 t : FVec Ideal S1x256 .f32) (ix2 0 k) = V m c main_v36 (ix2 0 k) := by
  obtain ⟨f0, f1⟩ := at14 t
  unfold iblk
  rw [View.read_apply]
  exact congrArg (V m c main_v36) (ext2 (fixed f0) (fixed f1))

/-- What argument 5's host lines leave. -/
theorem kept5 : V m c main_arg5 = argGA m c := by
  unfold V
  after_reads_simp

theorem kept6 : V m c main_arg6 = argGB m c := by
  unfold V
  after_reads_simp

theorem kept8 : V m c main_arg8 = argWK m c := by
  unfold V
  after_reads_simp

/-- A padded row of reals. -/
theorem pad_cond {n N : ℕ} (g : Fin n → EReal) (f : Fin n → ℝ) (h : ∀ k, g k = (f k : EReal)) (j : Fin N) :
    (if e : j.val < n then g ⟨j.val, e⟩ else (0 : EReal)) = ((Real.pad f j : ℝ) : EReal) := by
  by_cases e : j.val < n
  · rw [dif_pos e, pad_lt _ _ e, h]
  · rw [dif_neg e, pad_ge _ _ e]; exact EReal.coe_zero.symm

include H

theorem has_cq (t : Fin cfg0.N) (r : Fin 512) (j : Fin 256) : (X0_0 m c t : FVec Ideal S512x256 .f32) (ix2 r j) = ((R (row t r)).cq j : EReal) :=
  (blk0 t r j ⟨2560 + j.val, by omega⟩ (by show 2560 + j.val = 10 * 256 + j.val; omega)).trans
    ((turned _ _ ⟨j.val, by omega⟩ (by show j.val < 576; omega) rfl).trans (H.cq _ j _ rfl))

theorem has_ckv (t : Fin cfg0.N) (r : Fin 512) (j : Fin 256) : (X0_1 m c t : FVec Ideal S512x256 .f32) (ix2 r j) = ((R (row t r)).ckv j : EReal) :=
  (blk1 t r j ⟨2816 + j.val, by omega⟩ (by show 2816 + j.val = 11 * 256 + j.val; omega)).trans
    ((turned _ _ ⟨256 + j.val, by omega⟩ (by show 256 + j.val < 576; omega) (by show 2816 + j.val = 2560 + (256 + j.val); omega)).trans (H.ckv _ j _ rfl))

theorem has_kr (t : Fin cfg0.N) (r : Fin 512) (j : Fin 128) : (iblk m c 2 t : FVec Ideal S512x128 .f32) (ix2 r j) = (Real.pad (R (row t r)).kr j : EReal) := by
  refine (blk2 t r j ⟨3072 + j.val, by omega⟩ (by show 3072 + j.val = 24 * 128 + j.val; omega)).trans ?_
  by_cases h : j.val < 64
  · rw [pad_lt _ _ h]
    exact (turned _ _ ⟨512 + j.val, by omega⟩ (by show 512 + j.val < 576; omega) (by show 3072 + j.val = 2560 + (512 + j.val); omega)).trans (H.kr _ ⟨j.val, h⟩ _ rfl)
  · rw [pad_ge _ _ h]
    exact (past _ _ (by show 3136 ≤ 3072 + j.val; omega)).trans EReal.coe_zero.symm

theorem has_dq (t : Fin cfg0.N) (h : Fin 4) (r : Fin 512) (j : Fin 256) : (iblk m c 3 t : FVec Ideal S4x512x256 .f32) (ix3 h r j) = (Real.pad ((R (row t r)).dq h) j : EReal) :=
  (blk3 t h r j (row t r) rfl).trans ((paddedDQ ..).trans (pad_cond (fun k => argDQ m c (ix3 (row t r) h k)) _ (fun k => H.dq _ _ k) _))

theorem has_dk (t : Fin cfg0.N) (h : Fin 4) (r : Fin 512) (j : Fin 256) : (iblk m c 4 t : FVec Ideal S4x512x256 .f32) (ix3 h r j) = (Real.pad ((R (row t r)).dk h) j : EReal) :=
  (blk4 t h r j (row t r) rfl).trans ((paddedDK ..).trans (pad_cond (fun k => argDK m c (ix3 (row t r) h k)) _ (fun k => H.dk _ _ k) _))

theorem has_dv (t : Fin cfg0.N) (h : Fin 4) (r : Fin 512) (j : Fin 128) : (iblk m c 5 t : FVec Ideal S4x512x128 .f32) (ix3 h r j) = ((R (row t r)).dv h j : EReal) :=
  (blk5 t h r j (row t r) rfl).trans ((turnedDV ..).trans (H.dv ..))

theorem has_wq (t : Fin cfg0.N) (l : Fin 256) (d : Fin 1024) : (iblk m c 11 t : FVec Ideal S256x1024 .bf16) (ix2 l d) = (Real.pad (w.wq l (hd d)) (ln d) : EReal) :=
  (blk11 t l d).trans ((paddedWQ ..).trans (pad_cond (fun k => argWQ m c (ix2 l ⟨(hd d).val * 192 + k.val, by have := (hd d).isLt; omega⟩)) _ (fun k => by
    rw [H.wq, Cert.MlaVjpIdeal.At.qhd_of _ (hd d) k rfl, Cert.MlaVjpIdeal.At.qln_of _ (hd d) k rfl]) _))

theorem has_gqn (t : Fin cfg0.N) (j : Fin 256) : (iblk m c 13 t : FVec Ideal S1x256 .f32) (ix2 0 j) = (Real.pad w.gqn j : EReal) :=
  (blk13 t j).trans ((paddedGN ..).trans (pad_cond (fun k => argGN m c (ix2 0 k)) _ (fun k => H.gqn k) _))

theorem has_gkn (t : Fin cfg0.N) (j : Fin 256) : (iblk m c 14 t : FVec Ideal S1x256 .f32) (ix2 0 j) = (Real.pad w.gkn j : EReal) :=
  (blk14 t j).trans ((paddedGM ..).trans (pad_cond (fun k => argGM m c (ix2 0 k)) _ (fun k => H.gkn k) _))

theorem has_c (t : Fin cfg0.N) (r : Fin 512) (j : Fin 128) : (iblk m c 6 t : FVec Ideal S512x128 .f32) (ix2 r j) = (tc (R (row t r)) j : EReal) :=
  (blk6 t r j (row t r) rfl).trans (table_c H (row t r) j)

theorem has_a (t : Fin cfg0.N) (r : Fin 512) (j : Fin 128) : (iblk m c 7 t : FVec Ideal S512x128 .f32) (ix2 r j) = (ta (R (row t r)) j : EReal) :=
  (blk7 t r j (row t r) rfl).trans (table_a H (row t r) j)

theorem has_b (t : Fin cfg0.N) (r : Fin 512) (j : Fin 128) : (iblk m c 8 t : FVec Ideal S512x128 .f32) (ix2 r j) = (tb (R (row t r)) j : EReal) :=
  (blk8 t r j (row t r) rfl).trans (table_b H (row t r) j)

theorem has_gqa (t : Fin cfg0.N) (j : Fin 256) : (iblk m c 9 t : FVec Ideal S1x256 .f32) (ix2 0 j) = (w.gqa j : EReal) :=
  (blk9 t j).trans ((congrFun (kept5 (m := m) (c := c)) (ix2 0 j)).trans (H.gqa j))

theorem has_gkva (t : Fin cfg0.N) (j : Fin 256) : (iblk m c 10 t : FVec Ideal S1x256 .f32) (ix2 0 j) = (w.gkva j : EReal) :=
  (blk10 t j).trans ((congrFun (kept6 (m := m) (c := c)) (ix2 0 j)).trans (H.gkva j))

theorem has_wkv (t : Fin cfg0.N) (l : Fin 256) (d : Fin 1024) : (iblk m c 12 t : FVec Ideal S256x1024 .bf16) (ix2 l d) = (w.wkv l d : EReal) :=
  (blk12 t l d).trans ((congrFun (kept8 (m := m) (c := c)) (ix2 l d)).trans (H.wkv l d))

set_option maxHeartbeats 4000000 in
/-- At a grid point the blocks hold the point's rows. -/
theorem blocks (t : Fin cfg0.N) : Pay.Holds (insAt m c t) w (fun r => R (row t r)) := by
  apply Pay.Holds.mk
  · exact has_cq H t
  · exact has_ckv H t
  · exact has_kr H t
  · exact has_dq H t
  · exact has_dk H t
  · exact has_dv H t
  · exact has_c H t
  · exact has_a H t
  · exact has_b H t
  · exact has_gqa H t
  · exact has_gkva H t
  · exact has_wq H t
  · exact has_wkv H t
  · exact has_gqn H t
  · exact has_gkn H t

end Cert.BwdMla.Final

end
-- ==== Proof.BwdMla.Value.lean ====
/- The projections' gradients' call computes the seven results its reference states. -/
module

public import proofs.«01_k».proof.Proof.At
public import proofs.«01_k».proof.Proof.BwdMla.Host
public import proofs.«01_k».proof.Proof.BwdMla.Block
public import proofs.«01_k».proof.Proof.Tile

@[expose] public section

set_option maxRecDepth 16384
set_option maxHeartbeats 1000000

noncomputable section

open Idealize.ShloMosaic Idealize.ShloMosaic.TcCoe Idealize.SL.Sem

namespace Cert.BwdMla.Final

open Cert.BwdMlaIdeal Cert.BwdMlaIdeal.Gen Cert.BwdMla.Hand Cert.Sums Cert.Norm Cert.Tile Cert.BwdMla.Real Cert.At

variable {m : (ℓ : Loc nD τ sig) → Buf (Elt Ideal) ℓ} {c : Dev nD}
variable {w : Wts} {R : Fin 4096 → Row}
variable (H : Cert.MlaVjpIdeal.At.Holds (argZ m c) (argDQ m c) (argDK m c) (argDV m c) (argP m c) (argGA m c) (argGB m c) (argWQ m c) (argWK m c) (argGN m c) (argGM m c) w R)

/-- Result 0 of the call. -/
abbrev arr15 (m : (ℓ : Loc nD τ sig) → Buf (Elt Ideal) ℓ) (c : Dev nD) : FVec Ideal S4096x640 .bf16 := (dats m 0 c).arrAt 15 cfg0.N

/-- Result 1 of the call. -/
abbrev arr16 (m : (ℓ : Loc nD τ sig) → Buf (Elt Ideal) ℓ) (c : Dev nD) : FVec Ideal S256x1024 .f32 := (dats m 0 c).arrAt 16 cfg0.N

/-- Result 2 of the call. -/
abbrev arr17 (m : (ℓ : Loc nD τ sig) → Buf (Elt Ideal) ℓ) (c : Dev nD) : FVec Ideal S256x1024 .f32 := (dats m 0 c).arrAt 17 cfg0.N

/-- Result 3 of the call. -/
abbrev arr18 (m : (ℓ : Loc nD τ sig) → Buf (Elt Ideal) ℓ) (c : Dev nD) : FVec Ideal S1x256 .f32 := (dats m 0 c).arrAt 18 cfg0.N

/-- Result 4 of the call. -/
abbrev arr19 (m : (ℓ : Loc nD τ sig) → Buf (Elt Ideal) ℓ) (c : Dev nD) : FVec Ideal S1x256 .f32 := (dats m 0 c).arrAt 19 cfg0.N

/-- Result 5 of the call. -/
abbrev arr20 (m : (ℓ : Loc nD τ sig) → Buf (Elt Ideal) ℓ) (c : Dev nD) : FVec Ideal S1x256 .f32 := (dats m 0 c).arrAt 20 cfg0.N

/-- Result 6 of the call. -/
abbrev arr21 (m : (ℓ : Loc nD τ sig) → Buf (Elt Ideal) ℓ) (c : Dev nD) : FVec Ideal S1x256 .f32 := (dats m 0 c).arrAt 21 cfg0.N

theorem at15 : ∀ t : Fin cfg0.N, win0_15.index t (0 : Fin 2) = t.val ∧ win0_15.index t (1 : Fin 2) = 0 :=
  (by decide +kernel : ∀ t : Fin grid0.N, _)

theorem at16 : ∀ t : Fin cfg0.N, win0_16.index t (0 : Fin 2) = 0 ∧ win0_16.index t (1 : Fin 2) = 0 :=
  (by decide +kernel : ∀ t : Fin grid0.N, _)

theorem at17 : ∀ t : Fin cfg0.N, win0_17.index t (0 : Fin 2) = 0 ∧ win0_17.index t (1 : Fin 2) = 0 :=
  (by decide +kernel : ∀ t : Fin grid0.N, _)

theorem at18 : ∀ t : Fin cfg0.N, win0_18.index t (0 : Fin 2) = 0 ∧ win0_18.index t (1 : Fin 2) = 0 :=
  (by decide +kernel : ∀ t : Fin grid0.N, _)

theorem at19 : ∀ t : Fin cfg0.N, win0_19.index t (0 : Fin 2) = 0 ∧ win0_19.index t (1 : Fin 2) = 0 :=
  (by decide +kernel : ∀ t : Fin grid0.N, _)

theorem at20 : ∀ t : Fin cfg0.N, win0_20.index t (0 : Fin 2) = 0 ∧ win0_20.index t (1 : Fin 2) = 0 :=
  (by decide +kernel : ∀ t : Fin grid0.N, _)

theorem at21 : ∀ t : Fin cfg0.N, win0_21.index t (0 : Fin 2) = 0 ∧ win0_21.index t (1 : Fin 2) = 0 :=
  (by decide +kernel : ∀ t : Fin grid0.N, _)

/-- The points' blocks of the rows' gradient are apart. -/
theorem disjoint15 : ∀ t t' : Fin cfg0.N, (cfg0.win 15).flush t = true → (cfg0.win 15).flush t' = true → t ≠ t' →
    Disjoint ((cfg0.win 15).blk t).view.set ((cfg0.win 15).blk t').view.set := fun t t' _ _ hne =>
  (cfg0.win 15).disjoint_blk fun h => hne (Fin.ext ((at15 t).1.symm.trans ((congrFun h (0 : Fin 2)).trans (at15 t').1)))

/-- What a point writes back of result 0. -/
theorem flushed15 (t : Fin cfg0.N) : (dats m 0 c).flushed 15 t = (cfg0.win 15).cut (grid0.coords t) (outsAt m c t.val t.isLt).y15 := by
  show (cfg0.win 15).cut (grid0.coords t) ((dats m 0 c).after 15 t) = _
  dsimp only [dats]

/-- What a point writes back of result 1. -/
theorem flushed16 (t : Fin cfg0.N) : (dats m 0 c).flushed 16 t = (cfg0.win 16).cut (grid0.coords t) (outsAt m c t.val t.isLt).y16 := by
  show (cfg0.win 16).cut (grid0.coords t) ((dats m 0 c).after 16 t) = _
  dsimp only [dats]

/-- What a point writes back of result 2. -/
theorem flushed17 (t : Fin cfg0.N) : (dats m 0 c).flushed 17 t = (cfg0.win 17).cut (grid0.coords t) (outsAt m c t.val t.isLt).y17 := by
  show (cfg0.win 17).cut (grid0.coords t) ((dats m 0 c).after 17 t) = _
  dsimp only [dats]

/-- What a point writes back of result 3. -/
theorem flushed18 (t : Fin cfg0.N) : (dats m 0 c).flushed 18 t = (cfg0.win 18).cut (grid0.coords t) (outsAt m c t.val t.isLt).y18 := by
  show (cfg0.win 18).cut (grid0.coords t) ((dats m 0 c).after 18 t) = _
  dsimp only [dats]

/-- What a point writes back of result 4. -/
theorem flushed19 (t : Fin cfg0.N) : (dats m 0 c).flushed 19 t = (cfg0.win 19).cut (grid0.coords t) (outsAt m c t.val t.isLt).y19 := by
  show (cfg0.win 19).cut (grid0.coords t) ((dats m 0 c).after 19 t) = _
  dsimp only [dats]

/-- What a point writes back of result 5. -/
theorem flushed20 (t : Fin cfg0.N) : (dats m 0 c).flushed 20 t = (cfg0.win 20).cut (grid0.coords t) (outsAt m c t.val t.isLt).y20 := by
  show (cfg0.win 20).cut (grid0.coords t) ((dats m 0 c).after 20 t) = _
  dsimp only [dats]

/-- What a point writes back of result 6. -/
theorem flushed21 (t : Fin cfg0.N) : (dats m 0 c).flushed 21 t = (cfg0.win 21).cut (grid0.coords t) (outsAt m c t.val t.isLt).y21 := by
  show (cfg0.win 21).cut (grid0.coords t) ((dats m 0 c).after 21 t) = _
  dsimp only [dats]

variable (t : Fin cfg0.N)

theorem cell15 (r : Fin 512) (k : Fin 640) :
    arr15 m c (ix2 (row t r) k) = ((outsAt m c t.val t.isLt).y15 : FVec Ideal S512x640 .bf16) (ix2 r k) := by
  obtain ⟨f0, f1⟩ := at15 t
  have h := congrFun (((dats m 0 c).read_blk_arrAt_eq_flushed 15 disjoint15 cfg0.N t t.isLt (flush0_15 t)).trans (flushed15 t)) (ix2 r k)
  rw [View.read_apply] at h
  exact (congrArg (arr15 m c) (ext2 (moved f0) (fixed f1)).symm).trans h

/-- Only the last point writes result 16 back. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' hf hf' hne => absurd ((by decide +kernel : ∀ t t' : Fin grid0.N, (cfg0.win 16).flush t = true → (cfg0.win 16).flush t' = true → t = t') t t' hf hf') hne

theorem cell16 (ht : t.val = 7) (r : Fin 256) (k : Fin 1024) : arr16 m c (ix2 r k) = ((outsAt m c t.val t.isLt).y16 : FVec Ideal S256x1024 .f32) (ix2 r k) := by
  obtain ⟨f0, f1⟩ := at16 t
  have h := congrFun (((dats m 0 c).read_blk_arrAt_eq_flushed 16 disjoint16 cfg0.N t t.isLt ((flush0_16 t).mpr (by rw [ht]))).trans (flushed16 t)) (ix2 r k)
  rw [View.read_apply] at h
  exact (congrArg (arr16 m c) (ext2 (fixed f0) (fixed f1)).symm).trans h

/-- Only the last point writes result 17 back. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' hf hf' hne => absurd ((by decide +kernel : ∀ t t' : Fin grid0.N, (cfg0.win 17).flush t = true → (cfg0.win 17).flush t' = true → t = t') t t' hf hf') hne

theorem cell17 (ht : t.val = 7) (r : Fin 256) (k : Fin 1024) : arr17 m c (ix2 r k) = ((outsAt m c t.val t.isLt).y17 : FVec Ideal S256x1024 .f32) (ix2 r k) := by
  obtain ⟨f0, f1⟩ := at17 t
  have h := congrFun (((dats m 0 c).read_blk_arrAt_eq_flushed 17 disjoint17 cfg0.N t t.isLt ((flush0_17 t).mpr (by rw [ht]))).trans (flushed17 t)) (ix2 r k)
  rw [View.read_apply] at h
  exact (congrArg (arr17 m c) (ext2 (fixed f0) (fixed f1)).symm).trans h

/-- Only the last point writes result 18 back. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' hf hf' hne => absurd ((by decide +kernel : ∀ t t' : Fin grid0.N, (cfg0.win 18).flush t = true → (cfg0.win 18).flush t' = true → t = t') t t' hf hf') hne

theorem cell18 (ht : t.val = 7) (k : Fin 256) : arr18 m c (ix2 0 k) = ((outsAt m c t.val t.isLt).y18 : FVec Ideal S1x256 .f32) (ix2 0 k) := by
  obtain ⟨f0, f1⟩ := at18 t
  have h := congrFun (((dats m 0 c).read_blk_arrAt_eq_flushed 18 disjoint18 cfg0.N t t.isLt ((flush0_18 t).mpr (by rw [ht]))).trans (flushed18 t)) (ix2 0 k)
  rw [View.read_apply] at h
  exact (congrArg (arr18 m c) (ext2 (fixed f0) (fixed f1)).symm).trans h

/-- Only the last point writes result 19 back. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' hf hf' hne => absurd ((by decide +kernel : ∀ t t' : Fin grid0.N, (cfg0.win 19).flush t = true → (cfg0.win 19).flush t' = true → t = t') t t' hf hf') hne

theorem cell19 (ht : t.val = 7) (k : Fin 256) : arr19 m c (ix2 0 k) = ((outsAt m c t.val t.isLt).y19 : FVec Ideal S1x256 .f32) (ix2 0 k) := by
  obtain ⟨f0, f1⟩ := at19 t
  have h := congrFun (((dats m 0 c).read_blk_arrAt_eq_flushed 19 disjoint19 cfg0.N t t.isLt ((flush0_19 t).mpr (by rw [ht]))).trans (flushed19 t)) (ix2 0 k)
  rw [View.read_apply] at h
  exact (congrArg (arr19 m c) (ext2 (fixed f0) (fixed f1)).symm).trans h

/-- Only the last point writes result 20 back. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' hf hf' hne => absurd ((by decide +kernel : ∀ t t' : Fin grid0.N, (cfg0.win 20).flush t = true → (cfg0.win 20).flush t' = true → t = t') t t' hf hf') hne

theorem cell20 (ht : t.val = 7) (k : Fin 256) : arr20 m c (ix2 0 k) = ((outsAt m c t.val t.isLt).y20 : FVec Ideal S1x256 .f32) (ix2 0 k) := by
  obtain ⟨f0, f1⟩ := at20 t
  have h := congrFun (((dats m 0 c).read_blk_arrAt_eq_flushed 20 disjoint20 cfg0.N t t.isLt ((flush0_20 t).mpr (by rw [ht]))).trans (flushed20 t)) (ix2 0 k)
  rw [View.read_apply] at h
  exact (congrArg (arr20 m c) (ext2 (fixed f0) (fixed f1)).symm).trans h

/-- Only the last point writes result 21 back. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' hf hf' hne => absurd ((by decide +kernel : ∀ t t' : Fin grid0.N, (cfg0.win 21).flush t = true → (cfg0.win 21).flush t' = true → t = t') t t' hf hf') hne

theorem cell21 (ht : t.val = 7) (k : Fin 256) : arr21 m c (ix2 0 k) = ((outsAt m c t.val t.isLt).y21 : FVec Ideal S1x256 .f32) (ix2 0 k) := by
  obtain ⟨f0, f1⟩ := at21 t
  have h := congrFun (((dats m 0 c).read_blk_arrAt_eq_flushed 21 disjoint21 cfg0.N t t.isLt ((flush0_21 t).mpr (by rw [ht]))).trans (flushed21 t)) (ix2 0 k)
  rw [View.read_apply] at h
  exact (congrArg (arr21 m c) (ext2 (fixed f0) (fixed f1)).symm).trans h

include H in
/-- The rows' gradient at a point's row. -/
theorem rows_at (r : Fin 512) (j : Fin 640) : (outsAt m c t.val t.isLt).y15 (ix2 r j) = (dz w (R (row t r)) j : EReal) := by
  obtain ⟨n, h⟩ := t
  cases n with
  | zero => exact (congrFun (Block.first15 (insAt m c ⟨0, h⟩) (outsAt m c 0 h) c _ _ _) (ix2 r j)).trans (Pay.y15_at (blocks H ⟨0, h⟩) _ r j)
  | succ n => exact (congrFun (Block.later15 (insAt m c ⟨n + 1, h⟩) _ c _ _ _) (ix2 r j)).trans (Pay.y15_at (blocks H ⟨n + 1, h⟩) _ r j)

/-- A number each point adds its rows to is their sum over all rows after the last point. -/
theorem acc_sum (f : Outs Ideal → EReal) (s : Fin 4096 → ℝ) (h0 : ∀ y, f (Block.zeros y) = 0)
    (hf : ∀ x y i o hc, f (leave (runFirst c i o hc x).1) = f (Block.out x (Block.zeros y)))
    (hl : ∀ x y i o hc, f (leave (runLater c i o hc x y).1) = f (Block.out x y))
    (ha : ∀ (t : Fin cfg0.N) y, f (Block.out (insAt m c t) y) = f y + ((∑ r, s (row t r) : ℝ) : EReal)) :
    f (outsAt m c last.val last.isLt) = ((∑ i, s i : ℝ) : EReal) := by
  have h := run (fun n hn => f (outsAt m c n hn)) (tile 512 s)
    (fun h => (hf (insAt m c ⟨0, h⟩) (outsAt m c 0 h) _ _ _).trans (by rw [ha ⟨0, h⟩, h0, zero_add, ← tile_row _ _ (row ⟨0, h⟩) fun r => rfl]))
    (fun n h => (hl (insAt m c ⟨n + 1, h⟩) (outsAt m c n (by omega)) _ _ _).trans (by rw [ha ⟨n + 1, h⟩, ← tile_row _ _ (row ⟨n + 1, h⟩) fun r => rfl]))
    7 last.isLt
  rw [tiles 8 512 rfl] at h
  exact h

include H in
theorem sum16 (l : Fin 256) (d : Fin 1024) : (outsAt m c last.val last.isLt).y16 (ix2 l d) = ((∑ i, Real.pad (gwq w (R i) l (hd d)) (ln d) : ℝ) : EReal) :=
  acc_sum (fun y => y.y16 (ix2 l d)) (fun i => Real.pad (gwq w (R i) l (hd d)) (ln d)) (fun y => by show k0_pay5 (F := Ideal) (ix2 l d) = (0 : EReal); pointwise [k0_pay5])
    (fun x y i o hc => congrFun (Block.first16 x y c i o hc) (ix2 l d)) (fun x y i o hc => congrFun (Block.later16 x y c i o hc) (ix2 l d))
    (fun t y => Pay.y16_at (blocks H t) y l d)

include H in
theorem sum17 (l : Fin 256) (d : Fin 1024) : (outsAt m c last.val last.isLt).y17 (ix2 l d) = ((∑ i, gwkv w (R i) l (hd d) (ln d) : ℝ) : EReal) :=
  acc_sum (fun y => y.y17 (ix2 l d)) (fun i => gwkv w (R i) l (hd d) (ln d)) (fun y => by show k0_pay6 (F := Ideal) (ix2 l d) = (0 : EReal); pointwise [k0_pay6])
    (fun x y i o hc => congrFun (Block.first17 x y c i o hc) (ix2 l d)) (fun x y i o hc => congrFun (Block.later17 x y c i o hc) (ix2 l d))
    (fun t y => Pay.y17_at (blocks H t) y l d)

include H in
theorem sum18 (d : Fin 256) : (outsAt m c last.val last.isLt).y18 (ix2 0 d) = ((∑ i, ggqa w (R i) d : ℝ) : EReal) :=
  acc_sum (fun y => y.y18 (ix2 0 d)) (fun i => ggqa w (R i) d) (fun y => by show k0_pay7 (F := Ideal) (ix2 0 d) = (0 : EReal); pointwise [k0_pay7])
    (fun x y i o hc => congrFun (Block.first18 x y c i o hc) (ix2 0 d)) (fun x y i o hc => congrFun (Block.later18 x y c i o hc) (ix2 0 d))
    (fun t y => Pay.y18_at (blocks H t) y d)

include H in
theorem sum19 (d : Fin 256) : (outsAt m c last.val last.isLt).y19 (ix2 0 d) = ((∑ i, ggkva w (R i) d : ℝ) : EReal) :=
  acc_sum (fun y => y.y19 (ix2 0 d)) (fun i => ggkva w (R i) d) (fun y => by show k0_pay8 (F := Ideal) (ix2 0 d) = (0 : EReal); pointwise [k0_pay8])
    (fun x y i o hc => congrFun (Block.first19 x y c i o hc) (ix2 0 d)) (fun x y i o hc => congrFun (Block.later19 x y c i o hc) (ix2 0 d))
    (fun t y => Pay.y19_at (blocks H t) y d)

include H in
theorem sum20 (d : Fin 256) : (outsAt m c last.val last.isLt).y20 (ix2 0 d) = ((∑ i, Real.pad (fun j => ∑ h, ggqn w (R i) h j) d : ℝ) : EReal) :=
  acc_sum (fun y => y.y20 (ix2 0 d)) (fun i => Real.pad (fun j => ∑ h, ggqn w (R i) h j) d) (fun y => by show k0_pay9 (F := Ideal) (ix2 0 d) = (0 : EReal); pointwise [k0_pay9])
    (fun x y i o hc => congrFun (Block.first20 x y c i o hc) (ix2 0 d)) (fun x y i o hc => congrFun (Block.later20 x y c i o hc) (ix2 0 d))
    (fun t y => Pay.y20_at (blocks H t) y d)

include H in
theorem sum21 (d : Fin 256) : (outsAt m c last.val last.isLt).y21 (ix2 0 d) = ((∑ i, Real.pad (fun j => ∑ h, ggkn w (R i) h j) d : ℝ) : EReal) :=
  acc_sum (fun y => y.y21 (ix2 0 d)) (fun i => Real.pad (fun j => ∑ h, ggkn w (R i) h j) d) (fun y => by show k0_pay10 (F := Ideal) (ix2 0 d) = (0 : EReal); pointwise [k0_pay10])
    (fun x y i o hc => congrFun (Block.first21 x y c i o hc) (ix2 0 d)) (fun x y i o hc => congrFun (Block.later21 x y c i o hc) (ix2 0 d))
    (fun t y => Pay.y21_at (blocks H t) y d)

include H in
/-- The gradient of the rows: the call's is the reference's. -/
theorem value264 : Cert.MlaVjpIdeal.Read.val_main_v264 (F := Ideal) (argZ m c) (argDQ m c) (argDK m c) (argDV m c) (argP m c) (argGA m c) (argGB m c) (argWQ m c) (argWK m c) (argGN m c) (argGM m c) = arr15 m c := by
  funext i
  idx_vars i
  have e := cell15 (m := m) (c := c) (holds i0) ⟨i0.val % 512, by omega⟩ i1
  rw [row_holds, rows_at H, row_holds] at e
  rw [e, Cert.MlaVjpIdeal.At.v264 H]

include H in
/-- The gradient of the queries' weights, padded: the call's is the reference's. -/
theorem value267 : Cert.MlaVjpIdeal.Read.val_main_v267 (F := Ideal) (argZ m c) (argDQ m c) (argP m c) (argGA m c) (argWQ m c) (argGN m c) = arr16 m c := by
  funext i
  idx_vars i
  rw [cell16 last rfl, sum16 H, Cert.MlaVjpIdeal.At.v267 H]

include H in
/-- The gradient of the keys' and values' weights: the call's is the reference's. -/
theorem value218 : Cert.MlaVjpIdeal.Read.val_main_v218 (F := Ideal) (argZ m c) (argDK m c) (argDV m c) (argP m c) (argGB m c) (argWK m c) (argGM m c) = arr17 m c := by
  funext i
  idx_vars i
  rw [cell17 last rfl, sum17 H, Cert.MlaVjpIdeal.At.v218 H]

include H in
/-- The gradient of the first gains: the call's is the reference's. -/
theorem value245 : Cert.MlaVjpIdeal.Read.val_main_v245 (F := Ideal) (argZ m c) (argDQ m c) (argP m c) (argGA m c) (argWQ m c) (argGN m c) = arr18 m c := by
  funext i
  idx_vars i
  obtain rfl : i0 = 0 := Subsingleton.elim _ _
  rw [cell18 last rfl, sum18 H, Cert.MlaVjpIdeal.At.v245 H]

include H in
/-- The gradient of the second gains: the call's is the reference's. -/
theorem value222 : Cert.MlaVjpIdeal.Read.val_main_v222 (F := Ideal) (argZ m c) (argDK m c) (argDV m c) (argP m c) (argGB m c) (argWK m c) (argGM m c) = arr19 m c := by
  funext i
  idx_vars i
  obtain rfl : i0 = 0 := Subsingleton.elim _ _
  rw [cell19 last rfl, sum19 H, Cert.MlaVjpIdeal.At.v222 H]

include H in
/-- The gradient of the queries' gains, padded: the call's is the reference's. -/
theorem value268 : Cert.MlaVjpIdeal.Read.val_main_v268 (F := Ideal) (argZ m c) (argDQ m c) (argP m c) (argGA m c) (argWQ m c) = arr20 m c := by
  funext i
  idx_vars i
  obtain rfl : i0 = 0 := Subsingleton.elim _ _
  rw [cell20 last rfl, sum20 H, Cert.MlaVjpIdeal.At.v268 H]

include H in
/-- The gradient of the keys' gains, padded: the call's is the reference's. -/
theorem value269 : Cert.MlaVjpIdeal.Read.val_main_v269 (F := Ideal) (argZ m c) (argDK m c) (argP m c) (argGB m c) (argWK m c) = arr21 m c := by
  funext i
  idx_vars i
  obtain rfl : i0 = 0 := Subsingleton.elim _ _
  rw [cell21 last rfl, sum21 H, Cert.MlaVjpIdeal.At.v269 H]

end Cert.BwdMla.Final

end
-- ==== Proof.BwdMla.Literal.lean ====
module

public import proofs.«01_k».proof.Proof.BwdMla.Frame
public import proofs.«01_k».proof.Proof.Gen.BwdMla.Launch
public import proofs.«01_k».proof.Defs

@[expose] public section

noncomputable section

namespace Cert.BwdMla.Hand

open Idealize.ShloMosaic Idealize.ShloMosaic.TcCoe

/-- On machine words, a named constant is the literal it stands for. -/
abbrev literal : Named Bits := ⟨fun _ _ _ bits => Scalar.ofBits _ bits⟩

/-- The frame's statement with named constants read as their literals. -/
def Quiet : Prop :=
  letI := literal
  ∀ m ρ, True → type_of% (frame (F := Bits) m ρ)

/-- The kernel's frame on machine words: its text is the idealized one's with every named constant read as its literal. -/
theorem frame_words : Cert.quiescent_BwdMla :=
  (show Quiet = Cert.quiescent_BwdMla by sl_kernel_rfl).mp (letI := literal; fun m ρ _ => frame (F := Bits) m ρ)

end Cert.BwdMla.Hand

end
-- ==== Proof.BwdMla.Claims.lean ====
/- The claims about the projections' gradients' call. -/
module

public import proofs.«01_k».proof.Defs
public import proofs.«01_k».proof.Proof.BwdMla.Value
public import proofs.«01_k».proof.Proof.BwdMla.Literal
public import proofs.«01_k».proof.Proof.Gen.MlaVjpIdeal.Run
public import proofs.«01_k».proof.Proof.Gen.Pre_finite_bwd_mla
public import Idealize.ShloMosaic.Lib.Quiescent

@[expose] public section

set_option maxRecDepth 16384

noncomputable section

open Idealize.ShloMosaic Idealize.SL.Sem

namespace Cert.BwdMlaClaims

open Cert.BwdMla.Final Cert.Sums Cert.Norm Cert.MlaVjpIdeal Cert.MlaVjpIdeal.Read Cert.BwdMla.Real

/-- The reference runs to the end, keeps its arguments and has no counters. -/
theorem frame_ref : Cert.quiescent_MlaVjpIdeal := fun m ρ _ =>
  (θ_run Cert.MlaVjpIdeal.defs _ _).mono
    (fun r h => ⟨fun c => (h c).2.2.2.2.2.2.2, sem_eq_zero_of_no_sems (by decide) r.2⟩)
    (Cert.MlaVjpIdeal.Value.run (F := Ideal) m ρ)

/-- The named constant is the written-out value of the literal it replaces. -/
theorem named : Cert.preserves_BwdMla_BwdMlaIdeal :=
  IdealRules.named_const.statement Cert.BwdMlaIdeal.κ "over_qk_head" .f32 0x3BAAAAAB#32 _ rfl

/-- The words of the frequencies' constants. -/
theorem base_word : (Ideal.ofBits .f32 0x461C4000#32 : EReal) = ((10000 : ℝ) : EReal) := by
  simp [Ideal.ofBits, Ideal.ieee]
  rw [← EReal.coe_mul]
  norm_num

theorem count_word : (Ideal.ofBits .f32 0x42800000#32 : EReal) = ((64 : ℝ) : EReal) := by
  simp [Ideal.ofBits, Ideal.ieee]
  rw [← EReal.coe_mul]
  norm_num

/-- A frequency is a real. -/
theorem freq_real (j : Fin 32) : ∃ x : ℝ, val_main_v9 (F := Ideal) (ix1 j) = (x : EReal) := by
  have e7 : ∃ x : ℝ, val_main_v7 (F := Ideal) (ix1 j) = (x : EReal) := by
    pointwise [val_main_v7, val_main_v5, val_main_v4, val_main_v3, val_main_v2, val_main_v1, val_main_v0, val_main_v6, val_main_cst, val_main_cst_0, val_main_cst_1]
    refine ⟨-(2 * (((BitVec.ofNat 32 j.val).toInt : ℤ) : ℝ)) * (1 / 64), ?_⟩
    have e2 : (Ideal.ofBits .f32 1073741824#32 : EReal) = ((2 : ℝ) : EReal) := two_word
    have e64 : (Ideal.ofBits .f32 1115684864#32 : EReal) = ((64 : ℝ) : EReal) := count_word
    rw [e2, e64]
    show Ideal.div (-(((2 : ℝ) : EReal) * ((((BitVec.ofNat 32 j.val).toInt : ℤ) : ℝ) : EReal))) ((64 : ℝ) : EReal) = _
    rw [← EReal.coe_mul, ← EReal.coe_neg, Ideal.div_coe (by norm_num), ← EReal.coe_mul]
  obtain ⟨x, e⟩ := e7
  refine ⟨Real.rpow 10000 x, ?_⟩
  have h8 : val_main_v8 (F := Ideal) (ix1 j) = ((10000 : ℝ) : EReal) := by
    pointwise [val_main_v8, val_main_cst_2]
    exact base_word
  show Ideal.pow (val_main_v8 (F := Ideal) (ix1 j)) (val_main_v7 (F := Ideal) (ix1 j)) = _
  rw [e, h8]
  rfl

/-- An angle is a real, whatever the position. -/
theorem angle_real (p : IVec S4096 32) (r : Fin 4096) (j : Fin 32) : ∃ x : ℝ, val_main_v15 (F := Ideal) p (ix2 r j) = (x : EReal) := by
  obtain ⟨x, e⟩ := freq_real j
  pointwise [val_main_v15, val_main_v14, val_main_v13, val_main_v12, val_main_v11, val_main_v10]
  rw [e]
  exact ⟨_, (EReal.coe_mul (((p (ix1 r)).toInt : ℤ) : ℝ) x).symm⟩

/-- The arguments of a launch whose floats are finite, as reals. -/
theorem given (z : FVec Ideal S4096x3136 .f32) (dQ dK : FVec Ideal S4096x4x192 .f32) (dV : FVec Ideal S4096x4x128 .f32) (p : IVec S4096 32)
    (ga gb : FVec Ideal S1x256 .f32) (wQ : FVec Ideal S256x768 .bf16) (wK : FVec Ideal S256x1024 .bf16) (gn gm : FVec Ideal S1x192 .f32)
    (Z : S4096x3136.Idx → ℝ) (DQ DK : S4096x4x192.Idx → ℝ) (DV : S4096x4x128.Idx → ℝ) (GA GB : S1x256.Idx → ℝ) (WQ : S256x768.Idx → ℝ)
    (WK : S256x1024.Idx → ℝ) (GN GM : S1x192.Idx → ℝ)
    (h0 : ∀ i, z i = (Z i : EReal)) (h1 : ∀ i, dQ i = (DQ i : EReal)) (h2 : ∀ i, dK i = (DK i : EReal)) (h3 : ∀ i, dV i = (DV i : EReal))
    (h5 : ∀ i, ga i = (GA i : EReal)) (h6 : ∀ i, gb i = (GB i : EReal)) (h7 : ∀ i, wQ i = (WQ i : EReal)) (h8 : ∀ i, wK i = (WK i : EReal))
    (h9 : ∀ i, gn i = (GN i : EReal)) (h10 : ∀ i, gm i = (GM i : EReal)) :
    ∃ w R, At.Holds z dQ dK dV p ga gb wQ wK gn gm w R := by
  choose A hA using angle_real p
  refine ⟨⟨fun j => GA (ix2 0 j), fun j => GB (ix2 0 j), fun l h k => WQ (ix2 l ⟨h.val * 192 + k.val, by omega⟩), fun l d => WK (ix2 l d), fun j => GN (ix2 0 j), fun j => GM (ix2 0 j)⟩,
    fun r => ⟨fun j => Z (ix2 r ⟨j.val, by omega⟩), fun j => Z (ix2 r ⟨256 + j.val, by omega⟩), fun j => Z (ix2 r ⟨512 + j.val, by omega⟩), fun h j => DQ (ix3 r h j),
      fun h j => DK (ix3 r h j), fun h j => DV (ix3 r h j), fun j => Real.cos (A r j), fun j => Real.sin (A r j)⟩, ?_⟩
  constructor
  · intro r j d e; rw [h0]; exact congrArg (fun a => (Z (ix2 r a) : EReal)) (Fin.ext e)
  · intro r j d e; rw [h0]; exact congrArg (fun a => (Z (ix2 r a) : EReal)) (Fin.ext e)
  · intro r j d e; rw [h0]; exact congrArg (fun a => (Z (ix2 r a) : EReal)) (Fin.ext e)
  · exact fun r h j => h1 _
  · exact fun r h j => h2 _
  · exact fun r h j => h3 _
  · intro r j
    show Ideal.cos (val_main_v15 (F := Ideal) p (ix2 r j)) = _
    rw [hA]
    rfl
  · intro r j
    show Ideal.sin (val_main_v15 (F := Ideal) p (ix2 r j)) = _
    rw [hA]
    rfl
  · exact fun j => h5 _
  · exact fun j => h6 _
  · intro l d
    rw [h7]
    exact congrArg (fun a => (WQ (ix2 l a) : EReal)) (Fin.ext (by show d.val = d.val / 192 * 192 + d.val % 192; omega))
  · exact fun l d => h8 _
  · exact fun j => h9 _
  · exact fun j => h10 _

set_option maxHeartbeats 4000000 in
/-- The kernel's run gives the reference's results. -/
theorem value : Cert.algebraic_BwdMlaIdeal_MlaVjpIdeal_pre_finite_bwd_mla := by
  intro m ρ m' ρ' hpre hargs
  refine ⟨arr15 m, arr16 m, arr17 m, arr18 m, arr19 m, arr20 m, arr21 m,
    (θ_run Cert.BwdMlaIdeal.defs _ _).mono (fun r h c => ⟨(h.1 c).1 15, (h.1 c).1 16, (h.1 c).1 17, (h.1 c).1 18, (h.1 c).1 19, (h.1 c).1 20, (h.1 c).1 21, h.2.1 c⟩)
      (θ_run_and (Cert.BwdMla.Hand.run_main m ρ) (Cert.BwdMla.Hand.frame m ρ)),
    (θ_run Cert.MlaVjpIdeal.defs _ _).mono (fun r h c => ?_) (Cert.MlaVjpIdeal.Value.run (F := Ideal) m' ρ')⟩
  obtain ⟨p0, p1, p2, p3, p5, p6, p7, p8, p9, p10⟩ := hpre c
  obtain ⟨X0, e0⟩ := real_of_pre (s0 := Cert.Pre_finite_bwd_mla.S_) (argZ m c) _ p0
  obtain ⟨X1, e1⟩ := real_of_pre (s0 := Cert.Pre_finite_bwd_mla.S_) (argDQ m c) _ p1
  obtain ⟨X2, e2⟩ := real_of_pre (s0 := Cert.Pre_finite_bwd_mla.S_) (argDK m c) _ p2
  obtain ⟨X3, e3⟩ := real_of_pre (s0 := Cert.Pre_finite_bwd_mla.S_) (argDV m c) _ p3
  obtain ⟨X5, e5⟩ := real_of_pre (s0 := Cert.Pre_finite_bwd_mla.S_) (argGA m c) _ p5
  obtain ⟨X6, e6⟩ := real_of_pre (s0 := Cert.Pre_finite_bwd_mla.S_) (argGB m c) _ p6
  obtain ⟨X7, e7⟩ := real_of_pre (s0 := Cert.Pre_finite_bwd_mla.S_) (argWQ m c) _ p7
  obtain ⟨X8, e8⟩ := real_of_pre (s0 := Cert.Pre_finite_bwd_mla.S_) (argWK m c) _ p8
  obtain ⟨X9, e9⟩ := real_of_pre (s0 := Cert.Pre_finite_bwd_mla.S_) (argGN m c) _ p9
  obtain ⟨X10, e10⟩ := real_of_pre (s0 := Cert.Pre_finite_bwd_mla.S_) (argGM m c) _ p10
  obtain ⟨w, R, H⟩ := given (argZ m c) (argDQ m c) (argDK m c) (argDV m c) (argP m c) (argGA m c) (argGB m c) (argWQ m c) (argWK m c) (argGN m c) (argGM m c) X0 X1 X2 X3 X5 X6 X7 X8 X9 X10
    (congrFun e0) (congrFun e1) (congrFun e2) (congrFun e3) (congrFun e5) (congrFun e6) (congrFun e7) (congrFun e8) (congrFun e9) (congrFun e10)
  obtain ⟨a0, a1, a2, a3, a4, a5, a6, a7, a8, a9, a10⟩ := hargs c
  obtain ⟨h264, h267, h218, h245, h222, h268, h269, hkept⟩ := h c
  refine ⟨h264.trans ?_, h267.trans ?_, h218.trans ?_, h245.trans ?_, h222.trans ?_, h268.trans ?_, h269.trans ?_, hkept⟩
  · refine (val_main_v264_eq _).trans ?_
    show val_main_v264 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) = arr15 m c
    rw [a0, a1, a2, a3, a4, a5, a6, a7, a8, a9, a10]
    exact value264 H
  · refine (val_main_v267_eq _).trans ?_
    show val_main_v267 (F := Ideal) (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg7)) (m' ((c.tc : Thread nD τ).loc main_arg9)) = arr16 m c
    rw [a0, a1, a4, a5, a7, a9]
    exact value267 H
  · refine (val_main_v218_eq _).trans ?_
    show val_main_v218 (F := Ideal) (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg6)) (m' ((c.tc : Thread nD τ).loc main_arg8)) (m' ((c.tc : Thread nD τ).loc main_arg10)) = arr17 m c
    rw [a0, a2, a3, a4, a6, a8, a10]
    exact value218 H
  · refine (val_main_v245_eq _).trans ?_
    show val_main_v245 (F := Ideal) (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg7)) (m' ((c.tc : Thread nD τ).loc main_arg9)) = arr18 m c
    rw [a0, a1, a4, a5, a7, a9]
    exact value245 H
  · refine (val_main_v222_eq _).trans ?_
    show val_main_v222 (F := Ideal) (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg6)) (m' ((c.tc : Thread nD τ).loc main_arg8)) (m' ((c.tc : Thread nD τ).loc main_arg10)) = arr19 m c
    rw [a0, a2, a3, a4, a6, a8, a10]
    exact value222 H
  · refine (val_main_v268_eq _).trans ?_
    show val_main_v268 (F := Ideal) (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg7)) = arr20 m c
    rw [a0, a1, a4, a5, a7]
    exact value268 H
  · refine (val_main_v269_eq _).trans ?_
    show val_main_v269 (F := Ideal) (m' ((c.tc : Thread nD τ).loc main_arg0)) (m' ((c.tc : Thread nD τ).loc main_arg2)) (m' ((c.tc : Thread nD τ).loc main_arg4)) (m' ((c.tc : Thread nD τ).loc main_arg6)) (m' ((c.tc : Thread nD τ).loc main_arg8)) = arr21 m c
    rw [a0, a2, a4, a6, a8]
    exact value269 H

end Cert.BwdMlaClaims

end
-- ==== Proof.BwdGla.Trip.lean ====
module

public import proofs.«01_k».proof.Proof.Gen.BwdGlaIdeal.Loops

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body is called with, all whole: eight inputs, five outputs, four scratch buffers. -/
structure Ops where
  a1 : Memref sig .tc .vmem S4096x128 .f32
  w1 : a1.IsWhole
  a2 : Memref sig .tc .vmem S4096x128 .f32
  w2 : a2.IsWhole
  a3 : Memref sig .tc .vmem S4096x128 .f32
  w3 : a3.IsWhole
  a4 : Memref sig .tc .vmem S4096x128 .f32
  w4 : a4.IsWhole
  a5 : Memref sig .tc .vmem S4x128 .f32
  w5 : a5.IsWhole
  a6 : Memref sig .tc .vmem S4096x128 .f32
  w6 : a6.IsWhole
  a7 : Memref sig .tc .vmem S2x4096x128 .f32
  w7 : a7.IsWhole
  a8 : Memref sig .tc .vmem S1x2x64x128x128 .f32
  w8 : a8.IsWhole
  a9 : Memref sig .tc .vmem S4096x128 .bf16
  w9 : a9.IsWhole
  a10 : Memref sig .tc .vmem S4096x128 .bf16
  w10 : a10.IsWhole
  a11 : Memref sig .tc .vmem S4096x128 .bf16
  w11 : a11.IsWhole
  a12 : Memref sig .tc .vmem S4096x128 .bf16
  w12 : a12.IsWhole
  a13 : Memref sig .tc .vmem S4x128 .f32
  w13 : a13.IsWhole
  a14 : Memref sig .tc .vmem S2x128x128 .f32
  w14 : a14.IsWhole
  a15 : Memref sig .tc .vmem S4096x128 .f32
  w15 : a15.IsWhole
  a16 : Memref sig .tc .vmem S4096x128 .f32
  w16 : a16.IsWhole
  a17 : Memref sig .tc .vmem S2x128 .f32
  w17 : a17.IsWhole

/-- What the body computes before its loops: per direction the mask of a group's chunks, the triangle of the sums, the
    four chunks' row masks and the lower bound of the gate. -/
structure Fixed (F : FTy → Type) where
  v12 : FVec F S256x256 .f32
  v20 : FVec F S256x256 .bf16
  v24 : FVec F S256x1 .f32
  v28 : FVec F S256x1 .f32
  v32 : FVec F S256x1 .f32
  v36 : FVec F S256x1 .f32
  v53 : FVec F S256x256 .f32
  v57 : FVec F S256x256 .bf16
  v61 : FVec F S256x1 .f32
  v65 : FVec F S256x1 .f32
  v69 : FVec F S256x1 .f32
  v73 : FVec F S256x1 .f32
  v79 : FVec F S1x128 .f32
  v85 : FVec F S1x128 .f32

/-- The contents of the inputs the loops read. -/
structure Reads (F : FTy → Type) (c : Dev nD) (o : Ops) where
  x1 : Buf (Elt F) (o.a1.view.loc (c : Thread nD τ))
  x2 : Buf (Elt F) (o.a2.view.loc (c : Thread nD τ))
  x3 : Buf (Elt F) (o.a3.view.loc (c : Thread nD τ))
  x4 : Buf (Elt F) (o.a4.view.loc (c : Thread nD τ))
  x6 : Buf (Elt F) (o.a6.view.loc (c : Thread nD τ))
  x7 : Buf (Elt F) (o.a7.view.loc (c : Thread nD τ))
  x8 : Buf (Elt F) (o.a8.view.loc (c : Thread nD τ))

/-- Those inputs, held at their contents. -/
def reads (c : Dev nD) (o : Ops) (x : Reads F c o) : sProp 𝕄 :=
  iprop((o.a1.view.loc (c : Thread nD τ) ↦[o.a1.view.set]{fullShare} x.x1) ∗ (o.a2.view.loc (c : Thread nD τ) ↦[o.a2.view.set]{fullShare} x.x2) ∗ (o.a3.view.loc (c : Thread nD τ) ↦[o.a3.view.set]{fullShare} x.x3) ∗ (o.a4.view.loc (c : Thread nD τ) ↦[o.a4.view.set]{fullShare} x.x4) ∗ (o.a6.view.loc (c : Thread nD τ) ↦[o.a6.view.set]{fullShare} x.x6) ∗ (o.a7.view.loc (c : Thread nD τ) ↦[o.a7.view.set]{fullShare} x.x7) ∗ (o.a8.view.loc (c : Thread nD τ) ↦[o.a8.view.set]{fullShare} x.x8))

end Cert.BwdGla.Hand

end
-- ==== Proof.BwdGla.TripA.lean ====
module

public import proofs.«01_k».proof.Proof.BwdGla.Trip

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of one trip, last first, in each buffer it writes: the forward gate's gradient, the backward gate's gradient, the state's gradient, the first direction's part of the queries' gradient, the first direction's part of the values' gradient, the lower bounds' gradient. -/
structure Stores1 (F : FTy → Type) where
  l10 : List (View.Piece (Elt F) S4096x128 .bf16)
  l11 : List (View.Piece (Elt F) S4096x128 .bf16)
  l14 : List (View.Piece (Elt F) S2x128x128 .f32)
  l15 : List (View.Piece (Elt F) S4096x128 .f32)
  l16 : List (View.Piece (Elt F) S4096x128 .f32)
  l17 : List (View.Piece (Elt F) S2x128 .f32)

/-- The buffers that the loop writes, at given contents. -/
def written1 (c : Dev nD) (o : Ops) (f10 : Buf (Elt F) (o.a10.view.loc (c : Thread nD τ))) (f11 : Buf (Elt F) (o.a11.view.loc (c : Thread nD τ))) (f14 : Buf (Elt F) (o.a14.view.loc (c : Thread nD τ))) (f15 : Buf (Elt F) (o.a15.view.loc (c : Thread nD τ))) (f16 : Buf (Elt F) (o.a16.view.loc (c : Thread nD τ))) (f17 : Buf (Elt F) (o.a17.view.loc (c : Thread nD τ))) : sProp 𝕄 :=
  iprop((o.a10.view.loc (c : Thread nD τ) ↦[o.a10.view.set]{fullShare} f10) ∗ (o.a11.view.loc (c : Thread nD τ) ↦[o.a11.view.set]{fullShare} f11) ∗ (o.a14.view.loc (c : Thread nD τ) ↦[o.a14.view.set]{fullShare} f14) ∗ (o.a15.view.loc (c : Thread nD τ) ↦[o.a15.view.set]{fullShare} f15) ∗ (o.a16.view.loc (c : Thread nD τ) ↦[o.a16.view.set]{fullShare} f16) ∗ (o.a17.view.loc (c : Thread nD τ) ↦[o.a17.view.set]{fullShare} f17))

set_option maxHeartbeats 8000000 in
/-- One trip of the first loop, found by running it: which stores it makes from the inputs and from what it finds in the state's gradient and the lower bounds' gradient. -/
def trip1 (c : Dev nD) (i : grid0.Coords) (o : Ops) (v : Fixed F) (x : Reads F c o) (t : Fin k0_t1_loop.trips) (f14 : Buf (Elt F) (o.a14.view.loc (c : Thread nD τ))) (f17 : Buf (Elt F) (o.a17.view.loc (c : Thread nD τ))) :
    { l : Stores1 F // ∀ (f10 : Buf (Elt F) (o.a10.view.loc (c : Thread nD τ))) (f11 : Buf (Elt F) (o.a11.view.loc (c : Thread nD τ))) (f15 : Buf (Elt F) (o.a15.view.loc (c : Thread nD τ))) (f16 : Buf (Elt F) (o.a16.view.loc (c : Thread nD τ))),
      iprop(reads c o x ∗ written1 c o f10 f11 f14 f15 f16 f17) ⊢ wp frame (wpE (defs₀ (F := F)) Variants.none (c : Thread nD τ) none) Set.univ
        (k0_t1_body i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17 v.v12 v.v20 v.v24 v.v28 v.v32 v.v36 v.v53 v.v57 v.v61 v.v65 v.v69 v.v73 v.v79 v.v85 t ())
        (fun _ => iprop(reads c o x ∗ written1 c o (o.a10.view.writes (Elt F) f10 l.l10) (o.a11.view.writes (Elt F) f11 l.l11) (o.a14.view.writes (Elt F) f14 l.l14) (o.a15.view.writes (Elt F) f15 l.l15) (o.a16.view.writes (Elt F) f16 l.l16) (o.a17.view.writes (Elt F) f17 l.l17))) } := by
  refine ⟨⟨?_, ?_, ?_, ?_, ?_, ?_⟩, fun f10 f11 f15 f16 => ?run⟩
  case run =>
    unfold reads written1 k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    iintro ⟨⟨H1, H2, H3, H4, H6, H7, H8⟩, H10, H11, H14, H15, H16, H17⟩
    sl_exec
    sl_step
    isplitl [H1 H2 H3 H4 H6 H7 H8]
    · isplitl [H1]; · iexact H1
      isplitl [H2]; · iexact H2
      isplitl [H3]; · iexact H3
      isplitl [H4]; · iexact H4
      isplitl [H6]; · iexact H6
      isplitl [H7]; · iexact H7
      iexact H8
    isplitl [H10]; · iexact H10
    isplitl [H11]; · iexact H11
    isplitl [H14]; · iexact H14
    isplitl [H15]; · iexact H15
    isplitl [H16]; · iexact H16
    iexact H17

end Cert.BwdGla.Hand

end
-- ==== Proof.BwdGla.LoopA.lean ====
module

public import proofs.«01_k».proof.Proof.BwdGla.TripA

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (o : Ops) (v : Fixed F) (x : Reads F c o) (g14 : Buf (Elt F) (o.a14.view.loc (c : Thread nD τ))) (g17 : Buf (Elt F) (o.a17.view.loc (c : Thread nD τ)))

/-- The stores of the first `k` trips of the first loop, last first, from the contents at the loop's entry. -/
def sofar1 : ℕ → Stores1 F
  | 0 => ⟨[], [], [], [], [], []⟩
  | k + 1 => if h : k < k0_t1_loop.trips then
      let p := sofar1 k
      let q := (trip1 c i o v x ⟨k, h⟩ (o.a14.view.writes (Elt F) g14 p.l14) (o.a17.view.writes (Elt F) g17 p.l17)).1
      ⟨q.l10 ++ p.l10, q.l11 ++ p.l11, q.l14 ++ p.l14, q.l15 ++ p.l15, q.l16 ++ p.l16, q.l17 ++ p.l17⟩
    else sofar1 k

/-- The stores that trip `k` of the first loop makes, after the trips before it. -/
def at1 (k : Fin k0_t1_loop.trips) : Stores1 F :=
  (trip1 c i o v x k (o.a14.view.writes (Elt F) g14 (sofar1 c i o v x g14 g17 k.val).l14) (o.a17.view.writes (Elt F) g17 (sofar1 c i o v x g14 g17 k.val).l17)).1

/-- One trip more puts its stores in front. -/
theorem sofar1_succ (k : Fin k0_t1_loop.trips) :
    sofar1 c i o v x g14 g17 (k.val + 1) = ⟨(at1 c i o v x g14 g17 k).l10 ++ (sofar1 c i o v x g14 g17 k.val).l10, (at1 c i o v x g14 g17 k).l11 ++ (sofar1 c i o v x g14 g17 k.val).l11, (at1 c i o v x g14 g17 k).l14 ++ (sofar1 c i o v x g14 g17 k.val).l14, (at1 c i o v x g14 g17 k).l15 ++ (sofar1 c i o v x g14 g17 k.val).l15, (at1 c i o v x g14 g17 k).l16 ++ (sofar1 c i o v x g14 g17 k.val).l16, (at1 c i o v x g14 g17 k).l17 ++ (sofar1 c i o v x g14 g17 k.val).l17⟩ := by
  rw [sofar1.eq_2]; exact dif_pos k.isLt

/-- A trip of the first loop takes the buffers from the stores of the trips before it to those with its own. -/
theorem step1 (k : Fin k0_t1_loop.trips) (g10 : Buf (Elt F) (o.a10.view.loc (c : Thread nD τ))) (g11 : Buf (Elt F) (o.a11.view.loc (c : Thread nD τ))) (g15 : Buf (Elt F) (o.a15.view.loc (c : Thread nD τ))) (g16 : Buf (Elt F) (o.a16.view.loc (c : Thread nD τ))) :
    iprop(reads c o x ∗ written1 c o (o.a10.view.writes (Elt F) g10 (sofar1 c i o v x g14 g17 k.val).l10) (o.a11.view.writes (Elt F) g11 (sofar1 c i o v x g14 g17 k.val).l11) (o.a14.view.writes (Elt F) g14 (sofar1 c i o v x g14 g17 k.val).l14) (o.a15.view.writes (Elt F) g15 (sofar1 c i o v x g14 g17 k.val).l15) (o.a16.view.writes (Elt F) g16 (sofar1 c i o v x g14 g17 k.val).l16) (o.a17.view.writes (Elt F) g17 (sofar1 c i o v x g14 g17 k.val).l17))
      ⊢ wp frame (wpE (defs₀ (F := F)) Variants.none (c : Thread nD τ) none) Set.univ (k0_t1_body i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17 v.v12 v.v20 v.v24 v.v28 v.v32 v.v36 v.v53 v.v57 v.v61 v.v65 v.v69 v.v73 v.v79 v.v85 k ())
        (fun _ => iprop(reads c o x ∗ written1 c o (o.a10.view.writes (Elt F) g10 (sofar1 c i o v x g14 g17 (k.val + 1)).l10) (o.a11.view.writes (Elt F) g11 (sofar1 c i o v x g14 g17 (k.val + 1)).l11) (o.a14.view.writes (Elt F) g14 (sofar1 c i o v x g14 g17 (k.val + 1)).l14) (o.a15.view.writes (Elt F) g15 (sofar1 c i o v x g14 g17 (k.val + 1)).l15) (o.a16.view.writes (Elt F) g16 (sofar1 c i o v x g14 g17 (k.val + 1)).l16) (o.a17.view.writes (Elt F) g17 (sofar1 c i o v x g14 g17 (k.val + 1)).l17))) := by
  rw [sofar1_succ]
  simp only [View.writes_append]
  exact (trip1 c i o v x k (o.a14.view.writes (Elt F) g14 (sofar1 c i o v x g14 g17 k.val).l14) (o.a17.view.writes (Elt F) g17 (sofar1 c i o v x g14 g17 k.val).l17)).2 _ _ _ _

variable (v12 : FVec F S256x256 .f32) (v20 : FVec F S256x256 .bf16) (v24 : FVec F S256x1 .f32) (v28 : FVec F S256x1 .f32) (v32 : FVec F S256x1 .f32) (v36 : FVec F S256x1 .f32) (v53 : FVec F S256x256 .f32) (v57 : FVec F S256x256 .bf16) (v61 : FVec F S256x1 .f32) (v65 : FVec F S256x1 .f32) (v69 : FVec F S256x1 .f32) (v73 : FVec F S256x1 .f32) (v79 : FVec F S1x128 .f32) (v85 : FVec F S1x128 .f32)
  (x1 : Buf (Elt F) (o.a1.view.loc (c : Thread nD τ))) (x2 : Buf (Elt F) (o.a2.view.loc (c : Thread nD τ))) (x3 : Buf (Elt F) (o.a3.view.loc (c : Thread nD τ))) (x4 : Buf (Elt F) (o.a4.view.loc (c : Thread nD τ))) (x6 : Buf (Elt F) (o.a6.view.loc (c : Thread nD τ))) (x7 : Buf (Elt F) (o.a7.view.loc (c : Thread nD τ))) (x8 : Buf (Elt F) (o.a8.view.loc (c : Thread nD τ)))
  (g10 : Buf (Elt F) (o.a10.view.loc (c : Thread nD τ))) (g11 : Buf (Elt F) (o.a11.view.loc (c : Thread nD τ))) (g15 : Buf (Elt F) (o.a15.view.loc (c : Thread nD τ))) (g16 : Buf (Elt F) (o.a16.view.loc (c : Thread nD τ)))

/-- What the first loop's trips hold: the inputs, and each written buffer with the stores so far over its contents at entry. -/
abbrev during1 (k : ℕ) : sProp 𝕄 :=
  let l := sofar1 c i o ⟨v12, v20, v24, v28, v32, v36, v53, v57, v61, v65, v69, v73, v79, v85⟩ ⟨x1, x2, x3, x4, x6, x7, x8⟩ g14 g17 k
  iprop((o.a1.view.loc (c : Thread nD τ) ↦[o.a1.view.set]{fullShare} x1) ∗ (o.a2.view.loc (c : Thread nD τ) ↦[o.a2.view.set]{fullShare} x2) ∗ (o.a3.view.loc (c : Thread nD τ) ↦[o.a3.view.set]{fullShare} x3) ∗ (o.a4.view.loc (c : Thread nD τ) ↦[o.a4.view.set]{fullShare} x4) ∗ (o.a6.view.loc (c : Thread nD τ) ↦[o.a6.view.set]{fullShare} x6) ∗ (o.a7.view.loc (c : Thread nD τ) ↦[o.a7.view.set]{fullShare} x7) ∗ (o.a8.view.loc (c : Thread nD τ) ↦[o.a8.view.set]{fullShare} x8) ∗ (∃ f, (o.a10.view.loc (c : Thread nD τ) ↦[o.a10.view.set]{fullShare} f) ∗ ⌜f = o.a10.view.writes (Elt F) g10 l.l10⌝) ∗ (∃ f, (o.a11.view.loc (c : Thread nD τ) ↦[o.a11.view.set]{fullShare} f) ∗ ⌜f = o.a11.view.writes (Elt F) g11 l.l11⌝) ∗ (∃ f, (o.a14.view.loc (c : Thread nD τ) ↦[o.a14.view.set]{fullShare} f) ∗ ⌜f = o.a14.view.writes (Elt F) g14 l.l14⌝) ∗ (∃ f, (o.a15.view.loc (c : Thread nD τ) ↦[o.a15.view.set]{fullShare} f) ∗ ⌜f = o.a15.view.writes (Elt F) g15 l.l15⌝) ∗ (∃ f, (o.a16.view.loc (c : Thread nD τ) ↦[o.a16.view.set]{fullShare} f) ∗ ⌜f = o.a16.view.writes (Elt F) g16 l.l16⌝) ∗ (∃ f, (o.a17.view.loc (c : Thread nD τ) ↦[o.a17.view.set]{fullShare} f) ∗ ⌜f = o.a17.view.writes (Elt F) g17 l.l17⌝))

/-- The first loop by that invariant. -/
@[sl_loop] def loop1 :
    LoopInvTy_k0_t1 (F := F) Unit ℕ (UR sig nD τ) ℕ Variants.none c none Set.univ i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17 v12 v20 v24 v28 v32 v36 v53 v57 v61 v65 v69 v73 v79 v85 where
  inv k _ := during1 c i o g14 g17 v12 v20 v24 v28 v32 v36 v53 v57 v61 v65 v69 v73 v79 v85 x1 x2 x3 x4 x6 x7 x8 g10 g11 g15 g16 k
  step k _ := by
    iintro ⟨H1, H2, H3, H4, H6, H7, H8, ⟨%f10, H10, %h10⟩, ⟨%f11, H11, %h11⟩, ⟨%f14, H14, %h14⟩, ⟨%f15, H15, %h15⟩, ⟨%f16, H16, %h16⟩, ⟨%f17, H17, %h17⟩⟩
    subst h10; subst h11; subst h14; subst h15; subst h16; subst h17
    iapply (wp_wand_r frame (wpE (defs₀ (F := F)) Variants.none (c : Thread nD τ) none) Set.univ)
    isplitl [H1 H2 H3 H4 H6 H7 H8 H10 H11 H14 H15 H16 H17]
    · iapply (step1 c i o ⟨v12, v20, v24, v28, v32, v36, v53, v57, v61, v65, v69, v73, v79, v85⟩ ⟨x1, x2, x3, x4, x6, x7, x8⟩ g14 g17 k g10 g11 g15 g16)
      unfold reads written1
      isplitl [H1 H2 H3 H4 H6 H7 H8]
      · isplitl [H1]; · iexact H1
        isplitl [H2]; · iexact H2
        isplitl [H3]; · iexact H3
        isplitl [H4]; · iexact H4
        isplitl [H6]; · iexact H6
        isplitl [H7]; · iexact H7
        iexact H8
      isplitl [H10]; · iexact H10
      isplitl [H11]; · iexact H11
      isplitl [H14]; · iexact H14
      isplitl [H15]; · iexact H15
      isplitl [H16]; · iexact H16
      iexact H17
    unfold reads written1
    iintro %_ ⟨⟨H1, H2, H3, H4, H6, H7, H8⟩, H10, H11, H14, H15, H16, H17⟩
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H10]
    · iexists _; isplitl [H10]; · iexact H10
      ipureintro; rfl
    isplitl [H11]
    · iexists _; isplitl [H11]; · iexact H11
      ipureintro; rfl
    isplitl [H14]
    · iexists _; isplitl [H14]; · iexact H14
      ipureintro; rfl
    isplitl [H15]
    · iexists _; isplitl [H15]; · iexact H15
      ipureintro; rfl
    isplitl [H16]
    · iexists _; isplitl [H16]; · iexact H16
      ipureintro; rfl
    iexists _; isplitl [H17]; · iexact H17
    ipureintro; rfl

end Cert.BwdGla.Hand

end
-- ==== Proof.BwdGla.TripB.lean ====
module

public import proofs.«01_k».proof.Proof.BwdGla.Trip

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of one trip, last first, in each buffer it writes: the queries' gradient, the forward gate's gradient, the backward gate's gradient, the values' gradient, the state's gradient, the lower bounds' gradient. -/
structure Stores2 (F : FTy → Type) where
  l9 : List (View.Piece (Elt F) S4096x128 .bf16)
  l10 : List (View.Piece (Elt F) S4096x128 .bf16)
  l11 : List (View.Piece (Elt F) S4096x128 .bf16)
  l12 : List (View.Piece (Elt F) S4096x128 .bf16)
  l14 : List (View.Piece (Elt F) S2x128x128 .f32)
  l17 : List (View.Piece (Elt F) S2x128 .f32)

/-- The buffers that the loop writes and the two that it reads back, at given contents. -/
def written2 (c : Dev nD) (o : Ops) (f15 : Buf (Elt F) (o.a15.view.loc (c : Thread nD τ))) (f16 : Buf (Elt F) (o.a16.view.loc (c : Thread nD τ))) (f9 : Buf (Elt F) (o.a9.view.loc (c : Thread nD τ))) (f10 : Buf (Elt F) (o.a10.view.loc (c : Thread nD τ))) (f11 : Buf (Elt F) (o.a11.view.loc (c : Thread nD τ))) (f12 : Buf (Elt F) (o.a12.view.loc (c : Thread nD τ))) (f14 : Buf (Elt F) (o.a14.view.loc (c : Thread nD τ))) (f17 : Buf (Elt F) (o.a17.view.loc (c : Thread nD τ))) : sProp 𝕄 :=
  iprop((o.a15.view.loc (c : Thread nD τ) ↦[o.a15.view.set]{fullShare} f15) ∗ (o.a16.view.loc (c : Thread nD τ) ↦[o.a16.view.set]{fullShare} f16) ∗ (o.a9.view.loc (c : Thread nD τ) ↦[o.a9.view.set]{fullShare} f9) ∗ (o.a10.view.loc (c : Thread nD τ) ↦[o.a10.view.set]{fullShare} f10) ∗ (o.a11.view.loc (c : Thread nD τ) ↦[o.a11.view.set]{fullShare} f11) ∗ (o.a12.view.loc (c : Thread nD τ) ↦[o.a12.view.set]{fullShare} f12) ∗ (o.a14.view.loc (c : Thread nD τ) ↦[o.a14.view.set]{fullShare} f14) ∗ (o.a17.view.loc (c : Thread nD τ) ↦[o.a17.view.set]{fullShare} f17))

set_option maxHeartbeats 8000000 in
/-- One trip of the second loop, found by running it: which stores it makes from the inputs and from what it finds in the state's gradient and the lower bounds' gradient and the first direction's part of the queries' gradient and the first direction's part of the values' gradient. -/
def trip2 (c : Dev nD) (i : grid0.Coords) (o : Ops) (v : Fixed F) (x : Reads F c o) (t : Fin k0_t2_loop.trips) (f15 : Buf (Elt F) (o.a15.view.loc (c : Thread nD τ))) (f16 : Buf (Elt F) (o.a16.view.loc (c : Thread nD τ))) (f14 : Buf (Elt F) (o.a14.view.loc (c : Thread nD τ))) (f17 : Buf (Elt F) (o.a17.view.loc (c : Thread nD τ))) :
    { l : Stores2 F // ∀ (f9 : Buf (Elt F) (o.a9.view.loc (c : Thread nD τ))) (f10 : Buf (Elt F) (o.a10.view.loc (c : Thread nD τ))) (f11 : Buf (Elt F) (o.a11.view.loc (c : Thread nD τ))) (f12 : Buf (Elt F) (o.a12.view.loc (c : Thread nD τ))),
      iprop(reads c o x ∗ written2 c o f15 f16 f9 f10 f11 f12 f14 f17) ⊢ wp frame (wpE (defs₀ (F := F)) Variants.none (c : Thread nD τ) none) Set.univ
        (k0_t2_body i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17 v.v12 v.v20 v.v24 v.v28 v.v32 v.v36 v.v53 v.v57 v.v61 v.v65 v.v69 v.v73 v.v79 v.v85 t ())
        (fun _ => iprop(reads c o x ∗ written2 c o f15 f16 (o.a9.view.writes (Elt F) f9 l.l9) (o.a10.view.writes (Elt F) f10 l.l10) (o.a11.view.writes (Elt F) f11 l.l11) (o.a12.view.writes (Elt F) f12 l.l12) (o.a14.view.writes (Elt F) f14 l.l14) (o.a17.view.writes (Elt F) f17 l.l17))) } := by
  refine ⟨⟨?_, ?_, ?_, ?_, ?_, ?_⟩, fun f9 f10 f11 f12 => ?run⟩
  case run =>
    unfold reads written2 k0_t2_body
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    iintro ⟨⟨H1, H2, H3, H4, H6, H7, H8⟩, H15, H16, H9, H10, H11, H12, H14, H17⟩
    sl_exec
    sl_step
    isplitl [H1 H2 H3 H4 H6 H7 H8]
    · isplitl [H1]; · iexact H1
      isplitl [H2]; · iexact H2
      isplitl [H3]; · iexact H3
      isplitl [H4]; · iexact H4
      isplitl [H6]; · iexact H6
      isplitl [H7]; · iexact H7
      iexact H8
    isplitl [H15]; · iexact H15
    isplitl [H16]; · iexact H16
    isplitl [H9]; · iexact H9
    isplitl [H10]; · iexact H10
    isplitl [H11]; · iexact H11
    isplitl [H12]; · iexact H12
    isplitl [H14]; · iexact H14
    iexact H17

end Cert.BwdGla.Hand

end
-- ==== Proof.BwdGla.LoopB.lean ====
module

public import proofs.«01_k».proof.Proof.BwdGla.TripB

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (o : Ops) (v : Fixed F) (x : Reads F c o) (g15 : Buf (Elt F) (o.a15.view.loc (c : Thread nD τ))) (g16 : Buf (Elt F) (o.a16.view.loc (c : Thread nD τ))) (g14 : Buf (Elt F) (o.a14.view.loc (c : Thread nD τ))) (g17 : Buf (Elt F) (o.a17.view.loc (c : Thread nD τ)))

/-- The stores of the first `k` trips of the second loop, last first, from the contents at the loop's entry. -/
def sofar2 : ℕ → Stores2 F
  | 0 => ⟨[], [], [], [], [], []⟩
  | k + 1 => if h : k < k0_t2_loop.trips then
      let p := sofar2 k
      let q := (trip2 c i o v x ⟨k, h⟩ g15 g16 (o.a14.view.writes (Elt F) g14 p.l14) (o.a17.view.writes (Elt F) g17 p.l17)).1
      ⟨q.l9 ++ p.l9, q.l10 ++ p.l10, q.l11 ++ p.l11, q.l12 ++ p.l12, q.l14 ++ p.l14, q.l17 ++ p.l17⟩
    else sofar2 k

/-- The stores that trip `k` of the second loop makes, after the trips before it. -/
def at2 (k : Fin k0_t2_loop.trips) : Stores2 F :=
  (trip2 c i o v x k g15 g16 (o.a14.view.writes (Elt F) g14 (sofar2 c i o v x g15 g16 g14 g17 k.val).l14) (o.a17.view.writes (Elt F) g17 (sofar2 c i o v x g15 g16 g14 g17 k.val).l17)).1

/-- One trip more puts its stores in front. -/
theorem sofar2_succ (k : Fin k0_t2_loop.trips) :
    sofar2 c i o v x g15 g16 g14 g17 (k.val + 1) = ⟨(at2 c i o v x g15 g16 g14 g17 k).l9 ++ (sofar2 c i o v x g15 g16 g14 g17 k.val).l9, (at2 c i o v x g15 g16 g14 g17 k).l10 ++ (sofar2 c i o v x g15 g16 g14 g17 k.val).l10, (at2 c i o v x g15 g16 g14 g17 k).l11 ++ (sofar2 c i o v x g15 g16 g14 g17 k.val).l11, (at2 c i o v x g15 g16 g14 g17 k).l12 ++ (sofar2 c i o v x g15 g16 g14 g17 k.val).l12, (at2 c i o v x g15 g16 g14 g17 k).l14 ++ (sofar2 c i o v x g15 g16 g14 g17 k.val).l14, (at2 c i o v x g15 g16 g14 g17 k).l17 ++ (sofar2 c i o v x g15 g16 g14 g17 k.val).l17⟩ := by
  rw [sofar2.eq_2]; exact dif_pos k.isLt

/-- A trip of the second loop takes the buffers from the stores of the trips before it to those with its own. -/
theorem step2 (k : Fin k0_t2_loop.trips) (g9 : Buf (Elt F) (o.a9.view.loc (c : Thread nD τ))) (g10 : Buf (Elt F) (o.a10.view.loc (c : Thread nD τ))) (g11 : Buf (Elt F) (o.a11.view.loc (c : Thread nD τ))) (g12 : Buf (Elt F) (o.a12.view.loc (c : Thread nD τ))) :
    iprop(reads c o x ∗ written2 c o g15 g16 (o.a9.view.writes (Elt F) g9 (sofar2 c i o v x g15 g16 g14 g17 k.val).l9) (o.a10.view.writes (Elt F) g10 (sofar2 c i o v x g15 g16 g14 g17 k.val).l10) (o.a11.view.writes (Elt F) g11 (sofar2 c i o v x g15 g16 g14 g17 k.val).l11) (o.a12.view.writes (Elt F) g12 (sofar2 c i o v x g15 g16 g14 g17 k.val).l12) (o.a14.view.writes (Elt F) g14 (sofar2 c i o v x g15 g16 g14 g17 k.val).l14) (o.a17.view.writes (Elt F) g17 (sofar2 c i o v x g15 g16 g14 g17 k.val).l17))
      ⊢ wp frame (wpE (defs₀ (F := F)) Variants.none (c : Thread nD τ) none) Set.univ (k0_t2_body i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17 v.v12 v.v20 v.v24 v.v28 v.v32 v.v36 v.v53 v.v57 v.v61 v.v65 v.v69 v.v73 v.v79 v.v85 k ())
        (fun _ => iprop(reads c o x ∗ written2 c o g15 g16 (o.a9.view.writes (Elt F) g9 (sofar2 c i o v x g15 g16 g14 g17 (k.val + 1)).l9) (o.a10.view.writes (Elt F) g10 (sofar2 c i o v x g15 g16 g14 g17 (k.val + 1)).l10) (o.a11.view.writes (Elt F) g11 (sofar2 c i o v x g15 g16 g14 g17 (k.val + 1)).l11) (o.a12.view.writes (Elt F) g12 (sofar2 c i o v x g15 g16 g14 g17 (k.val + 1)).l12) (o.a14.view.writes (Elt F) g14 (sofar2 c i o v x g15 g16 g14 g17 (k.val + 1)).l14) (o.a17.view.writes (Elt F) g17 (sofar2 c i o v x g15 g16 g14 g17 (k.val + 1)).l17))) := by
  rw [sofar2_succ]
  simp only [View.writes_append]
  exact (trip2 c i o v x k g15 g16 (o.a14.view.writes (Elt F) g14 (sofar2 c i o v x g15 g16 g14 g17 k.val).l14) (o.a17.view.writes (Elt F) g17 (sofar2 c i o v x g15 g16 g14 g17 k.val).l17)).2 _ _ _ _

variable (v12 : FVec F S256x256 .f32) (v20 : FVec F S256x256 .bf16) (v24 : FVec F S256x1 .f32) (v28 : FVec F S256x1 .f32) (v32 : FVec F S256x1 .f32) (v36 : FVec F S256x1 .f32) (v53 : FVec F S256x256 .f32) (v57 : FVec F S256x256 .bf16) (v61 : FVec F S256x1 .f32) (v65 : FVec F S256x1 .f32) (v69 : FVec F S256x1 .f32) (v73 : FVec F S256x1 .f32) (v79 : FVec F S1x128 .f32) (v85 : FVec F S1x128 .f32)
  (x1 : Buf (Elt F) (o.a1.view.loc (c : Thread nD τ))) (x2 : Buf (Elt F) (o.a2.view.loc (c : Thread nD τ))) (x3 : Buf (Elt F) (o.a3.view.loc (c : Thread nD τ))) (x4 : Buf (Elt F) (o.a4.view.loc (c : Thread nD τ))) (x6 : Buf (Elt F) (o.a6.view.loc (c : Thread nD τ))) (x7 : Buf (Elt F) (o.a7.view.loc (c : Thread nD τ))) (x8 : Buf (Elt F) (o.a8.view.loc (c : Thread nD τ)))
  (g9 : Buf (Elt F) (o.a9.view.loc (c : Thread nD τ))) (g10 : Buf (Elt F) (o.a10.view.loc (c : Thread nD τ))) (g11 : Buf (Elt F) (o.a11.view.loc (c : Thread nD τ))) (g12 : Buf (Elt F) (o.a12.view.loc (c : Thread nD τ)))

/-- What the second loop's trips hold: the inputs, and each written buffer with the stores so far over its contents at entry. -/
abbrev during2 (k : ℕ) : sProp 𝕄 :=
  let l := sofar2 c i o ⟨v12, v20, v24, v28, v32, v36, v53, v57, v61, v65, v69, v73, v79, v85⟩ ⟨x1, x2, x3, x4, x6, x7, x8⟩ g15 g16 g14 g17 k
  iprop((o.a1.view.loc (c : Thread nD τ) ↦[o.a1.view.set]{fullShare} x1) ∗ (o.a2.view.loc (c : Thread nD τ) ↦[o.a2.view.set]{fullShare} x2) ∗ (o.a3.view.loc (c : Thread nD τ) ↦[o.a3.view.set]{fullShare} x3) ∗ (o.a4.view.loc (c : Thread nD τ) ↦[o.a4.view.set]{fullShare} x4) ∗ (o.a6.view.loc (c : Thread nD τ) ↦[o.a6.view.set]{fullShare} x6) ∗ (o.a7.view.loc (c : Thread nD τ) ↦[o.a7.view.set]{fullShare} x7) ∗ (o.a8.view.loc (c : Thread nD τ) ↦[o.a8.view.set]{fullShare} x8) ∗ (o.a15.view.loc (c : Thread nD τ) ↦[o.a15.view.set]{fullShare} g15) ∗ (o.a16.view.loc (c : Thread nD τ) ↦[o.a16.view.set]{fullShare} g16) ∗ (∃ f, (o.a9.view.loc (c : Thread nD τ) ↦[o.a9.view.set]{fullShare} f) ∗ ⌜f = o.a9.view.writes (Elt F) g9 l.l9⌝) ∗ (∃ f, (o.a10.view.loc (c : Thread nD τ) ↦[o.a10.view.set]{fullShare} f) ∗ ⌜f = o.a10.view.writes (Elt F) g10 l.l10⌝) ∗ (∃ f, (o.a11.view.loc (c : Thread nD τ) ↦[o.a11.view.set]{fullShare} f) ∗ ⌜f = o.a11.view.writes (Elt F) g11 l.l11⌝) ∗ (∃ f, (o.a12.view.loc (c : Thread nD τ) ↦[o.a12.view.set]{fullShare} f) ∗ ⌜f = o.a12.view.writes (Elt F) g12 l.l12⌝) ∗ (∃ f, (o.a14.view.loc (c : Thread nD τ) ↦[o.a14.view.set]{fullShare} f) ∗ ⌜f = o.a14.view.writes (Elt F) g14 l.l14⌝) ∗ (∃ f, (o.a17.view.loc (c : Thread nD τ) ↦[o.a17.view.set]{fullShare} f) ∗ ⌜f = o.a17.view.writes (Elt F) g17 l.l17⌝))

/-- The second loop by that invariant. -/
@[sl_loop] def loop2 :
    LoopInvTy_k0_t2 (F := F) Unit ℕ (UR sig nD τ) ℕ Variants.none c none Set.univ i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17 v12 v20 v24 v28 v32 v36 v53 v57 v61 v65 v69 v73 v79 v85 where
  inv k _ := during2 c i o g15 g16 g14 g17 v12 v20 v24 v28 v32 v36 v53 v57 v61 v65 v69 v73 v79 v85 x1 x2 x3 x4 x6 x7 x8 g9 g10 g11 g12 k
  step k _ := by
    iintro ⟨H1, H2, H3, H4, H6, H7, H8, H15, H16, ⟨%f9, H9, %h9⟩, ⟨%f10, H10, %h10⟩, ⟨%f11, H11, %h11⟩, ⟨%f12, H12, %h12⟩, ⟨%f14, H14, %h14⟩, ⟨%f17, H17, %h17⟩⟩
    subst h9; subst h10; subst h11; subst h12; subst h14; subst h17
    iapply (wp_wand_r frame (wpE (defs₀ (F := F)) Variants.none (c : Thread nD τ) none) Set.univ)
    isplitl [H1 H2 H3 H4 H6 H7 H8 H15 H16 H9 H10 H11 H12 H14 H17]
    · iapply (step2 c i o ⟨v12, v20, v24, v28, v32, v36, v53, v57, v61, v65, v69, v73, v79, v85⟩ ⟨x1, x2, x3, x4, x6, x7, x8⟩ g15 g16 g14 g17 k g9 g10 g11 g12)
      unfold reads written2
      isplitl [H1 H2 H3 H4 H6 H7 H8]
      · isplitl [H1]; · iexact H1
        isplitl [H2]; · iexact H2
        isplitl [H3]; · iexact H3
        isplitl [H4]; · iexact H4
        isplitl [H6]; · iexact H6
        isplitl [H7]; · iexact H7
        iexact H8
      isplitl [H15]; · iexact H15
      isplitl [H16]; · iexact H16
      isplitl [H9]; · iexact H9
      isplitl [H10]; · iexact H10
      isplitl [H11]; · iexact H11
      isplitl [H12]; · iexact H12
      isplitl [H14]; · iexact H14
      iexact H17
    unfold reads written2
    iintro %_ ⟨⟨H1, H2, H3, H4, H6, H7, H8⟩, H15, H16, H9, H10, H11, H12, H14, H17⟩
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H15]; · iexact H15
    isplitl [H16]; · iexact H16
    isplitl [H9]
    · iexists _; isplitl [H9]; · iexact H9
      ipureintro; rfl
    isplitl [H10]
    · iexists _; isplitl [H10]; · iexact H10
      ipureintro; rfl
    isplitl [H11]
    · iexists _; isplitl [H11]; · iexact H11
      ipureintro; rfl
    isplitl [H12]
    · iexists _; isplitl [H12]; · iexact H12
      ipureintro; rfl
    isplitl [H14]
    · iexists _; isplitl [H14]; · iexact H14
      ipureintro; rfl
    iexists _; isplitl [H17]; · iexact H17
    ipureintro; rfl

end Cert.BwdGla.Hand

end
-- ==== Proof.BwdGla.Cover.lean ====
module

public import proofs.«01_k».proof.Proof.BwdGla.LoopA
public import proofs.«01_k».proof.Proof.BwdGla.LoopB
public import Idealize.ShloMosaic.Lib.Pipeline.Frame

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every index of the shape lies in one of the listed stores. -/
abbrev Full {s : Shape} {e : EltTy} (L : List (View.Piece (Elt F) s e)) : Prop := ∀ y : s.Idx, ∃ p ∈ L, y ∈ p.1.set

/-- A whole buffer that listed stores fill holds them over anything: over arbitrary contents as well. -/
theorem over_any {s : Shape} {e : EltTy} {m : Memref sig .tc .vmem s e} (hw : m.IsWhole) (f g : m.view.ty.Contents (Elt F))
    (L : List (View.Piece (Elt F) s e)) (h : Full L) : m.view.writes (Elt F) f L = m.view.writes (Elt F) g L :=
  (hw.eq_unread (View.read_writes_of_cover m.view f m.view g L h)).trans (hw.eq_unread rfl).symm

/-- A list that each trip extends in front holds, after all the trips, what any one of them put there. -/
theorem stays {α : Type*} {n : ℕ} {L : ℕ → List α} {T : Fin n → List α} (h : ∀ k : Fin n, L (k.val + 1) = T k ++ L k.val)
    (j : Fin n) {p : α} (hp : p ∈ T j) : ∀ k, k ≤ n → j.val < k → p ∈ L k
  | 0, _, hj => absurd hj (Nat.not_lt_zero _)
  | k + 1, hk, hj => by
    rw [h ⟨k, hk⟩]
    rcases Nat.lt_succ_iff_lt_or_eq.mp hj with hj | hj
    · exact List.mem_append_right _ (stays h j hp k (Nat.le_of_succ_le hk) hj)
    · obtain rfl : j = ⟨k, hk⟩ := Fin.ext hj
      exact List.mem_append_left _ hp

/-- The store of trip `k` into the 256 rows from `b k`, in a column block of 4096 rows. -/
abbrev Stores256 {e : EltTy} {n : ℕ} (T : Fin n → List (View.Piece (Elt F) S4096x128 e)) (off : Fin n → Fin S4096x128.rank → ℕ)
    (inb : ∀ k a, off k a + S256x128.size a ≤ S4096x128.size a) : Prop :=
  ∀ k, ∃ w, (⟨Rect.unit (s := S4096x128) (off k) S256x128.size (inb k), w⟩ : View.Piece (Elt F) S4096x128 e) ∈ T k

/-- So a row is stored where some trip's rows hold it. -/
theorem reached {e : EltTy} {n : ℕ} {L : ℕ → List (View.Piece (Elt F) S4096x128 e)} {T : Fin n → List (View.Piece (Elt F) S4096x128 e)}
    (h : ∀ k : Fin n, L (k.val + 1) = T k ++ L k.val) {off : Fin n → Fin S4096x128.rank → ℕ} {inb} (hT : Stores256 T off inb) {b : Fin n → ℕ}
    (hb : ∀ k, off k = ![b k, 0]) (y : S4096x128.Idx) (k : Fin n) (hy : b k ≤ (y 0).val ∧ (y 0).val < b k + 256) :
    ∃ p ∈ L n, y ∈ p.1.set := by
  obtain ⟨w, hw⟩ := hT k
  refine ⟨_, stays h k hw n le_rfl k.isLt, (Rect.mem_set_unit (inb := inb k)).mpr fun a => ?_⟩
  rw [hb k]
  match a with
  | ⟨0, _⟩ => exact hy
  | ⟨1, _⟩ => exact ⟨Nat.zero_le _, (Nat.zero_add 128).symm ▸ (y 1).isLt⟩

/-- A column block has 4096 rows. -/
theorem row_lt (y : S4096x128.Idx) : (y 0).val < 4096 := (y 0).isLt

/-- Each loop makes eight trips. -/
theorem eight : k0_t1_loop.trips = 8 ∧ k0_t2_loop.trips = 8 := by decide +kernel

/-- The first loop reaches the upper half of the rows through its group of the forward direction. -/
theorem upper1 {e : EltTy} {L : ℕ → List (View.Piece (Elt F) S4096x128 e)} {T} (h : ∀ k : Fin k0_t1_loop.trips, L (k.val + 1) = T k ++ L k.val)
    (hT : Stores256 T k0_off1 k0_off1_inb) (y : S4096x128.Idx) (hy : 2048 ≤ (y 0).val) : ∃ p ∈ L k0_t1_loop.trips, y ∈ p.1.set := by
  have hlt := row_lt y
  have h8 := eight.1
  obtain ⟨k, hk⟩ : ∃ k : Fin k0_t1_loop.trips, k.val = 15 - (y 0).val / 256 := ⟨⟨15 - (y 0).val / 256, by omega⟩, rfl⟩
  exact reached h hT k0_off1_eq y k (by omega)

/-- The first loop reaches the lower half of the rows through its group of the backward direction. -/
theorem lower1 {e : EltTy} {L : ℕ → List (View.Piece (Elt F) S4096x128 e)} {T} (h : ∀ k : Fin k0_t1_loop.trips, L (k.val + 1) = T k ++ L k.val)
    (hT : Stores256 T k0_off4 k0_off4_inb) (y : S4096x128.Idx) (hy : (y 0).val < 2048) : ∃ p ∈ L k0_t1_loop.trips, y ∈ p.1.set := by
  have hlt := row_lt y
  have h8 := eight.1
  obtain ⟨k, hk⟩ : ∃ k : Fin k0_t1_loop.trips, k.val = (y 0).val / 256 := ⟨⟨(y 0).val / 256, by omega⟩, rfl⟩
  exact reached h hT k0_off4_eq y k (by omega)

/-- The second loop reaches the lower half of the rows through its group of the forward direction. -/
theorem lower2 {e : EltTy} {L : ℕ → List (View.Piece (Elt F) S4096x128 e)} {T} (h : ∀ k : Fin k0_t2_loop.trips, L (k.val + 1) = T k ++ L k.val)
    (hT : Stores256 T k0_off7 k0_off7_inb) (y : S4096x128.Idx) (hy : (y 0).val < 2048) : ∃ p ∈ L k0_t2_loop.trips, y ∈ p.1.set := by
  have hlt := row_lt y
  have h8 := eight.2
  obtain ⟨k, hk⟩ : ∃ k : Fin k0_t2_loop.trips, k.val = 7 - (y 0).val / 256 := ⟨⟨7 - (y 0).val / 256, by omega⟩, rfl⟩
  exact reached h hT k0_off7_eq y k (by omega)

/-- The second loop reaches the upper half of the rows through its group of the backward direction. -/
theorem upper2 {e : EltTy} {L : ℕ → List (View.Piece (Elt F) S4096x128 e)} {T} (h : ∀ k : Fin k0_t2_loop.trips, L (k.val + 1) = T k ++ L k.val)
    (hT : Stores256 T k0_off10 k0_off10_inb) (y : S4096x128.Idx) (hy : 2048 ≤ (y 0).val) : ∃ p ∈ L k0_t2_loop.trips, y ∈ p.1.set := by
  have hlt := row_lt y
  have h8 := eight.2
  obtain ⟨k, hk⟩ : ∃ k : Fin k0_t2_loop.trips, k.val = (y 0).val / 256 - 8 := ⟨⟨(y 0).val / 256 - 8, by omega⟩, rfl⟩
  exact reached h hT k0_off10_eq y k (by omega)

/-- The first loop fills the first direction's part of the queries' gradient. -/
theorem full15 (c : Dev nD) (i : grid0.Coords) (o : Ops) (v : Fixed F) (x : Reads F c o) (g14 : Buf (Elt F) (o.a14.view.loc (c : Thread nD τ))) (g17 : Buf (Elt F) (o.a17.view.loc (c : Thread nD τ))) : Full (sofar1 c i o v x g14 g17 k0_t1_loop.trips).l15 := fun y =>
  if h : (y 0).val < 2048 then lower1 (L := fun k => (sofar1 c i o v x g14 g17 k).l15) (T := fun k => (at1 c i o v x g14 g17 k).l15) (fun k => congrArg Stores1.l15 (sofar1_succ c i o v x g14 g17 k)) (fun _ => ⟨_, List.Mem.head _⟩) y h
  else upper1 (L := fun k => (sofar1 c i o v x g14 g17 k).l15) (T := fun k => (at1 c i o v x g14 g17 k).l15) (fun k => congrArg Stores1.l15 (sofar1_succ c i o v x g14 g17 k)) (fun _ => ⟨_, List.Mem.tail _ (List.Mem.head _)⟩) y (Nat.le_of_not_lt h)

/-- The first loop fills the first direction's part of the values' gradient. -/
theorem full16 (c : Dev nD) (i : grid0.Coords) (o : Ops) (v : Fixed F) (x : Reads F c o) (g14 : Buf (Elt F) (o.a14.view.loc (c : Thread nD τ))) (g17 : Buf (Elt F) (o.a17.view.loc (c : Thread nD τ))) : Full (sofar1 c i o v x g14 g17 k0_t1_loop.trips).l16 := fun y =>
  if h : (y 0).val < 2048 then lower1 (L := fun k => (sofar1 c i o v x g14 g17 k).l16) (T := fun k => (at1 c i o v x g14 g17 k).l16) (fun k => congrArg Stores1.l16 (sofar1_succ c i o v x g14 g17 k)) (fun _ => ⟨_, List.Mem.head _⟩) y h
  else upper1 (L := fun k => (sofar1 c i o v x g14 g17 k).l16) (T := fun k => (at1 c i o v x g14 g17 k).l16) (fun k => congrArg Stores1.l16 (sofar1_succ c i o v x g14 g17 k)) (fun _ => ⟨_, List.Mem.tail _ (List.Mem.head _)⟩) y (Nat.le_of_not_lt h)

/-- The second loop fills the queries' gradient. -/
theorem full9 (c : Dev nD) (i : grid0.Coords) (o : Ops) (v : Fixed F) (x : Reads F c o) (g15 : Buf (Elt F) (o.a15.view.loc (c : Thread nD τ))) (g16 : Buf (Elt F) (o.a16.view.loc (c : Thread nD τ))) (g14 : Buf (Elt F) (o.a14.view.loc (c : Thread nD τ))) (g17 : Buf (Elt F) (o.a17.view.loc (c : Thread nD τ))) : Full (sofar2 c i o v x g15 g16 g14 g17 k0_t2_loop.trips).l9 := fun y =>
  if h : (y 0).val < 2048 then lower2 (L := fun k => (sofar2 c i o v x g15 g16 g14 g17 k).l9) (T := fun k => (at2 c i o v x g15 g16 g14 g17 k).l9) (fun k => congrArg Stores2.l9 (sofar2_succ c i o v x g15 g16 g14 g17 k)) (fun _ => ⟨_, List.Mem.tail _ (List.Mem.head _)⟩) y h
  else upper2 (L := fun k => (sofar2 c i o v x g15 g16 g14 g17 k).l9) (T := fun k => (at2 c i o v x g15 g16 g14 g17 k).l9) (fun k => congrArg Stores2.l9 (sofar2_succ c i o v x g15 g16 g14 g17 k)) (fun _ => ⟨_, List.Mem.head _⟩) y (Nat.le_of_not_lt h)

/-- The second loop fills the values' gradient. -/
theorem full12 (c : Dev nD) (i : grid0.Coords) (o : Ops) (v : Fixed F) (x : Reads F c o) (g15 : Buf (Elt F) (o.a15.view.loc (c : Thread nD τ))) (g16 : Buf (Elt F) (o.a16.view.loc (c : Thread nD τ))) (g14 : Buf (Elt F) (o.a14.view.loc (c : Thread nD τ))) (g17 : Buf (Elt F) (o.a17.view.loc (c : Thread nD τ))) : Full (sofar2 c i o v x g15 g16 g14 g17 k0_t2_loop.trips).l12 := fun y =>
  if h : (y 0).val < 2048 then lower2 (L := fun k => (sofar2 c i o v x g15 g16 g14 g17 k).l12) (T := fun k => (at2 c i o v x g15 g16 g14 g17 k).l12) (fun k => congrArg Stores2.l12 (sofar2_succ c i o v x g15 g16 g14 g17 k)) (fun _ => ⟨_, List.Mem.tail _ (List.Mem.head _)⟩) y h
  else upper2 (L := fun k => (sofar2 c i o v x g15 g16 g14 g17 k).l12) (T := fun k => (at2 c i o v x g15 g16 g14 g17 k).l12) (fun k => congrArg Stores2.l12 (sofar2_succ c i o v x g15 g16 g14 g17 k)) (fun _ => ⟨_, List.Mem.head _⟩) y (Nat.le_of_not_lt h)

/-- The two loops together fill the forward gate's gradient. -/
theorem full10 (c : Dev nD) (i : grid0.Coords) (o : Ops) (v : Fixed F) (x : Reads F c o) (g14 : Buf (Elt F) (o.a14.view.loc (c : Thread nD τ))) (g17 : Buf (Elt F) (o.a17.view.loc (c : Thread nD τ))) (v' : Fixed F) (x' : Reads F c o) (g15 : Buf (Elt F) (o.a15.view.loc (c : Thread nD τ))) (g16 : Buf (Elt F) (o.a16.view.loc (c : Thread nD τ))) (h14 : Buf (Elt F) (o.a14.view.loc (c : Thread nD τ))) (h17 : Buf (Elt F) (o.a17.view.loc (c : Thread nD τ))) :
    Full ((sofar2 c i o v' x' g15 g16 h14 h17 k0_t2_loop.trips).l10 ++ (sofar1 c i o v x g14 g17 k0_t1_loop.trips).l10) := fun y =>
  if h : (y 0).val < 2048 then
    let ⟨p, m, q⟩ := lower2 (L := fun k => (sofar2 c i o v' x' g15 g16 h14 h17 k).l10) (T := fun k => (at2 c i o v' x' g15 g16 h14 h17 k).l10) (fun k => congrArg Stores2.l10 (sofar2_succ c i o v' x' g15 g16 h14 h17 k)) (fun _ => ⟨_, List.Mem.head _⟩) y h
    ⟨p, List.mem_append_left _ m, q⟩
  else
    let ⟨p, m, q⟩ := upper1 (L := fun k => (sofar1 c i o v x g14 g17 k).l10) (T := fun k => (at1 c i o v x g14 g17 k).l10) (fun k => congrArg Stores1.l10 (sofar1_succ c i o v x g14 g17 k)) (fun _ => ⟨_, List.Mem.head _⟩) y (Nat.le_of_not_lt h)
    ⟨p, List.mem_append_right _ m, q⟩

/-- The two loops together fill the backward gate's gradient. -/
theorem full11 (c : Dev nD) (i : grid0.Coords) (o : Ops) (v : Fixed F) (x : Reads F c o) (g14 : Buf (Elt F) (o.a14.view.loc (c : Thread nD τ))) (g17 : Buf (Elt F) (o.a17.view.loc (c : Thread nD τ))) (v' : Fixed F) (x' : Reads F c o) (g15 : Buf (Elt F) (o.a15.view.loc (c : Thread nD τ))) (g16 : Buf (Elt F) (o.a16.view.loc (c : Thread nD τ))) (h14 : Buf (Elt F) (o.a14.view.loc (c : Thread nD τ))) (h17 : Buf (Elt F) (o.a17.view.loc (c : Thread nD τ))) :
    Full ((sofar2 c i o v' x' g15 g16 h14 h17 k0_t2_loop.trips).l11 ++ (sofar1 c i o v x g14 g17 k0_t1_loop.trips).l11) := fun y =>
  if h : (y 0).val < 2048 then
    let ⟨p, m, q⟩ := lower1 (L := fun k => (sofar1 c i o v x g14 g17 k).l11) (T := fun k => (at1 c i o v x g14 g17 k).l11) (fun k => congrArg Stores1.l11 (sofar1_succ c i o v x g14 g17 k)) (fun _ => ⟨_, List.Mem.head _⟩) y h
    ⟨p, List.mem_append_right _ m, q⟩
  else
    let ⟨p, m, q⟩ := upper2 (L := fun k => (sofar2 c i o v' x' g15 g16 h14 h17 k).l11) (T := fun k => (at2 c i o v' x' g15 g16 h14 h17 k).l11) (fun k => congrArg Stores2.l11 (sofar2_succ c i o v' x' g15 g16 h14 h17 k)) (fun _ => ⟨_, List.Mem.head _⟩) y (Nat.le_of_not_lt h)
    ⟨p, List.mem_append_left _ m, q⟩

/-- After the first loop its parts of two gradients are filled, so nothing of what those buffers held before is left. -/
instance exit1 (c : Dev nD) (i : grid0.Coords) (o : Ops) (v12 : FVec F S256x256 .f32) (v20 : FVec F S256x256 .bf16) (v24 : FVec F S256x1 .f32) (v28 : FVec F S256x1 .f32) (v32 : FVec F S256x1 .f32) (v36 : FVec F S256x1 .f32) (v53 : FVec F S256x256 .f32) (v57 : FVec F S256x256 .bf16) (v61 : FVec F S256x1 .f32) (v65 : FVec F S256x1 .f32) (v69 : FVec F S256x1 .f32) (v73 : FVec F S256x1 .f32) (v79 : FVec F S1x128 .f32) (v85 : FVec F S1x128 .f32) (x1 : Buf (Elt F) (o.a1.view.loc (c : Thread nD τ))) (x2 : Buf (Elt F) (o.a2.view.loc (c : Thread nD τ))) (x3 : Buf (Elt F) (o.a3.view.loc (c : Thread nD τ))) (x4 : Buf (Elt F) (o.a4.view.loc (c : Thread nD τ))) (x6 : Buf (Elt F) (o.a6.view.loc (c : Thread nD τ))) (x7 : Buf (Elt F) (o.a7.view.loc (c : Thread nD τ))) (x8 : Buf (Elt F) (o.a8.view.loc (c : Thread nD τ))) (g14 : Buf (Elt F) (o.a14.view.loc (c : Thread nD τ))) (g17 : Buf (Elt F) (o.a17.view.loc (c : Thread nD τ))) (g10 : Buf (Elt F) (o.a10.view.loc (c : Thread nD τ))) (g11 : Buf (Elt F) (o.a11.view.loc (c : Thread nD τ))) (g15 : Buf (Elt F) (o.a15.view.loc (c : Thread nD τ))) (g16 : Buf (Elt F) (o.a16.view.loc (c : Thread nD τ))) :
    LoopExit (loop1 c i o g14 g17 v12 v20 v24 v28 v32 v36 v53 v57 v61 v65 v69 v73 v79 v85 x1 x2 x3 x4 x6 x7 x8 g10 g11 g15 g16) where
  post _ :=
    let l := sofar1 c i o ⟨v12, v20, v24, v28, v32, v36, v53, v57, v61, v65, v69, v73, v79, v85⟩ ⟨x1, x2, x3, x4, x6, x7, x8⟩ g14 g17 k0_t1_loop.trips
    iprop((o.a1.view.loc (c : Thread nD τ) ↦[o.a1.view.set]{fullShare} x1) ∗ (o.a2.view.loc (c : Thread nD τ) ↦[o.a2.view.set]{fullShare} x2) ∗ (o.a3.view.loc (c : Thread nD τ) ↦[o.a3.view.set]{fullShare} x3) ∗ (o.a4.view.loc (c : Thread nD τ) ↦[o.a4.view.set]{fullShare} x4) ∗ (o.a6.view.loc (c : Thread nD τ) ↦[o.a6.view.set]{fullShare} x6) ∗ (o.a7.view.loc (c : Thread nD τ) ↦[o.a7.view.set]{fullShare} x7) ∗ (o.a8.view.loc (c : Thread nD τ) ↦[o.a8.view.set]{fullShare} x8) ∗ (o.a10.view.loc (c : Thread nD τ) ↦[o.a10.view.set]{fullShare} (o.a10.view.writes (Elt F) g10 l.l10)) ∗ (o.a11.view.loc (c : Thread nD τ) ↦[o.a11.view.set]{fullShare} (o.a11.view.writes (Elt F) g11 l.l11)) ∗ (o.a14.view.loc (c : Thread nD τ) ↦[o.a14.view.set]{fullShare} (o.a14.view.writes (Elt F) g14 l.l14)) ∗ (o.a15.view.loc (c : Thread nD τ) ↦[o.a15.view.set]{fullShare} (o.a15.view.writes (Elt F) o.a15.view.junk l.l15)) ∗ (o.a16.view.loc (c : Thread nD τ) ↦[o.a16.view.set]{fullShare} (o.a16.view.writes (Elt F) o.a16.view.junk l.l16)) ∗ (o.a17.view.loc (c : Thread nD τ) ↦[o.a17.view.set]{fullShare} (o.a17.view.writes (Elt F) g17 l.l17)))
  exit _ := by
    show during1 c i o g14 g17 v12 v20 v24 v28 v32 v36 v53 v57 v61 v65 v69 v73 v79 v85 x1 x2 x3 x4 x6 x7 x8 g10 g11 g15 g16 k0_t1_loop.trips ⊢ _
    iintro ⟨H1, H2, H3, H4, H6, H7, H8, ⟨%f10, H10, %h10⟩, ⟨%f11, H11, %h11⟩, ⟨%f14, H14, %h14⟩, ⟨%f15, H15, %h15⟩, ⟨%f16, H16, %h16⟩, ⟨%f17, H17, %h17⟩⟩
    rw [over_any o.w15 g15 o.a15.view.junk _ (full15 c i o ⟨v12, v20, v24, v28, v32, v36, v53, v57, v61, v65, v69, v73, v79, v85⟩ ⟨x1, x2, x3, x4, x6, x7, x8⟩ g14 g17)] at h15
    rw [over_any o.w16 g16 o.a16.view.junk _ (full16 c i o ⟨v12, v20, v24, v28, v32, v36, v53, v57, v61, v65, v69, v73, v79, v85⟩ ⟨x1, x2, x3, x4, x6, x7, x8⟩ g14 g17)] at h16
    subst h10; subst h11; subst h14; subst h15; subst h16; subst h17
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H10]; · iexact H10
    isplitl [H11]; · iexact H11
    isplitl [H14]; · iexact H14
    isplitl [H15]; · iexact H15
    isplitl [H16]; · iexact H16
    iexact H17

end Cert.BwdGla.Hand

end
-- ==== Proof.BwdGla.Body.lean ====
module

public import proofs.«01_k».proof.Proof.BwdGla.Cover

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The inputs' blocks at one grid point. -/
structure Ins (F : FTy → Type) where
  x1 : Vec F S4096x128 .f32
  x2 : Vec F S4096x128 .f32
  x3 : Vec F S4096x128 .f32
  x4 : Vec F S4096x128 .f32
  x5 : Vec F S4x128 .f32
  x6 : Vec F S4096x128 .f32
  x7 : Vec F S2x4096x128 .f32
  x8 : Vec F S1x2x64x128x128 .f32

/-- The stores of one run of the body, last first, in each output. -/
structure Stores (F : FTy → Type) where
  l9 : List (View.Piece (Elt F) S4096x128 .bf16)
  l10 : List (View.Piece (Elt F) S4096x128 .bf16)
  l11 : List (View.Piece (Elt F) S4096x128 .bf16)
  l12 : List (View.Piece (Elt F) S4096x128 .bf16)
  l13 : List (View.Piece (Elt F) S4x128 .f32)

/-- The inputs' buffers at their blocks. -/
def held (c : Dev nD) (o : Ops) (x : Ins F) : sProp 𝕄 :=
  iprop(owns (c : Thread nD τ) o.a1 fullShare x.x1 ∗ owns (c : Thread nD τ) o.a2 fullShare x.x2 ∗ owns (c : Thread nD τ) o.a3 fullShare x.x3 ∗ owns (c : Thread nD τ) o.a4 fullShare x.x4 ∗ owns (c : Thread nD τ) o.a5 fullShare x.x5 ∗ owns (c : Thread nD τ) o.a6 fullShare x.x6 ∗ owns (c : Thread nD τ) o.a7 fullShare x.x7 ∗ owns (c : Thread nD τ) o.a8 fullShare x.x8)

/-- The outputs' and scratch buffers, whose earlier contents do not matter. -/
def free (c : Dev nD) (o : Ops) : sProp 𝕄 :=
  iprop((∃ d, owns (c : Thread nD τ) o.a9 fullShare d) ∗ (∃ d, owns (c : Thread nD τ) o.a10 fullShare d) ∗ (∃ d, owns (c : Thread nD τ) o.a11 fullShare d) ∗ (∃ d, owns (c : Thread nD τ) o.a12 fullShare d) ∗ (∃ d, owns (c : Thread nD τ) o.a13 fullShare d) ∗ (∃ d, owns (c : Thread nD τ) o.a14 fullShare d) ∗ (∃ d, owns (c : Thread nD τ) o.a15 fullShare d) ∗ (∃ d, owns (c : Thread nD τ) o.a16 fullShare d) ∗ (∃ d, owns (c : Thread nD τ) o.a17 fullShare d))

/-- Every output with the stores made over some contents; the scratch buffers at whatever they are left with. -/
def left (c : Dev nD) (o : Ops) (l : Stores F) : sProp 𝕄 :=
  iprop((∃ f, o.a9.view.loc (c : Thread nD τ) ↦[o.a9.view.set]{fullShare} o.a9.view.writes (Elt F) f l.l9) ∗ (∃ f, o.a10.view.loc (c : Thread nD τ) ↦[o.a10.view.set]{fullShare} o.a10.view.writes (Elt F) f l.l10) ∗ (∃ f, o.a11.view.loc (c : Thread nD τ) ↦[o.a11.view.set]{fullShare} o.a11.view.writes (Elt F) f l.l11) ∗ (∃ f, o.a12.view.loc (c : Thread nD τ) ↦[o.a12.view.set]{fullShare} o.a12.view.writes (Elt F) f l.l12) ∗ (∃ f, o.a13.view.loc (c : Thread nD τ) ↦[o.a13.view.set]{fullShare} o.a13.view.writes (Elt F) f l.l13) ∗ (∃ f, o.a14.view.loc (c : Thread nD τ) ↦[o.a14.view.set]{fullShare} f) ∗ (∃ f, o.a15.view.loc (c : Thread nD τ) ↦[o.a15.view.set]{fullShare} f) ∗ (∃ f, o.a16.view.loc (c : Thread nD τ) ↦[o.a16.view.set]{fullShare} f) ∗ (∃ f, o.a17.view.loc (c : Thread nD τ) ↦[o.a17.view.set]{fullShare} f))

/-- The body on these buffers. -/
abbrev body (i : grid0.Coords) (o : Ops) : Prog (TpuEff nD τ sig (Elt F) Λ₀ .tc) PUnit :=
  cc0_bwd_gla i o.a1 o.w1 o.a2 o.w2 o.a3 o.w3 o.a4 o.w4 o.a5 o.w5 o.a6 o.w6 o.a7 o.w7 o.a8 o.w8 o.a9 o.w9 o.a10 o.w10 o.a11 o.w11 o.a12 o.w12 o.a13 o.w13 o.a14 o.w14 o.a15 o.w15 o.a16 o.w16 o.a17 o.w17

/-- From the inputs' blocks the body runs to its end, keeps the inputs and leaves the stores `l`. -/
def Leaves (c : Dev nD) (i : grid0.Coords) (o : Ops) (x : Ins F) (l : Stores F) : Prop :=
  ∀ (K : PUnit → sProp 𝕄),
    iprop(held c o x ∗ free c o ∗ (iprop(held c o x ∗ left c o l) -∗ K ⟨⟩))
      ⊢ wp frame (wpE (defs₀ (F := F)) Variants.none (c : Thread nD τ) none) Set.univ (body i o) K

set_option maxHeartbeats 8000000 in
/-- The stores of one grid point, found by running the body: what precedes the loops, the loops by their invariants, and
    the four rows of the lower bounds' gradient. -/
def runBody (c : Dev nD) (i : grid0.Coords) (o : Ops) (x : Ins F) : { l : Stores F // Leaves c i o x l } := by
  refine ⟨⟨?_, ?_, ?_, ?_, ?_⟩, fun K => ?run⟩
  case run =>
    unfold body held free left
    simp only [cc0_bwd_gla_eq_skeleton]; unfold cc0_bwd_gla_skel
    simp only [k0_part21_eq_skeleton, k0_part22_eq_skeleton]
    unfold owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
    obtain rfl := o.w1.eq_unread e1; obtain rfl := o.w2.eq_unread e2; obtain rfl := o.w3.eq_unread e3; obtain rfl := o.w4.eq_unread e4; obtain rfl := o.w5.eq_unread e5; obtain rfl := o.w6.eq_unread e6; obtain rfl := o.w7.eq_unread e7; obtain rfl := o.w8.eq_unread e8
    sl_exec
    sl_step
    simp only [← View.writes_append]
    iapply Hk
    isplitl [HL0 HL1 HL2 HL3 H5 HL4 HL5 HL6]
    · isplitl [HL0]
      · iexists _; isplitr; · ipureintro; exact o.w1.read_unread _
        iexact HL0
      isplitl [HL1]
      · iexists _; isplitr; · ipureintro; exact o.w2.read_unread _
        iexact HL1
      isplitl [HL2]
      · iexists _; isplitr; · ipureintro; exact o.w3.read_unread _
        iexact HL2
      isplitl [HL3]
      · iexists _; isplitr; · ipureintro; exact o.w4.read_unread _
        iexact HL3
      isplitl [H5]
      · iexists _; isplitr; · ipureintro; exact o.w5.read_unread _
        iexact H5
      isplitl [HL4]
      · iexists _; isplitr; · ipureintro; exact o.w6.read_unread _
        iexact HL4
      isplitl [HL5]
      · iexists _; isplitr; · ipureintro; exact o.w7.read_unread _
        iexact HL5
      iexists _; isplitr; · ipureintro; exact o.w8.read_unread _
      iexact HL6
    isplitl [H9]; · iexists _; iexact H9
    isplitl [HL7]; · iexists _; iexact HL7
    isplitl [HL8]; · iexists _; iexact HL8
    isplitl [H12]; · iexists _; iexact H12
    isplitl [H13]; · iexists _; iexact H13
    isplitl [HL9]; · iexists _; iexact HL9
    isplitl [HL10]; · iexists _; iexact HL10
    isplitl [HL11]; · iexists _; iexact HL11
    iexists _; iexact HL12

end Cert.BwdGla.Hand

end
-- ==== Proof.BwdGla.Base.lean ====
module

public import proofs.«01_k».proof.Proof.Gen.BwdGlaIdeal.Launch
public import proofs.«01_k».proof.Proof.Gen.BwdGlaIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three lines of host code ahead of the kernel, as one list. -/
abbrev prelude : List (HloOp τ sig (Elt F)) := List.flatten [hostOps0, hostOps0_1, hostOps0_2]

/-- What a core's buffers hold when the kernel is called. -/
abbrev V (c : Dev nD) (b : Ref sig .tc) : Buf (Elt F) ((c : Thread nD τ).loc b) :=
  StableHlo.after prelude (fun b => m (c, b)) b

/-- No line of the host code makes a buffer anew. -/
theorem nothing_fresh : [hostOps0, hostOps0_1, hostOps0_2].Forall fun l : List (HloOp τ sig (Elt F)) => l.Forall fun op => op.fresh = ∅ := by
  simp only [List.Forall, hostOps0, hostOps0_1, hostOps0_2]
  repeat' constructor

set_option maxHeartbeats 8000000 in
/-- The program is its host code and then the kernel. -/
theorem start (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0, hostOps0_1, hostOps0_2] ⟨hostOps0_sub, hostOps0_1_sub, hostOps0_2_sub⟩ nothing_fresh main_chain

set_option maxHeartbeats 16000000 in
/-- The host code writes none of the three arguments: the kernel's call finds them as given. -/
theorem untouched (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    rcases hb with rfl | rfl | rfl
    all_goals
      repeat' apply And.intro
      all_goals exact StableHlo.devRef_ne_of_ne (by decide)))

/-- A window's block at a grid point, from its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four scratch buffers, each owned at some contents, are what the grid carries from point to point. -/
theorem carried (c : Dev nD) :
    (Pipeline.ΦA spec0 c : sProp 𝕄)
      = iprop(iprop((∃ d, owns (c : Thread nD τ) (Memref.whole cc0_scratch0 : Memref sig .tc .vmem S2x128x128 .f32) fullShare d) ∗ (∃ d, owns (c : Thread nD τ) (Memref.whole cc0_scratch1 : Memref sig .tc .vmem S4096x128 .f32) fullShare d) ∗ (∃ d, owns (c : Thread nD τ) (Memref.whole cc0_scratch2 : Memref sig .tc .vmem S4096x128 .f32) fullShare d) ∗ (∃ d, owns (c : Thread nD τ) (Memref.whole cc0_scratch3 : Memref sig .tc .vmem S2x128 .f32) fullShare d)) ∗ (∃ r, prngReg c r)) := by
  unfold Pipeline.ΦA; rw [scopedRest0_eq]; simp only [owns_whole]; try rfl

end Cert.BwdGla.Hand

end
-- ==== Proof.BwdGla.Frame.lean ====
module

public import proofs.«01_k».proof.Proof.BwdGla.Body
public import proofs.«01_k».proof.Proof.BwdGla.Base
public import Idealize.ShloMosaic.Lib.Claim

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of grid point `t`. -/
abbrev opsAt (t : Fin cfg0.N) : Ops :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), Memref.whole cc0_scratch0, Memref.isWhole_whole _, Memref.whole cc0_scratch1, Memref.isWhole_whole _, Memref.whole cc0_scratch2, Memref.isWhole_whole _, Memref.whole cc0_scratch3, Memref.isWhole_whole _⟩

/-- The inputs' blocks at grid point `t`. -/
abbrev insAt (c : Dev nD) (t : Fin cfg0.N) : Ins F :=
  ⟨blockAt m c 0 t, blockAt m c 1 t, blockAt m c 2 t, blockAt m c 3 t, blockAt m c 4 t, blockAt m c 5 t, blockAt m c 6 t, blockAt m c 7 t⟩

/-- The stores of grid point `t`. -/
abbrev storesAt (c : Dev nD) (t : Fin cfg0.N) : Stores F := (runBody c (grid0.coords t) (opsAt t) (insAt m c t)).1

/-- One buffer of output 8: what the stores leave is read through it. -/
abbrev out8 : View sig .tc .vmem S4096x128 .bf16 := (Memref.whole cc0_stg8_0 : Memref sig .tc .vmem S4096x128 .bf16).view
/-- One buffer of output 9: what the stores leave is read through it. -/
abbrev out9 : View sig .tc .vmem S4096x128 .bf16 := (Memref.whole cc0_stg9_0 : Memref sig .tc .vmem S4096x128 .bf16).view
/-- One buffer of output 10: what the stores leave is read through it. -/
abbrev out10 : View sig .tc .vmem S4096x128 .bf16 := (Memref.whole cc0_stg10_0 : Memref sig .tc .vmem S4096x128 .bf16).view
/-- One buffer of output 11: what the stores leave is read through it. -/
abbrev out11 : View sig .tc .vmem S4096x128 .bf16 := (Memref.whole cc0_stg11_0 : Memref sig .tc .vmem S4096x128 .bf16).view
/-- One buffer of output 12: what the stores leave is read through it. -/
abbrev out12 : View sig .tc .vmem S4x128 .f32 := (Memref.whole cc0_stg12_0 : Memref sig .tc .vmem S4x128 .f32).view

/-- The stores of a grid point fill every output. -/
structure Fills (l : Stores F) : Prop where
  c9 : Full l.l9
  c10 : Full l.l10
  c11 : Full l.l11
  c12 : Full l.l12
  c13 : Full l.l13

/-- They do: a half of the rows by each loop or both halves by the second, and the four rows one by one. -/
theorem fills (c : Dev nD) (i : grid0.Coords) (o : Ops) (x : Ins F) : Fills (runBody c i o x).1 :=
  ⟨full9 _ _ _ _ _ _ _ _ _, full10 _ _ _ _ _ _ _ _ _ _ _ _ _, full11 _ _ _ _ _ _ _ _ _ _ _ _ _, full12 _ _ _ _ _ _ _ _ _, View.cover_of_tiledL _ ![1, 128] (by sl_kernel_rfl)⟩

/-- The proof data: arrays as the call finds them, inputs' buffers at their blocks, outputs' as the stores leave them. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => out8.read (Elt F) (out8.writes (Elt F) out8.junk (storesAt m c t).l9)
    | ⟨9, _⟩ => out9.read (Elt F) (out9.writes (Elt F) out9.junk (storesAt m c t).l10)
    | ⟨10, _⟩ => out10.read (Elt F) (out10.writes (Elt F) out10.junk (storesAt m c t).l11)
    | ⟨11, _⟩ => out11.read (Elt F) (out11.writes (Elt F) out11.junk (storesAt m c t).l12)
    | ⟨12, _⟩ => out12.read (Elt F) (out12.writes (Elt F) out12.junk (storesAt m c t).l13)
    | ⟨_ + 13, h⟩ => absurd h (Nat.not_lt.2 (Nat.le_add_left _ _))
  Φ _ := Pipeline.ΦA spec0 c
  q w := Pipeline.shareOf spec0 w
  owed _ := 0

/-- The arrays are those the call finds. -/
theorem arrays (c : Dev nD) (w : Fin cfg0.W) : (dats m 0 c).A w = V m c (Pipeline.arrRef spec0 w) := by dsimp only [dats]

/-- What a window's buffer holds before the body at point `t`. -/
def before (c : Dev nD) (t : Fin cfg0.N) (w : Fin 13) : sProp 𝕄 :=
  iprop(∃ d, owns (c : Thread nD τ) ((cfg0.win w).stage (cfg0.slots t w)) fullShare ((dats m 0 c).before w t d))

/-- What it holds after. -/
def after (c : Dev nD) (t : Fin cfg0.N) (w : Fin 13) : sProp 𝕄 :=
  owns (c : Thread nD τ) ((cfg0.win w).stage (cfg0.slots t w)) fullShare ((dats m 0 c).after w t)

/-- The inputs' buffers are at their blocks. -/
theorem inputs (c : Dev nD) (t : Fin cfg0.N) : (∀ d, (dats m 0 c).before 0 t d = blockAt m c 0 t) ∧ (∀ d, (dats m 0 c).before 1 t d = blockAt m c 1 t) ∧ (∀ d, (dats m 0 c).before 2 t d = blockAt m c 2 t) ∧ (∀ d, (dats m 0 c).before 3 t d = blockAt m c 3 t) ∧ (∀ d, (dats m 0 c).before 4 t d = blockAt m c 4 t) ∧ (∀ d, (dats m 0 c).before 5 t d = blockAt m c 5 t) ∧ (∀ d, (dats m 0 c).before 6 t d = blockAt m c 6 t) ∧ (∀ d, (dats m 0 c).before 7 t d = blockAt m c 7 t) := by
  refine ⟨?_, ?_, ?_, ?_, ?_, ?_, ?_, ?_⟩ <;> intro d <;>
    refine ((dats m 0 c).before_in_eq_fetched _ rfl (fun _ => rfl) (fun _ _ _ => rfl) (fun t => ?_) t d).trans
      (by unfold Dat.fetched Dat.blockOf blockAt; rw [arrays]; try rfl)
  all_goals unfold Dat.blockOf; rw [arrays]; dsimp only [dats]; unfold blockAt; rfl

/-- A buffer at some contents is owned at what is read from it. -/
theorem some_contents (c : Dev nD) {s : Shape} {e : EltTy} (r : Memref sig .tc .vmem s e) (f : Buf (Elt F) (r.view.loc (c : Thread nD τ))) :
    (r.view.loc (c : Thread nD τ) ↦[r.view.set]{fullShare} f : sProp 𝕄) ⊢ iprop(∃ d, owns (c : Thread nD τ) r fullShare d) := by
  iintro H; iexists _; unfold owns; iexists _; isplitr
  swap; · iexact H
  ipureintro; rfl

/-- A buffer with stores that fill it is owned at what any other buffer of its shape reads after them. -/
theorem filled_contents (c : Dev nD) {s : Shape} {e : EltTy} (r r' : Memref sig .tc .vmem s e) (f : r.view.ty.Contents (Elt F))
    (L : List (View.Piece (Elt F) s e)) (h : Full L) :
    (r.view.loc (c : Thread nD τ) ↦[r.view.set]{fullShare} r.view.writes (Elt F) f L : sProp 𝕄)
      ⊢ owns (c : Thread nD τ) r fullShare (r'.view.read (Elt F) (r'.view.writes (Elt F) r'.view.junk L)) := by
  iintro H; unfold owns; iexists _; isplitr
  swap; · iexact H
  ipureintro; exact View.read_writes_of_cover r.view f r'.view r'.view.junk L h

set_option maxHeartbeats 4000000 in
/-- The body at every grid point. -/
theorem body_at (c : Dev nD) (t : Fin cfg0.N) :
    iprop((dats m 0 c).Φ t.castSucc ∗ (dats m 0 c).owesAt () t.castSucc ∗ before m c t 0 ∗ before m c t 1 ∗ before m c t 2 ∗ before m c t 3 ∗ before m c t 4 ∗ before m c t 5 ∗ before m c t 6 ∗ before m c t 7 ∗ before m c t 8 ∗ before m c t 9 ∗ before m c t 10 ∗ before m c t 11 ∗ before m c t 12)
      ⊢ wp frame (wpE (defs₀ (F := F)) Variants.none (c : Thread nD τ) none) Set.univ (bodyAt0 t)
        (fun _ => iprop((dats m 0 c).Φ t.succ ∗ (dats m 0 c).owesAt () t.succ ∗ after m c t 0 ∗ after m c t 1 ∗ after m c t 2 ∗ after m c t 3 ∗ after m c t 4 ∗ after m c t 5 ∗ after m c t 6 ∗ after m c t 7 ∗ after m c t 8 ∗ after m c t 9 ∗ after m c t 10 ∗ after m c t 11 ∗ after m c t 12)) := by
  unfold before after
  obtain ⟨in0, in1, in2, in3, in4, in5, in6, in7⟩ := inputs m c t
  simp only [in0, in1, in2, in3, in4, in5, in6, in7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, carried]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hl := fills c (grid0.coords t) (opsAt t) (insAt m c t)
  have hrun := (runBody c (grid0.coords t) (opsAt t) (insAt m c t)).2
  unfold Leaves held free left at hrun
  dsimp only [dats]
  iapply (hrun _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H10 H11 H12 HS0 HS1 HS2 HS3]
  · isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iexact HS3
  iintro ⟨⟨H0, H1, H2, H3, H4, H5, H6, H7⟩, ⟨%e8, H8⟩, ⟨%e9, H9⟩, ⟨%e10, H10⟩, ⟨%e11, H11⟩, ⟨%e12, H12⟩, ⟨%g0, HS0⟩, ⟨%g1, HS1⟩, ⟨%g2, HS2⟩, ⟨%g3, HS3⟩⟩
  isplitl [HS0 HS1 HS2 HS3 Hg]
  · isplitl [HS0 HS1 HS2 HS3]
    · isplitl [HS0]; · iapply (some_contents c (opsAt t).a14 _); iexact HS0
      isplitl [HS1]; · iapply (some_contents c (opsAt t).a15 _); iexact HS1
      isplitl [HS2]; · iapply (some_contents c (opsAt t).a16 _); iexact HS2
      iapply (some_contents c (opsAt t).a17 _); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (filled_contents c (opsAt t).a9 (Memref.whole cc0_stg8_0) e8 (storesAt m c t).l9 hl.c9); iexact H8
  isplitl [H9]; · iapply (filled_contents c (opsAt t).a10 (Memref.whole cc0_stg9_0) e9 (storesAt m c t).l10 hl.c10); iexact H9
  isplitl [H10]; · iapply (filled_contents c (opsAt t).a11 (Memref.whole cc0_stg10_0) e10 (storesAt m c t).l11 hl.c11); iexact H10
  isplitl [H11]; · iapply (filled_contents c (opsAt t).a12 (Memref.whole cc0_stg11_0) e11 (storesAt m c t).l12 hl.c12); iexact H11
  iapply (filled_contents c (opsAt t).a13 (Memref.whole cc0_stg12_0) e12 (storesAt m c t).l13 hl.c13); iexact H12

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The run: every array of the call ends as the proof data say, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := start m Variants.none) (hA := arrays m) (hΦ := fun _ _ => rfl)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      ((h.1 c).2 main_arg0 (Pipeline.mem_restRefs_of main_arg0 (by decide) (by decide))).trans (untouched m c main_arg0 (.inl rfl)),
      ((h.1 c).2 main_arg1 (Pipeline.mem_restRefs_of main_arg1 (by decide) (by decide))).trans (untouched m c main_arg1 (.inr (.inl rfl))),
      ((h.1 c).1 5).trans (((dats m 0 c).arrAt_in 5 rfl _).trans ((arrays m c 5).trans (untouched m c main_arg2 (.inr (.inr rfl)))))⟩, h.2⟩) (run_quiet m ρ)

end Cert.BwdGla.Hand

end
-- ==== Proof.BwdGla.Words.lean ====
module

public import proofs.«01_k».proof.Proof.BwdGla.Frame
public import proofs.«01_k».proof.Proof.Gen.BwdGla.Launch
public import proofs.«01_k».proof.Defs

@[expose] public section

set_option maxRecDepth 16384

noncomputable section

namespace Cert.BwdGla.Hand

open Cert.BwdGlaIdeal Cert.BwdGlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The frame's statement at every memory and state of the random numbers. -/
def Quiet : Prop :=
  ∀ m ρ, True → type_of% (frame (F := Bits) m ρ)

/-- The kernel's frame on machine words: the idealized program has the same text. -/
theorem frame_words : Cert.quiescent_BwdGla :=
  (show Quiet = Cert.quiescent_BwdGla by sl_kernel_rfl).mp (fun m ρ _ => frame (F := Bits) m ρ)

end Cert.BwdGla.Hand

end
-- ==== Proof.FwdIn.Value.lean ====
/- The input projection's forward call computes the two results its reference states, over any arguments. -/
module

public import proofs.«01_k».proof.Proof.Gen.FwdInIdeal.Value
public import proofs.«01_k».proof.Proof.Gen.InRefIdeal.Read
public import proofs.«01_k».proof.Proof.Norm
public import proofs.«01_k».proof.Proof.Whole
public import proofs.«01_k».proof.Proof.At
public import Idealize.ShloMosaic.Lib.Tactic
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.FwdInIdeal.Final

open Cert.FwdInIdeal Cert.FwdInIdeal.Gen Cert.FwdInIdeal.Value Cert.Norm Cert.Whole Cert.At
open Cert.InRefIdeal.Read

/-- A weight in the call's order of columns: gates, latents, zeros. -/
def turn (w : Fin 3136 → EReal) (j : Fin 3200) : EReal :=
  if h : j.val < 2560 then w ⟨576 + j.val, by omega⟩ else if h : j.val - 2560 < 576 then w ⟨j.val - 2560, by omega⟩ else 0

section Payloads

variable (x : FVec Ideal S512x1024 .f32) (g : FVec Ideal S1x1024 .f32) (w : FVec Ideal S3200x1024 .bf16) (r : Fin 512)

theorem pay1 (k : Fin 1024) : k0_pay1 (F := Ideal) x g (ix2 r k) = unit 1024 (fun a => x (ix2 r a)) (fun a => g (ix2 0 a)) k := by
  unfold unit
  rw [← over_width_word, ← eps_word]
  pointwise [k0_pay1]

theorem pay2 (j : Fin 3200) : k0_pay2 (F := Ideal) x g w (ix2 r j) = ∑ k, unit 1024 (fun a => x (ix2 r a)) (fun a => g (ix2 0 a)) k * w (ix2 j k) := by
  pointwise [k0_pay2]
  simp only [pay1]

end Payloads

section Reference

variable (x : FVec Ideal S4096x1024 .f32) (g : FVec Ideal S1x1024 .f32) (w : FVec Ideal S1024x3136 .bf16) (r : Fin 4096)

theorem ref11 (k : Fin 1024) : val_main_v11 (F := Ideal) x g (ix2 r k) = unit 1024 (fun a => x (ix2 r a)) (fun a => g (ix2 0 a)) k := by
  unfold unit
  rw [← eps_word]
  pointwise [val_main_v11, val_main_v10, val_main_v9, val_main_v8, val_main_v7, val_main_v6, val_main_v5, val_main_v4, val_main_v3, val_main_v2, val_main_v1, val_main_v0,
    val_main_cst, val_main_cst_0, val_main_cst_1]
  rw [width_word, Ideal.div_coe (by norm_num)]

theorem ref16 (k : Fin 1024) : val_main_v16 (F := Ideal) x g (ix2 r k) = unit 1024 (fun a => x (ix2 r a)) (fun a => g (ix2 0 a)) k :=
  ref11 x g r k

theorem ref13 (j : Fin 3136) : val_main_v13 (F := Ideal) x g w (ix2 r j) = ∑ k, unit 1024 (fun a => x (ix2 r a)) (fun a => g (ix2 0 a)) k * w (ix2 k j) := by
  pointwise [val_main_v13, val_main_v12]
  simp only [ref11]

/-- The product's columns, turned and padded, are the product with the turned and padded weights. -/
theorem ref18 (j : Fin 3200) : val_main_v18 (F := Ideal) x g w (ix2 r j)
    = ∑ k, unit 1024 (fun a => x (ix2 r a)) (fun a => g (ix2 0 a)) k * turn (fun b => w (ix2 k b)) j := by
  unfold turn
  pointwise [val_main_v18, val_main_v17, val_main_v15, val_main_v14, val_main_call0_v0, val_main_c]
  by_cases h0 : j.val < 2560
  · simp only [dif_pos h0]
    rw [dif_pos (by omega), ref13]
  simp only [dif_neg h0]
  by_cases h1 : j.val - 2560 < 576
  · simp only [dif_pos h1]
    rw [dif_pos (by omega), ref13]
  simp only [dif_neg h1]
  rw [dif_neg (by omega)]
  simp only [mul_zero, Finset.sum_const_zero]
  show (((0#32 : BitVec 32).toInt : ℝ) : EReal) = 0
  simp

end Reference

variable {m : (ℓ : Loc nD τ sig) → Buf (Elt Ideal) ℓ} {c : Dev nD}

/-- The residual. -/
abbrev argX (m : (ℓ : Loc nD τ sig) → Buf (Elt Ideal) ℓ) (c : Dev nD) : FVec Ideal S4096x1024 .f32 := m (c.tc.loc main_arg0)
/-- The gains. -/
abbrev argG (m : (ℓ : Loc nD τ sig) → Buf (Elt Ideal) ℓ) (c : Dev nD) : FVec Ideal S1x1024 .f32 := m (c.tc.loc main_arg1)
/-- The weights. -/
abbrev argW (m : (ℓ : Loc nD τ sig) → Buf (Elt Ideal) ℓ) (c : Dev nD) : FVec Ideal S1024x3136 .bf16 := m (c.tc.loc main_arg2)

theorem kept0 : V m c main_arg0 = argX m c := by
  unfold V
  after_reads_simp

theorem kept1 : V m c main_arg1 = argG m c := by
  unfold V
  after_reads_simp

/-- The weights as the host turns them. -/
theorem turned (j : Fin 3200) (k : Fin 1024) : (V m c main_v4 : FVec Ideal S3200x1024 .bf16) (ix2 j k) = turn (fun b => argW m c (ix2 k b)) j := by
  unfold V turn
  after_reads_simp
  pointwise
  by_cases h0 : j.val < 2560
  · rw [dif_pos h0, dif_pos h0]
    after_reads_simp
    pointwise
  rw [dif_neg h0, dif_neg h0]
  by_cases h1 : j.val - 2560 < 576
  · rw [dif_pos h1, dif_pos h1]
    after_reads_simp
    pointwise
    try simp
  rw [dif_neg h1, dif_neg h1]
  after_reads_simp
  pointwise

/-- Where the windows lie: the rows' at the point's block, the gains' and the weights' fixed. -/
theorem places : ∀ t : Fin cfg0.N, ((win0_0.index t (0 : Fin 2) = t.val ∧ win0_0.index t (1 : Fin 2) = 0) ∧ (win0_1.index t (0 : Fin 2) = 0 ∧ win0_1.index t (1 : Fin 2) = 0)
      ∧ win0_2.index t (0 : Fin 2) = 0 ∧ win0_2.index t (1 : Fin 2) = 0)
    ∧ (win0_3.index t (0 : Fin 2) = t.val ∧ win0_3.index t (1 : Fin 2) = 0 ∧ (cfg0.win 3).flush t = true)
    ∧ win0_4.index t (0 : Fin 2) = t.val ∧ win0_4.index t (1 : Fin 2) = 0 ∧ (cfg0.win 4).flush t = true :=
  (by decide +kernel : ∀ t : Fin grid0.N, _)

/-- The row a point's block holds. -/
def row (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem row_holds (i : Fin 4096) : row (holds i) ⟨i.val % 512, by omega⟩ = i := Fin.ext (by show i.val / 512 * 512 + i.val % 512 = i.val; omega)

variable (t : Fin cfg0.N) (r : Fin 512) (k : Fin 1024) (j : Fin 3200)

theorem inX : (iblk m c 0 t : FVec Ideal S512x1024 .f32) (ix2 r k) = argX m c (ix2 (row t r) k) := by
  unfold iblk; rw [View.read_apply]
  exact (congrArg (V m c _) (ext2 (moved (places t).1.1.1) (fixed (places t).1.1.2))).trans (congrFun kept0 _)

theorem inG : (iblk m c 1 t : FVec Ideal S1x1024 .f32) (ix2 0 k) = argG m c (ix2 0 k) := by
  unfold iblk; rw [View.read_apply]
  exact (congrArg (V m c _) (ext2 (fixed (places t).1.2.1.1) (fixed (places t).1.2.1.2))).trans (congrFun kept1 _)

theorem inW : (iblk m c 2 t : FVec Ideal S3200x1024 .bf16) (ix2 j k) = turn (fun b => argW m c (ix2 k b)) j := by
  unfold iblk; rw [View.read_apply]
  exact (congrArg (V m c _) (ext2 (fixed (places t).1.2.2.1) (fixed (places t).1.2.2.2))).trans (turned j k)

/-- The array of normalised rows. -/
abbrev arr3 (m : (ℓ : Loc nD τ sig) → Buf (Elt Ideal) ℓ) (c : Dev nD) : FVec Ideal S4096x1024 .bf16 := (dats m 0 c).arrAt 3 cfg0.N
/-- The array of products. -/
abbrev arr4 (m : (ℓ : Loc nD τ sig) → Buf (Elt Ideal) ℓ) (c : Dev nD) : FVec Ideal S4096x3200 .f32 := (dats m 0 c).arrAt 4 cfg0.N

theorem cell3 : arr3 m c (ix2 (row t r) k) = unit 1024 (fun a => argX m c (ix2 (row t r) a)) (fun a => argG m c (ix2 0 a)) k := by
  obtain ⟨-, ⟨f0, f1, ff⟩, -⟩ := places t
  refine (congrArg (arr3 m c) (ext2 (moved f0) (fixed f1)).symm).trans ((View.read_apply ..).symm.trans ((congrFun ((blocks3 m c t ff).trans (flushed3 m c t)) (ix2 r k)).trans ?_))
  show out0_3 _ _ _ (ix2 r k) = _
  unfold out0_3
  rw [canon2, ld2, ld2, pay1]
  simp only [inX, inG]

theorem cell4 : arr4 m c (ix2 (row t r) j)
    = ∑ k, unit 1024 (fun a => argX m c (ix2 (row t r) a)) (fun a => argG m c (ix2 0 a)) k * turn (fun b => argW m c (ix2 k b)) j := by
  obtain ⟨-, -, f0, f1, ff⟩ := places t
  refine (congrArg (arr4 m c) (ext2 (moved f0) (fixed f1)).symm).trans ((View.read_apply ..).symm.trans ((congrFun ((blocks4 m c t ff).trans (flushed4 m c t)) (ix2 r j)).trans ?_))
  show out0_4 _ _ _ (ix2 r j) = _
  unfold out0_4
  rw [canon2, ld2, ld2, ld2, pay2]
  simp only [inX, inG, inW]

/-- The normalised rows are the reference's. -/
theorem value3 : val_main_v16 (F := Ideal) (argX m c) (argG m c) = arr3 m c := by
  funext i
  idx_vars i
  have e := cell3 (m := m) (c := c) (holds i0) ⟨i0.val % 512, by omega⟩ i1
  rw [row_holds] at e
  rw [e, ref16]

/-- The products are the reference's. -/
theorem value4 : val_main_v18 (F := Ideal) (argX m c) (argG m c) (argW m c) = arr4 m c := by
  funext i
  idx_vars i
  have e := cell4 (m := m) (c := c) (holds i0) ⟨i0.val % 512, by omega⟩ i1
  rw [row_holds] at e
  rw [e, ref18]

end Cert.FwdInIdeal.Final

end
-- ==== Proof.FwdIn.Claims.lean ====
/- The claims about the input projection's forward call. -/
module

public import proofs.«01_k».proof.Defs
public import proofs.«01_k».proof.Proof.FwdIn.Value
public import proofs.«01_k».proof.Proof.Gen.InRefIdeal.Run
public import Idealize.ShloMosaic.Lib.Quiescent

@[expose] public section

set_option maxRecDepth 16384

noncomputable section

open Idealize.ShloMosaic Idealize.SL.Sem

namespace Cert.FwdInClaims

open Cert.FwdInIdeal.Final

/-- The reference runs to the end, keeps its arguments and has no counters. -/
theorem frame_ref : Cert.quiescent_InRefIdeal := fun m ρ _ =>
  (θ_run Cert.InRefIdeal.defs _ _).mono
    (fun r h => ⟨fun c => (h c).2.2, sem_eq_zero_of_no_sems (by decide) r.2⟩)
    (Cert.InRefIdeal.Value.run (F := Ideal) m ρ)

/-- The kernel's run gives the reference's results. -/
theorem value : Cert.algebraic_FwdInIdeal_InRefIdeal := by
  intro m ρ m' ρ' _ hargs
  refine ⟨_, _, Cert.FwdInIdeal.Value.run_blocks m ρ,
    (θ_run Cert.InRefIdeal.defs _ _).mono (fun r h c => ?_) (Cert.InRefIdeal.Value.run (F := Ideal) m' ρ')⟩
  obtain ⟨a0, a1, a2⟩ := hargs c
  obtain ⟨h0, h1, hkept⟩ := h c
  refine ⟨h0.trans ?_, h1.trans ?_, hkept⟩
  · refine (Cert.InRefIdeal.Read.val_main_v16_eq _ _).trans ?_
    rw [a0, a1]
    exact value3
  · refine (Cert.InRefIdeal.Read.val_main_v18_eq _ _ _).trans ?_
    rw [a0, a1, a2]
    exact value4

end Cert.FwdInClaims

end
-- ==== Proof.FwdMix.Pay.lean ====
/- The mixing's forward call, row by row over the extended reals: the call's payloads and the reference's values are the same functions of a row. -/
module

public import proofs.«01_k».proof.Proof.Gen.FwdMixIdeal.Value
public import proofs.«01_k».proof.Proof.Gen.MixRefIdeal.Read
public import proofs.«01_k».proof.Proof.Norm
public import proofs.«01_k».proof.Proof.At
public import Idealize.ShloMosaic.Lib.Tactic

@[expose] public section

set_option maxRecDepth 16384
set_option maxHeartbeats 1000000

noncomputable section

open Idealize.ShloMosaic Idealize.ShloMosaic.TcCoe Idealize.SL.Sem

namespace Cert.FwdMixIdeal.Rows

open Cert.Norm

/-- A token's row of the arguments. -/
structure Row where
  (a o hg : Fin 512 → EReal)
  x : Fin 1024 → EReal

/-- The gains and the weights. -/
structure Wts where
  g : Fin 512 → EReal
  wo : Fin 1024 → Fin 1024 → EReal
  gf : Fin 1024 → EReal
  (wg wu : Fin 1024 → Fin 2816 → EReal)
  wd : Fin 2816 → Fin 1024 → EReal

/-- A head's lane among the columns. -/
def col (h : Fin 4) (k : Fin 128) : Fin 512 := ⟨h.val * 128 + k.val, by omega⟩

variable (w : Wts) (r : Row)

/-- The heads' norm. -/
def on (h : Fin 4) (k : Fin 128) : EReal := unit 128 (fun b => r.o (col h b)) (fun b => w.g (col h b)) k
/-- The gated norm. -/
def gated (c : Fin 512) : EReal := on w r ⟨c.val / 128, by omega⟩ ⟨c.val % 128, by omega⟩ * (r.hg c * Ideal.logistic (r.hg c))
/-- The two halves side by side. -/
def cat (j : Fin 1024) : EReal := if h : j.val < 512 then r.a ⟨j.val, h⟩ else gated w r ⟨j.val - 512, by omega⟩
/-- The residual after the projection. -/
def x2 (j : Fin 1024) : EReal := r.x j + ∑ k, cat w r k * w.wo k j
/-- The layer's normalised input. -/
def hid (k : Fin 1024) : EReal := unit 1024 (x2 w r) w.gf k
/-- The gate's product. -/
def gp (f : Fin 2816) : EReal := ∑ k, hid w r k * w.wg k f
/-- The other product. -/
def up (f : Fin 2816) : EReal := ∑ k, hid w r k * w.wu k f
/-- The residual after the layer. -/
def x3 (j : Fin 1024) : EReal := x2 w r j + ∑ f, gp w r f * Ideal.logistic (gp w r f) * up w r f * w.wd f j

theorem gated_eq (c : Fin 512) (h : Fin 4) (k : Fin 128) (e : c.val = h.val * 128 + k.val) : gated w r c = on w r h k * (r.hg c * Ideal.logistic (r.hg c)) := by
  unfold gated
  rw [show (⟨c.val / 128, by omega⟩ : Fin 4) = h from Fin.ext (by show c.val / 128 = h.val; omega), show (⟨c.val % 128, by omega⟩ : Fin 128) = k from Fin.ext (by show c.val % 128 = k.val; omega)]

section Payloads

open Cert.FwdMixIdeal Cert.FwdMixIdeal.Gen

variable {o hg : FVec Ideal S512x512 .f32} {g : FVec Ideal S1x512 .f32} {a : FVec Ideal S512x512 .bf16} {x : FVec Ideal S512x1024 .f32} {wo : FVec Ideal S1024x1024 .bf16}
variable {gf : FVec Ideal S1x1024 .f32} {wg wu wd : FVec Ideal S2816x1024 .bf16} {w : Wts} {R : Fin 512 → Row}

/-- The call's two halves. -/
abbrev kcat (o hg : FVec Ideal S512x512 .f32) (g : FVec Ideal S1x512 .f32) (a : FVec Ideal S512x512 .bf16) : FVec Ideal S512x1024 .bf16 :=
  k0_pay12 o (k0_pay7 hg) g (k0_pay8 o g) (k0_pay9 o g) (k0_pay10 g) (k0_pay11 o) a
/-- The call's residual. -/
abbrev kx2 (o hg : FVec Ideal S512x512 .f32) (g : FVec Ideal S1x512 .f32) (a : FVec Ideal S512x512 .bf16) (x : FVec Ideal S512x1024 .f32) (wo : FVec Ideal S1024x1024 .bf16) : FVec Ideal S512x1024 .f32 :=
  k0_pay13 o (k0_pay7 hg) g (k0_pay8 o g) (k0_pay9 o g) (k0_pay10 g) (k0_pay11 o) a x wo
/-- Its root. -/
abbrev kroot (o hg : FVec Ideal S512x512 .f32) (g : FVec Ideal S1x512 .f32) (a : FVec Ideal S512x512 .bf16) (x : FVec Ideal S512x1024 .f32) (wo : FVec Ideal S1024x1024 .bf16) : FVec Ideal S512x1024 .f32 :=
  k0_pay14 o (k0_pay7 hg) g (k0_pay8 o g) (k0_pay9 o g) (k0_pay10 g) (k0_pay11 o) a x wo

variable (ho : ∀ r c, o (ix2 r c) = (R r).o c) (hh : ∀ r c, hg (ix2 r c) = (R r).hg c) (hn : ∀ c, g (ix2 0 c) = w.g c) (ha : ∀ r c, a (ix2 r c) = (R r).a c)
variable (hx : ∀ r j, x (ix2 r j) = (R r).x j) (hw : ∀ i j, wo (ix2 i j) = w.wo i j) (hf : ∀ j, gf (ix2 0 j) = w.gf j)
variable (hwg : ∀ k f, wg (ix2 f k) = w.wg k f) (hwu : ∀ k f, wu (ix2 f k) = w.wu k f) (hwd : ∀ f j, wd (ix2 f j) = w.wd f j)
variable (r : Fin 512) (k : Fin 128)

include ho hn in
theorem pay8 : k0_pay8 (F := Ideal) o g (ix2 r k) = on w (R r) 0 k := by
  have e (k : Fin 128) (p) : (⟨k.val, p⟩ : Fin 512) = col 0 k := Fin.ext (by simp [col])
  unfold on unit
  rw [← over_128_word, ← eps_word]
  pointwise [k0_pay8]
  simp only [ho, hn, e]

include ho hn in
theorem pay9 : k0_pay9 (F := Ideal) o g (ix2 r k) = on w (R r) 1 k := by
  have e (k : Fin 128) (p) : (⟨128 + k.val, p⟩ : Fin 512) = col 1 k := Fin.ext (by simp [col])
  unfold on unit
  rw [← over_128_word, ← eps_word]
  pointwise [k0_pay9]
  simp only [ho, hn, e]

include ho hn in
theorem pay11 : k0_pay11 (F := Ideal) o (ix2 r k) * k0_pay10 (F := Ideal) g (ix2 0 k) = on w (R r) 2 k := by
  have e (k : Fin 128) (p) : (⟨256 + k.val, p⟩ : Fin 512) = col 2 k := Fin.ext (by simp [col])
  unfold on unit
  rw [← over_128_word, ← eps_word]
  pointwise [k0_pay11, k0_pay10]
  simp only [ho, hn, e]

include ho hn hh ha in
theorem cat_at (j : Fin 1024) : kcat o hg g a (ix2 r j) = cat w (R r) j := by
  unfold cat
  pointwise [kcat, k0_pay12, k0_pay7]
  by_cases hj : j.val < 512
  · rw [dif_pos hj, dif_pos hj, ha]
  rw [dif_neg hj, dif_neg hj, hh]
  have e := gated_eq w (R r) ⟨j.val - 512, by omega⟩
  by_cases h0 : j.val - 512 < 128
  · rw [dif_pos h0, pay8 ho hn, e 0 ⟨j.val - 512, h0⟩ (by simp)]
  rw [dif_neg h0]
  by_cases h1 : j.val - 512 - 128 < 128
  · rw [dif_pos h1, pay9 ho hn, e 1 ⟨j.val - 512 - 128, h1⟩ (by simp; omega)]
  rw [dif_neg h1]
  by_cases h2 : j.val - 512 - 128 - 128 < 128
  · rw [dif_pos h2, pay11 ho hn, e 2 ⟨j.val - 512 - 128 - 128, h2⟩ (by simp; omega)]
  rw [dif_neg h2]
  have h3 : j.val - 512 - 128 - 128 - 128 < 128 := by omega
  have q (k : Fin 128) (p) : (⟨384 + k.val, p⟩ : Fin 512) = col 3 k := Fin.ext (by simp [col])
  rw [e 3 ⟨j.val - 512 - 128 - 128 - 128, h3⟩ (by simp; omega)]
  unfold on unit
  rw [← over_128_word, ← eps_word]
  simp only [ho, hn, q]
  rw [← q ⟨j.val - 512 - 128 - 128 - 128, h3⟩ (by simp; omega)]

include ho hn hh ha hx hw in
theorem x2_at (j : Fin 1024) : kx2 o hg g a x wo (ix2 r j) = x2 w (R r) j := by
  unfold x2
  pointwise [kx2, k0_pay13]
  rw [hx]
  simp only [cat_at ho hh hn ha, hw]

include ho hn hh ha hx hw hf in
theorem hid_at (j : Fin 1024) : k0_pay1 (F := Ideal) (kx2 o hg g a x wo) gf (kroot o hg g a x wo) (ix2 r j) = hid w (R r) j := by
  unfold hid unit
  rw [← over_width_word, ← eps_word]
  pointwise [k0_pay1, kroot, k0_pay14]
  simp only [x2_at ho hh hn ha hx hw, hf]

include ho hn hh ha hx hw hf hwg in
theorem gp_at (f : Fin 2816) : k0_pay4 (F := Ideal) (kx2 o hg g a x wo) gf (kroot o hg g a x wo) wg (ix2 r f) = gp w (R r) f := by
  unfold gp
  pointwise [k0_pay4, k0_pay2]
  simp only [hid_at ho hh hn ha hx hw hf, hwg]

include ho hn hh ha hx hw hf hwu in
theorem up_at (f : Fin 2816) : k0_pay5 (F := Ideal) (kx2 o hg g a x wo) gf (kroot o hg g a x wo) wu (ix2 r f) = up w (R r) f := by
  unfold up
  pointwise [k0_pay5, k0_pay3]
  simp only [hid_at ho hh hn ha hx hw hf, hwu]

include ho hn hh ha hx hw hf hwg hwu hwd in
theorem x3_at (j : Fin 1024) : k0_pay6 (F := Ideal) (kx2 o hg g a x wo) gf (kroot o hg g a x wo) wg wu wd (ix2 r j) = x3 w (R r) j := by
  unfold x3 gp up
  pointwise [k0_pay6, k0_pay2, k0_pay3]
  simp only [x2_at ho hh hn ha hx hw, hid_at ho hh hn ha hx hw hf, hwg, hwu, hwd]

end Payloads

end Cert.FwdMixIdeal.Rows

end
-- ==== Proof.FwdMix.Ref.lean ====
/- The reference of the mixing's forward call at an index. -/
module

public import proofs.«01_k».proof.Proof.FwdMix.Pay

@[expose] public section

set_option maxRecDepth 16384
set_option maxHeartbeats 1000000

noncomputable section

open Idealize.ShloMosaic Idealize.ShloMosaic.TcCoe Idealize.SL.Sem

namespace Cert.FwdMixIdeal.Rows

open Cert.Norm Cert.MixRefIdeal Cert.MixRefIdeal.Read

variable (a : FVec Ideal S4096x512 .bf16) (o : FVec Ideal S4096x512 .f32) (z : FVec Ideal S4096x3136 .f32) (g : FVec Ideal S1x512 .f32) (x : FVec Ideal S4096x1024 .f32)
variable (wo : FVec Ideal S1024x1024 .bf16) (gf : FVec Ideal S1x1024 .f32) (wg wu : FVec Ideal S1024x2816 .bf16) (wd : FVec Ideal S2816x1024 .bf16)

/-- A token's row of the arguments as launched. -/
def rowOf (r : Fin 4096) : Row := ⟨fun c => a (ix2 r c), fun c => o (ix2 r c), fun c => z (ix2 r ⟨2624 + c.val, by omega⟩), fun j => x (ix2 r j)⟩
/-- The gains and weights as launched. -/
def wtsOf : Wts := ⟨fun c => g (ix2 0 c), fun i j => wo (ix2 i j), fun j => gf (ix2 0 j), fun k f => wg (ix2 k f), fun k f => wu (ix2 k f), fun f j => wd (ix2 f j)⟩

variable (r : Fin 4096)

theorem ref2 (h : Fin 4) (k : Fin 128) : val_main_v2 (F := Ideal) o (ix3 r h k) = o (ix2 r (col h k)) := by
  pointwise [val_main_v2]
  congr 2 <;> apply Fin.ext <;> simp only [col] <;> omega

theorem ref3 (h : Fin 4) (k : Fin 128) : val_main_v3 (F := Ideal) g (ix2 h k) = g (ix2 0 (col h k)) := by
  pointwise [val_main_v3]
  congr 2

theorem ref16 (h : Fin 4) (k : Fin 128) : val_main_v16 (F := Ideal) o g (ix3 r h k) = on (wtsOf g wo gf wg wu wd) (rowOf a o z x r) h k := by
  unfold on unit
  rw [← eps_word]
  pointwise [val_main_v16, val_main_v15, val_main_v14, val_main_v13, val_main_v12, val_main_v11, val_main_v10, val_main_v9, val_main_v8, val_main_v7, val_main_v6, val_main_v5,
    val_main_v4, ref2, ref3, val_main_cst, val_main_cst_0, val_main_cst_1]
  rw [width128_word, Ideal.div_coe (by norm_num)]
  rfl

theorem ref20 (j : Fin 1024) : val_main_v20 (F := Ideal) a o z g (ix2 r j) = cat (wtsOf g wo gf wg wu wd) (rowOf a o z x r) j := by
  unfold cat
  have e := ref16 a o z g x wo gf wg wu wd r
  pointwise [val_main_v20, val_main_v0, val_main_v19, val_main_v18, val_main_v17, val_main_v1, val_main_call0_v0, val_main_call0_v1, val_main_call0_v2, val_main_call0_v3,
    val_main_call0_v4, val_main_call0_v5, val_main_call0_cst, val_main_call0_cst_0]
  by_cases hj : j.val < 512
  · rw [dif_pos hj, dif_pos hj]
    rfl
  rw [dif_neg hj, dif_neg hj]
  unfold gated
  rw [← e]
  rfl

theorem ref23 (j : Fin 1024) : val_main_v23 (F := Ideal) a o z g x wo (ix2 r j) = x2 (wtsOf g wo gf wg wu wd) (rowOf a o z x r) j := by
  unfold x2
  pointwise [val_main_v23, val_main_v22, val_main_v21]
  simp only [ref20 a o z g x wo gf wg wu wd]
  rfl

theorem ref35 (j : Fin 1024) : val_main_v35 (F := Ideal) a o z g x wo gf (ix2 r j) = hid (wtsOf g wo gf wg wu wd) (rowOf a o z x r) j := by
  unfold hid unit
  rw [← eps_word]
  pointwise [val_main_v35, val_main_v34, val_main_v33, val_main_v32, val_main_v31, val_main_v30, val_main_v29, val_main_v28, val_main_v27, val_main_v26, val_main_v25, val_main_v24,
    val_main_cst_2, val_main_cst_3, val_main_cst_4]
  rw [width_word, Ideal.div_coe (by norm_num)]
  simp only [ref23 a o z g x wo gf wg wu wd]
  rfl

theorem ref37 (f : Fin 2816) : val_main_v37 (F := Ideal) a o z g x wo gf wg (ix2 r f) = gp (wtsOf g wo gf wg wu wd) (rowOf a o z x r) f := by
  unfold gp
  pointwise [val_main_v37, val_main_v36]
  simp only [ref35 a o z g x wo gf wg wu wd]
  rfl

theorem ref39 (f : Fin 2816) : val_main_v39 (F := Ideal) a o z g x wo gf wu (ix2 r f) = up (wtsOf g wo gf wg wu wd) (rowOf a o z x r) f := by
  unfold up
  pointwise [val_main_v39, val_main_v38]
  simp only [ref35 a o z g x wo gf wg wu wd]
  rfl

theorem ref44 (j : Fin 1024) : val_main_v44 (F := Ideal) a o z g x wo gf wg wu wd (ix2 r j) = x3 (wtsOf g wo gf wg wu wd) (rowOf a o z x r) j := by
  unfold x3
  pointwise [val_main_v44, val_main_v43, val_main_v42, val_main_v41, val_main_v40, val_main_call1_v0, val_main_call1_v1, val_main_call1_v2, val_main_call1_v3,
    val_main_call1_v4, val_main_call1_v5, val_main_call1_cst, val_main_call1_cst_0]
  simp only [ref23 a o z g x wo gf wg wu wd, ref37 a o z g x wo gf wg wu wd, ref39 a o z g x wo gf wg wu wd]
  rfl

end Cert.FwdMixIdeal.Rows

end
-- ==== Proof.FwdMix.Value.lean ====
/- The mixing's forward call computes the five results its reference states, over any arguments. -/
module

public import proofs.«01_k».proof.Proof.FwdMix.Ref
public import proofs.«01_k».proof.Proof.Whole
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.FwdMixIdeal.Final

open Cert.FwdMixIdeal Cert.FwdMixIdeal.Gen Cert.FwdMixIdeal.Value Cert.FwdMixIdeal.Rows Cert.Whole Cert.At
open Cert.MixRefIdeal.Read

section Blocks

variable {F : FTy → Type} [FloatOps F] (m : (ℓ : Loc nD τ sig) → Buf (Elt F) ℓ) (c : Dev nD) (t : Fin cfg0.N)

/-- The residual a point leaves. -/
abbrev bx2 : FVec F S512x1024 .f32 :=
  k0_pay13 (iblk m c 1 t) (k0_pay7 (X0_2 m c t)) (iblk m c 3 t) (k0_pay8 (iblk m c 1 t) (iblk m c 3 t)) (k0_pay9 (iblk m c 1 t) (iblk m c 3 t)) (k0_pay10 (iblk m c 3 t)) (k0_pay11 (iblk m c 1 t))
    (iblk m c 0 t) (iblk m c 4 t) (iblk m c 5 t)
/-- Its root. -/
abbrev broot : FVec F S512x1024 .f32 :=
  k0_pay14 (iblk m c 1 t) (k0_pay7 (X0_2 m c t)) (iblk m c 3 t) (k0_pay8 (iblk m c 1 t) (iblk m c 3 t)) (k0_pay9 (iblk m c 1 t) (iblk m c 3 t)) (k0_pay10 (iblk m c 3 t)) (k0_pay11 (iblk m c 1 t))
    (iblk m c 0 t) (iblk m c 4 t) (iblk m c 5 t)

theorem left10 : (outsAt0 m c t).1 = bx2 m c t := by
  unfold outsAt0 out0_A_10
  rw [View.read_writes_eq_canon (h := fun y => cover0_A_10 ..)]
  unfold kernelRun0_A
  dsimp only
  sl_unfold_words
  simp only [canon2, cov2, View.readAt_eq_ld, ld2, Memref.IsWhole.read_unread, read_unread_whole]

theorem left11 : (outsAt0 m c t).2.1 = k0_pay12 (iblk m c 1 t) (k0_pay7 (X0_2 m c t)) (iblk m c 3 t) (k0_pay8 (iblk m c 1 t) (iblk m c 3 t)) (k0_pay9 (iblk m c 1 t) (iblk m c 3 t)) (k0_pay10 (iblk m c 3 t)) (k0_pay11 (iblk m c 1 t)) (iblk m c 0 t) := by
  unfold outsAt0 out0_A_11
  rw [View.read_writes_eq_canon (h := fun y => cover0_A_11 ..)]
  unfold kernelRun0_A
  dsimp only
  sl_unfold_words
  simp only [canon2, cov2, View.readAt_eq_ld, ld2, Memref.IsWhole.read_unread, read_unread_whole]

theorem left12 : (outsAt0 m c t).2.2.1 = k0_pay6 (bx2 m c t) (iblk m c 6 t) (broot m c t) (iblk m c 7 t) (iblk m c 8 t) (iblk m c 9 t) := by
  unfold outsAt0 out0_A_12
  rw [View.read_writes_eq_canon (h := fun y => cover0_A_12 ..)]
  unfold kernelRun0_A
  dsimp only
  sl_unfold_words
  simp only [canon2, cov2, View.readAt_eq_ld, ld2, Memref.IsWhole.read_unread, read_unread_whole]

theorem left13 : (outsAt0 m c t).2.2.2.1 = k0_pay4 (bx2 m c t) (iblk m c 6 t) (broot m c t) (iblk m c 7 t) := by
  unfold outsAt0 out0_A_13
  rw [View.read_writes_eq_canon (h := fun y => cover0_A_13 ..)]
  unfold kernelRun0_A
  dsimp only
  sl_unfold_words
  simp only [canon2, cov2, View.readAt_eq_ld, ld2, Memref.IsWhole.read_unread, read_unread_whole]

theorem left14 : (outsAt0 m c t).2.2.2.2 = k0_pay5 (bx2 m c t) (iblk m c 6 t) (broot m c t) (iblk m c 8 t) := by
  unfold outsAt0 out0_A_14
  rw [View.read_writes_eq_canon (h := fun y => cover0_A_14 ..)]
  unfold kernelRun0_A
  dsimp only
  sl_unfold_words
  simp only [canon2, cov2, View.readAt_eq_ld, ld2, Memref.IsWhole.read_unread, read_unread_whole]

end Blocks

variable {m : (ℓ : Loc nD τ sig) → Buf (Elt Ideal) ℓ} {c : Dev nD}

/-- A launch's gains and weights. -/
abbrev wts (m : (ℓ : Loc nD τ sig) → Buf (Elt Ideal) ℓ) (c : Dev nD) : Wts :=
  wtsOf (m (c.tc.loc main_arg3)) (m (c.tc.loc main_arg5)) (m (c.tc.loc main_arg6)) (m (c.tc.loc main_arg7)) (m (c.tc.loc main_arg8)) (m (c.tc.loc main_arg9))
/-- A launch's row. -/
abbrev rowAt (m : (ℓ : Loc nD τ sig) → Buf (Elt Ideal) ℓ) (c : Dev nD) (r : Fin 4096) : Row :=
  rowOf (m (c.tc.loc main_arg0)) (m (c.tc.loc main_arg1)) (m (c.tc.loc main_arg2)) (m (c.tc.loc main_arg4)) r

/-- The arguments the call reads as they are. -/
theorem kept : V m c main_arg0 = m (c.tc.loc main_arg0) ∧ V m c main_arg1 = m (c.tc.loc main_arg1) ∧ V m c main_arg3 = m (c.tc.loc main_arg3) ∧ V m c main_arg4 = m (c.tc.loc main_arg4)
    ∧ V m c main_arg5 = m (c.tc.loc main_arg5) ∧ V m c main_arg6 = m (c.tc.loc main_arg6) ∧ V m c main_arg9 = m (c.tc.loc main_arg9) := by
  refine ⟨?_, ?_, ?_, ?_, ?_, ?_, ?_⟩ <;> unfold V <;> after_reads_simp

/-- The gate's columns where the call reads them. -/
theorem turned (r : Fin 4096) (k : Fin 512) (K : Fin 3200) (hK : K.val = 2048 + k.val) :
    (V m c main_v3 : FVec Ideal S4096x3200 .f32) (ix2 r K) = (rowAt m c r).hg k := by
  unfold V
  after_reads_simp
  pointwise
  rw [dif_pos (show K.val < 2560 by omega)]
  after_reads_simp
  pointwise
  refine congrArg (fun a => (m (c.tc.loc main_arg2) : FVec Ideal S4096x3136 .f32) (ix2 r a)) ?_
  exact Fin.ext (by show 576 + K.val = 2624 + k.val; omega)

theorem turned4 (f : Fin 2816) (k : Fin 1024) : (V m c main_v4 : FVec Ideal S2816x1024 .bf16) (ix2 f k) = (wts m c).wg k f := by
  unfold V
  after_reads_simp
  pointwise
  rfl

theorem turned5 (f : Fin 2816) (k : Fin 1024) : (V m c main_v5 : FVec Ideal S2816x1024 .bf16) (ix2 f k) = (wts m c).wu k f := by
  unfold V
  after_reads_simp
  pointwise
  rfl

/-- Where the windows of rows lie. -/
theorem moves : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 4) ∧ win0_4.index t (0 : Fin 2) = t.val ∧ win0_4.index t (1 : Fin 2) = 0 :=
  (by decide +kernel : ∀ t : Fin grid0.N, _)

/-- The windows that stay. -/
theorem stays : ∀ t : Fin cfg0.N, (win0_3.index t (0 : Fin 2) = 0 ∧ win0_3.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ win0_9.index t (0 : Fin 2) = 0 ∧ win0_9.index t (1 : Fin 2) = 0 :=
  (by decide +kernel : ∀ t : Fin grid0.N, _)

/-- Where the results lie. -/
theorem ends : ∀ t : Fin cfg0.N, (win0_10.index t (0 : Fin 2) = t.val ∧ win0_10.index t (1 : Fin 2) = 0 ∧ (cfg0.win 10).flush t = true)
    ∧ (win0_11.index t (0 : Fin 2) = t.val ∧ win0_11.index t (1 : Fin 2) = 0 ∧ (cfg0.win 11).flush t = true) ∧ (win0_12.index t (0 : Fin 2) = t.val ∧ win0_12.index t (1 : Fin 2) = 0 ∧ (cfg0.win 12).flush t = true)
    ∧ (win0_13.index t (0 : Fin 2) = t.val ∧ win0_13.index t (1 : Fin 2) = 0 ∧ (cfg0.win 13).flush t = true) ∧ win0_14.index t (0 : Fin 2) = t.val ∧ win0_14.index t (1 : Fin 2) = 0 ∧ (cfg0.win 14).flush t = true :=
  (by decide +kernel : ∀ t : Fin grid0.N, _)

/-- The row a point's block holds. -/
def row (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem row_holds (i : Fin 4096) : row (holds i) ⟨i.val % 512, by omega⟩ = i := Fin.ext (by show i.val / 512 * 512 + i.val % 512 = i.val; omega)

variable (t : Fin cfg0.N) (r : Fin 512)

theorem in0 (k : Fin 512) : (iblk m c 0 t : FVec Ideal S512x512 .bf16) (ix2 r k) = (rowAt m c (row t r)).a k := by
  unfold iblk; rw [View.read_apply]
  exact (congrArg (V m c _) (ext2 (moved (moves t).1.1) (fixed (moves t).1.2))).trans (congrFun kept.1 _)

theorem in1 (k : Fin 512) : (iblk m c 1 t : FVec Ideal S512x512 .f32) (ix2 r k) = (rowAt m c (row t r)).o k := by
  unfold iblk; rw [View.read_apply]
  exact (congrArg (V m c _) (ext2 (moved (moves t).2.1.1) (fixed (moves t).2.1.2))).trans (congrFun kept.2.1 _)

theorem in2 (k : Fin 512) : (X0_2 m c t : FVec Ideal S512x512 .f32) (ix2 r k) = (rowAt m c (row t r)).hg k := by
  unfold X0_2 Pipeline.Window.fill
  rw [dif_pos (moved0_2 t _)]
  unfold iblk; rw [View.read_apply]
  exact (congrArg (V m c _) (ext2 (q := ⟨4 * 512 + k.val, by omega⟩) (moved (moves t).2.2.1.1) (moved (moves t).2.2.1.2))).trans (turned _ k _ (by simp))

theorem in4 (k : Fin 1024) : (iblk m c 4 t : FVec Ideal S512x1024 .f32) (ix2 r k) = (rowAt m c (row t r)).x k := by
  unfold iblk; rw [View.read_apply]
  exact (congrArg (V m c _) (ext2 (moved (moves t).2.2.2.1) (fixed (moves t).2.2.2.2))).trans (congrFun kept.2.2.2.1 _)

theorem in3 (k : Fin 512) : (iblk m c 3 t : FVec Ideal S1x512 .f32) (ix2 0 k) = (wts m c).g k := by
  unfold iblk; rw [View.read_apply]
  exact (congrArg (V m c _) (ext2 (fixed (stays t).1.1) (fixed (stays t).1.2))).trans (congrFun kept.2.2.1 _)

theorem in5 (i j : Fin 1024) : (iblk m c 5 t : FVec Ideal S1024x1024 .bf16) (ix2 i j) = (wts m c).wo i j := by
  unfold iblk; rw [View.read_apply]
  exact (congrArg (V m c _) (ext2 (fixed (stays t).2.1.1) (fixed (stays t).2.1.2))).trans (congrFun kept.2.2.2.2.1 _)

theorem in6 (j : Fin 1024) : (iblk m c 6 t : FVec Ideal S1x1024 .f32) (ix2 0 j) = (wts m c).gf j := by
  unfold iblk; rw [View.read_apply]
  exact (congrArg (V m c _) (ext2 (fixed (stays t).2.2.1.1) (fixed (stays t).2.2.1.2))).trans (congrFun kept.2.2.2.2.2.1 _)

theorem in7 (k : Fin 1024) (f : Fin 2816) : (iblk m c 7 t : FVec Ideal S2816x1024 .bf16) (ix2 f k) = (wts m c).wg k f := by
  unfold iblk; rw [View.read_apply]
  exact (congrArg (V m c _) (ext2 (fixed (stays t).2.2.2.1.1) (fixed (stays t).2.2.2.1.2))).trans (turned4 f k)

theorem in8 (k : Fin 1024) (f : Fin 2816) : (iblk m c 8 t : FVec Ideal S2816x1024 .bf16) (ix2 f k) = (wts m c).wu k f := by
  unfold iblk; rw [View.read_apply]
  exact (congrArg (V m c _) (ext2 (fixed (stays t).2.2.2.2.1.1) (fixed (stays t).2.2.2.2.1.2))).trans (turned5 f k)

theorem in9 (f : Fin 2816) (j : Fin 1024) : (iblk m c 9 t : FVec Ideal S2816x1024 .bf16) (ix2 f j) = (wts m c).wd f j := by
  unfold iblk; rw [View.read_apply]
  exact (congrArg (V m c _) (ext2 (fixed (stays t).2.2.2.2.2.1) (fixed (stays t).2.2.2.2.2.2))).trans (congrFun kept.2.2.2.2.2.2 _)

/-- A result. -/
abbrev arr (m : (ℓ : Loc nD τ sig) → Buf (Elt Ideal) ℓ) (c : Dev nD) (w : Fin cfg0.W) := (dats m 0 c).arrAt w cfg0.N

theorem cell10 (j : Fin 1024) : (arr m c 10 : FVec Ideal S4096x1024 .f32) (ix2 (row t r) j) = x2 (wts m c) (rowAt m c (row t r)) j := by
  obtain ⟨⟨f0, f1, ff⟩, -⟩ := ends t
  refine (congrArg (arr m c 10) (ext2 (moved f0) (fixed f1)).symm).trans ((View.read_apply ..).symm.trans ((congrFun ((blocks10 m c t ff).trans (flushed10 m c t)) (ix2 r j)).trans ?_))
  show (outsAt0 m c t).1 (ix2 r j) = _
  rw [left10]
  exact x2_at (R := fun r => rowAt m c (row t r)) (in1 t) (in2 t) (in3 t) (in0 t) (in4 t) (in5 t) r j

theorem cell11 (j : Fin 1024) : (arr m c 11 : FVec Ideal S4096x1024 .bf16) (ix2 (row t r) j) = cat (wts m c) (rowAt m c (row t r)) j := by
  obtain ⟨-, ⟨f0, f1, ff⟩, -⟩ := ends t
  refine (congrArg (arr m c 11) (ext2 (moved f0) (fixed f1)).symm).trans ((View.read_apply ..).symm.trans ((congrFun ((blocks11 m c t ff).trans (flushed11 m c t)) (ix2 r j)).trans ?_))
  show (outsAt0 m c t).2.1 (ix2 r j) = _
  rw [left11]
  exact cat_at (R := fun r => rowAt m c (row t r)) (in1 t) (in2 t) (in3 t) (in0 t) r j

theorem cell12 (j : Fin 1024) : (arr m c 12 : FVec Ideal S4096x1024 .f32) (ix2 (row t r) j) = x3 (wts m c) (rowAt m c (row t r)) j := by
  obtain ⟨-, -, ⟨f0, f1, ff⟩, -⟩ := ends t
  refine (congrArg (arr m c 12) (ext2 (moved f0) (fixed f1)).symm).trans ((View.read_apply ..).symm.trans ((congrFun ((blocks12 m c t ff).trans (flushed12 m c t)) (ix2 r j)).trans ?_))
  show (outsAt0 m c t).2.2.1 (ix2 r j) = _
  rw [left12]
  exact x3_at (R := fun r => rowAt m c (row t r)) (in1 t) (in2 t) (in3 t) (in0 t) (in4 t) (in5 t) (in6 t) (in7 t) (in8 t) (in9 t) r j

theorem cell13 (f : Fin 2816) : (arr m c 13 : FVec Ideal S4096x2816 .bf16) (ix2 (row t r) f) = gp (wts m c) (rowAt m c (row t r)) f := by
  obtain ⟨-, -, -, ⟨f0, f1, ff⟩, -⟩ := ends t
  refine (congrArg (arr m c 13) (ext2 (moved f0) (fixed f1)).symm).trans ((View.read_apply ..).symm.trans ((congrFun ((blocks13 m c t ff).trans (flushed13 m c t)) (ix2 r f)).trans ?_))
  show (outsAt0 m c t).2.2.2.1 (ix2 r f) = _
  rw [left13]
  exact gp_at (R := fun r => rowAt m c (row t r)) (in1 t) (in2 t) (in3 t) (in0 t) (in4 t) (in5 t) (in6 t) (in7 t) r f

theorem cell14 (f : Fin 2816) : (arr m c 14 : FVec Ideal S4096x2816 .bf16) (ix2 (row t r) f) = up (wts m c) (rowAt m c (row t r)) f := by
  obtain ⟨-, -, -, -, f0, f1, ff⟩ := ends t
  refine (congrArg (arr m c 14) (ext2 (moved f0) (fixed f1)).symm).trans ((View.read_apply ..).symm.trans ((congrFun ((blocks14 m c t ff).trans (flushed14 m c t)) (ix2 r f)).trans ?_))
  show (outsAt0 m c t).2.2.2.2 (ix2 r f) = _
  rw [left14]
  exact up_at (R := fun r => rowAt m c (row t r)) (in1 t) (in2 t) (in3 t) (in0 t) (in4 t) (in5 t) (in6 t) (in8 t) r f

/-- A result that is one function of its row, entry by entry, is any other array that is. -/
theorem whole {n : Nat} (A B : (⟨2, ![4096, n]⟩ : Shape).Idx → EReal) (f : Row → Fin n → EReal) (hA : ∀ r j, A (ix2 r j) = f (rowAt m c r) j)
    (hB : ∀ t r j, B (ix2 (row t r) j) = f (rowAt m c (row t r)) j) : A = B := by
  funext i
  obtain ⟨p, q, rfl⟩ : ∃ p q, i = ix2 p q := ⟨i 0, i 1, ext2 rfl rfl⟩
  have e := hB (holds p) ⟨p.val % 512, by omega⟩ q
  rw [row_holds] at e
  rw [e, hA]

theorem value10 : val_main_v23 (F := Ideal) (m (c.tc.loc main_arg0)) (m (c.tc.loc main_arg1)) (m (c.tc.loc main_arg2)) (m (c.tc.loc main_arg3)) (m (c.tc.loc main_arg4)) (m (c.tc.loc main_arg5)) = arr m c 10 :=
  whole (m := m) (c := c) _ _ (x2 (wts m c)) (fun r j => ref23 _ _ _ _ _ _ _ _ _ _ r j) cell10

theorem value11 : val_main_v45 (F := Ideal) (m (c.tc.loc main_arg0)) (m (c.tc.loc main_arg1)) (m (c.tc.loc main_arg2)) (m (c.tc.loc main_arg3)) = arr m c 11 :=
  whole (m := m) (c := c) _ _ (cat (wts m c)) (fun r j => ref20 _ _ _ _ (m (c.tc.loc main_arg4)) _ _ _ _ _ r j) cell11

theorem value12 : val_main_v44 (F := Ideal) (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) = arr m c 12 :=
  whole (m := m) (c := c) _ _ (x3 (wts m c)) (fun r j => ref44 _ _ _ _ _ _ _ _ _ _ r j) cell12

theorem value13 : val_main_v46 (F := Ideal) (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) = arr m c 13 :=
  whole (m := m) (c := c) _ _ (gp (wts m c)) (fun r j => ref37 _ _ _ _ _ _ _ _ _ _ r j) cell13

theorem value14 : val_main_v47 (F := Ideal) (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg8)) = arr m c 14 :=
  whole (m := m) (c := c) _ _ (up (wts m c)) (fun r j => ref39 _ _ _ _ _ _ _ _ _ _ r j) cell14

end Cert.FwdMixIdeal.Final

end
-- ==== Proof.FwdMix.Claims.lean ====
/- The claims about the mixing's forward call. -/
module

public import proofs.«01_k».proof.Defs
public import proofs.«01_k».proof.Proof.FwdMix.Value
public import proofs.«01_k».proof.Proof.Gen.MixRefIdeal.Run
public import Idealize.ShloMosaic.Lib.Quiescent

@[expose] public section

set_option maxRecDepth 16384

noncomputable section

open Idealize.ShloMosaic Idealize.SL.Sem

namespace Cert.FwdMixClaims

open Cert.FwdMixIdeal.Final Cert.MixRefIdeal.Read

/-- The reference runs to the end, keeps its arguments and has no counters. -/
theorem frame_ref : Cert.quiescent_MixRefIdeal := fun m ρ _ =>
  (θ_run Cert.MixRefIdeal.defs _ _).mono
    (fun r h => ⟨fun c => (h c).2.2.2.2.2, sem_eq_zero_of_no_sems (by decide) r.2⟩)
    (Cert.MixRefIdeal.Value.run (F := Ideal) m ρ)

/-- The kernel's run gives the reference's results. -/
theorem value : Cert.algebraic_FwdMixIdeal_MixRefIdeal := by
  intro m ρ m' ρ' _ hargs
  refine ⟨_, _, _, _, _, Cert.FwdMixIdeal.Value.run_blocks m ρ,
    (θ_run Cert.MixRefIdeal.defs _ _).mono (fun r h c => ?_) (Cert.MixRefIdeal.Value.run (F := Ideal) m' ρ')⟩
  obtain ⟨a0, a1, a2, a3, a4, a5, a6, a7, a8, a9⟩ := hargs c
  obtain ⟨h0, h1, h2, h3, h4, hkept⟩ := h c
  refine ⟨h0.trans ?_, h1.trans ?_, h2.trans ?_, h3.trans ?_, h4.trans ?_, hkept⟩
  · refine (val_main_v23_eq _ _ _ _ _ _).trans ?_
    rw [a0, a1, a2, a3, a4, a5]
    exact value10
  · refine (val_main_v45_eq _ _ _ _).trans ?_
    rw [a0, a1, a2, a3]
    exact value11
  · rw [val_main_v44_eq, a0, a1, a2, a3, a4, a5, a6, a7, a8, a9]
    exact value12
  · rw [val_main_v46_eq, a0, a1, a2, a3, a4, a5, a6, a7]
    exact value13
  · rw [val_main_v47_eq, a0, a1, a2, a3, a4, a5, a6, a8]
    exact value14

end Cert.FwdMixClaims

end
-- ==== Proof.FwdMla.Block.lean ====
/- The projections' forward call's block outputs, one head at a time. -/
module

public import proofs.«01_k».proof.Proof.Gen.FwdMlaIdeal.Value
public import proofs.«01_k».proof.Proof.Whole

@[expose] public section

set_option maxRecDepth 16384
set_option maxHeartbeats 1000000

noncomputable section

open Idealize.ShloMosaic Idealize.ShloMosaic.TcCoe Idealize.SL.Sem

namespace Cert.FwdMla.Block

open Cert.FwdMlaIdeal Cert.FwdMlaIdeal.Gen Cert.Whole

variable {F : FTy → Type} [FloatOps F] [Named F]

/-- The blocks a grid point reads, in the order of the windows. -/
structure Ins (F : FTy → Type) where
  x0 : FVec F S512x256 .f32
  x1 : FVec F S512x256 .f32
  x2 : FVec F S512x128 .f32
  x3 : FVec F S512x128 .f32
  x4 : FVec F S512x128 .f32
  x5 : FVec F S512x128 .f32
  x6 : FVec F S1x256 .f32
  x7 : FVec F S1x256 .f32
  x8 : FVec F S256x1024 .bf16
  x9 : FVec F S256x1024 .bf16
  x10 : FVec F S1x256 .f32
  x11 : FVec F S1x256 .f32

variable (x : Ins F)

/-- The two products. -/
def qs : FVec F S512x1024 .f32 := k0_pay2 x.x0 x.x6 x.x8
def kvs : FVec F S512x1024 .f32 := k0_pay3 x.x1 x.x7 x.x9

/-- A head's columns of a product: all, the first half, the second half. -/
def both (b : FVec F S512x1024 .f32) : Fin 4 → FVec F S512x256 .f32
  | 0 => extractStridedSlice S512x256 ![0, 0] b slices_S512x1024_o0_0_S512x256
  | 1 => extractStridedSlice S512x256 ![0, 256] b slices_S512x1024_o0_256_S512x256
  | 2 => extractStridedSlice S512x256 ![0, 512] b slices_S512x1024_o0_512_S512x256
  | 3 => extractStridedSlice S512x256 ![0, 768] b slices_S512x1024_o0_768_S512x256
def near (b : FVec F S512x1024 .f32) : Fin 4 → FVec F S512x128 .f32
  | 0 => extractStridedSlice S512x128 ![0, 0] b slices_S512x1024_o0_0_S512x128
  | 1 => extractStridedSlice S512x128 ![0, 256] b slices_S512x1024_o0_256_S512x128
  | 2 => extractStridedSlice S512x128 ![0, 512] b slices_S512x1024_o0_512_S512x128
  | 3 => extractStridedSlice S512x128 ![0, 768] b slices_S512x1024_o0_768_S512x128
def far (b : FVec F S512x1024 .f32) : Fin 4 → FVec F S512x128 .f32
  | 0 => extractStridedSlice S512x128 ![0, 128] b slices_S512x1024_o0_128_S512x128
  | 1 => extractStridedSlice S512x128 ![0, 384] b slices_S512x1024_o0_384_S512x128
  | 2 => extractStridedSlice S512x128 ![0, 640] b slices_S512x1024_o0_640_S512x128
  | 3 => extractStridedSlice S512x128 ![0, 896] b slices_S512x1024_o0_896_S512x128

/-- The root of the mean square, from a row's sum of squares. -/
def root (s : FVec F S512x1 .f32) : FVec F S512x1 .f32 :=
  rsqrt (addf (mulf s (broadcast S512x1 (Named.named κ "over_qk_head" 0x3BAAAAAB#32))) (broadcast S512x1 (Scalar.ofBits .f32 0x358637BD#32)))

/-- A row's sum of squares. -/
def squares (v : FVec F S512x128 .f32) : FVec F S512x1 .f32 :=
  shapeCast S512x1 (multiReduction .add [1] S512 (mulf v v) 0x00000000#32 reduces_S512x128_S512 (.inl rfl) rfl) shapeCasts_S512_S512x1

/-- A block normalised, with its gains. -/
def normed (v : FVec F S512x256 .f32) (g : FVec F S1x256 .f32) : FVec F S512x256 .f32 :=
  mulf (mulf v (broadcastTo S512x256 (root (shapeCast S512x1 (multiReduction .add [1] S512 (mulf v v) 0x00000000#32 reduces_S512x256_S512 (.inl rfl) rfl) shapeCasts_S512_S512x1))
    broadcasts_S512x1_S512x256)) (broadcastTo S512x256 g broadcasts_S1x256_S512x256)

/-- Half a block times its root and half the gains. -/
def scaled (v : FVec F S512x128 .f32) (s : FVec F S512x1 .f32) (g : FVec F S1x128 .f32) : FVec F S512x128 .f32 :=
  mulf (mulf v (broadcastTo S512x128 (root s) broadcasts_S512x1_S512x128)) (broadcastTo S512x128 g broadcasts_S1x128_S512x128)

/-- Columns turned by the tables. -/
def turned (v c a b : FVec F S512x128 .f32) : FVec F S512x128 .f32 :=
  addf (addf (mulf v c) (mulf (dynamicRotate 1 32#32 none v rotates_S512x128_d1) a)) (mulf (dynamicRotate 1 96#32 none v rotates_S512x128_d1) b)

/-- A plane of an output. -/
def plane (v : FVec F S512x128 .f32) : FVec F S1x512x128 .bf16 := shapeCast S1x512x128 (truncf .bf16 v bitsLt_bf16_f32) shapeCasts_S512x128_S1x512x128

/-- The shared columns, the tables and the gains, as the body holds them. -/
def kr : FVec F S512x128 .f32 := k0_pay4 x.x2
def tcs : FVec F S512x128 .f32 := k0_pay5 x.x3
def tas : FVec F S512x128 .f32 := k0_pay6 x.x4
def tbs : FVec F S512x128 .f32 := k0_pay7 x.x5
def gn : FVec F S1x256 .f32 := k0_pay8 x.x10
def gm : FVec F S1x256 .f32 := k0_pay9 x.x11

/-- A head's queries, keys and values. -/
def qn (h : Fin 4) : FVec F S512x256 .f32 := normed (both (qs x) h) (gn x)
def qlo (h : Fin 4) : FVec F S512x128 .f32 := extractStridedSlice S512x128 ![0, 0] (qn x h) slices_S512x256_o0_0_S512x128
def qhi (h : Fin 4) : FVec F S512x128 .f32 := turned (extractStridedSlice S512x128 ![0, 128] (qn x h) slices_S512x256_o0_128_S512x128) (tcs x) (tas x) (tbs x)
def sumsq (h : Fin 4) : FVec F S512x1 .f32 := addf (squares (near (kvs x) h)) (squares (kr x))
def klo (h : Fin 4) : FVec F S512x128 .f32 := scaled (near (kvs x) h) (sumsq x h) (extractStridedSlice S1x128 ![0, 0] (gm x) slices_S1x256_o0_0_S1x128)
def khi (h : Fin 4) : FVec F S512x128 .f32 :=
  turned (scaled (kr x) (sumsq x h) (extractStridedSlice S1x128 ![0, 128] (gm x) slices_S1x256_o0_128_S1x128)) (tcs x) (tas x) (tbs x)
def vs (h : Fin 4) : FVec F S512x128 .f32 := far (kvs x) h

/-- A plane among a head's 256 columns, and among its 128. -/
def wideP (h : Fin 4) (o : ℕ) (ho : o + 128 ≤ 256) (v : FVec F S512x128 .f32) : View.Piece (Elt F) S4x512x256 .bf16 :=
  ⟨Rect.unit (s := S4x512x256) ![h.val, 0, o] ![1, 512, 128] (fun a => by
    have := h.isLt
    match a with
    | ⟨0, _⟩ => show h.val + 1 ≤ 4; omega
    | ⟨1, _⟩ => show 0 + 512 ≤ 512; omega
    | ⟨2, _⟩ => show o + 128 ≤ 256; omega), plane v⟩
def slimP (h : Fin 4) (v : FVec F S512x128 .f32) : View.Piece (Elt F) S4x512x128 .bf16 :=
  ⟨Rect.unit (s := S4x512x128) ![h.val, 0, 0] ![1, 512, 128] (fun a => by
    have := h.isLt
    match a with
    | ⟨0, _⟩ => show h.val + 1 ≤ 4; omega
    | ⟨1, _⟩ => show 0 + 512 ≤ 512; omega
    | ⟨2, _⟩ => show 0 + 128 ≤ 128; omega), plane v⟩

/-- The four heads' planes. -/
def stackW (lo hi : Fin 4 → FVec F S512x128 .f32) : List (View.Piece (Elt F) S4x512x256 .bf16) :=
  [wideP 3 128 (by omega) (hi 3), wideP 3 0 (by omega) (lo 3), wideP 2 128 (by omega) (hi 2), wideP 2 0 (by omega) (lo 2),
   wideP 1 128 (by omega) (hi 1), wideP 1 0 (by omega) (lo 1), wideP 0 128 (by omega) (hi 0), wideP 0 0 (by omega) (lo 0)]
def stackS (v : Fin 4 → FVec F S512x128 .f32) : List (View.Piece (Elt F) S4x512x128 .bf16) := [slimP 3 (v 3), slimP 2 (v 2), slimP 1 (v 1), slimP 0 (v 0)]

theorem stackW_cover (lo hi : Fin 4 → FVec F S512x128 .f32) : ∀ y : S4x512x256.Idx, ∃ q ∈ stackW lo hi, y ∈ q.1.set :=
  View.cover_of_tiledL _ ![1, 512, 128] (by sl_kernel_rfl)
theorem stackS_cover (v : Fin 4 → FVec F S512x128 .f32) : ∀ y : S4x512x128.Idx, ∃ q ∈ stackS v, y ∈ q.1.set :=
  View.cover_of_tiledL _ ![1, 512, 128] (by sl_kernel_rfl)

/-- The payloads of the queries' stores, last head first. -/
theorem queries : k0_pay48 (k0_pay46 (qs x) (tcs x) (tas x) (gn x)) (k0_pay47 (qs x) (tbs x) (gn x)) = plane (qhi x 3) ∧ k0_pay44 (qs x) (gn x) = plane (qlo x 3)
    ∧ k0_pay36 (tcs x) (tas x) (tbs x) (gn x) (k0_pay33 (qs x)) = plane (qhi x 2) ∧ k0_pay35 (gn x) (k0_pay33 (qs x)) = plane (qlo x 2)
    ∧ k0_pay25 (qs x) (tcs x) (tas x) (tbs x) (gn x) = plane (qhi x 1) ∧ k0_pay24 (qs x) (gn x) = plane (qlo x 1)
    ∧ k0_pay16 (k0_pay14 (qs x) x.x3 x.x4 x.x10) (k0_pay15 (qs x) x.x5 x.x10) = plane (qhi x 0) ∧ k0_pay12 (qs x) x.x10 = plane (qlo x 0) :=
  ⟨rfl, rfl, rfl, rfl, rfl, rfl, rfl, rfl⟩

/-- The payloads of the keys' stores, last head first. -/
theorem keys : k0_pay52 (kvs x) (kr x) (tcs x) (tas x) (tbs x) (gm x) (k0_pay10 x.x2) = plane (khi x 3) ∧ k0_pay51 (kvs x) (gm x) (k0_pay10 x.x2) = plane (klo x 3)
    ∧ k0_pay41 (tcs x) (tas x) (tbs x) (k0_pay40 (kvs x) (kr x) (gm x) (k0_pay10 x.x2)) = plane (khi x 2) ∧ k0_pay39 (kvs x) (gm x) (k0_pay10 x.x2) = plane (klo x 2)
    ∧ k0_pay31 (kr x) (tcs x) (tas x) (tbs x) (gm x) (k0_pay27 (kvs x) (k0_pay10 x.x2)) k0_pay28 = plane (khi x 1)
    ∧ k0_pay30 (gm x) (k0_pay26 (kvs x)) (k0_pay27 (kvs x) (k0_pay10 x.x2)) k0_pay28 = plane (klo x 1)
    ∧ k0_pay20 (kvs x) (kr x) (tcs x) (tas x) (tbs x) (gm x) (k0_pay10 x.x2) = plane (khi x 0) ∧ k0_pay19 (kvs x) (gm x) (k0_pay10 x.x2) = plane (klo x 0) :=
  ⟨rfl, rfl, rfl, rfl, rfl, rfl, rfl, rfl⟩

/-- A piece with an equal payload is the same piece. -/
theorem same {h : Fin 4} {o : ℕ} (ho : o + 128 ≤ 256) {v : FVec F S512x128 .f32} {inb} {p : FVec F S1x512x128 .bf16} (e : p = plane v) :
    (⟨Rect.unit (s := S4x512x256) ![h.val, 0, o] ![1, 512, 128] inb, p⟩ : View.Piece (Elt F) S4x512x256 .bf16) = wideP h o ho v := by
  subst e; rfl

/-- Eight equal pieces are equal lists. -/
theorem eight {α : Type} {a b c d e f g h a' b' c' d' e' f' g' h' : α} (ha : a = a') (hb : b = b') (hc : c = c') (hd : d = d') (he : e = e') (hf : f = f') (hg : g = g') (hh : h = h') :
    [a, b, c, d, e, f, g, h] = [a', b', c', d', e', f', g', h'] := by
  subst ha hb hc hd he hf hg hh; rfl

variable (m : (ℓ : Loc nD τ sig) → Buf (Elt F) ℓ) (c : Dev nD) (t : Fin cfg0.N)

/-- What a grid point finds. -/
def insAt : Ins F :=
  ⟨X0_0 m c t, X0_1 m c t, iblk m c 2 t, iblk m c 3 t, iblk m c 4 t, iblk m c 5 t, iblk m c 6 t, iblk m c 7 t, iblk m c 8 t, iblk m c 9 t, iblk m c 10 t, iblk m c 11 t⟩

/-- What a grid point leaves: the planes of queries, of keys and of values. -/
theorem left12 : (outsAt0 m c t).1 = View.canon (stackW (qlo (insAt m c t)) (qhi (insAt m c t))) := by
  unfold outsAt0 out0_A_12
  dsimp only
  rw [View.read_writes_eq_canon (h := fun y => cover0_A_12 ..)]
  unfold kernelRun0_A
  dsimp only
  sl_unfold_words
  simp only [canon2, cov2, View.readAt_eq_ld, ld2, Memref.IsWhole.read_unread, read_unread_whole]
  unfold insAt
  generalize X0_0 m c t = y0, X0_1 m c t = y1, iblk m c 2 t = y2, iblk m c 3 t = y3, iblk m c 4 t = y4, iblk m c 5 t = y5, iblk m c 6 t = y6, iblk m c 7 t = y7,
    iblk m c 8 t = y8, iblk m c 9 t = y9, iblk m c 10 t = y10, iblk m c 11 t = y11
  obtain ⟨a3, b3, a2, b2, a1, b1, a0, b0⟩ := queries (⟨y0, y1, y2, y3, y4, y5, y6, y7, y8, y9, y10, y11⟩ : Ins F)
  exact congrArg View.canon (eight (same (h := 3) _ a3) (same (h := 3) _ b3) (same (h := 2) _ a2) (same (h := 2) _ b2)
    (same (h := 1) _ a1) (same (h := 1) _ b1) (same (h := 0) _ a0) (same (h := 0) _ b0))

theorem left13 : (outsAt0 m c t).2.1 = View.canon (stackW (klo (insAt m c t)) (khi (insAt m c t))) := by
  unfold outsAt0 out0_A_13
  dsimp only
  rw [View.read_writes_eq_canon (h := fun y => cover0_A_13 ..)]
  unfold kernelRun0_A
  dsimp only
  sl_unfold_words
  simp only [canon2, cov2, View.readAt_eq_ld, ld2, Memref.IsWhole.read_unread, read_unread_whole]
  unfold insAt
  generalize X0_0 m c t = y0, X0_1 m c t = y1, iblk m c 2 t = y2, iblk m c 3 t = y3, iblk m c 4 t = y4, iblk m c 5 t = y5, iblk m c 6 t = y6, iblk m c 7 t = y7,
    iblk m c 8 t = y8, iblk m c 9 t = y9, iblk m c 10 t = y10, iblk m c 11 t = y11
  obtain ⟨a3, b3, a2, b2, a1, b1, a0, b0⟩ := keys (⟨y0, y1, y2, y3, y4, y5, y6, y7, y8, y9, y10, y11⟩ : Ins F)
  exact congrArg View.canon (eight (same (h := 3) _ a3) (same (h := 3) _ b3) (same (h := 2) _ a2) (same (h := 2) _ b2)
    (same (h := 1) _ a1) (same (h := 1) _ b1) (same (h := 0) _ a0) (same (h := 0) _ b0))

theorem left14 : (outsAt0 m c t).2.2 = View.canon (stackS (vs (insAt m c t))) := by
  unfold outsAt0 out0_A_14
  dsimp only
  rw [View.read_writes_eq_canon (h := fun y => cover0_A_14 ..)]
  unfold kernelRun0_A
  dsimp only
  sl_unfold_words
  simp only [canon2, cov2, View.readAt_eq_ld, ld2, Memref.IsWhole.read_unread, read_unread_whole]
  rfl

end Cert.FwdMla.Block

end
-- ==== Proof.FwdMla.Rows.lean ====
/- The projections' forward call over extended reals, one row at a time. -/
module

public import proofs.«01_k».proof.Proof.BwdMla.Real

@[expose] public section

set_option maxRecDepth 16384
set_option maxHeartbeats 1000000

noncomputable section

open Idealize.ShloMosaic Idealize.ShloMosaic.TcCoe Idealize.SL.Sem

namespace Cert.FwdMla.Rows

open Cert.Norm
open Cert.BwdMla.Real (hd ln own hd_of ln_of)

/-- A row followed by zeros. -/
def wide {n N : ℕ} (f : Fin n → EReal) (j : Fin N) : EReal := if h : j.val < n then f ⟨j.val, h⟩ else 0

theorem wide_lt {n N : ℕ} (f : Fin n → EReal) (j : Fin N) (h : j.val < n) : wide f j = f ⟨j.val, h⟩ := dif_pos h
theorem wide_ge {n N : ℕ} (f : Fin n → EReal) (j : Fin N) (h : ¬ j.val < n) : wide f j = 0 := dif_neg h

theorem wide_mul {n N : ℕ} (f g : Fin n → EReal) (j : Fin N) : wide f j * wide g j = wide (fun k => f k * g k) j := by
  unfold wide; split <;> simp

theorem mul_wide {n N : ℕ} (a : EReal) (f : Fin n → EReal) (j : Fin N) : a * wide f j = wide (fun k => a * f k) j := by
  unfold wide; split <;> simp

theorem wide_mul_r {n N : ℕ} (a : EReal) (f : Fin n → EReal) (j : Fin N) : wide f j * a = wide (fun k => f k * a) j := by
  unfold wide; split <;> simp

theorem sum_wides {n N : ℕ} {ι : Type} (s : Finset ι) (f : ι → Fin n → EReal) (j : Fin N) : ∑ i ∈ s, wide (f i) j = wide (fun k => ∑ i ∈ s, f i k) j := by
  unfold wide; split <;> simp

theorem sum_wide {n : ℕ} (p : ℕ) (f : Fin n → EReal) : ∑ j : Fin (n + p), wide f j = ∑ j, f j := by
  rw [Fin.sum_univ_add]
  have e : ∑ j : Fin p, wide f (Fin.natAdd n j) = 0 := Finset.sum_eq_zero fun j _ => wide_ge _ _ (by simp)
  rw [e, add_zero]
  exact Finset.sum_congr rfl fun j _ => wide_lt f (Fin.castAdd p j) j.isLt

/-- The weights and the gains. -/
structure Wts where
  ga : Fin 256 → EReal
  gb : Fin 256 → EReal
  wq : Fin 256 → Fin 4 → Fin 192 → EReal
  wk : Fin 256 → Fin 1024 → EReal
  gn : Fin 192 → EReal
  gm : Fin 192 → EReal

/-- One row of the columns, and its angles' cosines and sines. -/
structure Row where
  cq : Fin 256 → EReal
  ckv : Fin 256 → EReal
  kr : Fin 64 → EReal
  c : Fin 32 → EReal
  s : Fin 32 → EReal

variable (w : Wts) (r : Row)

/-- The queries before their norm. -/
def q (h : Fin 4) (j : Fin 192) : EReal := ∑ l, unit 256 r.cq w.ga l * w.wq l h j

/-- The keys' own columns and the values. -/
def kv (d : Fin 1024) : EReal := ∑ l, unit 256 r.ckv w.gb l * w.wk l d

/-- The keys before their norm: own columns, then the shared ones. -/
def k (h : Fin 4) (j : Fin 192) : EReal := if e : j.val < 128 then kv w r (own h ⟨j.val, e⟩) else r.kr ⟨j.val - 128, by omega⟩

/-- The last 64 columns turned by the row's angles. -/
def turn (D : Fin 192 → EReal) (j : Fin 192) : EReal :=
  if j.val < 128 then D j
  else if e : j.val < 160 then D j * r.c ⟨j.val - 128, by omega⟩ - D ⟨j.val + 32, by omega⟩ * r.s ⟨j.val - 128, by omega⟩
  else D ⟨j.val - 32, by omega⟩ * r.s ⟨j.val - 160, by omega⟩ + D j * r.c ⟨j.val - 160, by omega⟩

/-- The queries' and the keys' results. -/
def Q (h : Fin 4) : Fin 192 → EReal := turn r (unit 192 (q w r h) w.gn)
def K (h : Fin 4) : Fin 192 → EReal := turn r (unit 192 (k w r h) w.gm)

/-- The three tables of a row's angles. -/
def tc (j : Fin 128) : EReal :=
  if h : j.val < 32 then r.c ⟨j.val, h⟩ else if h' : j.val < 64 then r.c ⟨j.val - 32, by omega⟩ else 0
def ta (j : Fin 128) : EReal := if j.val < 32 then 0 else if h' : j.val < 64 then r.s ⟨j.val - 32, by omega⟩ else 0
def tb (j : Fin 128) : EReal := if h : j.val < 32 then -r.s ⟨j.val, h⟩ else 0

/-- A key's squares: its own columns' and the shared ones'. -/
theorem sq_k (h : Fin 4) : ∑ j : Fin 128, kv w r (own h j) * kv w r (own h j) + ∑ j : Fin 128, wide r.kr j * wide r.kr j = ∑ j, k w r h j * k w r h j := by
  simp only [wide_mul]
  rw [sum_wide 64]
  show _ = ∑ j : Fin (128 + 64), k w r h j * k w r h j
  rw [Fin.sum_univ_add]
  refine congrArg₂ (· + ·) (Finset.sum_congr rfl fun j _ => ?_) (Finset.sum_congr rfl fun j _ => ?_)
  · have e : k w r h (Fin.castAdd 64 j) = kv w r (own h j) := by rw [k, dif_pos (show (Fin.castAdd 64 j).val < 128 from j.isLt)]; rfl
    rw [e]
  · have e : k w r h (Fin.natAdd 128 j) = r.kr j := by
      rw [k, dif_neg (show ¬ (Fin.natAdd 128 j).val < 128 by simp)]
      exact congrArg r.kr (Fin.ext (by simp))
    rw [e]

/-- The whole number nought as a float. -/
theorem no_int (t : FTy) : (FloatOps.sitofp (F := Ideal) t (0#32) : EReal) = 0 := by
  show (((((0#32 : BitVec 32).toInt : ℤ) : ℝ)) : EReal) = 0
  simp

end Cert.FwdMla.Rows

end
-- ==== Proof.FwdMla.Pay.lean ====
/- The projections' forward call's planes at an index. -/
module

public import proofs.«01_k».proof.Proof.FwdMla.Block
public import proofs.«01_k».proof.Proof.FwdMla.Rows
public import Idealize.ShloMosaic.Lib.Tactic
public import Idealize.ShloMosaic.Lib.Pipeline.ValueKit
public import Idealize.ShloMosaic.Lib.Pipeline.ValueKit.Tiles

@[expose] public section

set_option maxRecDepth 16384
set_option maxHeartbeats 1000000

noncomputable section

open Idealize.ShloMosaic Idealize.ShloMosaic.TcCoe Idealize.SL.Sem

namespace Cert.FwdMla.Pay

open Cert.FwdMlaIdeal Cert.FwdMlaIdeal.Gen Cert.Norm Cert.FwdMla Cert.FwdMla.Rows
open Cert.BwdMla.Real (hd ln own hd_of ln_of over_256_word)

/-- The blocks of a grid point hold these weights and rows. -/
structure Holds (x : Block.Ins Ideal) (w : Wts) (R : Fin 512 → Row) : Prop where
  cq : ∀ r j, x.x0 (ix2 r j) = (R r).cq j
  ckv : ∀ r j, x.x1 (ix2 r j) = (R r).ckv j
  kr : ∀ r j, x.x2 (ix2 r j) = wide (R r).kr j
  c : ∀ r j, x.x3 (ix2 r j) = tc (R r) j
  a : ∀ r j, x.x4 (ix2 r j) = ta (R r) j
  b : ∀ r j, x.x5 (ix2 r j) = tb (R r) j
  ga : ∀ j, x.x6 (ix2 0 j) = w.ga j
  gb : ∀ j, x.x7 (ix2 0 j) = w.gb j
  wq : ∀ l c, x.x8 (ix2 l c) = wide (w.wq l (hd c)) (ln c)
  wk : ∀ l c, x.x9 (ix2 l c) = w.wk l c
  gn : ∀ j, x.x10 (ix2 0 j) = wide w.gn j
  gm : ∀ j, x.x11 (ix2 0 j) = wide w.gm j

theorem over_192 : (Named.named κ "over_qk_head" 0x3BAAAAAB#32 : Ideal .f32) = ((1 / 192 : ℝ) : EReal) :=
  (show (Named.named κ "over_qk_head" 0x3BAAAAAB#32 : Ideal .f32) = ((192⁻¹ : ℝ) : EReal) from rfl).trans (congrArg _ (by norm_num))

variable {x : Block.Ins Ideal} {w : Wts} {R : Fin 512 → Row} (H : Holds x w R)
variable (h : Fin 4) (r : Fin 512) (j : Fin 256) (l : Fin 128) (d : Fin 1024)

include H in
theorem qs_at : Block.qs (F := Ideal) x (ix2 r d) = wide (q w (R r) (hd d)) (ln d) := by
  have e : wide (q w (R r) (hd d)) (ln d) = ∑ a, unit 256 (R r).cq w.ga a * wide (w.wq a (hd d)) (ln d) := by
    simp only [mul_wide, sum_wides]
    rfl
  rw [e]
  unfold Block.qs Norm.unit
  rw [← over_256_word, ← eps_word]
  pointwise [k0_pay2]
  simp only [H.cq, H.ga, H.wq]

include H in
theorem kvs_at : Block.kvs (F := Ideal) x (ix2 r d) = kv w (R r) d := by
  unfold Block.kvs kv Norm.unit
  rw [← over_256_word, ← eps_word]
  pointwise [k0_pay3]
  simp only [H.ckv, H.gb, H.wk]

include H in
theorem both_at : Block.both (Block.qs x) h (ix2 r j) = wide (q w (R r) h) j := by
  have e (c : Fin 1024) (hc : c.val = h.val * 256 + j.val) : Block.qs (F := Ideal) x (ix2 r c) = wide (q w (R r) h) j := by
    rw [qs_at H, hd_of c h j hc, ln_of c h j hc]
  match h with
  | 0 => pointwise [Block.both]; exact e _ (by simp)
  | 1 => pointwise [Block.both]; exact e _ (by simp)
  | 2 => pointwise [Block.both]; exact e _ (by simp)
  | 3 => pointwise [Block.both]; exact e _ (by simp)

include H in
theorem near_at : Block.near (Block.kvs x) h (ix2 r l) = kv w (R r) (own h l) := by
  have e (c : Fin 1024) (hc : c.val = h.val * 256 + l.val) : Block.kvs (F := Ideal) x (ix2 r c) = kv w (R r) (own h l) := by
    rw [kvs_at H, show c = own h l from Fin.ext hc]
  match h with
  | 0 => pointwise [Block.near]; exact e _ (by simp)
  | 1 => pointwise [Block.near]; exact e _ (by simp)
  | 2 => pointwise [Block.near]; exact e _ (by simp)
  | 3 => pointwise [Block.near]; exact e _ (by simp)

include H in
theorem vs_at : Block.vs x h (ix2 r l) = kv w (R r) ⟨h.val * 256 + (128 + l.val), by omega⟩ := by
  have e (g : Fin 4) (c : Fin 1024) (hc : c.val = g.val * 256 + (128 + l.val)) : Block.kvs (F := Ideal) x (ix2 r c) = kv w (R r) ⟨g.val * 256 + (128 + l.val), by omega⟩ := by
    rw [kvs_at H]
    exact congrArg _ (Fin.ext hc)
  unfold Block.vs
  match h with
  | 0 => pointwise [Block.far]; exact kvs_at H r _
  | 1 => pointwise [Block.far]; exact e 1 _ (by show 384 + l.val = 1 * 256 + (128 + l.val); omega)
  | 2 => pointwise [Block.far]; exact e 2 _ (by show 640 + l.val = 2 * 256 + (128 + l.val); omega)
  | 3 => pointwise [Block.far]; exact e 3 _ (by show 896 + l.val = 3 * 256 + (128 + l.val); omega)

include H in
theorem qn_at : Block.qn x h (ix2 r j) = wide (unit 192 (q w (R r) h) w.gn) j := by
  have g (j : Fin 256) : Block.gn x (ix2 0 j) = wide w.gn j := by
    unfold Block.gn
    pointwise [k0_pay8]
    exact H.gn j
  unfold Block.qn
  pointwise [Block.normed, Block.root]
  simp only [both_at H, g, over_192, eps_word, wide_mul]
  rw [show (∑ j : Fin 256, wide (fun k => q w (R r) h k * q w (R r) h k) j) = ∑ j, q w (R r) h j * q w (R r) h j from sum_wide 64 _]
  rw [wide_mul_r, wide_mul]
  rfl

/-- Turned columns, from the last 64 of a row. -/
theorem turned_at (H : Holds x w R) (v : FVec Ideal S512x128 .f32) (D : Fin 192 → EReal) (hv : ∀ l, v (ix2 r l) = wide (fun i : Fin 64 => D ⟨128 + i.val, by omega⟩) l) :
    Block.turned v (Block.tcs x) (Block.tas x) (Block.tbs x) (ix2 r l) = wide (fun i : Fin 64 => turn (R r) D ⟨128 + i.val, by omega⟩) l := by
  have ec (l : Fin 128) : Block.tcs x (ix2 r l) = tc (R r) l := by
    unfold Block.tcs
    pointwise [k0_pay5]
    exact H.c r l
  have ea (l : Fin 128) : Block.tas x (ix2 r l) = ta (R r) l := by
    unfold Block.tas
    pointwise [k0_pay6]
    exact H.a r l
  have eb (l : Fin 128) : Block.tbs x (ix2 r l) = tb (R r) l := by
    unfold Block.tbs
    pointwise [k0_pay7]
    exact H.b r l
  pointwise [Block.turned]
  simp only [hv, ec, ea, eb]
  unfold tc ta tb
  by_cases h1 : l.val < 32
  · rw [dif_pos h1, if_pos h1, dif_pos h1, wide_lt _ l (by omega), wide_lt _ l (by omega), wide_lt _ (⟨(l.val + 128 - 96) % 128, _⟩ : Fin 128) (by show (l.val + 128 - 96) % 128 < 64; omega)]
    rw [turn, if_neg (by show ¬ 128 + l.val < 128; omega), dif_pos (by show 128 + l.val < 160; omega)]
    simp only [show 128 + (l.val + 128 - 96) % 128 = 128 + l.val + 32 by omega, show 128 + l.val - 128 = l.val by omega, mul_zero, add_zero, mul_neg, sub_eq_add_neg]
  by_cases h2 : l.val < 64
  · rw [dif_neg h1, if_neg h1, dif_neg h1, dif_pos h2, dif_pos h2, wide_lt _ l h2, wide_lt _ l h2, wide_lt _ (⟨(l.val + 128 - 32) % 128, _⟩ : Fin 128) (by show (l.val + 128 - 32) % 128 < 64; omega)]
    rw [turn, if_neg (by show ¬ 128 + l.val < 128; omega), dif_neg (by show ¬ 128 + l.val < 160; omega)]
    simp only [show 128 + (l.val + 128 - 32) % 128 = 128 + l.val - 32 by omega, show 128 + l.val - 160 = l.val - 32 by omega, mul_zero, add_zero]
    exact add_comm _ _
  · rw [dif_neg h1, if_neg h1, dif_neg h1, dif_neg h2, dif_neg h2, wide_ge _ l h2, wide_ge _ l h2]
    simp only [mul_zero, add_zero]

include H in
theorem qlo_at : Block.qlo x h (ix2 r l) = Q w (R r) h ⟨l.val, by omega⟩ := by
  unfold Block.qlo
  pointwise
  rw [qn_at H, wide_lt _ _ (by show l.val < 192; omega), Q, turn, if_pos (by show l.val < 128; omega)]

include H in
theorem qhi_at : Block.qhi x h (ix2 r l) = wide (fun i : Fin 64 => Q w (R r) h ⟨128 + i.val, by omega⟩) l := by
  refine turned_at r l H _ _ fun l => ?_
  pointwise
  rw [qn_at H]
  unfold wide
  by_cases e : l.val < 64
  · rw [dif_pos e, dif_pos (by show 128 + l.val < 192; omega)]
  · rw [dif_neg e, dif_neg (by show ¬ 128 + l.val < 192; omega)]

include H in
theorem kr_at : Block.kr x (ix2 r l) = wide (R r).kr l := by
  unfold Block.kr
  pointwise [k0_pay4]
  exact H.kr r l

include H in
theorem gm_at : Block.gm x (ix2 0 j) = wide w.gm j := by
  unfold Block.gm
  pointwise [k0_pay9]
  exact H.gm j

include H in
theorem root_at : Block.root (Block.sumsq x h) (ix2 r 0) = Ideal.rsqrt ((∑ a, k w (R r) h a * k w (R r) h a) * ((1 / 192 : ℝ) : EReal) + (eps : EReal)) := by
  pointwise [Block.root, Block.sumsq, Block.squares]
  simp only [near_at H, kr_at H, over_192, eps_word]
  rw [sq_k]

include H in
theorem klo_at : Block.klo x h (ix2 r l) = K w (R r) h ⟨l.val, by omega⟩ := by
  unfold Block.klo
  pointwise [Block.scaled]
  rw [near_at H, root_at H, gm_at H, wide_lt _ _ (by show l.val < 192; omega), K, turn, if_pos (by show l.val < 128; omega), Norm.unit]
  have e : k w (R r) h ⟨l.val, by omega⟩ = kv w (R r) (own h l) := by rw [k, dif_pos l.isLt]
  rw [e]

include H in
theorem khi_at : Block.khi x h (ix2 r l) = wide (fun i : Fin 64 => K w (R r) h ⟨128 + i.val, by omega⟩) l := by
  refine turned_at r l H _ _ fun l => ?_
  pointwise [Block.scaled]
  rw [kr_at H, root_at H, gm_at H]
  unfold wide
  by_cases e : l.val < 64
  · rw [dif_pos e, dif_pos e, dif_pos (by show 128 + l.val < 192; omega)]
    unfold Norm.unit
    have e' : k w (R r) h ⟨128 + l.val, by omega⟩ = (R r).kr ⟨l.val, e⟩ := by
      rw [k, dif_neg (by show ¬ 128 + l.val < 128; omega)]
      exact congrArg (R r).kr (Fin.ext (by show 128 + l.val - 128 = l.val; omega))
    show _ = k w (R r) h ⟨128 + l.val, by omega⟩ * _ * _
    rw [e']
  · rw [dif_neg e, dif_neg e, zero_mul, zero_mul]

/-- A store of a plane, at an index in it. -/
theorem piece {N : ℕ} (F : Fin 4 → Fin 512 → Fin N → EReal) (h : Fin 4) (i : Fin 512) (c : Fin N) (g : Fin 4) (o : ℕ) (v : FVec Ideal S512x128 .f32)
    (hv : ∀ r (k : Fin 128) (c : Fin N), c.val = o + k.val → v (ix2 r k) = F g r c) :
    View.TileAt (Val := Elt Ideal) (S := ⟨3, ![4, 512, N]⟩) (e := .bf16) (ix3 h i c) ![g.val, 0, o] ![1, 512, 128] (Block.plane v) (F h i c) := by
  intro x hx
  obtain ⟨x0, x1, x2, rfl⟩ : ∃ (a : Fin 1) (b : Fin 512) (k : Fin 128), x = ix3 a b k := ⟨x 0, x 1, x 2, eq_ix3 x⟩
  have e0 : h.val = g.val + x0.val := hx 0
  have e1 : i.val = 0 + x1.val := hx 1
  have e2 : c.val = o + x2.val := hx 2
  obtain rfl : h = g := Fin.ext (by omega)
  obtain rfl : i = x1 := Fin.ext (by omega)
  show Block.plane v (ix3 x0 i x2) = _
  pointwise [Block.plane]
  exact hv _ _ _ e2

/-- Two halves of every head, at an index. -/
theorem stackW_at (lo hi : Fin 4 → FVec Ideal S512x128 .f32) (F : Fin 4 → Fin 512 → Fin 192 → EReal) (hlo : ∀ h r (l : Fin 128), lo h (ix2 r l) = F h r ⟨l.val, by omega⟩)
    (hhi : ∀ h r (l : Fin 128), hi h (ix2 r l) = wide (fun i : Fin 64 => F h r ⟨128 + i.val, by omega⟩) l) :
    View.canon (Block.stackW lo hi) (ix3 h r j) = wide (F h r) j := by
  have el (g : Fin 4) (r : Fin 512) (k : Fin 128) (c : Fin 256) (e : c.val = 0 + k.val) : lo g (ix2 r k) = wide (F g r) c := by
    rw [hlo, wide_lt _ _ (by omega)]
    exact congrArg _ (Fin.ext (by show k.val = c.val; omega))
  have eh (g : Fin 4) (r : Fin 512) (k : Fin 128) (c : Fin 256) (e : c.val = 128 + k.val) : hi g (ix2 r k) = wide (F g r) c := by
    rw [hhi]
    unfold wide
    by_cases e' : k.val < 64
    · rw [dif_pos e', dif_pos (by omega)]
      exact congrArg _ (Fin.ext e.symm)
    · rw [dif_neg e', dif_neg (by omega)]
  have l (g : Fin 4) := piece (fun h r => wide (F h r)) h r j g 0 (lo g) (el g)
  have u (g : Fin 4) := piece (fun h r => wide (F h r)) h r j g 128 (hi g) (eh g)
  refine View.canon_eq_of_allAt _ _ _ (Block.stackW_cover _ _ _) ?_
  exact View.allAt_cons_unit _ _ _ _ _ (u 3) (View.allAt_cons_unit _ _ _ _ _ (l 3) (View.allAt_cons_unit _ _ _ _ _ (u 2) (View.allAt_cons_unit _ _ _ _ _ (l 2)
    (View.allAt_cons_unit _ _ _ _ _ (u 1) (View.allAt_cons_unit _ _ _ _ _ (l 1) (View.allAt_cons_unit _ _ _ _ _ (u 0) (View.allAt_cons_unit _ _ _ _ _ (l 0) (View.allAt_nil _ _))))))))

include H in
/-- The values' planes at an index. -/
theorem stackS_at : View.canon (Block.stackS (Block.vs x)) (ix3 h r l) = kv w (R r) ⟨h.val * 256 + (128 + l.val), by omega⟩ := by
  have u (g : Fin 4) := piece (fun h r (l : Fin 128) => kv w (R r) ⟨h.val * 256 + (128 + l.val), by omega⟩) h r l g 0 (Block.vs x g) fun r k c e => by
    rw [vs_at H]
    exact congrArg _ (Fin.ext (by show _ = g.val * 256 + (128 + c.val); simp [e]))
  refine View.canon_eq_of_allAt _ _ _ (Block.stackS_cover _ _) ?_
  exact View.allAt_cons_unit _ _ _ _ _ (u 3) (View.allAt_cons_unit _ _ _ _ _ (u 2) (View.allAt_cons_unit _ _ _ _ _ (u 1) (View.allAt_cons_unit _ _ _ _ _ (u 0) (View.allAt_nil _ _))))

end Cert.FwdMla.Pay

end
-- ==== Proof.FwdMla.Ref.lean ====
/- The projections in the reference at an index. -/
module

public import proofs.«01_k».proof.Proof.Gen.MlaRefIdeal.Read
public import proofs.«01_k».proof.Proof.FwdMla.Rows
public import Idealize.ShloMosaic.Lib.Tactic
public import Idealize.ShloMosaic.Lib.Pipeline.ValueKit

@[expose] public section

set_option maxRecDepth 16384
set_option maxHeartbeats 1000000

noncomputable section

open Idealize.ShloMosaic Idealize.ShloMosaic.TcCoe Idealize.SL.Sem

namespace Cert.MlaRefIdeal.At

open Cert.MlaRefIdeal Cert.MlaRefIdeal.Read Cert.Norm Cert.FwdMla.Rows
open Cert.BwdMla.Real (own width256_word width192_word)

variable (z : FVec Ideal S4096x3136 .f32) (p : IVec S4096 32) (ga gb : FVec Ideal S1x256 .f32) (wq : FVec Ideal S256x768 .bf16) (wk : FVec Ideal S256x1024 .bf16)
variable (gn gm : FVec Ideal S1x192 .f32)

/-- The weights the arguments hold. -/
def wts : Wts where
  ga j := ga (ix2 0 j)
  gb j := gb (ix2 0 j)
  wq l h j := wq (ix2 l ⟨h.val * 192 + j.val, by omega⟩)
  wk l d := wk (ix2 l d)
  gn j := gn (ix2 0 j)
  gm j := gm (ix2 0 j)

/-- The row the arguments hold. -/
def row (r : Fin 4096) : Row where
  cq j := z (ix2 r ⟨j.val, by omega⟩)
  ckv j := z (ix2 r ⟨256 + j.val, by omega⟩)
  kr j := z (ix2 r ⟨512 + j.val, by omega⟩)
  c j := val_main_v16 (F := Ideal) p (ix2 r j)
  s j := val_main_v17 (F := Ideal) p (ix2 r j)

/-- What follows names the weights and the row so. -/
local notation "W" => wts ga gb wq wk gn gm
local notation "R" => row z p

variable (r : Fin 4096) (h : Fin 4) (j : Fin 192) (l : Fin 256) (d : Fin 1024) (i : Fin 256)

theorem v36 : val_main_v36 (F := Ideal) z ga (ix2 r l) = unit 256 (R r).cq (W).ga l := by
  unfold Norm.unit
  rw [← eps_word]
  pointwise [val_main_v36, val_main_v35, val_main_v34, val_main_v33, val_main_v32, val_main_v31, val_main_v30, val_main_cst_5, val_main_v29, val_main_v28, val_main_cst_4, val_main_v27, val_main_v26, val_main_cst_3, val_main_v25, val_main_v20]
  rw [width256_word, Ideal.div_coe (by norm_num)]
  rfl

theorem v38 : val_main_v38 (F := Ideal) z ga wq (ix3 r h j) = q W (R r) h j := by
  unfold q
  simp only [← v36 z p ga gb wq wk gn gm]
  pointwise [val_main_v38, val_main_v37, val_main_v23]
  rfl

theorem v50 : val_main_v50 (F := Ideal) z gb (ix2 r l) = unit 256 (R r).ckv (W).gb l := by
  unfold Norm.unit
  rw [← eps_word]
  pointwise [val_main_v50, val_main_v49, val_main_v48, val_main_v47, val_main_v46, val_main_v45, val_main_v44, val_main_cst_8, val_main_v43, val_main_v42, val_main_cst_7, val_main_v41, val_main_v40, val_main_cst_6, val_main_v39, val_main_v21]
  rw [width256_word, Ideal.div_coe (by norm_num)]
  rfl

theorem v51 : val_main_v51 (F := Ideal) z gb wk (ix2 r d) = kv W (R r) d := by
  unfold kv
  simp only [← v50 z p ga gb wq wk gn gm]
  pointwise [val_main_v51, val_main_v24]
  rfl

theorem v57 : val_main_v57 (F := Ideal) z gb wk (ix3 r h j) = k W (R r) h j := by
  unfold k
  simp only [← v51 z p ga gb wq wk gn gm]
  pointwise [val_main_v57, val_main_v53, val_main_v52, val_main_v56, val_main_v55, val_main_v22]
  rfl

theorem v70 : val_main_v70 (F := Ideal) z ga wq gn (ix3 r h j) = unit 192 (q W (R r) h) (W).gn j := by
  unfold Norm.unit
  rw [← eps_word]
  simp only [← v38 z p ga gb wq wk gn gm]
  pointwise [val_main_v70, val_main_v69, val_main_v68, val_main_v67, val_main_v66, val_main_v65, val_main_v64, val_main_v63, val_main_v62, val_main_v61, val_main_v60, val_main_v59, val_main_v58, val_main_cst_9, val_main_cst_10, val_main_cst_11]
  rw [width192_word, Ideal.div_coe (by norm_num)]
  rfl

theorem v83 : val_main_v83 (F := Ideal) z gb wk gm (ix3 r h j) = unit 192 (k W (R r) h) (W).gm j := by
  unfold Norm.unit
  rw [← eps_word]
  simp only [← v57 z p ga gb wq wk gn gm]
  pointwise [val_main_v83, val_main_v82, val_main_v81, val_main_v80, val_main_v79, val_main_v78, val_main_v77, val_main_v76, val_main_v75, val_main_v74, val_main_v73, val_main_v72, val_main_v71, val_main_cst_12, val_main_cst_13, val_main_cst_14]
  rw [width192_word, Ideal.div_coe (by norm_num)]
  rfl

/-- The turned row as the reference cuts and joins it. -/
theorem turn_form (x : Row) (D : Fin 192 → EReal) (j : Fin 192) :
    (if _e : j.val < 128 then D j
      else if e' : j.val - 128 < 32 then D ⟨128 + (j.val - 128), by omega⟩ * x.c ⟨j.val - 128, e'⟩ - D ⟨128 + (32 + (j.val - 128)), by omega⟩ * x.s ⟨j.val - 128, e'⟩
      else D ⟨128 + (j.val - 128 - 32), by omega⟩ * x.s ⟨j.val - 128 - 32, by omega⟩ + D ⟨128 + (32 + (j.val - 128 - 32)), by omega⟩ * x.c ⟨j.val - 128 - 32, by omega⟩) = turn x D j := by
  unfold turn
  by_cases h0 : j.val < 128
  · rw [dif_pos h0, if_pos h0]
  rw [dif_neg h0, if_neg h0]
  by_cases h1 : j.val < 160
  · rw [dif_pos (by omega), dif_pos h1]
    simp only [show 128 + (32 + (j.val - 128)) = j.val + 32 by omega, show 128 + (j.val - 128) = j.val by omega]
  · rw [dif_neg (by omega), dif_neg h1]
    simp only [show j.val - 128 - 32 = j.val - 160 by omega, show 128 + (32 + (j.val - 160)) = j.val by omega, show 128 + (j.val - 160) = j.val - 32 by omega]

theorem v99 : val_main_v99 (F := Ideal) z p ga wq gn (ix3 r h j) = Q W (R r) h j := by
  unfold Q
  rw [← turn_form]
  simp only [← v70 z p ga gb wq wk gn gm]
  pointwise [val_main_v99, val_main_v98, val_main_v97, val_main_v96, val_main_v95, val_main_v94, val_main_v93, val_main_v92, val_main_v91, val_main_v90, val_main_v89, val_main_v88, val_main_v87, val_main_v86, val_main_v85, val_main_v84, val_main_v18, val_main_v19]
  rfl

theorem v115 : val_main_v115 (F := Ideal) z p gb wk gm (ix3 r h j) = K W (R r) h j := by
  unfold K
  rw [← turn_form]
  simp only [← v83 z p ga gb wq wk gn gm]
  pointwise [val_main_v115, val_main_v114, val_main_v113, val_main_v112, val_main_v111, val_main_v110, val_main_v109, val_main_v108, val_main_v107, val_main_v106, val_main_v105, val_main_v104, val_main_v103, val_main_v102, val_main_v101, val_main_v100, val_main_v18, val_main_v19]
  rfl

/-- The three results. -/
theorem v118 : val_main_v118 (F := Ideal) z p ga wq gn (ix3 h r i) = wide (Q W (R r) h) i := by
  unfold wide
  simp only [← v99 z p ga gb wq wk gn gm]
  pointwise [val_main_v118, val_main_v117, val_main_v116, val_main_call0_v0, val_main_c]
  simp only [no_int]

theorem v121 : val_main_v121 (F := Ideal) z p gb wk gm (ix3 h r i) = wide (K W (R r) h) i := by
  unfold wide
  simp only [← v115 z p ga gb wq wk gn gm]
  pointwise [val_main_v121, val_main_v120, val_main_v119, val_main_call1_v0, val_main_c_15]
  simp only [no_int]

theorem v123 (e : Fin 128) : val_main_v123 (F := Ideal) z gb wk (ix3 h r e) = kv W (R r) ⟨h.val * 256 + (128 + e.val), by omega⟩ := by
  rw [← v51 z p ga gb wq wk gn gm]
  pointwise [val_main_v123, val_main_v122, val_main_v54, val_main_v52]

end Cert.MlaRefIdeal.At

end
-- ==== Proof.FwdMla.Value.lean ====
/- The projections' forward call computes the three results its reference states, over any arguments. -/
module

public import proofs.«01_k».proof.Proof.FwdMla.Pay
public import proofs.«01_k».proof.Proof.FwdMla.Ref
public import proofs.«01_k».proof.Proof.At
public import Idealize.ShloMosaic.Lib.StableHlo.ReadAt

@[expose] public section

set_option maxRecDepth 16384
set_option maxHeartbeats 1000000

noncomputable section

open Idealize.ShloMosaic Idealize.ShloMosaic.TcCoe Idealize.SL.Sem

namespace Cert.FwdMla.Final

open Cert.FwdMlaIdeal Cert.FwdMlaIdeal.Gen Cert.FwdMlaIdeal.Value Cert.FwdMla.Rows Cert.At
open Cert.BwdMla.Real (hd ln own)
open Cert.MlaRefIdeal.At (wts row)

variable {m : (ℓ : Loc nD τ sig) → Buf (Elt Ideal) ℓ} {c : Dev nD}

/-- The arguments, as launched. -/
abbrev argZ (m : (ℓ : Loc nD τ sig) → Buf (Elt Ideal) ℓ) (c : Dev nD) : FVec Ideal S4096x3136 .f32 := m (c.tc.loc main_arg0)
abbrev argP (m : (ℓ : Loc nD τ sig) → Buf (Elt Ideal) ℓ) (c : Dev nD) : IVec S4096 32 := m (c.tc.loc main_arg1)
abbrev argGA (m : (ℓ : Loc nD τ sig) → Buf (Elt Ideal) ℓ) (c : Dev nD) : FVec Ideal S1x256 .f32 := m (c.tc.loc main_arg2)
abbrev argGB (m : (ℓ : Loc nD τ sig) → Buf (Elt Ideal) ℓ) (c : Dev nD) : FVec Ideal S1x256 .f32 := m (c.tc.loc main_arg3)
abbrev argWQ (m : (ℓ : Loc nD τ sig) → Buf (Elt Ideal) ℓ) (c : Dev nD) : FVec Ideal S256x768 .bf16 := m (c.tc.loc main_arg4)
abbrev argWK (m : (ℓ : Loc nD τ sig) → Buf (Elt Ideal) ℓ) (c : Dev nD) : FVec Ideal S256x1024 .bf16 := m (c.tc.loc main_arg5)
abbrev argGN (m : (ℓ : Loc nD τ sig) → Buf (Elt Ideal) ℓ) (c : Dev nD) : FVec Ideal S1x192 .f32 := m (c.tc.loc main_arg6)
abbrev argGM (m : (ℓ : Loc nD τ sig) → Buf (Elt Ideal) ℓ) (c : Dev nD) : FVec Ideal S1x192 .f32 := m (c.tc.loc main_arg7)

/-- The weights and the rows they hold. -/
abbrev wOf (m : (ℓ : Loc nD τ sig) → Buf (Elt Ideal) ℓ) (c : Dev nD) : Wts := wts (argGA m c) (argGB m c) (argWQ m c) (argWK m c) (argGN m c) (argGM m c)
abbrev rOf (m : (ℓ : Loc nD τ sig) → Buf (Elt Ideal) ℓ) (c : Dev nD) (r : Fin 4096) : Row := Cert.MlaRefIdeal.At.row (argZ m c) (argP m c) r

/-- The columns the kernel reads, in the kernel's order. -/
theorem turned (r : Fin 4096) (K : Fin 3200) (a : Fin 3136) (h : a.val < 576) (hK : K.val = 2560 + a.val) :
    (V m c main_v29 : FVec Ideal S4096x3200 .f32) (ix2 r K) = argZ m c (ix2 r a) := by
  unfold V
  after_reads_simp
  pointwise
  rw [dif_neg (show ¬ K.val < 2560 by omega)]
  after_reads_simp
  pointwise
  rw [dif_pos (show K.val - 2560 < 576 by omega)]
  refine congrArg (fun a => argZ m c (ix2 r a)) ?_
  exact Fin.ext (by show K.val - 2560 = a.val; omega)

/-- The columns past them are zeros. -/
theorem past (r : Fin 4096) (K : Fin 3200) (hK : 3136 ≤ K.val) : (V m c main_v29 : FVec Ideal S4096x3200 .f32) (ix2 r K) = (0 : EReal) := by
  unfold V
  after_reads_simp
  pointwise
  rw [dif_neg (show ¬ K.val < 2560 by omega)]
  after_reads_simp
  pointwise
  rw [dif_neg (show ¬ K.val - 2560 < 576 by omega)]

/-- The gains, padded. -/
theorem paddedGN (j : Fin 256) : (V m c main_v30 : FVec Ideal S1x256 .f32) (ix2 0 j) = wide (wOf m c).gn j := by
  unfold V
  after_reads_simp
  show Idealize.ShloMosaic.pad S1x256 ![0, 0] ![0, 64] ![0, 0] (argGN m c) (sitofp .f32 (constantI S_ 32 0#32)) pads_S1x192_S1x256_000_0640 h_S_ (ix2 0 j) = _
  pointwise
  simp only [no_int]
  rfl

theorem paddedGM (j : Fin 256) : (V m c main_v31 : FVec Ideal S1x256 .f32) (ix2 0 j) = wide (wOf m c).gm j := by
  unfold V
  after_reads_simp
  show Idealize.ShloMosaic.pad S1x256 ![0, 0] ![0, 64] ![0, 0] (argGM m c) (sitofp .f32 (constantI S_ 32 0#32)) pads_S1x192_S1x256_000_0640 h_S_ (ix2 0 j) = _
  pointwise
  simp only [no_int]
  rfl

/-- The queries' weights, each head padded. -/
theorem paddedWQ (l : Fin 256) (d : Fin 1024) : (V m c main_v25 : FVec Ideal S256x1024 .bf16) (ix2 l d) = wide ((wOf m c).wq l (hd d)) (ln d) := by
  unfold wide
  unfold V
  after_reads_simp
  pointwise
  show Idealize.ShloMosaic.pad S256x4x256 ![0, 0, 0] ![0, 0, 64] ![0, 0, 0] (fun i : S256x4x192.Idx => argWQ m c (ix2 (i 0) ⟨(i 1).val * 192 + (i 2).val, by have h1 : (i 1).val < 4 := (i 1).isLt; have h2 : (i 2).val < 192 := (i 2).isLt; omega⟩)) (sitofp .bf16 (constantI S_ 32 0#32)) pads_S256x4x192_S256x4x256_000_000_0640 h_S_ (ix3 l (hd d) (ln d)) = _
  pointwise
  split
  · rfl
  · exact no_int _

/-- The table of cosines. -/
theorem table_c (r : Fin 4096) (j : Fin 128) : (V m c main_v19 : FVec Ideal S4096x128 .f32) (ix2 r j) = tc (rOf m c r) j := by
  unfold V
  after_reads_simp
  pointwise
  unfold tc
  by_cases h0 : j.val < 32
  · rw [dif_pos h0, dif_pos h0]
    after_reads_simp
    rfl
  rw [dif_neg h0, dif_neg h0]
  by_cases h1 : j.val < 64
  · rw [dif_pos (by omega), dif_pos h1]
    after_reads_simp
    rfl
  rw [dif_neg (by omega), dif_neg h1]
  by_cases h2 : j.val - 32 - 32 < 32
  · rw [dif_pos h2]
    after_reads_simp
    pointwise
  · rw [dif_neg h2]
    after_reads_simp
    pointwise

/-- The table of the sines added. -/
theorem table_a (r : Fin 4096) (j : Fin 128) : (V m c main_v20 : FVec Ideal S4096x128 .f32) (ix2 r j) = ta (rOf m c r) j := by
  unfold V
  after_reads_simp
  pointwise
  unfold ta
  by_cases h0 : j.val < 32
  · rw [dif_pos h0, if_pos h0]
    after_reads_simp
    pointwise
  rw [dif_neg h0, if_neg h0]
  by_cases h1 : j.val < 64
  · rw [dif_pos (by omega), dif_pos h1]
    after_reads_simp
    rfl
  rw [dif_neg (by omega), dif_neg h1]
  by_cases h2 : j.val - 32 - 32 < 32
  · rw [dif_pos h2]
    after_reads_simp
    pointwise
  · rw [dif_neg h2]
    after_reads_simp
    pointwise

/-- The table of the sines subtracted. -/
theorem table_b (r : Fin 4096) (j : Fin 128) : (V m c main_v22 : FVec Ideal S4096x128 .f32) (ix2 r j) = tb (rOf m c r) j := by
  unfold V
  after_reads_simp
  pointwise
  unfold tb
  by_cases h0 : j.val < 32
  · rw [dif_pos h0, dif_pos h0]
    after_reads_simp
    rfl
  rw [dif_neg h0, dif_neg h0]
  by_cases h1 : j.val - 32 < 32
  · rw [dif_pos h1]
    after_reads_simp
    pointwise
  rw [dif_neg h1]
  by_cases h2 : j.val - 32 - 32 < 32
  · rw [dif_pos h2]
    after_reads_simp
    pointwise
  · rw [dif_neg h2]
    after_reads_simp
    pointwise

/-- A point's row among all. -/
def rowAt (t : Fin cfg0.N) (r : Fin 512) : Fin 4096 :=
  ⟨t.val * 512 + r.val, by have := lt_of_lt_of_eq t.isLt (show cfg0.N = 8 from N_0); omega⟩

/-- The point that holds a row. -/
def holds (i : Fin 4096) : Fin cfg0.N := ⟨i.val / 512, lt_of_lt_of_eq (by omega) (show 8 = cfg0.N from N_0.symm)⟩

theorem rowAt_holds (i : Fin 4096) : rowAt (holds i) ⟨i.val % 512, by omega⟩ = i := Fin.ext (by show i.val / 512 * 512 + i.val % 512 = i.val; omega)

/-- Where the windows lie. -/
theorem places : ∀ t : Fin cfg0.N, ((win0_0.index t (0 : Fin 2) = t.val ∧ win0_0.index t (1 : Fin 2) = 10) ∧ (win0_1.index t (0 : Fin 2) = t.val ∧ win0_1.index t (1 : Fin 2) = 11)
      ∧ win0_2.index t (0 : Fin 2) = t.val ∧ win0_2.index t (1 : Fin 2) = 24)
    ∧ ((win0_3.index t (0 : Fin 2) = t.val ∧ win0_3.index t (1 : Fin 2) = 0) ∧ (win0_4.index t (0 : Fin 2) = t.val ∧ win0_4.index t (1 : Fin 2) = 0)
      ∧ win0_5.index t (0 : Fin 2) = t.val ∧ win0_5.index t (1 : Fin 2) = 0) :=
  (by decide +kernel : ∀ t : Fin grid0.N, _)
theorem fixedPlaces : ∀ t : Fin cfg0.N, ((win0_6.index t (0 : Fin 2) = 0 ∧ win0_6.index t (1 : Fin 2) = 0) ∧ (win0_7.index t (0 : Fin 2) = 0 ∧ win0_7.index t (1 : Fin 2) = 0)
      ∧ win0_8.index t (0 : Fin 2) = 0 ∧ win0_8.index t (1 : Fin 2) = 0)
    ∧ ((win0_9.index t (0 : Fin 2) = 0 ∧ win0_9.index t (1 : Fin 2) = 0) ∧ (win0_10.index t (0 : Fin 2) = 0 ∧ win0_10.index t (1 : Fin 2) = 0)
      ∧ win0_11.index t (0 : Fin 2) = 0 ∧ win0_11.index t (1 : Fin 2) = 0) :=
  (by decide +kernel : ∀ t : Fin grid0.N, _)
theorem outPlaces : ∀ t : Fin cfg0.N, (win0_12.index t (0 : Fin 3) = 0 ∧ win0_12.index t (1 : Fin 3) = t.val ∧ win0_12.index t (2 : Fin 3) = 0 ∧ (cfg0.win 12).flush t = true)
    ∧ (win0_13.index t (0 : Fin 3) = 0 ∧ win0_13.index t (1 : Fin 3) = t.val ∧ win0_13.index t (2 : Fin 3) = 0 ∧ (cfg0.win 13).flush t = true)
    ∧ win0_14.index t (0 : Fin 3) = 0 ∧ win0_14.index t (1 : Fin 3) = t.val ∧ win0_14.index t (2 : Fin 3) = 0 ∧ (cfg0.win 14).flush t = true :=
  (by decide +kernel : ∀ t : Fin grid0.N, _)

theorem kept2 : V m c main_arg2 = argGA m c := by
  unfold V
  after_reads_simp

theorem kept3 : V m c main_arg3 = argGB m c := by
  unfold V
  after_reads_simp

theorem kept5 : V m c main_arg5 = argWK m c := by
  unfold V
  after_reads_simp

variable (t : Fin cfg0.N)

/-- The three column blocks of a point's rows. -/
theorem in0 (r : Fin 512) (k : Fin 256) : (X0_0 m c t : FVec Ideal S512x256 .f32) (ix2 r k) = (rOf m c (rowAt t r)).cq k := by
  have e (K : Fin 3200) (hK : K.val = 10 * 256 + k.val) : (X0_0 m c t : FVec Ideal S512x256 .f32) (ix2 r k) = V m c main_v29 (ix2 (rowAt t r) K) := by
    unfold X0_0 Pipeline.Window.fill
    rw [dif_pos (moved0_0 t _)]
    unfold iblk
    rw [View.read_apply]
    exact congrArg (V m c main_v29) (ext2 (moved (places t).1.1.1) ((moved (places t).1.1.2).trans hK.symm))
  rw [e ⟨10 * 256 + k.val, by omega⟩ rfl]
  exact turned (rowAt t r) _ ⟨k.val, by omega⟩ (by show k.val < 576; omega) (by show 10 * 256 + k.val = 2560 + k.val; omega)

theorem in1 (r : Fin 512) (k : Fin 256) : (X0_1 m c t : FVec Ideal S512x256 .f32) (ix2 r k) = (rOf m c (rowAt t r)).ckv k := by
  have e (K : Fin 3200) (hK : K.val = 11 * 256 + k.val) : (X0_1 m c t : FVec Ideal S512x256 .f32) (ix2 r k) = V m c main_v29 (ix2 (rowAt t r) K) := by
    unfold X0_1 Pipeline.Window.fill
    rw [dif_pos (moved0_1 t _)]
    unfold iblk
    rw [View.read_apply]
    exact congrArg (V m c main_v29) (ext2 (moved (places t).1.2.1.1) ((moved (places t).1.2.1.2).trans hK.symm))
  rw [e ⟨11 * 256 + k.val, by omega⟩ rfl]
  exact turned (rowAt t r) _ ⟨256 + k.val, by omega⟩ (by show 256 + k.val < 576; omega) (by show 11 * 256 + k.val = 2560 + (256 + k.val); omega)

theorem in2 (r : Fin 512) (k : Fin 128) : (iblk m c 2 t : FVec Ideal S512x128 .f32) (ix2 r k) = wide (rOf m c (rowAt t r)).kr k := by
  have e (K : Fin 3200) (hK : K.val = 24 * 128 + k.val) : (iblk m c 2 t : FVec Ideal S512x128 .f32) (ix2 r k) = V m c main_v29 (ix2 (rowAt t r) K) := by
    unfold iblk
    rw [View.read_apply]
    exact congrArg (V m c main_v29) (ext2 (moved (places t).1.2.2.1) ((moved (places t).1.2.2.2).trans hK.symm))
  rw [e ⟨24 * 128 + k.val, by omega⟩ rfl]
  by_cases e : k.val < 64
  · rw [wide_lt _ _ e]
    exact turned (rowAt t r) _ ⟨512 + k.val, by omega⟩ (by show 512 + k.val < 576; omega) (by show 24 * 128 + k.val = 2560 + (512 + k.val); omega)
  · rw [wide_ge _ _ e]
    exact past (rowAt t r) _ (by show 3136 ≤ 24 * 128 + k.val; omega)

/-- A grid point finds its rows and the weights. -/
theorem found : Pay.Holds (Block.insAt m c t) (wOf m c) fun r => rOf m c (rowAt t r) where
  cq := in0 t
  ckv := in1 t
  kr := in2 t
  c r j := by
    show iblk m c 3 t (ix2 r j) = _
    unfold iblk; rw [View.read_apply]
    exact (congrArg (V m c _) (ext2 (moved (places t).2.1.1) (fixed (places t).2.1.2))).trans (table_c (rowAt t r) j)
  a r j := by
    show iblk m c 4 t (ix2 r j) = _
    unfold iblk; rw [View.read_apply]
    exact (congrArg (V m c _) (ext2 (moved (places t).2.2.1.1) (fixed (places t).2.2.1.2))).trans (table_a (rowAt t r) j)
  b r j := by
    show iblk m c 5 t (ix2 r j) = _
    unfold iblk; rw [View.read_apply]
    exact (congrArg (V m c _) (ext2 (moved (places t).2.2.2.1) (fixed (places t).2.2.2.2))).trans (table_b (rowAt t r) j)
  ga j := by
    show iblk m c 6 t (ix2 0 j) = _
    unfold iblk; rw [View.read_apply]
    exact (congrArg (V m c _) (ext2 (fixed (fixedPlaces t).1.1.1) (fixed (fixedPlaces t).1.1.2))).trans (congrFun kept2 _)
  gb j := by
    show iblk m c 7 t (ix2 0 j) = _
    unfold iblk; rw [View.read_apply]
    exact (congrArg (V m c _) (ext2 (fixed (fixedPlaces t).1.2.1.1) (fixed (fixedPlaces t).1.2.1.2))).trans (congrFun kept3 _)
  wq l d := by
    show iblk m c 8 t (ix2 l d) = _
    unfold iblk; rw [View.read_apply]
    exact (congrArg (V m c _) (ext2 (fixed (fixedPlaces t).1.2.2.1) (fixed (fixedPlaces t).1.2.2.2))).trans (paddedWQ l d)
  wk l d := by
    show iblk m c 9 t (ix2 l d) = _
    unfold iblk; rw [View.read_apply]
    exact (congrArg (V m c _) (ext2 (fixed (fixedPlaces t).2.1.1) (fixed (fixedPlaces t).2.1.2))).trans (congrFun kept5 _)
  gn j := by
    show iblk m c 10 t (ix2 0 j) = _
    unfold iblk; rw [View.read_apply]
    exact (congrArg (V m c _) (ext2 (fixed (fixedPlaces t).2.2.1.1) (fixed (fixedPlaces t).2.2.1.2))).trans (paddedGN j)
  gm j := by
    show iblk m c 11 t (ix2 0 j) = _
    unfold iblk; rw [View.read_apply]
    exact (congrArg (V m c _) (ext2 (fixed (fixedPlaces t).2.2.2.1) (fixed (fixedPlaces t).2.2.2.2))).trans (paddedGM j)

/-- The arrays of queries, of keys and of values. -/
abbrev arr12 (m : (ℓ : Loc nD τ sig) → Buf (Elt Ideal) ℓ) (c : Dev nD) : FVec Ideal S4x4096x256 .bf16 := (dats m 0 c).arrAt 12 cfg0.N
abbrev arr13 (m : (ℓ : Loc nD τ sig) → Buf (Elt Ideal) ℓ) (c : Dev nD) : FVec Ideal S4x4096x256 .bf16 := (dats m 0 c).arrAt 13 cfg0.N
abbrev arr14 (m : (ℓ : Loc nD τ sig) → Buf (Elt Ideal) ℓ) (c : Dev nD) : FVec Ideal S4x4096x128 .bf16 := (dats m 0 c).arrAt 14 cfg0.N

variable (h : Fin 4) (r : Fin 512) (j : Fin 256) (l : Fin 128)

theorem cell12 : arr12 m c (ix3 h (rowAt t r) j) = wide (Q (wOf m c) (rOf m c (rowAt t r)) h) j := by
  obtain ⟨⟨f0, f1, f2, ff⟩, -⟩ := outPlaces t
  refine (congrArg (arr12 m c) (ext3 (fixed f0) (moved f1) (fixed f2)).symm).trans ((View.read_apply ..).symm.trans ((congrFun ((blocks12 m c t ff).trans (flushed12 m c t)) (ix3 h r j)).trans ?_))
  show (outsAt0 m c t).1 (ix3 h r j) = _
  rw [Block.left12]
  exact Pay.stackW_at (h := h) (r := r) (j := j) _ _ (fun h r => Q (wOf m c) (rOf m c (rowAt t r)) h) (fun h r l => Pay.qlo_at (found t) h r l) (fun h r l => Pay.qhi_at (found t) h r l)

theorem cell13 : arr13 m c (ix3 h (rowAt t r) j) = wide (K (wOf m c) (rOf m c (rowAt t r)) h) j := by
  obtain ⟨-, ⟨f0, f1, f2, ff⟩, -⟩ := outPlaces t
  refine (congrArg (arr13 m c) (ext3 (fixed f0) (moved f1) (fixed f2)).symm).trans ((View.read_apply ..).symm.trans ((congrFun ((blocks13 m c t ff).trans (flushed13 m c t)) (ix3 h r j)).trans ?_))
  show (outsAt0 m c t).2.1 (ix3 h r j) = _
  rw [Block.left13]
  exact Pay.stackW_at (h := h) (r := r) (j := j) _ _ (fun h r => K (wOf m c) (rOf m c (rowAt t r)) h) (fun h r l => Pay.klo_at (found t) h r l) (fun h r l => Pay.khi_at (found t) h r l)

theorem cell14 : arr14 m c (ix3 h (rowAt t r) l) = kv (wOf m c) (rOf m c (rowAt t r)) ⟨h.val * 256 + (128 + l.val), by omega⟩ := by
  obtain ⟨-, -, f0, f1, f2, ff⟩ := outPlaces t
  refine (congrArg (arr14 m c) (ext3 (fixed f0) (moved f1) (fixed f2)).symm).trans ((View.read_apply ..).symm.trans ((congrFun ((blocks14 m c t ff).trans (flushed14 m c t)) (ix3 h r l)).trans ?_))
  show (outsAt0 m c t).2.2 (ix3 h r l) = _
  rw [Block.left14]
  exact Pay.stackS_at (found t) h r l

/-- The queries are the reference's. -/
theorem value12 : Cert.MlaRefIdeal.Read.val_main_v118 (F := Ideal) (argZ m c) (argP m c) (argGA m c) (argWQ m c) (argGN m c) = arr12 m c := by
  funext i
  idx_vars i
  have e := cell12 (m := m) (c := c) (holds i1) i0 ⟨i1.val % 512, by omega⟩ i2
  rw [rowAt_holds] at e
  rw [e]
  exact Cert.MlaRefIdeal.At.v118 _ _ _ (argGB m c) _ (argWK m c) _ (argGM m c) i1 i0 i2

/-- The keys are the reference's. -/
theorem value13 : Cert.MlaRefIdeal.Read.val_main_v121 (F := Ideal) (argZ m c) (argP m c) (argGB m c) (argWK m c) (argGM m c) = arr13 m c := by
  funext i
  idx_vars i
  have e := cell13 (m := m) (c := c) (holds i1) i0 ⟨i1.val % 512, by omega⟩ i2
  rw [rowAt_holds] at e
  rw [e]
  exact Cert.MlaRefIdeal.At.v121 _ _ (argGA m c) _ (argWQ m c) _ (argGN m c) _ i1 i0 i2

/-- The values are the reference's. -/
theorem value14 : Cert.MlaRefIdeal.Read.val_main_v123 (F := Ideal) (argZ m c) (argGB m c) (argWK m c) = arr14 m c := by
  funext i
  idx_vars i
  have e := cell14 (m := m) (c := c) (holds i1) i0 ⟨i1.val % 512, by omega⟩ i2
  rw [rowAt_holds] at e
  rw [e]
  exact Cert.MlaRefIdeal.At.v123 _ (argP m c) (argGA m c) _ (argWQ m c) _ (argGN m c) (argGM m c) i1 i0 i2

end Cert.FwdMla.Final

end
-- ==== Proof.FwdMla.Claims.lean ====
/- The claims about the projections' forward call. -/
module

public import proofs.«01_k».proof.Defs
public import proofs.«01_k».proof.Proof.FwdMla.Value
public import proofs.«01_k».proof.Proof.Gen.MlaRefIdeal.Run
public import Idealize.ShloMosaic.Lib.Quiescent

@[expose] public section

set_option maxRecDepth 16384

noncomputable section

open Idealize.ShloMosaic Idealize.SL.Sem

namespace Cert.FwdMlaClaims

open Cert.FwdMla.Final

/-- The named constant is the written-out value of the literal it replaces. -/
theorem named : Cert.preserves_FwdMla_FwdMlaIdeal :=
  IdealRules.named_const.statement Cert.FwdMlaIdeal.κ "over_qk_head" .f32 0x3BAAAAAB#32 _ rfl

/-- The reference runs to the end, keeps its arguments and has no counters. -/
theorem frame_ref : Cert.quiescent_MlaRefIdeal := fun m ρ _ =>
  (θ_run Cert.MlaRefIdeal.defs _ _).mono
    (fun r h => ⟨fun c => (h c).2.2.2, sem_eq_zero_of_no_sems (by decide) r.2⟩)
    (Cert.MlaRefIdeal.Value.run (F := Ideal) m ρ)

/-- The kernel's run gives the reference's results. -/
theorem value : Cert.algebraic_FwdMlaIdeal_MlaRefIdeal := by
  intro m ρ m' ρ' _ hargs
  refine ⟨_, _, _, Cert.FwdMlaIdeal.Value.run_blocks m ρ,
    (θ_run Cert.MlaRefIdeal.defs _ _).mono (fun r h c => ?_) (Cert.MlaRefIdeal.Value.run (F := Ideal) m' ρ')⟩
  obtain ⟨a0, a1, a2, a3, a4, a5, a6, a7⟩ := hargs c
  obtain ⟨h0, h1, h2, hkept⟩ := h c
  refine ⟨h0.trans ?_, h1.trans ?_, h2.trans ?_, hkept⟩
  · refine (Cert.MlaRefIdeal.Read.val_main_v118_eq _ _).trans ?_
    rw [a0, a1, a2, a4, a6]
    exact value12
  · refine (Cert.MlaRefIdeal.Read.val_main_v121_eq _ _).trans ?_
    rw [a0, a1, a3, a5, a7]
    exact value13
  · refine (Cert.MlaRefIdeal.Read.val_main_v123_eq _ _ _).trans ?_
    rw [a0, a3, a5]
    exact value14

end Cert.FwdMlaClaims

end
-- ==== Proof.lean ====
/- The claims of Proof/…/Claims.lean, put together: one group of five for each call. -/
module

public import proofs.«01_k».proof.Proof.Gen.FfnHiddenIdeal.Value
public import proofs.«01_k».proof.Proof.Gen.FfnHiddenVjpIdeal.Run
public import proofs.«01_k».proof.Proof.Gen.FfnHiddenVjpIdeal.Read
public import proofs.«01_k».proof.Proof.Gen.BwdAttnIdeal.Value
public import proofs.«01_k».proof.Proof.Gen.AttnVjpIdeal.Run
public import proofs.«01_k».proof.Proof.Gen.AttnVjpIdeal.Read
public import proofs.«01_k».proof.Proof.Gen.FfnInIdeal.Value
public import proofs.«01_k».proof.Proof.Gen.FfnInVjpIdeal.Run
public import proofs.«01_k».proof.Proof.Gen.FfnInVjpIdeal.Read
public import proofs.«01_k».proof.Proof.Gen.PleLossIdeal.Value
public import proofs.«01_k».proof.Proof.Gen.PleLossVjpIdeal.Run
public import proofs.«01_k».proof.Proof.Gen.PleLossVjpIdeal.Read
public import proofs.«01_k».proof.Proof.Gen.BwdMixIdeal.Value
public import proofs.«01_k».proof.Proof.Gen.MixVjpIdeal.Run
public import proofs.«01_k».proof.Proof.Gen.MixVjpIdeal.Read
public import proofs.«01_k».proof.Proof.Gen.BwdInIdeal.Value
public import proofs.«01_k».proof.Proof.Gen.InVjpIdeal.Run
public import proofs.«01_k».proof.Proof.Gen.InVjpIdeal.Read
public import proofs.«01_k».proof.Proof.Gen.FwdAttnIdeal.Value
public import proofs.«01_k».proof.Proof.Gen.AttnRefIdeal.Run
public import proofs.«01_k».proof.Proof.Gen.AttnRefIdeal.Read
public import proofs.«01_k».proof.Proof.Gen.MlaVjpIdeal.Run
public import proofs.«01_k».proof.Proof.Gen.MlaVjpIdeal.Read
public import proofs.«01_k».proof.Proof.Gen.FwdInIdeal.Value
public import proofs.«01_k».proof.Proof.Gen.InRefIdeal.Run
public import proofs.«01_k».proof.Proof.Gen.InRefIdeal.Read
public import proofs.«01_k».proof.Proof.Gen.FwdMixIdeal.Value
public import proofs.«01_k».proof.Proof.Gen.MixRefIdeal.Run
public import proofs.«01_k».proof.Proof.Gen.MixRefIdeal.Read
public import proofs.«01_k».proof.Proof.Gen.FwdMlaIdeal.Value
public import proofs.«01_k».proof.Proof.Gen.MlaRefIdeal.Run
public import proofs.«01_k».proof.Proof.Gen.MlaRefIdeal.Read
public import proofs.«01_k».proof.Defs
public import proofs.«01_k».proof.Proof.FfnHidden.Claims
public import proofs.«01_k».proof.Proof.BwdAttn.Claims
public import proofs.«01_k».proof.Proof.FfnIn.Claims
public import proofs.«01_k».proof.Proof.PleLoss.Claims
public import proofs.«01_k».proof.Proof.BwdMix.Claims
public import proofs.«01_k».proof.Proof.BwdIn.Claims
public import proofs.«01_k».proof.Proof.FwdAttn.Claims
public import proofs.«01_k».proof.Proof.BwdMla.Claims
public import proofs.«01_k».proof.Proof.BwdGla.Words
public import proofs.«01_k».proof.Proof.FwdIn.Claims
public import proofs.«01_k».proof.Proof.FwdMix.Claims
public import proofs.«01_k».proof.Proof.FwdMla.Claims
public import proofs.«01_k».proof.Proof.Gen.FfnHidden.Frame
public import proofs.«01_k».proof.Proof.Gen.Pre_finite_ffn_hidden
public import proofs.«01_k».proof.Proof.Gen.BwdAttn.Frame
public import proofs.«01_k».proof.Proof.Gen.Pre_finite_bwd_attn
public import proofs.«01_k».proof.Proof.Gen.FfnIn.Frame
public import proofs.«01_k».proof.Proof.Gen.Pre_finite_ffn_in
public import proofs.«01_k».proof.Proof.Gen.PleLoss.Frame
public import proofs.«01_k».proof.Proof.Gen.Pre_finite_ple_loss
public import proofs.«01_k».proof.Proof.Gen.BwdMix.Frame
public import proofs.«01_k».proof.Proof.Gen.Pre_finite_bwd_mix
public import proofs.«01_k».proof.Proof.Gen.BwdIn.Frame
public import proofs.«01_k».proof.Proof.Gen.Pre_finite_bwd_in
public import proofs.«01_k».proof.Proof.Gen.FwdAttn.Frame
public import proofs.«01_k».proof.Proof.Gen.Pre_finite_fwd_attn
public import proofs.«01_k».proof.Proof.Gen.Pre_finite_bwd_mla
public import proofs.«01_k».proof.Proof.Gen.FwdIn.Frame
public import proofs.«01_k».proof.Proof.Gen.FwdMix.Frame
public import proofs.«01_k».proof.Proof.Gen.FwdMla.Frame
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.FfnHidden.Gen.facts,
    Cert.FfnHiddenIdeal.Gen.facts,
    Cert.FfnHiddenVjpIdeal.Gen.facts,
    Cert.BwdAttn.Gen.facts,
    Cert.BwdAttnIdeal.Gen.facts,
    Cert.AttnVjpIdeal.Gen.facts,
    Cert.FfnIn.Gen.facts,
    Cert.FfnInIdeal.Gen.facts,
    Cert.FfnInVjpIdeal.Gen.facts,
    Cert.PleLoss.Gen.facts,
    Cert.PleLossIdeal.Gen.facts,
    Cert.PleLossVjpIdeal.Gen.facts,
    Cert.BwdMix.Gen.facts,
    Cert.BwdMixIdeal.Gen.facts,
    Cert.MixVjpIdeal.Gen.facts,
    Cert.BwdIn.Gen.facts,
    Cert.BwdInIdeal.Gen.facts,
    Cert.InVjpIdeal.Gen.facts,
    Cert.FwdAttn.Gen.facts,
    Cert.FwdAttnIdeal.Gen.facts,
    Cert.AttnRefIdeal.Gen.facts,
    Cert.BwdMla.Gen.facts,
    Cert.BwdMlaIdeal.Gen.facts,
    Cert.MlaVjpIdeal.Gen.facts,
    Cert.BwdGla.Gen.facts,
    Cert.BwdGlaIdeal.Gen.facts,
    Cert.FwdIn.Gen.facts,
    Cert.FwdInIdeal.Gen.facts,
    Cert.InRefIdeal.Gen.facts,
    Cert.FwdMix.Gen.facts,
    Cert.FwdMixIdeal.Gen.facts,
    Cert.MixRefIdeal.Gen.facts,
    Cert.FwdMla.Gen.facts,
    Cert.FwdMlaIdeal.Gen.facts,
    Cert.MlaRefIdeal.Gen.facts,
    Cert.Pre_finite_ffn_hidden.Gen.facts,
    Cert.Pre_finite_bwd_attn.Gen.facts,
    Cert.Pre_finite_ffn_in.Gen.facts,
    Cert.Pre_finite_ple_loss.Gen.facts,
    Cert.Pre_finite_bwd_mix.Gen.facts,
    Cert.Pre_finite_bwd_in.Gen.facts,
    Cert.Pre_finite_fwd_attn.Gen.facts,
    Cert.Pre_finite_bwd_mla.Gen.facts,
    fun m ρ _ => Cert.FfnHidden.Gen.frame m ρ,
    fun m ρ _ => Cert.FfnHiddenIdeal.Gen.frame m ρ,
    fun m ρ _ => Cert.FfnHiddenIdeal.Gen.frame m ρ,
    Cert.FfnHiddenClaims.frame_ref,
    fun m ρ _ => Cert.FfnHiddenClaims.frame_ref m ρ trivial,
    fun m ρ _ => Cert.BwdAttn.Gen.frame m ρ,
    fun m ρ _ => Cert.BwdAttnIdeal.Gen.frame m ρ,
    fun m ρ _ => Cert.BwdAttnIdeal.Gen.frame m ρ,
    Cert.BwdAttnClaims.frame_ref,
    fun m ρ _ => Cert.BwdAttnClaims.frame_ref m ρ trivial,
    fun m ρ _ => Cert.FfnIn.Gen.frame m ρ,
    fun m ρ _ => Cert.FfnInIdeal.Gen.frame m ρ,
    fun m ρ _ => Cert.FfnInIdeal.Gen.frame m ρ,
    Cert.FfnInClaims.frame_ref,
    fun m ρ _ => Cert.FfnInClaims.frame_ref m ρ trivial,
    fun m ρ _ => Cert.PleLoss.Gen.frame m ρ,
    fun m ρ _ => Cert.PleLossIdeal.Gen.frame m ρ,
    fun m ρ _ => Cert.PleLossIdeal.Gen.frame m ρ,
    Cert.PleLossClaims.frame_ref,
    fun m ρ _ => Cert.PleLossClaims.frame_ref m ρ trivial,
    fun m ρ _ => Cert.BwdMix.Gen.frame m ρ,
    fun m ρ _ => Cert.BwdMixIdeal.Gen.frame m ρ,
    fun m ρ _ => Cert.BwdMixIdeal.Gen.frame m ρ,
    Cert.BwdMixClaims.frame_ref,
    fun m ρ _ => Cert.BwdMixClaims.frame_ref m ρ trivial,
    fun m ρ _ => Cert.BwdIn.Gen.frame m ρ,
    fun m ρ _ => Cert.BwdInIdeal.Gen.frame m ρ,
    fun m ρ _ => Cert.BwdInIdeal.Gen.frame m ρ,
    Cert.BwdInClaims.frame_ref,
    fun m ρ _ => Cert.BwdInClaims.frame_ref m ρ trivial,
    fun m ρ _ => Cert.FwdAttn.Gen.frame m ρ,
    fun m ρ _ => Cert.FwdAttnIdeal.Gen.frame m ρ,
    fun m ρ _ => Cert.FwdAttnIdeal.Gen.frame m ρ,
    Cert.FwdAttnClaims.frame_ref,
    fun m ρ _ => Cert.FwdAttnClaims.frame_ref m ρ trivial,
    Cert.BwdMla.Hand.frame_words,
    fun m ρ _ => Cert.BwdMla.Hand.frame m ρ,
    fun m ρ _ => Cert.BwdMla.Hand.frame m ρ,
    Cert.BwdMlaClaims.frame_ref,
    fun m ρ _ => Cert.BwdMlaClaims.frame_ref m ρ trivial,
    Cert.BwdGla.Hand.frame_words,
    fun m ρ _ => Cert.BwdGla.Hand.frame m ρ,
    fun m ρ _ => Cert.FwdIn.Gen.frame m ρ,
    fun m ρ _ => Cert.FwdInIdeal.Gen.frame m ρ,
    Cert.FwdInClaims.frame_ref,
    fun m ρ _ => Cert.FwdMix.Gen.frame m ρ,
    fun m ρ _ => Cert.FwdMixIdeal.Gen.frame m ρ,
    Cert.FwdMixClaims.frame_ref,
    fun m ρ _ => Cert.FwdMla.Gen.frame m ρ,
    fun m ρ _ => Cert.FwdMlaIdeal.Gen.frame m ρ,
    Cert.FwdMlaClaims.frame_ref,
    trivial,
    Cert.FfnHiddenClaims.value,
    Cert.BwdAttnClaims.named,
    Cert.BwdAttnClaims.value,
    trivial,
    Cert.FfnInClaims.value,
    trivial,
    Cert.PleLossClaims.value,
    trivial,
    Cert.BwdMixClaims.value,
    trivial,
    Cert.BwdInClaims.value,
    Cert.FwdAttnClaims.named,
    Cert.FwdAttnClaims.value,
    Cert.BwdMlaClaims.named,
    Cert.BwdMlaClaims.value,
    trivial,
    trivial,
    Cert.FwdInClaims.value,
    trivial,
    Cert.FwdMixClaims.value,
    Cert.FwdMlaClaims.named,
    Cert.FwdMlaClaims.value⟩

end Cert.Proof

end
